-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Dup (m : (ℓ : Loc Cert.Dup.nD Cert.Dup.τ Cert.Dup.sig) → Buf (Elt Bits) ℓ) : Prop :=
  True

def Pre_DupIdeal (m : (ℓ : Loc Cert.DupIdeal.nD Cert.DupIdeal.τ Cert.DupIdeal.sig) → Buf (Elt Ideal) ℓ) : Prop :=
  True

def Pre_DupRefIdeal (m : (ℓ : Loc Cert.DupRefIdeal.nD Cert.DupRefIdeal.τ Cert.DupRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_Dhn (m : (ℓ : Loc Cert.Dhn.nD Cert.Dhn.τ Cert.Dhn.sig) → Buf (Elt Bits) ℓ) : Prop :=
  True

def Pre_DhnIdeal (m : (ℓ : Loc Cert.DhnIdeal.nD Cert.DhnIdeal.τ Cert.DhnIdeal.sig) → Buf (Elt Ideal) ℓ) : Prop :=
  True

def Pre_DhnRefIdeal (m : (ℓ : Loc Cert.DhnRefIdeal.nD Cert.DhnRefIdeal.τ Cert.DhnRefIdeal.sig) → Buf (Elt Ideal) ℓ) : Prop :=
  True

def Pre_Du (m : (ℓ : Loc Cert.Du.nD Cert.Du.τ Cert.Du.sig) → Buf (Elt Bits) ℓ) : Prop :=
  True

def Pre_DuIdeal (m : (ℓ : Loc Cert.DuIdeal.nD Cert.DuIdeal.τ Cert.DuIdeal.sig) → Buf (Elt Ideal) ℓ) : Prop :=
  True

def Pre_DuRefIdeal (m : (ℓ : Loc Cert.DuRefIdeal.nD Cert.DuRefIdeal.τ Cert.DuRefIdeal.sig) → Buf (Elt Ideal) ℓ) : Prop :=
  True

def Pre_DwOb (m : (ℓ : Loc Cert.DwOb.nD Cert.DwOb.τ Cert.DwOb.sig) → Buf (Elt Bits) ℓ) : Prop :=
  True

def Pre_DwObIdeal (m : (ℓ : Loc Cert.DwObIdeal.nD Cert.DwObIdeal.τ Cert.DwObIdeal.sig) → Buf (Elt Ideal) ℓ) : Prop :=
  True

def Pre_DwObRefIdeal (m : (ℓ : Loc Cert.DwObRefIdeal.nD Cert.DwObRefIdeal.τ Cert.DwObRefIdeal.sig) → Buf (Elt Ideal) ℓ) : Prop :=
  True

def Pre_DwSmall (m : (ℓ : Loc Cert.DwSmall.nD Cert.DwSmall.τ Cert.DwSmall.sig) → Buf (Elt Bits) ℓ) : Prop :=
  True

def Pre_DwSmallIdeal (m : (ℓ : Loc Cert.DwSmallIdeal.nD Cert.DwSmallIdeal.τ Cert.DwSmallIdeal.sig) → Buf (Elt Ideal) ℓ) : Prop :=
  True

def Pre_DwSmallRefIdeal (m : (ℓ : Loc Cert.DwSmallRefIdeal.nD Cert.DwSmallRefIdeal.τ Cert.DwSmallRefIdeal.sig) → Buf (Elt Ideal) ℓ) : Prop :=
  True

def Pre_ProjGdn (m : (ℓ : Loc Cert.ProjGdn.nD Cert.ProjGdn.τ Cert.ProjGdn.sig) → Buf (Elt Bits) ℓ) : Prop :=
  True

def Pre_ProjGdnIdeal (m : (ℓ : Loc Cert.ProjGdnIdeal.nD Cert.ProjGdnIdeal.τ Cert.ProjGdnIdeal.sig) → Buf (Elt Ideal) ℓ) : Prop :=
  True

def Pre_ProjGdnRefIdeal (m : (ℓ : Loc Cert.ProjGdnRefIdeal.nD Cert.ProjGdnRefIdeal.τ Cert.ProjGdnRefIdeal.sig) → Buf (Elt Ideal) ℓ) : Prop :=
  True

def Pre_ProjFox (m : (ℓ : Loc Cert.ProjFox.nD Cert.ProjFox.τ Cert.ProjFox.sig) → Buf (Elt Bits) ℓ) : Prop :=
  True

def Pre_ProjFoxIdeal (m : (ℓ : Loc Cert.ProjFoxIdeal.nD Cert.ProjFoxIdeal.τ Cert.ProjFoxIdeal.sig) → Buf (Elt Ideal) ℓ) : Prop :=
  True

def Pre_ProjFoxRefIdeal (m : (ℓ : Loc Cert.ProjFoxRefIdeal.nD Cert.ProjFoxRefIdeal.τ Cert.ProjFoxRefIdeal.sig) → Buf (Elt Ideal) ℓ) : Prop :=
  True

def Pre_ProjGate (m : (ℓ : Loc Cert.ProjGate.nD Cert.ProjGate.τ Cert.ProjGate.sig) → Buf (Elt Bits) ℓ) : Prop :=
  True

def Pre_ProjGateIdeal (m : (ℓ : Loc Cert.ProjGateIdeal.nD Cert.ProjGateIdeal.τ Cert.ProjGateIdeal.sig) → Buf (Elt Ideal) ℓ) : Prop :=
  True

def Pre_ProjGateRefIdeal (m : (ℓ : Loc Cert.ProjGateRefIdeal.nD Cert.ProjGateRefIdeal.τ Cert.ProjGateRefIdeal.sig) → Buf (Elt Ideal) ℓ) : Prop :=
  True

def Pre_ProjSmall (m : (ℓ : Loc Cert.ProjSmall.nD Cert.ProjSmall.τ Cert.ProjSmall.sig) → Buf (Elt Bits) ℓ) : Prop :=
  True

def Pre_ProjSmallIdeal (m : (ℓ : Loc Cert.ProjSmallIdeal.nD Cert.ProjSmallIdeal.τ Cert.ProjSmallIdeal.sig) → Buf (Elt Ideal) ℓ) : Prop :=
  True

def Pre_ProjSmallRefIdeal (m : (ℓ : Loc Cert.ProjSmallRefIdeal.nD Cert.ProjSmallRefIdeal.τ Cert.ProjSmallRefIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_ProjOut (m : (ℓ : Loc Cert.ProjOut.nD Cert.ProjOut.τ Cert.ProjOut.sig) → Buf (Elt Bits) ℓ) : Prop :=
  True

def Pre_ProjOutIdeal (m : (ℓ : Loc Cert.ProjOutIdeal.nD Cert.ProjOutIdeal.τ Cert.ProjOutIdeal.sig) → Buf (Elt Ideal) ℓ) : Prop :=
  True

def Pre_ProjOutRefIdeal (m : (ℓ : Loc Cert.ProjOutRefIdeal.nD Cert.ProjOutRefIdeal.τ Cert.ProjOutRefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Dmerge (m : (ℓ : Loc Cert.Dmerge.nD Cert.Dmerge.τ Cert.Dmerge.sig) → Buf (Elt Bits) ℓ) : Prop :=
  True

def Pre_DmergeIdeal (m : (ℓ : Loc Cert.DmergeIdeal.nD Cert.DmergeIdeal.τ Cert.DmergeIdeal.sig) → Buf (Elt Ideal) ℓ) : Prop :=
  True

def Pre_DmergeRefIdeal (m : (ℓ : Loc Cert.DmergeRefIdeal.nD Cert.DmergeRefIdeal.τ Cert.DmergeRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_ToBf16 (m : (ℓ : Loc Cert.ToBf16.nD Cert.ToBf16.τ Cert.ToBf16.sig) → Buf (Elt Bits) ℓ) : Prop :=
  True

def Pre_ToBf16Ideal (m : (ℓ : Loc Cert.ToBf16Ideal.nD Cert.ToBf16Ideal.τ Cert.ToBf16Ideal.sig) → Buf (Elt Ideal) ℓ) : Prop :=
  True

def Pre_ToBf16RefIdeal (m : (ℓ : Loc Cert.ToBf16RefIdeal.nD Cert.ToBf16RefIdeal.τ Cert.ToBf16RefIdeal.sig) → Buf (Elt Ideal) ℓ) : Prop :=
  True

def Pre_Pieces (m : (ℓ : Loc Cert.Pieces.nD Cert.Pieces.τ Cert.Pieces.sig) → Buf (Elt Bits) ℓ) : Prop :=
  True

def Pre_PiecesIdeal (m : (ℓ : Loc Cert.PiecesIdeal.nD Cert.PiecesIdeal.τ Cert.PiecesIdeal.sig) → Buf (Elt Ideal) ℓ) : Prop :=
  True

def Pre_PiecesRefIdeal (m : (ℓ : Loc Cert.PiecesRefIdeal.nD Cert.PiecesRefIdeal.τ Cert.PiecesRefIdeal.sig) → Buf (Elt Ideal) ℓ) : Prop :=
  True

def Pre_Shards (m : (ℓ : Loc Cert.Shards.nD Cert.Shards.τ Cert.Shards.sig) → Buf (Elt Bits) ℓ) : Prop :=
  True

def Pre_ShardsIdeal (m : (ℓ : Loc Cert.ShardsIdeal.nD Cert.ShardsIdeal.τ Cert.ShardsIdeal.sig) → Buf (Elt Ideal) ℓ) : Prop :=
  True

def Pre_ShardsRefIdeal (m : (ℓ : Loc Cert.ShardsRefIdeal.nD Cert.ShardsRefIdeal.τ Cert.ShardsRefIdeal.sig) → Buf (Elt Ideal) ℓ) : Prop :=
  True

def Pre_AdamIn [hPre_slot_in : Cert.Pre_slot_in.Facts] (m : (ℓ : Loc Cert.AdamIn.nD Cert.AdamIn.τ Cert.AdamIn.sig) → Buf (Elt Bits) ℓ) : Prop :=
  ∀ c : Dev Cert.AdamIn.nD,
    (Cert.Pre_slot_in.fn (F := Bits) (m ((c.tc : Thread Cert.AdamIn.nD Cert.AdamIn.τ).loc Cert.AdamIn.main_arg0)) (m ((c.tc : Thread Cert.AdamIn.nD Cert.AdamIn.τ).loc Cert.AdamIn.main_arg1)) (m ((c.tc : Thread Cert.AdamIn.nD Cert.AdamIn.τ).loc Cert.AdamIn.main_arg2)) (m ((c.tc : Thread Cert.AdamIn.nD Cert.AdamIn.τ).loc Cert.AdamIn.main_arg3)) (m ((c.tc : Thread Cert.AdamIn.nD Cert.AdamIn.τ).loc Cert.AdamIn.main_arg4)) (m ((c.tc : Thread Cert.AdamIn.nD Cert.AdamIn.τ).loc Cert.AdamIn.main_arg5))) = (fun _ => 1#1)

def Pre_AdamInIdeal [hPre_slot_in : Cert.Pre_slot_in.Facts] (m : (ℓ : Loc Cert.AdamInIdeal.nD Cert.AdamInIdeal.τ Cert.AdamInIdeal.sig) → Buf (Elt Ideal) ℓ) : Prop :=
  ∀ c : Dev Cert.AdamInIdeal.nD,
    (Cert.Pre_slot_in.fn (F := Ideal) (m ((c.tc : Thread Cert.AdamInIdeal.nD Cert.AdamInIdeal.τ).loc Cert.AdamInIdeal.main_arg0)) (m ((c.tc : Thread Cert.AdamInIdeal.nD Cert.AdamInIdeal.τ).loc Cert.AdamInIdeal.main_arg1)) (m ((c.tc : Thread Cert.AdamInIdeal.nD Cert.AdamInIdeal.τ).loc Cert.AdamInIdeal.main_arg2)) (m ((c.tc : Thread Cert.AdamInIdeal.nD Cert.AdamInIdeal.τ).loc Cert.AdamInIdeal.main_arg3)) (m ((c.tc : Thread Cert.AdamInIdeal.nD Cert.AdamInIdeal.τ).loc Cert.AdamInIdeal.main_arg4)) (m ((c.tc : Thread Cert.AdamInIdeal.nD Cert.AdamInIdeal.τ).loc Cert.AdamInIdeal.main_arg5))) = (fun _ => 1#1)

def Pre_AdamInRefIdeal (m : (ℓ : Loc Cert.AdamInRefIdeal.nD Cert.AdamInRefIdeal.τ Cert.AdamInRefIdeal.sig) → Buf (Elt Ideal) ℓ) : Prop :=
  True

def Pre_AdamInRefIdeal_slot_in [hPre_slot_in : Cert.Pre_slot_in.Facts] (m : (ℓ : Loc Cert.AdamInRefIdeal.nD Cert.AdamInRefIdeal.τ Cert.AdamInRefIdeal.sig) → Buf (Elt Ideal) ℓ) : Prop :=
  ∀ c : Dev Cert.AdamInRefIdeal.nD,
    (Cert.Pre_slot_in.fn (F := Ideal) (m ((c.tc : Thread Cert.AdamInRefIdeal.nD Cert.AdamInRefIdeal.τ).loc Cert.AdamInRefIdeal.main_arg0)) (m ((c.tc : Thread Cert.AdamInRefIdeal.nD Cert.AdamInRefIdeal.τ).loc Cert.AdamInRefIdeal.main_arg1)) (m ((c.tc : Thread Cert.AdamInRefIdeal.nD Cert.AdamInRefIdeal.τ).loc Cert.AdamInRefIdeal.main_arg2)) (m ((c.tc : Thread Cert.AdamInRefIdeal.nD Cert.AdamInRefIdeal.τ).loc Cert.AdamInRefIdeal.main_arg3)) (m ((c.tc : Thread Cert.AdamInRefIdeal.nD Cert.AdamInRefIdeal.τ).loc Cert.AdamInRefIdeal.main_arg4)) (m ((c.tc : Thread Cert.AdamInRefIdeal.nD Cert.AdamInRefIdeal.τ).loc Cert.AdamInRefIdeal.main_arg5))) = (fun _ => 1#1)

def Pre_AdamProj [hPre_slot_proj : Cert.Pre_slot_proj.Facts] (m : (ℓ : Loc Cert.AdamProj.nD Cert.AdamProj.τ Cert.AdamProj.sig) → Buf (Elt Bits) ℓ) : Prop :=
  ∀ c : Dev Cert.AdamProj.nD,
    (Cert.Pre_slot_proj.fn (F := Bits) (m ((c.tc : Thread Cert.AdamProj.nD Cert.AdamProj.τ).loc Cert.AdamProj.main_arg0)) (m ((c.tc : Thread Cert.AdamProj.nD Cert.AdamProj.τ).loc Cert.AdamProj.main_arg1)) (m ((c.tc : Thread Cert.AdamProj.nD Cert.AdamProj.τ).loc Cert.AdamProj.main_arg2)) (m ((c.tc : Thread Cert.AdamProj.nD Cert.AdamProj.τ).loc Cert.AdamProj.main_arg3)) (m ((c.tc : Thread Cert.AdamProj.nD Cert.AdamProj.τ).loc Cert.AdamProj.main_arg4)) (m ((c.tc : Thread Cert.AdamProj.nD Cert.AdamProj.τ).loc Cert.AdamProj.main_arg5))) = (fun _ => 1#1)

def Pre_AdamProjIdeal [hPre_slot_proj : Cert.Pre_slot_proj.Facts] (m : (ℓ : Loc Cert.AdamProjIdeal.nD Cert.AdamProjIdeal.τ Cert.AdamProjIdeal.sig) → Buf (Elt Ideal) ℓ) : Prop :=
  ∀ c : Dev Cert.AdamProjIdeal.nD,
    (Cert.Pre_slot_proj.fn (F := Ideal) (m ((c.tc : Thread Cert.AdamProjIdeal.nD Cert.AdamProjIdeal.τ).loc Cert.AdamProjIdeal.main_arg0)) (m ((c.tc : Thread Cert.AdamProjIdeal.nD Cert.AdamProjIdeal.τ).loc Cert.AdamProjIdeal.main_arg1)) (m ((c.tc : Thread Cert.AdamProjIdeal.nD Cert.AdamProjIdeal.τ).loc Cert.AdamProjIdeal.main_arg2)) (m ((c.tc : Thread Cert.AdamProjIdeal.nD Cert.AdamProjIdeal.τ).loc Cert.AdamProjIdeal.main_arg3)) (m ((c.tc : Thread Cert.AdamProjIdeal.nD Cert.AdamProjIdeal.τ).loc Cert.AdamProjIdeal.main_arg4)) (m ((c.tc : Thread Cert.AdamProjIdeal.nD Cert.AdamProjIdeal.τ).loc Cert.AdamProjIdeal.main_arg5))) = (fun _ => 1#1)

def Pre_AdamProjRefIdeal (m : (ℓ : Loc Cert.AdamProjRefIdeal.nD Cert.AdamProjRefIdeal.τ Cert.AdamProjRefIdeal.sig) → Buf (Elt Ideal) ℓ) : Prop :=
  True

def Pre_AdamProjRefIdeal_slot_proj [hPre_slot_proj : Cert.Pre_slot_proj.Facts] (m : (ℓ : Loc Cert.AdamProjRefIdeal.nD Cert.AdamProjRefIdeal.τ Cert.AdamProjRefIdeal.sig) → Buf (Elt Ideal) ℓ) : Prop :=
  ∀ c : Dev Cert.AdamProjRefIdeal.nD,
    (Cert.Pre_slot_proj.fn (F := Ideal) (m ((c.tc : Thread Cert.AdamProjRefIdeal.nD Cert.AdamProjRefIdeal.τ).loc Cert.AdamProjRefIdeal.main_arg0)) (m ((c.tc : Thread Cert.AdamProjRefIdeal.nD Cert.AdamProjRefIdeal.τ).loc Cert.AdamProjRefIdeal.main_arg1)) (m ((c.tc : Thread Cert.AdamProjRefIdeal.nD Cert.AdamProjRefIdeal.τ).loc Cert.AdamProjRefIdeal.main_arg2)) (m ((c.tc : Thread Cert.AdamProjRefIdeal.nD Cert.AdamProjRefIdeal.τ).loc Cert.AdamProjRefIdeal.main_arg3)) (m ((c.tc : Thread Cert.AdamProjRefIdeal.nD Cert.AdamProjRefIdeal.τ).loc Cert.AdamProjRefIdeal.main_arg4)) (m ((c.tc : Thread Cert.AdamProjRefIdeal.nD Cert.AdamProjRefIdeal.τ).loc Cert.AdamProjRefIdeal.main_arg5))) = (fun _ => 1#1)

def Pre_AdamUp [hPre_slot_up : Cert.Pre_slot_up.Facts] (m : (ℓ : Loc Cert.AdamUp.nD Cert.AdamUp.τ Cert.AdamUp.sig) → Buf (Elt Bits) ℓ) : Prop :=
  ∀ c : Dev Cert.AdamUp.nD,
    (Cert.Pre_slot_up.fn (F := Bits) (m ((c.tc : Thread Cert.AdamUp.nD Cert.AdamUp.τ).loc Cert.AdamUp.main_arg0)) (m ((c.tc : Thread Cert.AdamUp.nD Cert.AdamUp.τ).loc Cert.AdamUp.main_arg1)) (m ((c.tc : Thread Cert.AdamUp.nD Cert.AdamUp.τ).loc Cert.AdamUp.main_arg2)) (m ((c.tc : Thread Cert.AdamUp.nD Cert.AdamUp.τ).loc Cert.AdamUp.main_arg3)) (m ((c.tc : Thread Cert.AdamUp.nD Cert.AdamUp.τ).loc Cert.AdamUp.main_arg4)) (m ((c.tc : Thread Cert.AdamUp.nD Cert.AdamUp.τ).loc Cert.AdamUp.main_arg5))) = (fun _ => 1#1)

def Pre_AdamUpIdeal [hPre_slot_up : Cert.Pre_slot_up.Facts] (m : (ℓ : Loc Cert.AdamUpIdeal.nD Cert.AdamUpIdeal.τ Cert.AdamUpIdeal.sig) → Buf (Elt Ideal) ℓ) : Prop :=
  ∀ c : Dev Cert.AdamUpIdeal.nD,
    (Cert.Pre_slot_up.fn (F := Ideal) (m ((c.tc : Thread Cert.AdamUpIdeal.nD Cert.AdamUpIdeal.τ).loc Cert.AdamUpIdeal.main_arg0)) (m ((c.tc : Thread Cert.AdamUpIdeal.nD Cert.AdamUpIdeal.τ).loc Cert.AdamUpIdeal.main_arg1)) (m ((c.tc : Thread Cert.AdamUpIdeal.nD Cert.AdamUpIdeal.τ).loc Cert.AdamUpIdeal.main_arg2)) (m ((c.tc : Thread Cert.AdamUpIdeal.nD Cert.AdamUpIdeal.τ).loc Cert.AdamUpIdeal.main_arg3)) (m ((c.tc : Thread Cert.AdamUpIdeal.nD Cert.AdamUpIdeal.τ).loc Cert.AdamUpIdeal.main_arg4)) (m ((c.tc : Thread Cert.AdamUpIdeal.nD Cert.AdamUpIdeal.τ).loc Cert.AdamUpIdeal.main_arg5))) = (fun _ => 1#1)

def Pre_AdamUpRefIdeal (m : (ℓ : Loc Cert.AdamUpRefIdeal.nD Cert.AdamUpRefIdeal.τ Cert.AdamUpRefIdeal.sig) → Buf (Elt Ideal) ℓ) : Prop :=
  True

def Pre_AdamUpRefIdeal_slot_up [hPre_slot_up : Cert.Pre_slot_up.Facts] (m : (ℓ : Loc Cert.AdamUpRefIdeal.nD Cert.AdamUpRefIdeal.τ Cert.AdamUpRefIdeal.sig) → Buf (Elt Ideal) ℓ) : Prop :=
  ∀ c : Dev Cert.AdamUpRefIdeal.nD,
    (Cert.Pre_slot_up.fn (F := Ideal) (m ((c.tc : Thread Cert.AdamUpRefIdeal.nD Cert.AdamUpRefIdeal.τ).loc Cert.AdamUpRefIdeal.main_arg0)) (m ((c.tc : Thread Cert.AdamUpRefIdeal.nD Cert.AdamUpRefIdeal.τ).loc Cert.AdamUpRefIdeal.main_arg1)) (m ((c.tc : Thread Cert.AdamUpRefIdeal.nD Cert.AdamUpRefIdeal.τ).loc Cert.AdamUpRefIdeal.main_arg2)) (m ((c.tc : Thread Cert.AdamUpRefIdeal.nD Cert.AdamUpRefIdeal.τ).loc Cert.AdamUpRefIdeal.main_arg3)) (m ((c.tc : Thread Cert.AdamUpRefIdeal.nD Cert.AdamUpRefIdeal.τ).loc Cert.AdamUpRefIdeal.main_arg4)) (m ((c.tc : Thread Cert.AdamUpRefIdeal.nD Cert.AdamUpRefIdeal.τ).loc Cert.AdamUpRefIdeal.main_arg5))) = (fun _ => 1#1)

def Pre_AdamDown [hPre_slot_down : Cert.Pre_slot_down.Facts] (m : (ℓ : Loc Cert.AdamDown.nD Cert.AdamDown.τ Cert.AdamDown.sig) → Buf (Elt Bits) ℓ) : Prop :=
  ∀ c : Dev Cert.AdamDown.nD,
    (Cert.Pre_slot_down.fn (F := Bits) (m ((c.tc : Thread Cert.AdamDown.nD Cert.AdamDown.τ).loc Cert.AdamDown.main_arg0)) (m ((c.tc : Thread Cert.AdamDown.nD Cert.AdamDown.τ).loc Cert.AdamDown.main_arg1)) (m ((c.tc : Thread Cert.AdamDown.nD Cert.AdamDown.τ).loc Cert.AdamDown.main_arg2)) (m ((c.tc : Thread Cert.AdamDown.nD Cert.AdamDown.τ).loc Cert.AdamDown.main_arg3)) (m ((c.tc : Thread Cert.AdamDown.nD Cert.AdamDown.τ).loc Cert.AdamDown.main_arg4)) (m ((c.tc : Thread Cert.AdamDown.nD Cert.AdamDown.τ).loc Cert.AdamDown.main_arg5))) = (fun _ => 1#1)

def Pre_AdamDownIdeal [hPre_slot_down : Cert.Pre_slot_down.Facts] (m : (ℓ : Loc Cert.AdamDownIdeal.nD Cert.AdamDownIdeal.τ Cert.AdamDownIdeal.sig) → Buf (Elt Ideal) ℓ) : Prop :=
  ∀ c : Dev Cert.AdamDownIdeal.nD,
    (Cert.Pre_slot_down.fn (F := Ideal) (m ((c.tc : Thread Cert.AdamDownIdeal.nD Cert.AdamDownIdeal.τ).loc Cert.AdamDownIdeal.main_arg0)) (m ((c.tc : Thread Cert.AdamDownIdeal.nD Cert.AdamDownIdeal.τ).loc Cert.AdamDownIdeal.main_arg1)) (m ((c.tc : Thread Cert.AdamDownIdeal.nD Cert.AdamDownIdeal.τ).loc Cert.AdamDownIdeal.main_arg2)) (m ((c.tc : Thread Cert.AdamDownIdeal.nD Cert.AdamDownIdeal.τ).loc Cert.AdamDownIdeal.main_arg3)) (m ((c.tc : Thread Cert.AdamDownIdeal.nD Cert.AdamDownIdeal.τ).loc Cert.AdamDownIdeal.main_arg4)) (m ((c.tc : Thread Cert.AdamDownIdeal.nD Cert.AdamDownIdeal.τ).loc Cert.AdamDownIdeal.main_arg5))) = (fun _ => 1#1)

def Pre_AdamDownRefIdeal (m : (ℓ : Loc Cert.AdamDownRefIdeal.nD Cert.AdamDownRefIdeal.τ Cert.AdamDownRefIdeal.sig) → Buf (Elt Ideal) ℓ) : Prop :=
  True

def Pre_AdamDownRefIdeal_slot_down [hPre_slot_down : Cert.Pre_slot_down.Facts] (m : (ℓ : Loc Cert.AdamDownRefIdeal.nD Cert.AdamDownRefIdeal.τ Cert.AdamDownRefIdeal.sig) → Buf (Elt Ideal) ℓ) : Prop :=
  ∀ c : Dev Cert.AdamDownRefIdeal.nD,
    (Cert.Pre_slot_down.fn (F := Ideal) (m ((c.tc : Thread Cert.AdamDownRefIdeal.nD Cert.AdamDownRefIdeal.τ).loc Cert.AdamDownRefIdeal.main_arg0)) (m ((c.tc : Thread Cert.AdamDownRefIdeal.nD Cert.AdamDownRefIdeal.τ).loc Cert.AdamDownRefIdeal.main_arg1)) (m ((c.tc : Thread Cert.AdamDownRefIdeal.nD Cert.AdamDownRefIdeal.τ).loc Cert.AdamDownRefIdeal.main_arg2)) (m ((c.tc : Thread Cert.AdamDownRefIdeal.nD Cert.AdamDownRefIdeal.τ).loc Cert.AdamDownRefIdeal.main_arg3)) (m ((c.tc : Thread Cert.AdamDownRefIdeal.nD Cert.AdamDownRefIdeal.τ).loc Cert.AdamDownRefIdeal.main_arg4)) (m ((c.tc : Thread Cert.AdamDownRefIdeal.nD Cert.AdamDownRefIdeal.τ).loc Cert.AdamDownRefIdeal.main_arg5))) = (fun _ => 1#1)

def Pre_Halves [hPre_core_half : Cert.Pre_core_half.Facts] (m : (ℓ : Loc Cert.Halves.nD Cert.Halves.τ Cert.Halves.sig) → Buf (Elt Bits) ℓ) : Prop :=
  ∀ c : Dev Cert.Halves.nD,
    (Cert.Pre_core_half.fn (F := Bits) (m ((c.tc : Thread Cert.Halves.nD Cert.Halves.τ).loc Cert.Halves.main_arg0)) (m ((c.tc : Thread Cert.Halves.nD Cert.Halves.τ).loc Cert.Halves.main_arg1)) (m ((c.tc : Thread Cert.Halves.nD Cert.Halves.τ).loc Cert.Halves.main_arg2))) = (fun _ => 1#1)

def Pre_HalvesIdeal [hPre_core_half : Cert.Pre_core_half.Facts] (m : (ℓ : Loc Cert.HalvesIdeal.nD Cert.HalvesIdeal.τ Cert.HalvesIdeal.sig) → Buf (Elt Ideal) ℓ) : Prop :=
  ∀ c : Dev Cert.HalvesIdeal.nD,
    (Cert.Pre_core_half.fn (F := Ideal) (m ((c.tc : Thread Cert.HalvesIdeal.nD Cert.HalvesIdeal.τ).loc Cert.HalvesIdeal.main_arg0)) (m ((c.tc : Thread Cert.HalvesIdeal.nD Cert.HalvesIdeal.τ).loc Cert.HalvesIdeal.main_arg1)) (m ((c.tc : Thread Cert.HalvesIdeal.nD Cert.HalvesIdeal.τ).loc Cert.HalvesIdeal.main_arg2))) = (fun _ => 1#1)

def Pre_HalvesRefIdeal (m : (ℓ : Loc Cert.HalvesRefIdeal.nD Cert.HalvesRefIdeal.τ Cert.HalvesRefIdeal.sig) → Buf (Elt Ideal) ℓ) : Prop :=
  True

def Pre_HalvesRefIdeal_core_half [hPre_core_half : Cert.Pre_core_half.Facts] (m : (ℓ : Loc Cert.HalvesRefIdeal.nD Cert.HalvesRefIdeal.τ Cert.HalvesRefIdeal.sig) → Buf (Elt Ideal) ℓ) : Prop :=
  ∀ c : Dev Cert.HalvesRefIdeal.nD,
    (Cert.Pre_core_half.fn (F := Ideal) (m ((c.tc : Thread Cert.HalvesRefIdeal.nD Cert.HalvesRefIdeal.τ).loc Cert.HalvesRefIdeal.main_arg0)) (m ((c.tc : Thread Cert.HalvesRefIdeal.nD Cert.HalvesRefIdeal.τ).loc Cert.HalvesRefIdeal.main_arg1)) (m ((c.tc : Thread Cert.HalvesRefIdeal.nD Cert.HalvesRefIdeal.τ).loc Cert.HalvesRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1))
      ∧ r.2.sem = fun _ => 0)

def quiescent_Dup [hDup : Cert.Dup.Facts] : Prop :=
  ∀ (m : (ℓ : Loc Cert.Dup.nD Cert.Dup.τ Cert.Dup.sig) → Buf (Elt Bits) ℓ) (g : Dev Cert.Dup.nD → PrngReg), Pre_Dup m →
    θ_run (Cert.Dup.defs (F := Bits)) (onTc (τ := Cert.Dup.τ) (Cert.Dup.main (F := Bits))) ⟨m, fun _ => 0, g⟩ (fun r => (∀ c : Dev Cert.Dup.nD,
      r.2.mem ((c.tc : Thread Cert.Dup.nD Cert.Dup.τ).loc Cert.Dup.main_arg0) = m ((c.tc : Thread Cert.Dup.nD Cert.Dup.τ).loc Cert.Dup.main_arg0)
      ∧ r.2.mem ((c.tc : Thread Cert.Dup.nD Cert.Dup.τ).loc Cert.Dup.main_arg1) = m ((c.tc : Thread Cert.Dup.nD Cert.Dup.τ).loc Cert.Dup.main_arg1)
      ∧ r.2.mem ((c.tc : Thread Cert.Dup.nD Cert.Dup.τ).loc Cert.Dup.main_arg2) = m ((c.tc : Thread Cert.Dup.nD Cert.Dup.τ).loc Cert.Dup.main_arg2))
      ∧ r.2.sem = fun _ => 0)

def quiescent_DupIdeal [hDupIdeal : Cert.DupIdeal.Facts] : Prop :=
  ∀ (m : (ℓ : Loc Cert.DupIdeal.nD Cert.DupIdeal.τ Cert.DupIdeal.sig) → Buf (Elt Ideal) ℓ) (g : Dev Cert.DupIdeal.nD → PrngReg), Pre_DupIdeal m →
    θ_run (Cert.DupIdeal.defs (F := Ideal)) (onTc (τ := Cert.DupIdeal.τ) (Cert.DupIdeal.main (F := Ideal))) ⟨m, fun _ => 0, g⟩ (fun r => (∀ c : Dev Cert.DupIdeal.nD,
      r.2.mem ((c.tc : Thread Cert.DupIdeal.nD Cert.DupIdeal.τ).loc Cert.DupIdeal.main_arg0) = m ((c.tc : Thread Cert.DupIdeal.nD Cert.DupIdeal.τ).loc Cert.DupIdeal.main_arg0)
      ∧ r.2.mem ((c.tc : Thread Cert.DupIdeal.nD Cert.DupIdeal.τ).loc Cert.DupIdeal.main_arg1) = m ((c.tc : Thread Cert.DupIdeal.nD Cert.DupIdeal.τ).loc Cert.DupIdeal.main_arg1)
      ∧ r.2.mem ((c.tc : Thread Cert.DupIdeal.nD Cert.DupIdeal.τ).loc Cert.DupIdeal.main_arg2) = m ((c.tc : Thread Cert.DupIdeal.nD Cert.DupIdeal.τ).loc Cert.DupIdeal.main_arg2))
      ∧ r.2.sem = fun _ => 0)

def quiescent_DupRefIdeal [hDupRefIdeal : Cert.DupRefIdeal.Facts] : Prop :=
  ∀ (m : (ℓ : Loc Cert.DupRefIdeal.nD Cert.DupRefIdeal.τ Cert.DupRefIdeal.sig) → Buf (Elt Ideal) ℓ) (g : Dev Cert.DupRefIdeal.nD → PrngReg), Pre_DupRefIdeal m →
    θ_run (Cert.DupRefIdeal.defs (F := Ideal)) (onTc (τ := Cert.DupRefIdeal.τ) (Cert.DupRefIdeal.main (F := Ideal))) ⟨m, fun _ => 0, g⟩ (fun r => (∀ c : Dev Cert.DupRefIdeal.nD,
      r.2.mem ((c.tc : Thread Cert.DupRefIdeal.nD Cert.DupRefIdeal.τ).loc Cert.DupRefIdeal.main_arg0) = m ((c.tc : Thread Cert.DupRefIdeal.nD Cert.DupRefIdeal.τ).loc Cert.DupRefIdeal.main_arg0)
      ∧ r.2.mem ((c.tc : Thread Cert.DupRefIdeal.nD Cert.DupRefIdeal.τ).loc Cert.DupRefIdeal.main_arg1) = m ((c.tc : Thread Cert.DupRefIdeal.nD Cert.DupRefIdeal.τ).loc Cert.DupRefIdeal.main_arg1)
      ∧ r.2.mem ((c.tc : Thread Cert.DupRefIdeal.nD Cert.DupRefIdeal.τ).loc Cert.DupRefIdeal.main_arg2) = m ((c.tc : Thread Cert.DupRefIdeal.nD Cert.DupRefIdeal.τ).loc Cert.DupRefIdeal.main_arg2))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_Dhn [hDhn : Cert.Dhn.Facts] : Prop :=
  ∀ (m : (ℓ : Loc Cert.Dhn.nD Cert.Dhn.τ Cert.Dhn.sig) → Buf (Elt Bits) ℓ) (g : Dev Cert.Dhn.nD → PrngReg), Pre_Dhn m →
    θ_run (Cert.Dhn.defs (F := Bits)) (onTc (τ := Cert.Dhn.τ) (Cert.Dhn.main (F := Bits))) ⟨m, fun _ => 0, g⟩ (fun r => (∀ c : Dev Cert.Dhn.nD,
      r.2.mem ((c.tc : Thread Cert.Dhn.nD Cert.Dhn.τ).loc Cert.Dhn.main_arg0) = m ((c.tc : Thread Cert.Dhn.nD Cert.Dhn.τ).loc Cert.Dhn.main_arg0)
      ∧ r.2.mem ((c.tc : Thread Cert.Dhn.nD Cert.Dhn.τ).loc Cert.Dhn.main_arg1) = m ((c.tc : Thread Cert.Dhn.nD Cert.Dhn.τ).loc Cert.Dhn.main_arg1))
      ∧ r.2.sem = fun _ => 0)

def quiescent_DhnIdeal [hDhnIdeal : Cert.DhnIdeal.Facts] : Prop :=
  ∀ (m : (ℓ : Loc Cert.DhnIdeal.nD Cert.DhnIdeal.τ Cert.DhnIdeal.sig) → Buf (Elt Ideal) ℓ) (g : Dev Cert.DhnIdeal.nD → PrngReg), Pre_DhnIdeal m →
    θ_run (Cert.DhnIdeal.defs (F := Ideal)) (onTc (τ := Cert.DhnIdeal.τ) (Cert.DhnIdeal.main (F := Ideal))) ⟨m, fun _ => 0, g⟩ (fun r => (∀ c : Dev Cert.DhnIdeal.nD,
      r.2.mem ((c.tc : Thread Cert.DhnIdeal.nD Cert.DhnIdeal.τ).loc Cert.DhnIdeal.main_arg0) = m ((c.tc : Thread Cert.DhnIdeal.nD Cert.DhnIdeal.τ).loc Cert.DhnIdeal.main_arg0)
      ∧ r.2.mem ((c.tc : Thread Cert.DhnIdeal.nD Cert.DhnIdeal.τ).loc Cert.DhnIdeal.main_arg1) = m ((c.tc : Thread Cert.DhnIdeal.nD Cert.DhnIdeal.τ).loc Cert.DhnIdeal.main_arg1))
      ∧ r.2.sem = fun _ => 0)

def quiescent_DhnRefIdeal [hDhnRefIdeal : Cert.DhnRefIdeal.Facts] : Prop :=
  ∀ (m : (ℓ : Loc Cert.DhnRefIdeal.nD Cert.DhnRefIdeal.τ Cert.DhnRefIdeal.sig) → Buf (Elt Ideal) ℓ) (g : Dev Cert.DhnRefIdeal.nD → PrngReg), Pre_DhnRefIdeal m →
    θ_run (Cert.DhnRefIdeal.defs (F := Ideal)) (onTc (τ := Cert.DhnRefIdeal.τ) (Cert.DhnRefIdeal.main (F := Ideal))) ⟨m, fun _ => 0, g⟩ (fun r => (∀ c : Dev Cert.DhnRefIdeal.nD,
      r.2.mem ((c.tc : Thread Cert.DhnRefIdeal.nD Cert.DhnRefIdeal.τ).loc Cert.DhnRefIdeal.main_arg0) = m ((c.tc : Thread Cert.DhnRefIdeal.nD Cert.DhnRefIdeal.τ).loc Cert.DhnRefIdeal.main_arg0)
      ∧ r.2.mem ((c.tc : Thread Cert.DhnRefIdeal.nD Cert.DhnRefIdeal.τ).loc Cert.DhnRefIdeal.main_arg1) = m ((c.tc : Thread Cert.DhnRefIdeal.nD Cert.DhnRefIdeal.τ).loc Cert.DhnRefIdeal.main_arg1))
      ∧ r.2.sem = fun _ => 0)

def quiescent_Du [hDu : Cert.Du.Facts] : Prop :=
  ∀ (m : (ℓ : Loc Cert.Du.nD Cert.Du.τ Cert.Du.sig) → Buf (Elt Bits) ℓ) (g : Dev Cert.Du.nD → PrngReg), Pre_Du m →
    θ_run (Cert.Du.defs (F := Bits)) (onTc (τ := Cert.Du.τ) (Cert.Du.main (F := Bits))) ⟨m, fun _ => 0, g⟩ (fun r => (∀ c : Dev Cert.Du.nD,
      r.2.mem ((c.tc : Thread Cert.Du.nD Cert.Du.τ).loc Cert.Du.main_arg0) = m ((c.tc : Thread Cert.Du.nD Cert.Du.τ).loc Cert.Du.main_arg0)
      ∧ r.2.mem ((c.tc : Thread Cert.Du.nD Cert.Du.τ).loc Cert.Du.main_arg1) = m ((c.tc : Thread Cert.Du.nD Cert.Du.τ).loc Cert.Du.main_arg1)
      ∧ r.2.mem ((c.tc : Thread Cert.Du.nD Cert.Du.τ).loc Cert.Du.main_arg2) = m ((c.tc : Thread Cert.Du.nD Cert.Du.τ).loc Cert.Du.main_arg2)
      ∧ r.2.mem ((c.tc : Thread Cert.Du.nD Cert.Du.τ).loc Cert.Du.main_arg3) = m ((c.tc : Thread Cert.Du.nD Cert.Du.τ).loc Cert.Du.main_arg3)
      ∧ r.2.mem ((c.tc : Thread Cert.Du.nD Cert.Du.τ).loc Cert.Du.main_arg4) = m ((c.tc : Thread Cert.Du.nD Cert.Du.τ).loc Cert.Du.main_arg4)
      ∧ r.2.mem ((c.tc : Thread Cert.Du.nD Cert.Du.τ).loc Cert.Du.main_arg5) = m ((c.tc : Thread Cert.Du.nD Cert.Du.τ).loc Cert.Du.main_arg5)
      ∧ r.2.mem ((c.tc : Thread Cert.Du.nD Cert.Du.τ).loc Cert.Du.main_arg6) = m ((c.tc : Thread Cert.Du.nD Cert.Du.τ).loc Cert.Du.main_arg6)
      ∧ r.2.mem ((c.tc : Thread Cert.Du.nD Cert.Du.τ).loc Cert.Du.main_arg7) = m ((c.tc : Thread Cert.Du.nD Cert.Du.τ).loc Cert.Du.main_arg7)
      ∧ r.2.mem ((c.tc : Thread Cert.Du.nD Cert.Du.τ).loc Cert.Du.main_arg8) = m ((c.tc : Thread Cert.Du.nD Cert.Du.τ).loc Cert.Du.main_arg8)
      ∧ r.2.mem ((c.tc : Thread Cert.Du.nD Cert.Du.τ).loc Cert.Du.main_arg9) = m ((c.tc : Thread Cert.Du.nD Cert.Du.τ).loc Cert.Du.main_arg9)
      ∧ r.2.mem ((c.tc : Thread Cert.Du.nD Cert.Du.τ).loc Cert.Du.main_arg10) = m ((c.tc : Thread Cert.Du.nD Cert.Du.τ).loc Cert.Du.main_arg10)
      ∧ r.2.mem ((c.tc : Thread Cert.Du.nD Cert.Du.τ).loc Cert.Du.main_arg11) = m ((c.tc : Thread Cert.Du.nD Cert.Du.τ).loc Cert.Du.main_arg11)
      ∧ r.2.mem ((c.tc : Thread Cert.Du.nD Cert.Du.τ).loc Cert.Du.main_arg12) = m ((c.tc : Thread Cert.Du.nD Cert.Du.τ).loc Cert.Du.main_arg12)
      ∧ r.2.mem ((c.tc : Thread Cert.Du.nD Cert.Du.τ).loc Cert.Du.main_arg13) = m ((c.tc : Thread Cert.Du.nD Cert.Du.τ).loc Cert.Du.main_arg13))
      ∧ r.2.sem = fun _ => 0)

def quiescent_DuIdeal [hDuIdeal : Cert.DuIdeal.Facts] : Prop :=
  ∀ (m : (ℓ : Loc Cert.DuIdeal.nD Cert.DuIdeal.τ Cert.DuIdeal.sig) → Buf (Elt Ideal) ℓ) (g : Dev Cert.DuIdeal.nD → PrngReg), Pre_DuIdeal m →
    θ_run (Cert.DuIdeal.defs (F := Ideal)) (onTc (τ := Cert.DuIdeal.τ) (Cert.DuIdeal.main (F := Ideal))) ⟨m, fun _ => 0, g⟩ (fun r => (∀ c : Dev Cert.DuIdeal.nD,
      r.2.mem ((c.tc : Thread Cert.DuIdeal.nD Cert.DuIdeal.τ).loc Cert.DuIdeal.main_arg0) = m ((c.tc : Thread Cert.DuIdeal.nD Cert.DuIdeal.τ).loc Cert.DuIdeal.main_arg0)
      ∧ r.2.mem ((c.tc : Thread Cert.DuIdeal.nD Cert.DuIdeal.τ).loc Cert.DuIdeal.main_arg1) = m ((c.tc : Thread Cert.DuIdeal.nD Cert.DuIdeal.τ).loc Cert.DuIdeal.main_arg1)
      ∧ r.2.mem ((c.tc : Thread Cert.DuIdeal.nD Cert.DuIdeal.τ).loc Cert.DuIdeal.main_arg2) = m ((c.tc : Thread Cert.DuIdeal.nD Cert.DuIdeal.τ).loc Cert.DuIdeal.main_arg2)
      ∧ r.2.mem ((c.tc : Thread Cert.DuIdeal.nD Cert.DuIdeal.τ).loc Cert.DuIdeal.main_arg3) = m ((c.tc : Thread Cert.DuIdeal.nD Cert.DuIdeal.τ).loc Cert.DuIdeal.main_arg3)
      ∧ r.2.mem ((c.tc : Thread Cert.DuIdeal.nD Cert.DuIdeal.τ).loc Cert.DuIdeal.main_arg4) = m ((c.tc : Thread Cert.DuIdeal.nD Cert.DuIdeal.τ).loc Cert.DuIdeal.main_arg4)
      ∧ r.2.mem ((c.tc : Thread Cert.DuIdeal.nD Cert.DuIdeal.τ).loc Cert.DuIdeal.main_arg5) = m ((c.tc : Thread Cert.DuIdeal.nD Cert.DuIdeal.τ).loc Cert.DuIdeal.main_arg5)
      ∧ r.2.mem ((c.tc : Thread Cert.DuIdeal.nD Cert.DuIdeal.τ).loc Cert.DuIdeal.main_arg6) = m ((c.tc : Thread Cert.DuIdeal.nD Cert.DuIdeal.τ).loc Cert.DuIdeal.main_arg6)
      ∧ r.2.mem ((c.tc : Thread Cert.DuIdeal.nD Cert.DuIdeal.τ).loc Cert.DuIdeal.main_arg7) = m ((c.tc : Thread Cert.DuIdeal.nD Cert.DuIdeal.τ).loc Cert.DuIdeal.main_arg7)
      ∧ r.2.mem ((c.tc : Thread Cert.DuIdeal.nD Cert.DuIdeal.τ).loc Cert.DuIdeal.main_arg8) = m ((c.tc : Thread Cert.DuIdeal.nD Cert.DuIdeal.τ).loc Cert.DuIdeal.main_arg8)
      ∧ r.2.mem ((c.tc : Thread Cert.DuIdeal.nD Cert.DuIdeal.τ).loc Cert.DuIdeal.main_arg9) = m ((c.tc : Thread Cert.DuIdeal.nD Cert.DuIdeal.τ).loc Cert.DuIdeal.main_arg9)
      ∧ r.2.mem ((c.tc : Thread Cert.DuIdeal.nD Cert.DuIdeal.τ).loc Cert.DuIdeal.main_arg10) = m ((c.tc : Thread Cert.DuIdeal.nD Cert.DuIdeal.τ).loc Cert.DuIdeal.main_arg10)
      ∧ r.2.mem ((c.tc : Thread Cert.DuIdeal.nD Cert.DuIdeal.τ).loc Cert.DuIdeal.main_arg11) = m ((c.tc : Thread Cert.DuIdeal.nD Cert.DuIdeal.τ).loc Cert.DuIdeal.main_arg11)
      ∧ r.2.mem ((c.tc : Thread Cert.DuIdeal.nD Cert.DuIdeal.τ).loc Cert.DuIdeal.main_arg12) = m ((c.tc : Thread Cert.DuIdeal.nD Cert.DuIdeal.τ).loc Cert.DuIdeal.main_arg12)
      ∧ r.2.mem ((c.tc : Thread Cert.DuIdeal.nD Cert.DuIdeal.τ).loc Cert.DuIdeal.main_arg13) = m ((c.tc : Thread Cert.DuIdeal.nD Cert.DuIdeal.τ).loc Cert.DuIdeal.main_arg13))
      ∧ r.2.sem = fun _ => 0)

def quiescent_DuRefIdeal [hDuRefIdeal : Cert.DuRefIdeal.Facts] : Prop :=
  ∀ (m : (ℓ : Loc Cert.DuRefIdeal.nD Cert.DuRefIdeal.τ Cert.DuRefIdeal.sig) → Buf (Elt Ideal) ℓ) (g : Dev Cert.DuRefIdeal.nD → PrngReg), Pre_DuRefIdeal m →
    θ_run (Cert.DuRefIdeal.defs (F := Ideal)) (onTc (τ := Cert.DuRefIdeal.τ) (Cert.DuRefIdeal.main (F := Ideal))) ⟨m, fun _ => 0, g⟩ (fun r => (∀ c : Dev Cert.DuRefIdeal.nD,
      r.2.mem ((c.tc : Thread Cert.DuRefIdeal.nD Cert.DuRefIdeal.τ).loc Cert.DuRefIdeal.main_arg0) = m ((c.tc : Thread Cert.DuRefIdeal.nD Cert.DuRefIdeal.τ).loc Cert.DuRefIdeal.main_arg0)
      ∧ r.2.mem ((c.tc : Thread Cert.DuRefIdeal.nD Cert.DuRefIdeal.τ).loc Cert.DuRefIdeal.main_arg1) = m ((c.tc : Thread Cert.DuRefIdeal.nD Cert.DuRefIdeal.τ).loc Cert.DuRefIdeal.main_arg1)
      ∧ r.2.mem ((c.tc : Thread Cert.DuRefIdeal.nD Cert.DuRefIdeal.τ).loc Cert.DuRefIdeal.main_arg2) = m ((c.tc : Thread Cert.DuRefIdeal.nD Cert.DuRefIdeal.τ).loc Cert.DuRefIdeal.main_arg2)
      ∧ r.2.mem ((c.tc : Thread Cert.DuRefIdeal.nD Cert.DuRefIdeal.τ).loc Cert.DuRefIdeal.main_arg3) = m ((c.tc : Thread Cert.DuRefIdeal.nD Cert.DuRefIdeal.τ).loc Cert.DuRefIdeal.main_arg3)
      ∧ r.2.mem ((c.tc : Thread Cert.DuRefIdeal.nD Cert.DuRefIdeal.τ).loc Cert.DuRefIdeal.main_arg4) = m ((c.tc : Thread Cert.DuRefIdeal.nD Cert.DuRefIdeal.τ).loc Cert.DuRefIdeal.main_arg4)
      ∧ r.2.mem ((c.tc : Thread Cert.DuRefIdeal.nD Cert.DuRefIdeal.τ).loc Cert.DuRefIdeal.main_arg5) = m ((c.tc : Thread Cert.DuRefIdeal.nD Cert.DuRefIdeal.τ).loc Cert.DuRefIdeal.main_arg5)
      ∧ r.2.mem ((c.tc : Thread Cert.DuRefIdeal.nD Cert.DuRefIdeal.τ).loc Cert.DuRefIdeal.main_arg6) = m ((c.tc : Thread Cert.DuRefIdeal.nD Cert.DuRefIdeal.τ).loc Cert.DuRefIdeal.main_arg6)
      ∧ r.2.mem ((c.tc : Thread Cert.DuRefIdeal.nD Cert.DuRefIdeal.τ).loc Cert.DuRefIdeal.main_arg7) = m ((c.tc : Thread Cert.DuRefIdeal.nD Cert.DuRefIdeal.τ).loc Cert.DuRefIdeal.main_arg7)
      ∧ r.2.mem ((c.tc : Thread Cert.DuRefIdeal.nD Cert.DuRefIdeal.τ).loc Cert.DuRefIdeal.main_arg8) = m ((c.tc : Thread Cert.DuRefIdeal.nD Cert.DuRefIdeal.τ).loc Cert.DuRefIdeal.main_arg8)
      ∧ r.2.mem ((c.tc : Thread Cert.DuRefIdeal.nD Cert.DuRefIdeal.τ).loc Cert.DuRefIdeal.main_arg9) = m ((c.tc : Thread Cert.DuRefIdeal.nD Cert.DuRefIdeal.τ).loc Cert.DuRefIdeal.main_arg9)
      ∧ r.2.mem ((c.tc : Thread Cert.DuRefIdeal.nD Cert.DuRefIdeal.τ).loc Cert.DuRefIdeal.main_arg10) = m ((c.tc : Thread Cert.DuRefIdeal.nD Cert.DuRefIdeal.τ).loc Cert.DuRefIdeal.main_arg10)
      ∧ r.2.mem ((c.tc : Thread Cert.DuRefIdeal.nD Cert.DuRefIdeal.τ).loc Cert.DuRefIdeal.main_arg11) = m ((c.tc : Thread Cert.DuRefIdeal.nD Cert.DuRefIdeal.τ).loc Cert.DuRefIdeal.main_arg11)
      ∧ r.2.mem ((c.tc : Thread Cert.DuRefIdeal.nD Cert.DuRefIdeal.τ).loc Cert.DuRefIdeal.main_arg12) = m ((c.tc : Thread Cert.DuRefIdeal.nD Cert.DuRefIdeal.τ).loc Cert.DuRefIdeal.main_arg12)
      ∧ r.2.mem ((c.tc : Thread Cert.DuRefIdeal.nD Cert.DuRefIdeal.τ).loc Cert.DuRefIdeal.main_arg13) = m ((c.tc : Thread Cert.DuRefIdeal.nD Cert.DuRefIdeal.τ).loc Cert.DuRefIdeal.main_arg13))
      ∧ r.2.sem = fun _ => 0)

def quiescent_DwOb [hDwOb : Cert.DwOb.Facts] : Prop :=
  ∀ (m : (ℓ : Loc Cert.DwOb.nD Cert.DwOb.τ Cert.DwOb.sig) → Buf (Elt Bits) ℓ) (g : Dev Cert.DwOb.nD → PrngReg), Pre_DwOb m →
    θ_run (Cert.DwOb.defs (F := Bits)) (onTc (τ := Cert.DwOb.τ) (Cert.DwOb.main (F := Bits))) ⟨m, fun _ => 0, g⟩ (fun r => (∀ c : Dev Cert.DwOb.nD,
      r.2.mem ((c.tc : Thread Cert.DwOb.nD Cert.DwOb.τ).loc Cert.DwOb.main_arg0) = m ((c.tc : Thread Cert.DwOb.nD Cert.DwOb.τ).loc Cert.DwOb.main_arg0)
      ∧ r.2.mem ((c.tc : Thread Cert.DwOb.nD Cert.DwOb.τ).loc Cert.DwOb.main_arg1) = m ((c.tc : Thread Cert.DwOb.nD Cert.DwOb.τ).loc Cert.DwOb.main_arg1))
      ∧ r.2.sem = fun _ => 0)

def quiescent_DwObIdeal [hDwObIdeal : Cert.DwObIdeal.Facts] : Prop :=
  ∀ (m : (ℓ : Loc Cert.DwObIdeal.nD Cert.DwObIdeal.τ Cert.DwObIdeal.sig) → Buf (Elt Ideal) ℓ) (g : Dev Cert.DwObIdeal.nD → PrngReg), Pre_DwObIdeal m →
    θ_run (Cert.DwObIdeal.defs (F := Ideal)) (onTc (τ := Cert.DwObIdeal.τ) (Cert.DwObIdeal.main (F := Ideal))) ⟨m, fun _ => 0, g⟩ (fun r => (∀ c : Dev Cert.DwObIdeal.nD,
      r.2.mem ((c.tc : Thread Cert.DwObIdeal.nD Cert.DwObIdeal.τ).loc Cert.DwObIdeal.main_arg0) = m ((c.tc : Thread Cert.DwObIdeal.nD Cert.DwObIdeal.τ).loc Cert.DwObIdeal.main_arg0)
      ∧ r.2.mem ((c.tc : Thread Cert.DwObIdeal.nD Cert.DwObIdeal.τ).loc Cert.DwObIdeal.main_arg1) = m ((c.tc : Thread Cert.DwObIdeal.nD Cert.DwObIdeal.τ).loc Cert.DwObIdeal.main_arg1))
      ∧ r.2.sem = fun _ => 0)

def quiescent_DwObRefIdeal [hDwObRefIdeal : Cert.DwObRefIdeal.Facts] : Prop :=
  ∀ (m : (ℓ : Loc Cert.DwObRefIdeal.nD Cert.DwObRefIdeal.τ Cert.DwObRefIdeal.sig) → Buf (Elt Ideal) ℓ) (g : Dev Cert.DwObRefIdeal.nD → PrngReg), Pre_DwObRefIdeal m →
    θ_run (Cert.DwObRefIdeal.defs (F := Ideal)) (onTc (τ := Cert.DwObRefIdeal.τ) (Cert.DwObRefIdeal.main (F := Ideal))) ⟨m, fun _ => 0, g⟩ (fun r => (∀ c : Dev Cert.DwObRefIdeal.nD,
      r.2.mem ((c.tc : Thread Cert.DwObRefIdeal.nD Cert.DwObRefIdeal.τ).loc Cert.DwObRefIdeal.main_arg0) = m ((c.tc : Thread Cert.DwObRefIdeal.nD Cert.DwObRefIdeal.τ).loc Cert.DwObRefIdeal.main_arg0)
      ∧ r.2.mem ((c.tc : Thread Cert.DwObRefIdeal.nD Cert.DwObRefIdeal.τ).loc Cert.DwObRefIdeal.main_arg1) = m ((c.tc : Thread Cert.DwObRefIdeal.nD Cert.DwObRefIdeal.τ).loc Cert.DwObRefIdeal.main_arg1))
      ∧ r.2.sem = fun _ => 0)

def quiescent_DwSmall [hDwSmall : Cert.DwSmall.Facts] : Prop :=
  ∀ (m : (ℓ : Loc Cert.DwSmall.nD Cert.DwSmall.τ Cert.DwSmall.sig) → Buf (Elt Bits) ℓ) (g : Dev Cert.DwSmall.nD → PrngReg), Pre_DwSmall m →
    θ_run (Cert.DwSmall.defs (F := Bits)) (onTc (τ := Cert.DwSmall.τ) (Cert.DwSmall.main (F := Bits))) ⟨m, fun _ => 0, g⟩ (fun r => (∀ c : Dev Cert.DwSmall.nD,
      r.2.mem ((c.tc : Thread Cert.DwSmall.nD Cert.DwSmall.τ).loc Cert.DwSmall.main_arg0) = m ((c.tc : Thread Cert.DwSmall.nD Cert.DwSmall.τ).loc Cert.DwSmall.main_arg0)
      ∧ r.2.mem ((c.tc : Thread Cert.DwSmall.nD Cert.DwSmall.τ).loc Cert.DwSmall.main_arg1) = m ((c.tc : Thread Cert.DwSmall.nD Cert.DwSmall.τ).loc Cert.DwSmall.main_arg1))
      ∧ r.2.sem = fun _ => 0)

def quiescent_DwSmallIdeal [hDwSmallIdeal : Cert.DwSmallIdeal.Facts] : Prop :=
  ∀ (m : (ℓ : Loc Cert.DwSmallIdeal.nD Cert.DwSmallIdeal.τ Cert.DwSmallIdeal.sig) → Buf (Elt Ideal) ℓ) (g : Dev Cert.DwSmallIdeal.nD → PrngReg), Pre_DwSmallIdeal m →
    θ_run (Cert.DwSmallIdeal.defs (F := Ideal)) (onTc (τ := Cert.DwSmallIdeal.τ) (Cert.DwSmallIdeal.main (F := Ideal))) ⟨m, fun _ => 0, g⟩ (fun r => (∀ c : Dev Cert.DwSmallIdeal.nD,
      r.2.mem ((c.tc : Thread Cert.DwSmallIdeal.nD Cert.DwSmallIdeal.τ).loc Cert.DwSmallIdeal.main_arg0) = m ((c.tc : Thread Cert.DwSmallIdeal.nD Cert.DwSmallIdeal.τ).loc Cert.DwSmallIdeal.main_arg0)
      ∧ r.2.mem ((c.tc : Thread Cert.DwSmallIdeal.nD Cert.DwSmallIdeal.τ).loc Cert.DwSmallIdeal.main_arg1) = m ((c.tc : Thread Cert.DwSmallIdeal.nD Cert.DwSmallIdeal.τ).loc Cert.DwSmallIdeal.main_arg1))
      ∧ r.2.sem = fun _ => 0)

def quiescent_DwSmallRefIdeal [hDwSmallRefIdeal : Cert.DwSmallRefIdeal.Facts] : Prop :=
  ∀ (m : (ℓ : Loc Cert.DwSmallRefIdeal.nD Cert.DwSmallRefIdeal.τ Cert.DwSmallRefIdeal.sig) → Buf (Elt Ideal) ℓ) (g : Dev Cert.DwSmallRefIdeal.nD → PrngReg), Pre_DwSmallRefIdeal m →
    θ_run (Cert.DwSmallRefIdeal.defs (F := Ideal)) (onTc (τ := Cert.DwSmallRefIdeal.τ) (Cert.DwSmallRefIdeal.main (F := Ideal))) ⟨m, fun _ => 0, g⟩ (fun r => (∀ c : Dev Cert.DwSmallRefIdeal.nD,
      r.2.mem ((c.tc : Thread Cert.DwSmallRefIdeal.nD Cert.DwSmallRefIdeal.τ).loc Cert.DwSmallRefIdeal.main_arg0) = m ((c.tc : Thread Cert.DwSmallRefIdeal.nD Cert.DwSmallRefIdeal.τ).loc Cert.DwSmallRefIdeal.main_arg0)
      ∧ r.2.mem ((c.tc : Thread Cert.DwSmallRefIdeal.nD Cert.DwSmallRefIdeal.τ).loc Cert.DwSmallRefIdeal.main_arg1) = m ((c.tc : Thread Cert.DwSmallRefIdeal.nD Cert.DwSmallRefIdeal.τ).loc Cert.DwSmallRefIdeal.main_arg1))
      ∧ r.2.sem = fun _ => 0)

def quiescent_ProjGdn [hProjGdn : Cert.ProjGdn.Facts] : Prop :=
  ∀ (m : (ℓ : Loc Cert.ProjGdn.nD Cert.ProjGdn.τ Cert.ProjGdn.sig) → Buf (Elt Bits) ℓ) (g : Dev Cert.ProjGdn.nD → PrngReg), Pre_ProjGdn m →
    θ_run (Cert.ProjGdn.defs (F := Bits)) (onTc (τ := Cert.ProjGdn.τ) (Cert.ProjGdn.main (F := Bits))) ⟨m, fun _ => 0, g⟩ (fun r => (∀ c : Dev Cert.ProjGdn.nD,
      r.2.mem ((c.tc : Thread Cert.ProjGdn.nD Cert.ProjGdn.τ).loc Cert.ProjGdn.main_arg0) = m ((c.tc : Thread Cert.ProjGdn.nD Cert.ProjGdn.τ).loc Cert.ProjGdn.main_arg0)
      ∧ r.2.mem ((c.tc : Thread Cert.ProjGdn.nD Cert.ProjGdn.τ).loc Cert.ProjGdn.main_arg1) = m ((c.tc : Thread Cert.ProjGdn.nD Cert.ProjGdn.τ).loc Cert.ProjGdn.main_arg1))
      ∧ r.2.sem = fun _ => 0)

def quiescent_ProjGdnIdeal [hProjGdnIdeal : Cert.ProjGdnIdeal.Facts] : Prop :=
  ∀ (m : (ℓ : Loc Cert.ProjGdnIdeal.nD Cert.ProjGdnIdeal.τ Cert.ProjGdnIdeal.sig) → Buf (Elt Ideal) ℓ) (g : Dev Cert.ProjGdnIdeal.nD → PrngReg), Pre_ProjGdnIdeal m →
    θ_run (Cert.ProjGdnIdeal.defs (F := Ideal)) (onTc (τ := Cert.ProjGdnIdeal.τ) (Cert.ProjGdnIdeal.main (F := Ideal))) ⟨m, fun _ => 0, g⟩ (fun r => (∀ c : Dev Cert.ProjGdnIdeal.nD,
      r.2.mem ((c.tc : Thread Cert.ProjGdnIdeal.nD Cert.ProjGdnIdeal.τ).loc Cert.ProjGdnIdeal.main_arg0) = m ((c.tc : Thread Cert.ProjGdnIdeal.nD Cert.ProjGdnIdeal.τ).loc Cert.ProjGdnIdeal.main_arg0)
      ∧ r.2.mem ((c.tc : Thread Cert.ProjGdnIdeal.nD Cert.ProjGdnIdeal.τ).loc Cert.ProjGdnIdeal.main_arg1) = m ((c.tc : Thread Cert.ProjGdnIdeal.nD Cert.ProjGdnIdeal.τ).loc Cert.ProjGdnIdeal.main_arg1))
      ∧ r.2.sem = fun _ => 0)

def quiescent_ProjGdnRefIdeal [hProjGdnRefIdeal : Cert.ProjGdnRefIdeal.Facts] : Prop :=
  ∀ (m : (ℓ : Loc Cert.ProjGdnRefIdeal.nD Cert.ProjGdnRefIdeal.τ Cert.ProjGdnRefIdeal.sig) → Buf (Elt Ideal) ℓ) (g : Dev Cert.ProjGdnRefIdeal.nD → PrngReg), Pre_ProjGdnRefIdeal m →
    θ_run (Cert.ProjGdnRefIdeal.defs (F := Ideal)) (onTc (τ := Cert.ProjGdnRefIdeal.τ) (Cert.ProjGdnRefIdeal.main (F := Ideal))) ⟨m, fun _ => 0, g⟩ (fun r => (∀ c : Dev Cert.ProjGdnRefIdeal.nD,
      r.2.mem ((c.tc : Thread Cert.ProjGdnRefIdeal.nD Cert.ProjGdnRefIdeal.τ).loc Cert.ProjGdnRefIdeal.main_arg0) = m ((c.tc : Thread Cert.ProjGdnRefIdeal.nD Cert.ProjGdnRefIdeal.τ).loc Cert.ProjGdnRefIdeal.main_arg0)
      ∧ r.2.mem ((c.tc : Thread Cert.ProjGdnRefIdeal.nD Cert.ProjGdnRefIdeal.τ).loc Cert.ProjGdnRefIdeal.main_arg1) = m ((c.tc : Thread Cert.ProjGdnRefIdeal.nD Cert.ProjGdnRefIdeal.τ).loc Cert.ProjGdnRefIdeal.main_arg1))
      ∧ r.2.sem = fun _ => 0)

def quiescent_ProjFox [hProjFox : Cert.ProjFox.Facts] : Prop :=
  ∀ (m : (ℓ : Loc Cert.ProjFox.nD Cert.ProjFox.τ Cert.ProjFox.sig) → Buf (Elt Bits) ℓ) (g : Dev Cert.ProjFox.nD → PrngReg), Pre_ProjFox m →
    θ_run (Cert.ProjFox.defs (F := Bits)) (onTc (τ := Cert.ProjFox.τ) (Cert.ProjFox.main (F := Bits))) ⟨m, fun _ => 0, g⟩ (fun r => (∀ c : Dev Cert.ProjFox.nD,
      r.2.mem ((c.tc : Thread Cert.ProjFox.nD Cert.ProjFox.τ).loc Cert.ProjFox.main_arg0) = m ((c.tc : Thread Cert.ProjFox.nD Cert.ProjFox.τ).loc Cert.ProjFox.main_arg0)
      ∧ r.2.mem ((c.tc : Thread Cert.ProjFox.nD Cert.ProjFox.τ).loc Cert.ProjFox.main_arg1) = m ((c.tc : Thread Cert.ProjFox.nD Cert.ProjFox.τ).loc Cert.ProjFox.main_arg1))
      ∧ r.2.sem = fun _ => 0)

def quiescent_ProjFoxIdeal [hProjFoxIdeal : Cert.ProjFoxIdeal.Facts] : Prop :=
  ∀ (m : (ℓ : Loc Cert.ProjFoxIdeal.nD Cert.ProjFoxIdeal.τ Cert.ProjFoxIdeal.sig) → Buf (Elt Ideal) ℓ) (g : Dev Cert.ProjFoxIdeal.nD → PrngReg), Pre_ProjFoxIdeal m →
    θ_run (Cert.ProjFoxIdeal.defs (F := Ideal)) (onTc (τ := Cert.ProjFoxIdeal.τ) (Cert.ProjFoxIdeal.main (F := Ideal))) ⟨m, fun _ => 0, g⟩ (fun r => (∀ c : Dev Cert.ProjFoxIdeal.nD,
      r.2.mem ((c.tc : Thread Cert.ProjFoxIdeal.nD Cert.ProjFoxIdeal.τ).loc Cert.ProjFoxIdeal.main_arg0) = m ((c.tc : Thread Cert.ProjFoxIdeal.nD Cert.ProjFoxIdeal.τ).loc Cert.ProjFoxIdeal.main_arg0)
      ∧ r.2.mem ((c.tc : Thread Cert.ProjFoxIdeal.nD Cert.ProjFoxIdeal.τ).loc Cert.ProjFoxIdeal.main_arg1) = m ((c.tc : Thread Cert.ProjFoxIdeal.nD Cert.ProjFoxIdeal.τ).loc Cert.ProjFoxIdeal.main_arg1))
      ∧ r.2.sem = fun _ => 0)

def quiescent_ProjFoxRefIdeal [hProjFoxRefIdeal : Cert.ProjFoxRefIdeal.Facts] : Prop :=
  ∀ (m : (ℓ : Loc Cert.ProjFoxRefIdeal.nD Cert.ProjFoxRefIdeal.τ Cert.ProjFoxRefIdeal.sig) → Buf (Elt Ideal) ℓ) (g : Dev Cert.ProjFoxRefIdeal.nD → PrngReg), Pre_ProjFoxRefIdeal m →
    θ_run (Cert.ProjFoxRefIdeal.defs (F := Ideal)) (onTc (τ := Cert.ProjFoxRefIdeal.τ) (Cert.ProjFoxRefIdeal.main (F := Ideal))) ⟨m, fun _ => 0, g⟩ (fun r => (∀ c : Dev Cert.ProjFoxRefIdeal.nD,
      r.2.mem ((c.tc : Thread Cert.ProjFoxRefIdeal.nD Cert.ProjFoxRefIdeal.τ).loc Cert.ProjFoxRefIdeal.main_arg0) = m ((c.tc : Thread Cert.ProjFoxRefIdeal.nD Cert.ProjFoxRefIdeal.τ).loc Cert.ProjFoxRefIdeal.main_arg0)
      ∧ r.2.mem ((c.tc : Thread Cert.ProjFoxRefIdeal.nD Cert.ProjFoxRefIdeal.τ).loc Cert.ProjFoxRefIdeal.main_arg1) = m ((c.tc : Thread Cert.ProjFoxRefIdeal.nD Cert.ProjFoxRefIdeal.τ).loc Cert.ProjFoxRefIdeal.main_arg1))
      ∧ r.2.sem = fun _ => 0)

def quiescent_ProjGate [hProjGate : Cert.ProjGate.Facts] : Prop :=
  ∀ (m : (ℓ : Loc Cert.ProjGate.nD Cert.ProjGate.τ Cert.ProjGate.sig) → Buf (Elt Bits) ℓ) (g : Dev Cert.ProjGate.nD → PrngReg), Pre_ProjGate m →
    θ_run (Cert.ProjGate.defs (F := Bits)) (onTc (τ := Cert.ProjGate.τ) (Cert.ProjGate.main (F := Bits))) ⟨m, fun _ => 0, g⟩ (fun r => (∀ c : Dev Cert.ProjGate.nD,
      r.2.mem ((c.tc : Thread Cert.ProjGate.nD Cert.ProjGate.τ).loc Cert.ProjGate.main_arg0) = m ((c.tc : Thread Cert.ProjGate.nD Cert.ProjGate.τ).loc Cert.ProjGate.main_arg0)
      ∧ r.2.mem ((c.tc : Thread Cert.ProjGate.nD Cert.ProjGate.τ).loc Cert.ProjGate.main_arg1) = m ((c.tc : Thread Cert.ProjGate.nD Cert.ProjGate.τ).loc Cert.ProjGate.main_arg1))
      ∧ r.2.sem = fun _ => 0)

def quiescent_ProjGateIdeal [hProjGateIdeal : Cert.ProjGateIdeal.Facts] : Prop :=
  ∀ (m : (ℓ : Loc Cert.ProjGateIdeal.nD Cert.ProjGateIdeal.τ Cert.ProjGateIdeal.sig) → Buf (Elt Ideal) ℓ) (g : Dev Cert.ProjGateIdeal.nD → PrngReg), Pre_ProjGateIdeal m →
    θ_run (Cert.ProjGateIdeal.defs (F := Ideal)) (onTc (τ := Cert.ProjGateIdeal.τ) (Cert.ProjGateIdeal.main (F := Ideal))) ⟨m, fun _ => 0, g⟩ (fun r => (∀ c : Dev Cert.ProjGateIdeal.nD,
      r.2.mem ((c.tc : Thread Cert.ProjGateIdeal.nD Cert.ProjGateIdeal.τ).loc Cert.ProjGateIdeal.main_arg0) = m ((c.tc : Thread Cert.ProjGateIdeal.nD Cert.ProjGateIdeal.τ).loc Cert.ProjGateIdeal.main_arg0)
      ∧ r.2.mem ((c.tc : Thread Cert.ProjGateIdeal.nD Cert.ProjGateIdeal.τ).loc Cert.ProjGateIdeal.main_arg1) = m ((c.tc : Thread Cert.ProjGateIdeal.nD Cert.ProjGateIdeal.τ).loc Cert.ProjGateIdeal.main_arg1))
      ∧ r.2.sem = fun _ => 0)

def quiescent_ProjGateRefIdeal [hProjGateRefIdeal : Cert.ProjGateRefIdeal.Facts] : Prop :=
  ∀ (m : (ℓ : Loc Cert.ProjGateRefIdeal.nD Cert.ProjGateRefIdeal.τ Cert.ProjGateRefIdeal.sig) → Buf (Elt Ideal) ℓ) (g : Dev Cert.ProjGateRefIdeal.nD → PrngReg), Pre_ProjGateRefIdeal m →
    θ_run (Cert.ProjGateRefIdeal.defs (F := Ideal)) (onTc (τ := Cert.ProjGateRefIdeal.τ) (Cert.ProjGateRefIdeal.main (F := Ideal))) ⟨m, fun _ => 0, g⟩ (fun r => (∀ c : Dev Cert.ProjGateRefIdeal.nD,
      r.2.mem ((c.tc : Thread Cert.ProjGateRefIdeal.nD Cert.ProjGateRefIdeal.τ).loc Cert.ProjGateRefIdeal.main_arg0) = m ((c.tc : Thread Cert.ProjGateRefIdeal.nD Cert.ProjGateRefIdeal.τ).loc Cert.ProjGateRefIdeal.main_arg0)
      ∧ r.2.mem ((c.tc : Thread Cert.ProjGateRefIdeal.nD Cert.ProjGateRefIdeal.τ).loc Cert.ProjGateRefIdeal.main_arg1) = m ((c.tc : Thread Cert.ProjGateRefIdeal.nD Cert.ProjGateRefIdeal.τ).loc Cert.ProjGateRefIdeal.main_arg1))
      ∧ r.2.sem = fun _ => 0)

def quiescent_ProjSmall [hProjSmall : Cert.ProjSmall.Facts] : Prop :=
  ∀ (m : (ℓ : Loc Cert.ProjSmall.nD Cert.ProjSmall.τ Cert.ProjSmall.sig) → Buf (Elt Bits) ℓ) (g : Dev Cert.ProjSmall.nD → PrngReg), Pre_ProjSmall m →
    θ_run (Cert.ProjSmall.defs (F := Bits)) (onTc (τ := Cert.ProjSmall.τ) (Cert.ProjSmall.main (F := Bits))) ⟨m, fun _ => 0, g⟩ (fun r => (∀ c : Dev Cert.ProjSmall.nD,
      r.2.mem ((c.tc : Thread Cert.ProjSmall.nD Cert.ProjSmall.τ).loc Cert.ProjSmall.main_arg0) = m ((c.tc : Thread Cert.ProjSmall.nD Cert.ProjSmall.τ).loc Cert.ProjSmall.main_arg0)
      ∧ r.2.mem ((c.tc : Thread Cert.ProjSmall.nD Cert.ProjSmall.τ).loc Cert.ProjSmall.main_arg1) = m ((c.tc : Thread Cert.ProjSmall.nD Cert.ProjSmall.τ).loc Cert.ProjSmall.main_arg1))
      ∧ r.2.sem = fun _ => 0)

def quiescent_ProjSmallIdeal [hProjSmallIdeal : Cert.ProjSmallIdeal.Facts] : Prop :=
  ∀ (m : (ℓ : Loc Cert.ProjSmallIdeal.nD Cert.ProjSmallIdeal.τ Cert.ProjSmallIdeal.sig) → Buf (Elt Ideal) ℓ) (g : Dev Cert.ProjSmallIdeal.nD → PrngReg), Pre_ProjSmallIdeal m →
    θ_run (Cert.ProjSmallIdeal.defs (F := Ideal)) (onTc (τ := Cert.ProjSmallIdeal.τ) (Cert.ProjSmallIdeal.main (F := Ideal))) ⟨m, fun _ => 0, g⟩ (fun r => (∀ c : Dev Cert.ProjSmallIdeal.nD,
      r.2.mem ((c.tc : Thread Cert.ProjSmallIdeal.nD Cert.ProjSmallIdeal.τ).loc Cert.ProjSmallIdeal.main_arg0) = m ((c.tc : Thread Cert.ProjSmallIdeal.nD Cert.ProjSmallIdeal.τ).loc Cert.ProjSmallIdeal.main_arg0)
      ∧ r.2.mem ((c.tc : Thread Cert.ProjSmallIdeal.nD Cert.ProjSmallIdeal.τ).loc Cert.ProjSmallIdeal.main_arg1) = m ((c.tc : Thread Cert.ProjSmallIdeal.nD Cert.ProjSmallIdeal.τ).loc Cert.ProjSmallIdeal.main_arg1))
      ∧ r.2.sem = fun _ => 0)

def quiescent_ProjSmallRefIdeal [hProjSmallRefIdeal : Cert.ProjSmallRefIdeal.Facts] : Prop :=
  ∀ (m : (ℓ : Loc Cert.ProjSmallRefIdeal.nD Cert.ProjSmallRefIdeal.τ Cert.ProjSmallRefIdeal.sig) → Buf (Elt Ideal) ℓ) (g : Dev Cert.ProjSmallRefIdeal.nD → PrngReg), Pre_ProjSmallRefIdeal m →
    θ_run (Cert.ProjSmallRefIdeal.defs (F := Ideal)) (onTc (τ := Cert.ProjSmallRefIdeal.τ) (Cert.ProjSmallRefIdeal.main (F := Ideal))) ⟨m, fun _ => 0, g⟩ (fun r => (∀ c : Dev Cert.ProjSmallRefIdeal.nD,
      r.2.mem ((c.tc : Thread Cert.ProjSmallRefIdeal.nD Cert.ProjSmallRefIdeal.τ).loc Cert.ProjSmallRefIdeal.main_arg0) = m ((c.tc : Thread Cert.ProjSmallRefIdeal.nD Cert.ProjSmallRefIdeal.τ).loc Cert.ProjSmallRefIdeal.main_arg0)
      ∧ r.2.mem ((c.tc : Thread Cert.ProjSmallRefIdeal.nD Cert.ProjSmallRefIdeal.τ).loc Cert.ProjSmallRefIdeal.main_arg1) = m ((c.tc : Thread Cert.ProjSmallRefIdeal.nD Cert.ProjSmallRefIdeal.τ).loc Cert.ProjSmallRefIdeal.main_arg1))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1))
      ∧ r.2.sem = fun _ => 0)

def quiescent_ProjOut [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1)
      ∧ r.2.mem ((c.tc : Thread Cert.ProjOut.nD Cert.ProjOut.τ).loc Cert.ProjOut.main_arg2) = m ((c.tc : Thread Cert.ProjOut.nD Cert.ProjOut.τ).loc Cert.ProjOut.main_arg2))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
      ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2))
      ∧ r.2.sem = fun _ => 0)

def quiescent_ProjOutRefIdeal [hProjOutRefIdeal : Cert.ProjOutRefIdeal.Facts] : Prop :=
  ∀ (m : (ℓ : Loc Cert.ProjOutRefIdeal.nD Cert.ProjOutRefIdeal.τ Cert.ProjOutRefIdeal.sig) → Buf (Elt Ideal) ℓ) (g : Dev Cert.ProjOutRefIdeal.nD → PrngReg), Pre_ProjOutRefIdeal m →
    θ_run (Cert.ProjOutRefIdeal.defs (F := Ideal)) (onTc (τ := Cert.ProjOutRefIdeal.τ) (Cert.ProjOutRefIdeal.main (F := Ideal))) ⟨m, fun _ => 0, g⟩ (fun r => (∀ c : Dev Cert.ProjOutRefIdeal.nD,
      r.2.mem ((c.tc : Thread Cert.ProjOutRefIdeal.nD Cert.ProjOutRefIdeal.τ).loc Cert.ProjOutRefIdeal.main_arg0) = m ((c.tc : Thread Cert.ProjOutRefIdeal.nD Cert.ProjOutRefIdeal.τ).loc Cert.ProjOutRefIdeal.main_arg0)
      ∧ r.2.mem ((c.tc : Thread Cert.ProjOutRefIdeal.nD Cert.ProjOutRefIdeal.τ).loc Cert.ProjOutRefIdeal.main_arg1) = m ((c.tc : Thread Cert.ProjOutRefIdeal.nD Cert.ProjOutRefIdeal.τ).loc Cert.ProjOutRefIdeal.main_arg1)
      ∧ r.2.mem ((c.tc : Thread Cert.ProjOutRefIdeal.nD Cert.ProjOutRefIdeal.τ).loc Cert.ProjOutRefIdeal.main_arg2) = m ((c.tc : Thread Cert.ProjOutRefIdeal.nD Cert.ProjOutRefIdeal.τ).loc Cert.ProjOutRefIdeal.main_arg2))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2))
      ∧ r.2.sem = fun _ => 0)

def quiescent_Dmerge [hDmerge : Cert.Dmerge.Facts] : Prop :=
  ∀ (m : (ℓ : Loc Cert.Dmerge.nD Cert.Dmerge.τ Cert.Dmerge.sig) → Buf (Elt Bits) ℓ) (g : Dev Cert.Dmerge.nD → PrngReg), Pre_Dmerge m →
    θ_run (Cert.Dmerge.defs (F := Bits)) (onTc (τ := Cert.Dmerge.τ) (Cert.Dmerge.main (F := Bits))) ⟨m, fun _ => 0, g⟩ (fun r => (∀ c : Dev Cert.Dmerge.nD,
      r.2.mem ((c.tc : Thread Cert.Dmerge.nD Cert.Dmerge.τ).loc Cert.Dmerge.main_arg0) = m ((c.tc : Thread Cert.Dmerge.nD Cert.Dmerge.τ).loc Cert.Dmerge.main_arg0)
      ∧ r.2.mem ((c.tc : Thread Cert.Dmerge.nD Cert.Dmerge.τ).loc Cert.Dmerge.main_arg1) = m ((c.tc : Thread Cert.Dmerge.nD Cert.Dmerge.τ).loc Cert.Dmerge.main_arg1)
      ∧ r.2.mem ((c.tc : Thread Cert.Dmerge.nD Cert.Dmerge.τ).loc Cert.Dmerge.main_arg2) = m ((c.tc : Thread Cert.Dmerge.nD Cert.Dmerge.τ).loc Cert.Dmerge.main_arg2)
      ∧ r.2.mem ((c.tc : Thread Cert.Dmerge.nD Cert.Dmerge.τ).loc Cert.Dmerge.main_arg3) = m ((c.tc : Thread Cert.Dmerge.nD Cert.Dmerge.τ).loc Cert.Dmerge.main_arg3))
      ∧ r.2.sem = fun _ => 0)

def quiescent_DmergeIdeal [hDmergeIdeal : Cert.DmergeIdeal.Facts] : Prop :=
  ∀ (m : (ℓ : Loc Cert.DmergeIdeal.nD Cert.DmergeIdeal.τ Cert.DmergeIdeal.sig) → Buf (Elt Ideal) ℓ) (g : Dev Cert.DmergeIdeal.nD → PrngReg), Pre_DmergeIdeal m →
    θ_run (Cert.DmergeIdeal.defs (F := Ideal)) (onTc (τ := Cert.DmergeIdeal.τ) (Cert.DmergeIdeal.main (F := Ideal))) ⟨m, fun _ => 0, g⟩ (fun r => (∀ c : Dev Cert.DmergeIdeal.nD,
      r.2.mem ((c.tc : Thread Cert.DmergeIdeal.nD Cert.DmergeIdeal.τ).loc Cert.DmergeIdeal.main_arg0) = m ((c.tc : Thread Cert.DmergeIdeal.nD Cert.DmergeIdeal.τ).loc Cert.DmergeIdeal.main_arg0)
      ∧ r.2.mem ((c.tc : Thread Cert.DmergeIdeal.nD Cert.DmergeIdeal.τ).loc Cert.DmergeIdeal.main_arg1) = m ((c.tc : Thread Cert.DmergeIdeal.nD Cert.DmergeIdeal.τ).loc Cert.DmergeIdeal.main_arg1)
      ∧ r.2.mem ((c.tc : Thread Cert.DmergeIdeal.nD Cert.DmergeIdeal.τ).loc Cert.DmergeIdeal.main_arg2) = m ((c.tc : Thread Cert.DmergeIdeal.nD Cert.DmergeIdeal.τ).loc Cert.DmergeIdeal.main_arg2)
      ∧ r.2.mem ((c.tc : Thread Cert.DmergeIdeal.nD Cert.DmergeIdeal.τ).loc Cert.DmergeIdeal.main_arg3) = m ((c.tc : Thread Cert.DmergeIdeal.nD Cert.DmergeIdeal.τ).loc Cert.DmergeIdeal.main_arg3))
      ∧ r.2.sem = fun _ => 0)

def quiescent_DmergeRefIdeal [hDmergeRefIdeal : Cert.DmergeRefIdeal.Facts] : Prop :=
  ∀ (m : (ℓ : Loc Cert.DmergeRefIdeal.nD Cert.DmergeRefIdeal.τ Cert.DmergeRefIdeal.sig) → Buf (Elt Ideal) ℓ) (g : Dev Cert.DmergeRefIdeal.nD → PrngReg), Pre_DmergeRefIdeal m →
    θ_run (Cert.DmergeRefIdeal.defs (F := Ideal)) (onTc (τ := Cert.DmergeRefIdeal.τ) (Cert.DmergeRefIdeal.main (F := Ideal))) ⟨m, fun _ => 0, g⟩ (fun r => (∀ c : Dev Cert.DmergeRefIdeal.nD,
      r.2.mem ((c.tc : Thread Cert.DmergeRefIdeal.nD Cert.DmergeRefIdeal.τ).loc Cert.DmergeRefIdeal.main_arg0) = m ((c.tc : Thread Cert.DmergeRefIdeal.nD Cert.DmergeRefIdeal.τ).loc Cert.DmergeRefIdeal.main_arg0)
      ∧ r.2.mem ((c.tc : Thread Cert.DmergeRefIdeal.nD Cert.DmergeRefIdeal.τ).loc Cert.DmergeRefIdeal.main_arg1) = m ((c.tc : Thread Cert.DmergeRefIdeal.nD Cert.DmergeRefIdeal.τ).loc Cert.DmergeRefIdeal.main_arg1)
      ∧ r.2.mem ((c.tc : Thread Cert.DmergeRefIdeal.nD Cert.DmergeRefIdeal.τ).loc Cert.DmergeRefIdeal.main_arg2) = m ((c.tc : Thread Cert.DmergeRefIdeal.nD Cert.DmergeRefIdeal.τ).loc Cert.DmergeRefIdeal.main_arg2)
      ∧ r.2.mem ((c.tc : Thread Cert.DmergeRefIdeal.nD Cert.DmergeRefIdeal.τ).loc Cert.DmergeRefIdeal.main_arg3) = m ((c.tc : Thread Cert.DmergeRefIdeal.nD Cert.DmergeRefIdeal.τ).loc Cert.DmergeRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_ToBf16 [hToBf16 : Cert.ToBf16.Facts] : Prop :=
  ∀ (m : (ℓ : Loc Cert.ToBf16.nD Cert.ToBf16.τ Cert.ToBf16.sig) → Buf (Elt Bits) ℓ) (g : Dev Cert.ToBf16.nD → PrngReg), Pre_ToBf16 m →
    θ_run (Cert.ToBf16.defs (F := Bits)) (onTc (τ := Cert.ToBf16.τ) (Cert.ToBf16.main (F := Bits))) ⟨m, fun _ => 0, g⟩ (fun r => (∀ c : Dev Cert.ToBf16.nD,
      r.2.mem ((c.tc : Thread Cert.ToBf16.nD Cert.ToBf16.τ).loc Cert.ToBf16.main_arg0) = m ((c.tc : Thread Cert.ToBf16.nD Cert.ToBf16.τ).loc Cert.ToBf16.main_arg0)
      ∧ r.2.mem ((c.tc : Thread Cert.ToBf16.nD Cert.ToBf16.τ).loc Cert.ToBf16.main_arg1) = m ((c.tc : Thread Cert.ToBf16.nD Cert.ToBf16.τ).loc Cert.ToBf16.main_arg1)
      ∧ r.2.mem ((c.tc : Thread Cert.ToBf16.nD Cert.ToBf16.τ).loc Cert.ToBf16.main_arg2) = m ((c.tc : Thread Cert.ToBf16.nD Cert.ToBf16.τ).loc Cert.ToBf16.main_arg2)
      ∧ r.2.mem ((c.tc : Thread Cert.ToBf16.nD Cert.ToBf16.τ).loc Cert.ToBf16.main_arg3) = m ((c.tc : Thread Cert.ToBf16.nD Cert.ToBf16.τ).loc Cert.ToBf16.main_arg3)
      ∧ r.2.mem ((c.tc : Thread Cert.ToBf16.nD Cert.ToBf16.τ).loc Cert.ToBf16.main_arg4) = m ((c.tc : Thread Cert.ToBf16.nD Cert.ToBf16.τ).loc Cert.ToBf16.main_arg4)
      ∧ r.2.mem ((c.tc : Thread Cert.ToBf16.nD Cert.ToBf16.τ).loc Cert.ToBf16.main_arg5) = m ((c.tc : Thread Cert.ToBf16.nD Cert.ToBf16.τ).loc Cert.ToBf16.main_arg5))
      ∧ r.2.sem = fun _ => 0)

def quiescent_ToBf16Ideal [hToBf16Ideal : Cert.ToBf16Ideal.Facts] : Prop :=
  ∀ (m : (ℓ : Loc Cert.ToBf16Ideal.nD Cert.ToBf16Ideal.τ Cert.ToBf16Ideal.sig) → Buf (Elt Ideal) ℓ) (g : Dev Cert.ToBf16Ideal.nD → PrngReg), Pre_ToBf16Ideal m →
    θ_run (Cert.ToBf16Ideal.defs (F := Ideal)) (onTc (τ := Cert.ToBf16Ideal.τ) (Cert.ToBf16Ideal.main (F := Ideal))) ⟨m, fun _ => 0, g⟩ (fun r => (∀ c : Dev Cert.ToBf16Ideal.nD,
      r.2.mem ((c.tc : Thread Cert.ToBf16Ideal.nD Cert.ToBf16Ideal.τ).loc Cert.ToBf16Ideal.main_arg0) = m ((c.tc : Thread Cert.ToBf16Ideal.nD Cert.ToBf16Ideal.τ).loc Cert.ToBf16Ideal.main_arg0)
      ∧ r.2.mem ((c.tc : Thread Cert.ToBf16Ideal.nD Cert.ToBf16Ideal.τ).loc Cert.ToBf16Ideal.main_arg1) = m ((c.tc : Thread Cert.ToBf16Ideal.nD Cert.ToBf16Ideal.τ).loc Cert.ToBf16Ideal.main_arg1)
      ∧ r.2.mem ((c.tc : Thread Cert.ToBf16Ideal.nD Cert.ToBf16Ideal.τ).loc Cert.ToBf16Ideal.main_arg2) = m ((c.tc : Thread Cert.ToBf16Ideal.nD Cert.ToBf16Ideal.τ).loc Cert.ToBf16Ideal.main_arg2)
      ∧ r.2.mem ((c.tc : Thread Cert.ToBf16Ideal.nD Cert.ToBf16Ideal.τ).loc Cert.ToBf16Ideal.main_arg3) = m ((c.tc : Thread Cert.ToBf16Ideal.nD Cert.ToBf16Ideal.τ).loc Cert.ToBf16Ideal.main_arg3)
      ∧ r.2.mem ((c.tc : Thread Cert.ToBf16Ideal.nD Cert.ToBf16Ideal.τ).loc Cert.ToBf16Ideal.main_arg4) = m ((c.tc : Thread Cert.ToBf16Ideal.nD Cert.ToBf16Ideal.τ).loc Cert.ToBf16Ideal.main_arg4)
      ∧ r.2.mem ((c.tc : Thread Cert.ToBf16Ideal.nD Cert.ToBf16Ideal.τ).loc Cert.ToBf16Ideal.main_arg5) = m ((c.tc : Thread Cert.ToBf16Ideal.nD Cert.ToBf16Ideal.τ).loc Cert.ToBf16Ideal.main_arg5))
      ∧ r.2.sem = fun _ => 0)

def quiescent_ToBf16RefIdeal [hToBf16RefIdeal : Cert.ToBf16RefIdeal.Facts] : Prop :=
  ∀ (m : (ℓ : Loc Cert.ToBf16RefIdeal.nD Cert.ToBf16RefIdeal.τ Cert.ToBf16RefIdeal.sig) → Buf (Elt Ideal) ℓ) (g : Dev Cert.ToBf16RefIdeal.nD → PrngReg), Pre_ToBf16RefIdeal m →
    θ_run (Cert.ToBf16RefIdeal.defs (F := Ideal)) (onTc (τ := Cert.ToBf16RefIdeal.τ) (Cert.ToBf16RefIdeal.main (F := Ideal))) ⟨m, fun _ => 0, g⟩ (fun r => (∀ c : Dev Cert.ToBf16RefIdeal.nD,
      r.2.mem ((c.tc : Thread Cert.ToBf16RefIdeal.nD Cert.ToBf16RefIdeal.τ).loc Cert.ToBf16RefIdeal.main_arg0) = m ((c.tc : Thread Cert.ToBf16RefIdeal.nD Cert.ToBf16RefIdeal.τ).loc Cert.ToBf16RefIdeal.main_arg0)
      ∧ r.2.mem ((c.tc : Thread Cert.ToBf16RefIdeal.nD Cert.ToBf16RefIdeal.τ).loc Cert.ToBf16RefIdeal.main_arg1) = m ((c.tc : Thread Cert.ToBf16RefIdeal.nD Cert.ToBf16RefIdeal.τ).loc Cert.ToBf16RefIdeal.main_arg1)
      ∧ r.2.mem ((c.tc : Thread Cert.ToBf16RefIdeal.nD Cert.ToBf16RefIdeal.τ).loc Cert.ToBf16RefIdeal.main_arg2) = m ((c.tc : Thread Cert.ToBf16RefIdeal.nD Cert.ToBf16RefIdeal.τ).loc Cert.ToBf16RefIdeal.main_arg2)
      ∧ r.2.mem ((c.tc : Thread Cert.ToBf16RefIdeal.nD Cert.ToBf16RefIdeal.τ).loc Cert.ToBf16RefIdeal.main_arg3) = m ((c.tc : Thread Cert.ToBf16RefIdeal.nD Cert.ToBf16RefIdeal.τ).loc Cert.ToBf16RefIdeal.main_arg3)
      ∧ r.2.mem ((c.tc : Thread Cert.ToBf16RefIdeal.nD Cert.ToBf16RefIdeal.τ).loc Cert.ToBf16RefIdeal.main_arg4) = m ((c.tc : Thread Cert.ToBf16RefIdeal.nD Cert.ToBf16RefIdeal.τ).loc Cert.ToBf16RefIdeal.main_arg4)
      ∧ r.2.mem ((c.tc : Thread Cert.ToBf16RefIdeal.nD Cert.ToBf16RefIdeal.τ).loc Cert.ToBf16RefIdeal.main_arg5) = m ((c.tc : Thread Cert.ToBf16RefIdeal.nD Cert.ToBf16RefIdeal.τ).loc Cert.ToBf16RefIdeal.main_arg5))
      ∧ r.2.sem = fun _ => 0)

def quiescent_Pieces [hPieces : Cert.Pieces.Facts] : Prop :=
  ∀ (m : (ℓ : Loc Cert.Pieces.nD Cert.Pieces.τ Cert.Pieces.sig) → Buf (Elt Bits) ℓ) (g : Dev Cert.Pieces.nD → PrngReg), Pre_Pieces m →
    θ_run (Cert.Pieces.defs (F := Bits)) (onTc (τ := Cert.Pieces.τ) (Cert.Pieces.main (F := Bits))) ⟨m, fun _ => 0, g⟩ (fun r => (∀ c : Dev Cert.Pieces.nD,
      r.2.mem ((c.tc : Thread Cert.Pieces.nD Cert.Pieces.τ).loc Cert.Pieces.main_arg0) = m ((c.tc : Thread Cert.Pieces.nD Cert.Pieces.τ).loc Cert.Pieces.main_arg0))
      ∧ r.2.sem = fun _ => 0)

def quiescent_PiecesIdeal [hPiecesIdeal : Cert.PiecesIdeal.Facts] : Prop :=
  ∀ (m : (ℓ : Loc Cert.PiecesIdeal.nD Cert.PiecesIdeal.τ Cert.PiecesIdeal.sig) → Buf (Elt Ideal) ℓ) (g : Dev Cert.PiecesIdeal.nD → PrngReg), Pre_PiecesIdeal m →
    θ_run (Cert.PiecesIdeal.defs (F := Ideal)) (onTc (τ := Cert.PiecesIdeal.τ) (Cert.PiecesIdeal.main (F := Ideal))) ⟨m, fun _ => 0, g⟩ (fun r => (∀ c : Dev Cert.PiecesIdeal.nD,
      r.2.mem ((c.tc : Thread Cert.PiecesIdeal.nD Cert.PiecesIdeal.τ).loc Cert.PiecesIdeal.main_arg0) = m ((c.tc : Thread Cert.PiecesIdeal.nD Cert.PiecesIdeal.τ).loc Cert.PiecesIdeal.main_arg0))
      ∧ r.2.sem = fun _ => 0)

def quiescent_PiecesRefIdeal [hPiecesRefIdeal : Cert.PiecesRefIdeal.Facts] : Prop :=
  ∀ (m : (ℓ : Loc Cert.PiecesRefIdeal.nD Cert.PiecesRefIdeal.τ Cert.PiecesRefIdeal.sig) → Buf (Elt Ideal) ℓ) (g : Dev Cert.PiecesRefIdeal.nD → PrngReg), Pre_PiecesRefIdeal m →
    θ_run (Cert.PiecesRefIdeal.defs (F := Ideal)) (onTc (τ := Cert.PiecesRefIdeal.τ) (Cert.PiecesRefIdeal.main (F := Ideal))) ⟨m, fun _ => 0, g⟩ (fun r => (∀ c : Dev Cert.PiecesRefIdeal.nD,
      r.2.mem ((c.tc : Thread Cert.PiecesRefIdeal.nD Cert.PiecesRefIdeal.τ).loc Cert.PiecesRefIdeal.main_arg0) = m ((c.tc : Thread Cert.PiecesRefIdeal.nD Cert.PiecesRefIdeal.τ).loc Cert.PiecesRefIdeal.main_arg0))
      ∧ r.2.sem = fun _ => 0)

def quiescent_Shards [hShards : Cert.Shards.Facts] : Prop :=
  ∀ (m : (ℓ : Loc Cert.Shards.nD Cert.Shards.τ Cert.Shards.sig) → Buf (Elt Bits) ℓ) (g : Dev Cert.Shards.nD → PrngReg), Pre_Shards m →
    θ_run (Cert.Shards.defs (F := Bits)) (onTc (τ := Cert.Shards.τ) (Cert.Shards.main (F := Bits))) ⟨m, fun _ => 0, g⟩ (fun r => (∀ c : Dev Cert.Shards.nD,
      r.2.mem ((c.tc : Thread Cert.Shards.nD Cert.Shards.τ).loc Cert.Shards.main_arg0) = m ((c.tc : Thread Cert.Shards.nD Cert.Shards.τ).loc Cert.Shards.main_arg0)
      ∧ r.2.mem ((c.tc : Thread Cert.Shards.nD Cert.Shards.τ).loc Cert.Shards.main_arg1) = m ((c.tc : Thread Cert.Shards.nD Cert.Shards.τ).loc Cert.Shards.main_arg1)
      ∧ r.2.mem ((c.tc : Thread Cert.Shards.nD Cert.Shards.τ).loc Cert.Shards.main_arg2) = m ((c.tc : Thread Cert.Shards.nD Cert.Shards.τ).loc Cert.Shards.main_arg2)
      ∧ r.2.mem ((c.tc : Thread Cert.Shards.nD Cert.Shards.τ).loc Cert.Shards.main_arg3) = m ((c.tc : Thread Cert.Shards.nD Cert.Shards.τ).loc Cert.Shards.main_arg3)
      ∧ r.2.mem ((c.tc : Thread Cert.Shards.nD Cert.Shards.τ).loc Cert.Shards.main_arg4) = m ((c.tc : Thread Cert.Shards.nD Cert.Shards.τ).loc Cert.Shards.main_arg4)
      ∧ r.2.mem ((c.tc : Thread Cert.Shards.nD Cert.Shards.τ).loc Cert.Shards.main_arg5) = m ((c.tc : Thread Cert.Shards.nD Cert.Shards.τ).loc Cert.Shards.main_arg5)
      ∧ r.2.mem ((c.tc : Thread Cert.Shards.nD Cert.Shards.τ).loc Cert.Shards.main_arg6) = m ((c.tc : Thread Cert.Shards.nD Cert.Shards.τ).loc Cert.Shards.main_arg6)
      ∧ r.2.mem ((c.tc : Thread Cert.Shards.nD Cert.Shards.τ).loc Cert.Shards.main_arg7) = m ((c.tc : Thread Cert.Shards.nD Cert.Shards.τ).loc Cert.Shards.main_arg7)
      ∧ r.2.mem ((c.tc : Thread Cert.Shards.nD Cert.Shards.τ).loc Cert.Shards.main_arg8) = m ((c.tc : Thread Cert.Shards.nD Cert.Shards.τ).loc Cert.Shards.main_arg8)
      ∧ r.2.mem ((c.tc : Thread Cert.Shards.nD Cert.Shards.τ).loc Cert.Shards.main_arg9) = m ((c.tc : Thread Cert.Shards.nD Cert.Shards.τ).loc Cert.Shards.main_arg9))
      ∧ r.2.sem = fun _ => 0)

def quiescent_ShardsIdeal [hShardsIdeal : Cert.ShardsIdeal.Facts] : Prop :=
  ∀ (m : (ℓ : Loc Cert.ShardsIdeal.nD Cert.ShardsIdeal.τ Cert.ShardsIdeal.sig) → Buf (Elt Ideal) ℓ) (g : Dev Cert.ShardsIdeal.nD → PrngReg), Pre_ShardsIdeal m →
    θ_run (Cert.ShardsIdeal.defs (F := Ideal)) (onTc (τ := Cert.ShardsIdeal.τ) (Cert.ShardsIdeal.main (F := Ideal))) ⟨m, fun _ => 0, g⟩ (fun r => (∀ c : Dev Cert.ShardsIdeal.nD,
      r.2.mem ((c.tc : Thread Cert.ShardsIdeal.nD Cert.ShardsIdeal.τ).loc Cert.ShardsIdeal.main_arg0) = m ((c.tc : Thread Cert.ShardsIdeal.nD Cert.ShardsIdeal.τ).loc Cert.ShardsIdeal.main_arg0)
      ∧ r.2.mem ((c.tc : Thread Cert.ShardsIdeal.nD Cert.ShardsIdeal.τ).loc Cert.ShardsIdeal.main_arg1) = m ((c.tc : Thread Cert.ShardsIdeal.nD Cert.ShardsIdeal.τ).loc Cert.ShardsIdeal.main_arg1)
      ∧ r.2.mem ((c.tc : Thread Cert.ShardsIdeal.nD Cert.ShardsIdeal.τ).loc Cert.ShardsIdeal.main_arg2) = m ((c.tc : Thread Cert.ShardsIdeal.nD Cert.ShardsIdeal.τ).loc Cert.ShardsIdeal.main_arg2)
      ∧ r.2.mem ((c.tc : Thread Cert.ShardsIdeal.nD Cert.ShardsIdeal.τ).loc Cert.ShardsIdeal.main_arg3) = m ((c.tc : Thread Cert.ShardsIdeal.nD Cert.ShardsIdeal.τ).loc Cert.ShardsIdeal.main_arg3)
      ∧ r.2.mem ((c.tc : Thread Cert.ShardsIdeal.nD Cert.ShardsIdeal.τ).loc Cert.ShardsIdeal.main_arg4) = m ((c.tc : Thread Cert.ShardsIdeal.nD Cert.ShardsIdeal.τ).loc Cert.ShardsIdeal.main_arg4)
      ∧ r.2.mem ((c.tc : Thread Cert.ShardsIdeal.nD Cert.ShardsIdeal.τ).loc Cert.ShardsIdeal.main_arg5) = m ((c.tc : Thread Cert.ShardsIdeal.nD Cert.ShardsIdeal.τ).loc Cert.ShardsIdeal.main_arg5)
      ∧ r.2.mem ((c.tc : Thread Cert.ShardsIdeal.nD Cert.ShardsIdeal.τ).loc Cert.ShardsIdeal.main_arg6) = m ((c.tc : Thread Cert.ShardsIdeal.nD Cert.ShardsIdeal.τ).loc Cert.ShardsIdeal.main_arg6)
      ∧ r.2.mem ((c.tc : Thread Cert.ShardsIdeal.nD Cert.ShardsIdeal.τ).loc Cert.ShardsIdeal.main_arg7) = m ((c.tc : Thread Cert.ShardsIdeal.nD Cert.ShardsIdeal.τ).loc Cert.ShardsIdeal.main_arg7)
      ∧ r.2.mem ((c.tc : Thread Cert.ShardsIdeal.nD Cert.ShardsIdeal.τ).loc Cert.ShardsIdeal.main_arg8) = m ((c.tc : Thread Cert.ShardsIdeal.nD Cert.ShardsIdeal.τ).loc Cert.ShardsIdeal.main_arg8)
      ∧ r.2.mem ((c.tc : Thread Cert.ShardsIdeal.nD Cert.ShardsIdeal.τ).loc Cert.ShardsIdeal.main_arg9) = m ((c.tc : Thread Cert.ShardsIdeal.nD Cert.ShardsIdeal.τ).loc Cert.ShardsIdeal.main_arg9))
      ∧ r.2.sem = fun _ => 0)

def quiescent_ShardsRefIdeal [hShardsRefIdeal : Cert.ShardsRefIdeal.Facts] : Prop :=
  ∀ (m : (ℓ : Loc Cert.ShardsRefIdeal.nD Cert.ShardsRefIdeal.τ Cert.ShardsRefIdeal.sig) → Buf (Elt Ideal) ℓ) (g : Dev Cert.ShardsRefIdeal.nD → PrngReg), Pre_ShardsRefIdeal m →
    θ_run (Cert.ShardsRefIdeal.defs (F := Ideal)) (onTc (τ := Cert.ShardsRefIdeal.τ) (Cert.ShardsRefIdeal.main (F := Ideal))) ⟨m, fun _ => 0, g⟩ (fun r => (∀ c : Dev Cert.ShardsRefIdeal.nD,
      r.2.mem ((c.tc : Thread Cert.ShardsRefIdeal.nD Cert.ShardsRefIdeal.τ).loc Cert.ShardsRefIdeal.main_arg0) = m ((c.tc : Thread Cert.ShardsRefIdeal.nD Cert.ShardsRefIdeal.τ).loc Cert.ShardsRefIdeal.main_arg0)
      ∧ r.2.mem ((c.tc : Thread Cert.ShardsRefIdeal.nD Cert.ShardsRefIdeal.τ).loc Cert.ShardsRefIdeal.main_arg1) = m ((c.tc : Thread Cert.ShardsRefIdeal.nD Cert.ShardsRefIdeal.τ).loc Cert.ShardsRefIdeal.main_arg1)
      ∧ r.2.mem ((c.tc : Thread Cert.ShardsRefIdeal.nD Cert.ShardsRefIdeal.τ).loc Cert.ShardsRefIdeal.main_arg2) = m ((c.tc : Thread Cert.ShardsRefIdeal.nD Cert.ShardsRefIdeal.τ).loc Cert.ShardsRefIdeal.main_arg2)
      ∧ r.2.mem ((c.tc : Thread Cert.ShardsRefIdeal.nD Cert.ShardsRefIdeal.τ).loc Cert.ShardsRefIdeal.main_arg3) = m ((c.tc : Thread Cert.ShardsRefIdeal.nD Cert.ShardsRefIdeal.τ).loc Cert.ShardsRefIdeal.main_arg3)
      ∧ r.2.mem ((c.tc : Thread Cert.ShardsRefIdeal.nD Cert.ShardsRefIdeal.τ).loc Cert.ShardsRefIdeal.main_arg4) = m ((c.tc : Thread Cert.ShardsRefIdeal.nD Cert.ShardsRefIdeal.τ).loc Cert.ShardsRefIdeal.main_arg4)
      ∧ r.2.mem ((c.tc : Thread Cert.ShardsRefIdeal.nD Cert.ShardsRefIdeal.τ).loc Cert.ShardsRefIdeal.main_arg5) = m ((c.tc : Thread Cert.ShardsRefIdeal.nD Cert.ShardsRefIdeal.τ).loc Cert.ShardsRefIdeal.main_arg5)
      ∧ r.2.mem ((c.tc : Thread Cert.ShardsRefIdeal.nD Cert.ShardsRefIdeal.τ).loc Cert.ShardsRefIdeal.main_arg6) = m ((c.tc : Thread Cert.ShardsRefIdeal.nD Cert.ShardsRefIdeal.τ).loc Cert.ShardsRefIdeal.main_arg6)
      ∧ r.2.mem ((c.tc : Thread Cert.ShardsRefIdeal.nD Cert.ShardsRefIdeal.τ).loc Cert.ShardsRefIdeal.main_arg7) = m ((c.tc : Thread Cert.ShardsRefIdeal.nD Cert.ShardsRefIdeal.τ).loc Cert.ShardsRefIdeal.main_arg7)
      ∧ r.2.mem ((c.tc : Thread Cert.ShardsRefIdeal.nD Cert.ShardsRefIdeal.τ).loc Cert.ShardsRefIdeal.main_arg8) = m ((c.tc : Thread Cert.ShardsRefIdeal.nD Cert.ShardsRefIdeal.τ).loc Cert.ShardsRefIdeal.main_arg8)
      ∧ r.2.mem ((c.tc : Thread Cert.ShardsRefIdeal.nD Cert.ShardsRefIdeal.τ).loc Cert.ShardsRefIdeal.main_arg9) = m ((c.tc : Thread Cert.ShardsRefIdeal.nD Cert.ShardsRefIdeal.τ).loc Cert.ShardsRefIdeal.main_arg9))
      ∧ r.2.sem = fun _ => 0)

def quiescent_AdamIn [hAdamIn : Cert.AdamIn.Facts] [hPre_slot_in : Cert.Pre_slot_in.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5))
      ∧ r.2.sem = fun _ => 0)

def quiescent_AdamInIdeal [hAdamInIdeal : Cert.AdamInIdeal.Facts] [hPre_slot_in : Cert.Pre_slot_in.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5))
      ∧ r.2.sem = fun _ => 0)

def quiescent_AdamInRefIdeal_pre_slot_in [hAdamInRefIdeal : Cert.AdamInRefIdeal.Facts] [hPre_slot_in : Cert.Pre_slot_in.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal_slot_in m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5))
      ∧ r.2.sem = fun _ => 0)

def quiescent_AdamProj [hAdamProj : Cert.AdamProj.Facts] [hPre_slot_proj : Cert.Pre_slot_proj.Facts] : Prop :=
  ∀ (m : (ℓ : Loc Cert.AdamProj.nD Cert.AdamProj.τ Cert.AdamProj.sig) → Buf (Elt Bits) ℓ) (g : Dev Cert.AdamProj.nD → PrngReg), Pre_AdamProj m →
    θ_run (Cert.AdamProj.defs (F := Bits)) (onTc (τ := Cert.AdamProj.τ) (Cert.AdamProj.main (F := Bits))) ⟨m, fun _ => 0, g⟩ (fun r => (∀ c : Dev Cert.AdamProj.nD,
      r.2.mem ((c.tc : Thread Cert.AdamProj.nD Cert.AdamProj.τ).loc Cert.AdamProj.main_arg0) = m ((c.tc : Thread Cert.AdamProj.nD Cert.AdamProj.τ).loc Cert.AdamProj.main_arg0)
      ∧ r.2.mem ((c.tc : Thread Cert.AdamProj.nD Cert.AdamProj.τ).loc Cert.AdamProj.main_arg1) = m ((c.tc : Thread Cert.AdamProj.nD Cert.AdamProj.τ).loc Cert.AdamProj.main_arg1)
      ∧ r.2.mem ((c.tc : Thread Cert.AdamProj.nD Cert.AdamProj.τ).loc Cert.AdamProj.main_arg2) = m ((c.tc : Thread Cert.AdamProj.nD Cert.AdamProj.τ).loc Cert.AdamProj.main_arg2)
      ∧ r.2.mem ((c.tc : Thread Cert.AdamProj.nD Cert.AdamProj.τ).loc Cert.AdamProj.main_arg3) = m ((c.tc : Thread Cert.AdamProj.nD Cert.AdamProj.τ).loc Cert.AdamProj.main_arg3)
      ∧ r.2.mem ((c.tc : Thread Cert.AdamProj.nD Cert.AdamProj.τ).loc Cert.AdamProj.main_arg4) = m ((c.tc : Thread Cert.AdamProj.nD Cert.AdamProj.τ).loc Cert.AdamProj.main_arg4)
      ∧ r.2.mem ((c.tc : Thread Cert.AdamProj.nD Cert.AdamProj.τ).loc Cert.AdamProj.main_arg5) = m ((c.tc : Thread Cert.AdamProj.nD Cert.AdamProj.τ).loc Cert.AdamProj.main_arg5))
      ∧ r.2.sem = fun _ => 0)

def quiescent_AdamProjIdeal [hAdamProjIdeal : Cert.AdamProjIdeal.Facts] [hPre_slot_proj : Cert.Pre_slot_proj.Facts] : Prop :=
  ∀ (m : (ℓ : Loc Cert.AdamProjIdeal.nD Cert.AdamProjIdeal.τ Cert.AdamProjIdeal.sig) → Buf (Elt Ideal) ℓ) (g : Dev Cert.AdamProjIdeal.nD → PrngReg), Pre_AdamProjIdeal m →
    θ_run (Cert.AdamProjIdeal.defs (F := Ideal)) (onTc (τ := Cert.AdamProjIdeal.τ) (Cert.AdamProjIdeal.main (F := Ideal))) ⟨m, fun _ => 0, g⟩ (fun r => (∀ c : Dev Cert.AdamProjIdeal.nD,
      r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
      ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
      ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
      ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3)
      ∧ r.2.mem ((c.tc : Thread Cert.AdamProjIdeal.nD Cert.AdamProjIdeal.τ).loc Cert.AdamProjIdeal.main_arg4) = m ((c.tc : Thread Cert.AdamProjIdeal.nD Cert.AdamProjIdeal.τ).loc Cert.AdamProjIdeal.main_arg4)
      ∧ r.2.mem ((c.tc : Thread Cert.AdamProjIdeal.nD Cert.AdamProjIdeal.τ).loc Cert.AdamProjIdeal.main_arg5) = m ((c.tc : Thread Cert.AdamProjIdeal.nD Cert.AdamProjIdeal.τ).loc Cert.AdamProjIdeal.main_arg5))
      ∧ r.2.sem = fun _ => 0)

def quiescent_AdamProjRefIdeal [hAdamProjRefIdeal : Cert.AdamProjRefIdeal.Facts] : Prop :=
  ∀ (m : (ℓ : Loc Cert.AdamProjRefIdeal.nD Cert.AdamProjRefIdeal.τ Cert.AdamProjRefIdeal.sig) → Buf (Elt Ideal) ℓ) (g : Dev Cert.AdamProjRefIdeal.nD → PrngReg), Pre_AdamProjRefIdeal m →
    θ_run (Cert.AdamProjRefIdeal.defs (F := Ideal)) (onTc (τ := Cert.AdamProjRefIdeal.τ) (Cert.AdamProjRefIdeal.main (F := Ideal))) ⟨m, fun _ => 0, g⟩ (fun r => (∀ c : Dev Cert.AdamProjRefIdeal.nD,
      r.2.mem ((c.tc : Thread Cert.AdamProjRefIdeal.nD Cert.AdamProjRefIdeal.τ).loc Cert.AdamProjRefIdeal.main_arg0) = m ((c.tc : Thread Cert.AdamProjRefIdeal.nD Cert.AdamProjRefIdeal.τ).loc Cert.AdamProjRefIdeal.main_arg0)
      ∧ r.2.mem ((c.tc : Thread Cert.AdamProjRefIdeal.nD Cert.AdamProjRefIdeal.τ).loc Cert.AdamProjRefIdeal.main_arg1) = m ((c.tc : Thread Cert.AdamProjRefIdeal.nD Cert.AdamProjRefIdeal.τ).loc Cert.AdamProjRefIdeal.main_arg1)
      ∧ r.2.mem ((c.tc : Thread Cert.AdamProjRefIdeal.nD Cert.AdamProjRefIdeal.τ).loc Cert.AdamProjRefIdeal.main_arg2) = m ((c.tc : Thread Cert.AdamProjRefIdeal.nD Cert.AdamProjRefIdeal.τ).loc Cert.AdamProjRefIdeal.main_arg2)
      ∧ r.2.mem ((c.tc : Thread Cert.AdamProjRefIdeal.nD Cert.AdamProjRefIdeal.τ).loc Cert.AdamProjRefIdeal.main_arg3) = m ((c.tc : Thread Cert.AdamProjRefIdeal.nD Cert.AdamProjRefIdeal.τ).loc Cert.AdamProjRefIdeal.main_arg3)
      ∧ r.2.mem ((c.tc : Thread Cert.AdamProjRefIdeal.nD Cert.AdamProjRefIdeal.τ).loc Cert.AdamProjRefIdeal.main_arg4) = m ((c.tc : Thread Cert.AdamProjRefIdeal.nD Cert.AdamProjRefIdeal.τ).loc Cert.AdamProjRefIdeal.main_arg4)
      ∧ r.2.mem ((c.tc : Thread Cert.AdamProjRefIdeal.nD Cert.AdamProjRefIdeal.τ).loc Cert.AdamProjRefIdeal.main_arg5) = m ((c.tc : Thread Cert.AdamProjRefIdeal.nD Cert.AdamProjRefIdeal.τ).loc Cert.AdamProjRefIdeal.main_arg5))
      ∧ r.2.sem = fun _ => 0)

def quiescent_AdamProjRefIdeal_pre_slot_proj [hAdamProjRefIdeal : Cert.AdamProjRefIdeal.Facts] [hPre_slot_proj : Cert.Pre_slot_proj.Facts] : Prop :=
  ∀ (m : (ℓ : Loc Cert.AdamProjRefIdeal.nD Cert.AdamProjRefIdeal.τ Cert.AdamProjRefIdeal.sig) → Buf (Elt Ideal) ℓ) (g : Dev Cert.AdamProjRefIdeal.nD → PrngReg), Pre_AdamProjRefIdeal_slot_proj m →
    θ_run (Cert.AdamProjRefIdeal.defs (F := Ideal)) (onTc (τ := Cert.AdamProjRefIdeal.τ) (Cert.AdamProjRefIdeal.main (F := Ideal))) ⟨m, fun _ => 0, g⟩ (fun r => (∀ c : Dev Cert.AdamProjRefIdeal.nD,
      r.2.mem ((c.tc : Thread Cert.AdamProjRefIdeal.nD Cert.AdamProjRefIdeal.τ).loc Cert.AdamProjRefIdeal.main_arg0) = m ((c.tc : Thread Cert.AdamProjRefIdeal.nD Cert.AdamProjRefIdeal.τ).loc Cert.AdamProjRefIdeal.main_arg0)
      ∧ r.2.mem ((c.tc : Thread Cert.AdamProjRefIdeal.nD Cert.AdamProjRefIdeal.τ).loc Cert.AdamProjRefIdeal.main_arg1) = m ((c.tc : Thread Cert.AdamProjRefIdeal.nD Cert.AdamProjRefIdeal.τ).loc Cert.AdamProjRefIdeal.main_arg1)
      ∧ r.2.mem ((c.tc : Thread Cert.AdamProjRefIdeal.nD Cert.AdamProjRefIdeal.τ).loc Cert.AdamProjRefIdeal.main_arg2) = m ((c.tc : Thread Cert.AdamProjRefIdeal.nD Cert.AdamProjRefIdeal.τ).loc Cert.AdamProjRefIdeal.main_arg2)
      ∧ r.2.mem ((c.tc : Thread Cert.AdamProjRefIdeal.nD Cert.AdamProjRefIdeal.τ).loc Cert.AdamProjRefIdeal.main_arg3) = m ((c.tc : Thread Cert.AdamProjRefIdeal.nD Cert.AdamProjRefIdeal.τ).loc Cert.AdamProjRefIdeal.main_arg3)
      ∧ r.2.mem ((c.tc : Thread Cert.AdamProjRefIdeal.nD Cert.AdamProjRefIdeal.τ).loc Cert.AdamProjRefIdeal.main_arg4) = m ((c.tc : Thread Cert.AdamProjRefIdeal.nD Cert.AdamProjRefIdeal.τ).loc Cert.AdamProjRefIdeal.main_arg4)
      ∧ r.2.mem ((c.tc : Thread Cert.AdamProjRefIdeal.nD Cert.AdamProjRefIdeal.τ).loc Cert.AdamProjRefIdeal.main_arg5) = m ((c.tc : Thread Cert.AdamProjRefIdeal.nD Cert.AdamProjRefIdeal.τ).loc Cert.AdamProjRefIdeal.main_arg5))
      ∧ r.2.sem = fun _ => 0)

def quiescent_AdamUp [hAdamUp : Cert.AdamUp.Facts] [hPre_slot_up : Cert.Pre_slot_up.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4)
      ∧ r.2.mem ((c.tc : Thread Cert.AdamUp.nD Cert.AdamUp.τ).loc Cert.AdamUp.main_arg5) = m ((c.tc : Thread Cert.AdamUp.nD Cert.AdamUp.τ).loc Cert.AdamUp.main_arg5))
      ∧ r.2.sem = fun _ => 0)

def quiescent_AdamUpIdeal [hAdamUpIdeal : Cert.AdamUpIdeal.Facts] [hPre_slot_up : Cert.Pre_slot_up.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
      ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4)
      ∧ r.2.mem ((c.tc : Thread Cert.AdamUpRefIdeal.nD Cert.AdamUpRefIdeal.τ).loc Cert.AdamUpRefIdeal.main_arg5) = m ((c.tc : Thread Cert.AdamUpRefIdeal.nD Cert.AdamUpRefIdeal.τ).loc Cert.AdamUpRefIdeal.main_arg5))
      ∧ r.2.sem = fun _ => 0)

def quiescent_AdamUpRefIdeal_pre_slot_up [hAdamUpRefIdeal : Cert.AdamUpRefIdeal.Facts] [hPre_slot_up : Cert.Pre_slot_up.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal_slot_up m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4)
      ∧ r.2.mem ((c.tc : Thread Cert.AdamUpRefIdeal.nD Cert.AdamUpRefIdeal.τ).loc Cert.AdamUpRefIdeal.main_arg5) = m ((c.tc : Thread Cert.AdamUpRefIdeal.nD Cert.AdamUpRefIdeal.τ).loc Cert.AdamUpRefIdeal.main_arg5))
      ∧ r.2.sem = fun _ => 0)

def quiescent_AdamDown [hAdamDown : Cert.AdamDown.Facts] [hPre_slot_down : Cert.Pre_slot_down.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4)
      ∧ r.2.mem ((c.tc : Thread Cert.AdamDown.nD Cert.AdamDown.τ).loc Cert.AdamDown.main_arg5) = m ((c.tc : Thread Cert.AdamDown.nD Cert.AdamDown.τ).loc Cert.AdamDown.main_arg5))
      ∧ r.2.sem = fun _ => 0)

def quiescent_AdamDownIdeal [hAdamDownIdeal : Cert.AdamDownIdeal.Facts] [hPre_slot_down : Cert.Pre_slot_down.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
      ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4)
      ∧ r.2.mem ((c.tc : Thread Cert.AdamDownRefIdeal.nD Cert.AdamDownRefIdeal.τ).loc Cert.AdamDownRefIdeal.main_arg5) = m ((c.tc : Thread Cert.AdamDownRefIdeal.nD Cert.AdamDownRefIdeal.τ).loc Cert.AdamDownRefIdeal.main_arg5))
      ∧ r.2.sem = fun _ => 0)

def quiescent_AdamDownRefIdeal_pre_slot_down [hAdamDownRefIdeal : Cert.AdamDownRefIdeal.Facts] [hPre_slot_down : Cert.Pre_slot_down.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal_slot_down m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4)
      ∧ r.2.mem ((c.tc : Thread Cert.AdamDownRefIdeal.nD Cert.AdamDownRefIdeal.τ).loc Cert.AdamDownRefIdeal.main_arg5) = m ((c.tc : Thread Cert.AdamDownRefIdeal.nD Cert.AdamDownRefIdeal.τ).loc Cert.AdamDownRefIdeal.main_arg5))
      ∧ r.2.sem = fun _ => 0)

def quiescent_Halves [hHalves : Cert.Halves.Facts] [hPre_core_half : Cert.Pre_core_half.Facts] : Prop :=
  ∀ (m : (ℓ : Loc Cert.Halves.nD Cert.Halves.τ Cert.Halves.sig) → Buf (Elt Bits) ℓ) (g : Dev Cert.Halves.nD → PrngReg), Pre_Halves m →
    θ_run (Cert.Halves.defs (F := Bits)) (onTc (τ := Cert.Halves.τ) (Cert.Halves.main (F := Bits))) ⟨m, fun _ => 0, g⟩ (fun r => (∀ c : Dev Cert.Halves.nD,
      r.2.mem ((c.tc : Thread Cert.Halves.nD Cert.Halves.τ).loc Cert.Halves.main_arg0) = m ((c.tc : Thread Cert.Halves.nD Cert.Halves.τ).loc Cert.Halves.main_arg0)
      ∧ r.2.mem ((c.tc : Thread Cert.Halves.nD Cert.Halves.τ).loc Cert.Halves.main_arg1) = m ((c.tc : Thread Cert.Halves.nD Cert.Halves.τ).loc Cert.Halves.main_arg1)
      ∧ r.2.mem ((c.tc : Thread Cert.Halves.nD Cert.Halves.τ).loc Cert.Halves.main_arg2) = m ((c.tc : Thread Cert.Halves.nD Cert.Halves.τ).loc Cert.Halves.main_arg2))
      ∧ r.2.sem = fun _ => 0)

def quiescent_HalvesIdeal [hHalvesIdeal : Cert.HalvesIdeal.Facts] [hPre_core_half : Cert.Pre_core_half.Facts] : Prop :=
  ∀ (m : (ℓ : Loc Cert.HalvesIdeal.nD Cert.HalvesIdeal.τ Cert.HalvesIdeal.sig) → Buf (Elt Ideal) ℓ) (g : Dev Cert.HalvesIdeal.nD → PrngReg), Pre_HalvesIdeal m →
    θ_run (Cert.HalvesIdeal.defs (F := Ideal)) (onTc (τ := Cert.HalvesIdeal.τ) (Cert.HalvesIdeal.main (F := Ideal))) ⟨m, fun _ => 0, g⟩ (fun r => (∀ c : Dev Cert.HalvesIdeal.nD,
      r.2.mem ((c.tc : Thread Cert.HalvesIdeal.nD Cert.HalvesIdeal.τ).loc Cert.HalvesIdeal.main_arg0) = m ((c.tc : Thread Cert.HalvesIdeal.nD Cert.HalvesIdeal.τ).loc Cert.HalvesIdeal.main_arg0)
      ∧ r.2.mem ((c.tc : Thread Cert.HalvesIdeal.nD Cert.HalvesIdeal.τ).loc Cert.HalvesIdeal.main_arg1) = m ((c.tc : Thread Cert.HalvesIdeal.nD Cert.HalvesIdeal.τ).loc Cert.HalvesIdeal.main_arg1)
      ∧ r.2.mem ((c.tc : Thread Cert.HalvesIdeal.nD Cert.HalvesIdeal.τ).loc Cert.HalvesIdeal.main_arg2) = m ((c.tc : Thread Cert.HalvesIdeal.nD Cert.HalvesIdeal.τ).loc Cert.HalvesIdeal.main_arg2))
      ∧ r.2.sem = fun _ => 0)

def quiescent_HalvesRefIdeal [hHalvesRefIdeal : Cert.HalvesRefIdeal.Facts] : Prop :=
  ∀ (m : (ℓ : Loc Cert.HalvesRefIdeal.nD Cert.HalvesRefIdeal.τ Cert.HalvesRefIdeal.sig) → Buf (Elt Ideal) ℓ) (g : Dev Cert.HalvesRefIdeal.nD → PrngReg), Pre_HalvesRefIdeal m →
    θ_run (Cert.HalvesRefIdeal.defs (F := Ideal)) (onTc (τ := Cert.HalvesRefIdeal.τ) (Cert.HalvesRefIdeal.main (F := Ideal))) ⟨m, fun _ => 0, g⟩ (fun r => (∀ c : Dev Cert.HalvesRefIdeal.nD,
      r.2.mem ((c.tc : Thread Cert.HalvesRefIdeal.nD Cert.HalvesRefIdeal.τ).loc Cert.HalvesRefIdeal.main_arg0) = m ((c.tc : Thread Cert.HalvesRefIdeal.nD Cert.HalvesRefIdeal.τ).loc Cert.HalvesRefIdeal.main_arg0)
      ∧ r.2.mem ((c.tc : Thread Cert.HalvesRefIdeal.nD Cert.HalvesRefIdeal.τ).loc Cert.HalvesRefIdeal.main_arg1) = m ((c.tc : Thread Cert.HalvesRefIdeal.nD Cert.HalvesRefIdeal.τ).loc Cert.HalvesRefIdeal.main_arg1)
      ∧ r.2.mem ((c.tc : Thread Cert.HalvesRefIdeal.nD Cert.HalvesRefIdeal.τ).loc Cert.HalvesRefIdeal.main_arg2) = m ((c.tc : Thread Cert.HalvesRefIdeal.nD Cert.HalvesRefIdeal.τ).loc Cert.HalvesRefIdeal.main_arg2))
      ∧ r.2.sem = fun _ => 0)

def quiescent_HalvesRefIdeal_pre_core_half [hHalvesRefIdeal : Cert.HalvesRefIdeal.Facts] [hPre_core_half : Cert.Pre_core_half.Facts] : Prop :=
  ∀ (m : (ℓ : Loc Cert.HalvesRefIdeal.nD Cert.HalvesRefIdeal.τ Cert.HalvesRefIdeal.sig) → Buf (Elt Ideal) ℓ) (g : Dev Cert.HalvesRefIdeal.nD → PrngReg), Pre_HalvesRefIdeal_core_half m →
    θ_run (Cert.HalvesRefIdeal.defs (F := Ideal)) (onTc (τ := Cert.HalvesRefIdeal.τ) (Cert.HalvesRefIdeal.main (F := Ideal))) ⟨m, fun _ => 0, g⟩ (fun r => (∀ c : Dev Cert.HalvesRefIdeal.nD,
      r.2.mem ((c.tc : Thread Cert.HalvesRefIdeal.nD Cert.HalvesRefIdeal.τ).loc Cert.HalvesRefIdeal.main_arg0) = m ((c.tc : Thread Cert.HalvesRefIdeal.nD Cert.HalvesRefIdeal.τ).loc Cert.HalvesRefIdeal.main_arg0)
      ∧ r.2.mem ((c.tc : Thread Cert.HalvesRefIdeal.nD Cert.HalvesRefIdeal.τ).loc Cert.HalvesRefIdeal.main_arg1) = m ((c.tc : Thread Cert.HalvesRefIdeal.nD Cert.HalvesRefIdeal.τ).loc Cert.HalvesRefIdeal.main_arg1)
      ∧ r.2.mem ((c.tc : Thread Cert.HalvesRefIdeal.nD Cert.HalvesRefIdeal.τ).loc Cert.HalvesRefIdeal.main_arg2) = m ((c.tc : Thread Cert.HalvesRefIdeal.nD Cert.HalvesRefIdeal.τ).loc Cert.HalvesRefIdeal.main_arg2))
      ∧ r.2.sem = fun _ => 0)

def preserves_Kernel_KernelIdeal : Prop :=
  IdealRules.named_const.Statement Cert.KernelIdeal.κ "mask" .f32 0xF149F2CA#32 ⊥

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v0)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v0) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v6) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)) →
    ∃ (v0 : (c : Dev Cert.DxIdeal.nD) → Buf (Elt Ideal) ((c.tc : Thread Cert.DxIdeal.nD Cert.DxIdeal.τ).loc Cert.DxIdeal.main_v0)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v4) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1))

def preserves_Dup_DupIdeal : Prop :=
  True

def algebraic_DupIdeal_DupRefIdeal [hDupIdeal : Cert.DupIdeal.Facts] [hDupRefIdeal : Cert.DupRefIdeal.Facts] : Prop :=
  ∀ (m : (ℓ : Loc Cert.DupIdeal.nD Cert.DupIdeal.τ Cert.DupIdeal.sig) → Buf (Elt Ideal) ℓ) (g : Dev Cert.DupIdeal.nD → PrngReg)
    (m' : (ℓ : Loc Cert.DupRefIdeal.nD Cert.DupRefIdeal.τ Cert.DupRefIdeal.sig) → Buf (Elt Ideal) ℓ) (g' : Dev Cert.DupRefIdeal.nD → PrngReg), Pre_DupIdeal m →
    (∀ c : Dev Cert.DupIdeal.nD,
      m' ((c.tc : Thread Cert.DupRefIdeal.nD Cert.DupRefIdeal.τ).loc Cert.DupRefIdeal.main_arg0) = m ((c.tc : Thread Cert.DupIdeal.nD Cert.DupIdeal.τ).loc Cert.DupIdeal.main_arg0)
      ∧ m' ((c.tc : Thread Cert.DupRefIdeal.nD Cert.DupRefIdeal.τ).loc Cert.DupRefIdeal.main_arg1) = m ((c.tc : Thread Cert.DupIdeal.nD Cert.DupIdeal.τ).loc Cert.DupIdeal.main_arg1)
      ∧ m' ((c.tc : Thread Cert.DupRefIdeal.nD Cert.DupRefIdeal.τ).loc Cert.DupRefIdeal.main_arg2) = m ((c.tc : Thread Cert.DupIdeal.nD Cert.DupIdeal.τ).loc Cert.DupIdeal.main_arg2)) →
    ∃ (v0 : (c : Dev Cert.DupIdeal.nD) → Buf (Elt Ideal) ((c.tc : Thread Cert.DupIdeal.nD Cert.DupIdeal.τ).loc Cert.DupIdeal.main_v0)),
      θ_run (Cert.DupIdeal.defs (F := Ideal)) (onTc (τ := Cert.DupIdeal.τ) (Cert.DupIdeal.main (F := Ideal))) ⟨m, fun _ => 0, g⟩ (fun r => ∀ c : Dev Cert.DupIdeal.nD,
          r.2.mem ((c.tc : Thread Cert.DupIdeal.nD Cert.DupIdeal.τ).loc Cert.DupIdeal.main_v0) = v0 c
          ∧ r.2.mem ((c.tc : Thread Cert.DupIdeal.nD Cert.DupIdeal.τ).loc Cert.DupIdeal.main_arg0) = m ((c.tc : Thread Cert.DupIdeal.nD Cert.DupIdeal.τ).loc Cert.DupIdeal.main_arg0)
          ∧ r.2.mem ((c.tc : Thread Cert.DupIdeal.nD Cert.DupIdeal.τ).loc Cert.DupIdeal.main_arg1) = m ((c.tc : Thread Cert.DupIdeal.nD Cert.DupIdeal.τ).loc Cert.DupIdeal.main_arg1)
          ∧ r.2.mem ((c.tc : Thread Cert.DupIdeal.nD Cert.DupIdeal.τ).loc Cert.DupIdeal.main_arg2) = m ((c.tc : Thread Cert.DupIdeal.nD Cert.DupIdeal.τ).loc Cert.DupIdeal.main_arg2))
      ∧ θ_run (Cert.DupRefIdeal.defs (F := Ideal)) (onTc (τ := Cert.DupRefIdeal.τ) (Cert.DupRefIdeal.main (F := Ideal))) ⟨m', fun _ => 0, g'⟩ (fun r => ∀ c : Dev Cert.DupRefIdeal.nD,
          r.2.mem ((c.tc : Thread Cert.DupRefIdeal.nD Cert.DupRefIdeal.τ).loc Cert.DupRefIdeal.main_v15) = v0 c
          ∧ r.2.mem ((c.tc : Thread Cert.DupRefIdeal.nD Cert.DupRefIdeal.τ).loc Cert.DupRefIdeal.main_arg0) = m' ((c.tc : Thread Cert.DupRefIdeal.nD Cert.DupRefIdeal.τ).loc Cert.DupRefIdeal.main_arg0)
          ∧ r.2.mem ((c.tc : Thread Cert.DupRefIdeal.nD Cert.DupRefIdeal.τ).loc Cert.DupRefIdeal.main_arg1) = m' ((c.tc : Thread Cert.DupRefIdeal.nD Cert.DupRefIdeal.τ).loc Cert.DupRefIdeal.main_arg1)
          ∧ r.2.mem ((c.tc : Thread Cert.DupRefIdeal.nD Cert.DupRefIdeal.τ).loc Cert.DupRefIdeal.main_arg2) = m' ((c.tc : Thread Cert.DupRefIdeal.nD Cert.DupRefIdeal.τ).loc Cert.DupRefIdeal.main_arg2))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v6) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v6) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_Dhn_DhnIdeal : Prop :=
  True

def algebraic_DhnIdeal_DhnRefIdeal [hDhnIdeal : Cert.DhnIdeal.Facts] [hDhnRefIdeal : Cert.DhnRefIdeal.Facts] : Prop :=
  ∀ (m : (ℓ : Loc Cert.DhnIdeal.nD Cert.DhnIdeal.τ Cert.DhnIdeal.sig) → Buf (Elt Ideal) ℓ) (g : Dev Cert.DhnIdeal.nD → PrngReg)
    (m' : (ℓ : Loc Cert.DhnRefIdeal.nD Cert.DhnRefIdeal.τ Cert.DhnRefIdeal.sig) → Buf (Elt Ideal) ℓ) (g' : Dev Cert.DhnRefIdeal.nD → PrngReg), Pre_DhnIdeal m →
    (∀ c : Dev Cert.DhnIdeal.nD,
      m' ((c.tc : Thread Cert.DhnRefIdeal.nD Cert.DhnRefIdeal.τ).loc Cert.DhnRefIdeal.main_arg0) = m ((c.tc : Thread Cert.DhnIdeal.nD Cert.DhnIdeal.τ).loc Cert.DhnIdeal.main_arg0)
      ∧ m' ((c.tc : Thread Cert.DhnRefIdeal.nD Cert.DhnRefIdeal.τ).loc Cert.DhnRefIdeal.main_arg1) = m ((c.tc : Thread Cert.DhnIdeal.nD Cert.DhnIdeal.τ).loc Cert.DhnIdeal.main_arg1)) →
    ∃ (v0 : (c : Dev Cert.DhnIdeal.nD) → Buf (Elt Ideal) ((c.tc : Thread Cert.DhnIdeal.nD Cert.DhnIdeal.τ).loc Cert.DhnIdeal.main_v0)),
      θ_run (Cert.DhnIdeal.defs (F := Ideal)) (onTc (τ := Cert.DhnIdeal.τ) (Cert.DhnIdeal.main (F := Ideal))) ⟨m, fun _ => 0, g⟩ (fun r => ∀ c : Dev Cert.DhnIdeal.nD,
          r.2.mem ((c.tc : Thread Cert.DhnIdeal.nD Cert.DhnIdeal.τ).loc Cert.DhnIdeal.main_v0) = v0 c
          ∧ r.2.mem ((c.tc : Thread Cert.DhnIdeal.nD Cert.DhnIdeal.τ).loc Cert.DhnIdeal.main_arg0) = m ((c.tc : Thread Cert.DhnIdeal.nD Cert.DhnIdeal.τ).loc Cert.DhnIdeal.main_arg0)
          ∧ r.2.mem ((c.tc : Thread Cert.DhnIdeal.nD Cert.DhnIdeal.τ).loc Cert.DhnIdeal.main_arg1) = m ((c.tc : Thread Cert.DhnIdeal.nD Cert.DhnIdeal.τ).loc Cert.DhnIdeal.main_arg1))
      ∧ θ_run (Cert.DhnRefIdeal.defs (F := Ideal)) (onTc (τ := Cert.DhnRefIdeal.τ) (Cert.DhnRefIdeal.main (F := Ideal))) ⟨m', fun _ => 0, g'⟩ (fun r => ∀ c : Dev Cert.DhnRefIdeal.nD,
          r.2.mem ((c.tc : Thread Cert.DhnRefIdeal.nD Cert.DhnRefIdeal.τ).loc Cert.DhnRefIdeal.main_v4) = v0 c
          ∧ r.2.mem ((c.tc : Thread Cert.DhnRefIdeal.nD Cert.DhnRefIdeal.τ).loc Cert.DhnRefIdeal.main_arg0) = m' ((c.tc : Thread Cert.DhnRefIdeal.nD Cert.DhnRefIdeal.τ).loc Cert.DhnRefIdeal.main_arg0)
          ∧ r.2.mem ((c.tc : Thread Cert.DhnRefIdeal.nD Cert.DhnRefIdeal.τ).loc Cert.DhnRefIdeal.main_arg1) = m' ((c.tc : Thread Cert.DhnRefIdeal.nD Cert.DhnRefIdeal.τ).loc Cert.DhnRefIdeal.main_arg1))

def preserves_Du_DuIdeal : Prop :=
  True

def algebraic_DuIdeal_DuRefIdeal [hDuIdeal : Cert.DuIdeal.Facts] [hDuRefIdeal : Cert.DuRefIdeal.Facts] : Prop :=
  ∀ (m : (ℓ : Loc Cert.DuIdeal.nD Cert.DuIdeal.τ Cert.DuIdeal.sig) → Buf (Elt Ideal) ℓ) (g : Dev Cert.DuIdeal.nD → PrngReg)
    (m' : (ℓ : Loc Cert.DuRefIdeal.nD Cert.DuRefIdeal.τ Cert.DuRefIdeal.sig) → Buf (Elt Ideal) ℓ) (g' : Dev Cert.DuRefIdeal.nD → PrngReg), Pre_DuIdeal m →
    (∀ c : Dev Cert.DuIdeal.nD,
      m' ((c.tc : Thread Cert.DuRefIdeal.nD Cert.DuRefIdeal.τ).loc Cert.DuRefIdeal.main_arg0) = m ((c.tc : Thread Cert.DuIdeal.nD Cert.DuIdeal.τ).loc Cert.DuIdeal.main_arg0)
      ∧ m' ((c.tc : Thread Cert.DuRefIdeal.nD Cert.DuRefIdeal.τ).loc Cert.DuRefIdeal.main_arg1) = m ((c.tc : Thread Cert.DuIdeal.nD Cert.DuIdeal.τ).loc Cert.DuIdeal.main_arg1)
      ∧ m' ((c.tc : Thread Cert.DuRefIdeal.nD Cert.DuRefIdeal.τ).loc Cert.DuRefIdeal.main_arg2) = m ((c.tc : Thread Cert.DuIdeal.nD Cert.DuIdeal.τ).loc Cert.DuIdeal.main_arg2)
      ∧ m' ((c.tc : Thread Cert.DuRefIdeal.nD Cert.DuRefIdeal.τ).loc Cert.DuRefIdeal.main_arg3) = m ((c.tc : Thread Cert.DuIdeal.nD Cert.DuIdeal.τ).loc Cert.DuIdeal.main_arg3)
      ∧ m' ((c.tc : Thread Cert.DuRefIdeal.nD Cert.DuRefIdeal.τ).loc Cert.DuRefIdeal.main_arg4) = m ((c.tc : Thread Cert.DuIdeal.nD Cert.DuIdeal.τ).loc Cert.DuIdeal.main_arg4)
      ∧ m' ((c.tc : Thread Cert.DuRefIdeal.nD Cert.DuRefIdeal.τ).loc Cert.DuRefIdeal.main_arg5) = m ((c.tc : Thread Cert.DuIdeal.nD Cert.DuIdeal.τ).loc Cert.DuIdeal.main_arg5)
      ∧ m' ((c.tc : Thread Cert.DuRefIdeal.nD Cert.DuRefIdeal.τ).loc Cert.DuRefIdeal.main_arg6) = m ((c.tc : Thread Cert.DuIdeal.nD Cert.DuIdeal.τ).loc Cert.DuIdeal.main_arg6)
      ∧ m' ((c.tc : Thread Cert.DuRefIdeal.nD Cert.DuRefIdeal.τ).loc Cert.DuRefIdeal.main_arg7) = m ((c.tc : Thread Cert.DuIdeal.nD Cert.DuIdeal.τ).loc Cert.DuIdeal.main_arg7)
      ∧ m' ((c.tc : Thread Cert.DuRefIdeal.nD Cert.DuRefIdeal.τ).loc Cert.DuRefIdeal.main_arg8) = m ((c.tc : Thread Cert.DuIdeal.nD Cert.DuIdeal.τ).loc Cert.DuIdeal.main_arg8)
      ∧ m' ((c.tc : Thread Cert.DuRefIdeal.nD Cert.DuRefIdeal.τ).loc Cert.DuRefIdeal.main_arg9) = m ((c.tc : Thread Cert.DuIdeal.nD Cert.DuIdeal.τ).loc Cert.DuIdeal.main_arg9)
      ∧ m' ((c.tc : Thread Cert.DuRefIdeal.nD Cert.DuRefIdeal.τ).loc Cert.DuRefIdeal.main_arg10) = m ((c.tc : Thread Cert.DuIdeal.nD Cert.DuIdeal.τ).loc Cert.DuIdeal.main_arg10)
      ∧ m' ((c.tc : Thread Cert.DuRefIdeal.nD Cert.DuRefIdeal.τ).loc Cert.DuRefIdeal.main_arg11) = m ((c.tc : Thread Cert.DuIdeal.nD Cert.DuIdeal.τ).loc Cert.DuIdeal.main_arg11)
      ∧ m' ((c.tc : Thread Cert.DuRefIdeal.nD Cert.DuRefIdeal.τ).loc Cert.DuRefIdeal.main_arg12) = m ((c.tc : Thread Cert.DuIdeal.nD Cert.DuIdeal.τ).loc Cert.DuIdeal.main_arg12)
      ∧ m' ((c.tc : Thread Cert.DuRefIdeal.nD Cert.DuRefIdeal.τ).loc Cert.DuRefIdeal.main_arg13) = m ((c.tc : Thread Cert.DuIdeal.nD Cert.DuIdeal.τ).loc Cert.DuIdeal.main_arg13)) →
    ∃ (v0 : (c : Dev Cert.DuIdeal.nD) → Buf (Elt Ideal) ((c.tc : Thread Cert.DuIdeal.nD Cert.DuIdeal.τ).loc Cert.DuIdeal.main_v0)),
      θ_run (Cert.DuIdeal.defs (F := Ideal)) (onTc (τ := Cert.DuIdeal.τ) (Cert.DuIdeal.main (F := Ideal))) ⟨m, fun _ => 0, g⟩ (fun r => ∀ c : Dev Cert.DuIdeal.nD,
          r.2.mem ((c.tc : Thread Cert.DuIdeal.nD Cert.DuIdeal.τ).loc Cert.DuIdeal.main_v0) = v0 c
          ∧ r.2.mem ((c.tc : Thread Cert.DuIdeal.nD Cert.DuIdeal.τ).loc Cert.DuIdeal.main_arg0) = m ((c.tc : Thread Cert.DuIdeal.nD Cert.DuIdeal.τ).loc Cert.DuIdeal.main_arg0)
          ∧ r.2.mem ((c.tc : Thread Cert.DuIdeal.nD Cert.DuIdeal.τ).loc Cert.DuIdeal.main_arg1) = m ((c.tc : Thread Cert.DuIdeal.nD Cert.DuIdeal.τ).loc Cert.DuIdeal.main_arg1)
          ∧ r.2.mem ((c.tc : Thread Cert.DuIdeal.nD Cert.DuIdeal.τ).loc Cert.DuIdeal.main_arg2) = m ((c.tc : Thread Cert.DuIdeal.nD Cert.DuIdeal.τ).loc Cert.DuIdeal.main_arg2)
          ∧ r.2.mem ((c.tc : Thread Cert.DuIdeal.nD Cert.DuIdeal.τ).loc Cert.DuIdeal.main_arg3) = m ((c.tc : Thread Cert.DuIdeal.nD Cert.DuIdeal.τ).loc Cert.DuIdeal.main_arg3)
          ∧ r.2.mem ((c.tc : Thread Cert.DuIdeal.nD Cert.DuIdeal.τ).loc Cert.DuIdeal.main_arg4) = m ((c.tc : Thread Cert.DuIdeal.nD Cert.DuIdeal.τ).loc Cert.DuIdeal.main_arg4)
          ∧ r.2.mem ((c.tc : Thread Cert.DuIdeal.nD Cert.DuIdeal.τ).loc Cert.DuIdeal.main_arg5) = m ((c.tc : Thread Cert.DuIdeal.nD Cert.DuIdeal.τ).loc Cert.DuIdeal.main_arg5)
          ∧ r.2.mem ((c.tc : Thread Cert.DuIdeal.nD Cert.DuIdeal.τ).loc Cert.DuIdeal.main_arg6) = m ((c.tc : Thread Cert.DuIdeal.nD Cert.DuIdeal.τ).loc Cert.DuIdeal.main_arg6)
          ∧ r.2.mem ((c.tc : Thread Cert.DuIdeal.nD Cert.DuIdeal.τ).loc Cert.DuIdeal.main_arg7) = m ((c.tc : Thread Cert.DuIdeal.nD Cert.DuIdeal.τ).loc Cert.DuIdeal.main_arg7)
          ∧ r.2.mem ((c.tc : Thread Cert.DuIdeal.nD Cert.DuIdeal.τ).loc Cert.DuIdeal.main_arg8) = m ((c.tc : Thread Cert.DuIdeal.nD Cert.DuIdeal.τ).loc Cert.DuIdeal.main_arg8)
          ∧ r.2.mem ((c.tc : Thread Cert.DuIdeal.nD Cert.DuIdeal.τ).loc Cert.DuIdeal.main_arg9) = m ((c.tc : Thread Cert.DuIdeal.nD Cert.DuIdeal.τ).loc Cert.DuIdeal.main_arg9)
          ∧ r.2.mem ((c.tc : Thread Cert.DuIdeal.nD Cert.DuIdeal.τ).loc Cert.DuIdeal.main_arg10) = m ((c.tc : Thread Cert.DuIdeal.nD Cert.DuIdeal.τ).loc Cert.DuIdeal.main_arg10)
          ∧ r.2.mem ((c.tc : Thread Cert.DuIdeal.nD Cert.DuIdeal.τ).loc Cert.DuIdeal.main_arg11) = m ((c.tc : Thread Cert.DuIdeal.nD Cert.DuIdeal.τ).loc Cert.DuIdeal.main_arg11)
          ∧ r.2.mem ((c.tc : Thread Cert.DuIdeal.nD Cert.DuIdeal.τ).loc Cert.DuIdeal.main_arg12) = m ((c.tc : Thread Cert.DuIdeal.nD Cert.DuIdeal.τ).loc Cert.DuIdeal.main_arg12)
          ∧ r.2.mem ((c.tc : Thread Cert.DuIdeal.nD Cert.DuIdeal.τ).loc Cert.DuIdeal.main_arg13) = m ((c.tc : Thread Cert.DuIdeal.nD Cert.DuIdeal.τ).loc Cert.DuIdeal.main_arg13))
      ∧ θ_run (Cert.DuRefIdeal.defs (F := Ideal)) (onTc (τ := Cert.DuRefIdeal.τ) (Cert.DuRefIdeal.main (F := Ideal))) ⟨m', fun _ => 0, g'⟩ (fun r => ∀ c : Dev Cert.DuRefIdeal.nD,
          r.2.mem ((c.tc : Thread Cert.DuRefIdeal.nD Cert.DuRefIdeal.τ).loc Cert.DuRefIdeal.main_v27) = v0 c
          ∧ r.2.mem ((c.tc : Thread Cert.DuRefIdeal.nD Cert.DuRefIdeal.τ).loc Cert.DuRefIdeal.main_arg0) = m' ((c.tc : Thread Cert.DuRefIdeal.nD Cert.DuRefIdeal.τ).loc Cert.DuRefIdeal.main_arg0)
          ∧ r.2.mem ((c.tc : Thread Cert.DuRefIdeal.nD Cert.DuRefIdeal.τ).loc Cert.DuRefIdeal.main_arg1) = m' ((c.tc : Thread Cert.DuRefIdeal.nD Cert.DuRefIdeal.τ).loc Cert.DuRefIdeal.main_arg1)
          ∧ r.2.mem ((c.tc : Thread Cert.DuRefIdeal.nD Cert.DuRefIdeal.τ).loc Cert.DuRefIdeal.main_arg2) = m' ((c.tc : Thread Cert.DuRefIdeal.nD Cert.DuRefIdeal.τ).loc Cert.DuRefIdeal.main_arg2)
          ∧ r.2.mem ((c.tc : Thread Cert.DuRefIdeal.nD Cert.DuRefIdeal.τ).loc Cert.DuRefIdeal.main_arg3) = m' ((c.tc : Thread Cert.DuRefIdeal.nD Cert.DuRefIdeal.τ).loc Cert.DuRefIdeal.main_arg3)
          ∧ r.2.mem ((c.tc : Thread Cert.DuRefIdeal.nD Cert.DuRefIdeal.τ).loc Cert.DuRefIdeal.main_arg4) = m' ((c.tc : Thread Cert.DuRefIdeal.nD Cert.DuRefIdeal.τ).loc Cert.DuRefIdeal.main_arg4)
          ∧ r.2.mem ((c.tc : Thread Cert.DuRefIdeal.nD Cert.DuRefIdeal.τ).loc Cert.DuRefIdeal.main_arg5) = m' ((c.tc : Thread Cert.DuRefIdeal.nD Cert.DuRefIdeal.τ).loc Cert.DuRefIdeal.main_arg5)
          ∧ r.2.mem ((c.tc : Thread Cert.DuRefIdeal.nD Cert.DuRefIdeal.τ).loc Cert.DuRefIdeal.main_arg6) = m' ((c.tc : Thread Cert.DuRefIdeal.nD Cert.DuRefIdeal.τ).loc Cert.DuRefIdeal.main_arg6)
          ∧ r.2.mem ((c.tc : Thread Cert.DuRefIdeal.nD Cert.DuRefIdeal.τ).loc Cert.DuRefIdeal.main_arg7) = m' ((c.tc : Thread Cert.DuRefIdeal.nD Cert.DuRefIdeal.τ).loc Cert.DuRefIdeal.main_arg7)
          ∧ r.2.mem ((c.tc : Thread Cert.DuRefIdeal.nD Cert.DuRefIdeal.τ).loc Cert.DuRefIdeal.main_arg8) = m' ((c.tc : Thread Cert.DuRefIdeal.nD Cert.DuRefIdeal.τ).loc Cert.DuRefIdeal.main_arg8)
          ∧ r.2.mem ((c.tc : Thread Cert.DuRefIdeal.nD Cert.DuRefIdeal.τ).loc Cert.DuRefIdeal.main_arg9) = m' ((c.tc : Thread Cert.DuRefIdeal.nD Cert.DuRefIdeal.τ).loc Cert.DuRefIdeal.main_arg9)
          ∧ r.2.mem ((c.tc : Thread Cert.DuRefIdeal.nD Cert.DuRefIdeal.τ).loc Cert.DuRefIdeal.main_arg10) = m' ((c.tc : Thread Cert.DuRefIdeal.nD Cert.DuRefIdeal.τ).loc Cert.DuRefIdeal.main_arg10)
          ∧ r.2.mem ((c.tc : Thread Cert.DuRefIdeal.nD Cert.DuRefIdeal.τ).loc Cert.DuRefIdeal.main_arg11) = m' ((c.tc : Thread Cert.DuRefIdeal.nD Cert.DuRefIdeal.τ).loc Cert.DuRefIdeal.main_arg11)
          ∧ r.2.mem ((c.tc : Thread Cert.DuRefIdeal.nD Cert.DuRefIdeal.τ).loc Cert.DuRefIdeal.main_arg12) = m' ((c.tc : Thread Cert.DuRefIdeal.nD Cert.DuRefIdeal.τ).loc Cert.DuRefIdeal.main_arg12)
          ∧ r.2.mem ((c.tc : Thread Cert.DuRefIdeal.nD Cert.DuRefIdeal.τ).loc Cert.DuRefIdeal.main_arg13) = m' ((c.tc : Thread Cert.DuRefIdeal.nD Cert.DuRefIdeal.τ).loc Cert.DuRefIdeal.main_arg13))

def preserves_DwOb_DwObIdeal : Prop :=
  True

def algebraic_DwObIdeal_DwObRefIdeal [hDwObIdeal : Cert.DwObIdeal.Facts] [hDwObRefIdeal : Cert.DwObRefIdeal.Facts] : Prop :=
  ∀ (m : (ℓ : Loc Cert.DwObIdeal.nD Cert.DwObIdeal.τ Cert.DwObIdeal.sig) → Buf (Elt Ideal) ℓ) (g : Dev Cert.DwObIdeal.nD → PrngReg)
    (m' : (ℓ : Loc Cert.DwObRefIdeal.nD Cert.DwObRefIdeal.τ Cert.DwObRefIdeal.sig) → Buf (Elt Ideal) ℓ) (g' : Dev Cert.DwObRefIdeal.nD → PrngReg), Pre_DwObIdeal m →
    (∀ c : Dev Cert.DwObIdeal.nD,
      m' ((c.tc : Thread Cert.DwObRefIdeal.nD Cert.DwObRefIdeal.τ).loc Cert.DwObRefIdeal.main_arg0) = m ((c.tc : Thread Cert.DwObIdeal.nD Cert.DwObIdeal.τ).loc Cert.DwObIdeal.main_arg0)
      ∧ m' ((c.tc : Thread Cert.DwObRefIdeal.nD Cert.DwObRefIdeal.τ).loc Cert.DwObRefIdeal.main_arg1) = m ((c.tc : Thread Cert.DwObIdeal.nD Cert.DwObIdeal.τ).loc Cert.DwObIdeal.main_arg1)) →
    ∃ (v0 : (c : Dev Cert.DwObIdeal.nD) → Buf (Elt Ideal) ((c.tc : Thread Cert.DwObIdeal.nD Cert.DwObIdeal.τ).loc Cert.DwObIdeal.main_v0)),
      θ_run (Cert.DwObIdeal.defs (F := Ideal)) (onTc (τ := Cert.DwObIdeal.τ) (Cert.DwObIdeal.main (F := Ideal))) ⟨m, fun _ => 0, g⟩ (fun r => ∀ c : Dev Cert.DwObIdeal.nD,
          r.2.mem ((c.tc : Thread Cert.DwObIdeal.nD Cert.DwObIdeal.τ).loc Cert.DwObIdeal.main_v0) = v0 c
          ∧ r.2.mem ((c.tc : Thread Cert.DwObIdeal.nD Cert.DwObIdeal.τ).loc Cert.DwObIdeal.main_arg0) = m ((c.tc : Thread Cert.DwObIdeal.nD Cert.DwObIdeal.τ).loc Cert.DwObIdeal.main_arg0)
          ∧ r.2.mem ((c.tc : Thread Cert.DwObIdeal.nD Cert.DwObIdeal.τ).loc Cert.DwObIdeal.main_arg1) = m ((c.tc : Thread Cert.DwObIdeal.nD Cert.DwObIdeal.τ).loc Cert.DwObIdeal.main_arg1))
      ∧ θ_run (Cert.DwObRefIdeal.defs (F := Ideal)) (onTc (τ := Cert.DwObRefIdeal.τ) (Cert.DwObRefIdeal.main (F := Ideal))) ⟨m', fun _ => 0, g'⟩ (fun r => ∀ c : Dev Cert.DwObRefIdeal.nD,
          r.2.mem ((c.tc : Thread Cert.DwObRefIdeal.nD Cert.DwObRefIdeal.τ).loc Cert.DwObRefIdeal.main_v5) = v0 c
          ∧ r.2.mem ((c.tc : Thread Cert.DwObRefIdeal.nD Cert.DwObRefIdeal.τ).loc Cert.DwObRefIdeal.main_arg0) = m' ((c.tc : Thread Cert.DwObRefIdeal.nD Cert.DwObRefIdeal.τ).loc Cert.DwObRefIdeal.main_arg0)
          ∧ r.2.mem ((c.tc : Thread Cert.DwObRefIdeal.nD Cert.DwObRefIdeal.τ).loc Cert.DwObRefIdeal.main_arg1) = m' ((c.tc : Thread Cert.DwObRefIdeal.nD Cert.DwObRefIdeal.τ).loc Cert.DwObRefIdeal.main_arg1))

def preserves_DwSmall_DwSmallIdeal : Prop :=
  True

def algebraic_DwSmallIdeal_DwSmallRefIdeal [hDwSmallIdeal : Cert.DwSmallIdeal.Facts] [hDwSmallRefIdeal : Cert.DwSmallRefIdeal.Facts] : Prop :=
  ∀ (m : (ℓ : Loc Cert.DwSmallIdeal.nD Cert.DwSmallIdeal.τ Cert.DwSmallIdeal.sig) → Buf (Elt Ideal) ℓ) (g : Dev Cert.DwSmallIdeal.nD → PrngReg)
    (m' : (ℓ : Loc Cert.DwSmallRefIdeal.nD Cert.DwSmallRefIdeal.τ Cert.DwSmallRefIdeal.sig) → Buf (Elt Ideal) ℓ) (g' : Dev Cert.DwSmallRefIdeal.nD → PrngReg), Pre_DwSmallIdeal m →
    (∀ c : Dev Cert.DwSmallIdeal.nD,
      m' ((c.tc : Thread Cert.DwSmallRefIdeal.nD Cert.DwSmallRefIdeal.τ).loc Cert.DwSmallRefIdeal.main_arg0) = m ((c.tc : Thread Cert.DwSmallIdeal.nD Cert.DwSmallIdeal.τ).loc Cert.DwSmallIdeal.main_arg0)
      ∧ m' ((c.tc : Thread Cert.DwSmallRefIdeal.nD Cert.DwSmallRefIdeal.τ).loc Cert.DwSmallRefIdeal.main_arg1) = m ((c.tc : Thread Cert.DwSmallIdeal.nD Cert.DwSmallIdeal.τ).loc Cert.DwSmallIdeal.main_arg1)) →
    ∃ (v0 : (c : Dev Cert.DwSmallIdeal.nD) → Buf (Elt Ideal) ((c.tc : Thread Cert.DwSmallIdeal.nD Cert.DwSmallIdeal.τ).loc Cert.DwSmallIdeal.main_v0)),
      θ_run (Cert.DwSmallIdeal.defs (F := Ideal)) (onTc (τ := Cert.DwSmallIdeal.τ) (Cert.DwSmallIdeal.main (F := Ideal))) ⟨m, fun _ => 0, g⟩ (fun r => ∀ c : Dev Cert.DwSmallIdeal.nD,
          r.2.mem ((c.tc : Thread Cert.DwSmallIdeal.nD Cert.DwSmallIdeal.τ).loc Cert.DwSmallIdeal.main_v0) = v0 c
          ∧ r.2.mem ((c.tc : Thread Cert.DwSmallIdeal.nD Cert.DwSmallIdeal.τ).loc Cert.DwSmallIdeal.main_arg0) = m ((c.tc : Thread Cert.DwSmallIdeal.nD Cert.DwSmallIdeal.τ).loc Cert.DwSmallIdeal.main_arg0)
          ∧ r.2.mem ((c.tc : Thread Cert.DwSmallIdeal.nD Cert.DwSmallIdeal.τ).loc Cert.DwSmallIdeal.main_arg1) = m ((c.tc : Thread Cert.DwSmallIdeal.nD Cert.DwSmallIdeal.τ).loc Cert.DwSmallIdeal.main_arg1))
      ∧ θ_run (Cert.DwSmallRefIdeal.defs (F := Ideal)) (onTc (τ := Cert.DwSmallRefIdeal.τ) (Cert.DwSmallRefIdeal.main (F := Ideal))) ⟨m', fun _ => 0, g'⟩ (fun r => ∀ c : Dev Cert.DwSmallRefIdeal.nD,
          r.2.mem ((c.tc : Thread Cert.DwSmallRefIdeal.nD Cert.DwSmallRefIdeal.τ).loc Cert.DwSmallRefIdeal.main_v5) = v0 c
          ∧ r.2.mem ((c.tc : Thread Cert.DwSmallRefIdeal.nD Cert.DwSmallRefIdeal.τ).loc Cert.DwSmallRefIdeal.main_arg0) = m' ((c.tc : Thread Cert.DwSmallRefIdeal.nD Cert.DwSmallRefIdeal.τ).loc Cert.DwSmallRefIdeal.main_arg0)
          ∧ r.2.mem ((c.tc : Thread Cert.DwSmallRefIdeal.nD Cert.DwSmallRefIdeal.τ).loc Cert.DwSmallRefIdeal.main_arg1) = m' ((c.tc : Thread Cert.DwSmallRefIdeal.nD Cert.DwSmallRefIdeal.τ).loc Cert.DwSmallRefIdeal.main_arg1))

def preserves_ProjGdn_ProjGdnIdeal : Prop :=
  True

def algebraic_ProjGdnIdeal_ProjGdnRefIdeal [hProjGdnIdeal : Cert.ProjGdnIdeal.Facts] [hProjGdnRefIdeal : Cert.ProjGdnRefIdeal.Facts] : Prop :=
  ∀ (m : (ℓ : Loc Cert.ProjGdnIdeal.nD Cert.ProjGdnIdeal.τ Cert.ProjGdnIdeal.sig) → Buf (Elt Ideal) ℓ) (g : Dev Cert.ProjGdnIdeal.nD → PrngReg)
    (m' : (ℓ : Loc Cert.ProjGdnRefIdeal.nD Cert.ProjGdnRefIdeal.τ Cert.ProjGdnRefIdeal.sig) → Buf (Elt Ideal) ℓ) (g' : Dev Cert.ProjGdnRefIdeal.nD → PrngReg), Pre_ProjGdnIdeal m →
    (∀ c : Dev Cert.ProjGdnIdeal.nD,
      m' ((c.tc : Thread Cert.ProjGdnRefIdeal.nD Cert.ProjGdnRefIdeal.τ).loc Cert.ProjGdnRefIdeal.main_arg0) = m ((c.tc : Thread Cert.ProjGdnIdeal.nD Cert.ProjGdnIdeal.τ).loc Cert.ProjGdnIdeal.main_arg0)
      ∧ m' ((c.tc : Thread Cert.ProjGdnRefIdeal.nD Cert.ProjGdnRefIdeal.τ).loc Cert.ProjGdnRefIdeal.main_arg1) = m ((c.tc : Thread Cert.ProjGdnIdeal.nD Cert.ProjGdnIdeal.τ).loc Cert.ProjGdnIdeal.main_arg1)) →
    ∃ (v0 : (c : Dev Cert.ProjGdnIdeal.nD) → Buf (Elt Ideal) ((c.tc : Thread Cert.ProjGdnIdeal.nD Cert.ProjGdnIdeal.τ).loc Cert.ProjGdnIdeal.main_v0)),
      θ_run (Cert.ProjGdnIdeal.defs (F := Ideal)) (onTc (τ := Cert.ProjGdnIdeal.τ) (Cert.ProjGdnIdeal.main (F := Ideal))) ⟨m, fun _ => 0, g⟩ (fun r => ∀ c : Dev Cert.ProjGdnIdeal.nD,
          r.2.mem ((c.tc : Thread Cert.ProjGdnIdeal.nD Cert.ProjGdnIdeal.τ).loc Cert.ProjGdnIdeal.main_v0) = v0 c
          ∧ r.2.mem ((c.tc : Thread Cert.ProjGdnIdeal.nD Cert.ProjGdnIdeal.τ).loc Cert.ProjGdnIdeal.main_arg0) = m ((c.tc : Thread Cert.ProjGdnIdeal.nD Cert.ProjGdnIdeal.τ).loc Cert.ProjGdnIdeal.main_arg0)
          ∧ r.2.mem ((c.tc : Thread Cert.ProjGdnIdeal.nD Cert.ProjGdnIdeal.τ).loc Cert.ProjGdnIdeal.main_arg1) = m ((c.tc : Thread Cert.ProjGdnIdeal.nD Cert.ProjGdnIdeal.τ).loc Cert.ProjGdnIdeal.main_arg1))
      ∧ θ_run (Cert.ProjGdnRefIdeal.defs (F := Ideal)) (onTc (τ := Cert.ProjGdnRefIdeal.τ) (Cert.ProjGdnRefIdeal.main (F := Ideal))) ⟨m', fun _ => 0, g'⟩ (fun r => ∀ c : Dev Cert.ProjGdnRefIdeal.nD,
          r.2.mem ((c.tc : Thread Cert.ProjGdnRefIdeal.nD Cert.ProjGdnRefIdeal.τ).loc Cert.ProjGdnRefIdeal.main_v2) = v0 c
          ∧ r.2.mem ((c.tc : Thread Cert.ProjGdnRefIdeal.nD Cert.ProjGdnRefIdeal.τ).loc Cert.ProjGdnRefIdeal.main_arg0) = m' ((c.tc : Thread Cert.ProjGdnRefIdeal.nD Cert.ProjGdnRefIdeal.τ).loc Cert.ProjGdnRefIdeal.main_arg0)
          ∧ r.2.mem ((c.tc : Thread Cert.ProjGdnRefIdeal.nD Cert.ProjGdnRefIdeal.τ).loc Cert.ProjGdnRefIdeal.main_arg1) = m' ((c.tc : Thread Cert.ProjGdnRefIdeal.nD Cert.ProjGdnRefIdeal.τ).loc Cert.ProjGdnRefIdeal.main_arg1))

def preserves_ProjFox_ProjFoxIdeal : Prop :=
  True

def algebraic_ProjFoxIdeal_ProjFoxRefIdeal [hProjFoxIdeal : Cert.ProjFoxIdeal.Facts] [hProjFoxRefIdeal : Cert.ProjFoxRefIdeal.Facts] : Prop :=
  ∀ (m : (ℓ : Loc Cert.ProjFoxIdeal.nD Cert.ProjFoxIdeal.τ Cert.ProjFoxIdeal.sig) → Buf (Elt Ideal) ℓ) (g : Dev Cert.ProjFoxIdeal.nD → PrngReg)
    (m' : (ℓ : Loc Cert.ProjFoxRefIdeal.nD Cert.ProjFoxRefIdeal.τ Cert.ProjFoxRefIdeal.sig) → Buf (Elt Ideal) ℓ) (g' : Dev Cert.ProjFoxRefIdeal.nD → PrngReg), Pre_ProjFoxIdeal m →
    (∀ c : Dev Cert.ProjFoxIdeal.nD,
      m' ((c.tc : Thread Cert.ProjFoxRefIdeal.nD Cert.ProjFoxRefIdeal.τ).loc Cert.ProjFoxRefIdeal.main_arg0) = m ((c.tc : Thread Cert.ProjFoxIdeal.nD Cert.ProjFoxIdeal.τ).loc Cert.ProjFoxIdeal.main_arg0)
      ∧ m' ((c.tc : Thread Cert.ProjFoxRefIdeal.nD Cert.ProjFoxRefIdeal.τ).loc Cert.ProjFoxRefIdeal.main_arg1) = m ((c.tc : Thread Cert.ProjFoxIdeal.nD Cert.ProjFoxIdeal.τ).loc Cert.ProjFoxIdeal.main_arg1)) →
    ∃ (v0 : (c : Dev Cert.ProjFoxIdeal.nD) → Buf (Elt Ideal) ((c.tc : Thread Cert.ProjFoxIdeal.nD Cert.ProjFoxIdeal.τ).loc Cert.ProjFoxIdeal.main_v0)),
      θ_run (Cert.ProjFoxIdeal.defs (F := Ideal)) (onTc (τ := Cert.ProjFoxIdeal.τ) (Cert.ProjFoxIdeal.main (F := Ideal))) ⟨m, fun _ => 0, g⟩ (fun r => ∀ c : Dev Cert.ProjFoxIdeal.nD,
          r.2.mem ((c.tc : Thread Cert.ProjFoxIdeal.nD Cert.ProjFoxIdeal.τ).loc Cert.ProjFoxIdeal.main_v0) = v0 c
          ∧ r.2.mem ((c.tc : Thread Cert.ProjFoxIdeal.nD Cert.ProjFoxIdeal.τ).loc Cert.ProjFoxIdeal.main_arg0) = m ((c.tc : Thread Cert.ProjFoxIdeal.nD Cert.ProjFoxIdeal.τ).loc Cert.ProjFoxIdeal.main_arg0)
          ∧ r.2.mem ((c.tc : Thread Cert.ProjFoxIdeal.nD Cert.ProjFoxIdeal.τ).loc Cert.ProjFoxIdeal.main_arg1) = m ((c.tc : Thread Cert.ProjFoxIdeal.nD Cert.ProjFoxIdeal.τ).loc Cert.ProjFoxIdeal.main_arg1))
      ∧ θ_run (Cert.ProjFoxRefIdeal.defs (F := Ideal)) (onTc (τ := Cert.ProjFoxRefIdeal.τ) (Cert.ProjFoxRefIdeal.main (F := Ideal))) ⟨m', fun _ => 0, g'⟩ (fun r => ∀ c : Dev Cert.ProjFoxRefIdeal.nD,
          r.2.mem ((c.tc : Thread Cert.ProjFoxRefIdeal.nD Cert.ProjFoxRefIdeal.τ).loc Cert.ProjFoxRefIdeal.main_v2) = v0 c
          ∧ r.2.mem ((c.tc : Thread Cert.ProjFoxRefIdeal.nD Cert.ProjFoxRefIdeal.τ).loc Cert.ProjFoxRefIdeal.main_arg0) = m' ((c.tc : Thread Cert.ProjFoxRefIdeal.nD Cert.ProjFoxRefIdeal.τ).loc Cert.ProjFoxRefIdeal.main_arg0)
          ∧ r.2.mem ((c.tc : Thread Cert.ProjFoxRefIdeal.nD Cert.ProjFoxRefIdeal.τ).loc Cert.ProjFoxRefIdeal.main_arg1) = m' ((c.tc : Thread Cert.ProjFoxRefIdeal.nD Cert.ProjFoxRefIdeal.τ).loc Cert.ProjFoxRefIdeal.main_arg1))

def preserves_ProjGate_ProjGateIdeal : Prop :=
  True

def algebraic_ProjGateIdeal_ProjGateRefIdeal [hProjGateIdeal : Cert.ProjGateIdeal.Facts] [hProjGateRefIdeal : Cert.ProjGateRefIdeal.Facts] : Prop :=
  ∀ (m : (ℓ : Loc Cert.ProjGateIdeal.nD Cert.ProjGateIdeal.τ Cert.ProjGateIdeal.sig) → Buf (Elt Ideal) ℓ) (g : Dev Cert.ProjGateIdeal.nD → PrngReg)
    (m' : (ℓ : Loc Cert.ProjGateRefIdeal.nD Cert.ProjGateRefIdeal.τ Cert.ProjGateRefIdeal.sig) → Buf (Elt Ideal) ℓ) (g' : Dev Cert.ProjGateRefIdeal.nD → PrngReg), Pre_ProjGateIdeal m →
    (∀ c : Dev Cert.ProjGateIdeal.nD,
      m' ((c.tc : Thread Cert.ProjGateRefIdeal.nD Cert.ProjGateRefIdeal.τ).loc Cert.ProjGateRefIdeal.main_arg0) = m ((c.tc : Thread Cert.ProjGateIdeal.nD Cert.ProjGateIdeal.τ).loc Cert.ProjGateIdeal.main_arg0)
      ∧ m' ((c.tc : Thread Cert.ProjGateRefIdeal.nD Cert.ProjGateRefIdeal.τ).loc Cert.ProjGateRefIdeal.main_arg1) = m ((c.tc : Thread Cert.ProjGateIdeal.nD Cert.ProjGateIdeal.τ).loc Cert.ProjGateIdeal.main_arg1)) →
    ∃ (v0 : (c : Dev Cert.ProjGateIdeal.nD) → Buf (Elt Ideal) ((c.tc : Thread Cert.ProjGateIdeal.nD Cert.ProjGateIdeal.τ).loc Cert.ProjGateIdeal.main_v0)),
      θ_run (Cert.ProjGateIdeal.defs (F := Ideal)) (onTc (τ := Cert.ProjGateIdeal.τ) (Cert.ProjGateIdeal.main (F := Ideal))) ⟨m, fun _ => 0, g⟩ (fun r => ∀ c : Dev Cert.ProjGateIdeal.nD,
          r.2.mem ((c.tc : Thread Cert.ProjGateIdeal.nD Cert.ProjGateIdeal.τ).loc Cert.ProjGateIdeal.main_v0) = v0 c
          ∧ r.2.mem ((c.tc : Thread Cert.ProjGateIdeal.nD Cert.ProjGateIdeal.τ).loc Cert.ProjGateIdeal.main_arg0) = m ((c.tc : Thread Cert.ProjGateIdeal.nD Cert.ProjGateIdeal.τ).loc Cert.ProjGateIdeal.main_arg0)
          ∧ r.2.mem ((c.tc : Thread Cert.ProjGateIdeal.nD Cert.ProjGateIdeal.τ).loc Cert.ProjGateIdeal.main_arg1) = m ((c.tc : Thread Cert.ProjGateIdeal.nD Cert.ProjGateIdeal.τ).loc Cert.ProjGateIdeal.main_arg1))
      ∧ θ_run (Cert.ProjGateRefIdeal.defs (F := Ideal)) (onTc (τ := Cert.ProjGateRefIdeal.τ) (Cert.ProjGateRefIdeal.main (F := Ideal))) ⟨m', fun _ => 0, g'⟩ (fun r => ∀ c : Dev Cert.ProjGateRefIdeal.nD,
          r.2.mem ((c.tc : Thread Cert.ProjGateRefIdeal.nD Cert.ProjGateRefIdeal.τ).loc Cert.ProjGateRefIdeal.main_v2) = v0 c
          ∧ r.2.mem ((c.tc : Thread Cert.ProjGateRefIdeal.nD Cert.ProjGateRefIdeal.τ).loc Cert.ProjGateRefIdeal.main_arg0) = m' ((c.tc : Thread Cert.ProjGateRefIdeal.nD Cert.ProjGateRefIdeal.τ).loc Cert.ProjGateRefIdeal.main_arg0)
          ∧ r.2.mem ((c.tc : Thread Cert.ProjGateRefIdeal.nD Cert.ProjGateRefIdeal.τ).loc Cert.ProjGateRefIdeal.main_arg1) = m' ((c.tc : Thread Cert.ProjGateRefIdeal.nD Cert.ProjGateRefIdeal.τ).loc Cert.ProjGateRefIdeal.main_arg1))

def preserves_ProjSmall_ProjSmallIdeal : Prop :=
  True

def algebraic_ProjSmallIdeal_ProjSmallRefIdeal [hProjSmallIdeal : Cert.ProjSmallIdeal.Facts] [hProjSmallRefIdeal : Cert.ProjSmallRefIdeal.Facts] : Prop :=
  ∀ (m : (ℓ : Loc Cert.ProjSmallIdeal.nD Cert.ProjSmallIdeal.τ Cert.ProjSmallIdeal.sig) → Buf (Elt Ideal) ℓ) (g : Dev Cert.ProjSmallIdeal.nD → PrngReg)
    (m' : (ℓ : Loc Cert.ProjSmallRefIdeal.nD Cert.ProjSmallRefIdeal.τ Cert.ProjSmallRefIdeal.sig) → Buf (Elt Ideal) ℓ) (g' : Dev Cert.ProjSmallRefIdeal.nD → PrngReg), Pre_ProjSmallIdeal m →
    (∀ c : Dev Cert.ProjSmallIdeal.nD,
      m' ((c.tc : Thread Cert.ProjSmallRefIdeal.nD Cert.ProjSmallRefIdeal.τ).loc Cert.ProjSmallRefIdeal.main_arg0) = m ((c.tc : Thread Cert.ProjSmallIdeal.nD Cert.ProjSmallIdeal.τ).loc Cert.ProjSmallIdeal.main_arg0)
      ∧ m' ((c.tc : Thread Cert.ProjSmallRefIdeal.nD Cert.ProjSmallRefIdeal.τ).loc Cert.ProjSmallRefIdeal.main_arg1) = m ((c.tc : Thread Cert.ProjSmallIdeal.nD Cert.ProjSmallIdeal.τ).loc Cert.ProjSmallIdeal.main_arg1)) →
    ∃ (v0 : (c : Dev Cert.ProjSmallIdeal.nD) → Buf (Elt Ideal) ((c.tc : Thread Cert.ProjSmallIdeal.nD Cert.ProjSmallIdeal.τ).loc Cert.ProjSmallIdeal.main_v0)),
      θ_run (Cert.ProjSmallIdeal.defs (F := Ideal)) (onTc (τ := Cert.ProjSmallIdeal.τ) (Cert.ProjSmallIdeal.main (F := Ideal))) ⟨m, fun _ => 0, g⟩ (fun r => ∀ c : Dev Cert.ProjSmallIdeal.nD,
          r.2.mem ((c.tc : Thread Cert.ProjSmallIdeal.nD Cert.ProjSmallIdeal.τ).loc Cert.ProjSmallIdeal.main_v0) = v0 c
          ∧ r.2.mem ((c.tc : Thread Cert.ProjSmallIdeal.nD Cert.ProjSmallIdeal.τ).loc Cert.ProjSmallIdeal.main_arg0) = m ((c.tc : Thread Cert.ProjSmallIdeal.nD Cert.ProjSmallIdeal.τ).loc Cert.ProjSmallIdeal.main_arg0)
          ∧ r.2.mem ((c.tc : Thread Cert.ProjSmallIdeal.nD Cert.ProjSmallIdeal.τ).loc Cert.ProjSmallIdeal.main_arg1) = m ((c.tc : Thread Cert.ProjSmallIdeal.nD Cert.ProjSmallIdeal.τ).loc Cert.ProjSmallIdeal.main_arg1))
      ∧ θ_run (Cert.ProjSmallRefIdeal.defs (F := Ideal)) (onTc (τ := Cert.ProjSmallRefIdeal.τ) (Cert.ProjSmallRefIdeal.main (F := Ideal))) ⟨m', fun _ => 0, g'⟩ (fun r => ∀ c : Dev Cert.ProjSmallRefIdeal.nD,
          r.2.mem ((c.tc : Thread Cert.ProjSmallRefIdeal.nD Cert.ProjSmallRefIdeal.τ).loc Cert.ProjSmallRefIdeal.main_v2) = v0 c
          ∧ r.2.mem ((c.tc : Thread Cert.ProjSmallRefIdeal.nD Cert.ProjSmallRefIdeal.τ).loc Cert.ProjSmallRefIdeal.main_arg0) = m' ((c.tc : Thread Cert.ProjSmallRefIdeal.nD Cert.ProjSmallRefIdeal.τ).loc Cert.ProjSmallRefIdeal.main_arg0)
          ∧ r.2.mem ((c.tc : Thread Cert.ProjSmallRefIdeal.nD Cert.ProjSmallRefIdeal.τ).loc Cert.ProjSmallRefIdeal.main_arg1) = m' ((c.tc : Thread Cert.ProjSmallRefIdeal.nD Cert.ProjSmallRefIdeal.τ).loc Cert.ProjSmallRefIdeal.main_arg1))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)) →
    ∃ (v0 : (c : Dev Cert.ProjAIdeal.nD) → Buf (Elt Ideal) ((c.tc : Thread Cert.ProjAIdeal.nD Cert.ProjAIdeal.τ).loc Cert.ProjAIdeal.main_v0)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v0) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v2) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)) →
    ∃ (v0 : (c : Dev Cert.ProjBIdeal.nD) → Buf (Elt Ideal) ((c.tc : Thread Cert.ProjBIdeal.nD Cert.ProjBIdeal.τ).loc Cert.ProjBIdeal.main_v0)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v0) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v1) = v0 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1))

def preserves_ProjOut_ProjOutIdeal : Prop :=
  True

def algebraic_ProjOutIdeal_ProjOutRefIdeal [hProjOutIdeal : Cert.ProjOutIdeal.Facts] [hProjOutRefIdeal : Cert.ProjOutRefIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.ProjOutRefIdeal.nD Cert.ProjOutRefIdeal.τ Cert.ProjOutRefIdeal.sig) → Buf (Elt Ideal) ℓ) (g' : Dev Cert.ProjOutRefIdeal.nD → PrngReg), Pre_ProjOutIdeal m →
    (∀ c : Dev Cert.ProjOutIdeal.nD,
      m' ((c.tc : Thread Cert.ProjOutRefIdeal.nD Cert.ProjOutRefIdeal.τ).loc Cert.ProjOutRefIdeal.main_arg0) = m ((c.tc : Thread Cert.ProjOutIdeal.nD Cert.ProjOutIdeal.τ).loc Cert.ProjOutIdeal.main_arg0)
      ∧ m' ((c.tc : Thread Cert.ProjOutRefIdeal.nD Cert.ProjOutRefIdeal.τ).loc Cert.ProjOutRefIdeal.main_arg1) = m ((c.tc : Thread Cert.ProjOutIdeal.nD Cert.ProjOutIdeal.τ).loc Cert.ProjOutIdeal.main_arg1)
      ∧ m' ((c.tc : Thread Cert.ProjOutRefIdeal.nD Cert.ProjOutRefIdeal.τ).loc Cert.ProjOutRefIdeal.main_arg2) = m ((c.tc : Thread Cert.ProjOutIdeal.nD Cert.ProjOutIdeal.τ).loc Cert.ProjOutIdeal.main_arg2)) →
    ∃ (v0 : (c : Dev Cert.ProjOutIdeal.nD) → Buf (Elt Ideal) ((c.tc : Thread Cert.ProjOutIdeal.nD Cert.ProjOutIdeal.τ).loc Cert.ProjOutIdeal.main_v0)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v0) = v0 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
          ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2))
      ∧ θ_run (Cert.ProjOutRefIdeal.defs (F := Ideal)) (onTc (τ := Cert.ProjOutRefIdeal.τ) (Cert.ProjOutRefIdeal.main (F := Ideal))) ⟨m', fun _ => 0, g'⟩ (fun r => ∀ c : Dev Cert.ProjOutRefIdeal.nD,
          r.2.mem ((c.tc : Thread Cert.ProjOutRefIdeal.nD Cert.ProjOutRefIdeal.τ).loc Cert.ProjOutRefIdeal.main_v3) = v0 c
          ∧ r.2.mem ((c.tc : Thread Cert.ProjOutRefIdeal.nD Cert.ProjOutRefIdeal.τ).loc Cert.ProjOutRefIdeal.main_arg0) = m' ((c.tc : Thread Cert.ProjOutRefIdeal.nD Cert.ProjOutRefIdeal.τ).loc Cert.ProjOutRefIdeal.main_arg0)
          ∧ r.2.mem ((c.tc : Thread Cert.ProjOutRefIdeal.nD Cert.ProjOutRefIdeal.τ).loc Cert.ProjOutRefIdeal.main_arg1) = m' ((c.tc : Thread Cert.ProjOutRefIdeal.nD Cert.ProjOutRefIdeal.τ).loc Cert.ProjOutRefIdeal.main_arg1)
          ∧ r.2.mem ((c.tc : Thread Cert.ProjOutRefIdeal.nD Cert.ProjOutRefIdeal.τ).loc Cert.ProjOutRefIdeal.main_arg2) = m' ((c.tc : Thread Cert.ProjOutRefIdeal.nD Cert.ProjOutRefIdeal.τ).loc Cert.ProjOutRefIdeal.main_arg2))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v0_0)) (v1 : (c : Dev Cert.MlpUpIdeal.nD) → Buf (Elt Ideal) ((c.tc : Thread Cert.MlpUpIdeal.nD Cert.MlpUpIdeal.τ).loc Cert.MlpUpIdeal.main_v0_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v0_0) = v0 c
          ∧ r.2.mem ((c.tc : Thread Cert.MlpUpIdeal.nD Cert.MlpUpIdeal.τ).loc Cert.MlpUpIdeal.main_v0_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v3) = v0 c
          ∧ r.2.mem ((c.tc : Thread Cert.MlpUpRefIdeal.nD Cert.MlpUpRefIdeal.τ).loc Cert.MlpUpRefIdeal.main_v6) = v1 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)) →
    ∃ (v0 : (c : Dev Cert.MlpDownIdeal.nD) → Buf (Elt Ideal) ((c.tc : Thread Cert.MlpDownIdeal.nD Cert.MlpDownIdeal.τ).loc Cert.MlpDownIdeal.main_v0)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v0) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v3) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v14) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v0_0)) (v1 : (c : Dev Cert.RmsBwdIdeal.nD) → Buf (Elt Ideal) ((c.tc : Thread Cert.RmsBwdIdeal.nD Cert.RmsBwdIdeal.τ).loc Cert.RmsBwdIdeal.main_v0_1)) (v2 : (c : Dev Cert.RmsBwdIdeal.nD) → Buf (Elt Ideal) ((c.tc : Thread Cert.RmsBwdIdeal.nD Cert.RmsBwdIdeal.τ).loc Cert.RmsBwdIdeal.main_v0_2)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v0_0) = v0 c
          ∧ r.2.mem ((c.tc : Thread Cert.RmsBwdIdeal.nD Cert.RmsBwdIdeal.τ).loc Cert.RmsBwdIdeal.main_v0_1) = v1 c
          ∧ r.2.mem ((c.tc : Thread Cert.RmsBwdIdeal.nD Cert.RmsBwdIdeal.τ).loc Cert.RmsBwdIdeal.main_v0_2) = v2 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v38) = v0 c
          ∧ r.2.mem ((c.tc : Thread Cert.RmsBwdRefIdeal.nD Cert.RmsBwdRefIdeal.τ).loc Cert.RmsBwdRefIdeal.main_v40) = v1 c
          ∧ r.2.mem ((c.tc : Thread Cert.RmsBwdRefIdeal.nD Cert.RmsBwdRefIdeal.τ).loc Cert.RmsBwdRefIdeal.main_v23) = v2 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v17) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2))

def preserves_Dmerge_DmergeIdeal : Prop :=
  True

def algebraic_DmergeIdeal_DmergeRefIdeal [hDmergeIdeal : Cert.DmergeIdeal.Facts] [hDmergeRefIdeal : Cert.DmergeRefIdeal.Facts] : Prop :=
  ∀ (m : (ℓ : Loc Cert.DmergeIdeal.nD Cert.DmergeIdeal.τ Cert.DmergeIdeal.sig) → Buf (Elt Ideal) ℓ) (g : Dev Cert.DmergeIdeal.nD → PrngReg)
    (m' : (ℓ : Loc Cert.DmergeRefIdeal.nD Cert.DmergeRefIdeal.τ Cert.DmergeRefIdeal.sig) → Buf (Elt Ideal) ℓ) (g' : Dev Cert.DmergeRefIdeal.nD → PrngReg), Pre_DmergeIdeal m →
    (∀ c : Dev Cert.DmergeIdeal.nD,
      m' ((c.tc : Thread Cert.DmergeRefIdeal.nD Cert.DmergeRefIdeal.τ).loc Cert.DmergeRefIdeal.main_arg0) = m ((c.tc : Thread Cert.DmergeIdeal.nD Cert.DmergeIdeal.τ).loc Cert.DmergeIdeal.main_arg0)
      ∧ m' ((c.tc : Thread Cert.DmergeRefIdeal.nD Cert.DmergeRefIdeal.τ).loc Cert.DmergeRefIdeal.main_arg1) = m ((c.tc : Thread Cert.DmergeIdeal.nD Cert.DmergeIdeal.τ).loc Cert.DmergeIdeal.main_arg1)
      ∧ m' ((c.tc : Thread Cert.DmergeRefIdeal.nD Cert.DmergeRefIdeal.τ).loc Cert.DmergeRefIdeal.main_arg2) = m ((c.tc : Thread Cert.DmergeIdeal.nD Cert.DmergeIdeal.τ).loc Cert.DmergeIdeal.main_arg2)
      ∧ m' ((c.tc : Thread Cert.DmergeRefIdeal.nD Cert.DmergeRefIdeal.τ).loc Cert.DmergeRefIdeal.main_arg3) = m ((c.tc : Thread Cert.DmergeIdeal.nD Cert.DmergeIdeal.τ).loc Cert.DmergeIdeal.main_arg3)) →
    ∃ (v0 : (c : Dev Cert.DmergeIdeal.nD) → Buf (Elt Ideal) ((c.tc : Thread Cert.DmergeIdeal.nD Cert.DmergeIdeal.τ).loc Cert.DmergeIdeal.main_v0_0)) (v1 : (c : Dev Cert.DmergeIdeal.nD) → Buf (Elt Ideal) ((c.tc : Thread Cert.DmergeIdeal.nD Cert.DmergeIdeal.τ).loc Cert.DmergeIdeal.main_v0_1)) (v2 : (c : Dev Cert.DmergeIdeal.nD) → Buf (Elt Ideal) ((c.tc : Thread Cert.DmergeIdeal.nD Cert.DmergeIdeal.τ).loc Cert.DmergeIdeal.main_v0_2)) (v3 : (c : Dev Cert.DmergeIdeal.nD) → Buf (Elt Ideal) ((c.tc : Thread Cert.DmergeIdeal.nD Cert.DmergeIdeal.τ).loc Cert.DmergeIdeal.main_v0_3)),
      θ_run (Cert.DmergeIdeal.defs (F := Ideal)) (onTc (τ := Cert.DmergeIdeal.τ) (Cert.DmergeIdeal.main (F := Ideal))) ⟨m, fun _ => 0, g⟩ (fun r => ∀ c : Dev Cert.DmergeIdeal.nD,
          r.2.mem ((c.tc : Thread Cert.DmergeIdeal.nD Cert.DmergeIdeal.τ).loc Cert.DmergeIdeal.main_v0_0) = v0 c
          ∧ r.2.mem ((c.tc : Thread Cert.DmergeIdeal.nD Cert.DmergeIdeal.τ).loc Cert.DmergeIdeal.main_v0_1) = v1 c
          ∧ r.2.mem ((c.tc : Thread Cert.DmergeIdeal.nD Cert.DmergeIdeal.τ).loc Cert.DmergeIdeal.main_v0_2) = v2 c
          ∧ r.2.mem ((c.tc : Thread Cert.DmergeIdeal.nD Cert.DmergeIdeal.τ).loc Cert.DmergeIdeal.main_v0_3) = v3 c
          ∧ r.2.mem ((c.tc : Thread Cert.DmergeIdeal.nD Cert.DmergeIdeal.τ).loc Cert.DmergeIdeal.main_arg0) = m ((c.tc : Thread Cert.DmergeIdeal.nD Cert.DmergeIdeal.τ).loc Cert.DmergeIdeal.main_arg0)
          ∧ r.2.mem ((c.tc : Thread Cert.DmergeIdeal.nD Cert.DmergeIdeal.τ).loc Cert.DmergeIdeal.main_arg1) = m ((c.tc : Thread Cert.DmergeIdeal.nD Cert.DmergeIdeal.τ).loc Cert.DmergeIdeal.main_arg1)
          ∧ r.2.mem ((c.tc : Thread Cert.DmergeIdeal.nD Cert.DmergeIdeal.τ).loc Cert.DmergeIdeal.main_arg2) = m ((c.tc : Thread Cert.DmergeIdeal.nD Cert.DmergeIdeal.τ).loc Cert.DmergeIdeal.main_arg2)
          ∧ r.2.mem ((c.tc : Thread Cert.DmergeIdeal.nD Cert.DmergeIdeal.τ).loc Cert.DmergeIdeal.main_arg3) = m ((c.tc : Thread Cert.DmergeIdeal.nD Cert.DmergeIdeal.τ).loc Cert.DmergeIdeal.main_arg3))
      ∧ θ_run (Cert.DmergeRefIdeal.defs (F := Ideal)) (onTc (τ := Cert.DmergeRefIdeal.τ) (Cert.DmergeRefIdeal.main (F := Ideal))) ⟨m', fun _ => 0, g'⟩ (fun r => ∀ c : Dev Cert.DmergeRefIdeal.nD,
          r.2.mem ((c.tc : Thread Cert.DmergeRefIdeal.nD Cert.DmergeRefIdeal.τ).loc Cert.DmergeRefIdeal.main_v34) = v0 c
          ∧ r.2.mem ((c.tc : Thread Cert.DmergeRefIdeal.nD Cert.DmergeRefIdeal.τ).loc Cert.DmergeRefIdeal.main_v35) = v1 c
          ∧ r.2.mem ((c.tc : Thread Cert.DmergeRefIdeal.nD Cert.DmergeRefIdeal.τ).loc Cert.DmergeRefIdeal.main_v37) = v2 c
          ∧ r.2.mem ((c.tc : Thread Cert.DmergeRefIdeal.nD Cert.DmergeRefIdeal.τ).loc Cert.DmergeRefIdeal.main_v39) = v3 c
          ∧ r.2.mem ((c.tc : Thread Cert.DmergeRefIdeal.nD Cert.DmergeRefIdeal.τ).loc Cert.DmergeRefIdeal.main_arg0) = m' ((c.tc : Thread Cert.DmergeRefIdeal.nD Cert.DmergeRefIdeal.τ).loc Cert.DmergeRefIdeal.main_arg0)
          ∧ r.2.mem ((c.tc : Thread Cert.DmergeRefIdeal.nD Cert.DmergeRefIdeal.τ).loc Cert.DmergeRefIdeal.main_arg1) = m' ((c.tc : Thread Cert.DmergeRefIdeal.nD Cert.DmergeRefIdeal.τ).loc Cert.DmergeRefIdeal.main_arg1)
          ∧ r.2.mem ((c.tc : Thread Cert.DmergeRefIdeal.nD Cert.DmergeRefIdeal.τ).loc Cert.DmergeRefIdeal.main_arg2) = m' ((c.tc : Thread Cert.DmergeRefIdeal.nD Cert.DmergeRefIdeal.τ).loc Cert.DmergeRefIdeal.main_arg2)
          ∧ r.2.mem ((c.tc : Thread Cert.DmergeRefIdeal.nD Cert.DmergeRefIdeal.τ).loc Cert.DmergeRefIdeal.main_arg3) = m' ((c.tc : Thread Cert.DmergeRefIdeal.nD Cert.DmergeRefIdeal.τ).loc Cert.DmergeRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_v16) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_ToBf16_ToBf16Ideal : Prop :=
  True

def algebraic_ToBf16Ideal_ToBf16RefIdeal [hToBf16Ideal : Cert.ToBf16Ideal.Facts] [hToBf16RefIdeal : Cert.ToBf16RefIdeal.Facts] : Prop :=
  ∀ (m : (ℓ : Loc Cert.ToBf16Ideal.nD Cert.ToBf16Ideal.τ Cert.ToBf16Ideal.sig) → Buf (Elt Ideal) ℓ) (g : Dev Cert.ToBf16Ideal.nD → PrngReg)
    (m' : (ℓ : Loc Cert.ToBf16RefIdeal.nD Cert.ToBf16RefIdeal.τ Cert.ToBf16RefIdeal.sig) → Buf (Elt Ideal) ℓ) (g' : Dev Cert.ToBf16RefIdeal.nD → PrngReg), Pre_ToBf16Ideal m →
    (∀ c : Dev Cert.ToBf16Ideal.nD,
      m' ((c.tc : Thread Cert.ToBf16RefIdeal.nD Cert.ToBf16RefIdeal.τ).loc Cert.ToBf16RefIdeal.main_arg0) = m ((c.tc : Thread Cert.ToBf16Ideal.nD Cert.ToBf16Ideal.τ).loc Cert.ToBf16Ideal.main_arg0)
      ∧ m' ((c.tc : Thread Cert.ToBf16RefIdeal.nD Cert.ToBf16RefIdeal.τ).loc Cert.ToBf16RefIdeal.main_arg1) = m ((c.tc : Thread Cert.ToBf16Ideal.nD Cert.ToBf16Ideal.τ).loc Cert.ToBf16Ideal.main_arg1)
      ∧ m' ((c.tc : Thread Cert.ToBf16RefIdeal.nD Cert.ToBf16RefIdeal.τ).loc Cert.ToBf16RefIdeal.main_arg2) = m ((c.tc : Thread Cert.ToBf16Ideal.nD Cert.ToBf16Ideal.τ).loc Cert.ToBf16Ideal.main_arg2)
      ∧ m' ((c.tc : Thread Cert.ToBf16RefIdeal.nD Cert.ToBf16RefIdeal.τ).loc Cert.ToBf16RefIdeal.main_arg3) = m ((c.tc : Thread Cert.ToBf16Ideal.nD Cert.ToBf16Ideal.τ).loc Cert.ToBf16Ideal.main_arg3)
      ∧ m' ((c.tc : Thread Cert.ToBf16RefIdeal.nD Cert.ToBf16RefIdeal.τ).loc Cert.ToBf16RefIdeal.main_arg4) = m ((c.tc : Thread Cert.ToBf16Ideal.nD Cert.ToBf16Ideal.τ).loc Cert.ToBf16Ideal.main_arg4)
      ∧ m' ((c.tc : Thread Cert.ToBf16RefIdeal.nD Cert.ToBf16RefIdeal.τ).loc Cert.ToBf16RefIdeal.main_arg5) = m ((c.tc : Thread Cert.ToBf16Ideal.nD Cert.ToBf16Ideal.τ).loc Cert.ToBf16Ideal.main_arg5)) →
    ∃ (v0 : (c : Dev Cert.ToBf16Ideal.nD) → Buf (Elt Ideal) ((c.tc : Thread Cert.ToBf16Ideal.nD Cert.ToBf16Ideal.τ).loc Cert.ToBf16Ideal.main_v0_0)) (v1 : (c : Dev Cert.ToBf16Ideal.nD) → Buf (Elt Ideal) ((c.tc : Thread Cert.ToBf16Ideal.nD Cert.ToBf16Ideal.τ).loc Cert.ToBf16Ideal.main_v0_1)) (v2 : (c : Dev Cert.ToBf16Ideal.nD) → Buf (Elt Ideal) ((c.tc : Thread Cert.ToBf16Ideal.nD Cert.ToBf16Ideal.τ).loc Cert.ToBf16Ideal.main_v0_2)) (v3 : (c : Dev Cert.ToBf16Ideal.nD) → Buf (Elt Ideal) ((c.tc : Thread Cert.ToBf16Ideal.nD Cert.ToBf16Ideal.τ).loc Cert.ToBf16Ideal.main_v0_3)) (v4 : (c : Dev Cert.ToBf16Ideal.nD) → Buf (Elt Ideal) ((c.tc : Thread Cert.ToBf16Ideal.nD Cert.ToBf16Ideal.τ).loc Cert.ToBf16Ideal.main_v0_4)) (v5 : (c : Dev Cert.ToBf16Ideal.nD) → Buf (Elt Ideal) ((c.tc : Thread Cert.ToBf16Ideal.nD Cert.ToBf16Ideal.τ).loc Cert.ToBf16Ideal.main_v0_5)),
      θ_run (Cert.ToBf16Ideal.defs (F := Ideal)) (onTc (τ := Cert.ToBf16Ideal.τ) (Cert.ToBf16Ideal.main (F := Ideal))) ⟨m, fun _ => 0, g⟩ (fun r => ∀ c : Dev Cert.ToBf16Ideal.nD,
          r.2.mem ((c.tc : Thread Cert.ToBf16Ideal.nD Cert.ToBf16Ideal.τ).loc Cert.ToBf16Ideal.main_v0_0) = v0 c
          ∧ r.2.mem ((c.tc : Thread Cert.ToBf16Ideal.nD Cert.ToBf16Ideal.τ).loc Cert.ToBf16Ideal.main_v0_1) = v1 c
          ∧ r.2.mem ((c.tc : Thread Cert.ToBf16Ideal.nD Cert.ToBf16Ideal.τ).loc Cert.ToBf16Ideal.main_v0_2) = v2 c
          ∧ r.2.mem ((c.tc : Thread Cert.ToBf16Ideal.nD Cert.ToBf16Ideal.τ).loc Cert.ToBf16Ideal.main_v0_3) = v3 c
          ∧ r.2.mem ((c.tc : Thread Cert.ToBf16Ideal.nD Cert.ToBf16Ideal.τ).loc Cert.ToBf16Ideal.main_v0_4) = v4 c
          ∧ r.2.mem ((c.tc : Thread Cert.ToBf16Ideal.nD Cert.ToBf16Ideal.τ).loc Cert.ToBf16Ideal.main_v0_5) = v5 c
          ∧ r.2.mem ((c.tc : Thread Cert.ToBf16Ideal.nD Cert.ToBf16Ideal.τ).loc Cert.ToBf16Ideal.main_arg0) = m ((c.tc : Thread Cert.ToBf16Ideal.nD Cert.ToBf16Ideal.τ).loc Cert.ToBf16Ideal.main_arg0)
          ∧ r.2.mem ((c.tc : Thread Cert.ToBf16Ideal.nD Cert.ToBf16Ideal.τ).loc Cert.ToBf16Ideal.main_arg1) = m ((c.tc : Thread Cert.ToBf16Ideal.nD Cert.ToBf16Ideal.τ).loc Cert.ToBf16Ideal.main_arg1)
          ∧ r.2.mem ((c.tc : Thread Cert.ToBf16Ideal.nD Cert.ToBf16Ideal.τ).loc Cert.ToBf16Ideal.main_arg2) = m ((c.tc : Thread Cert.ToBf16Ideal.nD Cert.ToBf16Ideal.τ).loc Cert.ToBf16Ideal.main_arg2)
          ∧ r.2.mem ((c.tc : Thread Cert.ToBf16Ideal.nD Cert.ToBf16Ideal.τ).loc Cert.ToBf16Ideal.main_arg3) = m ((c.tc : Thread Cert.ToBf16Ideal.nD Cert.ToBf16Ideal.τ).loc Cert.ToBf16Ideal.main_arg3)
          ∧ r.2.mem ((c.tc : Thread Cert.ToBf16Ideal.nD Cert.ToBf16Ideal.τ).loc Cert.ToBf16Ideal.main_arg4) = m ((c.tc : Thread Cert.ToBf16Ideal.nD Cert.ToBf16Ideal.τ).loc Cert.ToBf16Ideal.main_arg4)
          ∧ r.2.mem ((c.tc : Thread Cert.ToBf16Ideal.nD Cert.ToBf16Ideal.τ).loc Cert.ToBf16Ideal.main_arg5) = m ((c.tc : Thread Cert.ToBf16Ideal.nD Cert.ToBf16Ideal.τ).loc Cert.ToBf16Ideal.main_arg5))
      ∧ θ_run (Cert.ToBf16RefIdeal.defs (F := Ideal)) (onTc (τ := Cert.ToBf16RefIdeal.τ) (Cert.ToBf16RefIdeal.main (F := Ideal))) ⟨m', fun _ => 0, g'⟩ (fun r => ∀ c : Dev Cert.ToBf16RefIdeal.nD,
          r.2.mem ((c.tc : Thread Cert.ToBf16RefIdeal.nD Cert.ToBf16RefIdeal.τ).loc Cert.ToBf16RefIdeal.main_v0) = v0 c
          ∧ r.2.mem ((c.tc : Thread Cert.ToBf16RefIdeal.nD Cert.ToBf16RefIdeal.τ).loc Cert.ToBf16RefIdeal.main_v1) = v1 c
          ∧ r.2.mem ((c.tc : Thread Cert.ToBf16RefIdeal.nD Cert.ToBf16RefIdeal.τ).loc Cert.ToBf16RefIdeal.main_v2) = v2 c
          ∧ r.2.mem ((c.tc : Thread Cert.ToBf16RefIdeal.nD Cert.ToBf16RefIdeal.τ).loc Cert.ToBf16RefIdeal.main_v3) = v3 c
          ∧ r.2.mem ((c.tc : Thread Cert.ToBf16RefIdeal.nD Cert.ToBf16RefIdeal.τ).loc Cert.ToBf16RefIdeal.main_v4) = v4 c
          ∧ r.2.mem ((c.tc : Thread Cert.ToBf16RefIdeal.nD Cert.ToBf16RefIdeal.τ).loc Cert.ToBf16RefIdeal.main_v5) = v5 c
          ∧ r.2.mem ((c.tc : Thread Cert.ToBf16RefIdeal.nD Cert.ToBf16RefIdeal.τ).loc Cert.ToBf16RefIdeal.main_arg0) = m' ((c.tc : Thread Cert.ToBf16RefIdeal.nD Cert.ToBf16RefIdeal.τ).loc Cert.ToBf16RefIdeal.main_arg0)
          ∧ r.2.mem ((c.tc : Thread Cert.ToBf16RefIdeal.nD Cert.ToBf16RefIdeal.τ).loc Cert.ToBf16RefIdeal.main_arg1) = m' ((c.tc : Thread Cert.ToBf16RefIdeal.nD Cert.ToBf16RefIdeal.τ).loc Cert.ToBf16RefIdeal.main_arg1)
          ∧ r.2.mem ((c.tc : Thread Cert.ToBf16RefIdeal.nD Cert.ToBf16RefIdeal.τ).loc Cert.ToBf16RefIdeal.main_arg2) = m' ((c.tc : Thread Cert.ToBf16RefIdeal.nD Cert.ToBf16RefIdeal.τ).loc Cert.ToBf16RefIdeal.main_arg2)
          ∧ r.2.mem ((c.tc : Thread Cert.ToBf16RefIdeal.nD Cert.ToBf16RefIdeal.τ).loc Cert.ToBf16RefIdeal.main_arg3) = m' ((c.tc : Thread Cert.ToBf16RefIdeal.nD Cert.ToBf16RefIdeal.τ).loc Cert.ToBf16RefIdeal.main_arg3)
          ∧ r.2.mem ((c.tc : Thread Cert.ToBf16RefIdeal.nD Cert.ToBf16RefIdeal.τ).loc Cert.ToBf16RefIdeal.main_arg4) = m' ((c.tc : Thread Cert.ToBf16RefIdeal.nD Cert.ToBf16RefIdeal.τ).loc Cert.ToBf16RefIdeal.main_arg4)
          ∧ r.2.mem ((c.tc : Thread Cert.ToBf16RefIdeal.nD Cert.ToBf16RefIdeal.τ).loc Cert.ToBf16RefIdeal.main_arg5) = m' ((c.tc : Thread Cert.ToBf16RefIdeal.nD Cert.ToBf16RefIdeal.τ).loc Cert.ToBf16RefIdeal.main_arg5))

def preserves_Pieces_PiecesIdeal : Prop :=
  True

def algebraic_PiecesIdeal_PiecesRefIdeal [hPiecesIdeal : Cert.PiecesIdeal.Facts] [hPiecesRefIdeal : Cert.PiecesRefIdeal.Facts] : Prop :=
  ∀ (m : (ℓ : Loc Cert.PiecesIdeal.nD Cert.PiecesIdeal.τ Cert.PiecesIdeal.sig) → Buf (Elt Ideal) ℓ) (g : Dev Cert.PiecesIdeal.nD → PrngReg)
    (m' : (ℓ : Loc Cert.PiecesRefIdeal.nD Cert.PiecesRefIdeal.τ Cert.PiecesRefIdeal.sig) → Buf (Elt Ideal) ℓ) (g' : Dev Cert.PiecesRefIdeal.nD → PrngReg), Pre_PiecesIdeal m →
    (∀ c : Dev Cert.PiecesIdeal.nD,
      m' ((c.tc : Thread Cert.PiecesRefIdeal.nD Cert.PiecesRefIdeal.τ).loc Cert.PiecesRefIdeal.main_arg0) = m ((c.tc : Thread Cert.PiecesIdeal.nD Cert.PiecesIdeal.τ).loc Cert.PiecesIdeal.main_arg0)) →
    ∃ (v0 : (c : Dev Cert.PiecesIdeal.nD) → Buf (Elt Ideal) ((c.tc : Thread Cert.PiecesIdeal.nD Cert.PiecesIdeal.τ).loc Cert.PiecesIdeal.main_v0_0)) (v1 : (c : Dev Cert.PiecesIdeal.nD) → Buf (Elt Ideal) ((c.tc : Thread Cert.PiecesIdeal.nD Cert.PiecesIdeal.τ).loc Cert.PiecesIdeal.main_v0_1)) (v2 : (c : Dev Cert.PiecesIdeal.nD) → Buf (Elt Ideal) ((c.tc : Thread Cert.PiecesIdeal.nD Cert.PiecesIdeal.τ).loc Cert.PiecesIdeal.main_v0_2)) (v3 : (c : Dev Cert.PiecesIdeal.nD) → Buf (Elt Ideal) ((c.tc : Thread Cert.PiecesIdeal.nD Cert.PiecesIdeal.τ).loc Cert.PiecesIdeal.main_v0_3)),
      θ_run (Cert.PiecesIdeal.defs (F := Ideal)) (onTc (τ := Cert.PiecesIdeal.τ) (Cert.PiecesIdeal.main (F := Ideal))) ⟨m, fun _ => 0, g⟩ (fun r => ∀ c : Dev Cert.PiecesIdeal.nD,
          r.2.mem ((c.tc : Thread Cert.PiecesIdeal.nD Cert.PiecesIdeal.τ).loc Cert.PiecesIdeal.main_v0_0) = v0 c
          ∧ r.2.mem ((c.tc : Thread Cert.PiecesIdeal.nD Cert.PiecesIdeal.τ).loc Cert.PiecesIdeal.main_v0_1) = v1 c
          ∧ r.2.mem ((c.tc : Thread Cert.PiecesIdeal.nD Cert.PiecesIdeal.τ).loc Cert.PiecesIdeal.main_v0_2) = v2 c
          ∧ r.2.mem ((c.tc : Thread Cert.PiecesIdeal.nD Cert.PiecesIdeal.τ).loc Cert.PiecesIdeal.main_v0_3) = v3 c
          ∧ r.2.mem ((c.tc : Thread Cert.PiecesIdeal.nD Cert.PiecesIdeal.τ).loc Cert.PiecesIdeal.main_arg0) = m ((c.tc : Thread Cert.PiecesIdeal.nD Cert.PiecesIdeal.τ).loc Cert.PiecesIdeal.main_arg0))
      ∧ θ_run (Cert.PiecesRefIdeal.defs (F := Ideal)) (onTc (τ := Cert.PiecesRefIdeal.τ) (Cert.PiecesRefIdeal.main (F := Ideal))) ⟨m', fun _ => 0, g'⟩ (fun r => ∀ c : Dev Cert.PiecesRefIdeal.nD,
          r.2.mem ((c.tc : Thread Cert.PiecesRefIdeal.nD Cert.PiecesRefIdeal.τ).loc Cert.PiecesRefIdeal.main_v6) = v0 c
          ∧ r.2.mem ((c.tc : Thread Cert.PiecesRefIdeal.nD Cert.PiecesRefIdeal.τ).loc Cert.PiecesRefIdeal.main_v7) = v1 c
          ∧ r.2.mem ((c.tc : Thread Cert.PiecesRefIdeal.nD Cert.PiecesRefIdeal.τ).loc Cert.PiecesRefIdeal.main_v8) = v2 c
          ∧ r.2.mem ((c.tc : Thread Cert.PiecesRefIdeal.nD Cert.PiecesRefIdeal.τ).loc Cert.PiecesRefIdeal.main_v5) = v3 c
          ∧ r.2.mem ((c.tc : Thread Cert.PiecesRefIdeal.nD Cert.PiecesRefIdeal.τ).loc Cert.PiecesRefIdeal.main_arg0) = m' ((c.tc : Thread Cert.PiecesRefIdeal.nD Cert.PiecesRefIdeal.τ).loc Cert.PiecesRefIdeal.main_arg0))

def preserves_Shards_ShardsIdeal : Prop :=
  True

def algebraic_ShardsIdeal_ShardsRefIdeal [hShardsIdeal : Cert.ShardsIdeal.Facts] [hShardsRefIdeal : Cert.ShardsRefIdeal.Facts] : Prop :=
  ∀ (m : (ℓ : Loc Cert.ShardsIdeal.nD Cert.ShardsIdeal.τ Cert.ShardsIdeal.sig) → Buf (Elt Ideal) ℓ) (g : Dev Cert.ShardsIdeal.nD → PrngReg)
    (m' : (ℓ : Loc Cert.ShardsRefIdeal.nD Cert.ShardsRefIdeal.τ Cert.ShardsRefIdeal.sig) → Buf (Elt Ideal) ℓ) (g' : Dev Cert.ShardsRefIdeal.nD → PrngReg), Pre_ShardsIdeal m →
    (∀ c : Dev Cert.ShardsIdeal.nD,
      m' ((c.tc : Thread Cert.ShardsRefIdeal.nD Cert.ShardsRefIdeal.τ).loc Cert.ShardsRefIdeal.main_arg0) = m ((c.tc : Thread Cert.ShardsIdeal.nD Cert.ShardsIdeal.τ).loc Cert.ShardsIdeal.main_arg0)
      ∧ m' ((c.tc : Thread Cert.ShardsRefIdeal.nD Cert.ShardsRefIdeal.τ).loc Cert.ShardsRefIdeal.main_arg1) = m ((c.tc : Thread Cert.ShardsIdeal.nD Cert.ShardsIdeal.τ).loc Cert.ShardsIdeal.main_arg1)
      ∧ m' ((c.tc : Thread Cert.ShardsRefIdeal.nD Cert.ShardsRefIdeal.τ).loc Cert.ShardsRefIdeal.main_arg2) = m ((c.tc : Thread Cert.ShardsIdeal.nD Cert.ShardsIdeal.τ).loc Cert.ShardsIdeal.main_arg2)
      ∧ m' ((c.tc : Thread Cert.ShardsRefIdeal.nD Cert.ShardsRefIdeal.τ).loc Cert.ShardsRefIdeal.main_arg3) = m ((c.tc : Thread Cert.ShardsIdeal.nD Cert.ShardsIdeal.τ).loc Cert.ShardsIdeal.main_arg3)
      ∧ m' ((c.tc : Thread Cert.ShardsRefIdeal.nD Cert.ShardsRefIdeal.τ).loc Cert.ShardsRefIdeal.main_arg4) = m ((c.tc : Thread Cert.ShardsIdeal.nD Cert.ShardsIdeal.τ).loc Cert.ShardsIdeal.main_arg4)
      ∧ m' ((c.tc : Thread Cert.ShardsRefIdeal.nD Cert.ShardsRefIdeal.τ).loc Cert.ShardsRefIdeal.main_arg5) = m ((c.tc : Thread Cert.ShardsIdeal.nD Cert.ShardsIdeal.τ).loc Cert.ShardsIdeal.main_arg5)
      ∧ m' ((c.tc : Thread Cert.ShardsRefIdeal.nD Cert.ShardsRefIdeal.τ).loc Cert.ShardsRefIdeal.main_arg6) = m ((c.tc : Thread Cert.ShardsIdeal.nD Cert.ShardsIdeal.τ).loc Cert.ShardsIdeal.main_arg6)
      ∧ m' ((c.tc : Thread Cert.ShardsRefIdeal.nD Cert.ShardsRefIdeal.τ).loc Cert.ShardsRefIdeal.main_arg7) = m ((c.tc : Thread Cert.ShardsIdeal.nD Cert.ShardsIdeal.τ).loc Cert.ShardsIdeal.main_arg7)
      ∧ m' ((c.tc : Thread Cert.ShardsRefIdeal.nD Cert.ShardsRefIdeal.τ).loc Cert.ShardsRefIdeal.main_arg8) = m ((c.tc : Thread Cert.ShardsIdeal.nD Cert.ShardsIdeal.τ).loc Cert.ShardsIdeal.main_arg8)
      ∧ m' ((c.tc : Thread Cert.ShardsRefIdeal.nD Cert.ShardsRefIdeal.τ).loc Cert.ShardsRefIdeal.main_arg9) = m ((c.tc : Thread Cert.ShardsIdeal.nD Cert.ShardsIdeal.τ).loc Cert.ShardsIdeal.main_arg9)) →
    ∃ (v0 : (c : Dev Cert.ShardsIdeal.nD) → Buf (Elt Ideal) ((c.tc : Thread Cert.ShardsIdeal.nD Cert.ShardsIdeal.τ).loc Cert.ShardsIdeal.main_v0)),
      θ_run (Cert.ShardsIdeal.defs (F := Ideal)) (onTc (τ := Cert.ShardsIdeal.τ) (Cert.ShardsIdeal.main (F := Ideal))) ⟨m, fun _ => 0, g⟩ (fun r => ∀ c : Dev Cert.ShardsIdeal.nD,
          r.2.mem ((c.tc : Thread Cert.ShardsIdeal.nD Cert.ShardsIdeal.τ).loc Cert.ShardsIdeal.main_v0) = v0 c
          ∧ r.2.mem ((c.tc : Thread Cert.ShardsIdeal.nD Cert.ShardsIdeal.τ).loc Cert.ShardsIdeal.main_arg0) = m ((c.tc : Thread Cert.ShardsIdeal.nD Cert.ShardsIdeal.τ).loc Cert.ShardsIdeal.main_arg0)
          ∧ r.2.mem ((c.tc : Thread Cert.ShardsIdeal.nD Cert.ShardsIdeal.τ).loc Cert.ShardsIdeal.main_arg1) = m ((c.tc : Thread Cert.ShardsIdeal.nD Cert.ShardsIdeal.τ).loc Cert.ShardsIdeal.main_arg1)
          ∧ r.2.mem ((c.tc : Thread Cert.ShardsIdeal.nD Cert.ShardsIdeal.τ).loc Cert.ShardsIdeal.main_arg2) = m ((c.tc : Thread Cert.ShardsIdeal.nD Cert.ShardsIdeal.τ).loc Cert.ShardsIdeal.main_arg2)
          ∧ r.2.mem ((c.tc : Thread Cert.ShardsIdeal.nD Cert.ShardsIdeal.τ).loc Cert.ShardsIdeal.main_arg3) = m ((c.tc : Thread Cert.ShardsIdeal.nD Cert.ShardsIdeal.τ).loc Cert.ShardsIdeal.main_arg3)
          ∧ r.2.mem ((c.tc : Thread Cert.ShardsIdeal.nD Cert.ShardsIdeal.τ).loc Cert.ShardsIdeal.main_arg4) = m ((c.tc : Thread Cert.ShardsIdeal.nD Cert.ShardsIdeal.τ).loc Cert.ShardsIdeal.main_arg4)
          ∧ r.2.mem ((c.tc : Thread Cert.ShardsIdeal.nD Cert.ShardsIdeal.τ).loc Cert.ShardsIdeal.main_arg5) = m ((c.tc : Thread Cert.ShardsIdeal.nD Cert.ShardsIdeal.τ).loc Cert.ShardsIdeal.main_arg5)
          ∧ r.2.mem ((c.tc : Thread Cert.ShardsIdeal.nD Cert.ShardsIdeal.τ).loc Cert.ShardsIdeal.main_arg6) = m ((c.tc : Thread Cert.ShardsIdeal.nD Cert.ShardsIdeal.τ).loc Cert.ShardsIdeal.main_arg6)
          ∧ r.2.mem ((c.tc : Thread Cert.ShardsIdeal.nD Cert.ShardsIdeal.τ).loc Cert.ShardsIdeal.main_arg7) = m ((c.tc : Thread Cert.ShardsIdeal.nD Cert.ShardsIdeal.τ).loc Cert.ShardsIdeal.main_arg7)
          ∧ r.2.mem ((c.tc : Thread Cert.ShardsIdeal.nD Cert.ShardsIdeal.τ).loc Cert.ShardsIdeal.main_arg8) = m ((c.tc : Thread Cert.ShardsIdeal.nD Cert.ShardsIdeal.τ).loc Cert.ShardsIdeal.main_arg8)
          ∧ r.2.mem ((c.tc : Thread Cert.ShardsIdeal.nD Cert.ShardsIdeal.τ).loc Cert.ShardsIdeal.main_arg9) = m ((c.tc : Thread Cert.ShardsIdeal.nD Cert.ShardsIdeal.τ).loc Cert.ShardsIdeal.main_arg9))
      ∧ θ_run (Cert.ShardsRefIdeal.defs (F := Ideal)) (onTc (τ := Cert.ShardsRefIdeal.τ) (Cert.ShardsRefIdeal.main (F := Ideal))) ⟨m', fun _ => 0, g'⟩ (fun r => ∀ c : Dev Cert.ShardsRefIdeal.nD,
          r.2.mem ((c.tc : Thread Cert.ShardsRefIdeal.nD Cert.ShardsRefIdeal.τ).loc Cert.ShardsRefIdeal.main_v4) = v0 c
          ∧ r.2.mem ((c.tc : Thread Cert.ShardsRefIdeal.nD Cert.ShardsRefIdeal.τ).loc Cert.ShardsRefIdeal.main_arg0) = m' ((c.tc : Thread Cert.ShardsRefIdeal.nD Cert.ShardsRefIdeal.τ).loc Cert.ShardsRefIdeal.main_arg0)
          ∧ r.2.mem ((c.tc : Thread Cert.ShardsRefIdeal.nD Cert.ShardsRefIdeal.τ).loc Cert.ShardsRefIdeal.main_arg1) = m' ((c.tc : Thread Cert.ShardsRefIdeal.nD Cert.ShardsRefIdeal.τ).loc Cert.ShardsRefIdeal.main_arg1)
          ∧ r.2.mem ((c.tc : Thread Cert.ShardsRefIdeal.nD Cert.ShardsRefIdeal.τ).loc Cert.ShardsRefIdeal.main_arg2) = m' ((c.tc : Thread Cert.ShardsRefIdeal.nD Cert.ShardsRefIdeal.τ).loc Cert.ShardsRefIdeal.main_arg2)
          ∧ r.2.mem ((c.tc : Thread Cert.ShardsRefIdeal.nD Cert.ShardsRefIdeal.τ).loc Cert.ShardsRefIdeal.main_arg3) = m' ((c.tc : Thread Cert.ShardsRefIdeal.nD Cert.ShardsRefIdeal.τ).loc Cert.ShardsRefIdeal.main_arg3)
          ∧ r.2.mem ((c.tc : Thread Cert.ShardsRefIdeal.nD Cert.ShardsRefIdeal.τ).loc Cert.ShardsRefIdeal.main_arg4) = m' ((c.tc : Thread Cert.ShardsRefIdeal.nD Cert.ShardsRefIdeal.τ).loc Cert.ShardsRefIdeal.main_arg4)
          ∧ r.2.mem ((c.tc : Thread Cert.ShardsRefIdeal.nD Cert.ShardsRefIdeal.τ).loc Cert.ShardsRefIdeal.main_arg5) = m' ((c.tc : Thread Cert.ShardsRefIdeal.nD Cert.ShardsRefIdeal.τ).loc Cert.ShardsRefIdeal.main_arg5)
          ∧ r.2.mem ((c.tc : Thread Cert.ShardsRefIdeal.nD Cert.ShardsRefIdeal.τ).loc Cert.ShardsRefIdeal.main_arg6) = m' ((c.tc : Thread Cert.ShardsRefIdeal.nD Cert.ShardsRefIdeal.τ).loc Cert.ShardsRefIdeal.main_arg6)
          ∧ r.2.mem ((c.tc : Thread Cert.ShardsRefIdeal.nD Cert.ShardsRefIdeal.τ).loc Cert.ShardsRefIdeal.main_arg7) = m' ((c.tc : Thread Cert.ShardsRefIdeal.nD Cert.ShardsRefIdeal.τ).loc Cert.ShardsRefIdeal.main_arg7)
          ∧ r.2.mem ((c.tc : Thread Cert.ShardsRefIdeal.nD Cert.ShardsRefIdeal.τ).loc Cert.ShardsRefIdeal.main_arg8) = m' ((c.tc : Thread Cert.ShardsRefIdeal.nD Cert.ShardsRefIdeal.τ).loc Cert.ShardsRefIdeal.main_arg8)
          ∧ r.2.mem ((c.tc : Thread Cert.ShardsRefIdeal.nD Cert.ShardsRefIdeal.τ).loc Cert.ShardsRefIdeal.main_arg9) = m' ((c.tc : Thread Cert.ShardsRefIdeal.nD Cert.ShardsRefIdeal.τ).loc Cert.ShardsRefIdeal.main_arg9))

def preserves_AdamIn_AdamInIdeal : Prop :=
  True

def algebraic_AdamInIdeal_AdamInRefIdeal [hAdamInIdeal : Cert.AdamInIdeal.Facts] [hAdamInRefIdeal : Cert.AdamInRefIdeal.Facts] [hPre_slot_in : Cert.Pre_slot_in.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v8) = v0 c
          ∧ r.2.mem ((c.tc : Thread Cert.AdamInRefIdeal.nD Cert.AdamInRefIdeal.τ).loc Cert.AdamInRefIdeal.main_v32) = v1 c
          ∧ r.2.mem ((c.tc : Thread Cert.AdamInRefIdeal.nD Cert.AdamInRefIdeal.τ).loc Cert.AdamInRefIdeal.main_v13) = v2 c
          ∧ r.2.mem ((c.tc : Thread Cert.AdamInRefIdeal.nD Cert.AdamInRefIdeal.τ).loc Cert.AdamInRefIdeal.main_v19) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5))

def preserves_AdamProj_AdamProjIdeal : Prop :=
  True

def algebraic_AdamProjIdeal_AdamProjRefIdeal [hAdamProjIdeal : Cert.AdamProjIdeal.Facts] [hAdamProjRefIdeal : Cert.AdamProjRefIdeal.Facts] [hPre_slot_proj : Cert.Pre_slot_proj.Facts] : Prop :=
  ∀ (m : (ℓ : Loc Cert.AdamProjIdeal.nD Cert.AdamProjIdeal.τ Cert.AdamProjIdeal.sig) → Buf (Elt Ideal) ℓ) (g : Dev Cert.AdamProjIdeal.nD → PrngReg)
    (m' : (ℓ : Loc Cert.AdamProjRefIdeal.nD Cert.AdamProjRefIdeal.τ Cert.AdamProjRefIdeal.sig) → Buf (Elt Ideal) ℓ) (g' : Dev Cert.AdamProjRefIdeal.nD → PrngReg), Pre_AdamProjIdeal m →
    (∀ c : Dev Cert.AdamProjIdeal.nD,
      m' ((c.tc : Thread Cert.AdamProjRefIdeal.nD Cert.AdamProjRefIdeal.τ).loc Cert.AdamProjRefIdeal.main_arg0) = m ((c.tc : Thread Cert.AdamProjIdeal.nD Cert.AdamProjIdeal.τ).loc Cert.AdamProjIdeal.main_arg0)
      ∧ m' ((c.tc : Thread Cert.AdamProjRefIdeal.nD Cert.AdamProjRefIdeal.τ).loc Cert.AdamProjRefIdeal.main_arg1) = m ((c.tc : Thread Cert.AdamProjIdeal.nD Cert.AdamProjIdeal.τ).loc Cert.AdamProjIdeal.main_arg1)
      ∧ m' ((c.tc : Thread Cert.AdamProjRefIdeal.nD Cert.AdamProjRefIdeal.τ).loc Cert.AdamProjRefIdeal.main_arg2) = m ((c.tc : Thread Cert.AdamProjIdeal.nD Cert.AdamProjIdeal.τ).loc Cert.AdamProjIdeal.main_arg2)
      ∧ m' ((c.tc : Thread Cert.AdamProjRefIdeal.nD Cert.AdamProjRefIdeal.τ).loc Cert.AdamProjRefIdeal.main_arg3) = m ((c.tc : Thread Cert.AdamProjIdeal.nD Cert.AdamProjIdeal.τ).loc Cert.AdamProjIdeal.main_arg3)
      ∧ m' ((c.tc : Thread Cert.AdamProjRefIdeal.nD Cert.AdamProjRefIdeal.τ).loc Cert.AdamProjRefIdeal.main_arg4) = m ((c.tc : Thread Cert.AdamProjIdeal.nD Cert.AdamProjIdeal.τ).loc Cert.AdamProjIdeal.main_arg4)
      ∧ m' ((c.tc : Thread Cert.AdamProjRefIdeal.nD Cert.AdamProjRefIdeal.τ).loc Cert.AdamProjRefIdeal.main_arg5) = m ((c.tc : Thread Cert.AdamProjIdeal.nD Cert.AdamProjIdeal.τ).loc Cert.AdamProjIdeal.main_arg5)) →
    ∃ (v0 : (c : Dev Cert.AdamProjIdeal.nD) → Buf (Elt Ideal) ((c.tc : Thread Cert.AdamProjIdeal.nD Cert.AdamProjIdeal.τ).loc Cert.AdamProjIdeal.main_v0_0)) (v1 : (c : Dev Cert.AdamProjIdeal.nD) → Buf (Elt Ideal) ((c.tc : Thread Cert.AdamProjIdeal.nD Cert.AdamProjIdeal.τ).loc Cert.AdamProjIdeal.main_v0_1)) (v2 : (c : Dev Cert.AdamProjIdeal.nD) → Buf (Elt Ideal) ((c.tc : Thread Cert.AdamProjIdeal.nD Cert.AdamProjIdeal.τ).loc Cert.AdamProjIdeal.main_v0_2)) (v3 : (c : Dev Cert.AdamProjIdeal.nD) → Buf (Elt Ideal) ((c.tc : Thread Cert.AdamProjIdeal.nD Cert.AdamProjIdeal.τ).loc Cert.AdamProjIdeal.main_v0_3)),
      θ_run (Cert.AdamProjIdeal.defs (F := Ideal)) (onTc (τ := Cert.AdamProjIdeal.τ) (Cert.AdamProjIdeal.main (F := Ideal))) ⟨m, fun _ => 0, g⟩ (fun r => ∀ c : Dev Cert.AdamProjIdeal.nD,
          r.2.mem ((c.tc : Thread Cert.AdamProjIdeal.nD Cert.AdamProjIdeal.τ).loc Cert.AdamProjIdeal.main_v0_0) = v0 c
          ∧ r.2.mem ((c.tc : Thread Cert.AdamProjIdeal.nD Cert.AdamProjIdeal.τ).loc Cert.AdamProjIdeal.main_v0_1) = v1 c
          ∧ r.2.mem ((c.tc : Thread Cert.AdamProjIdeal.nD Cert.AdamProjIdeal.τ).loc Cert.AdamProjIdeal.main_v0_2) = v2 c
          ∧ r.2.mem ((c.tc : Thread Cert.AdamProjIdeal.nD Cert.AdamProjIdeal.τ).loc Cert.AdamProjIdeal.main_v0_3) = v3 c
          ∧ r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
          ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
          ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
          ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3)
          ∧ r.2.mem ((c.tc : Thread Cert.AdamProjIdeal.nD Cert.AdamProjIdeal.τ).loc Cert.AdamProjIdeal.main_arg4) = m ((c.tc : Thread Cert.AdamProjIdeal.nD Cert.AdamProjIdeal.τ).loc Cert.AdamProjIdeal.main_arg4)
          ∧ r.2.mem ((c.tc : Thread Cert.AdamProjIdeal.nD Cert.AdamProjIdeal.τ).loc Cert.AdamProjIdeal.main_arg5) = m ((c.tc : Thread Cert.AdamProjIdeal.nD Cert.AdamProjIdeal.τ).loc Cert.AdamProjIdeal.main_arg5))
      ∧ θ_run (Cert.AdamProjRefIdeal.defs (F := Ideal)) (onTc (τ := Cert.AdamProjRefIdeal.τ) (Cert.AdamProjRefIdeal.main (F := Ideal))) ⟨m', fun _ => 0, g'⟩ (fun r => ∀ c : Dev Cert.AdamProjRefIdeal.nD,
          r.2.mem ((c.tc : Thread Cert.AdamProjRefIdeal.nD Cert.AdamProjRefIdeal.τ).loc Cert.AdamProjRefIdeal.main_v8) = v0 c
          ∧ r.2.mem ((c.tc : Thread Cert.AdamProjRefIdeal.nD Cert.AdamProjRefIdeal.τ).loc Cert.AdamProjRefIdeal.main_v32) = v1 c
          ∧ r.2.mem ((c.tc : Thread Cert.AdamProjRefIdeal.nD Cert.AdamProjRefIdeal.τ).loc Cert.AdamProjRefIdeal.main_v13) = v2 c
          ∧ r.2.mem ((c.tc : Thread Cert.AdamProjRefIdeal.nD Cert.AdamProjRefIdeal.τ).loc Cert.AdamProjRefIdeal.main_v19) = v3 c
          ∧ r.2.mem ((c.tc : Thread Cert.AdamProjRefIdeal.nD Cert.AdamProjRefIdeal.τ).loc Cert.AdamProjRefIdeal.main_arg0) = m' ((c.tc : Thread Cert.AdamProjRefIdeal.nD Cert.AdamProjRefIdeal.τ).loc Cert.AdamProjRefIdeal.main_arg0)
          ∧ r.2.mem ((c.tc : Thread Cert.AdamProjRefIdeal.nD Cert.AdamProjRefIdeal.τ).loc Cert.AdamProjRefIdeal.main_arg1) = m' ((c.tc : Thread Cert.AdamProjRefIdeal.nD Cert.AdamProjRefIdeal.τ).loc Cert.AdamProjRefIdeal.main_arg1)
          ∧ r.2.mem ((c.tc : Thread Cert.AdamProjRefIdeal.nD Cert.AdamProjRefIdeal.τ).loc Cert.AdamProjRefIdeal.main_arg2) = m' ((c.tc : Thread Cert.AdamProjRefIdeal.nD Cert.AdamProjRefIdeal.τ).loc Cert.AdamProjRefIdeal.main_arg2)
          ∧ r.2.mem ((c.tc : Thread Cert.AdamProjRefIdeal.nD Cert.AdamProjRefIdeal.τ).loc Cert.AdamProjRefIdeal.main_arg3) = m' ((c.tc : Thread Cert.AdamProjRefIdeal.nD Cert.AdamProjRefIdeal.τ).loc Cert.AdamProjRefIdeal.main_arg3)
          ∧ r.2.mem ((c.tc : Thread Cert.AdamProjRefIdeal.nD Cert.AdamProjRefIdeal.τ).loc Cert.AdamProjRefIdeal.main_arg4) = m' ((c.tc : Thread Cert.AdamProjRefIdeal.nD Cert.AdamProjRefIdeal.τ).loc Cert.AdamProjRefIdeal.main_arg4)
          ∧ r.2.mem ((c.tc : Thread Cert.AdamProjRefIdeal.nD Cert.AdamProjRefIdeal.τ).loc Cert.AdamProjRefIdeal.main_arg5) = m' ((c.tc : Thread Cert.AdamProjRefIdeal.nD Cert.AdamProjRefIdeal.τ).loc Cert.AdamProjRefIdeal.main_arg5))

def preserves_AdamUp_AdamUpIdeal : Prop :=
  True

def algebraic_AdamUpIdeal_AdamUpRefIdeal [hAdamUpIdeal : Cert.AdamUpIdeal.Facts] [hAdamUpRefIdeal : Cert.AdamUpRefIdeal.Facts] [hPre_slot_up : Cert.Pre_slot_up.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)
      ∧ m' ((c.tc : Thread Cert.AdamUpRefIdeal.nD Cert.AdamUpRefIdeal.τ).loc Cert.AdamUpRefIdeal.main_arg5) = m ((c.tc : Thread Cert.AdamUpIdeal.nD Cert.AdamUpIdeal.τ).loc Cert.AdamUpIdeal.main_arg5)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
          ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v8) = v0 c
          ∧ r.2.mem ((c.tc : Thread Cert.AdamUpRefIdeal.nD Cert.AdamUpRefIdeal.τ).loc Cert.AdamUpRefIdeal.main_v32) = v1 c
          ∧ r.2.mem ((c.tc : Thread Cert.AdamUpRefIdeal.nD Cert.AdamUpRefIdeal.τ).loc Cert.AdamUpRefIdeal.main_v13) = v2 c
          ∧ r.2.mem ((c.tc : Thread Cert.AdamUpRefIdeal.nD Cert.AdamUpRefIdeal.τ).loc Cert.AdamUpRefIdeal.main_v19) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4)
          ∧ r.2.mem ((c.tc : Thread Cert.AdamUpRefIdeal.nD Cert.AdamUpRefIdeal.τ).loc Cert.AdamUpRefIdeal.main_arg5) = m' ((c.tc : Thread Cert.AdamUpRefIdeal.nD Cert.AdamUpRefIdeal.τ).loc Cert.AdamUpRefIdeal.main_arg5))

def preserves_AdamDown_AdamDownIdeal : Prop :=
  True

def algebraic_AdamDownIdeal_AdamDownRefIdeal [hAdamDownIdeal : Cert.AdamDownIdeal.Facts] [hAdamDownRefIdeal : Cert.AdamDownRefIdeal.Facts] [hPre_slot_down : Cert.Pre_slot_down.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)
      ∧ m' ((c.tc : Thread Cert.AdamDownRefIdeal.nD Cert.AdamDownRefIdeal.τ).loc Cert.AdamDownRefIdeal.main_arg5) = m ((c.tc : Thread Cert.AdamDownIdeal.nD Cert.AdamDownIdeal.τ).loc Cert.AdamDownIdeal.main_arg5)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
          ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v8) = v0 c
          ∧ r.2.mem ((c.tc : Thread Cert.AdamDownRefIdeal.nD Cert.AdamDownRefIdeal.τ).loc Cert.AdamDownRefIdeal.main_v32) = v1 c
          ∧ r.2.mem ((c.tc : Thread Cert.AdamDownRefIdeal.nD Cert.AdamDownRefIdeal.τ).loc Cert.AdamDownRefIdeal.main_v13) = v2 c
          ∧ r.2.mem ((c.tc : Thread Cert.AdamDownRefIdeal.nD Cert.AdamDownRefIdeal.τ).loc Cert.AdamDownRefIdeal.main_v19) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4)
          ∧ r.2.mem ((c.tc : Thread Cert.AdamDownRefIdeal.nD Cert.AdamDownRefIdeal.τ).loc Cert.AdamDownRefIdeal.main_arg5) = m' ((c.tc : Thread Cert.AdamDownRefIdeal.nD Cert.AdamDownRefIdeal.τ).loc Cert.AdamDownRefIdeal.main_arg5))

def preserves_Halves_HalvesIdeal : Prop :=
  True

def algebraic_HalvesIdeal_HalvesRefIdeal [hHalvesIdeal : Cert.HalvesIdeal.Facts] [hHalvesRefIdeal : Cert.HalvesRefIdeal.Facts] [hPre_core_half : Cert.Pre_core_half.Facts] : Prop :=
  ∀ (m : (ℓ : Loc Cert.HalvesIdeal.nD Cert.HalvesIdeal.τ Cert.HalvesIdeal.sig) → Buf (Elt Ideal) ℓ) (g : Dev Cert.HalvesIdeal.nD → PrngReg)
    (m' : (ℓ : Loc Cert.HalvesRefIdeal.nD Cert.HalvesRefIdeal.τ Cert.HalvesRefIdeal.sig) → Buf (Elt Ideal) ℓ) (g' : Dev Cert.HalvesRefIdeal.nD → PrngReg), Pre_HalvesIdeal m →
    (∀ c : Dev Cert.HalvesIdeal.nD,
      m' ((c.tc : Thread Cert.HalvesRefIdeal.nD Cert.HalvesRefIdeal.τ).loc Cert.HalvesRefIdeal.main_arg0) = m ((c.tc : Thread Cert.HalvesIdeal.nD Cert.HalvesIdeal.τ).loc Cert.HalvesIdeal.main_arg0)
      ∧ m' ((c.tc : Thread Cert.HalvesRefIdeal.nD Cert.HalvesRefIdeal.τ).loc Cert.HalvesRefIdeal.main_arg1) = m ((c.tc : Thread Cert.HalvesIdeal.nD Cert.HalvesIdeal.τ).loc Cert.HalvesIdeal.main_arg1)
      ∧ m' ((c.tc : Thread Cert.HalvesRefIdeal.nD Cert.HalvesRefIdeal.τ).loc Cert.HalvesRefIdeal.main_arg2) = m ((c.tc : Thread Cert.HalvesIdeal.nD Cert.HalvesIdeal.τ).loc Cert.HalvesIdeal.main_arg2)) →
    ∃ (v0 : (c : Dev Cert.HalvesIdeal.nD) → Buf (Elt Ideal) ((c.tc : Thread Cert.HalvesIdeal.nD Cert.HalvesIdeal.τ).loc Cert.HalvesIdeal.main_v0)),
      θ_run (Cert.HalvesIdeal.defs (F := Ideal)) (onTc (τ := Cert.HalvesIdeal.τ) (Cert.HalvesIdeal.main (F := Ideal))) ⟨m, fun _ => 0, g⟩ (fun r => ∀ c : Dev Cert.HalvesIdeal.nD,
          r.2.mem ((c.tc : Thread Cert.HalvesIdeal.nD Cert.HalvesIdeal.τ).loc Cert.HalvesIdeal.main_v0) = v0 c
          ∧ r.2.mem ((c.tc : Thread Cert.HalvesIdeal.nD Cert.HalvesIdeal.τ).loc Cert.HalvesIdeal.main_arg0) = m ((c.tc : Thread Cert.HalvesIdeal.nD Cert.HalvesIdeal.τ).loc Cert.HalvesIdeal.main_arg0)
          ∧ r.2.mem ((c.tc : Thread Cert.HalvesIdeal.nD Cert.HalvesIdeal.τ).loc Cert.HalvesIdeal.main_arg1) = m ((c.tc : Thread Cert.HalvesIdeal.nD Cert.HalvesIdeal.τ).loc Cert.HalvesIdeal.main_arg1)
          ∧ r.2.mem ((c.tc : Thread Cert.HalvesIdeal.nD Cert.HalvesIdeal.τ).loc Cert.HalvesIdeal.main_arg2) = m ((c.tc : Thread Cert.HalvesIdeal.nD Cert.HalvesIdeal.τ).loc Cert.HalvesIdeal.main_arg2))
      ∧ θ_run (Cert.HalvesRefIdeal.defs (F := Ideal)) (onTc (τ := Cert.HalvesRefIdeal.τ) (Cert.HalvesRefIdeal.main (F := Ideal))) ⟨m', fun _ => 0, g'⟩ (fun r => ∀ c : Dev Cert.HalvesRefIdeal.nD,
          r.2.mem ((c.tc : Thread Cert.HalvesRefIdeal.nD Cert.HalvesRefIdeal.τ).loc Cert.HalvesRefIdeal.main_v8) = v0 c
          ∧ r.2.mem ((c.tc : Thread Cert.HalvesRefIdeal.nD Cert.HalvesRefIdeal.τ).loc Cert.HalvesRefIdeal.main_arg0) = m' ((c.tc : Thread Cert.HalvesRefIdeal.nD Cert.HalvesRefIdeal.τ).loc Cert.HalvesRefIdeal.main_arg0)
          ∧ r.2.mem ((c.tc : Thread Cert.HalvesRefIdeal.nD Cert.HalvesRefIdeal.τ).loc Cert.HalvesRefIdeal.main_arg1) = m' ((c.tc : Thread Cert.HalvesRefIdeal.nD Cert.HalvesRefIdeal.τ).loc Cert.HalvesRefIdeal.main_arg1)
          ∧ r.2.mem ((c.tc : Thread Cert.HalvesRefIdeal.nD Cert.HalvesRefIdeal.τ).loc Cert.HalvesRefIdeal.main_arg2) = m' ((c.tc : Thread Cert.HalvesRefIdeal.nD Cert.HalvesRefIdeal.τ).loc Cert.HalvesRefIdeal.main_arg2))

def Claim : Prop :=
  ∃ (hKernel : Cert.Kernel.Facts) (hKernelIdeal : Cert.KernelIdeal.Facts) (hReferenceIdeal : Cert.ReferenceIdeal.Facts) (hDw : Cert.Dw.Facts) (hDwIdeal : Cert.DwIdeal.Facts) (hDwRefIdeal : Cert.DwRefIdeal.Facts) (hDx : Cert.Dx.Facts) (hDxIdeal : Cert.DxIdeal.Facts) (hDxRefIdeal : Cert.DxRefIdeal.Facts) (hDup : Cert.Dup.Facts) (hDupIdeal : Cert.DupIdeal.Facts) (hDupRefIdeal : Cert.DupRefIdeal.Facts) (hDwUp : Cert.DwUp.Facts) (hDwUpIdeal : Cert.DwUpIdeal.Facts) (hDwUpRefIdeal : Cert.DwUpRefIdeal.Facts) (hDwDown : Cert.DwDown.Facts) (hDwDownIdeal : Cert.DwDownIdeal.Facts) (hDwDownRefIdeal : Cert.DwDownRefIdeal.Facts) (hDhn : Cert.Dhn.Facts) (hDhnIdeal : Cert.DhnIdeal.Facts) (hDhnRefIdeal : Cert.DhnRefIdeal.Facts) (hDu : Cert.Du.Facts) (hDuIdeal : Cert.DuIdeal.Facts) (hDuRefIdeal : Cert.DuRefIdeal.Facts) (hDwOb : Cert.DwOb.Facts) (hDwObIdeal : Cert.DwObIdeal.Facts) (hDwObRefIdeal : Cert.DwObRefIdeal.Facts) (hDwSmall : Cert.DwSmall.Facts) (hDwSmallIdeal : Cert.DwSmallIdeal.Facts) (hDwSmallRefIdeal : Cert.DwSmallRefIdeal.Facts) (hProjGdn : Cert.ProjGdn.Facts) (hProjGdnIdeal : Cert.ProjGdnIdeal.Facts) (hProjGdnRefIdeal : Cert.ProjGdnRefIdeal.Facts) (hProjFox : Cert.ProjFox.Facts) (hProjFoxIdeal : Cert.ProjFoxIdeal.Facts) (hProjFoxRefIdeal : Cert.ProjFoxRefIdeal.Facts) (hProjGate : Cert.ProjGate.Facts) (hProjGateIdeal : Cert.ProjGateIdeal.Facts) (hProjGateRefIdeal : Cert.ProjGateRefIdeal.Facts) (hProjSmall : Cert.ProjSmall.Facts) (hProjSmallIdeal : Cert.ProjSmallIdeal.Facts) (hProjSmallRefIdeal : Cert.ProjSmallRefIdeal.Facts) (hProjA : Cert.ProjA.Facts) (hProjAIdeal : Cert.ProjAIdeal.Facts) (hProjARefIdeal : Cert.ProjARefIdeal.Facts) (hProjB : Cert.ProjB.Facts) (hProjBIdeal : Cert.ProjBIdeal.Facts) (hProjBRefIdeal : Cert.ProjBRefIdeal.Facts) (hProjOut : Cert.ProjOut.Facts) (hProjOutIdeal : Cert.ProjOutIdeal.Facts) (hProjOutRefIdeal : Cert.ProjOutRefIdeal.Facts) (hMlpUp : Cert.MlpUp.Facts) (hMlpUpIdeal : Cert.MlpUpIdeal.Facts) (hMlpUpRefIdeal : Cert.MlpUpRefIdeal.Facts) (hMlpDown : Cert.MlpDown.Facts) (hMlpDownIdeal : Cert.MlpDownIdeal.Facts) (hMlpDownRefIdeal : Cert.MlpDownRefIdeal.Facts) (hRmsFwd : Cert.RmsFwd.Facts) (hRmsFwdIdeal : Cert.RmsFwdIdeal.Facts) (hRmsFwdRefIdeal : Cert.RmsFwdRefIdeal.Facts) (hRmsBwd : Cert.RmsBwd.Facts) (hRmsBwdIdeal : Cert.RmsBwdIdeal.Facts) (hRmsBwdRefIdeal : Cert.RmsBwdRefIdeal.Facts) (hMerge : Cert.Merge.Facts) (hMergeIdeal : Cert.MergeIdeal.Facts) (hMergeRefIdeal : Cert.MergeRefIdeal.Facts) (hDmerge : Cert.Dmerge.Facts) (hDmergeIdeal : Cert.DmergeIdeal.Facts) (hDmergeRefIdeal : Cert.DmergeRefIdeal.Facts) (hLoss : Cert.Loss.Facts) (hLossIdeal : Cert.LossIdeal.Facts) (hLossRefIdeal : Cert.LossRefIdeal.Facts) (hAdam : Cert.Adam.Facts) (hAdamIdeal : Cert.AdamIdeal.Facts) (hAdamRefIdeal : Cert.AdamRefIdeal.Facts) (hToBf16 : Cert.ToBf16.Facts) (hToBf16Ideal : Cert.ToBf16Ideal.Facts) (hToBf16RefIdeal : Cert.ToBf16RefIdeal.Facts) (hPieces : Cert.Pieces.Facts) (hPiecesIdeal : Cert.PiecesIdeal.Facts) (hPiecesRefIdeal : Cert.PiecesRefIdeal.Facts) (hShards : Cert.Shards.Facts) (hShardsIdeal : Cert.ShardsIdeal.Facts) (hShardsRefIdeal : Cert.ShardsRefIdeal.Facts) (hAdamIn : Cert.AdamIn.Facts) (hAdamInIdeal : Cert.AdamInIdeal.Facts) (hAdamInRefIdeal : Cert.AdamInRefIdeal.Facts) (hAdamProj : Cert.AdamProj.Facts) (hAdamProjIdeal : Cert.AdamProjIdeal.Facts) (hAdamProjRefIdeal : Cert.AdamProjRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hHalves : Cert.Halves.Facts) (hHalvesIdeal : Cert.HalvesIdeal.Facts) (hHalvesRefIdeal : Cert.HalvesRefIdeal.Facts) (hPre_slot_in : Cert.Pre_slot_in.Facts) (hPre_slot_proj : Cert.Pre_slot_proj.Facts) (hPre_slot_up : Cert.Pre_slot_up.Facts) (hPre_slot_down : Cert.Pre_slot_down.Facts) (hPre_core_half : Cert.Pre_core_half.Facts),
    quiescent_Kernel (hKernel := hKernel)
    ∧ quiescent_KernelIdeal (hKernelIdeal := hKernelIdeal)
    ∧ quiescent_ReferenceIdeal (hReferenceIdeal := hReferenceIdeal)
    ∧ quiescent_Dw (hDw := hDw)
    ∧ quiescent_DwIdeal (hDwIdeal := hDwIdeal)
    ∧ quiescent_DwRefIdeal (hDwRefIdeal := hDwRefIdeal)
    ∧ quiescent_Dx (hDx := hDx)
    ∧ quiescent_DxIdeal (hDxIdeal := hDxIdeal)
    ∧ quiescent_DxRefIdeal (hDxRefIdeal := hDxRefIdeal)
    ∧ quiescent_Dup (hDup := hDup)
    ∧ quiescent_DupIdeal (hDupIdeal := hDupIdeal)
    ∧ quiescent_DupRefIdeal (hDupRefIdeal := hDupRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_Dhn (hDhn := hDhn)
    ∧ quiescent_DhnIdeal (hDhnIdeal := hDhnIdeal)
    ∧ quiescent_DhnRefIdeal (hDhnRefIdeal := hDhnRefIdeal)
    ∧ quiescent_Du (hDu := hDu)
    ∧ quiescent_DuIdeal (hDuIdeal := hDuIdeal)
    ∧ quiescent_DuRefIdeal (hDuRefIdeal := hDuRefIdeal)
    ∧ quiescent_DwOb (hDwOb := hDwOb)
    ∧ quiescent_DwObIdeal (hDwObIdeal := hDwObIdeal)
    ∧ quiescent_DwObRefIdeal (hDwObRefIdeal := hDwObRefIdeal)
    ∧ quiescent_DwSmall (hDwSmall := hDwSmall)
    ∧ quiescent_DwSmallIdeal (hDwSmallIdeal := hDwSmallIdeal)
    ∧ quiescent_DwSmallRefIdeal (hDwSmallRefIdeal := hDwSmallRefIdeal)
    ∧ quiescent_ProjGdn (hProjGdn := hProjGdn)
    ∧ quiescent_ProjGdnIdeal (hProjGdnIdeal := hProjGdnIdeal)
    ∧ quiescent_ProjGdnRefIdeal (hProjGdnRefIdeal := hProjGdnRefIdeal)
    ∧ quiescent_ProjFox (hProjFox := hProjFox)
    ∧ quiescent_ProjFoxIdeal (hProjFoxIdeal := hProjFoxIdeal)
    ∧ quiescent_ProjFoxRefIdeal (hProjFoxRefIdeal := hProjFoxRefIdeal)
    ∧ quiescent_ProjGate (hProjGate := hProjGate)
    ∧ quiescent_ProjGateIdeal (hProjGateIdeal := hProjGateIdeal)
    ∧ quiescent_ProjGateRefIdeal (hProjGateRefIdeal := hProjGateRefIdeal)
    ∧ quiescent_ProjSmall (hProjSmall := hProjSmall)
    ∧ quiescent_ProjSmallIdeal (hProjSmallIdeal := hProjSmallIdeal)
    ∧ quiescent_ProjSmallRefIdeal (hProjSmallRefIdeal := hProjSmallRefIdeal)
    ∧ quiescent_ProjA (hProjA := hProjA)
    ∧ quiescent_ProjAIdeal (hProjAIdeal := hProjAIdeal)
    ∧ quiescent_ProjARefIdeal (hProjARefIdeal := hProjARefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_ProjOut (hProjOut := hProjOut)
    ∧ quiescent_ProjOutIdeal (hProjOutIdeal := hProjOutIdeal)
    ∧ quiescent_ProjOutRefIdeal (hProjOutRefIdeal := hProjOutRefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_Merge (hMerge := hMerge)
    ∧ quiescent_MergeIdeal (hMergeIdeal := hMergeIdeal)
    ∧ quiescent_MergeRefIdeal (hMergeRefIdeal := hMergeRefIdeal)
    ∧ quiescent_Dmerge (hDmerge := hDmerge)
    ∧ quiescent_DmergeIdeal (hDmergeIdeal := hDmergeIdeal)
    ∧ quiescent_DmergeRefIdeal (hDmergeRefIdeal := hDmergeRefIdeal)
    ∧ quiescent_Loss (hLoss := hLoss)
    ∧ quiescent_LossIdeal (hLossIdeal := hLossIdeal)
    ∧ quiescent_LossRefIdeal (hLossRefIdeal := hLossRefIdeal)
    ∧ quiescent_Adam (hAdam := hAdam)
    ∧ quiescent_AdamIdeal (hAdamIdeal := hAdamIdeal)
    ∧ quiescent_AdamRefIdeal (hAdamRefIdeal := hAdamRefIdeal)
    ∧ quiescent_ToBf16 (hToBf16 := hToBf16)
    ∧ quiescent_ToBf16Ideal (hToBf16Ideal := hToBf16Ideal)
    ∧ quiescent_ToBf16RefIdeal (hToBf16RefIdeal := hToBf16RefIdeal)
    ∧ quiescent_Pieces (hPieces := hPieces)
    ∧ quiescent_PiecesIdeal (hPiecesIdeal := hPiecesIdeal)
    ∧ quiescent_PiecesRefIdeal (hPiecesRefIdeal := hPiecesRefIdeal)
    ∧ quiescent_Shards (hShards := hShards)
    ∧ quiescent_ShardsIdeal (hShardsIdeal := hShardsIdeal)
    ∧ quiescent_ShardsRefIdeal (hShardsRefIdeal := hShardsRefIdeal)
    ∧ quiescent_AdamIn (hAdamIn := hAdamIn) (hPre_slot_in := hPre_slot_in)
    ∧ quiescent_AdamInIdeal (hAdamInIdeal := hAdamInIdeal) (hPre_slot_in := hPre_slot_in)
    ∧ quiescent_AdamInRefIdeal (hAdamInRefIdeal := hAdamInRefIdeal)
    ∧ quiescent_AdamInRefIdeal_pre_slot_in (hAdamInRefIdeal := hAdamInRefIdeal) (hPre_slot_in := hPre_slot_in)
    ∧ quiescent_AdamProj (hAdamProj := hAdamProj) (hPre_slot_proj := hPre_slot_proj)
    ∧ quiescent_AdamProjIdeal (hAdamProjIdeal := hAdamProjIdeal) (hPre_slot_proj := hPre_slot_proj)
    ∧ quiescent_AdamProjRefIdeal (hAdamProjRefIdeal := hAdamProjRefIdeal)
    ∧ quiescent_AdamProjRefIdeal_pre_slot_proj (hAdamProjRefIdeal := hAdamProjRefIdeal) (hPre_slot_proj := hPre_slot_proj)
    ∧ quiescent_AdamUp (hAdamUp := hAdamUp) (hPre_slot_up := hPre_slot_up)
    ∧ quiescent_AdamUpIdeal (hAdamUpIdeal := hAdamUpIdeal) (hPre_slot_up := hPre_slot_up)
    ∧ quiescent_AdamUpRefIdeal (hAdamUpRefIdeal := hAdamUpRefIdeal)
    ∧ quiescent_AdamUpRefIdeal_pre_slot_up (hAdamUpRefIdeal := hAdamUpRefIdeal) (hPre_slot_up := hPre_slot_up)
    ∧ quiescent_AdamDown (hAdamDown := hAdamDown) (hPre_slot_down := hPre_slot_down)
    ∧ quiescent_AdamDownIdeal (hAdamDownIdeal := hAdamDownIdeal) (hPre_slot_down := hPre_slot_down)
    ∧ quiescent_AdamDownRefIdeal (hAdamDownRefIdeal := hAdamDownRefIdeal)
    ∧ quiescent_AdamDownRefIdeal_pre_slot_down (hAdamDownRefIdeal := hAdamDownRefIdeal) (hPre_slot_down := hPre_slot_down)
    ∧ quiescent_Halves (hHalves := hHalves) (hPre_core_half := hPre_core_half)
    ∧ quiescent_HalvesIdeal (hHalvesIdeal := hHalvesIdeal) (hPre_core_half := hPre_core_half)
    ∧ quiescent_HalvesRefIdeal (hHalvesRefIdeal := hHalvesRefIdeal)
    ∧ quiescent_HalvesRefIdeal_pre_core_half (hHalvesRefIdeal := hHalvesRefIdeal) (hPre_core_half := hPre_core_half)
    ∧ preserves_Kernel_KernelIdeal
    ∧ preserves_Dw_DwIdeal
    ∧ algebraic_DwIdeal_DwRefIdeal (hDwIdeal := hDwIdeal) (hDwRefIdeal := hDwRefIdeal)
    ∧ preserves_Dx_DxIdeal
    ∧ algebraic_DxIdeal_DxRefIdeal (hDxIdeal := hDxIdeal) (hDxRefIdeal := hDxRefIdeal)
    ∧ preserves_Dup_DupIdeal
    ∧ algebraic_DupIdeal_DupRefIdeal (hDupIdeal := hDupIdeal) (hDupRefIdeal := hDupRefIdeal)
    ∧ preserves_DwUp_DwUpIdeal
    ∧ algebraic_DwUpIdeal_DwUpRefIdeal (hDwUpIdeal := hDwUpIdeal) (hDwUpRefIdeal := hDwUpRefIdeal)
    ∧ preserves_DwDown_DwDownIdeal
    ∧ algebraic_DwDownIdeal_DwDownRefIdeal (hDwDownIdeal := hDwDownIdeal) (hDwDownRefIdeal := hDwDownRefIdeal)
    ∧ preserves_Dhn_DhnIdeal
    ∧ algebraic_DhnIdeal_DhnRefIdeal (hDhnIdeal := hDhnIdeal) (hDhnRefIdeal := hDhnRefIdeal)
    ∧ preserves_Du_DuIdeal
    ∧ algebraic_DuIdeal_DuRefIdeal (hDuIdeal := hDuIdeal) (hDuRefIdeal := hDuRefIdeal)
    ∧ preserves_DwOb_DwObIdeal
    ∧ algebraic_DwObIdeal_DwObRefIdeal (hDwObIdeal := hDwObIdeal) (hDwObRefIdeal := hDwObRefIdeal)
    ∧ preserves_DwSmall_DwSmallIdeal
    ∧ algebraic_DwSmallIdeal_DwSmallRefIdeal (hDwSmallIdeal := hDwSmallIdeal) (hDwSmallRefIdeal := hDwSmallRefIdeal)
    ∧ preserves_ProjGdn_ProjGdnIdeal
    ∧ algebraic_ProjGdnIdeal_ProjGdnRefIdeal (hProjGdnIdeal := hProjGdnIdeal) (hProjGdnRefIdeal := hProjGdnRefIdeal)
    ∧ preserves_ProjFox_ProjFoxIdeal
    ∧ algebraic_ProjFoxIdeal_ProjFoxRefIdeal (hProjFoxIdeal := hProjFoxIdeal) (hProjFoxRefIdeal := hProjFoxRefIdeal)
    ∧ preserves_ProjGate_ProjGateIdeal
    ∧ algebraic_ProjGateIdeal_ProjGateRefIdeal (hProjGateIdeal := hProjGateIdeal) (hProjGateRefIdeal := hProjGateRefIdeal)
    ∧ preserves_ProjSmall_ProjSmallIdeal
    ∧ algebraic_ProjSmallIdeal_ProjSmallRefIdeal (hProjSmallIdeal := hProjSmallIdeal) (hProjSmallRefIdeal := hProjSmallRefIdeal)
    ∧ preserves_ProjA_ProjAIdeal
    ∧ algebraic_ProjAIdeal_ProjARefIdeal (hProjAIdeal := hProjAIdeal) (hProjARefIdeal := hProjARefIdeal)
    ∧ preserves_ProjB_ProjBIdeal
    ∧ algebraic_ProjBIdeal_ProjBRefIdeal (hProjBIdeal := hProjBIdeal) (hProjBRefIdeal := hProjBRefIdeal)
    ∧ preserves_ProjOut_ProjOutIdeal
    ∧ algebraic_ProjOutIdeal_ProjOutRefIdeal (hProjOutIdeal := hProjOutIdeal) (hProjOutRefIdeal := hProjOutRefIdeal)
    ∧ preserves_MlpUp_MlpUpIdeal
    ∧ algebraic_MlpUpIdeal_MlpUpRefIdeal (hMlpUpIdeal := hMlpUpIdeal) (hMlpUpRefIdeal := hMlpUpRefIdeal)
    ∧ preserves_MlpDown_MlpDownIdeal
    ∧ algebraic_MlpDownIdeal_MlpDownRefIdeal (hMlpDownIdeal := hMlpDownIdeal) (hMlpDownRefIdeal := hMlpDownRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_Merge_MergeIdeal
    ∧ algebraic_MergeIdeal_MergeRefIdeal (hMergeIdeal := hMergeIdeal) (hMergeRefIdeal := hMergeRefIdeal)
    ∧ preserves_Dmerge_DmergeIdeal
    ∧ algebraic_DmergeIdeal_DmergeRefIdeal (hDmergeIdeal := hDmergeIdeal) (hDmergeRefIdeal := hDmergeRefIdeal)
    ∧ preserves_Loss_LossIdeal
    ∧ algebraic_LossIdeal_LossRefIdeal (hLossIdeal := hLossIdeal) (hLossRefIdeal := hLossRefIdeal)
    ∧ preserves_Adam_AdamIdeal
    ∧ algebraic_AdamIdeal_AdamRefIdeal (hAdamIdeal := hAdamIdeal) (hAdamRefIdeal := hAdamRefIdeal)
    ∧ preserves_ToBf16_ToBf16Ideal
    ∧ algebraic_ToBf16Ideal_ToBf16RefIdeal (hToBf16Ideal := hToBf16Ideal) (hToBf16RefIdeal := hToBf16RefIdeal)
    ∧ preserves_Pieces_PiecesIdeal
    ∧ algebraic_PiecesIdeal_PiecesRefIdeal (hPiecesIdeal := hPiecesIdeal) (hPiecesRefIdeal := hPiecesRefIdeal)
    ∧ preserves_Shards_ShardsIdeal
    ∧ algebraic_ShardsIdeal_ShardsRefIdeal (hShardsIdeal := hShardsIdeal) (hShardsRefIdeal := hShardsRefIdeal)
    ∧ preserves_AdamIn_AdamInIdeal
    ∧ algebraic_AdamInIdeal_AdamInRefIdeal (hAdamInIdeal := hAdamInIdeal) (hAdamInRefIdeal := hAdamInRefIdeal) (hPre_slot_in := hPre_slot_in)
    ∧ preserves_AdamProj_AdamProjIdeal
    ∧ algebraic_AdamProjIdeal_AdamProjRefIdeal (hAdamProjIdeal := hAdamProjIdeal) (hAdamProjRefIdeal := hAdamProjRefIdeal) (hPre_slot_proj := hPre_slot_proj)
    ∧ preserves_AdamUp_AdamUpIdeal
    ∧ algebraic_AdamUpIdeal_AdamUpRefIdeal (hAdamUpIdeal := hAdamUpIdeal) (hAdamUpRefIdeal := hAdamUpRefIdeal) (hPre_slot_up := hPre_slot_up)
    ∧ preserves_AdamDown_AdamDownIdeal
    ∧ algebraic_AdamDownIdeal_AdamDownRefIdeal (hAdamDownIdeal := hAdamDownIdeal) (hAdamDownRefIdeal := hAdamDownRefIdeal) (hPre_slot_down := hPre_slot_down)
    ∧ preserves_Halves_HalvesIdeal
    ∧ algebraic_HalvesIdeal_HalvesRefIdeal (hHalvesIdeal := hHalvesIdeal) (hHalvesRefIdeal := hHalvesRefIdeal) (hPre_core_half := hPre_core_half)
-- ==== Pre_core_half.lean ====
abbrev S1 : Shape := ⟨1, ![1]⟩
abbrev S8x1024x1155 : Shape := ⟨3, ![8, 1024, 1155]⟩
abbrev S4x1024x1155 : Shape := ⟨3, ![4, 1024, 1155]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x1024x1155 .bf16) (main_arg2 : FVec F S4x1024x1155 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 2#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_slot_down.lean ====
abbrev S1 : Shape := ⟨1, ![1]⟩
abbrev S8x512x1024 : Shape := ⟨3, ![8, 512, 1024]⟩
abbrev S512x1024 : Shape := ⟨2, ![512, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x512x1024 .bf16) (main_arg2 : FVec F S8x512x1024 .bf16) (main_arg3 : FVec F S512x1024 .f32) (main_arg4 : FVec F S512x1024 .f32) (main_arg5 : FVec F S512x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_slot_in.lean ====
abbrev S1 : Shape := ⟨1, ![1]⟩
abbrev S4x1024x1155 : Shape := ⟨3, ![4, 1024, 1155]⟩
abbrev S1024x1155 : Shape := ⟨2, ![1024, 1155]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x1024x1155 .bf16) (main_arg2 : FVec F S4x1024x1155 .bf16) (main_arg3 : FVec F S1024x1155 .f32) (main_arg4 : FVec F S1024x1155 .f32) (main_arg5 : FVec F S1024x1155 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_slot_proj.lean ====
abbrev S1 : Shape := ⟨1, ![1]⟩
abbrev S8x128x1024 : Shape := ⟨3, ![8, 128, 1024]⟩
abbrev S128x1024 : Shape := ⟨2, ![128, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x128x1024 .bf16) (main_arg2 : FVec F S8x128x1024 .bf16) (main_arg3 : FVec F S128x1024 .f32) (main_arg4 : FVec F S128x1024 .f32) (main_arg5 : FVec F S128x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_slot_up.lean ====
abbrev S1 : Shape := ⟨1, ![1]⟩
abbrev S8x1024x512 : Shape := ⟨3, ![8, 1024, 512]⟩
abbrev S1024x512 : Shape := ⟨2, ![1024, 512]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x1024x512 .bf16) (main_arg2 : FVec F S8x1024x512 .bf16) (main_arg3 : FVec F S1024x512 .f32) (main_arg4 : FVec F S1024x512 .f32) (main_arg5 : FVec F S1024x512 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Kernel.lean ====
abbrev S4096x3072 : Shape := ⟨2, ![4096, 3072]⟩
abbrev S4096x128 : Shape := ⟨2, ![4096, 128]⟩
abbrev S1x8 : Shape := ⟨2, ![1, 8]⟩
abbrev S1x128 : Shape := ⟨2, ![1, 128]⟩
abbrev S4096x1024 : Shape := ⟨2, ![4096, 1024]⟩
abbrev S2x2048x8x128 : Shape := ⟨4, ![2, 2048, 8, 128]⟩
abbrev S2x8x2048x128 : Shape := ⟨4, ![2, 8, 2048, 128]⟩
abbrev S128 : Shape := ⟨1, ![128]⟩
abbrev S_ : Shape := ⟨0, ![]⟩
abbrev S2x8x2048 : Shape := ⟨3, ![2, 8, 2048]⟩
abbrev S2x8x2048x1 : Shape := ⟨4, ![2, 8, 2048, 1]⟩
abbrev S1x1x1x128 : Shape := ⟨4, ![1, 1, 1, 128]⟩
abbrev S4096x8 : Shape := ⟨2, ![4096, 8]⟩
abbrev S2x2048x8 : Shape := ⟨3, ![2, 2048, 8]⟩
abbrev S8 : Shape := ⟨1, ![8]⟩
abbrev S1x1x8 : Shape := ⟨3, ![1, 1, 8]⟩
abbrev S2x8x2048x2048 : Shape := ⟨4, ![2, 8, 2048, 2048]⟩
abbrev S2x8x1x2048 : Shape := ⟨4, ![2, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x128 : Shape := ⟨2, ![8, 128]⟩
abbrev S2048x128 : Shape := ⟨2, ![2048, 128]⟩
abbrev S16x8x128 : Shape := ⟨3, ![16, 8, 128]⟩
abbrev S128x128 : Shape := ⟨2, ![128, 128]⟩
abbrev S1x1 : Shape := ⟨2, ![1, 1]⟩
abbrev S1x8x128 : Shape := ⟨3, ![1, 8, 128]⟩
abbrev S512x128 : Shape := ⟨2, ![512, 128]⟩
abbrev S1x1x128 : Shape := ⟨3, ![1, 1, 128]⟩
abbrev S1x512 : Shape := ⟨2, ![1, 512]⟩
abbrev S512x512 : Shape := ⟨2, ![512, 512]⟩
abbrev S512 : Shape := ⟨1, ![512]⟩
abbrev S512x1 : Shape := ⟨2, ![512, 1]⟩
abbrev S128x1 : Shape := ⟨2, ![128, 1]⟩
abbrev S1 : Shape := ⟨1, ![1]⟩

abbrev nBuf : Space → Nat
  | .hbm => 122
  | .vmem => 37
  | .smem => 1
  | _ => 0

abbrev bufTy : (tb : Table) → Fin (tcTables nBuf tb) → BufTy
  | .hbm, ⟨0, _⟩ => ⟨S4096x3072, .f32⟩
  | .hbm, ⟨1, _⟩ => ⟨S4096x128, .f32⟩
  | .hbm, ⟨2, _⟩ => ⟨S1x8, .f32⟩
  | .hbm, ⟨3, _⟩ => ⟨S1x128, .f32⟩
  | .hbm, ⟨4, _⟩ => ⟨S1x128, .f32⟩
  | .hbm, ⟨5, _⟩ => ⟨S4096x1024, .f32⟩
  | .hbm, ⟨6, _⟩ => ⟨S4096x128, .f32⟩
  | .hbm, ⟨7, _⟩ => ⟨S4096x1024, .f32⟩
  | .hbm, ⟨8, _⟩ => ⟨S2x2048x8x128, .f32⟩
  | .hbm, ⟨9, _⟩ => ⟨S2x8x2048x128, .f32⟩
  | .hbm, ⟨10, _⟩ => ⟨S128, .f32⟩
  | .hbm, ⟨11, _⟩ => ⟨S2x8x2048x128, .f32⟩
  | .hbm, ⟨12, _⟩ => ⟨S_, .f32⟩
  | .hbm, ⟨13, _⟩ => ⟨S2x8x2048, .f32⟩
  | .hbm, ⟨14, _⟩ => ⟨S2x8x2048x1, .f32⟩
  | .hbm, ⟨15, _⟩ => ⟨S_, .f32⟩
  | .hbm, ⟨16, _⟩ => ⟨S2x8x2048x1, .f32⟩
  | .hbm, ⟨17, _⟩ => ⟨S2x8x2048x1, .f32⟩
  | .hbm, ⟨18, _⟩ => ⟨S_, .f32⟩
  | .hbm, ⟨19, _⟩ => ⟨S2x8x2048x1, .f32⟩
  | .hbm, ⟨20, _⟩ => ⟨S2x8x2048x1, .f32⟩
  | .hbm, ⟨21, _⟩ => ⟨S2x8x2048x1, .f32⟩
  | .hbm, ⟨22, _⟩ => ⟨S2x8x2048x128, .f32⟩
  | .hbm, ⟨23, _⟩ => ⟨S2x8x2048x128, .f32⟩
  | .hbm, ⟨24, _⟩ => ⟨S1x1x1x128, .f32⟩
  | .hbm, ⟨25, _⟩ => ⟨S2x8x2048x128, .f32⟩
  | .hbm, ⟨26, _⟩ => ⟨S2x8x2048x128, .f32⟩
  | .hbm, ⟨27, _⟩ => ⟨S4096x1024, .f32⟩
  | .hbm, ⟨28, _⟩ => ⟨S2x2048x8x128, .f32⟩
  | .hbm, ⟨29, _⟩ => ⟨S2x8x2048x128, .f32⟩
  | .hbm, ⟨30, _⟩ => ⟨S128, .f32⟩
  | .hbm, ⟨31, _⟩ => ⟨S2x8x2048x128, .f32⟩
  | .hbm, ⟨32, _⟩ => ⟨S_, .f32⟩
  | .hbm, ⟨33, _⟩ => ⟨S2x8x2048, .f32⟩
  | .hbm, ⟨34, _⟩ => ⟨S2x8x2048x1, .f32⟩
  | .hbm, ⟨35, _⟩ => ⟨S_, .f32⟩
  | .hbm, ⟨36, _⟩ => ⟨S2x8x2048x1, .f32⟩
  | .hbm, ⟨37, _⟩ => ⟨S2x8x2048x1, .f32⟩
  | .hbm, ⟨38, _⟩ => ⟨S_, .f32⟩
  | .hbm, ⟨39, _⟩ => ⟨S2x8x2048x1, .f32⟩
  | .hbm, ⟨40, _⟩ => ⟨S2x8x2048x1, .f32⟩
  | .hbm, ⟨41, _⟩ => ⟨S2x8x2048x1, .f32⟩
  | .hbm, ⟨42, _⟩ => ⟨S2x8x2048x128, .f32⟩
  | .hbm, ⟨43, _⟩ => ⟨S2x8x2048x128, .f32⟩
  | .hbm, ⟨44, _⟩ => ⟨S1x1x1x128, .f32⟩
  | .hbm, ⟨45, _⟩ => ⟨S2x8x2048x128, .f32⟩
  | .hbm, ⟨46, _⟩ => ⟨S2x8x2048x128, .f32⟩
  | .hbm, ⟨47, _⟩ => ⟨S4096x1024, .f32⟩
  | .hbm, ⟨48, _⟩ => ⟨S2x2048x8x128, .f32⟩
  | .hbm, ⟨49, _⟩ => ⟨S2x8x2048x128, .f32⟩
  | .hbm, ⟨50, _⟩ => ⟨S4096x8, .f32⟩
  | .hbm, ⟨51, _⟩ => ⟨S2x2048x8, .f32⟩
  | .hbm, ⟨52, _⟩ => ⟨S8, .f32⟩
  | .hbm, ⟨53, _⟩ => ⟨S1x1x8, .f32⟩
  | .hbm, ⟨54, _⟩ => ⟨S2x2048x8, .f32⟩
  | .hbm, ⟨55, _⟩ => ⟨S2x2048x8, .f32⟩
  | .hbm, ⟨56, _⟩ => ⟨S2x2048x8, .f32⟩
  | .hbm, ⟨57, _⟩ => ⟨S_, .f32⟩
  | .hbm, ⟨58, _⟩ => ⟨S2x2048x8, .f32⟩
  | .hbm, ⟨59, _⟩ => ⟨S2x2048x8, .f32⟩
  | .hbm, ⟨60, _⟩ => ⟨S2x2048x8, .f32⟩
  | .hbm, ⟨61, _⟩ => ⟨S2x2048x8, .f32⟩
  | .hbm, ⟨62, _⟩ => ⟨S2x2048x8, .i1⟩
  | .hbm, ⟨63, _⟩ => ⟨S2x2048x8, .f32⟩
  | .hbm, ⟨64, _⟩ => ⟨S2x2048x8, .f32⟩
  | .hbm, ⟨65, _⟩ => ⟨S2x2048x8, .f32⟩
  | .hbm, ⟨66, _⟩ => ⟨S2x2048x8, .f32⟩
  | .hbm, ⟨67, _⟩ => ⟨S2x2048x8, .f32⟩
  | .hbm, ⟨68, _⟩ => ⟨S2x2048x8, .f32⟩
  | .hbm, ⟨69, _⟩ => ⟨S2x2048x8, .f32⟩
  | .hbm, ⟨70, _⟩ => ⟨S2x2048x8, .f32⟩
  | .hbm, ⟨71, _⟩ => ⟨S2x2048x8, .f32⟩
  | .hbm, ⟨72, _⟩ => ⟨S2x8x2048, .f32⟩
  | .hbm, ⟨73, _⟩ => ⟨S_, .f32⟩
  | .hbm, ⟨74, _⟩ => ⟨S_, .f32⟩
  | .hbm, ⟨75, _⟩ => ⟨S2x8x2048, .f32⟩
  | .hbm, ⟨76, _⟩ => ⟨S2x8x2048x2048, .f32⟩
  | .hbm, ⟨77, _⟩ => ⟨S_, .f32⟩
  | .hbm, ⟨78, _⟩ => ⟨S2x8x2048x2048, .f32⟩
  | .hbm, ⟨79, _⟩ => ⟨S2x8x2048x2048, .f32⟩
  | .hbm, ⟨80, _⟩ => ⟨S2x8x2048x1, .f32⟩
  | .hbm, ⟨81, _⟩ => ⟨S2x8x2048x2048, .f32⟩
  | .hbm, ⟨82, _⟩ => ⟨S2x8x2048x2048, .f32⟩
  | .hbm, ⟨83, _⟩ => ⟨S2x8x1x2048, .f32⟩
  | .hbm, ⟨84, _⟩ => ⟨S2x8x2048x2048, .f32⟩
  | .hbm, ⟨85, _⟩ => ⟨S2x8x2048x2048, .f32⟩
  | .hbm, ⟨86, _⟩ => ⟨S2048, .i32⟩
  | .hbm, ⟨87, _⟩ => ⟨S2048x1, .i32⟩
  | .hbm, ⟨88, _⟩ => ⟨S2048, .i32⟩
  | .hbm, ⟨89, _⟩ => ⟨S1x2048, .i32⟩
  | .hbm, ⟨90, _⟩ => ⟨S2048x2048, .i32⟩
  | .hbm, ⟨91, _⟩ => ⟨S2048x2048, .i32⟩
  | .hbm, ⟨92, _⟩ => ⟨S2048x2048, .i1⟩
  | .hbm, ⟨93, _⟩ => ⟨S_, .f32⟩
  | .hbm, ⟨94, _⟩ => ⟨S_, .f32⟩
  | .hbm, ⟨95, _⟩ => ⟨S2x8x2048x2048, .i1⟩
  | .hbm, ⟨96, _⟩ => ⟨S2x8x2048x2048, .f32⟩
  | .hbm, ⟨97, _⟩ => ⟨S2x8x2048x2048, .f32⟩
  | .hbm, ⟨98, _⟩ => ⟨S_, .f32⟩
  | .hbm, ⟨99, _⟩ => ⟨S2x8x2048, .f32⟩
  | .hbm, ⟨100, _⟩ => ⟨S2x8x2048x1, .f32⟩
  | .hbm, ⟨101, _⟩ => ⟨S2x8x2048x2048, .f32⟩
  | .hbm, ⟨102, _⟩ => ⟨S2x8x2048x2048, .f32⟩
  | .hbm, ⟨103, _⟩ => ⟨S2x8x2048x2048, .f32⟩
  | .hbm, ⟨104, _⟩ => ⟨S_, .f32⟩
  | .hbm, ⟨105, _⟩ => ⟨S2x8x2048, .f32⟩
  | .hbm, ⟨106, _⟩ => ⟨S2x8x2048x1, .f32⟩
  | .hbm, ⟨107, _⟩ => ⟨S2x8x2048x2048, .f32⟩
  | .hbm, ⟨108, _⟩ => ⟨S2x8x2048x2048, .f32⟩
  | .hbm, ⟨109, _⟩ => ⟨S2x8x2048x128, .f32⟩
  | .hbm, ⟨110, _⟩ => ⟨S2x2048x8x128, .f32⟩
  | .hbm, ⟨111, _⟩ => ⟨S4096x1024, .f32⟩
  | .hbm, ⟨112, _⟩ => ⟨S2x8x2048x1, .f32⟩
  | .hbm, ⟨113, _⟩ => ⟨S2x8x2048x1, .f32⟩
  | .hbm, ⟨114, _⟩ => ⟨S2x8x2048x128, .f32⟩
  | .hbm, ⟨115, _⟩ => ⟨S2x2048x8x128, .f32⟩
  | .hbm, ⟨116, _⟩ => ⟨S4096x1024, .f32⟩
  | .hbm, ⟨117, _⟩ => ⟨S4096x1024, .bf16⟩
  | .hbm, ⟨118, _⟩ => ⟨S4096x1024, .bf16⟩
  | .hbm, ⟨119, _⟩ => ⟨S4096x1024, .bf16⟩
  | .hbm, ⟨120, _⟩ => ⟨S4096x128, .f32⟩
  | .hbm, ⟨121, _⟩ => ⟨S8x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S1x128, .f32⟩
  | .local _ .vmem, ⟨9, _⟩ => ⟨S1x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S2048x128, .bf16⟩
  | .local _ .vmem, ⟨23, _⟩ => ⟨S2048x128, .bf16⟩
  | .local _ .vmem, ⟨24, _⟩ => ⟨S2048x128, .f32⟩
  | .local _ .vmem, ⟨25, _⟩ => ⟨S2048x128, .f32⟩
  | .local _ .vmem, ⟨26, _⟩ => ⟨S8x128, .f32⟩
  | .local _ .vmem, ⟨27, _⟩ => ⟨S2048x128, .bf16⟩
  | .local _ .vmem, ⟨28, _⟩ => ⟨S2048x128, .bf16⟩
  | .local _ .vmem, ⟨29, _⟩ => ⟨S2048x128, .bf16⟩
  | .local _ .vmem, ⟨30, _⟩ => ⟨S2048x128, .f32⟩
  | .local _ .vmem, ⟨31, _⟩ => ⟨S16x8x128, .f32⟩
  | .local _ .vmem, ⟨32, _⟩ => ⟨S2048x128, .bf16⟩
  | .local _ .vmem, ⟨33, _⟩ => ⟨S2048x128, .f32⟩
  | .local _ .vmem, ⟨34, _⟩ => ⟨S2048x128, .f32⟩
  | .local _ .vmem, ⟨35, _⟩ => ⟨S128x128, .f32⟩
  | .local _ .vmem, ⟨36, _⟩ => ⟨S2048x128, .f32⟩
  | .local _ .smem, ⟨0, _⟩ => ⟨S1x8, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .smem, ⟨0, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_call0_v0 : Ref sig .tc := ⟨.hbm, 56, rfl⟩
abbrev main_call0_call0_cst : Ref sig .tc := ⟨.hbm, 57, rfl⟩
abbrev main_call0_call0_v0 : Ref sig .tc := ⟨.hbm, 58, rfl⟩
abbrev main_call0_call0_v1 : Ref sig .tc := ⟨.hbm, 59, rfl⟩
abbrev main_call0_call0_v2 : Ref sig .tc := ⟨.hbm, 60, rfl⟩
abbrev main_call0_call0_v3 : Ref sig .tc := ⟨.hbm, 61, rfl⟩
abbrev main_call0_call0_v4 : Ref sig .tc := ⟨.hbm, 62, rfl⟩
abbrev main_call0_call0_v5 : Ref sig .tc := ⟨.hbm, 63, rfl⟩
abbrev main_call0_call0_v6 : Ref sig .tc := ⟨.hbm, 64, rfl⟩
abbrev main_call0_call0_v7 : Ref sig .tc := ⟨.hbm, 65, rfl⟩
abbrev main_call0_call0_v8 : Ref sig .tc := ⟨.hbm, 66, rfl⟩
abbrev main_call0_call0_v9 : Ref sig .tc := ⟨.hbm, 67, rfl⟩
abbrev main_call0_call0_v10 : Ref sig .tc := ⟨.hbm, 68, rfl⟩
abbrev main_call0_call0_v11 : Ref sig .tc := ⟨.hbm, 69, rfl⟩
abbrev main_call0_v1 : Ref sig .tc := ⟨.hbm, 70, rfl⟩
abbrev main_v43 : Ref sig .tc := ⟨.hbm, 71, rfl⟩
abbrev main_v44 : Ref sig .tc := ⟨.hbm, 72, rfl⟩
abbrev main_call1_call0_cst : Ref sig .tc := ⟨.hbm, 73, rfl⟩
abbrev main_call1_call0_v0 : Ref sig .tc := ⟨.hbm, 74, rfl⟩
abbrev main_v45 : Ref sig .tc := ⟨.hbm, 75, rfl⟩
abbrev main_v46 : Ref sig .tc := ⟨.hbm, 76, rfl⟩
abbrev main_cst_5 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_6 : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_v62 : Ref sig .tc := ⟨.hbm, 97, rfl⟩
abbrev main_cst_7 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_8 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80_0 : Ref sig .tc := ⟨.hbm, 117, rfl⟩
abbrev main_v80_1 : Ref sig .tc := ⟨.hbm, 118, rfl⟩
abbrev main_v80_2 : Ref sig .tc := ⟨.hbm, 119, rfl⟩
abbrev main_v80_3 : Ref sig .tc := ⟨.hbm, 120, rfl⟩
abbrev main_v80_4 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.vmem, 33, rfl⟩
abbrev cc0_scratch7 : Ref sig .tc := ⟨.vmem, 34, rfl⟩
abbrev cc0_scratch8 : Ref sig .tc := ⟨.vmem, 35, rfl⟩
abbrev cc0_scratch9 : Ref sig .tc := ⟨.vmem, 36, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27

abbrev nD : Nat := 1
abbrev τ : Topo := Topo.v7x

variable {F : FTy → Type} [FloatOps F]

abbrev grid0 : Pipeline.Grid := ⟨2, ![2, 8], ![false, false]⟩

def k0_off1 (i : grid0.Coords) : Fin 2 → Nat :=
  let c0_24 : Index := 0#32
  let arg1 : BitVec 32 := BitVec.ofNat 32 (i 1).val
  let v50 : Index := Scalar.indexCast arg1
  ![0, v50.toNat]
@[reducible] def k0_t1_loop : Scf.Loop 32 :=
  let c0_i32 : BitVec 32 := 0#32
  let c4_i32 : BitVec 32 := 4#32
  let v730 : BitVec 32 := Scalar.addi c0_i32 c4_i32
  let c1_i32 : BitVec 32 := 1#32
  ⟨c0_i32, v730, c1_i32⟩
def k0_mult1 (k0_t1 : Fin k0_t1_loop.trips) : BitVec 32 :=
  let c0_i32 : BitVec 32 := 0#32
  let c1_i32 : BitVec 32 := 1#32
  let arg28 : BitVec 32 := Scf.iv c0_i32 c1_i32 k0_t1
  let c512_i32 : BitVec 32 := 512#32
  let v832 : BitVec 32 := Scalar.muli arg28 c512_i32
  v832
def k0_off2 (k0_t1 : Fin k0_t1_loop.trips) : Fin 2 → Nat :=
  let c0_i32 : BitVec 32 := 0#32
  let c1_i32 : BitVec 32 := 1#32
  let arg28 : BitVec 32 := Scf.iv c0_i32 c1_i32 k0_t1
  let c512_i32 : BitVec 32 := 512#32
  let v832 : BitVec 32 := Scalar.muli arg28 c512_i32
  let v833 : BitVec 32 := v832
  let v834 : Index := Scalar.indexCast v833
  let c0_291 : Index := 0#32
  ![v834.toNat, 0]
def k0_off3 (k0_t1 : Fin k0_t1_loop.trips) (c0_i32_294 : BitVec 32) : Fin 3 → Nat :=
  let c0_i32 : BitVec 32 := 0#32
  let c1_i32 : BitVec 32 := 1#32
  let arg28 : BitVec 32 := Scf.iv c0_i32 c1_i32 k0_t1
  let c4_i32_293 : BitVec 32 := 4#32
  let v838 : BitVec 32 := Scalar.muli arg28 c4_i32_293
  let v839 : BitVec 32 := Scalar.addi v838 c0_i32_294
  let v840 : Index := Scalar.indexCast v839
  let c0_295 : Index := 0#32
  let c0_296 : Index := 0#32
  ![v840.toNat, 0, 0]
def k0_mult2 (k0_t1 : Fin k0_t1_loop.trips) : BitVec 32 :=
  let c0_i32 : BitVec 32 := 0#32
  let c1_i32 : BitVec 32 := 1#32
  let arg28 : BitVec 32 := Scf.iv c0_i32 c1_i32 k0_t1
  let c512_i32_309 : BitVec 32 := 512#32
  let v860 : BitVec 32 := Scalar.muli arg28 c512_i32_309
  let c0_i32_311 : BitVec 32 := 0#32
  let v862 : BitVec 1 := Scalar.cmpi .sgt v860 c0_i32_311
  let v863 : BitVec 32 := Scalar.extui v862
  let c0_i32_312 : BitVec 32 := 0#32
  let v864 : BitVec 1 := Scalar.cmpi .slt v860 c0_i32_312
  let v865 : BitVec 32 := Scalar.extui v864
  let v866 : BitVec 32 := Scalar.subi v863 v865
  let c512_i32_310 : BitVec 32 := 512#32
  let c0_i32_313 : BitVec 32 := 0#32
  let v867 : BitVec 1 := Scalar.cmpi .sgt c512_i32_310 c0_i32_313
  let v868 : BitVec 32 := Scalar.extui v867
  let c0_i32_314 : BitVec 32 := 0#32
  let v869 : BitVec 1 := Scalar.cmpi .slt c512_i32_310 c0_i32_314
  let v870 : BitVec 32 := Scalar.extui v869
  let v871 : BitVec 32 := Scalar.subi v868 v870
  let v872 : BitVec 1 := Scalar.cmpi .ne v866 v871
  let v873 : BitVec 32 := Scalar.remsi v860 c512_i32_310
  let c0_i32_315 : BitVec 32 := 0#32
  let v874 : BitVec 1 := Scalar.cmpi .ne v873 c0_i32_315
  let v875 : BitVec 1 := Scalar.andi v872 v874
  let v861 : BitVec 32 := Scalar.divsi v860 c512_i32_310
  let c1_i32_316 : BitVec 32 := 1#32
  let v876 : BitVec 32 := Scalar.subi v861 c1_i32_316
  let v877 : BitVec 32 := Scalar.select v875 v876 v861
  let c512_i32_318 : BitVec 32 := 512#32
  let v879 : BitVec 32 := Scalar.muli v877 c512_i32_318
  v879
def k0_off4 (k0_t1 : Fin k0_t1_loop.trips) : Fin 2 → Nat :=
  let c0_i32 : BitVec 32 := 0#32
  let c1_i32 : BitVec 32 := 1#32
  let arg28 : BitVec 32 := Scf.iv c0_i32 c1_i32 k0_t1
  let c512_i32_309 : BitVec 32 := 512#32
  let v860 : BitVec 32 := Scalar.muli arg28 c512_i32_309
  let c0_i32_311 : BitVec 32 := 0#32
  let v862 : BitVec 1 := Scalar.cmpi .sgt v860 c0_i32_311
  let v863 : BitVec 32 := Scalar.extui v862
  let c0_i32_312 : BitVec 32 := 0#32
  let v864 : BitVec 1 := Scalar.cmpi .slt v860 c0_i32_312
  let v865 : BitVec 32 := Scalar.extui v864
  let v866 : BitVec 32 := Scalar.subi v863 v865
  let c512_i32_310 : BitVec 32 := 512#32
  let c0_i32_313 : BitVec 32 := 0#32
  let v867 : BitVec 1 := Scalar.cmpi .sgt c512_i32_310 c0_i32_313
  let v868 : BitVec 32 := Scalar.extui v867
  let c0_i32_314 : BitVec 32 := 0#32
  let v869 : BitVec 1 := Scalar.cmpi .slt c512_i32_310 c0_i32_314
  let v870 : BitVec 32 := Scalar.extui v869
  let v871 : BitVec 32 := Scalar.subi v868 v870
  let v872 : BitVec 1 := Scalar.cmpi .ne v866 v871
  let v873 : BitVec 32 := Scalar.remsi v860 c512_i32_310
  let c0_i32_315 : BitVec 32 := 0#32
  let v874 : BitVec 1 := Scalar.cmpi .ne v873 c0_i32_315
  let v875 : BitVec 1 := Scalar.andi v872 v874
  let v861 : BitVec 32 := Scalar.divsi v860 c512_i32_310
  let c1_i32_316 : BitVec 32 := 1#32
  let v876 : BitVec 32 := Scalar.subi v861 c1_i32_316
  let v877 : BitVec 32 := Scalar.select v875 v876 v861
  let c512_i32_318 : BitVec 32 := 512#32
  let v879 : BitVec 32 := Scalar.muli v877 c512_i32_318
  let v880 : BitVec 32 := v879
  let v881 : Index := Scalar.indexCast v880
  let c0_319 : Index := 0#32
  ![v881.toNat, 0]
@[reducible] def k0_t2_loop (k0_t1 : Fin k0_t1_loop.trips) : Scf.Loop 32 :=
  let c0_i32 : BitVec 32 := 0#32
  let c1_i32 : BitVec 32 := 1#32
  let arg28 : BitVec 32 := Scf.iv c0_i32 c1_i32 k0_t1
  let c512_i32_309 : BitVec 32 := 512#32
  let v860 : BitVec 32 := Scalar.muli arg28 c512_i32_309
  let c0_i32_311 : BitVec 32 := 0#32
  let v862 : BitVec 1 := Scalar.cmpi .sgt v860 c0_i32_311
  let v863 : BitVec 32 := Scalar.extui v862
  let c0_i32_312 : BitVec 32 := 0#32
  let v864 : BitVec 1 := Scalar.cmpi .slt v860 c0_i32_312
  let v865 : BitVec 32 := Scalar.extui v864
  let v866 : BitVec 32 := Scalar.subi v863 v865
  let c512_i32_310 : BitVec 32 := 512#32
  let c0_i32_313 : BitVec 32 := 0#32
  let v867 : BitVec 1 := Scalar.cmpi .sgt c512_i32_310 c0_i32_313
  let v868 : BitVec 32 := Scalar.extui v867
  let c0_i32_314 : BitVec 32 := 0#32
  let v869 : BitVec 1 := Scalar.cmpi .slt c512_i32_310 c0_i32_314
  let v870 : BitVec 32 := Scalar.extui v869
  let v871 : BitVec 32 := Scalar.subi v868 v870
  let v872 : BitVec 1 := Scalar.cmpi .ne v866 v871
  let v873 : BitVec 32 := Scalar.remsi v860 c512_i32_310
  let c0_i32_315 : BitVec 32 := 0#32
  let v874 : BitVec 1 := Scalar.cmpi .ne v873 c0_i32_315
  let v875 : BitVec 1 := Scalar.andi v872 v874
  let v861 : BitVec 32 := Scalar.divsi v860 c512_i32_310
  let c1_i32_316 : BitVec 32 := 1#32
  let v876 : BitVec 32 := Scalar.subi v861 c1_i32_316
  let v877 : BitVec 32 := Scalar.select v875 v876 v861
  let c1_i32_339 : BitVec 32 := 1#32
  let v945 : BitVec 32 := Scalar.addi v877 c1_i32_339
  let c4_i32_340 : BitVec 32 := 4#32
  let v946 : BitVec 32 := Scalar.subi c4_i32_340 v945
  let c1_i32_341 : BitVec 32 := 1#32
  let v948 : BitVec 32 := Scalar.divsi v946 c1_i32_341
  let v949 : BitVec 32 := Scalar.muli v948 c1_i32_341
  let v950 : BitVec 32 := Scalar.addi v945 v949
  let c1_i32_342 : BitVec 32 := 1#32
  ⟨v945, v950, c1_i32_342⟩
def k0_mult3 (k0_t1 : Fin k0_t1_loop.trips) (k0_t2 : Fin (k0_t2_loop k0_t1).trips) : BitVec 32 :=
  let c0_i32 : BitVec 32 := 0#32
  let c1_i32 : BitVec 32 := 1#32
  let arg28 : BitVec 32 := Scf.iv c0_i32 c1_i32 k0_t1
  let c512_i32_309 : BitVec 32 := 512#32
  let v860 : BitVec 32 := Scalar.muli arg28 c512_i32_309
  let c0_i32_311 : BitVec 32 := 0#32
  let v862 : BitVec 1 := Scalar.cmpi .sgt v860 c0_i32_311
  let v863 : BitVec 32 := Scalar.extui v862
  let c0_i32_312 : BitVec 32 := 0#32
  let v864 : BitVec 1 := Scalar.cmpi .slt v860 c0_i32_312
  let v865 : BitVec 32 := Scalar.extui v864
  let v866 : BitVec 32 := Scalar.subi v863 v865
  let c512_i32_310 : BitVec 32 := 512#32
  let c0_i32_313 : BitVec 32 := 0#32
  let v867 : BitVec 1 := Scalar.cmpi .sgt c512_i32_310 c0_i32_313
  let v868 : BitVec 32 := Scalar.extui v867
  let c0_i32_314 : BitVec 32 := 0#32
  let v869 : BitVec 1 := Scalar.cmpi .slt c512_i32_310 c0_i32_314
  let v870 : BitVec 32 := Scalar.extui v869
  let v871 : BitVec 32 := Scalar.subi v868 v870
  let v872 : BitVec 1 := Scalar.cmpi .ne v866 v871
  let v873 : BitVec 32 := Scalar.remsi v860 c512_i32_310
  let c0_i32_315 : BitVec 32 := 0#32
  let v874 : BitVec 1 := Scalar.cmpi .ne v873 c0_i32_315
  let v875 : BitVec 1 := Scalar.andi v872 v874
  let v861 : BitVec 32 := Scalar.divsi v860 c512_i32_310
  let c1_i32_316 : BitVec 32 := 1#32
  let v876 : BitVec 32 := Scalar.subi v861 c1_i32_316
  let v877 : BitVec 32 := Scalar.select v875 v876 v861
  let c1_i32_339 : BitVec 32 := 1#32
  let v945 : BitVec 32 := Scalar.addi v877 c1_i32_339
  let c1_i32_342 : BitVec 32 := 1#32
  let arg30 : BitVec 32 := Scf.iv v945 c1_i32_342 k0_t2
  let c512_i32_369 : BitVec 32 := 512#32
  let v1037 : BitVec 32 := Scalar.muli arg30 c512_i32_369
  v1037
def k0_off5 (k0_t1 : Fin k0_t1_loop.trips) (k0_t2 : Fin (k0_t2_loop k0_t1).trips) : Fin 2 → Nat :=
  let c0_i32 : BitVec 32 := 0#32
  let c1_i32 : BitVec 32 := 1#32
  let arg28 : BitVec 32 := Scf.iv c0_i32 c1_i32 k0_t1
  let c512_i32_309 : BitVec 32 := 512#32
  let v860 : BitVec 32 := Scalar.muli arg28 c512_i32_309
  let c0_i32_311 : BitVec 32 := 0#32
  let v862 : BitVec 1 := Scalar.cmpi .sgt v860 c0_i32_311
  let v863 : BitVec 32 := Scalar.extui v862
  let c0_i32_312 : BitVec 32 := 0#32
  let v864 : BitVec 1 := Scalar.cmpi .slt v860 c0_i32_312
  let v865 : BitVec 32 := Scalar.extui v864
  let v866 : BitVec 32 := Scalar.subi v863 v865
  let c512_i32_310 : BitVec 32 := 512#32
  let c0_i32_313 : BitVec 32 := 0#32
  let v867 : BitVec 1 := Scalar.cmpi .sgt c512_i32_310 c0_i32_313
  let v868 : BitVec 32 := Scalar.extui v867
  let c0_i32_314 : BitVec 32 := 0#32
  let v869 : BitVec 1 := Scalar.cmpi .slt c512_i32_310 c0_i32_314
  let v870 : BitVec 32 := Scalar.extui v869
  let v871 : BitVec 32 := Scalar.subi v868 v870
  let v872 : BitVec 1 := Scalar.cmpi .ne v866 v871
  let v873 : BitVec 32 := Scalar.remsi v860 c512_i32_310
  let c0_i32_315 : BitVec 32 := 0#32
  let v874 : BitVec 1 := Scalar.cmpi .ne v873 c0_i32_315
  let v875 : BitVec 1 := Scalar.andi v872 v874
  let v861 : BitVec 32 := Scalar.divsi v860 c512_i32_310
  let c1_i32_316 : BitVec 32 := 1#32
  let v876 : BitVec 32 := Scalar.subi v861 c1_i32_316
  let v877 : BitVec 32 := Scalar.select v875 v876 v861
  let c1_i32_339 : BitVec 32 := 1#32
  let v945 : BitVec 32 := Scalar.addi v877 c1_i32_339
  let c1_i32_342 : BitVec 32 := 1#32
  let arg30 : BitVec 32 := Scf.iv v945 c1_i32_342 k0_t2
  let c512_i32_369 : BitVec 32 := 512#32
  let v1037 : BitVec 32 := Scalar.muli arg30 c512_i32_369
  let v1038 : BitVec 32 := v1037
  let v1039 : Index := Scalar.indexCast v1038
  let c0_370 : Index := 0#32
  ![v1039.toNat, 0]
@[reducible] def k0_t3_loop (k0_t1 : Fin k0_t1_loop.trips) : Scf.Loop 32 :=
  let c0_i32 : BitVec 32 := 0#32
  let c1_i32 : BitVec 32 := 1#32
  let arg28 : BitVec 32 := Scf.iv c0_i32 c1_i32 k0_t1
  let c512_i32_309 : BitVec 32 := 512#32
  let v860 : BitVec 32 := Scalar.muli arg28 c512_i32_309
  let c0_i32_311 : BitVec 32 := 0#32
  let v862 : BitVec 1 := Scalar.cmpi .sgt v860 c0_i32_311
  let v863 : BitVec 32 := Scalar.extui v862
  let c0_i32_312 : BitVec 32 := 0#32
  let v864 : BitVec 1 := Scalar.cmpi .slt v860 c0_i32_312
  let v865 : BitVec 32 := Scalar.extui v864
  let v866 : BitVec 32 := Scalar.subi v863 v865
  let c512_i32_310 : BitVec 32 := 512#32
  let c0_i32_313 : BitVec 32 := 0#32
  let v867 : BitVec 1 := Scalar.cmpi .sgt c512_i32_310 c0_i32_313
  let v868 : BitVec 32 := Scalar.extui v867
  let c0_i32_314 : BitVec 32 := 0#32
  let v869 : BitVec 1 := Scalar.cmpi .slt c512_i32_310 c0_i32_314
  let v870 : BitVec 32 := Scalar.extui v869
  let v871 : BitVec 32 := Scalar.subi v868 v870
  let v872 : BitVec 1 := Scalar.cmpi .ne v866 v871
  let v873 : BitVec 32 := Scalar.remsi v860 c512_i32_310
  let c0_i32_315 : BitVec 32 := 0#32
  let v874 : BitVec 1 := Scalar.cmpi .ne v873 c0_i32_315
  let v875 : BitVec 1 := Scalar.andi v872 v874
  let v861 : BitVec 32 := Scalar.divsi v860 c512_i32_310
  let c1_i32_316 : BitVec 32 := 1#32
  let v876 : BitVec 32 := Scalar.subi v861 c1_i32_316
  let v877 : BitVec 32 := Scalar.select v875 v876 v861
  let c1_i32_339 : BitVec 32 := 1#32
  let v945 : BitVec 32 := Scalar.addi v877 c1_i32_339
  let c4_i32_340 : BitVec 32 := 4#32
  let v946 : BitVec 32 := Scalar.subi c4_i32_340 v945
  let c1_i32_341 : BitVec 32 := 1#32
  let v948 : BitVec 32 := Scalar.divsi v946 c1_i32_341
  let v949 : BitVec 32 := Scalar.muli v948 c1_i32_341
  let v950 : BitVec 32 := Scalar.addi v945 v949
  let v947 : BitVec 32 := Scalar.addi v945 v946
  let c1_i32_343 : BitVec 32 := 1#32
  ⟨v950, v947, c1_i32_343⟩
def k0_mult4 (k0_t1 : Fin k0_t1_loop.trips) (k0_t3 : Fin (k0_t3_loop k0_t1).trips) : BitVec 32 :=
  let c0_i32 : BitVec 32 := 0#32
  let c1_i32 : BitVec 32 := 1#32
  let arg28 : BitVec 32 := Scf.iv c0_i32 c1_i32 k0_t1
  let c512_i32_309 : BitVec 32 := 512#32
  let v860 : BitVec 32 := Scalar.muli arg28 c512_i32_309
  let c0_i32_311 : BitVec 32 := 0#32
  let v862 : BitVec 1 := Scalar.cmpi .sgt v860 c0_i32_311
  let v863 : BitVec 32 := Scalar.extui v862
  let c0_i32_312 : BitVec 32 := 0#32
  let v864 : BitVec 1 := Scalar.cmpi .slt v860 c0_i32_312
  let v865 : BitVec 32 := Scalar.extui v864
  let v866 : BitVec 32 := Scalar.subi v863 v865
  let c512_i32_310 : BitVec 32 := 512#32
  let c0_i32_313 : BitVec 32 := 0#32
  let v867 : BitVec 1 := Scalar.cmpi .sgt c512_i32_310 c0_i32_313
  let v868 : BitVec 32 := Scalar.extui v867
  let c0_i32_314 : BitVec 32 := 0#32
  let v869 : BitVec 1 := Scalar.cmpi .slt c512_i32_310 c0_i32_314
  let v870 : BitVec 32 := Scalar.extui v869
  let v871 : BitVec 32 := Scalar.subi v868 v870
  let v872 : BitVec 1 := Scalar.cmpi .ne v866 v871
  let v873 : BitVec 32 := Scalar.remsi v860 c512_i32_310
  let c0_i32_315 : BitVec 32 := 0#32
  let v874 : BitVec 1 := Scalar.cmpi .ne v873 c0_i32_315
  let v875 : BitVec 1 := Scalar.andi v872 v874
  let v861 : BitVec 32 := Scalar.divsi v860 c512_i32_310
  let c1_i32_316 : BitVec 32 := 1#32
  let v876 : BitVec 32 := Scalar.subi v861 c1_i32_316
  let v877 : BitVec 32 := Scalar.select v875 v876 v861
  let c1_i32_339 : BitVec 32 := 1#32
  let v945 : BitVec 32 := Scalar.addi v877 c1_i32_339
  let c4_i32_340 : BitVec 32 := 4#32
  let v946 : BitVec 32 := Scalar.subi c4_i32_340 v945
  let c1_i32_341 : BitVec 32 := 1#32
  let v948 : BitVec 32 := Scalar.divsi v946 c1_i32_341
  let v949 : BitVec 32 := Scalar.muli v948 c1_i32_341
  let v950 : BitVec 32 := Scalar.addi v945 v949
  let c1_i32_343 : BitVec 32 := 1#32
  let arg30 : BitVec 32 := Scf.iv v950 c1_i32_343 k0_t3
  let c512_i32_369 : BitVec 32 := 512#32
  let v1037 : BitVec 32 := Scalar.muli arg30 c512_i32_369
  v1037
def k0_off6 (k0_t1 : Fin k0_t1_loop.trips) (k0_t3 : Fin (k0_t3_loop k0_t1).trips) : Fin 2 → Nat :=
  let c0_i32 : BitVec 32 := 0#32
  let c1_i32 : BitVec 32 := 1#32
  let arg28 : BitVec 32 := Scf.iv c0_i32 c1_i32 k0_t1
  let c512_i32_309 : BitVec 32 := 512#32
  let v860 : BitVec 32 := Scalar.muli arg28 c512_i32_309
  let c0_i32_311 : BitVec 32 := 0#32
  let v862 : BitVec 1 := Scalar.cmpi .sgt v860 c0_i32_311
  let v863 : BitVec 32 := Scalar.extui v862
  let c0_i32_312 : BitVec 32 := 0#32
  let v864 : BitVec 1 := Scalar.cmpi .slt v860 c0_i32_312
  let v865 : BitVec 32 := Scalar.extui v864
  let v866 : BitVec 32 := Scalar.subi v863 v865
  let c512_i32_310 : BitVec 32 := 512#32
  let c0_i32_313 : BitVec 32 := 0#32
  let v867 : BitVec 1 := Scalar.cmpi .sgt c512_i32_310 c0_i32_313
  let v868 : BitVec 32 := Scalar.extui v867
  let c0_i32_314 : BitVec 32 := 0#32
  let v869 : BitVec 1 := Scalar.cmpi .slt c512_i32_310 c0_i32_314
  let v870 : BitVec 32 := Scalar.extui v869
  let v871 : BitVec 32 := Scalar.subi v868 v870
  let v872 : BitVec 1 := Scalar.cmpi .ne v866 v871
  let v873 : BitVec 32 := Scalar.remsi v860 c512_i32_310
  let c0_i32_315 : BitVec 32 := 0#32
  let v874 : BitVec 1 := Scalar.cmpi .ne v873 c0_i32_315
  let v875 : BitVec 1 := Scalar.andi v872 v874
  let v861 : BitVec 32 := Scalar.divsi v860 c512_i32_310
  let c1_i32_316 : BitVec 32 := 1#32
  let v876 : BitVec 32 := Scalar.subi v861 c1_i32_316
  let v877 : BitVec 32 := Scalar.select v875 v876 v861
  let c1_i32_339 : BitVec 32 := 1#32
  let v945 : BitVec 32 := Scalar.addi v877 c1_i32_339
  let c4_i32_340 : BitVec 32 := 4#32
  let v946 : BitVec 32 := Scalar.subi c4_i32_340 v945
  let c1_i32_341 : BitVec 32 := 1#32
  let v948 : BitVec 32 := Scalar.divsi v946 c1_i32_341
  let v949 : BitVec 32 := Scalar.muli v948 c1_i32_341
  let v950 : BitVec 32 := Scalar.addi v945 v949
  let c1_i32_343 : BitVec 32 := 1#32
  let arg30 : BitVec 32 := Scf.iv v950 c1_i32_343 k0_t3
  let c512_i32_369 : BitVec 32 := 512#32
  let v1037 : BitVec 32 := Scalar.muli arg30 c512_i32_369
  let v1038 : BitVec 32 := v1037
  let v1039 : Index := Scalar.indexCast v1038
  let c0_370 : Index := 0#32
  ![v1039.toNat, 0]
def k0_mult5 (k0_t1 : Fin k0_t1_loop.trips) : BitVec 32 :=
  let c0_i32 : BitVec 32 := 0#32
  let c1_i32 : BitVec 32 := 1#32
  let arg28 : BitVec 32 := Scf.iv c0_i32 c1_i32 k0_t1
  let c4_i32_345 : BitVec 32 := 4#32
  let v959 : BitVec 32 := Scalar.muli arg28 c4_i32_345
  let c0_i32_346 : BitVec 32 := 0#32
  let v960 : BitVec 32 := Scalar.addi v959 c0_i32_346
  let c8_i32 : BitVec 32 := 8#32
  let v961 : BitVec 32 := Scalar.muli v960 c8_i32
  v961
def k0_off7 (k0_t1 : Fin k0_t1_loop.trips) (c0_i32_346 : BitVec 32) : Fin 2 → Nat :=
  let c0_i32 : BitVec 32 := 0#32
  let c1_i32 : BitVec 32 := 1#32
  let arg28 : BitVec 32 := Scf.iv c0_i32 c1_i32 k0_t1
  let c4_i32_345 : BitVec 32 := 4#32
  let v959 : BitVec 32 := Scalar.muli arg28 c4_i32_345
  let v960 : BitVec 32 := Scalar.addi v959 c0_i32_346
  let c8_i32 : BitVec 32 := 8#32
  let v961 : BitVec 32 := Scalar.muli v960 c8_i32
  let v962 : BitVec 32 := v961
  let v963 : Index := Scalar.indexCast v962
  let c0_347 : Index := 0#32
  ![v963.toNat, 0]
def k0_mult6 (k0_t1 : Fin k0_t1_loop.trips) : BitVec 32 :=
  let c0_i32 : BitVec 32 := 0#32
  let c1_i32 : BitVec 32 := 1#32
  let arg28 : BitVec 32 := Scf.iv c0_i32 c1_i32 k0_t1
  let c4_i32_348 : BitVec 32 := 4#32
  let v970 : BitVec 32 := Scalar.muli arg28 c4_i32_348
  let c1_i32_349 : BitVec 32 := 1#32
  let v971 : BitVec 32 := Scalar.addi v970 c1_i32_349
  let c8_i32_350 : BitVec 32 := 8#32
  let v972 : BitVec 32 := Scalar.muli v971 c8_i32_350
  v972
def k0_mult7 (k0_t1 : Fin k0_t1_loop.trips) : BitVec 32 :=
  let c0_i32 : BitVec 32 := 0#32
  let c1_i32 : BitVec 32 := 1#32
  let arg28 : BitVec 32 := Scf.iv c0_i32 c1_i32 k0_t1
  let c4_i32_352 : BitVec 32 := 4#32
  let v981 : BitVec 32 := Scalar.muli arg28 c4_i32_352
  let c2_i32_353 : BitVec 32 := 2#32
  let v982 : BitVec 32 := Scalar.addi v981 c2_i32_353
  let c8_i32_354 : BitVec 32 := 8#32
  let v983 : BitVec 32 := Scalar.muli v982 c8_i32_354
  v983
def k0_mult8 (k0_t1 : Fin k0_t1_loop.trips) : BitVec 32 :=
  let c0_i32 : BitVec 32 := 0#32
  let c1_i32 : BitVec 32 := 1#32
  let arg28 : BitVec 32 := Scf.iv c0_i32 c1_i32 k0_t1
  let c4_i32_356 : BitVec 32 := 4#32
  let v992 : BitVec 32 := Scalar.muli arg28 c4_i32_356
  let c3_i32_357 : BitVec 32 := 3#32
  let v993 : BitVec 32 := Scalar.addi v992 c3_i32_357
  let c8_i32_358 : BitVec 32 := 8#32
  let v994 : BitVec 32 := Scalar.muli v993 c8_i32_358
  v994
@[reducible] def k0_t4_loop : Scf.Loop 32 :=
  let c0_i32_258 : BitVec 32 := 0#32
  let c16_i32_259 : BitVec 32 := 16#32
  let v766 : BitVec 32 := Scalar.addi c0_i32_258 c16_i32_259
  let c1_i32_260 : BitVec 32 := 1#32
  ⟨c0_i32_258, v766, c1_i32_260⟩
def k0_mult9 (k0_t4 : Fin k0_t4_loop.trips) : BitVec 32 :=
  let c15_i32 : BitVec 32 := 15#32
  let c0_i32_258 : BitVec 32 := 0#32
  let c1_i32_260 : BitVec 32 := 1#32
  let arg28 : BitVec 32 := Scf.iv c0_i32_258 c1_i32_260 k0_t4
  let v832 : BitVec 32 := Scalar.subi c15_i32 arg28
  let c128_i32 : BitVec 32 := 128#32
  let v833 : BitVec 32 := Scalar.muli v832 c128_i32
  v833
def k0_mult10 (k0_t4 : Fin k0_t4_loop.trips) : BitVec 32 :=
  let c15_i32 : BitVec 32 := 15#32
  let c0_i32_258 : BitVec 32 := 0#32
  let c1_i32_260 : BitVec 32 := 1#32
  let arg28 : BitVec 32 := Scf.iv c0_i32_258 c1_i32_260 k0_t4
  let v832 : BitVec 32 := Scalar.subi c15_i32 arg28
  let c8_i32 : BitVec 32 := 8#32
  let v835 : BitVec 32 := Scalar.muli v832 c8_i32
  v835
def k0_off8 (k0_t4 : Fin k0_t4_loop.trips) : Fin 2 → Nat :=
  let c15_i32 : BitVec 32 := 15#32
  let c0_i32_258 : BitVec 32 := 0#32
  let c1_i32_260 : BitVec 32 := 1#32
  let arg28 : BitVec 32 := Scf.iv c0_i32_258 c1_i32_260 k0_t4
  let v832 : BitVec 32 := Scalar.subi c15_i32 arg28
  let c8_i32 : BitVec 32 := 8#32
  let v835 : BitVec 32 := Scalar.muli v832 c8_i32
  let v836 : BitVec 32 := v835
  let v837 : Index := Scalar.indexCast v836
  let c0_291 : Index := 0#32
  ![v837.toNat, 0]
def k0_off9 (k0_t4 : Fin k0_t4_loop.trips) : Fin 2 → Nat :=
  let c15_i32 : BitVec 32 := 15#32
  let c0_i32_258 : BitVec 32 := 0#32
  let c1_i32_260 : BitVec 32 := 1#32
  let arg28 : BitVec 32 := Scf.iv c0_i32_258 c1_i32_260 k0_t4
  let v832 : BitVec 32 := Scalar.subi c15_i32 arg28
  let c128_i32 : BitVec 32 := 128#32
  let v833 : BitVec 32 := Scalar.muli v832 c128_i32
  let v834 : BitVec 32 := v833
  let v846 : Index := Scalar.indexCast v834
  let c0_294 : Index := 0#32
  ![v846.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .smem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2048x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2048x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S2048x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S4096x3072 : Shape := ⟨2, ![4096, 3072]⟩
abbrev S4096x128 : Shape := ⟨2, ![4096, 128]⟩
abbrev S1x8 : Shape := ⟨2, ![1, 8]⟩
abbrev S1x128 : Shape := ⟨2, ![1, 128]⟩
abbrev S4096x1024 : Shape := ⟨2, ![4096, 1024]⟩
abbrev S2x2048x8x128 : Shape := ⟨4, ![2, 2048, 8, 128]⟩
abbrev S2x8x2048x128 : Shape := ⟨4, ![2, 8, 2048, 128]⟩
abbrev S128 : Shape := ⟨1, ![128]⟩
abbrev S_ : Shape := ⟨0, ![]⟩
abbrev S2x8x2048 : Shape := ⟨3, ![2, 8, 2048]⟩
abbrev S2x8x2048x1 : Shape := ⟨4, ![2, 8, 2048, 1]⟩
abbrev S1x1x1x128 : Shape := ⟨4, ![1, 1, 1, 128]⟩
abbrev S4096x8 : Shape := ⟨2, ![4096, 8]⟩
abbrev S2x2048x8 : Shape := ⟨3, ![2, 2048, 8]⟩
abbrev S8 : Shape := ⟨1, ![8]⟩
abbrev S1x1x8 : Shape := ⟨3, ![1, 1, 8]⟩
abbrev S2x8x2048x2048 : Shape := ⟨4, ![2, 8, 2048, 2048]⟩
abbrev S2x8x1x2048 : Shape := ⟨4, ![2, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x128x2048 : Shape := ⟨4, ![2, 8, 128, 2048]⟩
abbrev S5x128 : Shape := ⟨2, ![5, 128]⟩
abbrev S8x128 : Shape := ⟨2, ![8, 128]⟩

abbrev nBuf : Space → Nat
  | .hbm => 315
  | .vmem => 0
  | .smem => 0
  | _ => 0

abbrev hbmTy0_0 (i : Nat) : BufTy := match i % 128 with
  | 0 => ⟨S4096x3072, .f32⟩
  | 1 => ⟨S4096x128, .f32⟩
  | 2 => ⟨S1x8, .f32⟩
  | 3 => ⟨S1x128, .f32⟩
  | 4 => ⟨S1x128, .f32⟩
  | 5 => ⟨S4096x1024, .f32⟩
  | 6 => ⟨S4096x128, .f32⟩
  | 7 => ⟨S4096x1024, .f32⟩
  | 8 => ⟨S2x2048x8x128, .f32⟩
  | 9 => ⟨S2x8x2048x128, .f32⟩
  | 10 => ⟨S128, .f32⟩
  | 11 => ⟨S2x8x2048x128, .f32⟩
  | 12 => ⟨S_, .f32⟩
  | 13 => ⟨S2x8x2048, .f32⟩
  | 14 => ⟨S2x8x2048x1, .f32⟩
  | 15 => ⟨S_, .f32⟩
  | 16 => ⟨S2x8x2048x1, .f32⟩
  | 17 => ⟨S2x8x2048x1, .f32⟩
  | 18 => ⟨S_, .f32⟩
  | 19 => ⟨S2x8x2048x1, .f32⟩
  | 20 => ⟨S2x8x2048x1, .f32⟩
  | 21 => ⟨S2x8x2048x1, .f32⟩
  | 22 => ⟨S2x8x2048x1, .f32⟩
  | 23 => ⟨S_, .f32⟩
  | 24 => ⟨S2x8x2048x1, .f32⟩
  | 25 => ⟨S2x8x2048x1, .f32⟩
  | 26 => ⟨S2x8x2048x128, .f32⟩
  | 27 => ⟨S2x8x2048x128, .f32⟩
  | 28 => ⟨S1x1x1x128, .f32⟩
  | 29 => ⟨S2x8x2048x128, .f32⟩
  | 30 => ⟨S2x8x2048x128, .f32⟩
  | 31 => ⟨S4096x1024, .f32⟩
  | 32 => ⟨S2x2048x8x128, .f32⟩
  | 33 => ⟨S2x8x2048x128, .f32⟩
  | 34 => ⟨S128, .f32⟩
  | 35 => ⟨S2x8x2048x128, .f32⟩
  | 36 => ⟨S_, .f32⟩
  | 37 => ⟨S2x8x2048, .f32⟩
  | 38 => ⟨S2x8x2048x1, .f32⟩
  | 39 => ⟨S_, .f32⟩
  | 40 => ⟨S2x8x2048x1, .f32⟩
  | 41 => ⟨S2x8x2048x1, .f32⟩
  | 42 => ⟨S_, .f32⟩
  | 43 => ⟨S2x8x2048x1, .f32⟩
  | 44 => ⟨S2x8x2048x1, .f32⟩
  | 45 => ⟨S2x8x2048x1, .f32⟩
  | 46 => ⟨S2x8x2048x1, .f32⟩
  | 47 => ⟨S_, .f32⟩
  | 48 => ⟨S2x8x2048x1, .f32⟩
  | 49 => ⟨S2x8x2048x1, .f32⟩
  | 50 => ⟨S2x8x2048x128, .f32⟩
  | 51 => ⟨S2x8x2048x128, .f32⟩
  | 52 => ⟨S1x1x1x128, .f32⟩
  | 53 => ⟨S2x8x2048x128, .f32⟩
  | 54 => ⟨S2x8x2048x128, .f32⟩
  | 55 => ⟨S4096x1024, .f32⟩
  | 56 => ⟨S2x2048x8x128, .f32⟩
  | 57 => ⟨S2x8x2048x128, .f32⟩
  | 58 => ⟨S4096x8, .f32⟩
  | 59 => ⟨S2x2048x8, .f32⟩
  | 60 => ⟨S8, .f32⟩
  | 61 => ⟨S1x1x8, .f32⟩
  | 62 => ⟨S2x2048x8, .f32⟩
  | 63 => ⟨S2x2048x8, .f32⟩
  | 64 => ⟨S2x2048x8, .f32⟩
  | 65 => ⟨S_, .f32⟩
  | 66 => ⟨S2x2048x8, .f32⟩
  | 67 => ⟨S2x2048x8, .f32⟩
  | 68 => ⟨S2x2048x8, .f32⟩
  | 69 => ⟨S2x2048x8, .f32⟩
  | 70 => ⟨S2x2048x8, .i1⟩
  | 71 => ⟨S2x2048x8, .f32⟩
  | 72 => ⟨S2x2048x8, .f32⟩
  | 73 => ⟨S2x2048x8, .f32⟩
  | 74 => ⟨S2x2048x8, .f32⟩
  | 75 => ⟨S2x2048x8, .f32⟩
  | 76 => ⟨S2x2048x8, .f32⟩
  | 77 => ⟨S2x2048x8, .f32⟩
  | 78 => ⟨S2x2048x8, .f32⟩
  | 79 => ⟨S_, .f32⟩
  | 80 => ⟨S2x2048x8, .f32⟩
  | 81 => ⟨S2x2048x8, .i1⟩
  | 82 => ⟨S_, .f32⟩
  | 83 => ⟨S2x2048x8, .f32⟩
  | 84 => ⟨S2x2048x8, .f32⟩
  | 85 => ⟨S_, .f32⟩
  | 86 => ⟨S2x2048x8, .f32⟩
  | 87 => ⟨S2x2048x8, .i1⟩
  | 88 => ⟨S_, .f32⟩
  | 89 => ⟨S2x2048x8, .f32⟩
  | 90 => ⟨S2x2048x8, .f32⟩
  | 91 => ⟨S2x2048x8, .f32⟩
  | 92 => ⟨S2x2048x8, .f32⟩
  | 93 => ⟨S_, .f32⟩
  | 94 => ⟨S_, .f32⟩
  | 95 => ⟨S_, .i1⟩
  | 96 => ⟨S_, .f32⟩
  | 97 => ⟨S_, .f32⟩
  | 98 => ⟨S_, .f32⟩
  | 99 => ⟨S_, .f32⟩
  | 100 => ⟨S2x2048x8, .f32⟩
  | 101 => ⟨S2x2048x8, .i1⟩
  | 102 => ⟨S_, .f32⟩
  | 103 => ⟨S2x2048x8, .f32⟩
  | 104 => ⟨S2x2048x8, .f32⟩
  | 105 => ⟨S2x2048x8, .f32⟩
  | 106 => ⟨S2x2048x8, .f32⟩
  | 107 => ⟨S2x2048x8, .f32⟩
  | 108 => ⟨S_, .f32⟩
  | 109 => ⟨S2x2048x8, .f32⟩
  | 110 => ⟨S2x2048x8, .f32⟩
  | 111 => ⟨S2x2048x8, .f32⟩
  | 112 => ⟨S2x8x2048, .f32⟩
  | 113 => ⟨S_, .f32⟩
  | 114 => ⟨S_, .f32⟩
  | 115 => ⟨S2x8x2048, .f32⟩
  | 116 => ⟨S2x8x2048x2048, .f32⟩
  | 117 => ⟨S_, .f32⟩
  | 118 => ⟨S2x8x2048x2048, .f32⟩
  | 119 => ⟨S2x8x2048x2048, .f32⟩
  | 120 => ⟨S2x8x2048x1, .f32⟩
  | 121 => ⟨S2x8x2048x2048, .f32⟩
  | 122 => ⟨S2x8x2048x2048, .f32⟩
  | 123 => ⟨S2x8x1x2048, .f32⟩
  | 124 => ⟨S2x8x2048x2048, .f32⟩
  | 125 => ⟨S2x8x2048x2048, .f32⟩
  | 126 => ⟨S2048, .i32⟩
  | 127 => ⟨S2048x1, .i32⟩
  | _ => ⟨S4096x3072, .f32⟩

abbrev hbmTy0_1 (i : Nat) : BufTy := match i % 128 with
  | 0 => ⟨S2048, .i32⟩
  | 1 => ⟨S1x2048, .i32⟩
  | 2 => ⟨S2048x2048, .i32⟩
  | 3 => ⟨S2048x2048, .i32⟩
  | 4 => ⟨S2048x2048, .i1⟩
  | 5 => ⟨S_, .f32⟩
  | 6 => ⟨S_, .f32⟩
  | 7 => ⟨S2x8x2048x2048, .i1⟩
  | 8 => ⟨S2x8x2048x2048, .f32⟩
  | 9 => ⟨S2x8x2048x2048, .f32⟩
  | 10 => ⟨S_, .f32⟩
  | 11 => ⟨S2x8x2048x2048, .f32⟩
  | 12 => ⟨S_, .f32⟩
  | 13 => ⟨S2x8x2048, .f32⟩
  | 14 => ⟨S2x8x2048x1, .f32⟩
  | 15 => ⟨S2x8x2048x2048, .f32⟩
  | 16 => ⟨S2x8x2048x2048, .i1⟩
  | 17 => ⟨S2x8x2048x2048, .f32⟩
  | 18 => ⟨S_, .f32⟩
  | 19 => ⟨S2x8x2048, .f32⟩
  | 20 => ⟨S_, .f32⟩
  | 21 => ⟨S2x8x2048, .f32⟩
  | 22 => ⟨S2x8x2048, .f32⟩
  | 23 => ⟨S_, .f32⟩
  | 24 => ⟨S2x8x2048, .f32⟩
  | 25 => ⟨S2x8x2048, .i1⟩
  | 26 => ⟨S_, .f32⟩
  | 27 => ⟨S2x8x2048, .f32⟩
  | 28 => ⟨S2x8x2048, .i1⟩
  | 29 => ⟨S_, .f32⟩
  | 30 => ⟨S2x8x2048, .f32⟩
  | 31 => ⟨S_, .f32⟩
  | 32 => ⟨S2x8x2048, .f32⟩
  | 33 => ⟨S_, .f32⟩
  | 34 => ⟨S2x8x2048, .f32⟩
  | 35 => ⟨S2x8x2048, .f32⟩
  | 36 => ⟨S2x8x2048, .f32⟩
  | 37 => ⟨S2x8x2048x1, .f32⟩
  | 38 => ⟨S2x8x2048x2048, .f32⟩
  | 39 => ⟨S2x8x2048x2048, .f32⟩
  | 40 => ⟨S2x8x2048x2048, .f32⟩
  | 41 => ⟨S_, .f32⟩
  | 42 => ⟨S2x8x2048, .f32⟩
  | 43 => ⟨S2x8x2048x1, .f32⟩
  | 44 => ⟨S2x8x2048x2048, .f32⟩
  | 45 => ⟨S2x8x2048x2048, .f32⟩
  | 46 => ⟨S2x8x2048x1, .f32⟩
  | 47 => ⟨S_, .f32⟩
  | 48 => ⟨S2x8x2048x1, .f32⟩
  | 49 => ⟨S2x8x2048x1, .f32⟩
  | 50 => ⟨S2x8x2048x128, .f32⟩
  | 51 => ⟨S2x2048x8x128, .f32⟩
  | 52 => ⟨S4096x1024, .f32⟩
  | 53 => ⟨S2x2048x8x128, .f32⟩
  | 54 => ⟨S2x8x2048x128, .f32⟩
  | 55 => ⟨S2x8x128x2048, .f32⟩
  | 56 => ⟨S2x8x2048x128, .f32⟩
  | 57 => ⟨S2x8x2048x2048, .f32⟩
  | 58 => ⟨S2x8x2048x2048, .f32⟩
  | 59 => ⟨S2x8x2048x2048, .f32⟩
  | 60 => ⟨S2x8x2048x2048, .f32⟩
  | 61 => ⟨S_, .f32⟩
  | 62 => ⟨S2x8x2048, .f32⟩
  | 63 => ⟨S2x8x2048x1, .f32⟩
  | 64 => ⟨S2x8x2048x1, .f32⟩
  | 65 => ⟨S2x8x2048x2048, .f32⟩
  | 66 => ⟨S2x8x2048x2048, .f32⟩
  | 67 => ⟨S_, .f32⟩
  | 68 => ⟨S2x8x2048, .f32⟩
  | 69 => ⟨S2x8x2048x2048, .f32⟩
  | 70 => ⟨S2x8x2048x2048, .f32⟩
  | 71 => ⟨S2x8x2048x2048, .f32⟩
  | 72 => ⟨S_, .f32⟩
  | 73 => ⟨S2x8x2048x2048, .f32⟩
  | 74 => ⟨S2x8x2048x2048, .f32⟩
  | 75 => ⟨S2x8x2048x2048, .f32⟩
  | 76 => ⟨S_, .f32⟩
  | 77 => ⟨S2x8x2048, .f32⟩
  | 78 => ⟨S2x8x1x2048, .f32⟩
  | 79 => ⟨S_, .f32⟩
  | 80 => ⟨S2x8x2048, .f32⟩
  | 81 => ⟨S_, .f32⟩
  | 82 => ⟨S2x8x2048, .f32⟩
  | 83 => ⟨S2x8x2048x1, .f32⟩
  | 84 => ⟨S_, .f32⟩
  | 85 => ⟨S2x8x2048, .f32⟩
  | 86 => ⟨S2x8x2048, .f32⟩
  | 87 => ⟨S_, .f32⟩
  | 88 => ⟨S2x8x2048x2048, .f32⟩
  | 89 => ⟨S2x8x2048x2048, .f32⟩
  | 90 => ⟨S2x8x2048x128, .f32⟩
  | 91 => ⟨S2x8x2048x128, .f32⟩
  | 92 => ⟨S_, .f32⟩
  | 93 => ⟨S_, .f32⟩
  | 94 => ⟨S2x8x2048, .f32⟩
  | 95 => ⟨S2x2048x8, .f32⟩
  | 96 => ⟨S2x2048x8, .f32⟩
  | 97 => ⟨S2x2048x8, .f32⟩
  | 98 => ⟨S2x2048x8, .f32⟩
  | 99 => ⟨S_, .f32⟩
  | 100 => ⟨S8, .f32⟩
  | 101 => ⟨S1x1x8, .f32⟩
  | 102 => ⟨S_, .f32⟩
  | 103 => ⟨S8, .f32⟩
  | 104 => ⟨S1x8, .f32⟩
  | 105 => ⟨S4096x8, .f32⟩
  | 106 => ⟨S_, .f32⟩
  | 107 => ⟨S4096x128, .f32⟩
  | 108 => ⟨S2x2048x8x128, .f32⟩
  | 109 => ⟨S4096x1024, .f32⟩
  | 110 => ⟨S_, .f32⟩
  | 111 => ⟨S4096x3072, .f32⟩
  | 112 => ⟨S2x8x2048x128, .f32⟩
  | 113 => ⟨S_, .f32⟩
  | 114 => ⟨S128, .f32⟩
  | 115 => ⟨S1x1x1x128, .f32⟩
  | 116 => ⟨S2x8x2048x128, .f32⟩
  | 117 => ⟨S2x8x2048x128, .f32⟩
  | 118 => ⟨S_, .f32⟩
  | 119 => ⟨S128, .f32⟩
  | 120 => ⟨S2x8x2048x128, .f32⟩
  | 121 => ⟨S_, .f32⟩
  | 122 => ⟨S2x8x2048, .f32⟩
  | 123 => ⟨S2x8x2048x1, .f32⟩
  | 124 => ⟨S2x8x2048x128, .f32⟩
  | 125 => ⟨S2x8x2048x128, .f32⟩
  | 126 => ⟨S2x8x2048x1, .f32⟩
  | 127 => ⟨S_, .f32⟩
  | _ => ⟨S4096x3072, .f32⟩

abbrev hbmTy0_2 (i : Nat) : BufTy := match i % 128 with
  | 0 => ⟨S2x8x2048x1, .f32⟩
  | 1 => ⟨S2x8x2048x1, .f32⟩
  | 2 => ⟨S_, .f32⟩
  | 3 => ⟨S2x8x2048, .f32⟩
  | 4 => ⟨S2x8x2048x128, .f32⟩
  | 5 => ⟨S2x8x2048x128, .f32⟩
  | 6 => ⟨S2x8x2048x128, .f32⟩
  | 7 => ⟨S2x8x2048x128, .f32⟩
  | 8 => ⟨S2x8x2048x128, .f32⟩
  | 9 => ⟨S1x128, .f32⟩
  | 10 => ⟨S2x2048x8x128, .f32⟩
  | 11 => ⟨S4096x1024, .f32⟩
  | 12 => ⟨S_, .f32⟩
  | 13 => ⟨S4096x3072, .f32⟩
  | 14 => ⟨S4096x3072, .f32⟩
  | 15 => ⟨S2x8x2048x128, .f32⟩
  | 16 => ⟨S_, .f32⟩
  | 17 => ⟨S128, .f32⟩
  | 18 => ⟨S1x1x1x128, .f32⟩
  | 19 => ⟨S2x8x2048x128, .f32⟩
  | 20 => ⟨S2x8x2048x128, .f32⟩
  | 21 => ⟨S_, .f32⟩
  | 22 => ⟨S128, .f32⟩
  | 23 => ⟨S2x8x2048x128, .f32⟩
  | 24 => ⟨S_, .f32⟩
  | 25 => ⟨S2x8x2048, .f32⟩
  | 26 => ⟨S2x8x2048x1, .f32⟩
  | 27 => ⟨S2x8x2048x128, .f32⟩
  | 28 => ⟨S2x8x2048x128, .f32⟩
  | 29 => ⟨S2x8x2048x1, .f32⟩
  | 30 => ⟨S_, .f32⟩
  | 31 => ⟨S2x8x2048x1, .f32⟩
  | 32 => ⟨S2x8x2048x1, .f32⟩
  | 33 => ⟨S_, .f32⟩
  | 34 => ⟨S2x8x2048, .f32⟩
  | 35 => ⟨S2x8x2048x128, .f32⟩
  | 36 => ⟨S2x8x2048x128, .f32⟩
  | 37 => ⟨S2x8x2048x128, .f32⟩
  | 38 => ⟨S2x8x2048x128, .f32⟩
  | 39 => ⟨S2x8x2048x128, .f32⟩
  | 40 => ⟨S1x128, .f32⟩
  | 41 => ⟨S2x2048x8x128, .f32⟩
  | 42 => ⟨S4096x1024, .f32⟩
  | 43 => ⟨S_, .f32⟩
  | 44 => ⟨S4096x3072, .f32⟩
  | 45 => ⟨S4096x3072, .f32⟩
  | 46 => ⟨S_, .i32⟩
  | 47 => ⟨S_, .f32⟩
  | 48 => ⟨S1x128, .f32⟩
  | 49 => ⟨S_, .f32⟩
  | 50 => ⟨S5x128, .f32⟩
  | 51 => ⟨S8x128, .f32⟩
  | 52 => ⟨S4096x1024, .f32⟩
  | 53 => ⟨S4096x1024, .bf16⟩
  | 54 => ⟨S4096x1024, .f32⟩
  | 55 => ⟨S4096x1024, .bf16⟩
  | 56 => ⟨S4096x1024, .f32⟩
  | 57 => ⟨S4096x1024, .bf16⟩
  | 58 => ⟨S4096x128, .f32⟩
  | _ => ⟨S4096x3072, .f32⟩

abbrev hbmTy (i : Nat) : BufTy := match i / 128 with
  | 0 => hbmTy0_0 i
  | 1 => hbmTy0_1 i
  | 2 => hbmTy0_2 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_call0_v0 : Ref sig .tc := ⟨.hbm, 64, rfl⟩
abbrev main_call0_call0_cst : Ref sig .tc := ⟨.hbm, 65, rfl⟩
abbrev main_call0_call0_v0 : Ref sig .tc := ⟨.hbm, 66, rfl⟩
abbrev main_call0_call0_v1 : Ref sig .tc := ⟨.hbm, 67, rfl⟩
abbrev main_call0_call0_v2 : Ref sig .tc := ⟨.hbm, 68, rfl⟩
abbrev main_call0_call0_v3 : Ref sig .tc := ⟨.hbm, 69, rfl⟩
abbrev main_call0_call0_v4 : Ref sig .tc := ⟨.hbm, 70, rfl⟩
abbrev main_call0_call0_v5 : Ref sig .tc := ⟨.hbm, 71, rfl⟩
abbrev main_call0_call0_v6 : Ref sig .tc := ⟨.hbm, 72, rfl⟩
abbrev main_call0_call0_v7 : Ref sig .tc := ⟨.hbm, 73, rfl⟩
abbrev main_call0_call0_v8 : Ref sig .tc := ⟨.hbm, 74, rfl⟩
abbrev main_call0_call0_v9 : Ref sig .tc := ⟨.hbm, 75, rfl⟩
abbrev main_call0_call0_v10 : Ref sig .tc := ⟨.hbm, 76, rfl⟩
abbrev main_call0_call0_v11 : Ref sig .tc := ⟨.hbm, 77, rfl⟩
abbrev main_call0_v1_0 : Ref sig .tc := ⟨.hbm, 78, rfl⟩
abbrev main_call0_call0_cst_0 : Ref sig .tc := ⟨.hbm, 79, rfl⟩
abbrev main_call0_call0_v13 : Ref sig .tc := ⟨.hbm, 80, rfl⟩
abbrev main_call0_call0_v14 : Ref sig .tc := ⟨.hbm, 81, rfl⟩
abbrev main_call0_call0_cst_1 : Ref sig .tc := ⟨.hbm, 82, rfl⟩
abbrev main_call0_call0_v15 : Ref sig .tc := ⟨.hbm, 83, rfl⟩
abbrev main_call0_call0_v16 : Ref sig .tc := ⟨.hbm, 84, rfl⟩
abbrev main_call0_call0_cst_2 : Ref sig .tc := ⟨.hbm, 85, rfl⟩
abbrev main_call0_call0_v17 : Ref sig .tc := ⟨.hbm, 86, rfl⟩
abbrev main_call0_call0_v18 : Ref sig .tc := ⟨.hbm, 87, rfl⟩
abbrev main_call0_call0_cst_3 : Ref sig .tc := ⟨.hbm, 88, rfl⟩
abbrev main_call0_call0_v19 : Ref sig .tc := ⟨.hbm, 89, rfl⟩
abbrev main_call0_call0_v20 : Ref sig .tc := ⟨.hbm, 90, rfl⟩
abbrev main_call0_call0_v21 : Ref sig .tc := ⟨.hbm, 91, rfl⟩
abbrev main_v49_1 : Ref sig .tc := ⟨.hbm, 92, rfl⟩
abbrev main_call0_call0_cst_4 : Ref sig .tc := ⟨.hbm, 93, rfl⟩
abbrev main_call0_call0_cst_5 : Ref sig .tc := ⟨.hbm, 94, rfl⟩
abbrev main_call0_call0_v23 : Ref sig .tc := ⟨.hbm, 95, rfl⟩
abbrev main_call0_call0_cst_6 : Ref sig .tc := ⟨.hbm, 96, rfl⟩
abbrev main_call0_call0_cst_7 : Ref sig .tc := ⟨.hbm, 97, rfl⟩
abbrev main_call0_call0_v24 : Ref sig .tc := ⟨.hbm, 98, rfl⟩
abbrev main_call0_call0_cst_8 : Ref sig .tc := ⟨.hbm, 99, rfl⟩
abbrev main_call0_call0_v25 : Ref sig .tc := ⟨.hbm, 100, rfl⟩
abbrev main_call0_call0_v26 : Ref sig .tc := ⟨.hbm, 101, rfl⟩
abbrev main_call0_call0_cst_9 : Ref sig .tc := ⟨.hbm, 102, rfl⟩
abbrev main_call0_call0_v27 : Ref sig .tc := ⟨.hbm, 103, rfl⟩
abbrev main_call0_call0_v28 : Ref sig .tc := ⟨.hbm, 104, rfl⟩
abbrev main_call0_call0_v29 : Ref sig .tc := ⟨.hbm, 105, rfl⟩
abbrev main_call0_call0_v30 : Ref sig .tc := ⟨.hbm, 106, rfl⟩
abbrev main_call0_call0_v31 : Ref sig .tc := ⟨.hbm, 107, rfl⟩
abbrev main_call0_call0_cst_10 : Ref sig .tc := ⟨.hbm, 108, rfl⟩
abbrev main_call0_call0_v32 : Ref sig .tc := ⟨.hbm, 109, rfl⟩
abbrev main_v49_2 : Ref sig .tc := ⟨.hbm, 110, rfl⟩
abbrev main_v49_0 : Ref sig .tc := ⟨.hbm, 111, rfl⟩
abbrev main_v50 : Ref sig .tc := ⟨.hbm, 112, rfl⟩
abbrev main_call1_call0_cst : Ref sig .tc := ⟨.hbm, 113, rfl⟩
abbrev main_call1_call0_v0 : Ref sig .tc := ⟨.hbm, 114, rfl⟩
abbrev main_v51 : Ref sig .tc := ⟨.hbm, 115, rfl⟩
abbrev main_v52 : Ref sig .tc := ⟨.hbm, 116, rfl⟩
abbrev main_cst_7 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_cst_8 : Ref sig .tc := ⟨.hbm, 133, rfl⟩
abbrev main_call2_v0 : Ref sig .tc := ⟨.hbm, 134, rfl⟩
abbrev main_v68_1 : Ref sig .tc := ⟨.hbm, 135, rfl⟩
abbrev main_call2_v2 : Ref sig .tc := ⟨.hbm, 136, rfl⟩
abbrev main_v68_0 : Ref sig .tc := ⟨.hbm, 137, rfl⟩
abbrev main_call2_cst : Ref sig .tc := ⟨.hbm, 138, rfl⟩
abbrev main_v68_2 : Ref sig .tc := ⟨.hbm, 139, rfl⟩
abbrev main_cst_9 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_cst_10 : Ref sig .tc := ⟨.hbm, 146, rfl⟩
abbrev main_v74 : Ref sig .tc := ⟨.hbm, 147, rfl⟩
abbrev main_cst_11 : Ref sig .tc := ⟨.hbm, 148, rfl⟩
abbrev main_v75 : Ref sig .tc := ⟨.hbm, 149, rfl⟩
abbrev main_v76 : Ref sig .tc := ⟨.hbm, 150, rfl⟩
abbrev main_cst_12 : Ref sig .tc := ⟨.hbm, 151, rfl⟩
abbrev main_v77 : Ref sig .tc := ⟨.hbm, 152, rfl⟩
abbrev main_v78 : Ref sig .tc := ⟨.hbm, 153, rfl⟩
abbrev main_cst_13 : Ref sig .tc := ⟨.hbm, 154, rfl⟩
abbrev main_v79 : Ref sig .tc := ⟨.hbm, 155, rfl⟩
abbrev main_v80 : Ref sig .tc := ⟨.hbm, 156, rfl⟩
abbrev main_cst_14 : Ref sig .tc := ⟨.hbm, 157, rfl⟩
abbrev main_v81 : Ref sig .tc := ⟨.hbm, 158, rfl⟩
abbrev main_cst_15 : Ref sig .tc := ⟨.hbm, 159, rfl⟩
abbrev main_v82 : Ref sig .tc := ⟨.hbm, 160, rfl⟩
abbrev main_cst_16 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_cst_17 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_cst_18 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_cst_19 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_cst_20 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_call3_cst : Ref sig .tc := ⟨.hbm, 200, rfl⟩
abbrev main_call3_v0 : Ref sig .tc := ⟨.hbm, 201, rfl⟩
abbrev main_v117 : Ref sig .tc := ⟨.hbm, 202, rfl⟩
abbrev main_v118 : Ref sig .tc := ⟨.hbm, 203, rfl⟩
abbrev main_cst_21 : Ref sig .tc := ⟨.hbm, 204, rfl⟩
abbrev main_v119 : Ref sig .tc := ⟨.hbm, 205, rfl⟩
abbrev main_v120 : Ref sig .tc := ⟨.hbm, 206, rfl⟩
abbrev main_cst_22 : Ref sig .tc := ⟨.hbm, 207, rfl⟩
abbrev main_v121 : Ref sig .tc := ⟨.hbm, 208, rfl⟩
abbrev main_cst_23 : Ref sig .tc := ⟨.hbm, 209, rfl⟩
abbrev main_v122 : Ref sig .tc := ⟨.hbm, 210, rfl⟩
abbrev main_v123 : Ref sig .tc := ⟨.hbm, 211, rfl⟩
abbrev main_cst_24 : Ref sig .tc := ⟨.hbm, 212, rfl⟩
abbrev main_v124 : Ref sig .tc := ⟨.hbm, 213, rfl⟩
abbrev main_v125 : Ref sig .tc := ⟨.hbm, 214, rfl⟩
abbrev main_cst_25 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_call4_call0_cst : Ref sig .tc := ⟨.hbm, 220, rfl⟩
abbrev main_call4_call0_v0 : Ref sig .tc := ⟨.hbm, 221, rfl⟩
abbrev main_v130 : Ref sig .tc := ⟨.hbm, 222, rfl⟩
abbrev main_v131 : Ref sig .tc := ⟨.hbm, 223, rfl⟩
abbrev main_call5_v0 : Ref sig .tc := ⟨.hbm, 224, rfl⟩
abbrev main_call5_v1 : Ref sig .tc := ⟨.hbm, 225, rfl⟩
abbrev main_v132 : Ref sig .tc := ⟨.hbm, 226, rfl⟩
abbrev main_cst_26 : Ref sig .tc := ⟨.hbm, 227, rfl⟩
abbrev main_v133 : Ref sig .tc := ⟨.hbm, 228, rfl⟩
abbrev main_v134 : Ref sig .tc := ⟨.hbm, 229, rfl⟩
abbrev main_cst_27 : Ref sig .tc := ⟨.hbm, 230, rfl⟩
abbrev main_v135 : Ref sig .tc := ⟨.hbm, 231, rfl⟩
abbrev main_v136 : Ref sig .tc := ⟨.hbm, 232, rfl⟩
abbrev main_v137 : Ref sig .tc := ⟨.hbm, 233, rfl⟩
abbrev main_cst_28 : Ref sig .tc := ⟨.hbm, 234, rfl⟩
abbrev main_v138 : Ref sig .tc := ⟨.hbm, 235, rfl⟩
abbrev main_v139 : Ref sig .tc := ⟨.hbm, 236, rfl⟩
abbrev main_v140 : Ref sig .tc := ⟨.hbm, 237, rfl⟩
abbrev main_cst_29 : Ref sig .tc := ⟨.hbm, 238, rfl⟩
abbrev main_v141 : Ref sig .tc := ⟨.hbm, 239, rfl⟩
abbrev main_v142 : Ref sig .tc := ⟨.hbm, 240, rfl⟩
abbrev main_cst_30 : Ref sig .tc := ⟨.hbm, 241, rfl⟩
abbrev main_v143 : Ref sig .tc := ⟨.hbm, 242, rfl⟩
abbrev main_v144 : Ref sig .tc := ⟨.hbm, 243, rfl⟩
abbrev main_v145 : Ref sig .tc := ⟨.hbm, 244, rfl⟩
abbrev main_v146 : Ref sig .tc := ⟨.hbm, 245, rfl⟩
abbrev main_cst_31 : Ref sig .tc := ⟨.hbm, 246, rfl⟩
abbrev main_v147 : Ref sig .tc := ⟨.hbm, 247, rfl⟩
abbrev main_v148 : Ref sig .tc := ⟨.hbm, 248, rfl⟩
abbrev main_cst_32 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_v152 : Ref sig .tc := ⟨.hbm, 253, rfl⟩
abbrev main_v153 : Ref sig .tc := ⟨.hbm, 254, rfl⟩
abbrev main_cst_33 : Ref sig .tc := ⟨.hbm, 255, rfl⟩
abbrev main_v154 : Ref sig .tc := ⟨.hbm, 256, rfl⟩
abbrev main_v155 : Ref sig .tc := ⟨.hbm, 257, rfl⟩
abbrev main_cst_34 : Ref sig .tc := ⟨.hbm, 258, rfl⟩
abbrev main_v156 : Ref sig .tc := ⟨.hbm, 259, rfl⟩
abbrev main_v157 : Ref sig .tc := ⟨.hbm, 260, rfl⟩
abbrev main_v158 : Ref sig .tc := ⟨.hbm, 261, rfl⟩
abbrev main_v159 : Ref sig .tc := ⟨.hbm, 262, rfl⟩
abbrev main_v160 : Ref sig .tc := ⟨.hbm, 263, rfl⟩
abbrev main_v161 : Ref sig .tc := ⟨.hbm, 264, rfl⟩
abbrev main_v162 : Ref sig .tc := ⟨.hbm, 265, rfl⟩
abbrev main_v163 : Ref sig .tc := ⟨.hbm, 266, rfl⟩
abbrev main_v164 : Ref sig .tc := ⟨.hbm, 267, rfl⟩
abbrev main_cst_35 : Ref sig .tc := ⟨.hbm, 268, rfl⟩
abbrev main_v165 : Ref sig .tc := ⟨.hbm, 269, rfl⟩
abbrev main_v166 : Ref sig .tc := ⟨.hbm, 270, rfl⟩
abbrev main_v167 : Ref sig .tc := ⟨.hbm, 271, rfl⟩
abbrev main_cst_36 : Ref sig .tc := ⟨.hbm, 272, rfl⟩
abbrev main_v168 : Ref sig .tc := ⟨.hbm, 273, rfl⟩
abbrev main_v169 : Ref sig .tc := ⟨.hbm, 274, rfl⟩
abbrev main_v170 : Ref sig .tc := ⟨.hbm, 275, rfl⟩
abbrev main_v171 : Ref sig .tc := ⟨.hbm, 276, rfl⟩
abbrev main_cst_37 : Ref sig .tc := ⟨.hbm, 277, rfl⟩
abbrev main_v172 : Ref sig .tc := ⟨.hbm, 278, rfl⟩
abbrev main_v173 : Ref sig .tc := ⟨.hbm, 279, rfl⟩
abbrev main_cst_38 : Ref sig .tc := ⟨.hbm, 280, rfl⟩
abbrev main_v174 : Ref sig .tc := ⟨.hbm, 281, rfl⟩
abbrev main_v175 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_cst_39 : Ref sig .tc := ⟨.hbm, 286, rfl⟩
abbrev main_v179 : Ref sig .tc := ⟨.hbm, 287, rfl⟩
abbrev main_v180 : Ref sig .tc := ⟨.hbm, 288, rfl⟩
abbrev main_cst_40 : Ref sig .tc := ⟨.hbm, 289, rfl⟩
abbrev main_v181 : Ref sig .tc := ⟨.hbm, 290, rfl⟩
abbrev main_v182 : Ref sig .tc := ⟨.hbm, 291, rfl⟩
abbrev main_v183 : Ref sig .tc := ⟨.hbm, 292, rfl⟩
abbrev main_v184 : Ref sig .tc := ⟨.hbm, 293, rfl⟩
abbrev main_v185 : Ref sig .tc := ⟨.hbm, 294, rfl⟩
abbrev main_v186 : Ref sig .tc := ⟨.hbm, 295, rfl⟩
abbrev main_v187 : Ref sig .tc := ⟨.hbm, 296, rfl⟩
abbrev main_v188 : Ref sig .tc := ⟨.hbm, 297, rfl⟩
abbrev main_v189 : Ref sig .tc := ⟨.hbm, 298, rfl⟩
abbrev main_cst_41 : Ref sig .tc := ⟨.hbm, 299, rfl⟩
abbrev main_v190 : Ref sig .tc := ⟨.hbm, 300, rfl⟩
abbrev main_v191 : Ref sig .tc := ⟨.hbm, 301, rfl⟩
abbrev main_c : Ref sig .tc := ⟨.hbm, 302, rfl⟩
abbrev main_call6_v0 : Ref sig .tc := ⟨.hbm, 303, rfl⟩
abbrev main_v192 : Ref sig .tc := ⟨.hbm, 304, rfl⟩
abbrev main_cst_42 : Ref sig .tc := ⟨.hbm, 305, rfl⟩
abbrev main_v193 : Ref sig .tc := ⟨.hbm, 306, rfl⟩
abbrev main_v194 : Ref sig .tc := ⟨.hbm, 307, rfl⟩
abbrev main_v195 : Ref sig .tc := ⟨.hbm, 308, rfl⟩
abbrev main_v196 : Ref sig .tc := ⟨.hbm, 309, rfl⟩
abbrev main_v197 : Ref sig .tc := ⟨.hbm, 310, rfl⟩
abbrev main_v198 : Ref sig .tc := ⟨.hbm, 311, rfl⟩
abbrev main_v199 : Ref sig .tc := ⟨.hbm, 312, rfl⟩
abbrev main_v200 : Ref sig .tc := ⟨.hbm, 313, rfl⟩
abbrev main_v201 : Ref sig .tc := ⟨.hbm, 314, rfl⟩

abbrev nD : Nat := 1
abbrev τ : Topo := Topo.v7x

variable {F : FTy → Type} [FloatOps F]
-- ==== Dw.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwIdeal.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dx.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dup.lean ====
abbrev S4096x1024 : Shape := ⟨2, ![4096, 1024]⟩
abbrev S4096x4096 : Shape := ⟨2, ![4096, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DupRefIdeal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x1024, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== DwUp.lean ====
abbrev S4096x1024 : Shape := ⟨2, ![4096, 1024]⟩
abbrev S4096x4096 : Shape := ⟨2, ![4096, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpIdeal.lean ====
abbrev S4096x1024 : Shape := ⟨2, ![4096, 1024]⟩
abbrev S4096x4096 : Shape := ⟨2, ![4096, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S_, .f32⟩
  | .hbm, ⟨4, _⟩ => ⟨S1024x4096, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwDown.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownIdeal.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dhn.lean ====
abbrev S4096x4096 : Shape := ⟨2, ![4096, 4096]⟩
abbrev S1024x4096 : Shape := ⟨2, ![1024, 4096]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhnRefIdeal.lean ====
abbrev S4096x4096 : Shape := ⟨2, ![4096, 4096]⟩
abbrev S1024x4096 : Shape := ⟨2, ![1024, 4096]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S1024x4096, .f32⟩
  | .hbm, ⟨3, _⟩ => ⟨S_, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Du.lean ====
abbrev S4096x128 : Shape := ⟨2, ![4096, 128]⟩
abbrev S1024x128 : Shape := ⟨2, ![1024, 128]⟩
abbrev S4096x1024 : Shape := ⟨2, ![4096, 1024]⟩
abbrev S1024x4096 : Shape := ⟨2, ![1024, 4096]⟩
abbrev S1024x3072 : Shape := ⟨2, ![1024, 3072]⟩
abbrev S1024x2048 : Shape := ⟨2, ![1024, 2048]⟩
abbrev S512x128 : Shape := ⟨2, ![512, 128]⟩
abbrev S512x1024 : Shape := ⟨2, ![512, 1024]⟩
abbrev S1024x1024 : Shape := ⟨2, ![1024, 1024]⟩

abbrev nBuf : Space → Nat
  | .hbm => 15
  | .vmem => 30
  | .smem => 0
  | _ => 0

abbrev bufTy : (tb : Table) → Fin (tcTables nBuf tb) → BufTy
  | .hbm, ⟨0, _⟩ => ⟨S4096x128, .f32⟩
  | .hbm, ⟨1, _⟩ => ⟨S1024x128, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S1024x4096, .bf16⟩
  | .hbm, ⟨12, _⟩ => ⟨S1024x3072, .bf16⟩
  | .hbm, ⟨13, _⟩ => ⟨S1024x2048, .bf16⟩
  | .hbm, ⟨14, _⟩ => ⟨S4096x1024, .f32⟩
  | .local _ .vmem, ⟨0, _⟩ => ⟨S512x128, .f32⟩
  | .local _ .vmem, ⟨1, _⟩ => ⟨S512x128, .f32⟩
  | .local _ .vmem, ⟨2, _⟩ => ⟨S1024x128, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S512x1024, .f32⟩
  | .local _ .vmem, ⟨28, _⟩ => ⟨S512x1024, .f32⟩
  | .local _ .vmem, ⟨29, _⟩ => ⟨S4096x1024, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨2, ![9, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v39 : Index := Scalar.indexCast v1
  let c0_16 : Index := 0#32
  ![v39.toNat, 0]
def k0_cond2 (i : grid0.Coords) : BitVec 1 :=
  let arg0 : BitVec 32 := BitVec.ofNat 32 (i 0).val
  let c0_i32_1 : BitVec 32 := 0#32
  let v5 : BitVec 1 := Scalar.cmpi .eq arg0 c0_i32_1
  let v6 : BitVec 32 := Scalar.extui v5
  let c0_i32_2 : BitVec 32 := 0#32
  let v7 : BitVec 1 := Scalar.cmpi .ne v6 c0_i32_2
  v7

def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v35 : Index := Scalar.indexCast v1
  let c0 : Index := 0#32
  ![v35.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_3 : BitVec 32 := 0#32
  let v10 : BitVec 1 := Scalar.cmpi .ne v9 c0_i32_3
  v10

def k0_off3 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v35 : Index := Scalar.indexCast v1
  let c0 : Index := 0#32
  ![v35.toNat, 0]
def k0_cond4 (i : grid0.Coords) : BitVec 1 :=
  let arg0 : BitVec 32 := BitVec.ofNat 32 (i 0).val
  let c2_i32 : BitVec 32 := 2#32
  let v11 : BitVec 1 := Scalar.cmpi .eq arg0 c2_i32
  let v12 : BitVec 32 := Scalar.extui v11
  let c0_i32_4 : BitVec 32 := 0#32
  let v13 : BitVec 1 := Scalar.cmpi .ne v12 c0_i32_4
  v13

def k0_off4 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v35 : Index := Scalar.indexCast v1
  let c0 : Index := 0#32
  ![v35.toNat, 0]
def k0_cond5 (i : grid0.Coords) : BitVec 1 :=
  let arg0 : BitVec 32 := BitVec.ofNat 32 (i 0).val
  let c3_i32 : BitVec 32 := 3#32
  let v14 : BitVec 1 := Scalar.cmpi .eq arg0 c3_i32
  let v15 : BitVec 32 := Scalar.extui v14
  let c0_i32_5 : BitVec 32 := 0#32
  let v16 : BitVec 1 := Scalar.cmpi .ne v15 c0_i32_5
  v16

def k0_off5 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v35 : Index := Scalar.indexCast v1
  let c0 : Index := 0#32
  ![v35.toNat, 0]
def k0_cond6 (i : grid0.Coords) : BitVec 1 :=
  let arg0 : BitVec 32 := BitVec.ofNat 32 (i 0).val
  let c4_i32 : BitVec 32 := 4#32
  let v17 : BitVec 1 := Scalar.cmpi .eq arg0 c4_i32
  let v18 : BitVec 32 := Scalar.extui v17
  let c0_i32_6 : BitVec 32 := 0#32
  let v19 : BitVec 1 := Scalar.cmpi .ne v18 c0_i32_6
  v19

def k0_off6 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v35 : Index := Scalar.indexCast v1
  let c0 : Index := 0#32
  ![v35.toNat, 0]
def k0_cond7 (i : grid0.Coords) : BitVec 1 :=
  let arg0 : BitVec 32 := BitVec.ofNat 32 (i 0).val
  let c5_i32 : BitVec 32 := 5#32
  let v20 : BitVec 1 := Scalar.cmpi .eq arg0 c5_i32
  let v21 : BitVec 32 := Scalar.extui v20
  let c0_i32_7 : BitVec 32 := 0#32
  let v22 : BitVec 1 := Scalar.cmpi .ne v21 c0_i32_7
  v22

def k0_off7 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v35 : Index := Scalar.indexCast v1
  let c0 : Index := 0#32
  ![v35.toNat, 0]
def k0_cond8 (i : grid0.Coords) : BitVec 1 :=
  let arg0 : BitVec 32 := BitVec.ofNat 32 (i 0).val
  let c6_i32 : BitVec 32 := 6#32
  let v23 : BitVec 1 := Scalar.cmpi .eq arg0 c6_i32
  let v24 : BitVec 32 := Scalar.extui v23
  let c0_i32_8 : BitVec 32 := 0#32
  let v25 : BitVec 1 := Scalar.cmpi .ne v24 c0_i32_8
  v25

def k0_off8 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v35 : Index := Scalar.indexCast v1
  let c0 : Index := 0#32
  ![v35.toNat, 0]
def k0_cond9 (i : grid0.Coords) : BitVec 1 :=
  let arg0 : BitVec 32 := BitVec.ofNat 32 (i 0).val
  let c7_i32 : BitVec 32 := 7#32
  let v26 : BitVec 1 := Scalar.cmpi .eq arg0 c7_i32
  let v27 : BitVec 32 := Scalar.extui v26
  let c0_i32_9 : BitVec 32 := 0#32
  let v28 : BitVec 1 := Scalar.cmpi .ne v27 c0_i32_9
  v28

def k0_off9 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v35 : Index := Scalar.indexCast v1
  let c0 : Index := 0#32
  ![v35.toNat, 0]
def k0_cond10 (i : grid0.Coords) : BitVec 1 :=
  let arg0 : BitVec 32 := BitVec.ofNat 32 (i 0).val
  let c8_i32 : BitVec 32 := 8#32
  let v29 : BitVec 1 := Scalar.cmpi .eq arg0 c8_i32
  let v30 : BitVec 32 := Scalar.extui v29
  let c0_i32_10 : BitVec 32 := 0#32
  let v31 : BitVec 1 := Scalar.cmpi .ne v30 c0_i32_10
  v31

def k0_off10 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v35 : Index := Scalar.indexCast v1
  let c0 : Index := 0#32
  ![v35.toNat, 0]
def k0_cond11 (i : grid0.Coords) : BitVec 1 :=
  let arg0 : BitVec 32 := BitVec.ofNat 32 (i 0).val
  let c8_i32_11 : BitVec 32 := 8#32
  let v32 : BitVec 1 := Scalar.cmpi .eq arg0 c8_i32_11
  let v33 : BitVec 32 := Scalar.extui v32
  let c0_i32_12 : BitVec 32 := 0#32
  let v34 : BitVec 1 := Scalar.cmpi .ne v33 c0_i32_12
  v34

def k0_off11 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v35 : Index := Scalar.indexCast v1
  let c0 : Index := 0#32
  ![v35.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  ![v3.toNat, c0_i32_2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  ![v3.toNat, c0_i32_2.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  ![v3.toNat, c0_i32_1.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .slt arg0 c3_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  ![v3.toNat, c0_i32_1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .eq arg0 c4_i32
  let c4_i32_0 : BitVec 32 := 4#32
  let v1 : BitVec 1 := Scalar.cmpi .slt arg0 c4_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  ![v3.toNat, c0_i32_1.toNat]

def cc0_transform_7 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 1 := Scalar.cmpi .eq arg0 c5_i32
  let c5_i32_0 : BitVec 32 := 5#32
  let v1 : BitVec 1 := Scalar.cmpi .slt arg0 c5_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  ![v3.toNat, c0_i32_1.toNat]

def cc0_transform_8 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .eq arg0 c6_i32
  let c6_i32_0 : BitVec 32 := 6#32
  let v1 : BitVec 1 := Scalar.cmpi .slt arg0 c6_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  ![v3.toNat, c0_i32_1.toNat]

def cc0_transform_9 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg0 c7_i32
  let c7_i32_0 : BitVec 32 := 7#32
  let v1 : BitVec 1 := Scalar.cmpi .slt arg0 c7_i32_0
  let c0_i32 : BitVec 32 := 0#32
  let c7_i32_1 : BitVec 32 := 7#32
  let v2 : BitVec 32 := Scalar.select v1 c0_i32 c7_i32_1
  let v3 : BitVec 32 := Scalar.select v0 arg1 v2
  let c0_i32_2 : BitVec 32 := 0#32
  let c0_i32_3 : BitVec 32 := 0#32
  ![v3.toNat, c0_i32_2.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg0 c8_i32
  let c8_i32_0 : BitVec 32 := 8#32
  let v1 : BitVec 1 := Scalar.cmpi .slt arg0 c8_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  ![v3.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  ![c0_i32_0.toNat, v2.toNat]

def cc0_transform_13 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg0 c7_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg0 c8_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== DuRefIdeal.lean ====
abbrev S4096x128 : Shape := ⟨2, ![4096, 128]⟩
abbrev S1024x128 : Shape := ⟨2, ![1024, 128]⟩
abbrev S4096x1024 : Shape := ⟨2, ![4096, 1024]⟩
abbrev S1024x4096 : Shape := ⟨2, ![1024, 4096]⟩
abbrev S1024x3072 : Shape := ⟨2, ![1024, 3072]⟩
abbrev S1024x2048 : Shape := ⟨2, ![1024, 2048]⟩
abbrev S_ : Shape := ⟨0, ![]⟩
abbrev S4096x4096 : Shape := ⟨2, ![4096, 4096]⟩
abbrev S4096x3072 : Shape := ⟨2, ![4096, 3072]⟩
abbrev S4096x2048 : Shape := ⟨2, ![4096, 2048]⟩

abbrev nBuf : Space → Nat
  | .hbm => 43
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S1024x128, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S1024x4096, .bf16⟩
  | .hbm, ⟨12, _⟩ => ⟨S1024x3072, .bf16⟩
  | .hbm, ⟨13, _⟩ => ⟨S1024x2048, .bf16⟩
  | .hbm, ⟨14, _⟩ => ⟨S_, .f32⟩
  | .hbm, ⟨15, _⟩ => ⟨S4096x1024, .f32⟩
  | .hbm, ⟨16, _⟩ => ⟨S1024x128, .f32⟩
  | .hbm, ⟨17, _⟩ => ⟨S4096x128, .f32⟩
  | .hbm, ⟨18, _⟩ => ⟨S1024x4096, .f32⟩
  | .hbm, ⟨19, _⟩ => ⟨S4096x4096, .f32⟩
  | .hbm, ⟨20, _⟩ => ⟨S1024x3072, .f32⟩
  | .hbm, ⟨21, _⟩ => ⟨S4096x3072, .f32⟩
  | .hbm, ⟨22, _⟩ => ⟨S1024x2048, .f32⟩
  | .hbm, ⟨23, _⟩ => ⟨S4096x2048, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x4096, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x3072, .f32⟩
  | .hbm, ⟨33, _⟩ => ⟨S4096x1024, .f32⟩
  | .hbm, ⟨34, _⟩ => ⟨S4096x1024, .f32⟩
  | .hbm, ⟨35, _⟩ => ⟨S4096x2048, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== DwOb.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwObIdeal.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwObRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwSmall.lean ====
abbrev S4096x1024 : Shape := ⟨2, ![4096, 1024]⟩
abbrev S4096x128 : Shape := ⟨2, ![4096, 128]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S1024x128, .bf16⟩
  | .local _ .vmem, ⟨0, _⟩ => ⟨S2048x1024, .bf16⟩
  | .local _ .vmem, ⟨1, _⟩ => ⟨S2048x1024, .bf16⟩
  | .local _ .vmem, ⟨2, _⟩ => ⟨S2048x128, .f32⟩
  | .local _ .vmem, ⟨3, _⟩ => ⟨S2048x128, .f32⟩
  | .local _ .vmem, ⟨4, _⟩ => ⟨S1024x128, .bf16⟩
  | .local _ .vmem, ⟨5, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwSmallRefIdeal.lean ====
abbrev S4096x1024 : Shape := ⟨2, ![4096, 1024]⟩
abbrev S4096x128 : Shape := ⟨2, ![4096, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S4096x1024, .f32⟩
  | .hbm, ⟨3, _⟩ => ⟨S_, .f32⟩
  | .hbm, ⟨4, _⟩ => ⟨S1024x128, .f32⟩
  | .hbm, ⟨5, _⟩ => ⟨S4096x128, .f32⟩
  | .hbm, ⟨6, _⟩ => ⟨S128x1024, .f32⟩
  | .hbm, ⟨7, _⟩ => ⟨S1024x128, .f32⟩
  | .hbm, ⟨8, _⟩ => ⟨S1024x128, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjGdn.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGdnIdeal.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGdnRefIdeal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjFox.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjFoxIdeal.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjFoxRefIdeal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjGate.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGateIdeal.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGateRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjSmall.lean ====
abbrev S4096x1024 : Shape := ⟨2, ![4096, 1024]⟩
abbrev S1024x128 : Shape := ⟨2, ![1024, 128]⟩
abbrev S4096x128 : Shape := ⟨2, ![4096, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjSmallIdeal.lean ====
abbrev S4096x1024 : Shape := ⟨2, ![4096, 1024]⟩
abbrev S1024x128 : Shape := ⟨2, ![1024, 128]⟩
abbrev S4096x128 : Shape := ⟨2, ![4096, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjSmallRefIdeal.lean ====
abbrev S4096x1024 : Shape := ⟨2, ![4096, 1024]⟩
abbrev S1024x128 : Shape := ⟨2, ![1024, 128]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x1024, .f32⟩
  | .hbm, ⟨3, _⟩ => ⟨S1024x128, .f32⟩
  | .hbm, ⟨4, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjA.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjAIdeal.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjARefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjB.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBRefIdeal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1024x1024, .f32⟩
  | .hbm, ⟨3, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjOut.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjOutRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MlpUp.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .bf16⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpUpRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S4096x4096, .bf16⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== MlpDown.lean ====
abbrev S4096x4096 : Shape := ⟨2, ![4096, 4096]⟩
abbrev S4096x1024 : Shape := ⟨2, ![4096, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDownRefIdeal.lean ====
abbrev S4096x4096 : Shape := ⟨2, ![4096, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x4096, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== RmsFwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== RmsBwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsBwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Merge.lean ====
abbrev S4096x1024 : Shape := ⟨2, ![4096, 1024]⟩
abbrev S4096x2048 : Shape := ⟨2, ![4096, 2048]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeRefIdeal.lean ====
abbrev S4096x1024 : Shape := ⟨2, ![4096, 1024]⟩
abbrev S4096x2048 : Shape := ⟨2, ![4096, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Dmerge.lean ====
abbrev S4096x1024 : Shape := ⟨2, ![4096, 1024]⟩
abbrev S4096x2048 : Shape := ⟨2, ![4096, 2048]⟩
abbrev S512x1024 : Shape := ⟨2, ![512, 1024]⟩

abbrev nBuf : Space → Nat
  | .hbm => 8
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x2048, .f32⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DmergeRefIdeal.lean ====
abbrev S4096x1024 : Shape := ⟨2, ![4096, 1024]⟩
abbrev S4096x2048 : Shape := ⟨2, ![4096, 2048]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x2048, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x2048, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S4096x1024, .bf16⟩
  | .hbm, ⟨47, _⟩ => ⟨S4096x1024, .bf16⟩
  | .hbm, ⟨48, _⟩ => ⟨S4096x1024, .f32⟩
  | .hbm, ⟨49, _⟩ => ⟨S4096x1024, .bf16⟩
  | .hbm, ⟨50, _⟩ => ⟨S4096x1024, .f32⟩
  | .hbm, ⟨51, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Loss.lean ====
abbrev S4096x1024 : Shape := ⟨2, ![4096, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== LossRefIdeal.lean ====
abbrev S4096x1024 : Shape := ⟨2, ![4096, 1024]⟩
abbrev S_ : Shape := ⟨0, ![]⟩
abbrev S4096 : Shape := ⟨1, ![4096]⟩
abbrev S8x128 : Shape := ⟨2, ![8, 128]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S4096x1024, .bf16⟩
  | .hbm, ⟨26, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Adam.lean ====
abbrev S80x128 : Shape := ⟨2, ![80, 128]⟩

abbrev nBuf : Space → Nat
  | .hbm => 7
  | .vmem => 7
  | .smem => 0
  | _ => 0

abbrev bufTy : (tb : Table) → Fin (tcTables nBuf tb) → BufTy
  | .hbm, ⟨0, _⟩ => ⟨S80x128, .f32⟩
  | .hbm, ⟨1, _⟩ => ⟨S80x128, .f32⟩
  | .hbm, ⟨2, _⟩ => ⟨S80x128, .f32⟩
  | .hbm, ⟨3, _⟩ => ⟨S80x128, .f32⟩
  | .hbm, ⟨4, _⟩ => ⟨S80x128, .f32⟩
  | .hbm, ⟨5, _⟩ => ⟨S80x128, .f32⟩
  | .hbm, ⟨6, _⟩ => ⟨S80x128, .f32⟩
  | .local _ .vmem, ⟨0, _⟩ => ⟨S80x128, .f32⟩
  | .local _ .vmem, ⟨1, _⟩ => ⟨S80x128, .f32⟩
  | .local _ .vmem, ⟨2, _⟩ => ⟨S80x128, .f32⟩
  | .local _ .vmem, ⟨3, _⟩ => ⟨S80x128, .f32⟩
  | .local _ .vmem, ⟨4, _⟩ => ⟨S80x128, .f32⟩
  | .local _ .vmem, ⟨5, _⟩ => ⟨S80x128, .f32⟩
  | .local _ .vmem, ⟨6, _⟩ => ⟨S80x128, .f32⟩
  | _, _ => ⟨S80x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S80x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S80x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S80x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S80x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S80x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S80x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S80x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamRefIdeal.lean ====
abbrev S80x128 : Shape := ⟨2, ![80, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S80x128, .f32⟩
  | .hbm, ⟨1, _⟩ => ⟨S80x128, .f32⟩
  | .hbm, ⟨2, _⟩ => ⟨S80x128, .f32⟩
  | .hbm, ⟨3, _⟩ => ⟨S80x128, .f32⟩
  | .hbm, ⟨4, _⟩ => ⟨S_, .f32⟩
  | .hbm, ⟨5, _⟩ => ⟨S80x128, .f32⟩
  | .hbm, ⟨6, _⟩ => ⟨S80x128, .f32⟩
  | .hbm, ⟨7, _⟩ => ⟨S_, .f32⟩
  | .hbm, ⟨8, _⟩ => ⟨S80x128, .f32⟩
  | .hbm, ⟨9, _⟩ => ⟨S80x128, .f32⟩
  | .hbm, ⟨10, _⟩ => ⟨S80x128, .f32⟩
  | .hbm, ⟨11, _⟩ => ⟨S_, .f32⟩
  | .hbm, ⟨12, _⟩ => ⟨S80x128, .f32⟩
  | .hbm, ⟨13, _⟩ => ⟨S80x128, .f32⟩
  | .hbm, ⟨14, _⟩ => ⟨S80x128, .f32⟩
  | .hbm, ⟨15, _⟩ => ⟨S_, .f32⟩
  | .hbm, ⟨16, _⟩ => ⟨S80x128, .f32⟩
  | .hbm, ⟨17, _⟩ => ⟨S80x128, .f32⟩
  | .hbm, ⟨18, _⟩ => ⟨S80x128, .f32⟩
  | .hbm, ⟨19, _⟩ => ⟨S_, .f32⟩
  | .hbm, ⟨20, _⟩ => ⟨S80x128, .f32⟩
  | .hbm, ⟨21, _⟩ => ⟨S80x128, .f32⟩
  | .hbm, ⟨22, _⟩ => ⟨S_, .f32⟩
  | .hbm, ⟨23, _⟩ => ⟨S80x128, .f32⟩
  | .hbm, ⟨24, _⟩ => ⟨S80x128, .f32⟩
  | .hbm, ⟨25, _⟩ => ⟨S80x128, .f32⟩
  | .hbm, ⟨26, _⟩ => ⟨S_, .f32⟩
  | .hbm, ⟨27, _⟩ => ⟨S80x128, .f32⟩
  | .hbm, ⟨28, _⟩ => ⟨S80x128, .f32⟩
  | .hbm, ⟨29, _⟩ => ⟨S80x128, .f32⟩
  | .hbm, ⟨30, _⟩ => ⟨S_, .f32⟩
  | .hbm, ⟨31, _⟩ => ⟨S80x128, .f32⟩
  | .hbm, ⟨32, _⟩ => ⟨S80x128, .f32⟩
  | .hbm, ⟨33, _⟩ => ⟨S80x128, .f32⟩
  | .hbm, ⟨34, _⟩ => ⟨S_, .f32⟩
  | .hbm, ⟨35, _⟩ => ⟨S80x128, .f32⟩
  | .hbm, ⟨36, _⟩ => ⟨S80x128, .f32⟩
  | _, _ => ⟨S80x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ToBf16.lean ====
abbrev S1024x1155 : Shape := ⟨2, ![1024, 1155]⟩
abbrev S128x1024 : Shape := ⟨2, ![128, 1024]⟩
abbrev S1024x512 : Shape := ⟨2, ![1024, 512]⟩
abbrev S512x1024 : Shape := ⟨2, ![512, 1024]⟩

abbrev nBuf : Space → Nat
  | .hbm => 12
  | .vmem => 12
  | .smem => 0
  | _ => 0

abbrev bufTy : (tb : Table) → Fin (tcTables nBuf tb) → BufTy
  | .hbm, ⟨0, _⟩ => ⟨S1024x1155, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S1024x512, .f32⟩
  | .hbm, ⟨5, _⟩ => ⟨S512x1024, .f32⟩
  | .hbm, ⟨6, _⟩ => ⟨S1024x1155, .bf16⟩
  | .hbm, ⟨7, _⟩ => ⟨S128x1024, .bf16⟩
  | .hbm, ⟨8, _⟩ => ⟨S128x1024, .bf16⟩
  | .hbm, ⟨9, _⟩ => ⟨S128x1024, .bf16⟩
  | .hbm, ⟨10, _⟩ => ⟨S1024x512, .bf16⟩
  | .hbm, ⟨11, _⟩ => ⟨S512x1024, .bf16⟩
  | .local _ .vmem, ⟨0, _⟩ => ⟨S1024x1155, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1024x512, .f32⟩
  | .local _ .vmem, ⟨5, _⟩ => ⟨S512x1024, .f32⟩
  | .local _ .vmem, ⟨6, _⟩ => ⟨S1024x1155, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S1024x512, .bf16⟩
  | .local _ .vmem, ⟨11, _⟩ => ⟨S512x1024, .bf16⟩
  | _, _ => ⟨S1024x1155, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S1024x1155 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x1155 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== ToBf16RefIdeal.lean ====
abbrev S1024x1155 : Shape := ⟨2, ![1024, 1155]⟩
abbrev S128x1024 : Shape := ⟨2, ![128, 1024]⟩
abbrev S1024x512 : Shape := ⟨2, ![1024, 512]⟩
abbrev S512x1024 : Shape := ⟨2, ![512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1024x1155, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S1024x512, .f32⟩
  | .hbm, ⟨5, _⟩ => ⟨S512x1024, .f32⟩
  | .hbm, ⟨6, _⟩ => ⟨S1024x1155, .bf16⟩
  | .hbm, ⟨7, _⟩ => ⟨S128x1024, .bf16⟩
  | .hbm, ⟨8, _⟩ => ⟨S128x1024, .bf16⟩
  | .hbm, ⟨9, _⟩ => ⟨S128x1024, .bf16⟩
  | .hbm, ⟨10, _⟩ => ⟨S1024x512, .bf16⟩
  | .hbm, ⟨11, _⟩ => ⟨S512x1024, .bf16⟩
  | _, _ => ⟨S1024x1155, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Pieces.lean ====
abbrev S8x1024x1155 : Shape := ⟨3, ![8, 1024, 1155]⟩
abbrev S1024x4096 : Shape := ⟨2, ![1024, 4096]⟩
abbrev S1024x3072 : Shape := ⟨2, ![1024, 3072]⟩
abbrev S1024x2048 : Shape := ⟨2, ![1024, 2048]⟩
abbrev S1024x128 : Shape := ⟨2, ![1024, 128]⟩
abbrev S8x128x1155 : Shape := ⟨3, ![8, 128, 1155]⟩
abbrev S128x4096 : Shape := ⟨2, ![128, 4096]⟩
abbrev S128x3072 : Shape := ⟨2, ![128, 3072]⟩
abbrev S128x2048 : Shape := ⟨2, ![128, 2048]⟩
abbrev S128x128 : Shape := ⟨2, ![128, 128]⟩
abbrev S1x128x1155 : Shape := ⟨3, ![1, 128, 1155]⟩
abbrev S128x1155 : Shape := ⟨2, ![128, 1155]⟩
abbrev S128x9240 : Shape := ⟨2, ![128, 9240]⟩
abbrev S128x16 : Shape := ⟨2, ![128, 16]⟩
abbrev S128x8 : Shape := ⟨2, ![128, 8]⟩
abbrev S128x104 : Shape := ⟨2, ![128, 104]⟩

abbrev nBuf : Space → Nat
  | .hbm => 5
  | .vmem => 10
  | .smem => 0
  | _ => 0

abbrev bufTy : (tb : Table) → Fin (tcTables nBuf tb) → BufTy
  | .hbm, ⟨0, _⟩ => ⟨S8x1024x1155, .bf16⟩
  | .hbm, ⟨1, _⟩ => ⟨S1024x4096, .bf16⟩
  | .hbm, ⟨2, _⟩ => ⟨S1024x3072, .bf16⟩
  | .hbm, ⟨3, _⟩ => ⟨S1024x2048, .bf16⟩
  | .hbm, ⟨4, _⟩ => ⟨S1024x128, .bf16⟩
  | .local _ .vmem, ⟨0, _⟩ => ⟨S8x128x1155, .bf16⟩
  | .local _ .vmem, ⟨1, _⟩ => ⟨S8x128x1155, .bf16⟩
  | .local _ .vmem, ⟨2, _⟩ => ⟨S128x4096, .bf16⟩
  | .local _ .vmem, ⟨3, _⟩ => ⟨S128x4096, .bf16⟩
  | .local _ .vmem, ⟨4, _⟩ => ⟨S128x3072, .bf16⟩
  | .local _ .vmem, ⟨5, _⟩ => ⟨S128x3072, .bf16⟩
  | .local _ .vmem, ⟨6, _⟩ => ⟨S128x2048, .bf16⟩
  | .local _ .vmem, ⟨7, _⟩ => ⟨S128x2048, .bf16⟩
  | .local _ .vmem, ⟨8, _⟩ => ⟨S128x128, .bf16⟩
  | .local _ .vmem, ⟨9, _⟩ => ⟨S128x128, .bf16⟩
  | _, _ => ⟨S8x1024x1155, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1155 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PiecesRefIdeal.lean ====
abbrev S8x1024x1155 : Shape := ⟨3, ![8, 1024, 1155]⟩
abbrev S1024x8x1155 : Shape := ⟨3, ![1024, 8, 1155]⟩
abbrev S1024x9240 : Shape := ⟨2, ![1024, 9240]⟩
abbrev S1024x16 : Shape := ⟨2, ![1024, 16]⟩
abbrev S1024x8 : Shape := ⟨2, ![1024, 8]⟩
abbrev S_ : Shape := ⟨0, ![]⟩
abbrev S1024x104 : Shape := ⟨2, ![1024, 104]⟩
abbrev S1024x128 : Shape := ⟨2, ![1024, 128]⟩
abbrev S1024x4096 : Shape := ⟨2, ![1024, 4096]⟩
abbrev S1024x3072 : Shape := ⟨2, ![1024, 3072]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8x1024x1155, .bf16⟩
  | .hbm, ⟨1, _⟩ => ⟨S1024x8x1155, .bf16⟩
  | .hbm, ⟨2, _⟩ => ⟨S1024x9240, .bf16⟩
  | .hbm, ⟨3, _⟩ => ⟨S1024x16, .bf16⟩
  | .hbm, ⟨4, _⟩ => ⟨S1024x8, .bf16⟩
  | .hbm, ⟨5, _⟩ => ⟨S_, .bf16⟩
  | .hbm, ⟨6, _⟩ => ⟨S1024x104, .bf16⟩
  | .hbm, ⟨7, _⟩ => ⟨S1024x128, .bf16⟩
  | .hbm, ⟨8, _⟩ => ⟨S1024x4096, .bf16⟩
  | .hbm, ⟨9, _⟩ => ⟨S1024x3072, .bf16⟩
  | .hbm, ⟨10, _⟩ => ⟨S1024x2048, .bf16⟩
  | _, _ => ⟨S8x1024x1155, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Shards.lean ====
abbrev S1024x128 : Shape := ⟨2, ![1024, 128]⟩
abbrev S1024x1024 : Shape := ⟨2, ![1024, 1024]⟩
abbrev S8x1024x1155 : Shape := ⟨3, ![8, 1024, 1155]⟩
abbrev S128x128 : Shape := ⟨2, ![128, 128]⟩
abbrev S128x1024 : Shape := ⟨2, ![128, 1024]⟩
abbrev S8x128x1155 : Shape := ⟨3, ![8, 128, 1155]⟩
abbrev S128x16 : Shape := ⟨2, ![128, 16]⟩
abbrev S128x8 : Shape := ⟨2, ![128, 8]⟩
abbrev S128x9240 : Shape := ⟨2, ![128, 9240]⟩
abbrev S128x1155 : Shape := ⟨2, ![128, 1155]⟩
abbrev S1x128x1155 : Shape := ⟨3, ![1, 128, 1155]⟩

abbrev nBuf : Space → Nat
  | .hbm => 11
  | .vmem => 22
  | .smem => 0
  | _ => 0

abbrev bufTy : (tb : Table) → Fin (tcTables nBuf tb) → BufTy
  | .hbm, ⟨0, _⟩ => ⟨S1024x128, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S8x1024x1155, .bf16⟩
  | .local _ .vmem, ⟨0, _⟩ => ⟨S128x128, .bf16⟩
  | .local _ .vmem, ⟨1, _⟩ => ⟨S128x128, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S128x1024, .bf16⟩
  | .local _ .vmem, ⟨17, _⟩ => ⟨S128x1024, .bf16⟩
  | .local _ .vmem, ⟨18, _⟩ => ⟨S128x1024, .bf16⟩
  | .local _ .vmem, ⟨19, _⟩ => ⟨S128x1024, .bf16⟩
  | .local _ .vmem, ⟨20, _⟩ => ⟨S8x128x1155, .bf16⟩
  | .local _ .vmem, ⟨21, _⟩ => ⟨S8x128x1155, .bf16⟩
  | _, _ => ⟨S1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x128x1155 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ShardsRefIdeal.lean ====
abbrev S1024x128 : Shape := ⟨2, ![1024, 128]⟩
abbrev S1024x1024 : Shape := ⟨2, ![1024, 1024]⟩
abbrev S1024x16 : Shape := ⟨2, ![1024, 16]⟩
abbrev S1024x8 : Shape := ⟨2, ![1024, 8]⟩
abbrev S1024x9240 : Shape := ⟨2, ![1024, 9240]⟩
abbrev S1024x8x1155 : Shape := ⟨3, ![1024, 8, 1155]⟩
abbrev S8x1024x1155 : Shape := ⟨3, ![8, 1024, 1155]⟩

abbrev nBuf : Space → Nat
  | .hbm => 15
  | .vmem => 0
  | .smem => 0
  | _ => 0

abbrev bufTy : (tb : Table) → Fin (tcTables nBuf tb) → BufTy
  | .hbm, ⟨0, _⟩ => ⟨S1024x128, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1024x16, .bf16⟩
  | .hbm, ⟨11, _⟩ => ⟨S1024x8, .bf16⟩
  | .hbm, ⟨12, _⟩ => ⟨S1024x9240, .bf16⟩
  | .hbm, ⟨13, _⟩ => ⟨S1024x8x1155, .bf16⟩
  | .hbm, ⟨14, _⟩ => ⟨S8x1024x1155, .bf16⟩
  | _, _ => ⟨S1024x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩

abbrev nD : Nat := 1
abbrev τ : Topo := Topo.v7x

variable {F : FTy → Type} [FloatOps F]
-- ==== AdamIn.lean ====
abbrev S1 : Shape := ⟨1, ![1]⟩
abbrev S4x1024x1155 : Shape := ⟨3, ![4, 1024, 1155]⟩
abbrev S1024x1155 : Shape := ⟨2, ![1024, 1155]⟩
abbrev S4x128x1155 : Shape := ⟨3, ![4, 128, 1155]⟩
abbrev S1x128x1155 : Shape := ⟨3, ![1, 128, 1155]⟩
abbrev S128x1155 : Shape := ⟨2, ![128, 1155]⟩

abbrev nBuf : Space → Nat
  | .hbm => 9
  | .vmem => 18
  | .smem => 1
  | _ => 0

abbrev bufTy : (tb : Table) → Fin (tcTables nBuf tb) → BufTy
  | .hbm, ⟨0, _⟩ => ⟨S4x1024x1155, .bf16⟩
  | .hbm, ⟨1, _⟩ => ⟨S4x1024x1155, .bf16⟩
  | .hbm, ⟨2, _⟩ => ⟨S1024x1155, .f32⟩
  | .hbm, ⟨3, _⟩ => ⟨S1024x1155, .f32⟩
  | .hbm, ⟨4, _⟩ => ⟨S1024x1155, .f32⟩
  | .hbm, ⟨5, _⟩ => ⟨S1024x1155, .f32⟩
  | .hbm, ⟨6, _⟩ => ⟨S1024x1155, .f32⟩
  | .hbm, ⟨7, _⟩ => ⟨S1024x1155, .f32⟩
  | .hbm, ⟨8, _⟩ => ⟨S1024x1155, .f32⟩
  | .local _ .vmem, ⟨0, _⟩ => ⟨S4x128x1155, .bf16⟩
  | .local _ .vmem, ⟨1, _⟩ => ⟨S4x128x1155, .bf16⟩
  | .local _ .vmem, ⟨2, _⟩ => ⟨S1x128x1155, .bf16⟩
  | .local _ .vmem, ⟨3, _⟩ => ⟨S1x128x1155, .bf16⟩
  | .local _ .vmem, ⟨4, _⟩ => ⟨S128x1155, .f32⟩
  | .local _ .vmem, ⟨5, _⟩ => ⟨S128x1155, .f32⟩
  | .local _ .vmem, ⟨6, _⟩ => ⟨S128x1155, .f32⟩
  | .local _ .vmem, ⟨7, _⟩ => ⟨S128x1155, .f32⟩
  | .local _ .vmem, ⟨8, _⟩ => ⟨S128x1155, .f32⟩
  | .local _ .vmem, ⟨9, _⟩ => ⟨S128x1155, .f32⟩
  | .local _ .vmem, ⟨10, _⟩ => ⟨S128x1155, .f32⟩
  | .local _ .vmem, ⟨11, _⟩ => ⟨S128x1155, .f32⟩
  | .local _ .vmem, ⟨12, _⟩ => ⟨S128x1155, .f32⟩
  | .local _ .vmem, ⟨13, _⟩ => ⟨S128x1155, .f32⟩
  | .local _ .vmem, ⟨14, _⟩ => ⟨S128x1155, .f32⟩
  | .local _ .vmem, ⟨15, _⟩ => ⟨S128x1155, .f32⟩
  | .local _ .vmem, ⟨16, _⟩ => ⟨S128x1155, .f32⟩
  | .local _ .vmem, ⟨17, _⟩ => ⟨S128x1155, .f32⟩
  | .local _ .smem, ⟨0, _⟩ => ⟨S1, .i32⟩
  | _, _ => ⟨S4x1024x1155, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1155 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1155 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1155 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1155 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1155 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1155 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1155 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1155 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1155 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInIdeal.lean ====
abbrev S1 : Shape := ⟨1, ![1]⟩
abbrev S4x1024x1155 : Shape := ⟨3, ![4, 1024, 1155]⟩
abbrev S1024x1155 : Shape := ⟨2, ![1024, 1155]⟩
abbrev S4x128x1155 : Shape := ⟨3, ![4, 128, 1155]⟩
abbrev S1x128x1155 : Shape := ⟨3, ![1, 128, 1155]⟩
abbrev S128x1155 : Shape := ⟨2, ![128, 1155]⟩

abbrev nBuf : Space → Nat
  | .hbm => 9
  | .vmem => 18
  | .smem => 1
  | _ => 0

abbrev bufTy : (tb : Table) → Fin (tcTables nBuf tb) → BufTy
  | .hbm, ⟨0, _⟩ => ⟨S4x1024x1155, .bf16⟩
  | .hbm, ⟨1, _⟩ => ⟨S4x1024x1155, .bf16⟩
  | .hbm, ⟨2, _⟩ => ⟨S1024x1155, .f32⟩
  | .hbm, ⟨3, _⟩ => ⟨S1024x1155, .f32⟩
  | .hbm, ⟨4, _⟩ => ⟨S1024x1155, .f32⟩
  | .hbm, ⟨5, _⟩ => ⟨S1024x1155, .f32⟩
  | .hbm, ⟨6, _⟩ => ⟨S1024x1155, .f32⟩
  | .hbm, ⟨7, _⟩ => ⟨S1024x1155, .f32⟩
  | .hbm, ⟨8, _⟩ => ⟨S1024x1155, .f32⟩
  | .local _ .vmem, ⟨0, _⟩ => ⟨S4x128x1155, .bf16⟩
  | .local _ .vmem, ⟨1, _⟩ => ⟨S4x128x1155, .bf16⟩
  | .local _ .vmem, ⟨2, _⟩ => ⟨S1x128x1155, .bf16⟩
  | .local _ .vmem, ⟨3, _⟩ => ⟨S1x128x1155, .bf16⟩
  | .local _ .vmem, ⟨4, _⟩ => ⟨S128x1155, .f32⟩
  | .local _ .vmem, ⟨5, _⟩ => ⟨S128x1155, .f32⟩
  | .local _ .vmem, ⟨6, _⟩ => ⟨S128x1155, .f32⟩
  | .local _ .vmem, ⟨7, _⟩ => ⟨S128x1155, .f32⟩
  | .local _ .vmem, ⟨8, _⟩ => ⟨S128x1155, .f32⟩
  | .local _ .vmem, ⟨9, _⟩ => ⟨S128x1155, .f32⟩
  | .local _ .vmem, ⟨10, _⟩ => ⟨S128x1155, .f32⟩
  | .local _ .vmem, ⟨11, _⟩ => ⟨S128x1155, .f32⟩
  | .local _ .vmem, ⟨12, _⟩ => ⟨S128x1155, .f32⟩
  | .local _ .vmem, ⟨13, _⟩ => ⟨S128x1155, .f32⟩
  | .local _ .vmem, ⟨14, _⟩ => ⟨S128x1155, .f32⟩
  | .local _ .vmem, ⟨15, _⟩ => ⟨S128x1155, .f32⟩
  | .local _ .vmem, ⟨16, _⟩ => ⟨S128x1155, .f32⟩
  | .local _ .vmem, ⟨17, _⟩ => ⟨S128x1155, .f32⟩
  | .local _ .smem, ⟨0, _⟩ => ⟨S1, .i32⟩
  | _, _ => ⟨S4x1024x1155, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1155 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1155 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1155 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1155 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1155 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1155 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1155 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1155 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1155 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInRefIdeal.lean ====
abbrev S1 : Shape := ⟨1, ![1]⟩
abbrev S4x1024x1155 : Shape := ⟨3, ![4, 1024, 1155]⟩
abbrev S1024x1155 : Shape := ⟨2, ![1024, 1155]⟩
abbrev S4 : Shape := ⟨1, ![4]⟩
abbrev S4x1x1 : Shape := ⟨3, ![4, 1, 1]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x1024x1155, .bf16⟩
  | .hbm, ⟨2, _⟩ => ⟨S4x1024x1155, .bf16⟩
  | .hbm, ⟨3, _⟩ => ⟨S1024x1155, .f32⟩
  | .hbm, ⟨4, _⟩ => ⟨S1024x1155, .f32⟩
  | .hbm, ⟨5, _⟩ => ⟨S1024x1155, .f32⟩
  | .hbm, ⟨6, _⟩ => ⟨S4, .i32⟩
  | .hbm, ⟨7, _⟩ => ⟨S4x1x1, .i32⟩
  | .hbm, ⟨8, _⟩ => ⟨S_, .i32⟩
  | .hbm, ⟨9, _⟩ => ⟨S4x1x1, .i32⟩
  | .hbm, ⟨10, _⟩ => ⟨S4x1x1, .i1⟩
  | .hbm, ⟨11, _⟩ => ⟨S4x1024x1155, .f32⟩
  | .hbm, ⟨12, _⟩ => ⟨S4x1024x1155, .f32⟩
  | .hbm, ⟨13, _⟩ => ⟨S4x1024x1155, .i1⟩
  | .hbm, ⟨14, _⟩ => ⟨S4x1024x1155, .f32⟩
  | .hbm, ⟨15, _⟩ => ⟨S_, .f32⟩
  | .hbm, ⟨16, _⟩ => ⟨S1024x1155, .f32⟩
  | .hbm, ⟨17, _⟩ => ⟨S_, .f32⟩
  | .hbm, ⟨18, _⟩ => ⟨S1024x1155, .f32⟩
  | .hbm, ⟨19, _⟩ => ⟨S1024x1155, .f32⟩
  | .hbm, ⟨20, _⟩ => ⟨S_, .f32⟩
  | .hbm, ⟨21, _⟩ => ⟨S1024x1155, .f32⟩
  | .hbm, ⟨22, _⟩ => ⟨S1024x1155, .f32⟩
  | .hbm, ⟨23, _⟩ => ⟨S1024x1155, .f32⟩
  | .hbm, ⟨24, _⟩ => ⟨S_, .f32⟩
  | .hbm, ⟨25, _⟩ => ⟨S1024x1155, .f32⟩
  | .hbm, ⟨26, _⟩ => ⟨S1024x1155, .f32⟩
  | .hbm, ⟨27, _⟩ => ⟨S1024x1155, .f32⟩
  | .hbm, ⟨28, _⟩ => ⟨S_, .f32⟩
  | .hbm, ⟨29, _⟩ => ⟨S1024x1155, .f32⟩
  | .hbm, ⟨30, _⟩ => ⟨S1024x1155, .f32⟩
  | .hbm, ⟨31, _⟩ => ⟨S1024x1155, .f32⟩
  | .hbm, ⟨32, _⟩ => ⟨S_, .f32⟩
  | .hbm, ⟨33, _⟩ => ⟨S1024x1155, .f32⟩
  | .hbm, ⟨34, _⟩ => ⟨S1024x1155, .f32⟩
  | .hbm, ⟨35, _⟩ => ⟨S_, .f32⟩
  | .hbm, ⟨36, _⟩ => ⟨S1024x1155, .f32⟩
  | .hbm, ⟨37, _⟩ => ⟨S1024x1155, .f32⟩
  | .hbm, ⟨38, _⟩ => ⟨S1024x1155, .f32⟩
  | .hbm, ⟨39, _⟩ => ⟨S_, .f32⟩
  | .hbm, ⟨40, _⟩ => ⟨S1024x1155, .f32⟩
  | .hbm, ⟨41, _⟩ => ⟨S1024x1155, .f32⟩
  | .hbm, ⟨42, _⟩ => ⟨S1024x1155, .f32⟩
  | .hbm, ⟨43, _⟩ => ⟨S_, .f32⟩
  | .hbm, ⟨44, _⟩ => ⟨S1024x1155, .f32⟩
  | .hbm, ⟨45, _⟩ => ⟨S1024x1155, .f32⟩
  | .hbm, ⟨46, _⟩ => ⟨S1024x1155, .f32⟩
  | .hbm, ⟨47, _⟩ => ⟨S_, .f32⟩
  | .hbm, ⟨48, _⟩ => ⟨S1024x1155, .f32⟩
  | .hbm, ⟨49, _⟩ => ⟨S1024x1155, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== AdamProj.lean ====
abbrev S1 : Shape := ⟨1, ![1]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 9
  | .vmem => 9
  | .smem => 1
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S8x128x1024, .bf16⟩
  | .local _ .vmem, ⟨1, _⟩ => ⟨S1x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .smem, ⟨0, _⟩ => ⟨S1, .i32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamProjIdeal.lean ====
abbrev S1 : Shape := ⟨1, ![1]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 9
  | .vmem => 9
  | .smem => 1
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S8x128x1024, .bf16⟩
  | .local _ .vmem, ⟨1, _⟩ => ⟨S1x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .smem, ⟨0, _⟩ => ⟨S1, .i32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamProjRefIdeal.lean ====
abbrev S1 : Shape := ⟨1, ![1]⟩
abbrev S8x128x1024 : Shape := ⟨3, ![8, 128, 1024]⟩
abbrev S128x1024 : Shape := ⟨2, ![128, 1024]⟩
abbrev S8 : Shape := ⟨1, ![8]⟩
abbrev S8x1x1 : Shape := ⟨3, ![8, 1, 1]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x128x1024, .bf16⟩
  | .hbm, ⟨2, _⟩ => ⟨S8x128x1024, .bf16⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S8x128x1024, .f32⟩
  | .hbm, ⟨12, _⟩ => ⟨S8x128x1024, .f32⟩
  | .hbm, ⟨13, _⟩ => ⟨S8x128x1024, .i1⟩
  | .hbm, ⟨14, _⟩ => ⟨S8x128x1024, .f32⟩
  | .hbm, ⟨15, _⟩ => ⟨S_, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S_, .f32⟩
  | .hbm, ⟨44, _⟩ => ⟨S128x1024, .f32⟩
  | .hbm, ⟨45, _⟩ => ⟨S128x1024, .f32⟩
  | .hbm, ⟨46, _⟩ => ⟨S128x1024, .f32⟩
  | .hbm, ⟨47, _⟩ => ⟨S_, .f32⟩
  | .hbm, ⟨48, _⟩ => ⟨S128x1024, .f32⟩
  | .hbm, ⟨49, _⟩ => ⟨S128x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== AdamUp.lean ====
abbrev S1 : Shape := ⟨1, ![1]⟩
abbrev S8x1024x512 : Shape := ⟨3, ![8, 1024, 512]⟩
abbrev S1024x512 : Shape := ⟨2, ![1024, 512]⟩
abbrev S8x128x512 : Shape := ⟨3, ![8, 128, 512]⟩
abbrev S1x128x512 : Shape := ⟨3, ![1, 128, 512]⟩
abbrev S128x512 : Shape := ⟨2, ![128, 512]⟩

abbrev nBuf : Space → Nat
  | .hbm => 9
  | .vmem => 18
  | .smem => 1
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S8x128x512, .bf16⟩
  | .local _ .vmem, ⟨1, _⟩ => ⟨S8x128x512, .bf16⟩
  | .local _ .vmem, ⟨2, _⟩ => ⟨S1x128x512, .bf16⟩
  | .local _ .vmem, ⟨3, _⟩ => ⟨S1x128x512, .bf16⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .smem, ⟨0, _⟩ => ⟨S1, .i32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpIdeal.lean ====
abbrev S1 : Shape := ⟨1, ![1]⟩
abbrev S8x1024x512 : Shape := ⟨3, ![8, 1024, 512]⟩
abbrev S1024x512 : Shape := ⟨2, ![1024, 512]⟩
abbrev S8x128x512 : Shape := ⟨3, ![8, 128, 512]⟩
abbrev S1x128x512 : Shape := ⟨3, ![1, 128, 512]⟩
abbrev S128x512 : Shape := ⟨2, ![128, 512]⟩

abbrev nBuf : Space → Nat
  | .hbm => 9
  | .vmem => 18
  | .smem => 1
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S8x128x512, .bf16⟩
  | .local _ .vmem, ⟨1, _⟩ => ⟨S8x128x512, .bf16⟩
  | .local _ .vmem, ⟨2, _⟩ => ⟨S1x128x512, .bf16⟩
  | .local _ .vmem, ⟨3, _⟩ => ⟨S1x128x512, .bf16⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .smem, ⟨0, _⟩ => ⟨S1, .i32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpRefIdeal.lean ====
abbrev S1 : Shape := ⟨1, ![1]⟩
abbrev S8x1024x512 : Shape := ⟨3, ![8, 1024, 512]⟩
abbrev S1024x512 : Shape := ⟨2, ![1024, 512]⟩
abbrev S8 : Shape := ⟨1, ![8]⟩
abbrev S8x1x1 : Shape := ⟨3, ![8, 1, 1]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x1024x512, .bf16⟩
  | .hbm, ⟨2, _⟩ => ⟨S8x1024x512, .bf16⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S8x1024x512, .f32⟩
  | .hbm, ⟨12, _⟩ => ⟨S8x1024x512, .f32⟩
  | .hbm, ⟨13, _⟩ => ⟨S8x1024x512, .i1⟩
  | .hbm, ⟨14, _⟩ => ⟨S8x1024x512, .f32⟩
  | .hbm, ⟨15, _⟩ => ⟨S_, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S_, .f32⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S_, .f32⟩
  | .hbm, ⟨36, _⟩ => ⟨S1024x512, .f32⟩
  | .hbm, ⟨37, _⟩ => ⟨S1024x512, .f32⟩
  | .hbm, ⟨38, _⟩ => ⟨S1024x512, .f32⟩
  | .hbm, ⟨39, _⟩ => ⟨S_, .f32⟩
  | .hbm, ⟨40, _⟩ => ⟨S1024x512, .f32⟩
  | .hbm, ⟨41, _⟩ => ⟨S1024x512, .f32⟩
  | .hbm, ⟨42, _⟩ => ⟨S1024x512, .f32⟩
  | .hbm, ⟨43, _⟩ => ⟨S_, .f32⟩
  | .hbm, ⟨44, _⟩ => ⟨S1024x512, .f32⟩
  | .hbm, ⟨45, _⟩ => ⟨S1024x512, .f32⟩
  | .hbm, ⟨46, _⟩ => ⟨S1024x512, .f32⟩
  | .hbm, ⟨47, _⟩ => ⟨S_, .f32⟩
  | .hbm, ⟨48, _⟩ => ⟨S1024x512, .f32⟩
  | .hbm, ⟨49, _⟩ => ⟨S1024x512, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== AdamDown.lean ====
abbrev S1 : Shape := ⟨1, ![1]⟩
abbrev S8x512x1024 : Shape := ⟨3, ![8, 512, 1024]⟩
abbrev S512x1024 : Shape := ⟨2, ![512, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 1
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .smem, ⟨0, _⟩ => ⟨S1, .i32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownRefIdeal.lean ====
abbrev S1 : Shape := ⟨1, ![1]⟩
abbrev S8x512x1024 : Shape := ⟨3, ![8, 512, 1024]⟩
abbrev S512x1024 : Shape := ⟨2, ![512, 1024]⟩
abbrev S8 : Shape := ⟨1, ![8]⟩
abbrev S8x1x1 : Shape := ⟨3, ![8, 1, 1]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x512x1024, .bf16⟩
  | .hbm, ⟨2, _⟩ => ⟨S8x512x1024, .bf16⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S8x512x1024, .f32⟩
  | .hbm, ⟨12, _⟩ => ⟨S8x512x1024, .f32⟩
  | .hbm, ⟨13, _⟩ => ⟨S8x512x1024, .i1⟩
  | .hbm, ⟨14, _⟩ => ⟨S8x512x1024, .f32⟩
  | .hbm, ⟨15, _⟩ => ⟨S_, .f32⟩
  | .hbm, ⟨16, _⟩ => ⟨S512x1024, .f32⟩
  | .hbm, ⟨17, _⟩ => ⟨S_, .f32⟩
  | .hbm, ⟨18, _⟩ => ⟨S512x1024, .f32⟩
  | .hbm, ⟨19, _⟩ => ⟨S512x1024, .f32⟩
  | .hbm, ⟨20, _⟩ => ⟨S_, .f32⟩
  | .hbm, ⟨21, _⟩ => ⟨S512x1024, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S_, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S_, .f32⟩
  | .hbm, ⟨33, _⟩ => ⟨S512x1024, .f32⟩
  | .hbm, ⟨34, _⟩ => ⟨S512x1024, .f32⟩
  | .hbm, ⟨35, _⟩ => ⟨S_, .f32⟩
  | .hbm, ⟨36, _⟩ => ⟨S512x1024, .f32⟩
  | .hbm, ⟨37, _⟩ => ⟨S512x1024, .f32⟩
  | .hbm, ⟨38, _⟩ => ⟨S512x1024, .f32⟩
  | .hbm, ⟨39, _⟩ => ⟨S_, .f32⟩
  | .hbm, ⟨40, _⟩ => ⟨S512x1024, .f32⟩
  | .hbm, ⟨41, _⟩ => ⟨S512x1024, .f32⟩
  | .hbm, ⟨42, _⟩ => ⟨S512x1024, .f32⟩
  | .hbm, ⟨43, _⟩ => ⟨S_, .f32⟩
  | .hbm, ⟨44, _⟩ => ⟨S512x1024, .f32⟩
  | .hbm, ⟨45, _⟩ => ⟨S512x1024, .f32⟩
  | .hbm, ⟨46, _⟩ => ⟨S512x1024, .f32⟩
  | .hbm, ⟨47, _⟩ => ⟨S_, .f32⟩
  | .hbm, ⟨48, _⟩ => ⟨S512x1024, .f32⟩
  | .hbm, ⟨49, _⟩ => ⟨S512x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Halves.lean ====
abbrev S1 : Shape := ⟨1, ![1]⟩
abbrev S8x1024x1155 : Shape := ⟨3, ![8, 1024, 1155]⟩
abbrev S4x1024x1155 : Shape := ⟨3, ![4, 1024, 1155]⟩
abbrev S1x256x1155 : Shape := ⟨3, ![1, 256, 1155]⟩

abbrev nBuf : Space → Nat
  | .hbm => 3
  | .vmem => 6
  | .smem => 1
  | _ => 0

abbrev bufTy : (tb : Table) → Fin (tcTables nBuf tb) → BufTy
  | .hbm, ⟨0, _⟩ => ⟨S8x1024x1155, .bf16⟩
  | .hbm, ⟨1, _⟩ => ⟨S4x1024x1155, .bf16⟩
  | .hbm, ⟨2, _⟩ => ⟨S4x1024x1155, .bf16⟩
  | .local _ .vmem, ⟨0, _⟩ => ⟨S1x256x1155, .bf16⟩
  | .local _ .vmem, ⟨1, _⟩ => ⟨S1x256x1155, .bf16⟩
  | .local _ .vmem, ⟨2, _⟩ => ⟨S1x256x1155, .bf16⟩
  | .local _ .vmem, ⟨3, _⟩ => ⟨S1x256x1155, .bf16⟩
  | .local _ .vmem, ⟨4, _⟩ => ⟨S1x256x1155, .bf16⟩
  | .local _ .vmem, ⟨5, _⟩ => ⟨S1x256x1155, .bf16⟩
  | .local _ .smem, ⟨0, _⟩ => ⟨S1, .i32⟩
  | _, _ => ⟨S8x1024x1155, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  ![v2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1155 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1155 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1155 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HalvesRefIdeal.lean ====
abbrev S1 : Shape := ⟨1, ![1]⟩
abbrev S8x1024x1155 : Shape := ⟨3, ![8, 1024, 1155]⟩
abbrev S4x1024x1155 : Shape := ⟨3, ![4, 1024, 1155]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x1024x1155, .bf16⟩
  | .hbm, ⟨2, _⟩ => ⟨S4x1024x1155, .bf16⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x1024x1155, .bf16⟩
  | .hbm, ⟨7, _⟩ => ⟨S4x1024x1155, .bf16⟩
  | .hbm, ⟨8, _⟩ => ⟨S4x1024x1155, .bf16⟩
  | .hbm, ⟨9, _⟩ => ⟨S4x1024x1155, .f32⟩
  | .hbm, ⟨10, _⟩ => ⟨S4x1024x1155, .f32⟩
  | .hbm, ⟨11, _⟩ => ⟨S4x1024x1155, .f32⟩
  | .hbm, ⟨12, _⟩ => ⟨S4x1024x1155, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Fox.KernelFrame.lean ====
module

public import proofs.«01_k».proof.Proof.Fox.KernelBody

@[expose] public section

noncomputable section

namespace Cert.Kernel.Gen.Fox

open Cert.Kernel Cert.Kernel.Gen
open Idealize.ShloMosaic Idealize.ShloMosaic.TcCoe Idealize.SL.Sem

variable {F : FTy → Type} [FloatOps F] (m : (ℓ : Loc nD τ sig) → Buf (Elt F) ℓ) (ρ : Dev nD → PrngReg)

/-- An input window's array ends as the region found it. -/
theorem in_kept (c : Dev nD) (w : Fin 16) (h : (cfg0.win w).isOut = false) (r : PUnit × MemSt nD τ sig (Elt F))
    (hr : Pipeline.RDat.FramePost (cfgs 0) (fun c => rdat m c) (V m) r) :
    r.2.mem ((c : Thread nD τ).loc (Pipeline.arrRef spec0 w)) = V m c (Pipeline.arrRef spec0 w) := by
  have h1 := (hr c).1 w
  rw [(rdat m c).ArrAt_in w h] at h1
  exact h1

/-- The frame: the arguments end unchanged and every counter at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) ∧ r.2.sem = fun _ => 0) :=
  (θ_run defs _ _).mono (fun r h => ⟨fun c => ⟨(in_kept m c 2 rfl r h.1).trans (V_main_arg0 m c), (in_kept m c 3 rfl r h.1).trans (V_main_arg1 m c), (in_kept m c 4 rfl r h.1).trans (V_main_arg2 m c), (in_kept m c 5 rfl r h.1).trans (V_main_arg3 m c), (in_kept m c 6 rfl r h.1).trans (V_main_arg4 m c), (in_kept m c 7 rfl r h.1).trans (V_main_arg5 m c), (in_kept m c 10 rfl r h.1).trans (V_main_arg6 m c)⟩, h.2⟩) (run_main m ρ)

end Cert.Kernel.Gen.Fox

end
-- ==== Proof.Fox.KernelIdealTrip.lean ====
module

public import proofs.«01_k».proof.Proof.Gen.KernelIdeal.Loops
public import proofs.«01_k».proof.Proof.Gen.KernelIdeal.Frame
public import Idealize.ShloMosaic.Lib.Tactic

@[expose] public section

set_option maxRecDepth 16384

noncomputable section

/-!
The loop over the blocks of keys: one trip of the outer loop as a function on what the loop carries and on the
five buffers it writes, found by running the trip, and the loop's invariant stated with that function iterated.
-/

namespace Cert.KernelIdeal.Gen.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 0 in
/-- One trip, run: the value it yields and the pieces it writes to the windows of dk and dv and to the accumulators of dq, of
    the column sums and of the row sums, as functions of the value carried and of what these buffers hold. -/
@[irreducible] def tripT1 (𝒱 : Variants) (c : Dev nD) (bd : Option 𝒱.V) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .smem S1x8 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .f32) (harg16 : arg16.IsWhole) (arg17 : Memref sig .tc .vmem S8x128 .f32) (harg17 : arg17.IsWhole) (arg18 : Memref sig .tc .vmem S2048x128 .bf16) (harg18 : arg18.IsWhole) (arg19 : Memref sig .tc .vmem S2048x128 .bf16) (harg19 : arg19.IsWhole) (arg20 : Memref sig .tc .vmem S2048x128 .bf16) (harg20 : arg20.IsWhole) (arg21 : Memref sig .tc .vmem S2048x128 .f32) (harg21 : arg21.IsWhole) (arg22 : Memref sig .tc .vmem S16x8x128 .f32) (harg22 : arg22.IsWhole) (arg23 : Memref sig .tc .vmem S2048x128 .bf16) (harg23 : arg23.IsWhole) (arg24 : Memref sig .tc .vmem S2048x128 .f32) (harg24 : arg24.IsWhole) (arg25 : Memref sig .tc .vmem S2048x128 .f32) (harg25 : arg25.IsWhole) (arg26 : Memref sig .tc .vmem S128x128 .f32) (harg26 : arg26.IsWhole) (arg27 : Memref sig .tc .vmem S2048x128 .f32) (harg27 : arg27.IsWhole) (v9 : FVec F S2048x1 .f32) (v714 : FVec F S2048x1 .f32) (v728 : Vec F S1x128 .f32) (X_arg3 : BufTy.Contents (Elt F) arg3.view.ty) (X_arg8 : BufTy.Contents (Elt F) arg8.view.ty) (X_arg11 : BufTy.Contents (Elt F) arg11.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (k : Fin k0_t1_loop.trips) :
    Σ' (R : FVec F S1x128 .f32 → BufTy.Contents (Elt F) arg14.view.ty → BufTy.Contents (Elt F) arg15.view.ty → BufTy.Contents (Elt F) arg25.view.ty → BufTy.Contents (Elt F) arg26.view.ty → BufTy.Contents (Elt F) arg27.view.ty → FVec F S1x128 .f32) (L_arg14 : FVec F S1x128 .f32 → BufTy.Contents (Elt F) arg14.view.ty → BufTy.Contents (Elt F) arg15.view.ty → BufTy.Contents (Elt F) arg25.view.ty → BufTy.Contents (Elt F) arg26.view.ty → BufTy.Contents (Elt F) arg27.view.ty → List (View.Piece (Elt F) S2048x128 .bf16)) (L_arg15 : FVec F S1x128 .f32 → BufTy.Contents (Elt F) arg14.view.ty → BufTy.Contents (Elt F) arg15.view.ty → BufTy.Contents (Elt F) arg25.view.ty → BufTy.Contents (Elt F) arg26.view.ty → BufTy.Contents (Elt F) arg27.view.ty → List (View.Piece (Elt F) S2048x128 .bf16)) (L_arg25 : FVec F S1x128 .f32 → BufTy.Contents (Elt F) arg14.view.ty → BufTy.Contents (Elt F) arg15.view.ty → BufTy.Contents (Elt F) arg25.view.ty → BufTy.Contents (Elt F) arg26.view.ty → BufTy.Contents (Elt F) arg27.view.ty → List (View.Piece (Elt F) S2048x128 .f32)) (L_arg26 : FVec F S1x128 .f32 → BufTy.Contents (Elt F) arg14.view.ty → BufTy.Contents (Elt F) arg15.view.ty → BufTy.Contents (Elt F) arg25.view.ty → BufTy.Contents (Elt F) arg26.view.ty → BufTy.Contents (Elt F) arg27.view.ty → List (View.Piece (Elt F) S128x128 .f32)),
    { L_arg27 : FVec F S1x128 .f32 → BufTy.Contents (Elt F) arg14.view.ty → BufTy.Contents (Elt F) arg15.view.ty → BufTy.Contents (Elt F) arg25.view.ty → BufTy.Contents (Elt F) arg26.view.ty → BufTy.Contents (Elt F) arg27.view.ty → List (View.Piece (Elt F) S2048x128 .f32) // ∀ (E : Set ℕ) (acc : FVec F S1x128 .f32) (f_arg14 : BufTy.Contents (Elt F) arg14.view.ty) (f_arg15 : BufTy.Contents (Elt F) arg15.view.ty) (f_arg25 : BufTy.Contents (Elt F) arg25.view.ty) (f_arg26 : BufTy.Contents (Elt F) arg26.view.ty) (f_arg27 : BufTy.Contents (Elt F) arg27.view.ty),
      (iprop((arg3.view.loc (c : Thread nD τ) ↦[arg3.view.set]{fullShare} X_arg3) ∗ (arg8.view.loc (c : Thread nD τ) ↦[arg8.view.set]{fullShare} X_arg8) ∗ (arg11.view.loc (c : Thread nD τ) ↦[arg11.view.set]{fullShare} X_arg11) ∗ (arg18.view.loc (c : Thread nD τ) ↦[arg18.view.set]{fullShare} X_arg18) ∗ (arg19.view.loc (c : Thread nD τ) ↦[arg19.view.set]{fullShare} X_arg19) ∗ (arg20.view.loc (c : Thread nD τ) ↦[arg20.view.set]{fullShare} X_arg20) ∗ (arg21.view.loc (c : Thread nD τ) ↦[arg21.view.set]{fullShare} X_arg21) ∗ (arg22.view.loc (c : Thread nD τ) ↦[arg22.view.set]{fullShare} X_arg22) ∗ (arg23.view.loc (c : Thread nD τ) ↦[arg23.view.set]{fullShare} X_arg23) ∗ (arg24.view.loc (c : Thread nD τ) ↦[arg24.view.set]{fullShare} X_arg24) ∗ (arg14.view.loc (c : Thread nD τ) ↦[arg14.view.set]{fullShare} f_arg14) ∗ (arg15.view.loc (c : Thread nD τ) ↦[arg15.view.set]{fullShare} f_arg15) ∗ (arg25.view.loc (c : Thread nD τ) ↦[arg25.view.set]{fullShare} f_arg25) ∗ (arg26.view.loc (c : Thread nD τ) ↦[arg26.view.set]{fullShare} f_arg26) ∗ (arg27.view.loc (c : Thread nD τ) ↦[arg27.view.set]{fullShare} f_arg27)) : sProp 𝕄)
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v9 v714 v728 k acc)
          (fun yld => iprop(⌜yld = R acc f_arg14 f_arg15 f_arg25 f_arg26 f_arg27⌝ ∗ (arg3.view.loc (c : Thread nD τ) ↦[arg3.view.set]{fullShare} X_arg3) ∗ (arg8.view.loc (c : Thread nD τ) ↦[arg8.view.set]{fullShare} X_arg8) ∗ (arg11.view.loc (c : Thread nD τ) ↦[arg11.view.set]{fullShare} X_arg11) ∗ (arg18.view.loc (c : Thread nD τ) ↦[arg18.view.set]{fullShare} X_arg18) ∗ (arg19.view.loc (c : Thread nD τ) ↦[arg19.view.set]{fullShare} X_arg19) ∗ (arg20.view.loc (c : Thread nD τ) ↦[arg20.view.set]{fullShare} X_arg20) ∗ (arg21.view.loc (c : Thread nD τ) ↦[arg21.view.set]{fullShare} X_arg21) ∗ (arg22.view.loc (c : Thread nD τ) ↦[arg22.view.set]{fullShare} X_arg22) ∗ (arg23.view.loc (c : Thread nD τ) ↦[arg23.view.set]{fullShare} X_arg23) ∗ (arg24.view.loc (c : Thread nD τ) ↦[arg24.view.set]{fullShare} X_arg24) ∗ (arg14.view.loc (c : Thread nD τ) ↦[arg14.view.set]{fullShare} (arg14.view.writes (Elt F) f_arg14 (L_arg14 acc f_arg14 f_arg15 f_arg25 f_arg26 f_arg27))) ∗ (arg15.view.loc (c : Thread nD τ) ↦[arg15.view.set]{fullShare} (arg15.view.writes (Elt F) f_arg15 (L_arg15 acc f_arg14 f_arg15 f_arg25 f_arg26 f_arg27))) ∗ (arg25.view.loc (c : Thread nD τ) ↦[arg25.view.set]{fullShare} (arg25.view.writes (Elt F) f_arg25 (L_arg25 acc f_arg14 f_arg15 f_arg25 f_arg26 f_arg27))) ∗ (arg26.view.loc (c : Thread nD τ) ↦[arg26.view.set]{fullShare} (arg26.view.writes (Elt F) f_arg26 (L_arg26 acc f_arg14 f_arg15 f_arg25 f_arg26 f_arg27))) ∗ (arg27.view.loc (c : Thread nD τ) ↦[arg27.view.set]{fullShare} (arg27.view.writes (Elt F) f_arg27 (L_arg27 acc f_arg14 f_arg15 f_arg25 f_arg26 f_arg27))))) } := by
  refine ⟨?_, ?_, ?_, ?_, ?_, ?_, fun E acc f_arg14 f_arg15 f_arg25 f_arg26 f_arg27 => ?run⟩
  case run =>
    unfold k0_t1_body
    simp only [k0_part3_eq_skeleton, k0_part4_eq_skeleton, k0_part5_eq_skeleton, k0_part6_eq_skeleton]
    iintro ⟨Harg3, Harg8, Harg11, Harg18, Harg19, Harg20, Harg21, Harg22, Harg23, Harg24, Harg14, Harg15, Harg25, Harg26, Harg27⟩
    sl_exec
    sl_step
    isplitr
    · ipureintro; rfl
    isplitl [Harg3]; · iexact Harg3
    isplitl [Harg8]; · iexact Harg8
    isplitl [Harg11]; · iexact Harg11
    isplitl [Harg18]; · iexact Harg18
    isplitl [Harg19]; · iexact Harg19
    isplitl [Harg20]; · iexact Harg20
    isplitl [Harg21]; · iexact Harg21
    isplitl [Harg22]; · iexact Harg22
    isplitl [Harg23]; · iexact Harg23
    isplitl [Harg24]; · iexact Harg24
    isplitl [Harg14]; · iexact Harg14
    isplitl [Harg15]; · iexact Harg15
    isplitl [Harg25]; · iexact Harg25
    isplitl [Harg26]; · iexact Harg26
    iexact Harg27

/-- The value the loop carries before a trip. -/
abbrev T1Acc (F : FTy → Type) : Type := FVec F S1x128 .f32
/-- The pieces written before a trip, the last first, buffer by buffer. -/
abbrev T1Pieces (F : FTy → Type) : Type := List (View.Piece (Elt F) S2048x128 .bf16) × List (View.Piece (Elt F) S2048x128 .bf16) × List (View.Piece (Elt F) S2048x128 .f32) × List (View.Piece (Elt F) S128x128 .f32) × List (View.Piece (Elt F) S2048x128 .f32)

/-- The state a trip leaves, from the state `s` it finds. -/
def stepT1 (𝒱 : Variants) (c : Dev nD) (bd : Option 𝒱.V) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .smem S1x8 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .f32) (harg16 : arg16.IsWhole) (arg17 : Memref sig .tc .vmem S8x128 .f32) (harg17 : arg17.IsWhole) (arg18 : Memref sig .tc .vmem S2048x128 .bf16) (harg18 : arg18.IsWhole) (arg19 : Memref sig .tc .vmem S2048x128 .bf16) (harg19 : arg19.IsWhole) (arg20 : Memref sig .tc .vmem S2048x128 .bf16) (harg20 : arg20.IsWhole) (arg21 : Memref sig .tc .vmem S2048x128 .f32) (harg21 : arg21.IsWhole) (arg22 : Memref sig .tc .vmem S16x8x128 .f32) (harg22 : arg22.IsWhole) (arg23 : Memref sig .tc .vmem S2048x128 .bf16) (harg23 : arg23.IsWhole) (arg24 : Memref sig .tc .vmem S2048x128 .f32) (harg24 : arg24.IsWhole) (arg25 : Memref sig .tc .vmem S2048x128 .f32) (harg25 : arg25.IsWhole) (arg26 : Memref sig .tc .vmem S128x128 .f32) (harg26 : arg26.IsWhole) (arg27 : Memref sig .tc .vmem S2048x128 .f32) (harg27 : arg27.IsWhole) (v9 : FVec F S2048x1 .f32) (v714 : FVec F S2048x1 .f32) (v728 : Vec F S1x128 .f32) (X_arg3 : BufTy.Contents (Elt F) arg3.view.ty) (X_arg8 : BufTy.Contents (Elt F) arg8.view.ty) (X_arg11 : BufTy.Contents (Elt F) arg11.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (k : Fin k0_t1_loop.trips) (G_arg14 : BufTy.Contents (Elt F) arg14.view.ty) (G_arg15 : BufTy.Contents (Elt F) arg15.view.ty) (G_arg25 : BufTy.Contents (Elt F) arg25.view.ty) (G_arg26 : BufTy.Contents (Elt F) arg26.view.ty) (G_arg27 : BufTy.Contents (Elt F) arg27.view.ty) (s : T1Acc F × T1Pieces F) : T1Acc F × T1Pieces F :=
  let t := tripT1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v9 v714 v728 X_arg3 X_arg8 X_arg11 X_arg18 X_arg19 X_arg20 X_arg21 X_arg22 X_arg23 X_arg24 k
  (t.1 s.1 (arg14.view.writes (Elt F) G_arg14 s.2.1) (arg15.view.writes (Elt F) G_arg15 s.2.2.1) (arg25.view.writes (Elt F) G_arg25 s.2.2.2.1) (arg26.view.writes (Elt F) G_arg26 s.2.2.2.2.1) (arg27.view.writes (Elt F) G_arg27 s.2.2.2.2.2),
    t.2.1 s.1 (arg14.view.writes (Elt F) G_arg14 s.2.1) (arg15.view.writes (Elt F) G_arg15 s.2.2.1) (arg25.view.writes (Elt F) G_arg25 s.2.2.2.1) (arg26.view.writes (Elt F) G_arg26 s.2.2.2.2.1) (arg27.view.writes (Elt F) G_arg27 s.2.2.2.2.2) ++ s.2.1,
      t.2.2.1 s.1 (arg14.view.writes (Elt F) G_arg14 s.2.1) (arg15.view.writes (Elt F) G_arg15 s.2.2.1) (arg25.view.writes (Elt F) G_arg25 s.2.2.2.1) (arg26.view.writes (Elt F) G_arg26 s.2.2.2.2.1) (arg27.view.writes (Elt F) G_arg27 s.2.2.2.2.2) ++ s.2.2.1,
      t.2.2.2.1 s.1 (arg14.view.writes (Elt F) G_arg14 s.2.1) (arg15.view.writes (Elt F) G_arg15 s.2.2.1) (arg25.view.writes (Elt F) G_arg25 s.2.2.2.1) (arg26.view.writes (Elt F) G_arg26 s.2.2.2.2.1) (arg27.view.writes (Elt F) G_arg27 s.2.2.2.2.2) ++ s.2.2.2.1,
      t.2.2.2.2.1 s.1 (arg14.view.writes (Elt F) G_arg14 s.2.1) (arg15.view.writes (Elt F) G_arg15 s.2.2.1) (arg25.view.writes (Elt F) G_arg25 s.2.2.2.1) (arg26.view.writes (Elt F) G_arg26 s.2.2.2.2.1) (arg27.view.writes (Elt F) G_arg27 s.2.2.2.2.2) ++ s.2.2.2.2.1,
      t.2.2.2.2.2.1 s.1 (arg14.view.writes (Elt F) G_arg14 s.2.1) (arg15.view.writes (Elt F) G_arg15 s.2.2.1) (arg25.view.writes (Elt F) G_arg25 s.2.2.2.1) (arg26.view.writes (Elt F) G_arg26 s.2.2.2.2.1) (arg27.view.writes (Elt F) G_arg27 s.2.2.2.2.2) ++ s.2.2.2.2.2)

/-- The state before trip `n`, from the value and the contents at the loop's entry. -/
def stT1 (𝒱 : Variants) (c : Dev nD) (bd : Option 𝒱.V) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .smem S1x8 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .f32) (harg16 : arg16.IsWhole) (arg17 : Memref sig .tc .vmem S8x128 .f32) (harg17 : arg17.IsWhole) (arg18 : Memref sig .tc .vmem S2048x128 .bf16) (harg18 : arg18.IsWhole) (arg19 : Memref sig .tc .vmem S2048x128 .bf16) (harg19 : arg19.IsWhole) (arg20 : Memref sig .tc .vmem S2048x128 .bf16) (harg20 : arg20.IsWhole) (arg21 : Memref sig .tc .vmem S2048x128 .f32) (harg21 : arg21.IsWhole) (arg22 : Memref sig .tc .vmem S16x8x128 .f32) (harg22 : arg22.IsWhole) (arg23 : Memref sig .tc .vmem S2048x128 .bf16) (harg23 : arg23.IsWhole) (arg24 : Memref sig .tc .vmem S2048x128 .f32) (harg24 : arg24.IsWhole) (arg25 : Memref sig .tc .vmem S2048x128 .f32) (harg25 : arg25.IsWhole) (arg26 : Memref sig .tc .vmem S128x128 .f32) (harg26 : arg26.IsWhole) (arg27 : Memref sig .tc .vmem S2048x128 .f32) (harg27 : arg27.IsWhole) (v9 : FVec F S2048x1 .f32) (v714 : FVec F S2048x1 .f32) (v728 : Vec F S1x128 .f32) (X_arg3 : BufTy.Contents (Elt F) arg3.view.ty) (X_arg8 : BufTy.Contents (Elt F) arg8.view.ty) (X_arg11 : BufTy.Contents (Elt F) arg11.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (G_arg14 : BufTy.Contents (Elt F) arg14.view.ty) (G_arg15 : BufTy.Contents (Elt F) arg15.view.ty) (G_arg25 : BufTy.Contents (Elt F) arg25.view.ty) (G_arg26 : BufTy.Contents (Elt F) arg26.view.ty) (G_arg27 : BufTy.Contents (Elt F) arg27.view.ty) (init : T1Acc F) : ℕ → T1Acc F × T1Pieces F
  | 0 => (init, [], [], [], [], [])
  | n + 1 => if h : n < k0_t1_loop.trips then stepT1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v9 v714 v728 X_arg3 X_arg8 X_arg11 X_arg18 X_arg19 X_arg20 X_arg21 X_arg22 X_arg23 X_arg24 ⟨n, h⟩ G_arg14 G_arg15 G_arg25 G_arg26 G_arg27 (stT1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v9 v714 v728 X_arg3 X_arg8 X_arg11 X_arg18 X_arg19 X_arg20 X_arg21 X_arg22 X_arg23 X_arg24 G_arg14 G_arg15 G_arg25 G_arg26 G_arg27 init n) else stT1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v9 v714 v728 X_arg3 X_arg8 X_arg11 X_arg18 X_arg19 X_arg20 X_arg21 X_arg22 X_arg23 X_arg24 G_arg14 G_arg15 G_arg25 G_arg26 G_arg27 init n

theorem stT1_succ (𝒱 : Variants) (c : Dev nD) (bd : Option 𝒱.V) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .smem S1x8 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .f32) (harg16 : arg16.IsWhole) (arg17 : Memref sig .tc .vmem S8x128 .f32) (harg17 : arg17.IsWhole) (arg18 : Memref sig .tc .vmem S2048x128 .bf16) (harg18 : arg18.IsWhole) (arg19 : Memref sig .tc .vmem S2048x128 .bf16) (harg19 : arg19.IsWhole) (arg20 : Memref sig .tc .vmem S2048x128 .bf16) (harg20 : arg20.IsWhole) (arg21 : Memref sig .tc .vmem S2048x128 .f32) (harg21 : arg21.IsWhole) (arg22 : Memref sig .tc .vmem S16x8x128 .f32) (harg22 : arg22.IsWhole) (arg23 : Memref sig .tc .vmem S2048x128 .bf16) (harg23 : arg23.IsWhole) (arg24 : Memref sig .tc .vmem S2048x128 .f32) (harg24 : arg24.IsWhole) (arg25 : Memref sig .tc .vmem S2048x128 .f32) (harg25 : arg25.IsWhole) (arg26 : Memref sig .tc .vmem S128x128 .f32) (harg26 : arg26.IsWhole) (arg27 : Memref sig .tc .vmem S2048x128 .f32) (harg27 : arg27.IsWhole) (v9 : FVec F S2048x1 .f32) (v714 : FVec F S2048x1 .f32) (v728 : Vec F S1x128 .f32) (X_arg3 : BufTy.Contents (Elt F) arg3.view.ty) (X_arg8 : BufTy.Contents (Elt F) arg8.view.ty) (X_arg11 : BufTy.Contents (Elt F) arg11.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (G_arg14 : BufTy.Contents (Elt F) arg14.view.ty) (G_arg15 : BufTy.Contents (Elt F) arg15.view.ty) (G_arg25 : BufTy.Contents (Elt F) arg25.view.ty) (G_arg26 : BufTy.Contents (Elt F) arg26.view.ty) (G_arg27 : BufTy.Contents (Elt F) arg27.view.ty) (init : T1Acc F) (k : Fin k0_t1_loop.trips) :
    stT1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v9 v714 v728 X_arg3 X_arg8 X_arg11 X_arg18 X_arg19 X_arg20 X_arg21 X_arg22 X_arg23 X_arg24 G_arg14 G_arg15 G_arg25 G_arg26 G_arg27 init (k.val + 1) = stepT1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v9 v714 v728 X_arg3 X_arg8 X_arg11 X_arg18 X_arg19 X_arg20 X_arg21 X_arg22 X_arg23 X_arg24 k G_arg14 G_arg15 G_arg25 G_arg26 G_arg27 (stT1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v9 v714 v728 X_arg3 X_arg8 X_arg11 X_arg18 X_arg19 X_arg20 X_arg21 X_arg22 X_arg23 X_arg24 G_arg14 G_arg15 G_arg25 G_arg26 G_arg27 init k.val) := by
  rw [stT1.eq_2]; exact dif_pos k.isLt

set_option maxHeartbeats 0 in
/-- The loop's invariant: what is read stays, and what is carried and written is the state before the trip. -/
@[sl_loop, instance_reducible] def loopInv_k0_t1 (𝒱 : Variants) (c : Dev nD) (bd : Option 𝒱.V) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .smem S1x8 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .f32) (harg16 : arg16.IsWhole) (arg17 : Memref sig .tc .vmem S8x128 .f32) (harg17 : arg17.IsWhole) (arg18 : Memref sig .tc .vmem S2048x128 .bf16) (harg18 : arg18.IsWhole) (arg19 : Memref sig .tc .vmem S2048x128 .bf16) (harg19 : arg19.IsWhole) (arg20 : Memref sig .tc .vmem S2048x128 .bf16) (harg20 : arg20.IsWhole) (arg21 : Memref sig .tc .vmem S2048x128 .f32) (harg21 : arg21.IsWhole) (arg22 : Memref sig .tc .vmem S16x8x128 .f32) (harg22 : arg22.IsWhole) (arg23 : Memref sig .tc .vmem S2048x128 .bf16) (harg23 : arg23.IsWhole) (arg24 : Memref sig .tc .vmem S2048x128 .f32) (harg24 : arg24.IsWhole) (arg25 : Memref sig .tc .vmem S2048x128 .f32) (harg25 : arg25.IsWhole) (arg26 : Memref sig .tc .vmem S128x128 .f32) (harg26 : arg26.IsWhole) (arg27 : Memref sig .tc .vmem S2048x128 .f32) (harg27 : arg27.IsWhole) (v9 : FVec F S2048x1 .f32) (v714 : FVec F S2048x1 .f32) (v728 : Vec F S1x128 .f32) (X_arg3 : BufTy.Contents (Elt F) arg3.view.ty) (X_arg8 : BufTy.Contents (Elt F) arg8.view.ty) (X_arg11 : BufTy.Contents (Elt F) arg11.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (G_arg14 : BufTy.Contents (Elt F) arg14.view.ty) (G_arg15 : BufTy.Contents (Elt F) arg15.view.ty) (G_arg25 : BufTy.Contents (Elt F) arg25.view.ty) (G_arg26 : BufTy.Contents (Elt F) arg26.view.ty) (G_arg27 : BufTy.Contents (Elt F) arg27.view.ty) (init : FVec F S1x128 .f32) :
    LoopInvTy_k0_t1 (F := F) Unit ℕ (UR sig nD τ) ℕ 𝒱 c bd Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v9 v714 v728 init where
  inv k acc := iprop((arg3.view.loc (c : Thread nD τ) ↦[arg3.view.set]{fullShare} X_arg3) ∗ (arg8.view.loc (c : Thread nD τ) ↦[arg8.view.set]{fullShare} X_arg8) ∗ (arg11.view.loc (c : Thread nD τ) ↦[arg11.view.set]{fullShare} X_arg11) ∗ (arg18.view.loc (c : Thread nD τ) ↦[arg18.view.set]{fullShare} X_arg18) ∗ (arg19.view.loc (c : Thread nD τ) ↦[arg19.view.set]{fullShare} X_arg19) ∗ (arg20.view.loc (c : Thread nD τ) ↦[arg20.view.set]{fullShare} X_arg20) ∗ (arg21.view.loc (c : Thread nD τ) ↦[arg21.view.set]{fullShare} X_arg21) ∗ (arg22.view.loc (c : Thread nD τ) ↦[arg22.view.set]{fullShare} X_arg22) ∗ (arg23.view.loc (c : Thread nD τ) ↦[arg23.view.set]{fullShare} X_arg23) ∗ (arg24.view.loc (c : Thread nD τ) ↦[arg24.view.set]{fullShare} X_arg24) ∗
      (∃ f, (arg14.view.loc (c : Thread nD τ) ↦[arg14.view.set]{fullShare} f) ∗ ⌜f = arg14.view.writes (Elt F) G_arg14 (stT1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v9 v714 v728 X_arg3 X_arg8 X_arg11 X_arg18 X_arg19 X_arg20 X_arg21 X_arg22 X_arg23 X_arg24 G_arg14 G_arg15 G_arg25 G_arg26 G_arg27 init k).2.1⌝) ∗
      (∃ f, (arg15.view.loc (c : Thread nD τ) ↦[arg15.view.set]{fullShare} f) ∗ ⌜f = arg15.view.writes (Elt F) G_arg15 (stT1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v9 v714 v728 X_arg3 X_arg8 X_arg11 X_arg18 X_arg19 X_arg20 X_arg21 X_arg22 X_arg23 X_arg24 G_arg14 G_arg15 G_arg25 G_arg26 G_arg27 init k).2.2.1⌝) ∗
      (∃ f, (arg25.view.loc (c : Thread nD τ) ↦[arg25.view.set]{fullShare} f) ∗ ⌜f = arg25.view.writes (Elt F) G_arg25 (stT1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v9 v714 v728 X_arg3 X_arg8 X_arg11 X_arg18 X_arg19 X_arg20 X_arg21 X_arg22 X_arg23 X_arg24 G_arg14 G_arg15 G_arg25 G_arg26 G_arg27 init k).2.2.2.1⌝) ∗
      (∃ f, (arg26.view.loc (c : Thread nD τ) ↦[arg26.view.set]{fullShare} f) ∗ ⌜f = arg26.view.writes (Elt F) G_arg26 (stT1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v9 v714 v728 X_arg3 X_arg8 X_arg11 X_arg18 X_arg19 X_arg20 X_arg21 X_arg22 X_arg23 X_arg24 G_arg14 G_arg15 G_arg25 G_arg26 G_arg27 init k).2.2.2.2.1⌝) ∗
      (∃ f, (arg27.view.loc (c : Thread nD τ) ↦[arg27.view.set]{fullShare} f) ∗ ⌜f = arg27.view.writes (Elt F) G_arg27 (stT1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v9 v714 v728 X_arg3 X_arg8 X_arg11 X_arg18 X_arg19 X_arg20 X_arg21 X_arg22 X_arg23 X_arg24 G_arg14 G_arg15 G_arg25 G_arg26 G_arg27 init k).2.2.2.2.2⌝) ∗
      ⌜acc = (stT1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v9 v714 v728 X_arg3 X_arg8 X_arg11 X_arg18 X_arg19 X_arg20 X_arg21 X_arg22 X_arg23 X_arg24 G_arg14 G_arg15 G_arg25 G_arg26 G_arg27 init k).1⌝)
  step k acc := by
    iintro ⟨Harg3, Harg8, Harg11, Harg18, Harg19, Harg20, Harg21, Harg22, Harg23, Harg24, ⟨%f_arg14, Harg14, %h_arg14⟩, ⟨%f_arg15, Harg15, %h_arg15⟩, ⟨%f_arg25, Harg25, %h_arg25⟩, ⟨%f_arg26, Harg26, %h_arg26⟩, ⟨%f_arg27, Harg27, %h_arg27⟩, %h_acc⟩
    iapply (wp_wand_r Idealize.ShloMosaic.frame (wpE (defs₀ (F := F)) 𝒱 (c : Thread nD τ) bd) Set.univ)
    isplitl [Harg3 Harg8 Harg11 Harg18 Harg19 Harg20 Harg21 Harg22 Harg23 Harg24 Harg14 Harg15 Harg25 Harg26 Harg27]
    · iapply ((tripT1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v9 v714 v728 X_arg3 X_arg8 X_arg11 X_arg18 X_arg19 X_arg20 X_arg21 X_arg22 X_arg23 X_arg24 k).2.2.2.2.2.2 Set.univ acc f_arg14 f_arg15 f_arg25 f_arg26 f_arg27)
      isplitl [Harg3]; · iexact Harg3
      isplitl [Harg8]; · iexact Harg8
      isplitl [Harg11]; · iexact Harg11
      isplitl [Harg18]; · iexact Harg18
      isplitl [Harg19]; · iexact Harg19
      isplitl [Harg20]; · iexact Harg20
      isplitl [Harg21]; · iexact Harg21
      isplitl [Harg22]; · iexact Harg22
      isplitl [Harg23]; · iexact Harg23
      isplitl [Harg24]; · iexact Harg24
      isplitl [Harg14]; · iexact Harg14
      isplitl [Harg15]; · iexact Harg15
      isplitl [Harg25]; · iexact Harg25
      isplitl [Harg26]; · iexact Harg26
      iexact Harg27
    · rw [stT1_succ]
      iintro %yld ⟨%h_y, Harg3, Harg8, Harg11, Harg18, Harg19, Harg20, Harg21, Harg22, Harg23, Harg24, Harg14, Harg15, Harg25, Harg26, Harg27⟩
      isplitl [Harg3]; · iexact Harg3
      isplitl [Harg8]; · iexact Harg8
      isplitl [Harg11]; · iexact Harg11
      isplitl [Harg18]; · iexact Harg18
      isplitl [Harg19]; · iexact Harg19
      isplitl [Harg20]; · iexact Harg20
      isplitl [Harg21]; · iexact Harg21
      isplitl [Harg22]; · iexact Harg22
      isplitl [Harg23]; · iexact Harg23
      isplitl [Harg24]; · iexact Harg24
      isplitl [Harg14]
      · iexists _; isplitl [Harg14]; · iexact Harg14
        ipureintro; subst h_arg14 h_arg15 h_arg25 h_arg26 h_arg27 h_acc; exact (View.writes_append ..).symm
      isplitl [Harg15]
      · iexists _; isplitl [Harg15]; · iexact Harg15
        ipureintro; subst h_arg14 h_arg15 h_arg25 h_arg26 h_arg27 h_acc; exact (View.writes_append ..).symm
      isplitl [Harg25]
      · iexists _; isplitl [Harg25]; · iexact Harg25
        ipureintro; subst h_arg14 h_arg15 h_arg25 h_arg26 h_arg27 h_acc; exact (View.writes_append ..).symm
      isplitl [Harg26]
      · iexists _; isplitl [Harg26]; · iexact Harg26
        ipureintro; subst h_arg14 h_arg15 h_arg25 h_arg26 h_arg27 h_acc; exact (View.writes_append ..).symm
      isplitl [Harg27]
      · iexists _; isplitl [Harg27]; · iexact Harg27
        ipureintro; subst h_arg14 h_arg15 h_arg25 h_arg26 h_arg27 h_acc; exact (View.writes_append ..).symm
      ipureintro; subst h_arg14 h_arg15 h_arg25 h_arg26 h_arg27 h_acc; exact h_y

end Cert.KernelIdeal.Gen.Fox

end
-- ==== Proof.Fox.KernelIdealFirst.lean ====
module

public import proofs.«01_k».proof.Proof.Fox.KernelIdealTrip
public import Idealize.ShloMosaic.Lib.Tactic

@[expose] public section

set_option maxRecDepth 16384

noncomputable section

/-!
The body at one point of the grid, at the first point of the grid: what it leaves in the buffers it writes, as functions of what all buffers
held, found by running it.
-/

namespace Cert.KernelIdeal.Gen.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 0 in
/-- The body's run at the first point of the grid. -/
@[irreducible] def bodyFirst (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .smem S1x8 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .f32) (harg16 : arg16.IsWhole) (arg17 : Memref sig .tc .vmem S8x128 .f32) (harg17 : arg17.IsWhole) (arg18 : Memref sig .tc .vmem S2048x128 .bf16) (harg18 : arg18.IsWhole) (arg19 : Memref sig .tc .vmem S2048x128 .bf16) (harg19 : arg19.IsWhole) (arg20 : Memref sig .tc .vmem S2048x128 .bf16) (harg20 : arg20.IsWhole) (arg21 : Memref sig .tc .vmem S2048x128 .f32) (harg21 : arg21.IsWhole) (arg22 : Memref sig .tc .vmem S16x8x128 .f32) (harg22 : arg22.IsWhole) (arg23 : Memref sig .tc .vmem S2048x128 .bf16) (harg23 : arg23.IsWhole) (arg24 : Memref sig .tc .vmem S2048x128 .f32) (harg24 : arg24.IsWhole) (arg25 : Memref sig .tc .vmem S2048x128 .f32) (harg25 : arg25.IsWhole) (arg26 : Memref sig .tc .vmem S128x128 .f32) (harg26 : arg26.IsWhole) (arg27 : Memref sig .tc .vmem S2048x128 .f32) (harg27 : arg27.IsWhole) (C1 : Scalar.cmpi .ne (Scalar.extui (Scalar.cmpi .eq (BitVec.ofNat 32 (i 1).val) 0#32) : BitVec 32) 0#32 = 1#1) (C2 : Scalar.cmpi .ne (Scalar.extui (Scalar.andi (Scalar.cmpi .eq (BitVec.ofNat 32 (i 0).val) 0#32) (Scalar.cmpi .eq (BitVec.ofNat 32 (i 1).val) 0#32)) : BitVec 32) 0#32 = 1#1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (X_arg25 : BufTy.Contents (Elt F) arg25.view.ty) (X_arg26 : BufTy.Contents (Elt F) arg26.view.ty) (X_arg27 : BufTy.Contents (Elt F) arg27.view.ty) :
    Σ' (C_arg13 : BufTy.Contents (Elt F) arg13.view.ty) (C_arg14 : BufTy.Contents (Elt F) arg14.view.ty) (C_arg15 : BufTy.Contents (Elt F) arg15.view.ty) (C_arg16 : BufTy.Contents (Elt F) arg16.view.ty) (C_arg17 : BufTy.Contents (Elt F) arg17.view.ty) (C_arg18 : BufTy.Contents (Elt F) arg18.view.ty) (C_arg19 : BufTy.Contents (Elt F) arg19.view.ty) (C_arg20 : BufTy.Contents (Elt F) arg20.view.ty) (C_arg21 : BufTy.Contents (Elt F) arg21.view.ty) (C_arg22 : BufTy.Contents (Elt F) arg22.view.ty) (C_arg23 : BufTy.Contents (Elt F) arg23.view.ty) (C_arg24 : BufTy.Contents (Elt F) arg24.view.ty) (C_arg25 : BufTy.Contents (Elt F) arg25.view.ty) (C_arg26 : BufTy.Contents (Elt F) arg26.view.ty),
      { C_arg27 : BufTy.Contents (Elt F) arg27.view.ty //
      (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17) ∗ (arg18.view.loc (c : Thread nD τ) ↦[arg18.view.set]{fullShare} X_arg18) ∗ (arg19.view.loc (c : Thread nD τ) ↦[arg19.view.set]{fullShare} X_arg19) ∗ (arg20.view.loc (c : Thread nD τ) ↦[arg20.view.set]{fullShare} X_arg20) ∗ (arg21.view.loc (c : Thread nD τ) ↦[arg21.view.set]{fullShare} X_arg21) ∗ (arg22.view.loc (c : Thread nD τ) ↦[arg22.view.set]{fullShare} X_arg22) ∗ (arg23.view.loc (c : Thread nD τ) ↦[arg23.view.set]{fullShare} X_arg23) ∗ (arg24.view.loc (c : Thread nD τ) ↦[arg24.view.set]{fullShare} X_arg24) ∗ (arg25.view.loc (c : Thread nD τ) ↦[arg25.view.set]{fullShare} X_arg25) ∗ (arg26.view.loc (c : Thread nD τ) ↦[arg26.view.set]{fullShare} X_arg26) ∗ (arg27.view.loc (c : Thread nD τ) ↦[arg27.view.set]{fullShare} X_arg27)) : sProp 𝕄)
      ⊢ wp frame (wpE (defs₀ (F := F)) Variants.none (c : Thread nD τ) none) Set.univ (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27)
          (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} C_arg13) ∗ (arg14.view.loc (c : Thread nD τ) ↦[arg14.view.set]{fullShare} C_arg14) ∗ (arg15.view.loc (c : Thread nD τ) ↦[arg15.view.set]{fullShare} C_arg15) ∗ (arg16.view.loc (c : Thread nD τ) ↦[arg16.view.set]{fullShare} C_arg16) ∗ (arg17.view.loc (c : Thread nD τ) ↦[arg17.view.set]{fullShare} C_arg17) ∗ (arg18.view.loc (c : Thread nD τ) ↦[arg18.view.set]{fullShare} C_arg18) ∗ (arg19.view.loc (c : Thread nD τ) ↦[arg19.view.set]{fullShare} C_arg19) ∗ (arg20.view.loc (c : Thread nD τ) ↦[arg20.view.set]{fullShare} C_arg20) ∗ (arg21.view.loc (c : Thread nD τ) ↦[arg21.view.set]{fullShare} C_arg21) ∗ (arg22.view.loc (c : Thread nD τ) ↦[arg22.view.set]{fullShare} C_arg22) ∗ (arg23.view.loc (c : Thread nD τ) ↦[arg23.view.set]{fullShare} C_arg23) ∗ (arg24.view.loc (c : Thread nD τ) ↦[arg24.view.set]{fullShare} C_arg24) ∗ (arg25.view.loc (c : Thread nD τ) ↦[arg25.view.set]{fullShare} C_arg25) ∗ (arg26.view.loc (c : Thread nD τ) ↦[arg26.view.set]{fullShare} C_arg26) ∗ (arg27.view.loc (c : Thread nD τ) ↦[arg27.view.set]{fullShare} C_arg27))) } := by
  refine ⟨?_, ?_, ?_, ?_, ?_, ?_, ?_, ?_, ?_, ?_, ?_, ?_, ?_, ?_, ?_, ?run⟩
  case run =>
    simp only [cc0_fox_bwd_eq_skeleton]
    unfold cc0_fox_bwd_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    iintro ⟨Harg2, Harg3, Harg4, Harg5, Harg6, Harg7, Harg8, Harg9, Harg10, Harg11, Harg12, Harg13, Harg14, Harg15, Harg16, Harg17, Harg18, Harg19, Harg20, Harg21, Harg22, Harg23, Harg24, Harg25, Harg26, Harg27⟩
    sl_exec
    sl_step
    isplitl [Harg2]; · iexact Harg2
    isplitl [Harg3]; · iexact Harg3
    isplitl [Harg4]; · iexact Harg4
    isplitl [Harg5]; · iexact Harg5
    isplitl [Harg6]; · iexact Harg6
    isplitl [Harg7]; · iexact Harg7
    isplitl [Harg8]; · iexact Harg8
    isplitl [Harg9]; · iexact Harg9
    isplitl [Harg10]; · iexact Harg10
    isplitl [Harg11]; · iexact Harg11
    isplitl [Harg12]; · iexact Harg12
    isplitl [Harg13]; · iexact Harg13
    isplitl [Harg14]; · iexact Harg14
    isplitl [Harg15]; · iexact Harg15
    isplitl [Harg16]; · iexact Harg16
    isplitl [Harg17]; · iexact Harg17
    isplitl [Harg18]; · iexact Harg18
    isplitl [Harg19]; · iexact Harg19
    isplitl [Harg20]; · iexact Harg20
    isplitl [Harg21]; · iexact Harg21
    isplitl [Harg22]; · iexact Harg22
    isplitl [Harg23]; · iexact Harg23
    isplitl [Harg24]; · iexact Harg24
    isplitl [Harg25]; · iexact Harg25
    isplitl [Harg26]; · iexact Harg26
    iexact Harg27

end Cert.KernelIdeal.Gen.Fox

end
-- ==== Proof.Fox.KernelIdealBatch.lean ====
module

public import proofs.«01_k».proof.Proof.Fox.KernelIdealTrip
public import Idealize.ShloMosaic.Lib.Tactic

@[expose] public section

set_option maxRecDepth 16384

noncomputable section

/-!
The body at one point of the grid, at a later batch entry's first head: what it leaves in the buffers it writes, as functions of what all buffers
held, found by running it.
-/

namespace Cert.KernelIdeal.Gen.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 0 in
/-- The body's run at a later batch entry's first head. -/
@[irreducible] def bodyBatch (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .smem S1x8 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .f32) (harg16 : arg16.IsWhole) (arg17 : Memref sig .tc .vmem S8x128 .f32) (harg17 : arg17.IsWhole) (arg18 : Memref sig .tc .vmem S2048x128 .bf16) (harg18 : arg18.IsWhole) (arg19 : Memref sig .tc .vmem S2048x128 .bf16) (harg19 : arg19.IsWhole) (arg20 : Memref sig .tc .vmem S2048x128 .bf16) (harg20 : arg20.IsWhole) (arg21 : Memref sig .tc .vmem S2048x128 .f32) (harg21 : arg21.IsWhole) (arg22 : Memref sig .tc .vmem S16x8x128 .f32) (harg22 : arg22.IsWhole) (arg23 : Memref sig .tc .vmem S2048x128 .bf16) (harg23 : arg23.IsWhole) (arg24 : Memref sig .tc .vmem S2048x128 .f32) (harg24 : arg24.IsWhole) (arg25 : Memref sig .tc .vmem S2048x128 .f32) (harg25 : arg25.IsWhole) (arg26 : Memref sig .tc .vmem S128x128 .f32) (harg26 : arg26.IsWhole) (arg27 : Memref sig .tc .vmem S2048x128 .f32) (harg27 : arg27.IsWhole) (C1 : Scalar.cmpi .ne (Scalar.extui (Scalar.cmpi .eq (BitVec.ofNat 32 (i 1).val) 0#32) : BitVec 32) 0#32 = 1#1) (C2 : ¬ (Scalar.cmpi .ne (Scalar.extui (Scalar.andi (Scalar.cmpi .eq (BitVec.ofNat 32 (i 0).val) 0#32) (Scalar.cmpi .eq (BitVec.ofNat 32 (i 1).val) 0#32)) : BitVec 32) 0#32 = 1#1)) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (X_arg25 : BufTy.Contents (Elt F) arg25.view.ty) (X_arg26 : BufTy.Contents (Elt F) arg26.view.ty) (X_arg27 : BufTy.Contents (Elt F) arg27.view.ty) :
    Σ' (C_arg13 : BufTy.Contents (Elt F) arg13.view.ty) (C_arg14 : BufTy.Contents (Elt F) arg14.view.ty) (C_arg15 : BufTy.Contents (Elt F) arg15.view.ty) (C_arg16 : BufTy.Contents (Elt F) arg16.view.ty) (C_arg17 : BufTy.Contents (Elt F) arg17.view.ty) (C_arg18 : BufTy.Contents (Elt F) arg18.view.ty) (C_arg19 : BufTy.Contents (Elt F) arg19.view.ty) (C_arg20 : BufTy.Contents (Elt F) arg20.view.ty) (C_arg21 : BufTy.Contents (Elt F) arg21.view.ty) (C_arg22 : BufTy.Contents (Elt F) arg22.view.ty) (C_arg23 : BufTy.Contents (Elt F) arg23.view.ty) (C_arg24 : BufTy.Contents (Elt F) arg24.view.ty) (C_arg25 : BufTy.Contents (Elt F) arg25.view.ty) (C_arg26 : BufTy.Contents (Elt F) arg26.view.ty),
      { C_arg27 : BufTy.Contents (Elt F) arg27.view.ty //
      (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17) ∗ (arg18.view.loc (c : Thread nD τ) ↦[arg18.view.set]{fullShare} X_arg18) ∗ (arg19.view.loc (c : Thread nD τ) ↦[arg19.view.set]{fullShare} X_arg19) ∗ (arg20.view.loc (c : Thread nD τ) ↦[arg20.view.set]{fullShare} X_arg20) ∗ (arg21.view.loc (c : Thread nD τ) ↦[arg21.view.set]{fullShare} X_arg21) ∗ (arg22.view.loc (c : Thread nD τ) ↦[arg22.view.set]{fullShare} X_arg22) ∗ (arg23.view.loc (c : Thread nD τ) ↦[arg23.view.set]{fullShare} X_arg23) ∗ (arg24.view.loc (c : Thread nD τ) ↦[arg24.view.set]{fullShare} X_arg24) ∗ (arg25.view.loc (c : Thread nD τ) ↦[arg25.view.set]{fullShare} X_arg25) ∗ (arg26.view.loc (c : Thread nD τ) ↦[arg26.view.set]{fullShare} X_arg26) ∗ (arg27.view.loc (c : Thread nD τ) ↦[arg27.view.set]{fullShare} X_arg27)) : sProp 𝕄)
      ⊢ wp frame (wpE (defs₀ (F := F)) Variants.none (c : Thread nD τ) none) Set.univ (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27)
          (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} C_arg13) ∗ (arg14.view.loc (c : Thread nD τ) ↦[arg14.view.set]{fullShare} C_arg14) ∗ (arg15.view.loc (c : Thread nD τ) ↦[arg15.view.set]{fullShare} C_arg15) ∗ (arg16.view.loc (c : Thread nD τ) ↦[arg16.view.set]{fullShare} C_arg16) ∗ (arg17.view.loc (c : Thread nD τ) ↦[arg17.view.set]{fullShare} C_arg17) ∗ (arg18.view.loc (c : Thread nD τ) ↦[arg18.view.set]{fullShare} C_arg18) ∗ (arg19.view.loc (c : Thread nD τ) ↦[arg19.view.set]{fullShare} C_arg19) ∗ (arg20.view.loc (c : Thread nD τ) ↦[arg20.view.set]{fullShare} C_arg20) ∗ (arg21.view.loc (c : Thread nD τ) ↦[arg21.view.set]{fullShare} C_arg21) ∗ (arg22.view.loc (c : Thread nD τ) ↦[arg22.view.set]{fullShare} C_arg22) ∗ (arg23.view.loc (c : Thread nD τ) ↦[arg23.view.set]{fullShare} C_arg23) ∗ (arg24.view.loc (c : Thread nD τ) ↦[arg24.view.set]{fullShare} C_arg24) ∗ (arg25.view.loc (c : Thread nD τ) ↦[arg25.view.set]{fullShare} C_arg25) ∗ (arg26.view.loc (c : Thread nD τ) ↦[arg26.view.set]{fullShare} C_arg26) ∗ (arg27.view.loc (c : Thread nD τ) ↦[arg27.view.set]{fullShare} C_arg27))) } := by
  refine ⟨?_, ?_, ?_, ?_, ?_, ?_, ?_, ?_, ?_, ?_, ?_, ?_, ?_, ?_, ?_, ?run⟩
  case run =>
    simp only [cc0_fox_bwd_eq_skeleton]
    unfold cc0_fox_bwd_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    iintro ⟨Harg2, Harg3, Harg4, Harg5, Harg6, Harg7, Harg8, Harg9, Harg10, Harg11, Harg12, Harg13, Harg14, Harg15, Harg16, Harg17, Harg18, Harg19, Harg20, Harg21, Harg22, Harg23, Harg24, Harg25, Harg26, Harg27⟩
    sl_exec
    sl_step
    isplitl [Harg2]; · iexact Harg2
    isplitl [Harg3]; · iexact Harg3
    isplitl [Harg4]; · iexact Harg4
    isplitl [Harg5]; · iexact Harg5
    isplitl [Harg6]; · iexact Harg6
    isplitl [Harg7]; · iexact Harg7
    isplitl [Harg8]; · iexact Harg8
    isplitl [Harg9]; · iexact Harg9
    isplitl [Harg10]; · iexact Harg10
    isplitl [Harg11]; · iexact Harg11
    isplitl [Harg12]; · iexact Harg12
    isplitl [Harg13]; · iexact Harg13
    isplitl [Harg14]; · iexact Harg14
    isplitl [Harg15]; · iexact Harg15
    isplitl [Harg16]; · iexact Harg16
    isplitl [Harg17]; · iexact Harg17
    isplitl [Harg18]; · iexact Harg18
    isplitl [Harg19]; · iexact Harg19
    isplitl [Harg20]; · iexact Harg20
    isplitl [Harg21]; · iexact Harg21
    isplitl [Harg22]; · iexact Harg22
    isplitl [Harg23]; · iexact Harg23
    isplitl [Harg24]; · iexact Harg24
    isplitl [Harg25]; · iexact Harg25
    isplitl [Harg26]; · iexact Harg26
    iexact Harg27

end Cert.KernelIdeal.Gen.Fox

end
-- ==== Proof.Fox.KernelIdealHead.lean ====
module

public import proofs.«01_k».proof.Proof.Fox.KernelIdealTrip
public import Idealize.ShloMosaic.Lib.Tactic

@[expose] public section

set_option maxRecDepth 16384

noncomputable section

/-!
The body at one point of the grid, at a later head: what it leaves in the buffers it writes, as functions of what all buffers
held, found by running it.
-/

namespace Cert.KernelIdeal.Gen.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 0 in
/-- The body's run at a later head. -/
@[irreducible] def bodyHead (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .smem S1x8 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .f32) (harg16 : arg16.IsWhole) (arg17 : Memref sig .tc .vmem S8x128 .f32) (harg17 : arg17.IsWhole) (arg18 : Memref sig .tc .vmem S2048x128 .bf16) (harg18 : arg18.IsWhole) (arg19 : Memref sig .tc .vmem S2048x128 .bf16) (harg19 : arg19.IsWhole) (arg20 : Memref sig .tc .vmem S2048x128 .bf16) (harg20 : arg20.IsWhole) (arg21 : Memref sig .tc .vmem S2048x128 .f32) (harg21 : arg21.IsWhole) (arg22 : Memref sig .tc .vmem S16x8x128 .f32) (harg22 : arg22.IsWhole) (arg23 : Memref sig .tc .vmem S2048x128 .bf16) (harg23 : arg23.IsWhole) (arg24 : Memref sig .tc .vmem S2048x128 .f32) (harg24 : arg24.IsWhole) (arg25 : Memref sig .tc .vmem S2048x128 .f32) (harg25 : arg25.IsWhole) (arg26 : Memref sig .tc .vmem S128x128 .f32) (harg26 : arg26.IsWhole) (arg27 : Memref sig .tc .vmem S2048x128 .f32) (harg27 : arg27.IsWhole) (C1 : ¬ (Scalar.cmpi .ne (Scalar.extui (Scalar.cmpi .eq (BitVec.ofNat 32 (i 1).val) 0#32) : BitVec 32) 0#32 = 1#1)) (C2 : ¬ (Scalar.cmpi .ne (Scalar.extui (Scalar.andi (Scalar.cmpi .eq (BitVec.ofNat 32 (i 0).val) 0#32) (Scalar.cmpi .eq (BitVec.ofNat 32 (i 1).val) 0#32)) : BitVec 32) 0#32 = 1#1)) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (X_arg25 : BufTy.Contents (Elt F) arg25.view.ty) (X_arg26 : BufTy.Contents (Elt F) arg26.view.ty) (X_arg27 : BufTy.Contents (Elt F) arg27.view.ty) :
    Σ' (C_arg13 : BufTy.Contents (Elt F) arg13.view.ty) (C_arg14 : BufTy.Contents (Elt F) arg14.view.ty) (C_arg15 : BufTy.Contents (Elt F) arg15.view.ty) (C_arg16 : BufTy.Contents (Elt F) arg16.view.ty) (C_arg17 : BufTy.Contents (Elt F) arg17.view.ty) (C_arg18 : BufTy.Contents (Elt F) arg18.view.ty) (C_arg19 : BufTy.Contents (Elt F) arg19.view.ty) (C_arg20 : BufTy.Contents (Elt F) arg20.view.ty) (C_arg21 : BufTy.Contents (Elt F) arg21.view.ty) (C_arg22 : BufTy.Contents (Elt F) arg22.view.ty) (C_arg23 : BufTy.Contents (Elt F) arg23.view.ty) (C_arg24 : BufTy.Contents (Elt F) arg24.view.ty) (C_arg25 : BufTy.Contents (Elt F) arg25.view.ty) (C_arg26 : BufTy.Contents (Elt F) arg26.view.ty),
      { C_arg27 : BufTy.Contents (Elt F) arg27.view.ty //
      (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17) ∗ (arg18.view.loc (c : Thread nD τ) ↦[arg18.view.set]{fullShare} X_arg18) ∗ (arg19.view.loc (c : Thread nD τ) ↦[arg19.view.set]{fullShare} X_arg19) ∗ (arg20.view.loc (c : Thread nD τ) ↦[arg20.view.set]{fullShare} X_arg20) ∗ (arg21.view.loc (c : Thread nD τ) ↦[arg21.view.set]{fullShare} X_arg21) ∗ (arg22.view.loc (c : Thread nD τ) ↦[arg22.view.set]{fullShare} X_arg22) ∗ (arg23.view.loc (c : Thread nD τ) ↦[arg23.view.set]{fullShare} X_arg23) ∗ (arg24.view.loc (c : Thread nD τ) ↦[arg24.view.set]{fullShare} X_arg24) ∗ (arg25.view.loc (c : Thread nD τ) ↦[arg25.view.set]{fullShare} X_arg25) ∗ (arg26.view.loc (c : Thread nD τ) ↦[arg26.view.set]{fullShare} X_arg26) ∗ (arg27.view.loc (c : Thread nD τ) ↦[arg27.view.set]{fullShare} X_arg27)) : sProp 𝕄)
      ⊢ wp frame (wpE (defs₀ (F := F)) Variants.none (c : Thread nD τ) none) Set.univ (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27)
          (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} C_arg13) ∗ (arg14.view.loc (c : Thread nD τ) ↦[arg14.view.set]{fullShare} C_arg14) ∗ (arg15.view.loc (c : Thread nD τ) ↦[arg15.view.set]{fullShare} C_arg15) ∗ (arg16.view.loc (c : Thread nD τ) ↦[arg16.view.set]{fullShare} C_arg16) ∗ (arg17.view.loc (c : Thread nD τ) ↦[arg17.view.set]{fullShare} C_arg17) ∗ (arg18.view.loc (c : Thread nD τ) ↦[arg18.view.set]{fullShare} C_arg18) ∗ (arg19.view.loc (c : Thread nD τ) ↦[arg19.view.set]{fullShare} C_arg19) ∗ (arg20.view.loc (c : Thread nD τ) ↦[arg20.view.set]{fullShare} C_arg20) ∗ (arg21.view.loc (c : Thread nD τ) ↦[arg21.view.set]{fullShare} C_arg21) ∗ (arg22.view.loc (c : Thread nD τ) ↦[arg22.view.set]{fullShare} C_arg22) ∗ (arg23.view.loc (c : Thread nD τ) ↦[arg23.view.set]{fullShare} C_arg23) ∗ (arg24.view.loc (c : Thread nD τ) ↦[arg24.view.set]{fullShare} C_arg24) ∗ (arg25.view.loc (c : Thread nD τ) ↦[arg25.view.set]{fullShare} C_arg25) ∗ (arg26.view.loc (c : Thread nD τ) ↦[arg26.view.set]{fullShare} C_arg26) ∗ (arg27.view.loc (c : Thread nD τ) ↦[arg27.view.set]{fullShare} C_arg27))) } := by
  refine ⟨?_, ?_, ?_, ?_, ?_, ?_, ?_, ?_, ?_, ?_, ?_, ?_, ?_, ?_, ?_, ?run⟩
  case run =>
    simp only [cc0_fox_bwd_eq_skeleton]
    unfold cc0_fox_bwd_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    iintro ⟨Harg2, Harg3, Harg4, Harg5, Harg6, Harg7, Harg8, Harg9, Harg10, Harg11, Harg12, Harg13, Harg14, Harg15, Harg16, Harg17, Harg18, Harg19, Harg20, Harg21, Harg22, Harg23, Harg24, Harg25, Harg26, Harg27⟩
    sl_exec
    sl_step
    isplitl [Harg2]; · iexact Harg2
    isplitl [Harg3]; · iexact Harg3
    isplitl [Harg4]; · iexact Harg4
    isplitl [Harg5]; · iexact Harg5
    isplitl [Harg6]; · iexact Harg6
    isplitl [Harg7]; · iexact Harg7
    isplitl [Harg8]; · iexact Harg8
    isplitl [Harg9]; · iexact Harg9
    isplitl [Harg10]; · iexact Harg10
    isplitl [Harg11]; · iexact Harg11
    isplitl [Harg12]; · iexact Harg12
    isplitl [Harg13]; · iexact Harg13
    isplitl [Harg14]; · iexact Harg14
    isplitl [Harg15]; · iexact Harg15
    isplitl [Harg16]; · iexact Harg16
    isplitl [Harg17]; · iexact Harg17
    isplitl [Harg18]; · iexact Harg18
    isplitl [Harg19]; · iexact Harg19
    isplitl [Harg20]; · iexact Harg20
    isplitl [Harg21]; · iexact Harg21
    isplitl [Harg22]; · iexact Harg22
    isplitl [Harg23]; · iexact Harg23
    isplitl [Harg24]; · iexact Harg24
    isplitl [Harg25]; · iexact Harg25
    isplitl [Harg26]; · iexact Harg26
    iexact Harg27

end Cert.KernelIdeal.Gen.Fox

end
-- ==== Proof.Fox.KernelIdealBody.lean ====
module

public import proofs.«01_k».proof.Proof.Gen.KernelIdeal.Frame
public import proofs.«01_k».proof.Proof.Fox.KernelIdealFirst
public import proofs.«01_k».proof.Proof.Fox.KernelIdealBatch
public import proofs.«01_k».proof.Proof.Fox.KernelIdealHead
public import Idealize.ShloMosaic.Lib.Tactic

@[expose] public section

set_option maxRecDepth 16384

noncomputable section

/-!
The kernel's body as the pipeline calls it, what it may leave in each window, and the run of the whole program.
The data of the pipeline relates what a window's buffer holds before the body to what it holds after it: an input's
contents stay, an output's are what the body's run finds from the inputs' blocks and some contents of the scratch.
-/

namespace Cert.KernelIdeal.Gen.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- At the first head of a batch entry. -/
abbrev AtHead0 (i : grid0.Coords) : Prop := Scalar.cmpi .ne (Scalar.extui (Scalar.cmpi .eq (BitVec.ofNat 32 (i 1).val) 0#32) : BitVec 32) 0#32 = 1#1
/-- At the grid's first point. -/
abbrev AtStart (i : grid0.Coords) : Prop := Scalar.cmpi .ne (Scalar.extui (Scalar.andi (Scalar.cmpi .eq (BitVec.ofNat 32 (i 0).val) 0#32) (Scalar.cmpi .eq (BitVec.ofNat 32 (i 1).val) 0#32)) : BitVec 32) 0#32 = 1#1

theorem atHead0_of_atStart (i : grid0.Coords) (h : AtStart i) : AtHead0 i := by
  unfold AtStart at h; unfold AtHead0
  revert h
  generalize Scalar.cmpi CmpIPredicate.eq (BitVec.ofNat 32 (i 0).val) 0#32 = z
  generalize Scalar.cmpi CmpIPredicate.eq (BitVec.ofNat 32 (i 1).val) 0#32 = w
  revert z w; decide

set_option maxHeartbeats 0 in
/-- The body's run at any point, by the three cases. -/
def bodyAny (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .smem S1x8 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .f32) (harg16 : arg16.IsWhole) (arg17 : Memref sig .tc .vmem S8x128 .f32) (harg17 : arg17.IsWhole) (arg18 : Memref sig .tc .vmem S2048x128 .bf16) (harg18 : arg18.IsWhole) (arg19 : Memref sig .tc .vmem S2048x128 .bf16) (harg19 : arg19.IsWhole) (arg20 : Memref sig .tc .vmem S2048x128 .bf16) (harg20 : arg20.IsWhole) (arg21 : Memref sig .tc .vmem S2048x128 .f32) (harg21 : arg21.IsWhole) (arg22 : Memref sig .tc .vmem S16x8x128 .f32) (harg22 : arg22.IsWhole) (arg23 : Memref sig .tc .vmem S2048x128 .bf16) (harg23 : arg23.IsWhole) (arg24 : Memref sig .tc .vmem S2048x128 .f32) (harg24 : arg24.IsWhole) (arg25 : Memref sig .tc .vmem S2048x128 .f32) (harg25 : arg25.IsWhole) (arg26 : Memref sig .tc .vmem S128x128 .f32) (harg26 : arg26.IsWhole) (arg27 : Memref sig .tc .vmem S2048x128 .f32) (harg27 : arg27.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (X_arg25 : BufTy.Contents (Elt F) arg25.view.ty) (X_arg26 : BufTy.Contents (Elt F) arg26.view.ty) (X_arg27 : BufTy.Contents (Elt F) arg27.view.ty) :
    Σ' (C_arg13 : BufTy.Contents (Elt F) arg13.view.ty) (C_arg14 : BufTy.Contents (Elt F) arg14.view.ty) (C_arg15 : BufTy.Contents (Elt F) arg15.view.ty) (C_arg16 : BufTy.Contents (Elt F) arg16.view.ty) (C_arg17 : BufTy.Contents (Elt F) arg17.view.ty) (C_arg18 : BufTy.Contents (Elt F) arg18.view.ty) (C_arg19 : BufTy.Contents (Elt F) arg19.view.ty) (C_arg20 : BufTy.Contents (Elt F) arg20.view.ty) (C_arg21 : BufTy.Contents (Elt F) arg21.view.ty) (C_arg22 : BufTy.Contents (Elt F) arg22.view.ty) (C_arg23 : BufTy.Contents (Elt F) arg23.view.ty) (C_arg24 : BufTy.Contents (Elt F) arg24.view.ty) (C_arg25 : BufTy.Contents (Elt F) arg25.view.ty) (C_arg26 : BufTy.Contents (Elt F) arg26.view.ty), { C_arg27 : BufTy.Contents (Elt F) arg27.view.ty // (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17) ∗ (arg18.view.loc (c : Thread nD τ) ↦[arg18.view.set]{fullShare} X_arg18) ∗ (arg19.view.loc (c : Thread nD τ) ↦[arg19.view.set]{fullShare} X_arg19) ∗ (arg20.view.loc (c : Thread nD τ) ↦[arg20.view.set]{fullShare} X_arg20) ∗ (arg21.view.loc (c : Thread nD τ) ↦[arg21.view.set]{fullShare} X_arg21) ∗ (arg22.view.loc (c : Thread nD τ) ↦[arg22.view.set]{fullShare} X_arg22) ∗ (arg23.view.loc (c : Thread nD τ) ↦[arg23.view.set]{fullShare} X_arg23) ∗ (arg24.view.loc (c : Thread nD τ) ↦[arg24.view.set]{fullShare} X_arg24) ∗ (arg25.view.loc (c : Thread nD τ) ↦[arg25.view.set]{fullShare} X_arg25) ∗ (arg26.view.loc (c : Thread nD τ) ↦[arg26.view.set]{fullShare} X_arg26) ∗ (arg27.view.loc (c : Thread nD τ) ↦[arg27.view.set]{fullShare} X_arg27)) : sProp 𝕄)
      ⊢ wp frame (wpE (defs₀ (F := F)) Variants.none (c : Thread nD τ) none) Set.univ (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27)
          (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} C_arg13) ∗ (arg14.view.loc (c : Thread nD τ) ↦[arg14.view.set]{fullShare} C_arg14) ∗ (arg15.view.loc (c : Thread nD τ) ↦[arg15.view.set]{fullShare} C_arg15) ∗ (arg16.view.loc (c : Thread nD τ) ↦[arg16.view.set]{fullShare} C_arg16) ∗ (arg17.view.loc (c : Thread nD τ) ↦[arg17.view.set]{fullShare} C_arg17) ∗ (arg18.view.loc (c : Thread nD τ) ↦[arg18.view.set]{fullShare} C_arg18) ∗ (arg19.view.loc (c : Thread nD τ) ↦[arg19.view.set]{fullShare} C_arg19) ∗ (arg20.view.loc (c : Thread nD τ) ↦[arg20.view.set]{fullShare} C_arg20) ∗ (arg21.view.loc (c : Thread nD τ) ↦[arg21.view.set]{fullShare} C_arg21) ∗ (arg22.view.loc (c : Thread nD τ) ↦[arg22.view.set]{fullShare} C_arg22) ∗ (arg23.view.loc (c : Thread nD τ) ↦[arg23.view.set]{fullShare} C_arg23) ∗ (arg24.view.loc (c : Thread nD τ) ↦[arg24.view.set]{fullShare} C_arg24) ∗ (arg25.view.loc (c : Thread nD τ) ↦[arg25.view.set]{fullShare} C_arg25) ∗ (arg26.view.loc (c : Thread nD τ) ↦[arg26.view.set]{fullShare} C_arg26) ∗ (arg27.view.loc (c : Thread nD τ) ↦[arg27.view.set]{fullShare} C_arg27))) } :=
  if C1 : AtHead0 i then
    if C2 : AtStart i then bodyFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 C1 C2 X_arg2 X_arg3 X_arg4 X_arg5 X_arg6 X_arg7 X_arg8 X_arg9 X_arg10 X_arg11 X_arg12 X_arg13 X_arg14 X_arg15 X_arg16 X_arg17 X_arg18 X_arg19 X_arg20 X_arg21 X_arg22 X_arg23 X_arg24 X_arg25 X_arg26 X_arg27
    else bodyBatch c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 C1 C2 X_arg2 X_arg3 X_arg4 X_arg5 X_arg6 X_arg7 X_arg8 X_arg9 X_arg10 X_arg11 X_arg12 X_arg13 X_arg14 X_arg15 X_arg16 X_arg17 X_arg18 X_arg19 X_arg20 X_arg21 X_arg22 X_arg23 X_arg24 X_arg25 X_arg26 X_arg27
  else bodyHead c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 C1 (fun h => C1 (atHead0_of_atStart i h)) X_arg2 X_arg3 X_arg4 X_arg5 X_arg6 X_arg7 X_arg8 X_arg9 X_arg10 X_arg11 X_arg12 X_arg13 X_arg14 X_arg15 X_arg16 X_arg17 X_arg18 X_arg19 X_arg20 X_arg21 X_arg22 X_arg23 X_arg24 X_arg25 X_arg26 X_arg27

abbrev st_arg2 (t : Fin cfg0.N) : Memref sig .tc .vmem S2048x128 .f32 := win0_0.stage (cfg0.slots t 0)
theorem hst_arg2 (t : Fin cfg0.N) : (st_arg2 t).IsWhole := hstage0_0 ((cfg0.slots t 0).cast nbuf0_0)
abbrev st_arg3 (t : Fin cfg0.N) : Memref sig .tc .vmem S2048x128 .f32 := win0_1.stage (cfg0.slots t 1)
theorem hst_arg3 (t : Fin cfg0.N) : (st_arg3 t).IsWhole := hstage0_1 ((cfg0.slots t 1).cast nbuf0_1)
abbrev st_arg4 (t : Fin cfg0.N) : Memref sig .tc .vmem S2048x128 .f32 := win0_2.stage (cfg0.slots t 2)
theorem hst_arg4 (t : Fin cfg0.N) : (st_arg4 t).IsWhole := hstage0_2 ((cfg0.slots t 2).cast nbuf0_2)
abbrev st_arg5 (t : Fin cfg0.N) : Memref sig .tc .vmem S2048x128 .f32 := win0_3.stage (cfg0.slots t 3)
theorem hst_arg5 (t : Fin cfg0.N) : (st_arg5 t).IsWhole := hstage0_3 ((cfg0.slots t 3).cast nbuf0_3)
abbrev st_arg6 (t : Fin cfg0.N) : Memref sig .tc .smem S1x8 .f32 := win0_4.stage (cfg0.slots t 4)
theorem hst_arg6 (t : Fin cfg0.N) : (st_arg6 t).IsWhole := hstage0_4 ((cfg0.slots t 4).cast nbuf0_4)
abbrev st_arg7 (t : Fin cfg0.N) : Memref sig .tc .vmem S1x128 .f32 := win0_5.stage (cfg0.slots t 5)
theorem hst_arg7 (t : Fin cfg0.N) : (st_arg7 t).IsWhole := hstage0_5 ((cfg0.slots t 5).cast nbuf0_5)
abbrev st_arg8 (t : Fin cfg0.N) : Memref sig .tc .vmem S1x128 .f32 := win0_6.stage (cfg0.slots t 6)
theorem hst_arg8 (t : Fin cfg0.N) : (st_arg8 t).IsWhole := hstage0_6 ((cfg0.slots t 6).cast nbuf0_6)
abbrev st_arg9 (t : Fin cfg0.N) : Memref sig .tc .vmem S2048x128 .f32 := win0_7.stage (cfg0.slots t 7)
theorem hst_arg9 (t : Fin cfg0.N) : (st_arg9 t).IsWhole := hstage0_7 ((cfg0.slots t 7).cast nbuf0_7)
abbrev st_arg10 (t : Fin cfg0.N) : Memref sig .tc .vmem S2048x128 .f32 := win0_8.stage (cfg0.slots t 8)
theorem hst_arg10 (t : Fin cfg0.N) : (st_arg10 t).IsWhole := hstage0_8 ((cfg0.slots t 8).cast nbuf0_8)
abbrev st_arg11 (t : Fin cfg0.N) : Memref sig .tc .vmem S2048x128 .f32 := win0_9.stage (cfg0.slots t 9)
theorem hst_arg11 (t : Fin cfg0.N) : (st_arg11 t).IsWhole := hstage0_9 ((cfg0.slots t 9).cast nbuf0_9)
abbrev st_arg12 (t : Fin cfg0.N) : Memref sig .tc .vmem S2048x128 .f32 := win0_10.stage (cfg0.slots t 10)
theorem hst_arg12 (t : Fin cfg0.N) : (st_arg12 t).IsWhole := hstage0_10 ((cfg0.slots t 10).cast nbuf0_10)
abbrev st_arg13 (t : Fin cfg0.N) : Memref sig .tc .vmem S2048x128 .bf16 := win0_11.stage (cfg0.slots t 11)
theorem hst_arg13 (t : Fin cfg0.N) : (st_arg13 t).IsWhole := hstage0_11 ((cfg0.slots t 11).cast nbuf0_11)
abbrev st_arg14 (t : Fin cfg0.N) : Memref sig .tc .vmem S2048x128 .bf16 := win0_12.stage (cfg0.slots t 12)
theorem hst_arg14 (t : Fin cfg0.N) : (st_arg14 t).IsWhole := hstage0_12 ((cfg0.slots t 12).cast nbuf0_12)
abbrev st_arg15 (t : Fin cfg0.N) : Memref sig .tc .vmem S2048x128 .bf16 := win0_13.stage (cfg0.slots t 13)
theorem hst_arg15 (t : Fin cfg0.N) : (st_arg15 t).IsWhole := hstage0_13 ((cfg0.slots t 13).cast nbuf0_13)
abbrev st_arg16 (t : Fin cfg0.N) : Memref sig .tc .vmem S2048x128 .f32 := win0_14.stage (cfg0.slots t 14)
theorem hst_arg16 (t : Fin cfg0.N) : (st_arg16 t).IsWhole := hstage0_14 ((cfg0.slots t 14).cast nbuf0_14)
abbrev st_arg17 (t : Fin cfg0.N) : Memref sig .tc .vmem S8x128 .f32 := win0_15.stage (cfg0.slots t 15)
theorem hst_arg17 (t : Fin cfg0.N) : (st_arg17 t).IsWhole := hstage0_15 ((cfg0.slots t 15).cast nbuf0_15)
abbrev st_arg18 (t : Fin cfg0.N) : Memref sig .tc .vmem S2048x128 .bf16 := Memref.whole cc0_scratch0
theorem hst_arg18 (t : Fin cfg0.N) : (st_arg18 t).IsWhole := Memref.isWhole_whole _
abbrev st_arg19 (t : Fin cfg0.N) : Memref sig .tc .vmem S2048x128 .bf16 := Memref.whole cc0_scratch1
theorem hst_arg19 (t : Fin cfg0.N) : (st_arg19 t).IsWhole := Memref.isWhole_whole _
abbrev st_arg20 (t : Fin cfg0.N) : Memref sig .tc .vmem S2048x128 .bf16 := Memref.whole cc0_scratch2
theorem hst_arg20 (t : Fin cfg0.N) : (st_arg20 t).IsWhole := Memref.isWhole_whole _
abbrev st_arg21 (t : Fin cfg0.N) : Memref sig .tc .vmem S2048x128 .f32 := Memref.whole cc0_scratch3
theorem hst_arg21 (t : Fin cfg0.N) : (st_arg21 t).IsWhole := Memref.isWhole_whole _
abbrev st_arg22 (t : Fin cfg0.N) : Memref sig .tc .vmem S16x8x128 .f32 := Memref.whole cc0_scratch4
theorem hst_arg22 (t : Fin cfg0.N) : (st_arg22 t).IsWhole := Memref.isWhole_whole _
abbrev st_arg23 (t : Fin cfg0.N) : Memref sig .tc .vmem S2048x128 .bf16 := Memref.whole cc0_scratch5
theorem hst_arg23 (t : Fin cfg0.N) : (st_arg23 t).IsWhole := Memref.isWhole_whole _
abbrev st_arg24 (t : Fin cfg0.N) : Memref sig .tc .vmem S2048x128 .f32 := Memref.whole cc0_scratch6
theorem hst_arg24 (t : Fin cfg0.N) : (st_arg24 t).IsWhole := Memref.isWhole_whole _
abbrev st_arg25 (t : Fin cfg0.N) : Memref sig .tc .vmem S2048x128 .f32 := Memref.whole cc0_scratch7
theorem hst_arg25 (t : Fin cfg0.N) : (st_arg25 t).IsWhole := Memref.isWhole_whole _
abbrev st_arg26 (t : Fin cfg0.N) : Memref sig .tc .vmem S128x128 .f32 := Memref.whole cc0_scratch8
theorem hst_arg26 (t : Fin cfg0.N) : (st_arg26 t).IsWhole := Memref.isWhole_whole _
abbrev st_arg27 (t : Fin cfg0.N) : Memref sig .tc .vmem S2048x128 .f32 := Memref.whole cc0_scratch9
theorem hst_arg27 (t : Fin cfg0.N) : (st_arg27 t).IsWhole := Memref.isWhole_whole _

set_option maxHeartbeats 0 in
/-- What every buffer of the body holds when it starts. -/
structure Held (F : FTy → Type) (t : Fin cfg0.N) where
  x_arg2 : BufTy.Contents (Elt F) (st_arg2 t).view.ty
  x_arg3 : BufTy.Contents (Elt F) (st_arg3 t).view.ty
  x_arg4 : BufTy.Contents (Elt F) (st_arg4 t).view.ty
  x_arg5 : BufTy.Contents (Elt F) (st_arg5 t).view.ty
  x_arg6 : BufTy.Contents (Elt F) (st_arg6 t).view.ty
  x_arg7 : BufTy.Contents (Elt F) (st_arg7 t).view.ty
  x_arg8 : BufTy.Contents (Elt F) (st_arg8 t).view.ty
  x_arg9 : BufTy.Contents (Elt F) (st_arg9 t).view.ty
  x_arg10 : BufTy.Contents (Elt F) (st_arg10 t).view.ty
  x_arg11 : BufTy.Contents (Elt F) (st_arg11 t).view.ty
  x_arg12 : BufTy.Contents (Elt F) (st_arg12 t).view.ty
  x_arg13 : BufTy.Contents (Elt F) (st_arg13 t).view.ty
  x_arg14 : BufTy.Contents (Elt F) (st_arg14 t).view.ty
  x_arg15 : BufTy.Contents (Elt F) (st_arg15 t).view.ty
  x_arg16 : BufTy.Contents (Elt F) (st_arg16 t).view.ty
  x_arg17 : BufTy.Contents (Elt F) (st_arg17 t).view.ty
  x_arg18 : BufTy.Contents (Elt F) (st_arg18 t).view.ty
  x_arg19 : BufTy.Contents (Elt F) (st_arg19 t).view.ty
  x_arg20 : BufTy.Contents (Elt F) (st_arg20 t).view.ty
  x_arg21 : BufTy.Contents (Elt F) (st_arg21 t).view.ty
  x_arg22 : BufTy.Contents (Elt F) (st_arg22 t).view.ty
  x_arg23 : BufTy.Contents (Elt F) (st_arg23 t).view.ty
  x_arg24 : BufTy.Contents (Elt F) (st_arg24 t).view.ty
  x_arg25 : BufTy.Contents (Elt F) (st_arg25 t).view.ty
  x_arg26 : BufTy.Contents (Elt F) (st_arg26 t).view.ty
  x_arg27 : BufTy.Contents (Elt F) (st_arg27 t).view.ty

set_option maxHeartbeats 0 in
/-- The inputs' buffers hold their blocks. -/
structure Ins (c : Dev nD) (t : Fin cfg0.N) (h : Held F t) : Prop where
  in_arg2 : (st_arg2 t).view.read (Elt F) h.x_arg2 = iblk m c 0 t
  in_arg3 : (st_arg3 t).view.read (Elt F) h.x_arg3 = iblk m c 1 t
  in_arg4 : (st_arg4 t).view.read (Elt F) h.x_arg4 = iblk m c 2 t
  in_arg5 : (st_arg5 t).view.read (Elt F) h.x_arg5 = iblk m c 3 t
  in_arg6 : (st_arg6 t).view.read (Elt F) h.x_arg6 = iblk m c 4 t
  in_arg7 : (st_arg7 t).view.read (Elt F) h.x_arg7 = iblk m c 5 t
  in_arg8 : (st_arg8 t).view.read (Elt F) h.x_arg8 = iblk m c 6 t
  in_arg9 : (st_arg9 t).view.read (Elt F) h.x_arg9 = iblk m c 7 t
  in_arg10 : (st_arg10 t).view.read (Elt F) h.x_arg10 = iblk m c 8 t
  in_arg11 : (st_arg11 t).view.read (Elt F) h.x_arg11 = iblk m c 9 t
  in_arg12 : (st_arg12 t).view.read (Elt F) h.x_arg12 = iblk m c 10 t

set_option maxHeartbeats 0 in
/-- The body's run at point `t`. -/
def bodyAtPoint (c : Dev nD) (t : Fin cfg0.N) (h : Held F t) :=
  bodyAny (F := F) c (grid0.coords t) (st_arg2 t) (hst_arg2 t) (st_arg3 t) (hst_arg3 t) (st_arg4 t) (hst_arg4 t) (st_arg5 t) (hst_arg5 t) (st_arg6 t) (hst_arg6 t) (st_arg7 t) (hst_arg7 t) (st_arg8 t) (hst_arg8 t) (st_arg9 t) (hst_arg9 t) (st_arg10 t) (hst_arg10 t) (st_arg11 t) (hst_arg11 t) (st_arg12 t) (hst_arg12 t) (st_arg13 t) (hst_arg13 t) (st_arg14 t) (hst_arg14 t) (st_arg15 t) (hst_arg15 t) (st_arg16 t) (hst_arg16 t) (st_arg17 t) (hst_arg17 t) (st_arg18 t) (hst_arg18 t) (st_arg19 t) (hst_arg19 t) (st_arg20 t) (hst_arg20 t) (st_arg21 t) (hst_arg21 t) (st_arg22 t) (hst_arg22 t) (st_arg23 t) (hst_arg23 t) (st_arg24 t) (hst_arg24 t) (st_arg25 t) (hst_arg25 t) (st_arg26 t) (hst_arg26 t) (st_arg27 t) (hst_arg27 t) h.x_arg2 h.x_arg3 h.x_arg4 h.x_arg5 h.x_arg6 h.x_arg7 h.x_arg8 h.x_arg9 h.x_arg10 h.x_arg11 h.x_arg12 h.x_arg13 h.x_arg14 h.x_arg15 h.x_arg16 h.x_arg17 h.x_arg18 h.x_arg19 h.x_arg20 h.x_arg21 h.x_arg22 h.x_arg23 h.x_arg24 h.x_arg25 h.x_arg26 h.x_arg27

set_option maxHeartbeats 0 in
/-- What the body may leave in window 11, given that it found `Y`. -/
def out11 (c : Dev nD) (t : Fin cfg0.N) (Y X : S2048x128.Idx → Elt F .bf16) : Prop :=
  ∃ h : Held F t, Ins m c t h ∧ (st_arg13 t).view.read (Elt F) h.x_arg13 = Y ∧ X = (st_arg13 t).view.read (Elt F) (bodyAtPoint c t h).1

set_option maxHeartbeats 0 in
/-- What the body may leave in window 12, given that it found `Y`. -/
def out12 (c : Dev nD) (t : Fin cfg0.N) (Y X : S2048x128.Idx → Elt F .bf16) : Prop :=
  ∃ h : Held F t, Ins m c t h ∧ (st_arg14 t).view.read (Elt F) h.x_arg14 = Y ∧ X = (st_arg14 t).view.read (Elt F) (bodyAtPoint c t h).2.1

set_option maxHeartbeats 0 in
/-- What the body may leave in window 13, given that it found `Y`. -/
def out13 (c : Dev nD) (t : Fin cfg0.N) (Y X : S2048x128.Idx → Elt F .bf16) : Prop :=
  ∃ h : Held F t, Ins m c t h ∧ (st_arg15 t).view.read (Elt F) h.x_arg15 = Y ∧ X = (st_arg15 t).view.read (Elt F) (bodyAtPoint c t h).2.2.1

set_option maxHeartbeats 0 in
/-- What the body may leave in window 14, given that it found `Y`. -/
def out14 (c : Dev nD) (t : Fin cfg0.N) (Y X : S2048x128.Idx → Elt F .f32) : Prop :=
  ∃ h : Held F t, Ins m c t h ∧ (st_arg16 t).view.read (Elt F) h.x_arg16 = Y ∧ X = (st_arg16 t).view.read (Elt F) (bodyAtPoint c t h).2.2.2.1

set_option maxHeartbeats 0 in
/-- What the body may leave in window 15, given that it found `Y`. -/
def out15 (c : Dev nD) (t : Fin cfg0.N) (Y X : S8x128.Idx → Elt F .f32) : Prop :=
  ∃ h : Held F t, Ins m c t h ∧ (st_arg17 t).view.read (Elt F) h.x_arg17 = Y ∧ X = (st_arg17 t).view.read (Elt F) (bodyAtPoint c t h).2.2.2.2.1

/-- What the body may leave in each window, given what it found there. -/
def afterRel (c : Dev nD) : (w : Fin 16) → Fin cfg0.N → ((cfg0.win w).block.Idx → Elt F (cfg0.win w).elt) → ((cfg0.win w).block.Idx → Elt F (cfg0.win w).elt) → Prop
    | 0 => fun _ Y X => X = Y
    | 1 => fun _ Y X => X = Y
    | 2 => fun _ Y X => X = Y
    | 3 => fun _ Y X => X = Y
    | 4 => fun _ Y X => X = Y
    | 5 => fun _ Y X => X = Y
    | 6 => fun _ Y X => X = Y
    | 7 => fun _ Y X => X = Y
    | 8 => fun _ Y X => X = Y
    | 9 => fun _ Y X => X = Y
    | 10 => fun _ Y X => X = Y
    | 11 => fun t Y X => out11 m c t Y X
    | 12 => fun t Y X => out12 m c t Y X
    | 13 => fun t Y X => out13 m c t Y X
    | 14 => fun t Y X => out14 m c t Y X
    | 15 => fun t Y X => out15 m c t Y X
    | ⟨_ + 16, h⟩ => absurd h (Nat.not_lt.2 (Nat.le_add_left _ _))

/-- The pipeline's data: inputs keep their contents, outputs are as the body's run leaves them. -/
def rdat (c : Dev nD) : RDat τ (Elt F) Unit ℕ (UR sig nD τ) ℕ cfg0 c where
  A w := V m c (Pipeline.arrRef spec0 w)
  after := afterRel m c
  Φ _ := Pipeline.ΦA spec0 c
  q := Pipeline.shareOf spec0
  owed _ := 0

theorem finds_in0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  rw [hd]; unfold RDat.fetched RDat.blockOf iblk; rfl
theorem finds_in1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  rw [hd]; unfold RDat.fetched RDat.blockOf iblk; rfl
theorem finds_in2 (c : Dev nD) (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  rw [hd]; unfold RDat.fetched RDat.blockOf iblk; rfl
theorem finds_in3 (c : Dev nD) (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  rw [hd]; unfold RDat.fetched RDat.blockOf iblk; rfl
theorem finds_in4 (c : Dev nD) (t : Fin cfg0.N) (Y) (h : (rdat m c).Finds 4 t Y) : Y = iblk m c 4 t := by
  obtain ⟨d, hd⟩ := (rdat m c).finds_in_eq_fetched 4 rfl (fun _ _ _ => rfl) (fun _ _ _ h => h) t Y h
  rw [hd]; unfold RDat.fetched RDat.blockOf iblk; rfl
theorem finds_in5 (c : Dev nD) (t : Fin cfg0.N) (Y) (h : (rdat m c).Finds 5 t Y) : Y = iblk m c 5 t := by
  obtain ⟨d, hd⟩ := (rdat m c).finds_in_eq_fetched 5 rfl (fun _ _ _ => rfl) (fun _ _ _ h => h) t Y h
  rw [hd]; unfold RDat.fetched RDat.blockOf iblk; rfl
theorem finds_in6 (c : Dev nD) (t : Fin cfg0.N) (Y) (h : (rdat m c).Finds 6 t Y) : Y = iblk m c 6 t := by
  obtain ⟨d, hd⟩ := (rdat m c).finds_in_eq_fetched 6 rfl (fun _ _ _ => rfl) (fun _ _ _ h => h) t Y h
  rw [hd]; unfold RDat.fetched RDat.blockOf iblk; rfl
theorem finds_in7 (c : Dev nD) (t : Fin cfg0.N) (Y) (h : (rdat m c).Finds 7 t Y) : Y = iblk m c 7 t := by
  obtain ⟨d, hd⟩ := (rdat m c).finds_in_eq_fetched 7 rfl (fun _ _ _ => rfl) (fun _ _ _ h => h) t Y h
  rw [hd]; unfold RDat.fetched RDat.blockOf iblk; rfl
theorem finds_in8 (c : Dev nD) (t : Fin cfg0.N) (Y) (h : (rdat m c).Finds 8 t Y) : Y = iblk m c 8 t := by
  obtain ⟨d, hd⟩ := (rdat m c).finds_in_eq_fetched 8 rfl (fun _ _ _ => rfl) (fun _ _ _ h => h) t Y h
  rw [hd]; unfold RDat.fetched RDat.blockOf iblk; rfl
theorem finds_in9 (c : Dev nD) (t : Fin cfg0.N) (Y) (h : (rdat m c).Finds 9 t Y) : Y = iblk m c 9 t := by
  obtain ⟨d, hd⟩ := (rdat m c).finds_in_eq_fetched 9 rfl (fun _ _ _ => rfl) (fun _ _ _ h => h) t Y h
  rw [hd]; unfold RDat.fetched RDat.blockOf iblk; rfl
theorem finds_in10 (c : Dev nD) (t : Fin cfg0.N) (Y) (h : (rdat m c).Finds 10 t Y) : Y = iblk m c 10 t := by
  obtain ⟨d, hd⟩ := (rdat m c).finds_in_eq_fetched 10 rfl (fun _ _ _ => rfl) (fun _ _ _ h => h) t Y h
  rw [hd]; unfold RDat.fetched RDat.blockOf iblk; rfl

theorem defs₀_fox (t : Fin cfg0.N) : defs₀ (F := F) .tc cfg0.body (cfg0.bodyArgs t (cfg0.slots t))
    = cc0_fox_bwd (F := F) (grid0.coords t) (st_arg2 t) (hst_arg2 t) (st_arg3 t) (hst_arg3 t) (st_arg4 t) (hst_arg4 t) (st_arg5 t) (hst_arg5 t) (st_arg6 t) (hst_arg6 t) (st_arg7 t) (hst_arg7 t) (st_arg8 t) (hst_arg8 t) (st_arg9 t) (hst_arg9 t) (st_arg10 t) (hst_arg10 t) (st_arg11 t) (hst_arg11 t) (st_arg12 t) (hst_arg12 t) (st_arg13 t) (hst_arg13 t) (st_arg14 t) (hst_arg14 t) (st_arg15 t) (hst_arg15 t) (st_arg16 t) (hst_arg16 t) (st_arg17 t) (hst_arg17 t) (st_arg18 t) (hst_arg18 t) (st_arg19 t) (hst_arg19 t) (st_arg20 t) (hst_arg20 t) (st_arg21 t) (hst_arg21 t) (st_arg22 t) (hst_arg22 t) (st_arg23 t) (hst_arg23 t) (st_arg24 t) (hst_arg24 t) (st_arg25 t) (hst_arg25 t) (st_arg26 t) (hst_arg26 t) (st_arg27 t) (hst_arg27 t) := by
  unfold defs₀; rw [Defs.onTc_tc]

theorem phi_eq (c : Dev nD) : (Pipeline.ΦA spec0 c : sProp 𝕄)
    = iprop(((∃ f, owns (c : Thread nD τ) (Memref.whole cc0_scratch0) fullShare f) ∗ (∃ f, owns (c : Thread nD τ) (Memref.whole cc0_scratch1) fullShare f) ∗ (∃ f, owns (c : Thread nD τ) (Memref.whole cc0_scratch2) fullShare f) ∗ (∃ f, owns (c : Thread nD τ) (Memref.whole cc0_scratch3) fullShare f) ∗ (∃ f, owns (c : Thread nD τ) (Memref.whole cc0_scratch4) fullShare f) ∗ (∃ f, owns (c : Thread nD τ) (Memref.whole cc0_scratch5) fullShare f) ∗ (∃ f, owns (c : Thread nD τ) (Memref.whole cc0_scratch6) fullShare f) ∗ (∃ f, owns (c : Thread nD τ) (Memref.whole cc0_scratch7) fullShare f) ∗ (∃ f, owns (c : Thread nD τ) (Memref.whole cc0_scratch8) fullShare f) ∗ (∃ f, owns (c : Thread nD τ) (Memref.whole cc0_scratch9) fullShare f)) ∗ ∃ r, prngReg c r) := by
  unfold Pipeline.ΦA; rw [scopedRest0_eq]; simp only [owns_whole]; try rfl

set_option maxHeartbeats 0 in
theorem body_obligation (c : Dev nD) : (rdat (F := F) m c).BodyObligation (defs₀ (F := F)) Variants.none () Set.univ := fun t Y hY => by
  have e0 := finds_in0 m c t (Y 0) (hY 0)
  have e1 := finds_in1 m c t (Y 1) (hY 1)
  have e2 := finds_in2 m c t (Y 2) (hY 2)
  have e3 := finds_in3 m c t (Y 3) (hY 3)
  have e4 := finds_in4 m c t (Y 4) (hY 4)
  have e5 := finds_in5 m c t (Y 5) (hY 5)
  have e6 := finds_in6 m c t (Y 6) (hY 6)
  have e7 := finds_in7 m c t (Y 7) (hY 7)
  have e8 := finds_in8 m c t (Y 8) (hY 8)
  have e9 := finds_in9 m c t (Y 9) (hY 9)
  have e10 := finds_in10 m c t (Y 10) (hY 10)
  rw [bigSep_W0, bigSep_W0, defs₀_fox]
  rw [show (rdat (F := F) m c).Φ t.succ = (rdat (F := F) m c).Φ t.castSucc from rfl,
    show (rdat (F := F) m c).owesAt () t.succ = (rdat (F := F) m c).owesAt () t.castSucc from rfl,
    show (rdat (F := F) m c).Φ t.castSucc = Pipeline.ΦA spec0 c from rfl, phi_eq]
  unfold owns
  iintro ⟨⟨⟨⟨%_, %x_arg18, -, Harg18⟩, ⟨%_, %x_arg19, -, Harg19⟩, ⟨%_, %x_arg20, -, Harg20⟩, ⟨%_, %x_arg21, -, Harg21⟩, ⟨%_, %x_arg22, -, Harg22⟩, ⟨%_, %x_arg23, -, Harg23⟩, ⟨%_, %x_arg24, -, Harg24⟩, ⟨%_, %x_arg25, -, Harg25⟩, ⟨%_, %x_arg26, -, Harg26⟩, ⟨%_, %x_arg27, -, Harg27⟩⟩, HR⟩, HO, ⟨%x_arg2, %r_arg2, Harg2⟩, ⟨%x_arg3, %r_arg3, Harg3⟩, ⟨%x_arg4, %r_arg4, Harg4⟩, ⟨%x_arg5, %r_arg5, Harg5⟩, ⟨%x_arg6, %r_arg6, Harg6⟩, ⟨%x_arg7, %r_arg7, Harg7⟩, ⟨%x_arg8, %r_arg8, Harg8⟩, ⟨%x_arg9, %r_arg9, Harg9⟩, ⟨%x_arg10, %r_arg10, Harg10⟩, ⟨%x_arg11, %r_arg11, Harg11⟩, ⟨%x_arg12, %r_arg12, Harg12⟩, ⟨%x_arg13, %r_arg13, Harg13⟩, ⟨%x_arg14, %r_arg14, Harg14⟩, ⟨%x_arg15, %r_arg15, Harg15⟩, ⟨%x_arg16, %r_arg16, Harg16⟩, ⟨%x_arg17, %r_arg17, Harg17⟩⟩
  have hi : Ins m c t ⟨x_arg2, x_arg3, x_arg4, x_arg5, x_arg6, x_arg7, x_arg8, x_arg9, x_arg10, x_arg11, x_arg12, x_arg13, x_arg14, x_arg15, x_arg16, x_arg17, x_arg18, x_arg19, x_arg20, x_arg21, x_arg22, x_arg23, x_arg24, x_arg25, x_arg26, x_arg27⟩ :=
    ⟨r_arg2.trans e0, r_arg3.trans e1, r_arg4.trans e2, r_arg5.trans e3, r_arg6.trans e4, r_arg7.trans e5, r_arg8.trans e6, r_arg9.trans e7, r_arg10.trans e8, r_arg11.trans e9, r_arg12.trans e10⟩
  iapply (wp_wand_r Idealize.ShloMosaic.frame (wpE (defs₀ (F := F)) Variants.none (c : Thread nD τ) none) Set.univ)
  isplitl [Harg2 Harg3 Harg4 Harg5 Harg6 Harg7 Harg8 Harg9 Harg10 Harg11 Harg12 Harg13 Harg14 Harg15 Harg16 Harg17 Harg18 Harg19 Harg20 Harg21 Harg22 Harg23 Harg24 Harg25 Harg26 Harg27]
  · iapply ((bodyAtPoint c t ⟨x_arg2, x_arg3, x_arg4, x_arg5, x_arg6, x_arg7, x_arg8, x_arg9, x_arg10, x_arg11, x_arg12, x_arg13, x_arg14, x_arg15, x_arg16, x_arg17, x_arg18, x_arg19, x_arg20, x_arg21, x_arg22, x_arg23, x_arg24, x_arg25, x_arg26, x_arg27⟩).2.2.2.2.2.2.2.2.2.2.2.2.2.2.2)
    isplitl [Harg2]; · iexact Harg2
    isplitl [Harg3]; · iexact Harg3
    isplitl [Harg4]; · iexact Harg4
    isplitl [Harg5]; · iexact Harg5
    isplitl [Harg6]; · iexact Harg6
    isplitl [Harg7]; · iexact Harg7
    isplitl [Harg8]; · iexact Harg8
    isplitl [Harg9]; · iexact Harg9
    isplitl [Harg10]; · iexact Harg10
    isplitl [Harg11]; · iexact Harg11
    isplitl [Harg12]; · iexact Harg12
    isplitl [Harg13]; · iexact Harg13
    isplitl [Harg14]; · iexact Harg14
    isplitl [Harg15]; · iexact Harg15
    isplitl [Harg16]; · iexact Harg16
    isplitl [Harg17]; · iexact Harg17
    isplitl [Harg18]; · iexact Harg18
    isplitl [Harg19]; · iexact Harg19
    isplitl [Harg20]; · iexact Harg20
    isplitl [Harg21]; · iexact Harg21
    isplitl [Harg22]; · iexact Harg22
    isplitl [Harg23]; · iexact Harg23
    isplitl [Harg24]; · iexact Harg24
    isplitl [Harg25]; · iexact Harg25
    isplitl [Harg26]; · iexact Harg26
    iexact Harg27
  · iintro %_ ⟨Harg2, Harg3, Harg4, Harg5, Harg6, Harg7, Harg8, Harg9, Harg10, Harg11, Harg12, Harg13, Harg14, Harg15, Harg16, Harg17, Harg18, Harg19, Harg20, Harg21, Harg22, Harg23, Harg24, Harg25, Harg26, Harg27⟩
    isplitl [Harg18 Harg19 Harg20 Harg21 Harg22 Harg23 Harg24 Harg25 Harg26 Harg27 HR]
    · isplitl [Harg18 Harg19 Harg20 Harg21 Harg22 Harg23 Harg24 Harg25 Harg26 Harg27]
      · isplitl [Harg18]; · (iexists _, _; isplitr; swap; (iexact Harg18); ipureintro; rfl)
        isplitl [Harg19]; · (iexists _, _; isplitr; swap; (iexact Harg19); ipureintro; rfl)
        isplitl [Harg20]; · (iexists _, _; isplitr; swap; (iexact Harg20); ipureintro; rfl)
        isplitl [Harg21]; · (iexists _, _; isplitr; swap; (iexact Harg21); ipureintro; rfl)
        isplitl [Harg22]; · (iexists _, _; isplitr; swap; (iexact Harg22); ipureintro; rfl)
        isplitl [Harg23]; · (iexists _, _; isplitr; swap; (iexact Harg23); ipureintro; rfl)
        isplitl [Harg24]; · (iexists _, _; isplitr; swap; (iexact Harg24); ipureintro; rfl)
        isplitl [Harg25]; · (iexists _, _; isplitr; swap; (iexact Harg25); ipureintro; rfl)
        isplitl [Harg26]; · (iexists _, _; isplitr; swap; (iexact Harg26); ipureintro; rfl)
        iexists _, _; isplitr; swap; (iexact Harg27)
        ipureintro; rfl
      · iexact HR
    isplitl [HO]; · iexact HO
    isplitl [Harg2]; · (iexists Y 0; isplitr; (ipureintro; rfl); iexists x_arg2; isplitr; (ipureintro; exact r_arg2); iexact Harg2)
    isplitl [Harg3]; · (iexists Y 1; isplitr; (ipureintro; rfl); iexists x_arg3; isplitr; (ipureintro; exact r_arg3); iexact Harg3)
    isplitl [Harg4]; · (iexists Y 2; isplitr; (ipureintro; rfl); iexists x_arg4; isplitr; (ipureintro; exact r_arg4); iexact Harg4)
    isplitl [Harg5]; · (iexists Y 3; isplitr; (ipureintro; rfl); iexists x_arg5; isplitr; (ipureintro; exact r_arg5); iexact Harg5)
    isplitl [Harg6]; · (iexists Y 4; isplitr; (ipureintro; rfl); iexists x_arg6; isplitr; (ipureintro; exact r_arg6); iexact Harg6)
    isplitl [Harg7]; · (iexists Y 5; isplitr; (ipureintro; rfl); iexists x_arg7; isplitr; (ipureintro; exact r_arg7); iexact Harg7)
    isplitl [Harg8]; · (iexists Y 6; isplitr; (ipureintro; rfl); iexists x_arg8; isplitr; (ipureintro; exact r_arg8); iexact Harg8)
    isplitl [Harg9]; · (iexists Y 7; isplitr; (ipureintro; rfl); iexists x_arg9; isplitr; (ipureintro; exact r_arg9); iexact Harg9)
    isplitl [Harg10]; · (iexists Y 8; isplitr; (ipureintro; rfl); iexists x_arg10; isplitr; (ipureintro; exact r_arg10); iexact Harg10)
    isplitl [Harg11]; · (iexists Y 9; isplitr; (ipureintro; rfl); iexists x_arg11; isplitr; (ipureintro; exact r_arg11); iexact Harg11)
    isplitl [Harg12]; · (iexists Y 10; isplitr; (ipureintro; rfl); iexists x_arg12; isplitr; (ipureintro; exact r_arg12); iexact Harg12)
    isplitl [Harg13]; · (iexists _; isplitr; swap; (iexists _; isplitr; swap; iexact Harg13; ipureintro; rfl); ipureintro; exact ⟨_, hi, r_arg13, rfl⟩)
    isplitl [Harg14]; · (iexists _; isplitr; swap; (iexists _; isplitr; swap; iexact Harg14; ipureintro; rfl); ipureintro; exact ⟨_, hi, r_arg14, rfl⟩)
    isplitl [Harg15]; · (iexists _; isplitr; swap; (iexists _; isplitr; swap; iexact Harg15; ipureintro; rfl); ipureintro; exact ⟨_, hi, r_arg15, rfl⟩)
    isplitl [Harg16]; · (iexists _; isplitr; swap; (iexists _; isplitr; swap; iexact Harg16; ipureintro; rfl); ipureintro; exact ⟨_, hi, r_arg16, rfl⟩)
    iexists _; isplitr; swap; (iexists _; isplitr; swap; iexact Harg17; ipureintro; rfl); ipureintro; exact ⟨_, hi, r_arg17, rfl⟩

set_option maxHeartbeats 0 in
set_option backward.isDefEq.respectTransparency.types false in
/-- Every run ends, with each window's array as the data allow and every other buffer as the region found it. -/
theorem run_main :
    θ_run defs (onTc (τ := τ) (main (F := F))) (s₀ m ρ) (fun r => Pipeline.RDat.FramePost (cfgs 0) (fun c => rdat m c) (V m) r ∧ r.2.sem = fun _ => 0) :=
  Pipeline.RDat.θ_run_frame_track_shared cfgs (0 : Fin 1) launch₀0 defs₀ Variants.none (fun c => rdat m c) m ρ main
    (hbody := fun c => body_obligation m c) (hq := fun _ _ _ => rfl)
    (howed := fun _ _ => rfl) (V := V m) (hmain := hmain m Variants.none) (hA := fun _ _ => rfl)
    (hin := fun _ => .rfl) (hout := fun _ => .rfl) (Q' := fun r => Pipeline.RDat.FramePost (cfgs 0) (fun c => rdat m c) (V m) r ∧ r.2.sem = fun _ => 0) (hQ' := fun _ h => h)

end Cert.KernelIdeal.Gen.Fox

end
-- ==== Proof.Fox.KernelIdealFrame.lean ====
module

public import proofs.«01_k».proof.Proof.Fox.KernelIdealBody

@[expose] public section

noncomputable section

namespace Cert.KernelIdeal.Gen.Fox

open Cert.KernelIdeal Cert.KernelIdeal.Gen
open Idealize.ShloMosaic Idealize.ShloMosaic.TcCoe Idealize.SL.Sem

variable {F : FTy → Type} [FloatOps F] [Named F] (m : (ℓ : Loc nD τ sig) → Buf (Elt F) ℓ) (ρ : Dev nD → PrngReg)

/-- An input window's array ends as the region found it. -/
theorem in_kept (c : Dev nD) (w : Fin 16) (h : (cfg0.win w).isOut = false) (r : PUnit × MemSt nD τ sig (Elt F))
    (hr : Pipeline.RDat.FramePost (cfgs 0) (fun c => rdat m c) (V m) r) :
    r.2.mem ((c : Thread nD τ).loc (Pipeline.arrRef spec0 w)) = V m c (Pipeline.arrRef spec0 w) := by
  have h1 := (hr c).1 w
  rw [(rdat m c).ArrAt_in w h] at h1
  exact h1

/-- The frame: the arguments end unchanged and every counter at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) ∧ r.2.sem = fun _ => 0) :=
  (θ_run defs _ _).mono (fun r h => ⟨fun c => ⟨(in_kept m c 2 rfl r h.1).trans (V_main_arg0 m c), (in_kept m c 3 rfl r h.1).trans (V_main_arg1 m c), (in_kept m c 4 rfl r h.1).trans (V_main_arg2 m c), (in_kept m c 5 rfl r h.1).trans (V_main_arg3 m c), (in_kept m c 6 rfl r h.1).trans (V_main_arg4 m c), (in_kept m c 7 rfl r h.1).trans (V_main_arg5 m c), (in_kept m c 10 rfl r h.1).trans (V_main_arg6 m c)⟩, h.2⟩) (run_main m ρ)

end Cert.KernelIdeal.Gen.Fox

end
-- ==== Proof.Products.Dw.lean ====
module

public import proofs.«01_k».proof.Proof.Gen.DwIdeal.Value
public import proofs.«01_k».proof.Proof.Gen.DwRefIdeal.Read
public import Idealize.ShloMosaic.Lib.Pipeline.ValueKit

/-! The gradient of a product with respect to its right factor, `xᵀ · dy`: the result is one block.
A run of two points forms one block, each contracting half of the 4096 rows. -/

@[expose] public section

set_option maxRecDepth 16384

noncomputable section

namespace Cert.DwIdeal.Value

open Cert.DwIdeal Cert.DwIdeal.Gen Idealize.ShloMosaic Idealize.ShloMosaic.TcCoe Idealize.SL.Sem
open Idealize.ShloMosaic.ValueIdx
open Cert.DwRefIdeal.Read

variable (m : (ℓ : Loc nD τ sig) → Buf (Elt Ideal) ℓ)

/-- The blocks the windows show at each grid point. -/
theorem idx : ∀ t : Fin cfg0.N, win0_0.index t = ![t.val, 0] ∧ win0_1.index t = ![t.val, 0] ∧ win0_2.index t = ![0, 0] :=
  (by decide +kernel : ∀ t : Fin grid0.N, _)

/-- The sum over both halves of the contracted axis is the sum over the whole of it. -/
theorem halves (f : Fin 4096 → EReal) :
    (∑ k : Fin 2048, f ⟨k.val, by omega⟩) + ∑ k : Fin 2048, f ⟨2048 + k.val, by omega⟩ = ∑ k : Fin 4096, f k :=
  (Fin.sum_univ_add (a := 2048) (b := 2048) f).symm

/-- What the last point of a run stores at an entry of its block, the point before having stored the product of the
first halves, is the reference's entry at the block's place. -/
theorem point (c : Dev nD) (t s : Fin cfg0.N) (ht : t.val % 2 = 1) (hs : s.val = t.val - 1) (y : S1024x1024.Idx) :
    k0_pay4 (F := Ideal) (k0_pay3 (F := Ideal) (iblk m c 0 t) (iblk m c 1 t) (k0_pay2 (F := Ideal) (iblk m c 0 s) (iblk m c 1 s))) y
      = val_main_v6 (F := Ideal) (m ((c : Thread nD τ).loc main_arg0)) (m ((c : Thread nD τ).loc main_arg1))
          (((cfg0.win 2).blk t).view.emb y) := by
  pointwise [k0_pay1, k0_pay2, k0_pay3, k0_pay4, val_main_v6, val_main_v5, val_main_v4, val_main_v3, val_main_v0]
  rw [← halves]
  refine congrArg₂ (· + ·) (Fin.sum_fin_congr fun k => ?_) (Fin.sum_fin_congr fun k => ?_)
  all_goals refine Eq.trans ?_ (mul_comm _ _)
  all_goals blk_point [iblk, V, idx t, idx s]

/-- The result array after the run. -/
theorem final (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  have hlt : t.val - 1 < cfg0.N := lt_of_le_of_lt (Nat.sub_le _ _) t.isLt
  blk_simp
  rw [after0_2, outsAt0_B m c t (by omega) ht ht]
  dsimp only
  rw [outsAt0_A m c ⟨t.val - 1, hlt⟩ (by show (t.val - 1) % 2 = 0; omega) (by show ¬(t.val - 1) % 2 = 1; omega)
    (by show ¬(t.val - 1) % 2 = 1; omega)]
  frame_out
  exact (congrArg (fun z => k0_pay4 (F := Ideal) (k0_pay3 (F := Ideal) (iblk m c 0 t) (iblk m c 1 t) z) y) ((Memref.isWhole_whole cc0_scratch0).read_unread _)).trans
    (point m c t ⟨t.val - 1, hlt⟩ ht rfl y)

end Cert.DwIdeal.Value

end
-- ==== Proof.Products.Dx.lean ====
module

public import proofs.«01_k».proof.Proof.Gen.DxIdeal.Value
public import proofs.«01_k».proof.Proof.Gen.DxRefIdeal.Read
public import Idealize.ShloMosaic.Lib.Pipeline.ValueKit

/-! The gradient of a product with respect to its left factor, `dy · wᵀ`: each of the four grid points
writes 1024 rows of the result, over the whole of `w`. -/

@[expose] public section

set_option maxRecDepth 16384

noncomputable section

namespace Cert.DxIdeal.Value

open Cert.DxIdeal Cert.DxIdeal.Gen Idealize.ShloMosaic Idealize.ShloMosaic.TcCoe Idealize.SL.Sem
open Cert.DxRefIdeal.Read (val_main_v4)

variable (m : (ℓ : Loc nD τ sig) → Buf (Elt Ideal) ℓ)

/-- The blocks the windows show at each grid point. -/
theorem idx : ∀ t : Fin cfg0.N, win0_0.index t = ![t.val, 0] ∧ win0_1.index t = ![0, 0] ∧ win0_2.index t = ![t.val, 0] :=
  (by decide +kernel : ∀ t : Fin grid0.N, _)

/-- What a point stores at an entry of its block is the reference's entry at the block's place. -/
theorem point (c : Dev nD) (t : Fin cfg0.N) (y : S1024x1024.Idx) :
    k0_pay1 (F := Ideal) (iblk m c 0 t) (iblk m c 1 t) y
      = val_main_v4 (F := Ideal) (m ((c : Thread nD τ).loc main_arg0)) (m ((c : Thread nD τ).loc main_arg1))
          (((cfg0.win 2).blk t).view.emb y) := by
  pointwise [k0_pay1, val_main_v4, Cert.DxRefIdeal.Read.val_main_v3, Cert.DxRefIdeal.Read.val_main_v0]
  blk_point [iblk, V, idx t]

/-- The result array after the run. -/
theorem final (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.DxIdeal.Value

end
-- ==== Proof.Products.Dup.lean ====
module

public import proofs.«01_k».proof.Proof.Gen.DupIdeal.Value
public import proofs.«01_k».proof.Proof.Gen.DupRefIdeal.Read
public import Idealize.ShloMosaic.Lib.Pipeline.ValueKit

/-! The gradient of the squared-relu MLP with respect to its pre-activation, `(d_out · w_downᵀ) · 2 max(up, 0)`: each
grid point writes one of the sixteen blocks of the result. -/

@[expose] public section

set_option maxRecDepth 16384

noncomputable section

namespace Cert.DupIdeal.Value

open Cert.DupIdeal Cert.DupIdeal.Gen Idealize.ShloMosaic Idealize.ShloMosaic.TcCoe Idealize.SL.Sem
open Idealize.ShloMosaic.ValueIdx
open Cert.DupRefIdeal.Read

variable (m : (ℓ : Loc nD τ sig) → Buf (Elt Ideal) ℓ)

/-- The blocks the windows show at each grid point. -/
theorem idx : ∀ t : Fin cfg0.N, win0_0.index t = ![t.val / 4, 0] ∧ win0_1.index t = ![t.val % 4, 0] ∧ win0_2.index t = ![t.val / 4, t.val % 4] ∧ win0_3.index t = ![t.val / 4, t.val % 4] :=
  (by decide +kernel : ∀ t : Fin grid0.N, _)

/-- What a point stores at an entry of its block is the reference's entry at the block's place: where the forward
value is not positive both are zero. -/
theorem point (c : Dev nD) (t : Fin cfg0.N) (y : S1024x1024.Idx) :
    k0_pay1 (F := Ideal) (iblk m c 0 t) (iblk m c 1 t) (iblk m c 2 t) y
      = val_main_v15 (F := Ideal) (m ((c : Thread nD τ).loc main_arg0)) (m ((c : Thread nD τ).loc main_arg1)) (m ((c : Thread nD τ).loc main_arg2))
          (((cfg0.win 3).blk t).view.emb y) := by
  pointwise [k0_pay1, val_main_v15, val_main_v14, val_main_v13, val_main_cst_2, val_main_v12, val_main_v11, val_main_v10, val_main_v8, val_main_v7,
    val_main_cst_1, val_main_v4, val_main_v3, val_main_cst, val_main_v2, val_main_call0_v0, val_main_call0_cst, val_main_v1, val_main_v0]
  blk_point [iblk, V, idx t]
  rename_i h _
  have e : V m c main_arg2 ((win0_2.blk t).view.emb y) = m ((c : Thread nD τ).loc main_arg2) (((cfg0.win 3).blk t).view.emb y) := by
    blk_ext [V, idx t]
  rw [e]
  refine Eq.symm ((congrArg (_ * ·) ((congrArg (_ * ·) (max_eq_right (not_lt.1 h))).trans (mul_zero _))).trans (mul_zero _))

/-- The result array after the run. -/
theorem final (c : Dev nD) : (dats m 0 c).arrAt 3 (cfgs 0).N
    = val_main_v15 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.DupIdeal.Value

end
-- ==== Proof.Products.DwUp.lean ====
module

public import proofs.«01_k».proof.Proof.Gen.DwUpIdeal.Value
public import proofs.«01_k».proof.Proof.Gen.DwUpRefIdeal.Read
public import Idealize.ShloMosaic.Lib.Pipeline.ValueKit

/-! The gradient of a product with respect to its right factor, `xᵀ · dy`: the result is a row of four blocks.
A run of two points forms one block, each contracting half of the 4096 rows. -/

@[expose] public section

set_option maxRecDepth 16384

noncomputable section

namespace Cert.DwUpIdeal.Value

open Cert.DwUpIdeal Cert.DwUpIdeal.Gen Idealize.ShloMosaic Idealize.ShloMosaic.TcCoe Idealize.SL.Sem
open Idealize.ShloMosaic.ValueIdx
open Cert.DwUpRefIdeal.Read

variable (m : (ℓ : Loc nD τ sig) → Buf (Elt Ideal) ℓ)

/-- The blocks the windows show at each grid point. -/
theorem idx : ∀ t : Fin cfg0.N, win0_0.index t = ![t.val % 2, 0] ∧ win0_1.index t = ![t.val % 2, t.val / 2] ∧ win0_2.index t = ![0, t.val / 2] :=
  (by decide +kernel : ∀ t : Fin grid0.N, _)

/-- The sum over both halves of the contracted axis is the sum over the whole of it. -/
theorem halves (f : Fin 4096 → EReal) :
    (∑ k : Fin 2048, f ⟨k.val, by omega⟩) + ∑ k : Fin 2048, f ⟨2048 + k.val, by omega⟩ = ∑ k : Fin 4096, f k :=
  (Fin.sum_univ_add (a := 2048) (b := 2048) f).symm

/-- What the last point of a run stores at an entry of its block, the point before having stored the product of the
first halves, is the reference's entry at the block's place. -/
theorem point (c : Dev nD) (t s : Fin cfg0.N) (ht : t.val % 2 = 1) (hs : s.val = t.val - 1) (y : S1024x1024.Idx) :
    k0_pay4 (F := Ideal) (k0_pay3 (F := Ideal) (iblk m c 0 t) (iblk m c 1 t) (k0_pay2 (F := Ideal) (iblk m c 0 s) (iblk m c 1 s))) y
      = val_main_v6 (F := Ideal) (m ((c : Thread nD τ).loc main_arg0)) (m ((c : Thread nD τ).loc main_arg1))
          (((cfg0.win 2).blk t).view.emb y) := by
  pointwise [k0_pay1, k0_pay2, k0_pay3, k0_pay4, val_main_v6, val_main_v5, val_main_v4, val_main_v3, val_main_v0]
  rw [← halves]
  refine congrArg₂ (· + ·) (Fin.sum_fin_congr fun k => ?_) (Fin.sum_fin_congr fun k => ?_)
  all_goals refine Eq.trans ?_ (mul_comm _ _)
  all_goals blk_point [iblk, V, idx t, idx s]

/-- The result array after the run. -/
theorem final (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  have hlt : t.val - 1 < cfg0.N := lt_of_le_of_lt (Nat.sub_le _ _) t.isLt
  blk_simp
  rw [after0_2, outsAt0_B m c t (by omega) ht ht]
  dsimp only
  rw [outsAt0_A m c ⟨t.val - 1, hlt⟩ (by show (t.val - 1) % 2 = 0; omega) (by show ¬(t.val - 1) % 2 = 1; omega)
    (by show ¬(t.val - 1) % 2 = 1; omega)]
  frame_out
  exact (congrArg (fun z => k0_pay4 (F := Ideal) (k0_pay3 (F := Ideal) (iblk m c 0 t) (iblk m c 1 t) z) y) ((Memref.isWhole_whole cc0_scratch0).read_unread _)).trans
    (point m c t ⟨t.val - 1, hlt⟩ ht rfl y)

end Cert.DwUpIdeal.Value

end
-- ==== Proof.Products.DwDown.lean ====
module

public import proofs.«01_k».proof.Proof.Gen.DwDownIdeal.Value
public import proofs.«01_k».proof.Proof.Gen.DwDownRefIdeal.Read
public import Idealize.ShloMosaic.Lib.Pipeline.ValueKit

/-! The gradient of a product with respect to its right factor, `xᵀ · dy`: the result is a column of four blocks.
A run of two points forms one block, each contracting half of the 4096 rows. -/

@[expose] public section

set_option maxRecDepth 16384

noncomputable section

namespace Cert.DwDownIdeal.Value

open Cert.DwDownIdeal Cert.DwDownIdeal.Gen Idealize.ShloMosaic Idealize.ShloMosaic.TcCoe Idealize.SL.Sem
open Idealize.ShloMosaic.ValueIdx
open Cert.DwDownRefIdeal.Read

variable (m : (ℓ : Loc nD τ sig) → Buf (Elt Ideal) ℓ)

/-- The blocks the windows show at each grid point. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

/-- The sum over both halves of the contracted axis is the sum over the whole of it. -/
theorem halves (f : Fin 4096 → EReal) :
    (∑ k : Fin 2048, f ⟨k.val, by omega⟩) + ∑ k : Fin 2048, f ⟨2048 + k.val, by omega⟩ = ∑ k : Fin 4096, f k :=
  (Fin.sum_univ_add (a := 2048) (b := 2048) f).symm

/-- What the last point of a run stores at an entry of its block, the point before having stored the product of the
first halves, is the reference's entry at the block's place. -/
theorem point (c : Dev nD) (t s : Fin cfg0.N) (ht : t.val % 2 = 1) (hs : s.val = t.val - 1) (y : S1024x1024.Idx) :
    k0_pay4 (F := Ideal) (k0_pay3 (F := Ideal) (iblk m c 0 t) (iblk m c 1 t) (k0_pay2 (F := Ideal) (iblk m c 0 s) (iblk m c 1 s))) y
      = val_main_v6 (F := Ideal) (m ((c : Thread nD τ).loc main_arg0)) (m ((c : Thread nD τ).loc main_arg1))
          (((cfg0.win 2).blk t).view.emb y) := by
  pointwise [k0_pay1, k0_pay2, k0_pay3, k0_pay4, val_main_v6, val_main_v5, val_main_v4, val_main_v3, val_main_v0]
  rw [← halves]
  refine congrArg₂ (· + ·) (Fin.sum_fin_congr fun k => ?_) (Fin.sum_fin_congr fun k => ?_)
  all_goals refine Eq.trans ?_ (mul_comm _ _)
  all_goals blk_point [iblk, V, idx t, idx s]

/-- The result array after the run. -/
theorem final (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  have hlt : t.val - 1 < cfg0.N := lt_of_le_of_lt (Nat.sub_le _ _) t.isLt
  blk_simp
  rw [after0_2, outsAt0_B m c t (by omega) ht ht]
  dsimp only
  rw [outsAt0_A m c ⟨t.val - 1, hlt⟩ (by show (t.val - 1) % 2 = 0; omega) (by show ¬(t.val - 1) % 2 = 1; omega)
    (by show ¬(t.val - 1) % 2 = 1; omega)]
  frame_out
  exact (congrArg (fun z => k0_pay4 (F := Ideal) (k0_pay3 (F := Ideal) (iblk m c 0 t) (iblk m c 1 t) z) y) ((Memref.isWhole_whole cc0_scratch0).read_unread _)).trans
    (point m c t ⟨t.val - 1, hlt⟩ ht rfl y)

end Cert.DwDownIdeal.Value

end
-- ==== Proof.Products.Dhn.lean ====
module

public import proofs.«01_k».proof.Proof.Gen.DhnIdeal.Value
public import proofs.«01_k».proof.Proof.Gen.DhnRefIdeal.Read
public import Idealize.ShloMosaic.Lib.Pipeline.ValueKit

/-! The gradient of the up projection of the MLP with respect to its input, `dy · wᵀ`: the result is a column of four
blocks. A run of two points forms one block, each contracting half of the 4096 columns. -/

@[expose] public section

set_option maxRecDepth 16384

noncomputable section

namespace Cert.DhnIdeal.Value

open Cert.DhnIdeal Cert.DhnIdeal.Gen Idealize.ShloMosaic Idealize.ShloMosaic.TcCoe Idealize.SL.Sem
open Idealize.ShloMosaic.ValueIdx
open Cert.DhnRefIdeal.Read

variable (m : (ℓ : Loc nD τ sig) → Buf (Elt Ideal) ℓ)

/-- The blocks the windows show at each grid point. -/
theorem idx : ∀ t : Fin cfg0.N, win0_0.index t = ![t.val / 2, t.val % 2] ∧ win0_1.index t = ![0, t.val % 2] ∧ win0_2.index t = ![t.val / 2, 0] :=
  (by decide +kernel : ∀ t : Fin grid0.N, _)

/-- The sum over both halves of the contracted axis is the sum over the whole of it. -/
theorem halves (f : Fin 4096 → EReal) :
    (∑ k : Fin 2048, f ⟨k.val, by omega⟩) + ∑ k : Fin 2048, f ⟨2048 + k.val, by omega⟩ = ∑ k : Fin 4096, f k :=
  (Fin.sum_univ_add (a := 2048) (b := 2048) f).symm

/-- What the last point of a run stores at an entry of its block, the point before having stored the product of the
first halves, is the reference's entry at the block's place. -/
theorem point (c : Dev nD) (t s : Fin cfg0.N) (ht : t.val % 2 = 1) (hs : s.val = t.val - 1) (y : S1024x1024.Idx) :
    k0_pay3 (F := Ideal) (iblk m c 0 t) (iblk m c 1 t) (k0_pay2 (F := Ideal) (iblk m c 0 s) (iblk m c 1 s)) y
      = val_main_v4 (F := Ideal) (m ((c : Thread nD τ).loc main_arg0)) (m ((c : Thread nD τ).loc main_arg1))
          (((cfg0.win 2).blk t).view.emb y) := by
  pointwise [k0_pay1, k0_pay2, k0_pay3, val_main_v4, val_main_v3, val_main_v0]
  rw [← halves]
  blk_point [iblk, V, idx t, idx s]

/-- The result array after the run. -/
theorem final (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  have hlt : t.val - 1 < cfg0.N := lt_of_le_of_lt (Nat.sub_le _ _) t.isLt
  blk_simp
  rw [after0_2, outsAt0_B m c t (by omega) ht ht]
  dsimp only
  rw [outsAt0_A m c ⟨t.val - 1, hlt⟩ (by show (t.val - 1) % 2 = 0; omega) (by show ¬(t.val - 1) % 2 = 1; omega)
    (by show ¬(t.val - 1) % 2 = 1; omega)]
  frame_out
  exact (congrArg (fun z => k0_pay3 (F := Ideal) (iblk m c 0 t) (iblk m c 1 t) z y) ((Memref.isWhole_whole cc0_scratch0).read_unread _)).trans
    (point m c t ⟨t.val - 1, hlt⟩ ht rfl y)

end Cert.DhnIdeal.Value

end
-- ==== Proof.Products.DuFacts.lean ====
module

public import proofs.«01_k».proof.Proof.Gen.DuIdeal.Frame
public import proofs.«01_k».proof.Proof.Gen.DuIdeal.Skeleton
public import Idealize.ShloMosaic.Lib.WritesUnit
public import Idealize.ShloMosaic.Lib.VecWindow
public import Idealize.ShloMosaic.Lib.Pipeline.ValueKit
public import Idealize.ShloMosaic.Lib.Tactic

@[expose] public section

set_option maxRecDepth 16384

noncomputable section

/-!
What the body does at a point of each segment: the point's row block of the accumulator gains the segment's product,
the other row blocks stay, and in the last segment the row block is handed out.
-/

namespace Cert.DuIdeal.Gen.Seg

open Cert.DuIdeal Cert.DuIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- An index of row block `b` as one of the accumulator. -/
def rowIdx (b : Fin 8) (y : S512x1024.Idx) : S4096x1024.Idx :=
  Idealize.ShloMosaic.ix2 (n0 := 4096) (n1 := 1024) ⟨512 * b.val + (y 0).val, by have h : (y 0).val < 512 := (y 0).isLt; omega⟩ ⟨(y 1).val, (y 1).isLt⟩

/-- Row block `b` of the accumulator. -/
def rows (x : S4096x1024.Idx → Elt F .f32) (b : Fin 8) : S512x1024.Idx → Elt F .f32 := fun y => x (rowIdx b y)

section Rows

variable {sig' : RefSig} {κ : Kind} {sp : Space} (v : View sig' κ sp S4096x1024 .f32) (f : v.ty.Contents (Elt F)) (b : Fin 8)

/-- A store of row block `b` is read back from it. -/
theorem rows_own {off : Fin 2 → ℕ} (h : off = ![512 * b.val, 0]) (inb : ∀ a, off a + S512x1024.size a ≤ S4096x1024.size a)
    (w : S512x1024.Idx → Elt F .f32) (L : List (View.Piece (Elt F) S4096x1024 .f32)) :
    rows (v.read (Elt F) (v.writes (Elt F) f (⟨Rect.unit off S512x1024.size inb, w⟩ :: L))) b = w :=
  funext fun y => View.read_writes_cons_rows_of_mem v f inb w L (rowIdx b y) y h rfl rfl

/-- A store of row block `b` leaves the others. -/
theorem rows_ne {off : Fin 2 → ℕ} (h : off = ![512 * b.val, 0]) (inb : ∀ a, off a + S512x1024.size a ≤ S4096x1024.size a)
    (w : S512x1024.Idx → Elt F .f32) (L : List (View.Piece (Elt F) S4096x1024 .f32)) (b' : Fin 8) (hb : b' ≠ b) :
    rows (v.read (Elt F) (v.writes (Elt F) f (⟨Rect.unit off S512x1024.size inb, w⟩ :: L))) b'
      = rows (v.read (Elt F) (v.writes (Elt F) f L)) b' :=
  funext fun y => View.read_writes_cons_rows_of_not_mem v f inb w L (rowIdx b' y) h (W := 512) rfl (by
    have h0 : (y 0).val < 512 := (y 0).isLt
    have h1 : b'.val ≠ b.val := fun e => hb (Fin.ext e)
    show 512 * b'.val + (y 0).val < 512 * b.val ∨ 512 * b.val + 512 ≤ 512 * b'.val + (y 0).val
    omega)

/-- A load of row block `b`. -/
theorem rows_load {off : Fin 2 → ℕ} (h : off = ![512 * b.val, 0]) (inb : ∀ a, off a + S512x1024.size a ≤ S4096x1024.size a) :
    v.readAt (Elt F) (Rect.unit (s := S4096x1024) off S512x1024.size inb).toLoadRect f = rows (v.read (Elt F) f) b := by
  subst h
  funext y
  show v.read (Elt F) f ((Rect.unit (s := S4096x1024) ![512 * b.val, 0] S512x1024.size inb).toLoadRect.idx y) = v.read (Elt F) f (rowIdx b y)
  refine congrArg (v.read (Elt F) f) (funext fun a => Fin.ext ?_)
  match a with
  | ⟨0, _⟩ => show 512 * b.val + 1 * (y 0).val = 512 * b.val + (y 0).val; omega
  | ⟨1, _⟩ => show 0 + 1 * (y 1).val = (y 1).val; omega

end Rows

variable (c : Dev nD) (i : grid0.Coords) (b : Fin 8) (hb : (i 1).val = b.val)
variable (arg2 : Memref sig .tc .vmem S512x128 .f32) (harg2 : arg2.IsWhole) (arg3 : Memref sig .tc .vmem S1024x128 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S512x1024 .f32) (harg16 : arg16.IsWhole) (arg17 : Memref sig .tc .vmem S4096x1024 .f32) (harg17 : arg17.IsWhole)
variable (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty)

include hb

set_option maxHeartbeats 1000000 in
/-- Segment 0: row block `b` gains the product, the others stay. -/
theorem segment0 (H1 : k0_cond1 i = 1#1) (H2 : k0_cond2 i = 1#1) (H3 : ¬ k0_cond3 i = 1#1) (H4 : ¬ k0_cond4 i = 1#1) (H5 : ¬ k0_cond5 i = 1#1) (H6 : ¬ k0_cond6 i = 1#1) (H7 : ¬ k0_cond7 i = 1#1) (H8 : ¬ k0_cond8 i = 1#1) (H9 : ¬ k0_cond9 i = 1#1) (H10 : ¬ k0_cond10 i = 1#1) (H11 : ¬ k0_cond11 i = 1#1) :
    ∃ (C_arg17 : BufTy.Contents (Elt F) arg17.view.ty),
    rows (arg17.view.read (Elt F) C_arg17) b = k0_pay3 (k0_pay2 (arg2.view.read (Elt F) X_arg2) (arg3.view.read (Elt F) X_arg3)) (arg4.view.read (Elt F) X_arg4) (arg13.view.read (Elt F) X_arg13)
    ∧ (∀ b' : Fin 8, b' ≠ b → rows (arg17.view.read (Elt F) C_arg17) b' = rows (arg17.view.read (Elt F) X_arg17) b')
    ∧ ((iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17)) : sProp 𝕄)
      ⊢ wp frame (wpE (defs₀ (F := F)) Variants.none (c : Thread nD τ) none) Set.univ (cc0_du_all (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} C_arg17)))) := by
  have own : rows (arg17.view.read (Elt F) (arg17.view.writes (Elt F) X_arg17 (⟨Rect.unit (s := S4096x1024) (k0_off2 i) S512x1024.size (k0_off2_inb i H2), k0_pay3 (arg17.view.readCov [⟨Rect.unit (s := S4096x1024) (k0_off1 i) S512x1024.size (k0_off1_inb i H1), k0_pay2 (View.readAt (Elt F) arg2.view (Rect.unit (s := S512x128) ![0, 0] S512x128.size inb_S512x128_S512x128_0_0).toLoadRect X_arg2) (View.readAt (Elt F) arg3.view (Rect.unit (s := S1024x128) ![0, 0] S1024x128.size inb_S1024x128_S1024x128_0_0).toLoadRect X_arg3)⟩] (Rect.unit (s := S4096x1024) (k0_off2 i) S512x1024.size (k0_off2_inb i H2)).toLoadRect) (View.readAt (Elt F) arg4.view (Rect.unit (s := S512x1024) ![0, 0] S512x1024.size inb_S512x1024_S512x1024_0_0).toLoadRect X_arg4) (View.readAt (Elt F) arg13.view (Rect.unit (s := S1024x1024) ![0, 0] S1024x1024.size inb_S1024x1024_S1024x1024_0_0).toLoadRect X_arg13)⟩ :: [⟨Rect.unit (s := S4096x1024) (k0_off1 i) S512x1024.size (k0_off1_inb i H1), k0_pay2 (View.readAt (Elt F) arg2.view (Rect.unit (s := S512x128) ![0, 0] S512x128.size inb_S512x128_S512x128_0_0).toLoadRect X_arg2) (View.readAt (Elt F) arg3.view (Rect.unit (s := S1024x128) ![0, 0] S1024x128.size inb_S1024x128_S1024x128_0_0).toLoadRect X_arg3)⟩]))) b = k0_pay3 (k0_pay2 (arg2.view.read (Elt F) X_arg2) (arg3.view.read (Elt F) X_arg3)) (arg4.view.read (Elt F) X_arg4) (arg13.view.read (Elt F) X_arg13) := by
    rw [rows_own arg17.view X_arg17 b ((k0_off2_eq _).trans (by rw [hb])), show arg17.view.readCov [⟨Rect.unit (s := S4096x1024) (k0_off1 i) S512x1024.size (k0_off1_inb i H1), k0_pay2 (View.readAt (Elt F) arg2.view (Rect.unit (s := S512x128) ![0, 0] S512x128.size inb_S512x128_S512x128_0_0).toLoadRect X_arg2) (View.readAt (Elt F) arg3.view (Rect.unit (s := S1024x128) ![0, 0] S1024x128.size inb_S1024x128_S1024x128_0_0).toLoadRect X_arg3)⟩] (Rect.unit (s := S4096x1024) (k0_off2 i) S512x1024.size (k0_off2_inb i H2)).toLoadRect = _ from ((rows_load arg17.view _ b ((k0_off2_eq _).trans (by rw [hb])) _).trans ((rows_own arg17.view _ b ((k0_off1_eq _).trans (by rw [hb])) _ _ []).trans
      (congr (congrArg k0_pay2 (View.readAt_full arg2.view X_arg2 _)) (View.readAt_full arg3.view X_arg3 _)))), View.readAt_full, View.readAt_full]
  refine ⟨arg17.view.writes (Elt F) X_arg17 (⟨Rect.unit (s := S4096x1024) (k0_off2 i) S512x1024.size (k0_off2_inb i H2), k0_pay3 (arg17.view.readCov [⟨Rect.unit (s := S4096x1024) (k0_off1 i) S512x1024.size (k0_off1_inb i H1), k0_pay2 (View.readAt (Elt F) arg2.view (Rect.unit (s := S512x128) ![0, 0] S512x128.size inb_S512x128_S512x128_0_0).toLoadRect X_arg2) (View.readAt (Elt F) arg3.view (Rect.unit (s := S1024x128) ![0, 0] S1024x128.size inb_S1024x128_S1024x128_0_0).toLoadRect X_arg3)⟩] (Rect.unit (s := S4096x1024) (k0_off2 i) S512x1024.size (k0_off2_inb i H2)).toLoadRect) (View.readAt (Elt F) arg4.view (Rect.unit (s := S512x1024) ![0, 0] S512x1024.size inb_S512x1024_S512x1024_0_0).toLoadRect X_arg4) (View.readAt (Elt F) arg13.view (Rect.unit (s := S1024x1024) ![0, 0] S1024x1024.size inb_S1024x1024_S1024x1024_0_0).toLoadRect X_arg13)⟩ :: [⟨Rect.unit (s := S4096x1024) (k0_off1 i) S512x1024.size (k0_off1_inb i H1), k0_pay2 (View.readAt (Elt F) arg2.view (Rect.unit (s := S512x128) ![0, 0] S512x128.size inb_S512x128_S512x128_0_0).toLoadRect X_arg2) (View.readAt (Elt F) arg3.view (Rect.unit (s := S1024x128) ![0, 0] S1024x128.size inb_S1024x128_S1024x128_0_0).toLoadRect X_arg3)⟩]), ?_, ?_, ?_⟩
  skip
  · exact own
  · intro b' hb'
    exact (rows_ne arg17.view X_arg17 b ((k0_off2_eq _).trans (by rw [hb])) _ _ _ b' hb').trans (rows_ne arg17.view X_arg17 b ((k0_off1_eq _).trans (by rw [hb])) _ _ [] b' hb')
  simp only [cc0_du_all_eq_skeleton]
  unfold cc0_du_all_skel
  simp only [k0_part1_eq_skeleton]
  unfold k0_part1_skel
  iintro ⟨Harg2, Harg3, Harg4, Harg5, Harg6, Harg7, Harg8, Harg9, Harg10, Harg11, Harg12, Harg13, Harg14, Harg15, Harg16, Harg17⟩
  sl_exec
  sl_step
  isplitl [Harg2]; · iexact Harg2
  isplitl [Harg3]; · iexact Harg3
  isplitl [Harg4]; · iexact Harg4
  isplitl [Harg5]; · iexact Harg5
  isplitl [Harg6]; · iexact Harg6
  isplitl [Harg7]; · iexact Harg7
  isplitl [Harg8]; · iexact Harg8
  isplitl [Harg9]; · iexact Harg9
  isplitl [Harg10]; · iexact Harg10
  isplitl [Harg11]; · iexact Harg11
  isplitl [Harg12]; · iexact Harg12
  isplitl [Harg13]; · iexact Harg13
  isplitl [Harg14]; · iexact Harg14
  isplitl [Harg15]; · iexact Harg15
  isplitl [Harg16]; · iexact Harg16
  iexact Harg17

set_option maxHeartbeats 1000000 in
/-- Segment 1: row block `b` gains the product, the others stay. -/
theorem segment1 (H1 : ¬ k0_cond1 i = 1#1) (H2 : ¬ k0_cond2 i = 1#1) (H3 : k0_cond3 i = 1#1) (H4 : ¬ k0_cond4 i = 1#1) (H5 : ¬ k0_cond5 i = 1#1) (H6 : ¬ k0_cond6 i = 1#1) (H7 : ¬ k0_cond7 i = 1#1) (H8 : ¬ k0_cond8 i = 1#1) (H9 : ¬ k0_cond9 i = 1#1) (H10 : ¬ k0_cond10 i = 1#1) (H11 : ¬ k0_cond11 i = 1#1) :
    ∃ (C_arg17 : BufTy.Contents (Elt F) arg17.view.ty),
    rows (arg17.view.read (Elt F) C_arg17) b = k0_pay4 (rows (arg17.view.read (Elt F) X_arg17) b) (arg5.view.read (Elt F) X_arg5) (arg13.view.read (Elt F) X_arg13)
    ∧ (∀ b' : Fin 8, b' ≠ b → rows (arg17.view.read (Elt F) C_arg17) b' = rows (arg17.view.read (Elt F) X_arg17) b')
    ∧ ((iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17)) : sProp 𝕄)
      ⊢ wp frame (wpE (defs₀ (F := F)) Variants.none (c : Thread nD τ) none) Set.univ (cc0_du_all (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} C_arg17)))) := by
  have own : rows (arg17.view.read (Elt F) (arg17.view.writes (Elt F) X_arg17 (⟨Rect.unit (s := S4096x1024) (k0_off3 i) S512x1024.size (k0_off3_inb i H3), k0_pay4 (View.readAt (Elt F) arg17.view (Rect.unit (s := S4096x1024) (k0_off3 i) S512x1024.size (k0_off3_inb i H3)).toLoadRect X_arg17) (View.readAt (Elt F) arg5.view (Rect.unit (s := S512x1024) ![0, 0] S512x1024.size inb_S512x1024_S512x1024_0_0).toLoadRect X_arg5) (View.readAt (Elt F) arg13.view (Rect.unit (s := S1024x1024) ![0, 0] S1024x1024.size inb_S1024x1024_S1024x1024_0_0).toLoadRect X_arg13)⟩ :: []))) b = k0_pay4 (rows (arg17.view.read (Elt F) X_arg17) b) (arg5.view.read (Elt F) X_arg5) (arg13.view.read (Elt F) X_arg13) := by
    rw [rows_own arg17.view X_arg17 b ((k0_off3_eq _).trans (by rw [hb])), rows_load arg17.view X_arg17 b ((k0_off3_eq _).trans (by rw [hb])), View.readAt_full, View.readAt_full]
  refine ⟨arg17.view.writes (Elt F) X_arg17 (⟨Rect.unit (s := S4096x1024) (k0_off3 i) S512x1024.size (k0_off3_inb i H3), k0_pay4 (View.readAt (Elt F) arg17.view (Rect.unit (s := S4096x1024) (k0_off3 i) S512x1024.size (k0_off3_inb i H3)).toLoadRect X_arg17) (View.readAt (Elt F) arg5.view (Rect.unit (s := S512x1024) ![0, 0] S512x1024.size inb_S512x1024_S512x1024_0_0).toLoadRect X_arg5) (View.readAt (Elt F) arg13.view (Rect.unit (s := S1024x1024) ![0, 0] S1024x1024.size inb_S1024x1024_S1024x1024_0_0).toLoadRect X_arg13)⟩ :: []), ?_, ?_, ?_⟩
  skip
  · exact own
  · intro b' hb'
    exact rows_ne arg17.view X_arg17 b ((k0_off3_eq _).trans (by rw [hb])) _ _ [] b' hb'
  simp only [cc0_du_all_eq_skeleton]
  unfold cc0_du_all_skel
  simp only [k0_part1_eq_skeleton]
  unfold k0_part1_skel
  iintro ⟨Harg2, Harg3, Harg4, Harg5, Harg6, Harg7, Harg8, Harg9, Harg10, Harg11, Harg12, Harg13, Harg14, Harg15, Harg16, Harg17⟩
  sl_exec
  sl_step
  isplitl [Harg2]; · iexact Harg2
  isplitl [Harg3]; · iexact Harg3
  isplitl [Harg4]; · iexact Harg4
  isplitl [Harg5]; · iexact Harg5
  isplitl [Harg6]; · iexact Harg6
  isplitl [Harg7]; · iexact Harg7
  isplitl [Harg8]; · iexact Harg8
  isplitl [Harg9]; · iexact Harg9
  isplitl [Harg10]; · iexact Harg10
  isplitl [Harg11]; · iexact Harg11
  isplitl [Harg12]; · iexact Harg12
  isplitl [Harg13]; · iexact Harg13
  isplitl [Harg14]; · iexact Harg14
  isplitl [Harg15]; · iexact Harg15
  isplitl [Harg16]; · iexact Harg16
  iexact Harg17

set_option maxHeartbeats 1000000 in
/-- Segment 2: row block `b` gains the product, the others stay. -/
theorem segment2 (H1 : ¬ k0_cond1 i = 1#1) (H2 : ¬ k0_cond2 i = 1#1) (H3 : ¬ k0_cond3 i = 1#1) (H4 : k0_cond4 i = 1#1) (H5 : ¬ k0_cond5 i = 1#1) (H6 : ¬ k0_cond6 i = 1#1) (H7 : ¬ k0_cond7 i = 1#1) (H8 : ¬ k0_cond8 i = 1#1) (H9 : ¬ k0_cond9 i = 1#1) (H10 : ¬ k0_cond10 i = 1#1) (H11 : ¬ k0_cond11 i = 1#1) :
    ∃ (C_arg17 : BufTy.Contents (Elt F) arg17.view.ty),
    rows (arg17.view.read (Elt F) C_arg17) b = k0_pay5 (rows (arg17.view.read (Elt F) X_arg17) b) (arg6.view.read (Elt F) X_arg6) (arg13.view.read (Elt F) X_arg13)
    ∧ (∀ b' : Fin 8, b' ≠ b → rows (arg17.view.read (Elt F) C_arg17) b' = rows (arg17.view.read (Elt F) X_arg17) b')
    ∧ ((iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17)) : sProp 𝕄)
      ⊢ wp frame (wpE (defs₀ (F := F)) Variants.none (c : Thread nD τ) none) Set.univ (cc0_du_all (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} C_arg17)))) := by
  have own : rows (arg17.view.read (Elt F) (arg17.view.writes (Elt F) X_arg17 (⟨Rect.unit (s := S4096x1024) (k0_off4 i) S512x1024.size (k0_off4_inb i H4), k0_pay5 (View.readAt (Elt F) arg17.view (Rect.unit (s := S4096x1024) (k0_off4 i) S512x1024.size (k0_off4_inb i H4)).toLoadRect X_arg17) (View.readAt (Elt F) arg6.view (Rect.unit (s := S512x1024) ![0, 0] S512x1024.size inb_S512x1024_S512x1024_0_0).toLoadRect X_arg6) (View.readAt (Elt F) arg13.view (Rect.unit (s := S1024x1024) ![0, 0] S1024x1024.size inb_S1024x1024_S1024x1024_0_0).toLoadRect X_arg13)⟩ :: []))) b = k0_pay5 (rows (arg17.view.read (Elt F) X_arg17) b) (arg6.view.read (Elt F) X_arg6) (arg13.view.read (Elt F) X_arg13) := by
    rw [rows_own arg17.view X_arg17 b ((k0_off4_eq _).trans (by rw [hb])), rows_load arg17.view X_arg17 b ((k0_off4_eq _).trans (by rw [hb])), View.readAt_full, View.readAt_full]
  refine ⟨arg17.view.writes (Elt F) X_arg17 (⟨Rect.unit (s := S4096x1024) (k0_off4 i) S512x1024.size (k0_off4_inb i H4), k0_pay5 (View.readAt (Elt F) arg17.view (Rect.unit (s := S4096x1024) (k0_off4 i) S512x1024.size (k0_off4_inb i H4)).toLoadRect X_arg17) (View.readAt (Elt F) arg6.view (Rect.unit (s := S512x1024) ![0, 0] S512x1024.size inb_S512x1024_S512x1024_0_0).toLoadRect X_arg6) (View.readAt (Elt F) arg13.view (Rect.unit (s := S1024x1024) ![0, 0] S1024x1024.size inb_S1024x1024_S1024x1024_0_0).toLoadRect X_arg13)⟩ :: []), ?_, ?_, ?_⟩
  skip
  · exact own
  · intro b' hb'
    exact rows_ne arg17.view X_arg17 b ((k0_off4_eq _).trans (by rw [hb])) _ _ [] b' hb'
  simp only [cc0_du_all_eq_skeleton]
  unfold cc0_du_all_skel
  simp only [k0_part1_eq_skeleton]
  unfold k0_part1_skel
  iintro ⟨Harg2, Harg3, Harg4, Harg5, Harg6, Harg7, Harg8, Harg9, Harg10, Harg11, Harg12, Harg13, Harg14, Harg15, Harg16, Harg17⟩
  sl_exec
  sl_step
  isplitl [Harg2]; · iexact Harg2
  isplitl [Harg3]; · iexact Harg3
  isplitl [Harg4]; · iexact Harg4
  isplitl [Harg5]; · iexact Harg5
  isplitl [Harg6]; · iexact Harg6
  isplitl [Harg7]; · iexact Harg7
  isplitl [Harg8]; · iexact Harg8
  isplitl [Harg9]; · iexact Harg9
  isplitl [Harg10]; · iexact Harg10
  isplitl [Harg11]; · iexact Harg11
  isplitl [Harg12]; · iexact Harg12
  isplitl [Harg13]; · iexact Harg13
  isplitl [Harg14]; · iexact Harg14
  isplitl [Harg15]; · iexact Harg15
  isplitl [Harg16]; · iexact Harg16
  iexact Harg17

set_option maxHeartbeats 1000000 in
/-- Segment 3: row block `b` gains the product, the others stay. -/
theorem segment3 (H1 : ¬ k0_cond1 i = 1#1) (H2 : ¬ k0_cond2 i = 1#1) (H3 : ¬ k0_cond3 i = 1#1) (H4 : ¬ k0_cond4 i = 1#1) (H5 : k0_cond5 i = 1#1) (H6 : ¬ k0_cond6 i = 1#1) (H7 : ¬ k0_cond7 i = 1#1) (H8 : ¬ k0_cond8 i = 1#1) (H9 : ¬ k0_cond9 i = 1#1) (H10 : ¬ k0_cond10 i = 1#1) (H11 : ¬ k0_cond11 i = 1#1) :
    ∃ (C_arg17 : BufTy.Contents (Elt F) arg17.view.ty),
    rows (arg17.view.read (Elt F) C_arg17) b = k0_pay6 (rows (arg17.view.read (Elt F) X_arg17) b) (arg7.view.read (Elt F) X_arg7) (arg13.view.read (Elt F) X_arg13)
    ∧ (∀ b' : Fin 8, b' ≠ b → rows (arg17.view.read (Elt F) C_arg17) b' = rows (arg17.view.read (Elt F) X_arg17) b')
    ∧ ((iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17)) : sProp 𝕄)
      ⊢ wp frame (wpE (defs₀ (F := F)) Variants.none (c : Thread nD τ) none) Set.univ (cc0_du_all (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} C_arg17)))) := by
  have own : rows (arg17.view.read (Elt F) (arg17.view.writes (Elt F) X_arg17 (⟨Rect.unit (s := S4096x1024) (k0_off5 i) S512x1024.size (k0_off5_inb i H5), k0_pay6 (View.readAt (Elt F) arg17.view (Rect.unit (s := S4096x1024) (k0_off5 i) S512x1024.size (k0_off5_inb i H5)).toLoadRect X_arg17) (View.readAt (Elt F) arg7.view (Rect.unit (s := S512x1024) ![0, 0] S512x1024.size inb_S512x1024_S512x1024_0_0).toLoadRect X_arg7) (View.readAt (Elt F) arg13.view (Rect.unit (s := S1024x1024) ![0, 0] S1024x1024.size inb_S1024x1024_S1024x1024_0_0).toLoadRect X_arg13)⟩ :: []))) b = k0_pay6 (rows (arg17.view.read (Elt F) X_arg17) b) (arg7.view.read (Elt F) X_arg7) (arg13.view.read (Elt F) X_arg13) := by
    rw [rows_own arg17.view X_arg17 b ((k0_off5_eq _).trans (by rw [hb])), rows_load arg17.view X_arg17 b ((k0_off5_eq _).trans (by rw [hb])), View.readAt_full, View.readAt_full]
  refine ⟨arg17.view.writes (Elt F) X_arg17 (⟨Rect.unit (s := S4096x1024) (k0_off5 i) S512x1024.size (k0_off5_inb i H5), k0_pay6 (View.readAt (Elt F) arg17.view (Rect.unit (s := S4096x1024) (k0_off5 i) S512x1024.size (k0_off5_inb i H5)).toLoadRect X_arg17) (View.readAt (Elt F) arg7.view (Rect.unit (s := S512x1024) ![0, 0] S512x1024.size inb_S512x1024_S512x1024_0_0).toLoadRect X_arg7) (View.readAt (Elt F) arg13.view (Rect.unit (s := S1024x1024) ![0, 0] S1024x1024.size inb_S1024x1024_S1024x1024_0_0).toLoadRect X_arg13)⟩ :: []), ?_, ?_, ?_⟩
  skip
  · exact own
  · intro b' hb'
    exact rows_ne arg17.view X_arg17 b ((k0_off5_eq _).trans (by rw [hb])) _ _ [] b' hb'
  simp only [cc0_du_all_eq_skeleton]
  unfold cc0_du_all_skel
  simp only [k0_part1_eq_skeleton]
  unfold k0_part1_skel
  iintro ⟨Harg2, Harg3, Harg4, Harg5, Harg6, Harg7, Harg8, Harg9, Harg10, Harg11, Harg12, Harg13, Harg14, Harg15, Harg16, Harg17⟩
  sl_exec
  sl_step
  isplitl [Harg2]; · iexact Harg2
  isplitl [Harg3]; · iexact Harg3
  isplitl [Harg4]; · iexact Harg4
  isplitl [Harg5]; · iexact Harg5
  isplitl [Harg6]; · iexact Harg6
  isplitl [Harg7]; · iexact Harg7
  isplitl [Harg8]; · iexact Harg8
  isplitl [Harg9]; · iexact Harg9
  isplitl [Harg10]; · iexact Harg10
  isplitl [Harg11]; · iexact Harg11
  isplitl [Harg12]; · iexact Harg12
  isplitl [Harg13]; · iexact Harg13
  isplitl [Harg14]; · iexact Harg14
  isplitl [Harg15]; · iexact Harg15
  isplitl [Harg16]; · iexact Harg16
  iexact Harg17

set_option maxHeartbeats 1000000 in
/-- Segment 4: row block `b` gains the product, the others stay. -/
theorem segment4 (H1 : ¬ k0_cond1 i = 1#1) (H2 : ¬ k0_cond2 i = 1#1) (H3 : ¬ k0_cond3 i = 1#1) (H4 : ¬ k0_cond4 i = 1#1) (H5 : ¬ k0_cond5 i = 1#1) (H6 : k0_cond6 i = 1#1) (H7 : ¬ k0_cond7 i = 1#1) (H8 : ¬ k0_cond8 i = 1#1) (H9 : ¬ k0_cond9 i = 1#1) (H10 : ¬ k0_cond10 i = 1#1) (H11 : ¬ k0_cond11 i = 1#1) :
    ∃ (C_arg17 : BufTy.Contents (Elt F) arg17.view.ty),
    rows (arg17.view.read (Elt F) C_arg17) b = k0_pay7 (rows (arg17.view.read (Elt F) X_arg17) b) (arg8.view.read (Elt F) X_arg8) (arg14.view.read (Elt F) X_arg14)
    ∧ (∀ b' : Fin 8, b' ≠ b → rows (arg17.view.read (Elt F) C_arg17) b' = rows (arg17.view.read (Elt F) X_arg17) b')
    ∧ ((iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17)) : sProp 𝕄)
      ⊢ wp frame (wpE (defs₀ (F := F)) Variants.none (c : Thread nD τ) none) Set.univ (cc0_du_all (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} C_arg17)))) := by
  have own : rows (arg17.view.read (Elt F) (arg17.view.writes (Elt F) X_arg17 (⟨Rect.unit (s := S4096x1024) (k0_off6 i) S512x1024.size (k0_off6_inb i H6), k0_pay7 (View.readAt (Elt F) arg17.view (Rect.unit (s := S4096x1024) (k0_off6 i) S512x1024.size (k0_off6_inb i H6)).toLoadRect X_arg17) (View.readAt (Elt F) arg8.view (Rect.unit (s := S512x1024) ![0, 0] S512x1024.size inb_S512x1024_S512x1024_0_0).toLoadRect X_arg8) (View.readAt (Elt F) arg14.view (Rect.unit (s := S1024x1024) ![0, 0] S1024x1024.size inb_S1024x1024_S1024x1024_0_0).toLoadRect X_arg14)⟩ :: []))) b = k0_pay7 (rows (arg17.view.read (Elt F) X_arg17) b) (arg8.view.read (Elt F) X_arg8) (arg14.view.read (Elt F) X_arg14) := by
    rw [rows_own arg17.view X_arg17 b ((k0_off6_eq _).trans (by rw [hb])), rows_load arg17.view X_arg17 b ((k0_off6_eq _).trans (by rw [hb])), View.readAt_full, View.readAt_full]
  refine ⟨arg17.view.writes (Elt F) X_arg17 (⟨Rect.unit (s := S4096x1024) (k0_off6 i) S512x1024.size (k0_off6_inb i H6), k0_pay7 (View.readAt (Elt F) arg17.view (Rect.unit (s := S4096x1024) (k0_off6 i) S512x1024.size (k0_off6_inb i H6)).toLoadRect X_arg17) (View.readAt (Elt F) arg8.view (Rect.unit (s := S512x1024) ![0, 0] S512x1024.size inb_S512x1024_S512x1024_0_0).toLoadRect X_arg8) (View.readAt (Elt F) arg14.view (Rect.unit (s := S1024x1024) ![0, 0] S1024x1024.size inb_S1024x1024_S1024x1024_0_0).toLoadRect X_arg14)⟩ :: []), ?_, ?_, ?_⟩
  skip
  · exact own
  · intro b' hb'
    exact rows_ne arg17.view X_arg17 b ((k0_off6_eq _).trans (by rw [hb])) _ _ [] b' hb'
  simp only [cc0_du_all_eq_skeleton]
  unfold cc0_du_all_skel
  simp only [k0_part1_eq_skeleton]
  unfold k0_part1_skel
  iintro ⟨Harg2, Harg3, Harg4, Harg5, Harg6, Harg7, Harg8, Harg9, Harg10, Harg11, Harg12, Harg13, Harg14, Harg15, Harg16, Harg17⟩
  sl_exec
  sl_step
  isplitl [Harg2]; · iexact Harg2
  isplitl [Harg3]; · iexact Harg3
  isplitl [Harg4]; · iexact Harg4
  isplitl [Harg5]; · iexact Harg5
  isplitl [Harg6]; · iexact Harg6
  isplitl [Harg7]; · iexact Harg7
  isplitl [Harg8]; · iexact Harg8
  isplitl [Harg9]; · iexact Harg9
  isplitl [Harg10]; · iexact Harg10
  isplitl [Harg11]; · iexact Harg11
  isplitl [Harg12]; · iexact Harg12
  isplitl [Harg13]; · iexact Harg13
  isplitl [Harg14]; · iexact Harg14
  isplitl [Harg15]; · iexact Harg15
  isplitl [Harg16]; · iexact Harg16
  iexact Harg17

set_option maxHeartbeats 1000000 in
/-- Segment 5: row block `b` gains the product, the others stay. -/
theorem segment5 (H1 : ¬ k0_cond1 i = 1#1) (H2 : ¬ k0_cond2 i = 1#1) (H3 : ¬ k0_cond3 i = 1#1) (H4 : ¬ k0_cond4 i = 1#1) (H5 : ¬ k0_cond5 i = 1#1) (H6 : ¬ k0_cond6 i = 1#1) (H7 : k0_cond7 i = 1#1) (H8 : ¬ k0_cond8 i = 1#1) (H9 : ¬ k0_cond9 i = 1#1) (H10 : ¬ k0_cond10 i = 1#1) (H11 : ¬ k0_cond11 i = 1#1) :
    ∃ (C_arg17 : BufTy.Contents (Elt F) arg17.view.ty),
    rows (arg17.view.read (Elt F) C_arg17) b = k0_pay8 (rows (arg17.view.read (Elt F) X_arg17) b) (arg9.view.read (Elt F) X_arg9) (arg14.view.read (Elt F) X_arg14)
    ∧ (∀ b' : Fin 8, b' ≠ b → rows (arg17.view.read (Elt F) C_arg17) b' = rows (arg17.view.read (Elt F) X_arg17) b')
    ∧ ((iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17)) : sProp 𝕄)
      ⊢ wp frame (wpE (defs₀ (F := F)) Variants.none (c : Thread nD τ) none) Set.univ (cc0_du_all (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} C_arg17)))) := by
  have own : rows (arg17.view.read (Elt F) (arg17.view.writes (Elt F) X_arg17 (⟨Rect.unit (s := S4096x1024) (k0_off7 i) S512x1024.size (k0_off7_inb i H7), k0_pay8 (View.readAt (Elt F) arg17.view (Rect.unit (s := S4096x1024) (k0_off7 i) S512x1024.size (k0_off7_inb i H7)).toLoadRect X_arg17) (View.readAt (Elt F) arg9.view (Rect.unit (s := S512x1024) ![0, 0] S512x1024.size inb_S512x1024_S512x1024_0_0).toLoadRect X_arg9) (View.readAt (Elt F) arg14.view (Rect.unit (s := S1024x1024) ![0, 0] S1024x1024.size inb_S1024x1024_S1024x1024_0_0).toLoadRect X_arg14)⟩ :: []))) b = k0_pay8 (rows (arg17.view.read (Elt F) X_arg17) b) (arg9.view.read (Elt F) X_arg9) (arg14.view.read (Elt F) X_arg14) := by
    rw [rows_own arg17.view X_arg17 b ((k0_off7_eq _).trans (by rw [hb])), rows_load arg17.view X_arg17 b ((k0_off7_eq _).trans (by rw [hb])), View.readAt_full, View.readAt_full]
  refine ⟨arg17.view.writes (Elt F) X_arg17 (⟨Rect.unit (s := S4096x1024) (k0_off7 i) S512x1024.size (k0_off7_inb i H7), k0_pay8 (View.readAt (Elt F) arg17.view (Rect.unit (s := S4096x1024) (k0_off7 i) S512x1024.size (k0_off7_inb i H7)).toLoadRect X_arg17) (View.readAt (Elt F) arg9.view (Rect.unit (s := S512x1024) ![0, 0] S512x1024.size inb_S512x1024_S512x1024_0_0).toLoadRect X_arg9) (View.readAt (Elt F) arg14.view (Rect.unit (s := S1024x1024) ![0, 0] S1024x1024.size inb_S1024x1024_S1024x1024_0_0).toLoadRect X_arg14)⟩ :: []), ?_, ?_, ?_⟩
  skip
  · exact own
  · intro b' hb'
    exact rows_ne arg17.view X_arg17 b ((k0_off7_eq _).trans (by rw [hb])) _ _ [] b' hb'
  simp only [cc0_du_all_eq_skeleton]
  unfold cc0_du_all_skel
  simp only [k0_part1_eq_skeleton]
  unfold k0_part1_skel
  iintro ⟨Harg2, Harg3, Harg4, Harg5, Harg6, Harg7, Harg8, Harg9, Harg10, Harg11, Harg12, Harg13, Harg14, Harg15, Harg16, Harg17⟩
  sl_exec
  sl_step
  isplitl [Harg2]; · iexact Harg2
  isplitl [Harg3]; · iexact Harg3
  isplitl [Harg4]; · iexact Harg4
  isplitl [Harg5]; · iexact Harg5
  isplitl [Harg6]; · iexact Harg6
  isplitl [Harg7]; · iexact Harg7
  isplitl [Harg8]; · iexact Harg8
  isplitl [Harg9]; · iexact Harg9
  isplitl [Harg10]; · iexact Harg10
  isplitl [Harg11]; · iexact Harg11
  isplitl [Harg12]; · iexact Harg12
  isplitl [Harg13]; · iexact Harg13
  isplitl [Harg14]; · iexact Harg14
  isplitl [Harg15]; · iexact Harg15
  isplitl [Harg16]; · iexact Harg16
  iexact Harg17

set_option maxHeartbeats 1000000 in
/-- Segment 6: row block `b` gains the product, the others stay. -/
theorem segment6 (H1 : ¬ k0_cond1 i = 1#1) (H2 : ¬ k0_cond2 i = 1#1) (H3 : ¬ k0_cond3 i = 1#1) (H4 : ¬ k0_cond4 i = 1#1) (H5 : ¬ k0_cond5 i = 1#1) (H6 : ¬ k0_cond6 i = 1#1) (H7 : ¬ k0_cond7 i = 1#1) (H8 : k0_cond8 i = 1#1) (H9 : ¬ k0_cond9 i = 1#1) (H10 : ¬ k0_cond10 i = 1#1) (H11 : ¬ k0_cond11 i = 1#1) :
    ∃ (C_arg17 : BufTy.Contents (Elt F) arg17.view.ty),
    rows (arg17.view.read (Elt F) C_arg17) b = k0_pay9 (rows (arg17.view.read (Elt F) X_arg17) b) (arg10.view.read (Elt F) X_arg10) (arg14.view.read (Elt F) X_arg14)
    ∧ (∀ b' : Fin 8, b' ≠ b → rows (arg17.view.read (Elt F) C_arg17) b' = rows (arg17.view.read (Elt F) X_arg17) b')
    ∧ ((iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17)) : sProp 𝕄)
      ⊢ wp frame (wpE (defs₀ (F := F)) Variants.none (c : Thread nD τ) none) Set.univ (cc0_du_all (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} C_arg17)))) := by
  have own : rows (arg17.view.read (Elt F) (arg17.view.writes (Elt F) X_arg17 (⟨Rect.unit (s := S4096x1024) (k0_off8 i) S512x1024.size (k0_off8_inb i H8), k0_pay9 (View.readAt (Elt F) arg17.view (Rect.unit (s := S4096x1024) (k0_off8 i) S512x1024.size (k0_off8_inb i H8)).toLoadRect X_arg17) (View.readAt (Elt F) arg10.view (Rect.unit (s := S512x1024) ![0, 0] S512x1024.size inb_S512x1024_S512x1024_0_0).toLoadRect X_arg10) (View.readAt (Elt F) arg14.view (Rect.unit (s := S1024x1024) ![0, 0] S1024x1024.size inb_S1024x1024_S1024x1024_0_0).toLoadRect X_arg14)⟩ :: []))) b = k0_pay9 (rows (arg17.view.read (Elt F) X_arg17) b) (arg10.view.read (Elt F) X_arg10) (arg14.view.read (Elt F) X_arg14) := by
    rw [rows_own arg17.view X_arg17 b ((k0_off8_eq _).trans (by rw [hb])), rows_load arg17.view X_arg17 b ((k0_off8_eq _).trans (by rw [hb])), View.readAt_full, View.readAt_full]
  refine ⟨arg17.view.writes (Elt F) X_arg17 (⟨Rect.unit (s := S4096x1024) (k0_off8 i) S512x1024.size (k0_off8_inb i H8), k0_pay9 (View.readAt (Elt F) arg17.view (Rect.unit (s := S4096x1024) (k0_off8 i) S512x1024.size (k0_off8_inb i H8)).toLoadRect X_arg17) (View.readAt (Elt F) arg10.view (Rect.unit (s := S512x1024) ![0, 0] S512x1024.size inb_S512x1024_S512x1024_0_0).toLoadRect X_arg10) (View.readAt (Elt F) arg14.view (Rect.unit (s := S1024x1024) ![0, 0] S1024x1024.size inb_S1024x1024_S1024x1024_0_0).toLoadRect X_arg14)⟩ :: []), ?_, ?_, ?_⟩
  skip
  · exact own
  · intro b' hb'
    exact rows_ne arg17.view X_arg17 b ((k0_off8_eq _).trans (by rw [hb])) _ _ [] b' hb'
  simp only [cc0_du_all_eq_skeleton]
  unfold cc0_du_all_skel
  simp only [k0_part1_eq_skeleton]
  unfold k0_part1_skel
  iintro ⟨Harg2, Harg3, Harg4, Harg5, Harg6, Harg7, Harg8, Harg9, Harg10, Harg11, Harg12, Harg13, Harg14, Harg15, Harg16, Harg17⟩
  sl_exec
  sl_step
  isplitl [Harg2]; · iexact Harg2
  isplitl [Harg3]; · iexact Harg3
  isplitl [Harg4]; · iexact Harg4
  isplitl [Harg5]; · iexact Harg5
  isplitl [Harg6]; · iexact Harg6
  isplitl [Harg7]; · iexact Harg7
  isplitl [Harg8]; · iexact Harg8
  isplitl [Harg9]; · iexact Harg9
  isplitl [Harg10]; · iexact Harg10
  isplitl [Harg11]; · iexact Harg11
  isplitl [Harg12]; · iexact Harg12
  isplitl [Harg13]; · iexact Harg13
  isplitl [Harg14]; · iexact Harg14
  isplitl [Harg15]; · iexact Harg15
  isplitl [Harg16]; · iexact Harg16
  iexact Harg17

set_option maxHeartbeats 1000000 in
/-- Segment 7: row block `b` gains the product, the others stay. -/
theorem segment7 (H1 : ¬ k0_cond1 i = 1#1) (H2 : ¬ k0_cond2 i = 1#1) (H3 : ¬ k0_cond3 i = 1#1) (H4 : ¬ k0_cond4 i = 1#1) (H5 : ¬ k0_cond5 i = 1#1) (H6 : ¬ k0_cond6 i = 1#1) (H7 : ¬ k0_cond7 i = 1#1) (H8 : ¬ k0_cond8 i = 1#1) (H9 : k0_cond9 i = 1#1) (H10 : ¬ k0_cond10 i = 1#1) (H11 : ¬ k0_cond11 i = 1#1) :
    ∃ (C_arg17 : BufTy.Contents (Elt F) arg17.view.ty),
    rows (arg17.view.read (Elt F) C_arg17) b = k0_pay10 (rows (arg17.view.read (Elt F) X_arg17) b) (arg11.view.read (Elt F) X_arg11) (arg15.view.read (Elt F) X_arg15)
    ∧ (∀ b' : Fin 8, b' ≠ b → rows (arg17.view.read (Elt F) C_arg17) b' = rows (arg17.view.read (Elt F) X_arg17) b')
    ∧ ((iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17)) : sProp 𝕄)
      ⊢ wp frame (wpE (defs₀ (F := F)) Variants.none (c : Thread nD τ) none) Set.univ (cc0_du_all (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} C_arg17)))) := by
  have own : rows (arg17.view.read (Elt F) (arg17.view.writes (Elt F) X_arg17 (⟨Rect.unit (s := S4096x1024) (k0_off9 i) S512x1024.size (k0_off9_inb i H9), k0_pay10 (View.readAt (Elt F) arg17.view (Rect.unit (s := S4096x1024) (k0_off9 i) S512x1024.size (k0_off9_inb i H9)).toLoadRect X_arg17) (View.readAt (Elt F) arg11.view (Rect.unit (s := S512x1024) ![0, 0] S512x1024.size inb_S512x1024_S512x1024_0_0).toLoadRect X_arg11) (View.readAt (Elt F) arg15.view (Rect.unit (s := S1024x1024) ![0, 0] S1024x1024.size inb_S1024x1024_S1024x1024_0_0).toLoadRect X_arg15)⟩ :: []))) b = k0_pay10 (rows (arg17.view.read (Elt F) X_arg17) b) (arg11.view.read (Elt F) X_arg11) (arg15.view.read (Elt F) X_arg15) := by
    rw [rows_own arg17.view X_arg17 b ((k0_off9_eq _).trans (by rw [hb])), rows_load arg17.view X_arg17 b ((k0_off9_eq _).trans (by rw [hb])), View.readAt_full, View.readAt_full]
  refine ⟨arg17.view.writes (Elt F) X_arg17 (⟨Rect.unit (s := S4096x1024) (k0_off9 i) S512x1024.size (k0_off9_inb i H9), k0_pay10 (View.readAt (Elt F) arg17.view (Rect.unit (s := S4096x1024) (k0_off9 i) S512x1024.size (k0_off9_inb i H9)).toLoadRect X_arg17) (View.readAt (Elt F) arg11.view (Rect.unit (s := S512x1024) ![0, 0] S512x1024.size inb_S512x1024_S512x1024_0_0).toLoadRect X_arg11) (View.readAt (Elt F) arg15.view (Rect.unit (s := S1024x1024) ![0, 0] S1024x1024.size inb_S1024x1024_S1024x1024_0_0).toLoadRect X_arg15)⟩ :: []), ?_, ?_, ?_⟩
  skip
  · exact own
  · intro b' hb'
    exact rows_ne arg17.view X_arg17 b ((k0_off9_eq _).trans (by rw [hb])) _ _ [] b' hb'
  simp only [cc0_du_all_eq_skeleton]
  unfold cc0_du_all_skel
  simp only [k0_part1_eq_skeleton]
  unfold k0_part1_skel
  iintro ⟨Harg2, Harg3, Harg4, Harg5, Harg6, Harg7, Harg8, Harg9, Harg10, Harg11, Harg12, Harg13, Harg14, Harg15, Harg16, Harg17⟩
  sl_exec
  sl_step
  isplitl [Harg2]; · iexact Harg2
  isplitl [Harg3]; · iexact Harg3
  isplitl [Harg4]; · iexact Harg4
  isplitl [Harg5]; · iexact Harg5
  isplitl [Harg6]; · iexact Harg6
  isplitl [Harg7]; · iexact Harg7
  isplitl [Harg8]; · iexact Harg8
  isplitl [Harg9]; · iexact Harg9
  isplitl [Harg10]; · iexact Harg10
  isplitl [Harg11]; · iexact Harg11
  isplitl [Harg12]; · iexact Harg12
  isplitl [Harg13]; · iexact Harg13
  isplitl [Harg14]; · iexact Harg14
  isplitl [Harg15]; · iexact Harg15
  isplitl [Harg16]; · iexact Harg16
  iexact Harg17

set_option maxHeartbeats 1000000 in
/-- Segment 8: row block `b` gains the product, the others stay. -/
theorem segment8 (H1 : ¬ k0_cond1 i = 1#1) (H2 : ¬ k0_cond2 i = 1#1) (H3 : ¬ k0_cond3 i = 1#1) (H4 : ¬ k0_cond4 i = 1#1) (H5 : ¬ k0_cond5 i = 1#1) (H6 : ¬ k0_cond6 i = 1#1) (H7 : ¬ k0_cond7 i = 1#1) (H8 : ¬ k0_cond8 i = 1#1) (H9 : ¬ k0_cond9 i = 1#1) (H10 : k0_cond10 i = 1#1) (H11 : k0_cond11 i = 1#1) :
    ∃ (C_arg16 : BufTy.Contents (Elt F) arg16.view.ty) (C_arg17 : BufTy.Contents (Elt F) arg17.view.ty),
    arg16.view.read (Elt F) C_arg16 = k0_pay1 (rows (arg17.view.read (Elt F) X_arg17) b) (arg12.view.read (Elt F) X_arg12) (arg15.view.read (Elt F) X_arg15)
    ∧ rows (arg17.view.read (Elt F) C_arg17) b = k0_pay1 (rows (arg17.view.read (Elt F) X_arg17) b) (arg12.view.read (Elt F) X_arg12) (arg15.view.read (Elt F) X_arg15)
    ∧ (∀ b' : Fin 8, b' ≠ b → rows (arg17.view.read (Elt F) C_arg17) b' = rows (arg17.view.read (Elt F) X_arg17) b')
    ∧ ((iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17)) : sProp 𝕄)
      ⊢ wp frame (wpE (defs₀ (F := F)) Variants.none (c : Thread nD τ) none) Set.univ (cc0_du_all (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} C_arg16) ∗ (arg17.view.loc (c : Thread nD τ) ↦[arg17.view.set]{fullShare} C_arg17)))) := by
  have own : rows (arg17.view.read (Elt F) (arg17.view.writes (Elt F) X_arg17 (⟨Rect.unit (s := S4096x1024) (k0_off10 i) S512x1024.size (k0_off10_inb i H10), k0_pay1 (View.readAt (Elt F) arg17.view (Rect.unit (s := S4096x1024) (k0_off10 i) S512x1024.size (k0_off10_inb i H10)).toLoadRect X_arg17) (View.readAt (Elt F) arg12.view (Rect.unit (s := S512x1024) ![0, 0] S512x1024.size inb_S512x1024_S512x1024_0_0).toLoadRect X_arg12) (View.readAt (Elt F) arg15.view (Rect.unit (s := S1024x1024) ![0, 0] S1024x1024.size inb_S1024x1024_S1024x1024_0_0).toLoadRect X_arg15)⟩ :: []))) b = k0_pay1 (rows (arg17.view.read (Elt F) X_arg17) b) (arg12.view.read (Elt F) X_arg12) (arg15.view.read (Elt F) X_arg15) := by
    rw [rows_own arg17.view X_arg17 b ((k0_off10_eq _).trans (by rw [hb])), rows_load arg17.view X_arg17 b ((k0_off10_eq _).trans (by rw [hb])), View.readAt_full, View.readAt_full]
  have e16 : arg16.view.read (Elt F) (arg16.view.writes (Elt F) X_arg16 [⟨Rect.unit (s := S512x1024) ![0, 0] S512x1024.size inb_S512x1024_S512x1024_0_0, arg17.view.readCov [⟨Rect.unit (s := S4096x1024) (k0_off10 i) S512x1024.size (k0_off10_inb i H10), k0_pay1 (View.readAt (Elt F) arg17.view (Rect.unit (s := S4096x1024) (k0_off10 i) S512x1024.size (k0_off10_inb i H10)).toLoadRect X_arg17) (View.readAt (Elt F) arg12.view (Rect.unit (s := S512x1024) ![0, 0] S512x1024.size inb_S512x1024_S512x1024_0_0).toLoadRect X_arg12) (View.readAt (Elt F) arg15.view (Rect.unit (s := S1024x1024) ![0, 0] S1024x1024.size inb_S1024x1024_S1024x1024_0_0).toLoadRect X_arg15)⟩] (Rect.unit (s := S4096x1024) (k0_off11 i) S512x1024.size (k0_off11_inb i H11)).toLoadRect⟩]) = k0_pay1 (rows (arg17.view.read (Elt F) X_arg17) b) (arg12.view.read (Elt F) X_arg12) (arg15.view.read (Elt F) X_arg15) := by
    rw [View.read_writes_full]
    show View.readAt (Elt F) arg17.view (Rect.unit (s := S4096x1024) (k0_off11 i) S512x1024.size (k0_off11_inb i H11)).toLoadRect (arg17.view.writes (Elt F) _ [⟨Rect.unit (s := S4096x1024) (k0_off10 i) S512x1024.size (k0_off10_inb i H10), k0_pay1 (View.readAt (Elt F) arg17.view (Rect.unit (s := S4096x1024) (k0_off10 i) S512x1024.size (k0_off10_inb i H10)).toLoadRect X_arg17) (View.readAt (Elt F) arg12.view (Rect.unit (s := S512x1024) ![0, 0] S512x1024.size inb_S512x1024_S512x1024_0_0).toLoadRect X_arg12) (View.readAt (Elt F) arg15.view (Rect.unit (s := S1024x1024) ![0, 0] S1024x1024.size inb_S1024x1024_S1024x1024_0_0).toLoadRect X_arg15)⟩]) = _
    rw [rows_load arg17.view _ b ((k0_off11_eq _).trans (by rw [hb])), rows_own arg17.view _ b ((k0_off10_eq _).trans (by rw [hb])), rows_load arg17.view X_arg17 b ((k0_off10_eq _).trans (by rw [hb])), View.readAt_full, View.readAt_full]
  refine ⟨arg16.view.writes (Elt F) X_arg16 [⟨Rect.unit (s := S512x1024) ![0, 0] S512x1024.size inb_S512x1024_S512x1024_0_0, arg17.view.readCov [⟨Rect.unit (s := S4096x1024) (k0_off10 i) S512x1024.size (k0_off10_inb i H10), k0_pay1 (View.readAt (Elt F) arg17.view (Rect.unit (s := S4096x1024) (k0_off10 i) S512x1024.size (k0_off10_inb i H10)).toLoadRect X_arg17) (View.readAt (Elt F) arg12.view (Rect.unit (s := S512x1024) ![0, 0] S512x1024.size inb_S512x1024_S512x1024_0_0).toLoadRect X_arg12) (View.readAt (Elt F) arg15.view (Rect.unit (s := S1024x1024) ![0, 0] S1024x1024.size inb_S1024x1024_S1024x1024_0_0).toLoadRect X_arg15)⟩] (Rect.unit (s := S4096x1024) (k0_off11 i) S512x1024.size (k0_off11_inb i H11)).toLoadRect⟩], arg17.view.writes (Elt F) X_arg17 (⟨Rect.unit (s := S4096x1024) (k0_off10 i) S512x1024.size (k0_off10_inb i H10), k0_pay1 (View.readAt (Elt F) arg17.view (Rect.unit (s := S4096x1024) (k0_off10 i) S512x1024.size (k0_off10_inb i H10)).toLoadRect X_arg17) (View.readAt (Elt F) arg12.view (Rect.unit (s := S512x1024) ![0, 0] S512x1024.size inb_S512x1024_S512x1024_0_0).toLoadRect X_arg12) (View.readAt (Elt F) arg15.view (Rect.unit (s := S1024x1024) ![0, 0] S1024x1024.size inb_S1024x1024_S1024x1024_0_0).toLoadRect X_arg15)⟩ :: []), ?_, ?_, ?_, ?_⟩
  · exact e16
  · exact own
  · intro b' hb'
    exact rows_ne arg17.view X_arg17 b ((k0_off10_eq _).trans (by rw [hb])) _ _ [] b' hb'
  simp only [cc0_du_all_eq_skeleton]
  unfold cc0_du_all_skel
  simp only [k0_part1_eq_skeleton]
  unfold k0_part1_skel
  iintro ⟨Harg2, Harg3, Harg4, Harg5, Harg6, Harg7, Harg8, Harg9, Harg10, Harg11, Harg12, Harg13, Harg14, Harg15, Harg16, Harg17⟩
  sl_exec
  sl_step
  isplitl [Harg2]; · iexact Harg2
  isplitl [Harg3]; · iexact Harg3
  isplitl [Harg4]; · iexact Harg4
  isplitl [Harg5]; · iexact Harg5
  isplitl [Harg6]; · iexact Harg6
  isplitl [Harg7]; · iexact Harg7
  isplitl [Harg8]; · iexact Harg8
  isplitl [Harg9]; · iexact Harg9
  isplitl [Harg10]; · iexact Harg10
  isplitl [Harg11]; · iexact Harg11
  isplitl [Harg12]; · iexact Harg12
  isplitl [Harg13]; · iexact Harg13
  isplitl [Harg14]; · iexact Harg14
  isplitl [Harg15]; · iexact Harg15
  isplitl [Harg16]; · iexact Harg16
  iexact Harg17

end Cert.DuIdeal.Gen.Seg

end
-- ==== Proof.Products.DuPoint.lean ====
module

public import proofs.«01_k».proof.Proof.Gen.DuIdeal.Frame
public import proofs.«01_k».proof.Proof.Gen.DuIdeal.Skeleton
public import Idealize.ShloMosaic.Lib.WritesUnit
public import Idealize.ShloMosaic.Lib.VecWindow
public import Idealize.ShloMosaic.Lib.Pipeline.ValueKit
public import proofs.«01_k».proof.Proof.Products.DuFacts
public import Idealize.ShloMosaic.Lib.Tactic

@[expose] public section

set_option maxRecDepth 16384

noncomputable section

/-!
What the accumulator and the result's buffer hold after each point of the grid. Point (k, b) adds segment k's
product to row block b of the accumulator; at the last segment the row block is also handed out. So the invariant
between two points is: each row block that has been visited holds the sum of its segments so far.
-/

namespace Cert.DuIdeal.Gen.Seg

open Cert.DuIdeal Cert.DuIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The point of segment `k` and row block `b`. -/
def pt (k : Fin 9) (b : Fin 8) : Fin cfg0.N := ⟨8 * k.val + b.val, by have h1 := k.isLt; have h2 := b.isLt; show _ < 72; omega⟩

theorem exists_pt (t : Fin cfg0.N) : ∃ k b, t = pt k b := by
  have h : t.val < 72 := t.isLt
  exact ⟨⟨t.val / 8, by omega⟩, ⟨t.val % 8, by omega⟩, Fin.ext (by show t.val = 8 * (t.val / 8) + t.val % 8; omega)⟩

theorem coord : ∀ (k : Fin 9) (b : Fin 8), ((grid0.coords (pt k b)) 1).val = b.val := by decide +kernel

/-- Row block `b` once more segment has been added to `x`. -/
def add (c : Dev nD) (b : Fin 8) (k : ℕ) (x : Vec F S512x1024 .f32) : Vec F S512x1024 .f32 :=
  match k with
  | 0 => k0_pay4 x (iblk m c 3 (pt 1 b)) (iblk m c 11 (pt 1 b))
  | 1 => k0_pay5 x (iblk m c 4 (pt 2 b)) (iblk m c 11 (pt 2 b))
  | 2 => k0_pay6 x (iblk m c 5 (pt 3 b)) (iblk m c 11 (pt 3 b))
  | 3 => k0_pay7 x (iblk m c 6 (pt 4 b)) (iblk m c 12 (pt 4 b))
  | 4 => k0_pay8 x (iblk m c 7 (pt 5 b)) (iblk m c 12 (pt 5 b))
  | 5 => k0_pay9 x (iblk m c 8 (pt 6 b)) (iblk m c 12 (pt 6 b))
  | 6 => k0_pay10 x (iblk m c 9 (pt 7 b)) (iblk m c 13 (pt 7 b))
  | 7 => k0_pay1 x (iblk m c 10 (pt 8 b)) (iblk m c 13 (pt 8 b))
  | _ => x

/-- Row block `b` of the accumulator after segment `k`. -/
def part (c : Dev nD) (b : Fin 8) : ℕ → Vec F S512x1024 .f32
  | 0 => k0_pay3 (k0_pay2 (iblk m c 0 (pt 0 b)) (iblk m c 1 (pt 0 b))) (iblk m c 2 (pt 0 b)) (iblk m c 11 (pt 0 b))
  | k + 1 => add m c b k (part c b k)

/-- What the accumulator holds before point `t`: each row block visited has its segments so far. -/
def Good (c : Dev nD) (t : ℕ) (f : S4096x1024.Idx → Elt F .f32) : Prop :=
  ∀ (b : Fin 8) (k : ℕ), k + 1 = (t + 7 - b.val) / 8 → rows f b = part m c b k

theorem good_zero (c : Dev nD) (f : S4096x1024.Idx → Elt F .f32) : Good m c 0 f := fun b k h => by omega

theorem good_step (c : Dev nD) (k : Fin 9) (b : Fin 8) (f f' : S4096x1024.Idx → Elt F .f32)
    (own : rows f' b = part m c b k.val) (others : ∀ b', b' ≠ b → rows f' b' = rows f b') (g : Good m c (pt k b).val f) :
    Good m c ((pt k b).val + 1) f' := fun b' k' h => by
  change k' + 1 = (8 * k.val + b.val + 1 + 7 - b'.val) / 8 at h
  by_cases e : b' = b
  · subst e
    rw [own, show k' = k.val by omega]
  · have h1 : b'.val ≠ b.val := fun e' => e (Fin.ext e')
    rw [others b' e]
    exact g b' k' (by show k' + 1 = (8 * k.val + b.val + 7 - b'.val) / 8; omega)

/-- What the result's buffer may hold after a point: nothing new before the last segment, the row block at it. -/
def Left (c : Dev nD) (t : Fin cfg0.N) (Y X : S512x1024.Idx → Elt F .f32) : Prop :=
  if t.val / 8 = 8 then X = part m c ⟨t.val % 8, Nat.mod_lt _ (by decide)⟩ 8 else X = Y

theorem left_before (c : Dev nD) (k : Fin 9) (hk : k.val < 8) (b : Fin 8) (Y : S512x1024.Idx → Elt F .f32) : Left m c (pt k b) Y Y := by
  unfold Left; rw [if_neg (by show ¬ (8 * k.val + b.val) / 8 = 8; have := b.isLt; omega)]

theorem left_last (c : Dev nD) (b : Fin 8) (Y : S512x1024.Idx → Elt F .f32) : Left m c (pt 8 b) Y (part m c b 8) := by
  unfold Left; rw [if_pos (by show (8 * 8 + b.val) / 8 = 8; have := b.isLt; omega)]
  congr 1; exact Fin.ext (by show b.val = (8 * 8 + b.val) % 8; have := b.isLt; omega)

abbrev st_arg2 (t : Fin cfg0.N) : Memref sig .tc .vmem S512x128 .f32 := win0_0.stage (cfg0.slots t 0)
theorem hst_arg2 (t : Fin cfg0.N) : (st_arg2 t).IsWhole := hstage0_0 ((cfg0.slots t 0).cast nbuf0_0)
abbrev st_arg3 (t : Fin cfg0.N) : Memref sig .tc .vmem S1024x128 .bf16 := win0_1.stage (cfg0.slots t 1)
theorem hst_arg3 (t : Fin cfg0.N) : (st_arg3 t).IsWhole := hstage0_1 ((cfg0.slots t 1).cast nbuf0_1)
abbrev st_arg4 (t : Fin cfg0.N) : Memref sig .tc .vmem S512x1024 .bf16 := win0_2.stage (cfg0.slots t 2)
theorem hst_arg4 (t : Fin cfg0.N) : (st_arg4 t).IsWhole := hstage0_2 ((cfg0.slots t 2).cast nbuf0_2)
abbrev st_arg5 (t : Fin cfg0.N) : Memref sig .tc .vmem S512x1024 .bf16 := win0_3.stage (cfg0.slots t 3)
theorem hst_arg5 (t : Fin cfg0.N) : (st_arg5 t).IsWhole := hstage0_3 ((cfg0.slots t 3).cast nbuf0_3)
abbrev st_arg6 (t : Fin cfg0.N) : Memref sig .tc .vmem S512x1024 .bf16 := win0_4.stage (cfg0.slots t 4)
theorem hst_arg6 (t : Fin cfg0.N) : (st_arg6 t).IsWhole := hstage0_4 ((cfg0.slots t 4).cast nbuf0_4)
abbrev st_arg7 (t : Fin cfg0.N) : Memref sig .tc .vmem S512x1024 .bf16 := win0_5.stage (cfg0.slots t 5)
theorem hst_arg7 (t : Fin cfg0.N) : (st_arg7 t).IsWhole := hstage0_5 ((cfg0.slots t 5).cast nbuf0_5)
abbrev st_arg8 (t : Fin cfg0.N) : Memref sig .tc .vmem S512x1024 .bf16 := win0_6.stage (cfg0.slots t 6)
theorem hst_arg8 (t : Fin cfg0.N) : (st_arg8 t).IsWhole := hstage0_6 ((cfg0.slots t 6).cast nbuf0_6)
abbrev st_arg9 (t : Fin cfg0.N) : Memref sig .tc .vmem S512x1024 .bf16 := win0_7.stage (cfg0.slots t 7)
theorem hst_arg9 (t : Fin cfg0.N) : (st_arg9 t).IsWhole := hstage0_7 ((cfg0.slots t 7).cast nbuf0_7)
abbrev st_arg10 (t : Fin cfg0.N) : Memref sig .tc .vmem S512x1024 .bf16 := win0_8.stage (cfg0.slots t 8)
theorem hst_arg10 (t : Fin cfg0.N) : (st_arg10 t).IsWhole := hstage0_8 ((cfg0.slots t 8).cast nbuf0_8)
abbrev st_arg11 (t : Fin cfg0.N) : Memref sig .tc .vmem S512x1024 .bf16 := win0_9.stage (cfg0.slots t 9)
theorem hst_arg11 (t : Fin cfg0.N) : (st_arg11 t).IsWhole := hstage0_9 ((cfg0.slots t 9).cast nbuf0_9)
abbrev st_arg12 (t : Fin cfg0.N) : Memref sig .tc .vmem S512x1024 .bf16 := win0_10.stage (cfg0.slots t 10)
theorem hst_arg12 (t : Fin cfg0.N) : (st_arg12 t).IsWhole := hstage0_10 ((cfg0.slots t 10).cast nbuf0_10)
abbrev st_arg13 (t : Fin cfg0.N) : Memref sig .tc .vmem S1024x1024 .bf16 := win0_11.stage (cfg0.slots t 11)
theorem hst_arg13 (t : Fin cfg0.N) : (st_arg13 t).IsWhole := hstage0_11 ((cfg0.slots t 11).cast nbuf0_11)
abbrev st_arg14 (t : Fin cfg0.N) : Memref sig .tc .vmem S1024x1024 .bf16 := win0_12.stage (cfg0.slots t 12)
theorem hst_arg14 (t : Fin cfg0.N) : (st_arg14 t).IsWhole := hstage0_12 ((cfg0.slots t 12).cast nbuf0_12)
abbrev st_arg15 (t : Fin cfg0.N) : Memref sig .tc .vmem S1024x1024 .bf16 := win0_13.stage (cfg0.slots t 13)
theorem hst_arg15 (t : Fin cfg0.N) : (st_arg15 t).IsWhole := hstage0_13 ((cfg0.slots t 13).cast nbuf0_13)
abbrev st_arg16 (t : Fin cfg0.N) : Memref sig .tc .vmem S512x1024 .f32 := win0_14.stage (cfg0.slots t 14)
theorem hst_arg16 (t : Fin cfg0.N) : (st_arg16 t).IsWhole := hstage0_14 ((cfg0.slots t 14).cast nbuf0_14)
abbrev st_arg17 (t : Fin cfg0.N) : Memref sig .tc .vmem S4096x1024 .f32 := Memref.whole cc0_scratch0
theorem hst_arg17 (t : Fin cfg0.N) : (st_arg17 t).IsWhole := Memref.isWhole_whole _

/-- What is proved of a point: from the accumulator as it should be, its run leaves the accumulator as it should be
    and the result's buffer likewise. -/
def Runs (c : Dev nD) (t : Fin cfg0.N) (X_arg2 : BufTy.Contents (Elt F) (st_arg2 t).view.ty) (X_arg3 : BufTy.Contents (Elt F) (st_arg3 t).view.ty) (X_arg4 : BufTy.Contents (Elt F) (st_arg4 t).view.ty) (X_arg5 : BufTy.Contents (Elt F) (st_arg5 t).view.ty) (X_arg6 : BufTy.Contents (Elt F) (st_arg6 t).view.ty) (X_arg7 : BufTy.Contents (Elt F) (st_arg7 t).view.ty) (X_arg8 : BufTy.Contents (Elt F) (st_arg8 t).view.ty) (X_arg9 : BufTy.Contents (Elt F) (st_arg9 t).view.ty) (X_arg10 : BufTy.Contents (Elt F) (st_arg10 t).view.ty) (X_arg11 : BufTy.Contents (Elt F) (st_arg11 t).view.ty) (X_arg12 : BufTy.Contents (Elt F) (st_arg12 t).view.ty) (X_arg13 : BufTy.Contents (Elt F) (st_arg13 t).view.ty) (X_arg14 : BufTy.Contents (Elt F) (st_arg14 t).view.ty) (X_arg15 : BufTy.Contents (Elt F) (st_arg15 t).view.ty) (X_arg16 : BufTy.Contents (Elt F) (st_arg16 t).view.ty) (X_arg17 : BufTy.Contents (Elt F) (st_arg17 t).view.ty) : Prop :=
  ∃ (C_arg16 : BufTy.Contents (Elt F) (st_arg16 t).view.ty) (C_arg17 : BufTy.Contents (Elt F) (st_arg17 t).view.ty),
    Good m c (t.val + 1) ((st_arg17 t).view.read (Elt F) C_arg17)
    ∧ Left m c t ((st_arg16 t).view.read (Elt F) X_arg16) ((st_arg16 t).view.read (Elt F) C_arg16)
    ∧ ((iprop(((st_arg2 t).view.loc (c : Thread nD τ) ↦[(st_arg2 t).view.set]{fullShare} X_arg2) ∗ ((st_arg3 t).view.loc (c : Thread nD τ) ↦[(st_arg3 t).view.set]{fullShare} X_arg3) ∗ ((st_arg4 t).view.loc (c : Thread nD τ) ↦[(st_arg4 t).view.set]{fullShare} X_arg4) ∗ ((st_arg5 t).view.loc (c : Thread nD τ) ↦[(st_arg5 t).view.set]{fullShare} X_arg5) ∗ ((st_arg6 t).view.loc (c : Thread nD τ) ↦[(st_arg6 t).view.set]{fullShare} X_arg6) ∗ ((st_arg7 t).view.loc (c : Thread nD τ) ↦[(st_arg7 t).view.set]{fullShare} X_arg7) ∗ ((st_arg8 t).view.loc (c : Thread nD τ) ↦[(st_arg8 t).view.set]{fullShare} X_arg8) ∗ ((st_arg9 t).view.loc (c : Thread nD τ) ↦[(st_arg9 t).view.set]{fullShare} X_arg9) ∗ ((st_arg10 t).view.loc (c : Thread nD τ) ↦[(st_arg10 t).view.set]{fullShare} X_arg10) ∗ ((st_arg11 t).view.loc (c : Thread nD τ) ↦[(st_arg11 t).view.set]{fullShare} X_arg11) ∗ ((st_arg12 t).view.loc (c : Thread nD τ) ↦[(st_arg12 t).view.set]{fullShare} X_arg12) ∗ ((st_arg13 t).view.loc (c : Thread nD τ) ↦[(st_arg13 t).view.set]{fullShare} X_arg13) ∗ ((st_arg14 t).view.loc (c : Thread nD τ) ↦[(st_arg14 t).view.set]{fullShare} X_arg14) ∗ ((st_arg15 t).view.loc (c : Thread nD τ) ↦[(st_arg15 t).view.set]{fullShare} X_arg15) ∗ ((st_arg16 t).view.loc (c : Thread nD τ) ↦[(st_arg16 t).view.set]{fullShare} X_arg16) ∗ ((st_arg17 t).view.loc (c : Thread nD τ) ↦[(st_arg17 t).view.set]{fullShare} X_arg17)) : sProp 𝕄)
      ⊢ wp frame (wpE (defs₀ (F := F)) Variants.none (c : Thread nD τ) none) Set.univ (cc0_du_all (F := F) (grid0.coords t) (st_arg2 t) (hst_arg2 t) (st_arg3 t) (hst_arg3 t) (st_arg4 t) (hst_arg4 t) (st_arg5 t) (hst_arg5 t) (st_arg6 t) (hst_arg6 t) (st_arg7 t) (hst_arg7 t) (st_arg8 t) (hst_arg8 t) (st_arg9 t) (hst_arg9 t) (st_arg10 t) (hst_arg10 t) (st_arg11 t) (hst_arg11 t) (st_arg12 t) (hst_arg12 t) (st_arg13 t) (hst_arg13 t) (st_arg14 t) (hst_arg14 t) (st_arg15 t) (hst_arg15 t) (st_arg16 t) (hst_arg16 t) (st_arg17 t) (hst_arg17 t))
          (fun _ => iprop(((st_arg2 t).view.loc (c : Thread nD τ) ↦[(st_arg2 t).view.set]{fullShare} X_arg2) ∗ ((st_arg3 t).view.loc (c : Thread nD τ) ↦[(st_arg3 t).view.set]{fullShare} X_arg3) ∗ ((st_arg4 t).view.loc (c : Thread nD τ) ↦[(st_arg4 t).view.set]{fullShare} X_arg4) ∗ ((st_arg5 t).view.loc (c : Thread nD τ) ↦[(st_arg5 t).view.set]{fullShare} X_arg5) ∗ ((st_arg6 t).view.loc (c : Thread nD τ) ↦[(st_arg6 t).view.set]{fullShare} X_arg6) ∗ ((st_arg7 t).view.loc (c : Thread nD τ) ↦[(st_arg7 t).view.set]{fullShare} X_arg7) ∗ ((st_arg8 t).view.loc (c : Thread nD τ) ↦[(st_arg8 t).view.set]{fullShare} X_arg8) ∗ ((st_arg9 t).view.loc (c : Thread nD τ) ↦[(st_arg9 t).view.set]{fullShare} X_arg9) ∗ ((st_arg10 t).view.loc (c : Thread nD τ) ↦[(st_arg10 t).view.set]{fullShare} X_arg10) ∗ ((st_arg11 t).view.loc (c : Thread nD τ) ↦[(st_arg11 t).view.set]{fullShare} X_arg11) ∗ ((st_arg12 t).view.loc (c : Thread nD τ) ↦[(st_arg12 t).view.set]{fullShare} X_arg12) ∗ ((st_arg13 t).view.loc (c : Thread nD τ) ↦[(st_arg13 t).view.set]{fullShare} X_arg13) ∗ ((st_arg14 t).view.loc (c : Thread nD τ) ↦[(st_arg14 t).view.set]{fullShare} X_arg14) ∗ ((st_arg15 t).view.loc (c : Thread nD τ) ↦[(st_arg15 t).view.set]{fullShare} X_arg15) ∗ ((st_arg16 t).view.loc (c : Thread nD τ) ↦[(st_arg16 t).view.set]{fullShare} C_arg16) ∗ ((st_arg17 t).view.loc (c : Thread nD τ) ↦[(st_arg17 t).view.set]{fullShare} C_arg17))))

/-- What is proved of point `(k, b)`: from the blocks the windows bring and a good accumulator, `Runs`. -/
def RunsAt (c : Dev nD) (k : Fin 9) (b : Fin 8) : Prop :=
  ∀ (X_arg2 : BufTy.Contents (Elt F) (st_arg2 (pt k b)).view.ty) (X_arg3 : BufTy.Contents (Elt F) (st_arg3 (pt k b)).view.ty) (X_arg4 : BufTy.Contents (Elt F) (st_arg4 (pt k b)).view.ty) (X_arg5 : BufTy.Contents (Elt F) (st_arg5 (pt k b)).view.ty) (X_arg6 : BufTy.Contents (Elt F) (st_arg6 (pt k b)).view.ty) (X_arg7 : BufTy.Contents (Elt F) (st_arg7 (pt k b)).view.ty) (X_arg8 : BufTy.Contents (Elt F) (st_arg8 (pt k b)).view.ty) (X_arg9 : BufTy.Contents (Elt F) (st_arg9 (pt k b)).view.ty) (X_arg10 : BufTy.Contents (Elt F) (st_arg10 (pt k b)).view.ty) (X_arg11 : BufTy.Contents (Elt F) (st_arg11 (pt k b)).view.ty) (X_arg12 : BufTy.Contents (Elt F) (st_arg12 (pt k b)).view.ty) (X_arg13 : BufTy.Contents (Elt F) (st_arg13 (pt k b)).view.ty) (X_arg14 : BufTy.Contents (Elt F) (st_arg14 (pt k b)).view.ty) (X_arg15 : BufTy.Contents (Elt F) (st_arg15 (pt k b)).view.ty) (X_arg16 : BufTy.Contents (Elt F) (st_arg16 (pt k b)).view.ty) (X_arg17 : BufTy.Contents (Elt F) (st_arg17 (pt k b)).view.ty) (r_arg2 : (st_arg2 (pt k b)).view.read (Elt F) X_arg2 = iblk m c 0 (pt k b)) (r_arg3 : (st_arg3 (pt k b)).view.read (Elt F) X_arg3 = iblk m c 1 (pt k b)) (r_arg4 : (st_arg4 (pt k b)).view.read (Elt F) X_arg4 = iblk m c 2 (pt k b)) (r_arg5 : (st_arg5 (pt k b)).view.read (Elt F) X_arg5 = iblk m c 3 (pt k b)) (r_arg6 : (st_arg6 (pt k b)).view.read (Elt F) X_arg6 = iblk m c 4 (pt k b)) (r_arg7 : (st_arg7 (pt k b)).view.read (Elt F) X_arg7 = iblk m c 5 (pt k b)) (r_arg8 : (st_arg8 (pt k b)).view.read (Elt F) X_arg8 = iblk m c 6 (pt k b)) (r_arg9 : (st_arg9 (pt k b)).view.read (Elt F) X_arg9 = iblk m c 7 (pt k b)) (r_arg10 : (st_arg10 (pt k b)).view.read (Elt F) X_arg10 = iblk m c 8 (pt k b)) (r_arg11 : (st_arg11 (pt k b)).view.read (Elt F) X_arg11 = iblk m c 9 (pt k b)) (r_arg12 : (st_arg12 (pt k b)).view.read (Elt F) X_arg12 = iblk m c 10 (pt k b)) (r_arg13 : (st_arg13 (pt k b)).view.read (Elt F) X_arg13 = iblk m c 11 (pt k b)) (r_arg14 : (st_arg14 (pt k b)).view.read (Elt F) X_arg14 = iblk m c 12 (pt k b)) (r_arg15 : (st_arg15 (pt k b)).view.read (Elt F) X_arg15 = iblk m c 13 (pt k b)) (_ : Good m c (pt k b).val ((st_arg17 (pt k b)).view.read (Elt F) X_arg17)), Runs m c (pt k b) X_arg2 X_arg3 X_arg4 X_arg5 X_arg6 X_arg7 X_arg8 X_arg9 X_arg10 X_arg11 X_arg12 X_arg13 X_arg14 X_arg15 X_arg16 X_arg17

theorem conds0 : ∀ b : Fin 8, k0_cond1 (grid0.coords (pt 0 b)) = 1#1 ∧ k0_cond2 (grid0.coords (pt 0 b)) = 1#1 ∧ ¬ k0_cond3 (grid0.coords (pt 0 b)) = 1#1 ∧ ¬ k0_cond4 (grid0.coords (pt 0 b)) = 1#1 ∧ ¬ k0_cond5 (grid0.coords (pt 0 b)) = 1#1 ∧ ¬ k0_cond6 (grid0.coords (pt 0 b)) = 1#1 ∧ ¬ k0_cond7 (grid0.coords (pt 0 b)) = 1#1 ∧ ¬ k0_cond8 (grid0.coords (pt 0 b)) = 1#1 ∧ ¬ k0_cond9 (grid0.coords (pt 0 b)) = 1#1 ∧ ¬ k0_cond10 (grid0.coords (pt 0 b)) = 1#1 ∧ ¬ k0_cond11 (grid0.coords (pt 0 b)) = 1#1 := by decide +kernel

set_option maxHeartbeats 1000000 in
/-- Segment 0. -/
theorem runs0 (c : Dev nD) (b : Fin 8) : RunsAt m c 0 b := by
  unfold RunsAt
  intro X_arg2 X_arg3 X_arg4 X_arg5 X_arg6 X_arg7 X_arg8 X_arg9 X_arg10 X_arg11 X_arg12 X_arg13 X_arg14 X_arg15 X_arg16 X_arg17 r_arg2 r_arg3 r_arg4 r_arg5 r_arg6 r_arg7 r_arg8 r_arg9 r_arg10 r_arg11 r_arg12 r_arg13 r_arg14 r_arg15 g
  obtain ⟨h1, h2, h3, h4, h5, h6, h7, h8, h9, h10, h11⟩ := conds0 b
  obtain ⟨C, own, others, run⟩ := segment0 c (grid0.coords (pt 0 b)) b (coord 0 b) (st_arg2 (pt 0 b)) (hst_arg2 (pt 0 b)) (st_arg3 (pt 0 b)) (hst_arg3 (pt 0 b)) (st_arg4 (pt 0 b)) (hst_arg4 (pt 0 b)) (st_arg5 (pt 0 b)) (hst_arg5 (pt 0 b)) (st_arg6 (pt 0 b)) (hst_arg6 (pt 0 b)) (st_arg7 (pt 0 b)) (hst_arg7 (pt 0 b)) (st_arg8 (pt 0 b)) (hst_arg8 (pt 0 b)) (st_arg9 (pt 0 b)) (hst_arg9 (pt 0 b)) (st_arg10 (pt 0 b)) (hst_arg10 (pt 0 b)) (st_arg11 (pt 0 b)) (hst_arg11 (pt 0 b)) (st_arg12 (pt 0 b)) (hst_arg12 (pt 0 b)) (st_arg13 (pt 0 b)) (hst_arg13 (pt 0 b)) (st_arg14 (pt 0 b)) (hst_arg14 (pt 0 b)) (st_arg15 (pt 0 b)) (hst_arg15 (pt 0 b)) (st_arg16 (pt 0 b)) (hst_arg16 (pt 0 b)) (st_arg17 (pt 0 b)) (hst_arg17 (pt 0 b)) X_arg2 X_arg3 X_arg4 X_arg5 X_arg6 X_arg7 X_arg8 X_arg9 X_arg10 X_arg11 X_arg12 X_arg13 X_arg14 X_arg15 X_arg16 X_arg17 h1 h2 h3 h4 h5 h6 h7 h8 h9 h10 h11
  exact ⟨X_arg16, C, good_step m c 0 b _ _ (own.trans (by rw [r_arg2, r_arg3, r_arg4, r_arg13]; rfl)) others g, left_before m c 0 (by decide) b _, run⟩

theorem conds1 : ∀ b : Fin 8, ¬ k0_cond1 (grid0.coords (pt 1 b)) = 1#1 ∧ ¬ k0_cond2 (grid0.coords (pt 1 b)) = 1#1 ∧ k0_cond3 (grid0.coords (pt 1 b)) = 1#1 ∧ ¬ k0_cond4 (grid0.coords (pt 1 b)) = 1#1 ∧ ¬ k0_cond5 (grid0.coords (pt 1 b)) = 1#1 ∧ ¬ k0_cond6 (grid0.coords (pt 1 b)) = 1#1 ∧ ¬ k0_cond7 (grid0.coords (pt 1 b)) = 1#1 ∧ ¬ k0_cond8 (grid0.coords (pt 1 b)) = 1#1 ∧ ¬ k0_cond9 (grid0.coords (pt 1 b)) = 1#1 ∧ ¬ k0_cond10 (grid0.coords (pt 1 b)) = 1#1 ∧ ¬ k0_cond11 (grid0.coords (pt 1 b)) = 1#1 := by decide +kernel

set_option maxHeartbeats 1000000 in
/-- Segment 1. -/
theorem runs1 (c : Dev nD) (b : Fin 8) : RunsAt m c 1 b := by
  unfold RunsAt
  intro X_arg2 X_arg3 X_arg4 X_arg5 X_arg6 X_arg7 X_arg8 X_arg9 X_arg10 X_arg11 X_arg12 X_arg13 X_arg14 X_arg15 X_arg16 X_arg17 r_arg2 r_arg3 r_arg4 r_arg5 r_arg6 r_arg7 r_arg8 r_arg9 r_arg10 r_arg11 r_arg12 r_arg13 r_arg14 r_arg15 g
  obtain ⟨h1, h2, h3, h4, h5, h6, h7, h8, h9, h10, h11⟩ := conds1 b
  obtain ⟨C, own, others, run⟩ := segment1 c (grid0.coords (pt 1 b)) b (coord 1 b) (st_arg2 (pt 1 b)) (hst_arg2 (pt 1 b)) (st_arg3 (pt 1 b)) (hst_arg3 (pt 1 b)) (st_arg4 (pt 1 b)) (hst_arg4 (pt 1 b)) (st_arg5 (pt 1 b)) (hst_arg5 (pt 1 b)) (st_arg6 (pt 1 b)) (hst_arg6 (pt 1 b)) (st_arg7 (pt 1 b)) (hst_arg7 (pt 1 b)) (st_arg8 (pt 1 b)) (hst_arg8 (pt 1 b)) (st_arg9 (pt 1 b)) (hst_arg9 (pt 1 b)) (st_arg10 (pt 1 b)) (hst_arg10 (pt 1 b)) (st_arg11 (pt 1 b)) (hst_arg11 (pt 1 b)) (st_arg12 (pt 1 b)) (hst_arg12 (pt 1 b)) (st_arg13 (pt 1 b)) (hst_arg13 (pt 1 b)) (st_arg14 (pt 1 b)) (hst_arg14 (pt 1 b)) (st_arg15 (pt 1 b)) (hst_arg15 (pt 1 b)) (st_arg16 (pt 1 b)) (hst_arg16 (pt 1 b)) (st_arg17 (pt 1 b)) (hst_arg17 (pt 1 b)) X_arg2 X_arg3 X_arg4 X_arg5 X_arg6 X_arg7 X_arg8 X_arg9 X_arg10 X_arg11 X_arg12 X_arg13 X_arg14 X_arg15 X_arg16 X_arg17 h1 h2 h3 h4 h5 h6 h7 h8 h9 h10 h11
  exact ⟨X_arg16, C, good_step m c 1 b _ _ (own.trans (by rw [g b 0 (by show 0 + 1 = (8 * 1 + b.val + 7 - b.val) / 8; omega), r_arg5, r_arg13]; rfl)) others g, left_before m c 1 (by decide) b _, run⟩

theorem conds2 : ∀ b : Fin 8, ¬ k0_cond1 (grid0.coords (pt 2 b)) = 1#1 ∧ ¬ k0_cond2 (grid0.coords (pt 2 b)) = 1#1 ∧ ¬ k0_cond3 (grid0.coords (pt 2 b)) = 1#1 ∧ k0_cond4 (grid0.coords (pt 2 b)) = 1#1 ∧ ¬ k0_cond5 (grid0.coords (pt 2 b)) = 1#1 ∧ ¬ k0_cond6 (grid0.coords (pt 2 b)) = 1#1 ∧ ¬ k0_cond7 (grid0.coords (pt 2 b)) = 1#1 ∧ ¬ k0_cond8 (grid0.coords (pt 2 b)) = 1#1 ∧ ¬ k0_cond9 (grid0.coords (pt 2 b)) = 1#1 ∧ ¬ k0_cond10 (grid0.coords (pt 2 b)) = 1#1 ∧ ¬ k0_cond11 (grid0.coords (pt 2 b)) = 1#1 := by decide +kernel

set_option maxHeartbeats 1000000 in
/-- Segment 2. -/
theorem runs2 (c : Dev nD) (b : Fin 8) : RunsAt m c 2 b := by
  unfold RunsAt
  intro X_arg2 X_arg3 X_arg4 X_arg5 X_arg6 X_arg7 X_arg8 X_arg9 X_arg10 X_arg11 X_arg12 X_arg13 X_arg14 X_arg15 X_arg16 X_arg17 r_arg2 r_arg3 r_arg4 r_arg5 r_arg6 r_arg7 r_arg8 r_arg9 r_arg10 r_arg11 r_arg12 r_arg13 r_arg14 r_arg15 g
  obtain ⟨h1, h2, h3, h4, h5, h6, h7, h8, h9, h10, h11⟩ := conds2 b
  obtain ⟨C, own, others, run⟩ := segment2 c (grid0.coords (pt 2 b)) b (coord 2 b) (st_arg2 (pt 2 b)) (hst_arg2 (pt 2 b)) (st_arg3 (pt 2 b)) (hst_arg3 (pt 2 b)) (st_arg4 (pt 2 b)) (hst_arg4 (pt 2 b)) (st_arg5 (pt 2 b)) (hst_arg5 (pt 2 b)) (st_arg6 (pt 2 b)) (hst_arg6 (pt 2 b)) (st_arg7 (pt 2 b)) (hst_arg7 (pt 2 b)) (st_arg8 (pt 2 b)) (hst_arg8 (pt 2 b)) (st_arg9 (pt 2 b)) (hst_arg9 (pt 2 b)) (st_arg10 (pt 2 b)) (hst_arg10 (pt 2 b)) (st_arg11 (pt 2 b)) (hst_arg11 (pt 2 b)) (st_arg12 (pt 2 b)) (hst_arg12 (pt 2 b)) (st_arg13 (pt 2 b)) (hst_arg13 (pt 2 b)) (st_arg14 (pt 2 b)) (hst_arg14 (pt 2 b)) (st_arg15 (pt 2 b)) (hst_arg15 (pt 2 b)) (st_arg16 (pt 2 b)) (hst_arg16 (pt 2 b)) (st_arg17 (pt 2 b)) (hst_arg17 (pt 2 b)) X_arg2 X_arg3 X_arg4 X_arg5 X_arg6 X_arg7 X_arg8 X_arg9 X_arg10 X_arg11 X_arg12 X_arg13 X_arg14 X_arg15 X_arg16 X_arg17 h1 h2 h3 h4 h5 h6 h7 h8 h9 h10 h11
  exact ⟨X_arg16, C, good_step m c 2 b _ _ (own.trans (by rw [g b 1 (by show 1 + 1 = (8 * 2 + b.val + 7 - b.val) / 8; omega), r_arg6, r_arg13]; rfl)) others g, left_before m c 2 (by decide) b _, run⟩

theorem conds3 : ∀ b : Fin 8, ¬ k0_cond1 (grid0.coords (pt 3 b)) = 1#1 ∧ ¬ k0_cond2 (grid0.coords (pt 3 b)) = 1#1 ∧ ¬ k0_cond3 (grid0.coords (pt 3 b)) = 1#1 ∧ ¬ k0_cond4 (grid0.coords (pt 3 b)) = 1#1 ∧ k0_cond5 (grid0.coords (pt 3 b)) = 1#1 ∧ ¬ k0_cond6 (grid0.coords (pt 3 b)) = 1#1 ∧ ¬ k0_cond7 (grid0.coords (pt 3 b)) = 1#1 ∧ ¬ k0_cond8 (grid0.coords (pt 3 b)) = 1#1 ∧ ¬ k0_cond9 (grid0.coords (pt 3 b)) = 1#1 ∧ ¬ k0_cond10 (grid0.coords (pt 3 b)) = 1#1 ∧ ¬ k0_cond11 (grid0.coords (pt 3 b)) = 1#1 := by decide +kernel

set_option maxHeartbeats 1000000 in
/-- Segment 3. -/
theorem runs3 (c : Dev nD) (b : Fin 8) : RunsAt m c 3 b := by
  unfold RunsAt
  intro X_arg2 X_arg3 X_arg4 X_arg5 X_arg6 X_arg7 X_arg8 X_arg9 X_arg10 X_arg11 X_arg12 X_arg13 X_arg14 X_arg15 X_arg16 X_arg17 r_arg2 r_arg3 r_arg4 r_arg5 r_arg6 r_arg7 r_arg8 r_arg9 r_arg10 r_arg11 r_arg12 r_arg13 r_arg14 r_arg15 g
  obtain ⟨h1, h2, h3, h4, h5, h6, h7, h8, h9, h10, h11⟩ := conds3 b
  obtain ⟨C, own, others, run⟩ := segment3 c (grid0.coords (pt 3 b)) b (coord 3 b) (st_arg2 (pt 3 b)) (hst_arg2 (pt 3 b)) (st_arg3 (pt 3 b)) (hst_arg3 (pt 3 b)) (st_arg4 (pt 3 b)) (hst_arg4 (pt 3 b)) (st_arg5 (pt 3 b)) (hst_arg5 (pt 3 b)) (st_arg6 (pt 3 b)) (hst_arg6 (pt 3 b)) (st_arg7 (pt 3 b)) (hst_arg7 (pt 3 b)) (st_arg8 (pt 3 b)) (hst_arg8 (pt 3 b)) (st_arg9 (pt 3 b)) (hst_arg9 (pt 3 b)) (st_arg10 (pt 3 b)) (hst_arg10 (pt 3 b)) (st_arg11 (pt 3 b)) (hst_arg11 (pt 3 b)) (st_arg12 (pt 3 b)) (hst_arg12 (pt 3 b)) (st_arg13 (pt 3 b)) (hst_arg13 (pt 3 b)) (st_arg14 (pt 3 b)) (hst_arg14 (pt 3 b)) (st_arg15 (pt 3 b)) (hst_arg15 (pt 3 b)) (st_arg16 (pt 3 b)) (hst_arg16 (pt 3 b)) (st_arg17 (pt 3 b)) (hst_arg17 (pt 3 b)) X_arg2 X_arg3 X_arg4 X_arg5 X_arg6 X_arg7 X_arg8 X_arg9 X_arg10 X_arg11 X_arg12 X_arg13 X_arg14 X_arg15 X_arg16 X_arg17 h1 h2 h3 h4 h5 h6 h7 h8 h9 h10 h11
  exact ⟨X_arg16, C, good_step m c 3 b _ _ (own.trans (by rw [g b 2 (by show 2 + 1 = (8 * 3 + b.val + 7 - b.val) / 8; omega), r_arg7, r_arg13]; rfl)) others g, left_before m c 3 (by decide) b _, run⟩

theorem conds4 : ∀ b : Fin 8, ¬ k0_cond1 (grid0.coords (pt 4 b)) = 1#1 ∧ ¬ k0_cond2 (grid0.coords (pt 4 b)) = 1#1 ∧ ¬ k0_cond3 (grid0.coords (pt 4 b)) = 1#1 ∧ ¬ k0_cond4 (grid0.coords (pt 4 b)) = 1#1 ∧ ¬ k0_cond5 (grid0.coords (pt 4 b)) = 1#1 ∧ k0_cond6 (grid0.coords (pt 4 b)) = 1#1 ∧ ¬ k0_cond7 (grid0.coords (pt 4 b)) = 1#1 ∧ ¬ k0_cond8 (grid0.coords (pt 4 b)) = 1#1 ∧ ¬ k0_cond9 (grid0.coords (pt 4 b)) = 1#1 ∧ ¬ k0_cond10 (grid0.coords (pt 4 b)) = 1#1 ∧ ¬ k0_cond11 (grid0.coords (pt 4 b)) = 1#1 := by decide +kernel

set_option maxHeartbeats 1000000 in
/-- Segment 4. -/
theorem runs4 (c : Dev nD) (b : Fin 8) : RunsAt m c 4 b := by
  unfold RunsAt
  intro X_arg2 X_arg3 X_arg4 X_arg5 X_arg6 X_arg7 X_arg8 X_arg9 X_arg10 X_arg11 X_arg12 X_arg13 X_arg14 X_arg15 X_arg16 X_arg17 r_arg2 r_arg3 r_arg4 r_arg5 r_arg6 r_arg7 r_arg8 r_arg9 r_arg10 r_arg11 r_arg12 r_arg13 r_arg14 r_arg15 g
  obtain ⟨h1, h2, h3, h4, h5, h6, h7, h8, h9, h10, h11⟩ := conds4 b
  obtain ⟨C, own, others, run⟩ := segment4 c (grid0.coords (pt 4 b)) b (coord 4 b) (st_arg2 (pt 4 b)) (hst_arg2 (pt 4 b)) (st_arg3 (pt 4 b)) (hst_arg3 (pt 4 b)) (st_arg4 (pt 4 b)) (hst_arg4 (pt 4 b)) (st_arg5 (pt 4 b)) (hst_arg5 (pt 4 b)) (st_arg6 (pt 4 b)) (hst_arg6 (pt 4 b)) (st_arg7 (pt 4 b)) (hst_arg7 (pt 4 b)) (st_arg8 (pt 4 b)) (hst_arg8 (pt 4 b)) (st_arg9 (pt 4 b)) (hst_arg9 (pt 4 b)) (st_arg10 (pt 4 b)) (hst_arg10 (pt 4 b)) (st_arg11 (pt 4 b)) (hst_arg11 (pt 4 b)) (st_arg12 (pt 4 b)) (hst_arg12 (pt 4 b)) (st_arg13 (pt 4 b)) (hst_arg13 (pt 4 b)) (st_arg14 (pt 4 b)) (hst_arg14 (pt 4 b)) (st_arg15 (pt 4 b)) (hst_arg15 (pt 4 b)) (st_arg16 (pt 4 b)) (hst_arg16 (pt 4 b)) (st_arg17 (pt 4 b)) (hst_arg17 (pt 4 b)) X_arg2 X_arg3 X_arg4 X_arg5 X_arg6 X_arg7 X_arg8 X_arg9 X_arg10 X_arg11 X_arg12 X_arg13 X_arg14 X_arg15 X_arg16 X_arg17 h1 h2 h3 h4 h5 h6 h7 h8 h9 h10 h11
  exact ⟨X_arg16, C, good_step m c 4 b _ _ (own.trans (by rw [g b 3 (by show 3 + 1 = (8 * 4 + b.val + 7 - b.val) / 8; omega), r_arg8, r_arg14]; rfl)) others g, left_before m c 4 (by decide) b _, run⟩

theorem conds5 : ∀ b : Fin 8, ¬ k0_cond1 (grid0.coords (pt 5 b)) = 1#1 ∧ ¬ k0_cond2 (grid0.coords (pt 5 b)) = 1#1 ∧ ¬ k0_cond3 (grid0.coords (pt 5 b)) = 1#1 ∧ ¬ k0_cond4 (grid0.coords (pt 5 b)) = 1#1 ∧ ¬ k0_cond5 (grid0.coords (pt 5 b)) = 1#1 ∧ ¬ k0_cond6 (grid0.coords (pt 5 b)) = 1#1 ∧ k0_cond7 (grid0.coords (pt 5 b)) = 1#1 ∧ ¬ k0_cond8 (grid0.coords (pt 5 b)) = 1#1 ∧ ¬ k0_cond9 (grid0.coords (pt 5 b)) = 1#1 ∧ ¬ k0_cond10 (grid0.coords (pt 5 b)) = 1#1 ∧ ¬ k0_cond11 (grid0.coords (pt 5 b)) = 1#1 := by decide +kernel

set_option maxHeartbeats 1000000 in
/-- Segment 5. -/
theorem runs5 (c : Dev nD) (b : Fin 8) : RunsAt m c 5 b := by
  unfold RunsAt
  intro X_arg2 X_arg3 X_arg4 X_arg5 X_arg6 X_arg7 X_arg8 X_arg9 X_arg10 X_arg11 X_arg12 X_arg13 X_arg14 X_arg15 X_arg16 X_arg17 r_arg2 r_arg3 r_arg4 r_arg5 r_arg6 r_arg7 r_arg8 r_arg9 r_arg10 r_arg11 r_arg12 r_arg13 r_arg14 r_arg15 g
  obtain ⟨h1, h2, h3, h4, h5, h6, h7, h8, h9, h10, h11⟩ := conds5 b
  obtain ⟨C, own, others, run⟩ := segment5 c (grid0.coords (pt 5 b)) b (coord 5 b) (st_arg2 (pt 5 b)) (hst_arg2 (pt 5 b)) (st_arg3 (pt 5 b)) (hst_arg3 (pt 5 b)) (st_arg4 (pt 5 b)) (hst_arg4 (pt 5 b)) (st_arg5 (pt 5 b)) (hst_arg5 (pt 5 b)) (st_arg6 (pt 5 b)) (hst_arg6 (pt 5 b)) (st_arg7 (pt 5 b)) (hst_arg7 (pt 5 b)) (st_arg8 (pt 5 b)) (hst_arg8 (pt 5 b)) (st_arg9 (pt 5 b)) (hst_arg9 (pt 5 b)) (st_arg10 (pt 5 b)) (hst_arg10 (pt 5 b)) (st_arg11 (pt 5 b)) (hst_arg11 (pt 5 b)) (st_arg12 (pt 5 b)) (hst_arg12 (pt 5 b)) (st_arg13 (pt 5 b)) (hst_arg13 (pt 5 b)) (st_arg14 (pt 5 b)) (hst_arg14 (pt 5 b)) (st_arg15 (pt 5 b)) (hst_arg15 (pt 5 b)) (st_arg16 (pt 5 b)) (hst_arg16 (pt 5 b)) (st_arg17 (pt 5 b)) (hst_arg17 (pt 5 b)) X_arg2 X_arg3 X_arg4 X_arg5 X_arg6 X_arg7 X_arg8 X_arg9 X_arg10 X_arg11 X_arg12 X_arg13 X_arg14 X_arg15 X_arg16 X_arg17 h1 h2 h3 h4 h5 h6 h7 h8 h9 h10 h11
  exact ⟨X_arg16, C, good_step m c 5 b _ _ (own.trans (by rw [g b 4 (by show 4 + 1 = (8 * 5 + b.val + 7 - b.val) / 8; omega), r_arg9, r_arg14]; rfl)) others g, left_before m c 5 (by decide) b _, run⟩

theorem conds6 : ∀ b : Fin 8, ¬ k0_cond1 (grid0.coords (pt 6 b)) = 1#1 ∧ ¬ k0_cond2 (grid0.coords (pt 6 b)) = 1#1 ∧ ¬ k0_cond3 (grid0.coords (pt 6 b)) = 1#1 ∧ ¬ k0_cond4 (grid0.coords (pt 6 b)) = 1#1 ∧ ¬ k0_cond5 (grid0.coords (pt 6 b)) = 1#1 ∧ ¬ k0_cond6 (grid0.coords (pt 6 b)) = 1#1 ∧ ¬ k0_cond7 (grid0.coords (pt 6 b)) = 1#1 ∧ k0_cond8 (grid0.coords (pt 6 b)) = 1#1 ∧ ¬ k0_cond9 (grid0.coords (pt 6 b)) = 1#1 ∧ ¬ k0_cond10 (grid0.coords (pt 6 b)) = 1#1 ∧ ¬ k0_cond11 (grid0.coords (pt 6 b)) = 1#1 := by decide +kernel

set_option maxHeartbeats 1000000 in
/-- Segment 6. -/
theorem runs6 (c : Dev nD) (b : Fin 8) : RunsAt m c 6 b := by
  unfold RunsAt
  intro X_arg2 X_arg3 X_arg4 X_arg5 X_arg6 X_arg7 X_arg8 X_arg9 X_arg10 X_arg11 X_arg12 X_arg13 X_arg14 X_arg15 X_arg16 X_arg17 r_arg2 r_arg3 r_arg4 r_arg5 r_arg6 r_arg7 r_arg8 r_arg9 r_arg10 r_arg11 r_arg12 r_arg13 r_arg14 r_arg15 g
  obtain ⟨h1, h2, h3, h4, h5, h6, h7, h8, h9, h10, h11⟩ := conds6 b
  obtain ⟨C, own, others, run⟩ := segment6 c (grid0.coords (pt 6 b)) b (coord 6 b) (st_arg2 (pt 6 b)) (hst_arg2 (pt 6 b)) (st_arg3 (pt 6 b)) (hst_arg3 (pt 6 b)) (st_arg4 (pt 6 b)) (hst_arg4 (pt 6 b)) (st_arg5 (pt 6 b)) (hst_arg5 (pt 6 b)) (st_arg6 (pt 6 b)) (hst_arg6 (pt 6 b)) (st_arg7 (pt 6 b)) (hst_arg7 (pt 6 b)) (st_arg8 (pt 6 b)) (hst_arg8 (pt 6 b)) (st_arg9 (pt 6 b)) (hst_arg9 (pt 6 b)) (st_arg10 (pt 6 b)) (hst_arg10 (pt 6 b)) (st_arg11 (pt 6 b)) (hst_arg11 (pt 6 b)) (st_arg12 (pt 6 b)) (hst_arg12 (pt 6 b)) (st_arg13 (pt 6 b)) (hst_arg13 (pt 6 b)) (st_arg14 (pt 6 b)) (hst_arg14 (pt 6 b)) (st_arg15 (pt 6 b)) (hst_arg15 (pt 6 b)) (st_arg16 (pt 6 b)) (hst_arg16 (pt 6 b)) (st_arg17 (pt 6 b)) (hst_arg17 (pt 6 b)) X_arg2 X_arg3 X_arg4 X_arg5 X_arg6 X_arg7 X_arg8 X_arg9 X_arg10 X_arg11 X_arg12 X_arg13 X_arg14 X_arg15 X_arg16 X_arg17 h1 h2 h3 h4 h5 h6 h7 h8 h9 h10 h11
  exact ⟨X_arg16, C, good_step m c 6 b _ _ (own.trans (by rw [g b 5 (by show 5 + 1 = (8 * 6 + b.val + 7 - b.val) / 8; omega), r_arg10, r_arg14]; rfl)) others g, left_before m c 6 (by decide) b _, run⟩

theorem conds7 : ∀ b : Fin 8, ¬ k0_cond1 (grid0.coords (pt 7 b)) = 1#1 ∧ ¬ k0_cond2 (grid0.coords (pt 7 b)) = 1#1 ∧ ¬ k0_cond3 (grid0.coords (pt 7 b)) = 1#1 ∧ ¬ k0_cond4 (grid0.coords (pt 7 b)) = 1#1 ∧ ¬ k0_cond5 (grid0.coords (pt 7 b)) = 1#1 ∧ ¬ k0_cond6 (grid0.coords (pt 7 b)) = 1#1 ∧ ¬ k0_cond7 (grid0.coords (pt 7 b)) = 1#1 ∧ ¬ k0_cond8 (grid0.coords (pt 7 b)) = 1#1 ∧ k0_cond9 (grid0.coords (pt 7 b)) = 1#1 ∧ ¬ k0_cond10 (grid0.coords (pt 7 b)) = 1#1 ∧ ¬ k0_cond11 (grid0.coords (pt 7 b)) = 1#1 := by decide +kernel

set_option maxHeartbeats 1000000 in
/-- Segment 7. -/
theorem runs7 (c : Dev nD) (b : Fin 8) : RunsAt m c 7 b := by
  unfold RunsAt
  intro X_arg2 X_arg3 X_arg4 X_arg5 X_arg6 X_arg7 X_arg8 X_arg9 X_arg10 X_arg11 X_arg12 X_arg13 X_arg14 X_arg15 X_arg16 X_arg17 r_arg2 r_arg3 r_arg4 r_arg5 r_arg6 r_arg7 r_arg8 r_arg9 r_arg10 r_arg11 r_arg12 r_arg13 r_arg14 r_arg15 g
  obtain ⟨h1, h2, h3, h4, h5, h6, h7, h8, h9, h10, h11⟩ := conds7 b
  obtain ⟨C, own, others, run⟩ := segment7 c (grid0.coords (pt 7 b)) b (coord 7 b) (st_arg2 (pt 7 b)) (hst_arg2 (pt 7 b)) (st_arg3 (pt 7 b)) (hst_arg3 (pt 7 b)) (st_arg4 (pt 7 b)) (hst_arg4 (pt 7 b)) (st_arg5 (pt 7 b)) (hst_arg5 (pt 7 b)) (st_arg6 (pt 7 b)) (hst_arg6 (pt 7 b)) (st_arg7 (pt 7 b)) (hst_arg7 (pt 7 b)) (st_arg8 (pt 7 b)) (hst_arg8 (pt 7 b)) (st_arg9 (pt 7 b)) (hst_arg9 (pt 7 b)) (st_arg10 (pt 7 b)) (hst_arg10 (pt 7 b)) (st_arg11 (pt 7 b)) (hst_arg11 (pt 7 b)) (st_arg12 (pt 7 b)) (hst_arg12 (pt 7 b)) (st_arg13 (pt 7 b)) (hst_arg13 (pt 7 b)) (st_arg14 (pt 7 b)) (hst_arg14 (pt 7 b)) (st_arg15 (pt 7 b)) (hst_arg15 (pt 7 b)) (st_arg16 (pt 7 b)) (hst_arg16 (pt 7 b)) (st_arg17 (pt 7 b)) (hst_arg17 (pt 7 b)) X_arg2 X_arg3 X_arg4 X_arg5 X_arg6 X_arg7 X_arg8 X_arg9 X_arg10 X_arg11 X_arg12 X_arg13 X_arg14 X_arg15 X_arg16 X_arg17 h1 h2 h3 h4 h5 h6 h7 h8 h9 h10 h11
  exact ⟨X_arg16, C, good_step m c 7 b _ _ (own.trans (by rw [g b 6 (by show 6 + 1 = (8 * 7 + b.val + 7 - b.val) / 8; omega), r_arg11, r_arg15]; rfl)) others g, left_before m c 7 (by decide) b _, run⟩

theorem conds8 : ∀ b : Fin 8, ¬ k0_cond1 (grid0.coords (pt 8 b)) = 1#1 ∧ ¬ k0_cond2 (grid0.coords (pt 8 b)) = 1#1 ∧ ¬ k0_cond3 (grid0.coords (pt 8 b)) = 1#1 ∧ ¬ k0_cond4 (grid0.coords (pt 8 b)) = 1#1 ∧ ¬ k0_cond5 (grid0.coords (pt 8 b)) = 1#1 ∧ ¬ k0_cond6 (grid0.coords (pt 8 b)) = 1#1 ∧ ¬ k0_cond7 (grid0.coords (pt 8 b)) = 1#1 ∧ ¬ k0_cond8 (grid0.coords (pt 8 b)) = 1#1 ∧ ¬ k0_cond9 (grid0.coords (pt 8 b)) = 1#1 ∧ k0_cond10 (grid0.coords (pt 8 b)) = 1#1 ∧ k0_cond11 (grid0.coords (pt 8 b)) = 1#1 := by decide +kernel

set_option maxHeartbeats 1000000 in
/-- Segment 8. -/
theorem runs8 (c : Dev nD) (b : Fin 8) : RunsAt m c 8 b := by
  unfold RunsAt
  intro X_arg2 X_arg3 X_arg4 X_arg5 X_arg6 X_arg7 X_arg8 X_arg9 X_arg10 X_arg11 X_arg12 X_arg13 X_arg14 X_arg15 X_arg16 X_arg17 r_arg2 r_arg3 r_arg4 r_arg5 r_arg6 r_arg7 r_arg8 r_arg9 r_arg10 r_arg11 r_arg12 r_arg13 r_arg14 r_arg15 g
  obtain ⟨h1, h2, h3, h4, h5, h6, h7, h8, h9, h10, h11⟩ := conds8 b
  obtain ⟨C16, C, e16, own, others, run⟩ := segment8 c (grid0.coords (pt 8 b)) b (coord 8 b) (st_arg2 (pt 8 b)) (hst_arg2 (pt 8 b)) (st_arg3 (pt 8 b)) (hst_arg3 (pt 8 b)) (st_arg4 (pt 8 b)) (hst_arg4 (pt 8 b)) (st_arg5 (pt 8 b)) (hst_arg5 (pt 8 b)) (st_arg6 (pt 8 b)) (hst_arg6 (pt 8 b)) (st_arg7 (pt 8 b)) (hst_arg7 (pt 8 b)) (st_arg8 (pt 8 b)) (hst_arg8 (pt 8 b)) (st_arg9 (pt 8 b)) (hst_arg9 (pt 8 b)) (st_arg10 (pt 8 b)) (hst_arg10 (pt 8 b)) (st_arg11 (pt 8 b)) (hst_arg11 (pt 8 b)) (st_arg12 (pt 8 b)) (hst_arg12 (pt 8 b)) (st_arg13 (pt 8 b)) (hst_arg13 (pt 8 b)) (st_arg14 (pt 8 b)) (hst_arg14 (pt 8 b)) (st_arg15 (pt 8 b)) (hst_arg15 (pt 8 b)) (st_arg16 (pt 8 b)) (hst_arg16 (pt 8 b)) (st_arg17 (pt 8 b)) (hst_arg17 (pt 8 b)) X_arg2 X_arg3 X_arg4 X_arg5 X_arg6 X_arg7 X_arg8 X_arg9 X_arg10 X_arg11 X_arg12 X_arg13 X_arg14 X_arg15 X_arg16 X_arg17 h1 h2 h3 h4 h5 h6 h7 h8 h9 h10 h11
  have e : (st_arg16 (pt 8 b)).view.read (Elt F) C16 = part m c b 8 := e16.trans (by rw [g b 7 (by show 7 + 1 = (8 * 8 + b.val + 7 - b.val) / 8; omega), r_arg12, r_arg15]; rfl)
  have e17 := own.trans (e16.symm.trans e)
  exact ⟨C16, C, good_step m c 8 b _ _ e17 others g, by rw [e]; exact left_last m c b _, run⟩

end Cert.DuIdeal.Gen.Seg

end
-- ==== Proof.Products.DuRun.lean ====
module

public import proofs.«01_k».proof.Proof.Gen.DuIdeal.Frame
public import proofs.«01_k».proof.Proof.Gen.DuIdeal.Skeleton
public import Idealize.ShloMosaic.Lib.WritesUnit
public import Idealize.ShloMosaic.Lib.VecWindow
public import Idealize.ShloMosaic.Lib.Pipeline.ValueKit
public import proofs.«01_k».proof.Proof.Products.DuPoint
public import Idealize.ShloMosaic.Lib.Pipeline.ArrRel
public import Idealize.ShloMosaic.Lib.Tactic

@[expose] public section

set_option maxRecDepth 16384

noncomputable section

/-!
The run of the whole program: the accumulator's contents are the invariant between two points, the inputs keep their
contents, and the result's buffer holds what `Left` says.
-/

namespace Cert.DuIdeal.Gen.Seg

open Cert.DuIdeal Cert.DuIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every point. -/
theorem runs (c : Dev nD) (k : Fin 9) (b : Fin 8) : RunsAt m c k b :=
  match k with
  | ⟨0, _⟩ => runs0 m c b
  | ⟨1, _⟩ => runs1 m c b
  | ⟨2, _⟩ => runs2 m c b
  | ⟨3, _⟩ => runs3 m c b
  | ⟨4, _⟩ => runs4 m c b
  | ⟨5, _⟩ => runs5 m c b
  | ⟨6, _⟩ => runs6 m c b
  | ⟨7, _⟩ => runs7 m c b
  | ⟨8, _⟩ => runs8 m c b
  | ⟨_ + 9, h⟩ => absurd h (Nat.not_lt.2 (Nat.le_add_left _ _))

/-- What the body may leave in each window, given what it found there. -/
def afterRel (c : Dev nD) : (w : Fin 15) → Fin cfg0.N → ((cfg0.win w).block.Idx → Elt F (cfg0.win w).elt) → ((cfg0.win w).block.Idx → Elt F (cfg0.win w).elt) → Prop
    | 0 => fun _ Y X => X = Y
    | 1 => fun _ Y X => X = Y
    | 2 => fun _ Y X => X = Y
    | 3 => fun _ Y X => X = Y
    | 4 => fun _ Y X => X = Y
    | 5 => fun _ Y X => X = Y
    | 6 => fun _ Y X => X = Y
    | 7 => fun _ Y X => X = Y
    | 8 => fun _ Y X => X = Y
    | 9 => fun _ Y X => X = Y
    | 10 => fun _ Y X => X = Y
    | 11 => fun _ Y X => X = Y
    | 12 => fun _ Y X => X = Y
    | 13 => fun _ Y X => X = Y
    | 14 => fun t Y X => Left m c t Y X
    | ⟨_ + 15, h⟩ => absurd h (Nat.not_lt.2 (Nat.le_add_left _ _))

/-- The pipeline's data. -/
def rdat (c : Dev nD) : RDat τ (Elt F) Unit ℕ (UR sig nD τ) ℕ cfg0 c where
  A w := V m c (Pipeline.arrRef spec0 w)
  after := afterRel m c
  Φ t := iprop((∃ f, ⌜Good m c t.val f⌝ ∗ owns (c : Thread nD τ) (Memref.whole cc0_scratch0) fullShare f) ∗ ∃ r, prngReg c r)
  q := Pipeline.shareOf spec0
  owed _ := 0

theorem finds_in0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  rw [hd]; unfold RDat.fetched RDat.blockOf iblk; rfl
theorem finds_in1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  rw [hd]; unfold RDat.fetched RDat.blockOf iblk; rfl
theorem finds_in2 (c : Dev nD) (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  rw [hd]; unfold RDat.fetched RDat.blockOf iblk; rfl
theorem finds_in3 (c : Dev nD) (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  rw [hd]; unfold RDat.fetched RDat.blockOf iblk; rfl
theorem finds_in4 (c : Dev nD) (t : Fin cfg0.N) (Y) (h : (rdat m c).Finds 4 t Y) : Y = iblk m c 4 t := by
  obtain ⟨d, hd⟩ := (rdat m c).finds_in_eq_fetched 4 rfl (fun _ _ _ => rfl) (fun _ _ _ h => h) t Y h
  rw [hd]; unfold RDat.fetched RDat.blockOf iblk; rfl
theorem finds_in5 (c : Dev nD) (t : Fin cfg0.N) (Y) (h : (rdat m c).Finds 5 t Y) : Y = iblk m c 5 t := by
  obtain ⟨d, hd⟩ := (rdat m c).finds_in_eq_fetched 5 rfl (fun _ _ _ => rfl) (fun _ _ _ h => h) t Y h
  rw [hd]; unfold RDat.fetched RDat.blockOf iblk; rfl
theorem finds_in6 (c : Dev nD) (t : Fin cfg0.N) (Y) (h : (rdat m c).Finds 6 t Y) : Y = iblk m c 6 t := by
  obtain ⟨d, hd⟩ := (rdat m c).finds_in_eq_fetched 6 rfl (fun _ _ _ => rfl) (fun _ _ _ h => h) t Y h
  rw [hd]; unfold RDat.fetched RDat.blockOf iblk; rfl
theorem finds_in7 (c : Dev nD) (t : Fin cfg0.N) (Y) (h : (rdat m c).Finds 7 t Y) : Y = iblk m c 7 t := by
  obtain ⟨d, hd⟩ := (rdat m c).finds_in_eq_fetched 7 rfl (fun _ _ _ => rfl) (fun _ _ _ h => h) t Y h
  rw [hd]; unfold RDat.fetched RDat.blockOf iblk; rfl
theorem finds_in8 (c : Dev nD) (t : Fin cfg0.N) (Y) (h : (rdat m c).Finds 8 t Y) : Y = iblk m c 8 t := by
  obtain ⟨d, hd⟩ := (rdat m c).finds_in_eq_fetched 8 rfl (fun _ _ _ => rfl) (fun _ _ _ h => h) t Y h
  rw [hd]; unfold RDat.fetched RDat.blockOf iblk; rfl
theorem finds_in9 (c : Dev nD) (t : Fin cfg0.N) (Y) (h : (rdat m c).Finds 9 t Y) : Y = iblk m c 9 t := by
  obtain ⟨d, hd⟩ := (rdat m c).finds_in_eq_fetched 9 rfl (fun _ _ _ => rfl) (fun _ _ _ h => h) t Y h
  rw [hd]; unfold RDat.fetched RDat.blockOf iblk; rfl
theorem finds_in10 (c : Dev nD) (t : Fin cfg0.N) (Y) (h : (rdat m c).Finds 10 t Y) : Y = iblk m c 10 t := by
  obtain ⟨d, hd⟩ := (rdat m c).finds_in_eq_fetched 10 rfl (fun _ _ _ => rfl) (fun _ _ _ h => h) t Y h
  rw [hd]; unfold RDat.fetched RDat.blockOf iblk; rfl
theorem finds_in11 (c : Dev nD) (t : Fin cfg0.N) (Y) (h : (rdat m c).Finds 11 t Y) : Y = iblk m c 11 t := by
  obtain ⟨d, hd⟩ := (rdat m c).finds_in_eq_fetched 11 rfl (fun _ _ _ => rfl) (fun _ _ _ h => h) t Y h
  rw [hd]; unfold RDat.fetched RDat.blockOf iblk; rfl
theorem finds_in12 (c : Dev nD) (t : Fin cfg0.N) (Y) (h : (rdat m c).Finds 12 t Y) : Y = iblk m c 12 t := by
  obtain ⟨d, hd⟩ := (rdat m c).finds_in_eq_fetched 12 rfl (fun _ _ _ => rfl) (fun _ _ _ h => h) t Y h
  rw [hd]; unfold RDat.fetched RDat.blockOf iblk; rfl
theorem finds_in13 (c : Dev nD) (t : Fin cfg0.N) (Y) (h : (rdat m c).Finds 13 t Y) : Y = iblk m c 13 t := by
  obtain ⟨d, hd⟩ := (rdat m c).finds_in_eq_fetched 13 rfl (fun _ _ _ => rfl) (fun _ _ _ h => h) t Y h
  rw [hd]; unfold RDat.fetched RDat.blockOf iblk; rfl

theorem defs₀_du (t : Fin cfg0.N) : defs₀ (F := F) .tc cfg0.body (cfg0.bodyArgs t (cfg0.slots t))
    = cc0_du_all (F := F) (grid0.coords t) (st_arg2 t) (hst_arg2 t) (st_arg3 t) (hst_arg3 t) (st_arg4 t) (hst_arg4 t) (st_arg5 t) (hst_arg5 t) (st_arg6 t) (hst_arg6 t) (st_arg7 t) (hst_arg7 t) (st_arg8 t) (hst_arg8 t) (st_arg9 t) (hst_arg9 t) (st_arg10 t) (hst_arg10 t) (st_arg11 t) (hst_arg11 t) (st_arg12 t) (hst_arg12 t) (st_arg13 t) (hst_arg13 t) (st_arg14 t) (hst_arg14 t) (st_arg15 t) (hst_arg15 t) (st_arg16 t) (hst_arg16 t) (st_arg17 t) (hst_arg17 t) := by
  unfold defs₀; rw [Defs.onTc_tc]

theorem phi_eq (c : Dev nD) : (Pipeline.ΦA spec0 c : sProp 𝕄)
    = iprop((∃ f, owns (c : Thread nD τ) (Memref.whole cc0_scratch0) fullShare f) ∗ ∃ r, prngReg c r) := by
  unfold Pipeline.ΦA; rw [scopedRest0_eq]; simp only [owns_whole]; try rfl

set_option maxHeartbeats 1000000 in
theorem body_obligation (c : Dev nD) : (rdat (F := F) m c).BodyObligation (defs₀ (F := F)) Variants.none () Set.univ := fun t Y hY => by
  obtain ⟨k, b, rfl⟩ := exists_pt t
  have e0 := finds_in0 m c (pt k b) (Y 0) (hY 0)
  have e1 := finds_in1 m c (pt k b) (Y 1) (hY 1)
  have e2 := finds_in2 m c (pt k b) (Y 2) (hY 2)
  have e3 := finds_in3 m c (pt k b) (Y 3) (hY 3)
  have e4 := finds_in4 m c (pt k b) (Y 4) (hY 4)
  have e5 := finds_in5 m c (pt k b) (Y 5) (hY 5)
  have e6 := finds_in6 m c (pt k b) (Y 6) (hY 6)
  have e7 := finds_in7 m c (pt k b) (Y 7) (hY 7)
  have e8 := finds_in8 m c (pt k b) (Y 8) (hY 8)
  have e9 := finds_in9 m c (pt k b) (Y 9) (hY 9)
  have e10 := finds_in10 m c (pt k b) (Y 10) (hY 10)
  have e11 := finds_in11 m c (pt k b) (Y 11) (hY 11)
  have e12 := finds_in12 m c (pt k b) (Y 12) (hY 12)
  have e13 := finds_in13 m c (pt k b) (Y 13) (hY 13)
  rw [bigSep_W0, bigSep_W0, defs₀_du]
  rw [show (rdat (F := F) m c).Φ (pt k b).succ = iprop((∃ f, ⌜Good m c ((pt k b).val + 1) f⌝ ∗ owns (c : Thread nD τ) (Memref.whole cc0_scratch0) fullShare f) ∗ ∃ r, prngReg c r) from rfl,
    show (rdat (F := F) m c).owesAt () (pt k b).succ = (rdat (F := F) m c).owesAt () (pt k b).castSucc from rfl,
    show (rdat (F := F) m c).Φ (pt k b).castSucc = iprop((∃ f, ⌜Good m c (pt k b).val f⌝ ∗ owns (c : Thread nD τ) (Memref.whole cc0_scratch0) fullShare f) ∗ ∃ r, prngReg c r) from rfl]
  unfold owns
  iintro ⟨⟨⟨%f0, %g0, %x_arg17, %r_arg17, Harg17⟩, HR⟩, HO, ⟨%x_arg2, %r_arg2, Harg2⟩, ⟨%x_arg3, %r_arg3, Harg3⟩, ⟨%x_arg4, %r_arg4, Harg4⟩, ⟨%x_arg5, %r_arg5, Harg5⟩, ⟨%x_arg6, %r_arg6, Harg6⟩, ⟨%x_arg7, %r_arg7, Harg7⟩, ⟨%x_arg8, %r_arg8, Harg8⟩, ⟨%x_arg9, %r_arg9, Harg9⟩, ⟨%x_arg10, %r_arg10, Harg10⟩, ⟨%x_arg11, %r_arg11, Harg11⟩, ⟨%x_arg12, %r_arg12, Harg12⟩, ⟨%x_arg13, %r_arg13, Harg13⟩, ⟨%x_arg14, %r_arg14, Harg14⟩, ⟨%x_arg15, %r_arg15, Harg15⟩, ⟨%x_arg16, %r_arg16, Harg16⟩⟩
  obtain ⟨C_arg16, C_arg17, g', left, run⟩ := runs m c k b x_arg2 x_arg3 x_arg4 x_arg5 x_arg6 x_arg7 x_arg8 x_arg9 x_arg10 x_arg11 x_arg12 x_arg13 x_arg14 x_arg15 x_arg16 x_arg17 (r_arg2.trans e0) (r_arg3.trans e1) (r_arg4.trans e2) (r_arg5.trans e3) (r_arg6.trans e4) (r_arg7.trans e5) (r_arg8.trans e6) (r_arg9.trans e7) (r_arg10.trans e8) (r_arg11.trans e9) (r_arg12.trans e10) (r_arg13.trans e11) (r_arg14.trans e12) (r_arg15.trans e13) (by rw [show (st_arg17 (pt k b)).view.read (Elt F) x_arg17 = f0 from r_arg17]; exact g0)
  iapply (wp_wand_r Idealize.ShloMosaic.frame (wpE (defs₀ (F := F)) Variants.none (c : Thread nD τ) none) Set.univ)
  isplitl [Harg2 Harg3 Harg4 Harg5 Harg6 Harg7 Harg8 Harg9 Harg10 Harg11 Harg12 Harg13 Harg14 Harg15 Harg16 Harg17]
  · iapply run
    isplitl [Harg2]; · iexact Harg2
    isplitl [Harg3]; · iexact Harg3
    isplitl [Harg4]; · iexact Harg4
    isplitl [Harg5]; · iexact Harg5
    isplitl [Harg6]; · iexact Harg6
    isplitl [Harg7]; · iexact Harg7
    isplitl [Harg8]; · iexact Harg8
    isplitl [Harg9]; · iexact Harg9
    isplitl [Harg10]; · iexact Harg10
    isplitl [Harg11]; · iexact Harg11
    isplitl [Harg12]; · iexact Harg12
    isplitl [Harg13]; · iexact Harg13
    isplitl [Harg14]; · iexact Harg14
    isplitl [Harg15]; · iexact Harg15
    isplitl [Harg16]; · iexact Harg16
    iexact Harg17
  · iintro %_ ⟨Harg2, Harg3, Harg4, Harg5, Harg6, Harg7, Harg8, Harg9, Harg10, Harg11, Harg12, Harg13, Harg14, Harg15, Harg16, Harg17⟩
    isplitl [Harg17 HR]
    · isplitl [Harg17]
      · iexists _; isplitr; swap; (iexists _; isplitr; swap; (iexact Harg17); ipureintro; rfl); ipureintro; exact g'
      · iexact HR
    isplitl [HO]; · iexact HO
    isplitl [Harg2]; · (iexists _; isplitr; swap; (iexists _; isplitr; swap; iexact Harg2; ipureintro; rfl); ipureintro; exact r_arg2)
    isplitl [Harg3]; · (iexists _; isplitr; swap; (iexists _; isplitr; swap; iexact Harg3; ipureintro; rfl); ipureintro; exact r_arg3)
    isplitl [Harg4]; · (iexists _; isplitr; swap; (iexists _; isplitr; swap; iexact Harg4; ipureintro; rfl); ipureintro; exact r_arg4)
    isplitl [Harg5]; · (iexists _; isplitr; swap; (iexists _; isplitr; swap; iexact Harg5; ipureintro; rfl); ipureintro; exact r_arg5)
    isplitl [Harg6]; · (iexists _; isplitr; swap; (iexists _; isplitr; swap; iexact Harg6; ipureintro; rfl); ipureintro; exact r_arg6)
    isplitl [Harg7]; · (iexists _; isplitr; swap; (iexists _; isplitr; swap; iexact Harg7; ipureintro; rfl); ipureintro; exact r_arg7)
    isplitl [Harg8]; · (iexists _; isplitr; swap; (iexists _; isplitr; swap; iexact Harg8; ipureintro; rfl); ipureintro; exact r_arg8)
    isplitl [Harg9]; · (iexists _; isplitr; swap; (iexists _; isplitr; swap; iexact Harg9; ipureintro; rfl); ipureintro; exact r_arg9)
    isplitl [Harg10]; · (iexists _; isplitr; swap; (iexists _; isplitr; swap; iexact Harg10; ipureintro; rfl); ipureintro; exact r_arg10)
    isplitl [Harg11]; · (iexists _; isplitr; swap; (iexists _; isplitr; swap; iexact Harg11; ipureintro; rfl); ipureintro; exact r_arg11)
    isplitl [Harg12]; · (iexists _; isplitr; swap; (iexists _; isplitr; swap; iexact Harg12; ipureintro; rfl); ipureintro; exact r_arg12)
    isplitl [Harg13]; · (iexists _; isplitr; swap; (iexists _; isplitr; swap; iexact Harg13; ipureintro; rfl); ipureintro; exact r_arg13)
    isplitl [Harg14]; · (iexists _; isplitr; swap; (iexists _; isplitr; swap; iexact Harg14; ipureintro; rfl); ipureintro; exact r_arg14)
    isplitl [Harg15]; · (iexists _; isplitr; swap; (iexists _; isplitr; swap; iexact Harg15; ipureintro; rfl); ipureintro; exact r_arg15)
    iexists _; isplitr; swap; (iexists _; isplitr; swap; iexact Harg16; ipureintro; rfl); ipureintro
    rw [← r_arg16]; exact left

theorem phi_in (c : Dev nD) : (Pipeline.ΦA spec0 c : sProp 𝕄) ⊢ (rdat (F := F) m c).Φ 0 := by
  rw [phi_eq, show (rdat (F := F) m c).Φ 0 = iprop((∃ f, ⌜Good m c 0 f⌝ ∗ owns (c : Thread nD τ) (Memref.whole cc0_scratch0) fullShare f) ∗ ∃ r, prngReg c r) from rfl]
  iintro ⟨⟨%f, H⟩, HR⟩
  isplitl [H]
  · iexists f
    isplitr; swap; (iexact H); ipureintro; exact good_zero m c f
  · iexact HR

theorem phi_out (c : Dev nD) : (rdat (F := F) m c).Φ (Fin.last cfg0.N) ⊢ (Pipeline.ΦA spec0 c : sProp 𝕄) := by
  rw [phi_eq, show (rdat (F := F) m c).Φ (Fin.last cfg0.N) = iprop((∃ f, ⌜Good m c (Fin.last cfg0.N).val f⌝ ∗ owns (c : Thread nD τ) (Memref.whole cc0_scratch0) fullShare f) ∗ ∃ r, prngReg c r) from rfl]
  iintro ⟨⟨%f, -, H⟩, HR⟩
  isplitl [H]
  · iexists f; iexact H
  · iexact HR

set_option maxHeartbeats 1000000 in
set_option backward.isDefEq.respectTransparency.types false in
/-- Every run ends, with each window's array as the data allow and every other buffer as the region found it. -/
theorem run_main :
    θ_run defs (onTc (τ := τ) (main (F := F))) (s₀ m ρ) (fun r => Pipeline.RDat.FramePost (cfgs 0) (fun c => rdat m c) (V m) r ∧ r.2.sem = fun _ => 0) :=
  Pipeline.RDat.θ_run_frame_track_shared cfgs (0 : Fin 1) launch0.to₀ defs₀ Variants.none (fun c => rdat m c) m ρ main
    (hbody := fun c => body_obligation m c) (hq := fun _ _ _ => rfl)
    (howed := fun _ _ => rfl) (V := V m) (hmain := hmain m Variants.none) (hA := fun _ _ => rfl)
    (hin := fun c => phi_in m c) (hout := fun c => phi_out m c) (Q' := fun r => Pipeline.RDat.FramePost (cfgs 0) (fun c => rdat m c) (V m) r ∧ r.2.sem = fun _ => 0) (hQ' := fun _ h => h)

/-- An input's array ends as the region found it. -/
theorem in_kept (c : Dev nD) (w : Fin 15) (h : (cfg0.win w).isOut = false) (r : PUnit × MemSt nD τ sig (Elt F))
    (hr : Pipeline.RDat.FramePost (cfgs 0) (fun c => rdat m c) (V m) r) :
    r.2.mem ((c : Thread nD τ).loc (Pipeline.arrRef spec0 w)) = V m c (Pipeline.arrRef spec0 w) := by
  have h1 := (hr c).1 w
  rw [(rdat m c).ArrAt_in w h] at h1
  exact h1

/-- The frame: the arguments end unchanged and every counter at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13)) ∧ r.2.sem = fun _ => 0) :=
  (θ_run defs _ _).mono (fun r h => ⟨fun c => ⟨(in_kept m c 0 rfl r h.1).trans (V_main_arg0 m c), (in_kept m c 1 rfl r h.1).trans (V_main_arg1 m c), (in_kept m c 2 rfl r h.1).trans (V_main_arg2 m c), (in_kept m c 3 rfl r h.1).trans (V_main_arg3 m c), (in_kept m c 4 rfl r h.1).trans (V_main_arg4 m c), (in_kept m c 5 rfl r h.1).trans (V_main_arg5 m c), (in_kept m c 6 rfl r h.1).trans (V_main_arg6 m c), (in_kept m c 7 rfl r h.1).trans (V_main_arg7 m c), (in_kept m c 8 rfl r h.1).trans (V_main_arg8 m c), (in_kept m c 9 rfl r h.1).trans (V_main_arg9 m c), (in_kept m c 10 rfl r h.1).trans (V_main_arg10 m c), (in_kept m c 11 rfl r h.1).trans (V_main_arg11 m c), (in_kept m c 12 rfl r h.1).trans (V_main_arg12 m c), (in_kept m c 13 rfl r h.1).trans (V_main_arg13 m c)⟩, h.2⟩) (run_main m ρ)

theorem flush_last : ∀ b : Fin 8, (cfg0.win 14).flush (pt 8 b) = true := (by decide +kernel : ∀ b : Fin 8, win0_14.flush (pt 8 b) = true)

/-- The result's blocks: at each point of the last segment, the row block's accumulated sum; the arguments unchanged. -/
theorem run_blocks :
    θ_run defs (onTc (τ := τ) (main (F := F))) ⟨m, fun _ => 0, ρ⟩ (fun r => (∀ c : Dev nD,
      (∃ d : Dat τ (Elt F) Unit ℕ (UR sig nD τ) ℕ cfg0 c, (∀ b : Fin 8, d.after 14 (pt 8 b) = part m c b 8)
        ∧ r.2.mem ((c.tc : Thread nD τ).loc (Pipeline.arrRef spec0 14)) = d.arrAt 14 cfg0.N)
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13)) ∧ r.2.sem = fun _ => 0) :=
  (θ_run defs _ _).mono (fun r h => ⟨fun c => ⟨by
    haveI : ∀ e, Nonempty (Elt F e) := inferInstance
    obtain ⟨after, hL, hA⟩ := Pipeline.RDat.FramePost.exists_exact h.1 c
    refine ⟨(rdat m c).withAfter after, fun b => ?_, hA 14⟩
    obtain ⟨Y, -, hY⟩ := hL 14 (pt 8 b) (flush_last b)
    have hY' : Left m c (pt 8 b) Y (after 14 (pt 8 b)) := hY
    unfold Left at hY'
    rw [if_pos (by show (8 * 8 + b.val) / 8 = 8; have := b.isLt; omega)] at hY'
    refine hY'.trans (congrArg (fun z => part m c z 8) (Fin.ext ?_))
    show (8 * 8 + b.val) % 8 = b.val
    have := b.isLt; omega, (in_kept m c 0 rfl r h.1).trans (V_main_arg0 m c), (in_kept m c 1 rfl r h.1).trans (V_main_arg1 m c), (in_kept m c 2 rfl r h.1).trans (V_main_arg2 m c), (in_kept m c 3 rfl r h.1).trans (V_main_arg3 m c), (in_kept m c 4 rfl r h.1).trans (V_main_arg4 m c), (in_kept m c 5 rfl r h.1).trans (V_main_arg5 m c), (in_kept m c 6 rfl r h.1).trans (V_main_arg6 m c), (in_kept m c 7 rfl r h.1).trans (V_main_arg7 m c), (in_kept m c 8 rfl r h.1).trans (V_main_arg8 m c), (in_kept m c 9 rfl r h.1).trans (V_main_arg9 m c), (in_kept m c 10 rfl r h.1).trans (V_main_arg10 m c), (in_kept m c 11 rfl r h.1).trans (V_main_arg11 m c), (in_kept m c 12 rfl r h.1).trans (V_main_arg12 m c), (in_kept m c 13 rfl r h.1).trans (V_main_arg13 m c)⟩, h.2⟩) (run_main m ρ)

end Cert.DuIdeal.Gen.Seg

end
-- ==== Proof.Products.Du.lean ====
module

public import proofs.«01_k».proof.Proof.Products.DuRun
public import proofs.«01_k».proof.Proof.Gen.DuRefIdeal.Read
public import Idealize.ShloMosaic.Lib.Pipeline.ValueKit

/-! The gradient of the four input projections with respect to their common input: the sum over nine segments of
a block of columns of the cotangents times a block of columns of a weight, transposed. The reference multiplies the
whole cotangent of each projection with its weight and adds the four products. -/

@[expose] public section

set_option maxRecDepth 16384

noncomputable section

namespace Cert.DuIdeal.Value

open Cert.DuIdeal Cert.DuIdeal.Gen Cert.DuIdeal.Gen.Seg Idealize.ShloMosaic Idealize.ShloMosaic.TcCoe Idealize.SL.Sem
open Idealize.ShloMosaic.ValueIdx
open Cert.DuRefIdeal.Read

variable (m : (ℓ : Loc nD τ sig) → Buf (Elt Ideal) ℓ)

/-- The sum over two blocks of a contracted axis is the sum over the whole of it. -/
theorem sum2 (f : Fin 2048 → EReal) : ∑ k : Fin 2048, f k
    = (∑ q : Fin 1024, f ⟨q.val, by omega⟩) + ∑ q : Fin 1024, f ⟨1024 + q.val, by omega⟩ :=
  Fin.sum_univ_add (a := 1024) (b := 1024) f

/-- The same of three blocks. -/
theorem sum3 (f : Fin 3072 → EReal) : ∑ k : Fin 3072, f k
    = (∑ q : Fin 1024, f ⟨q.val, by omega⟩) + ((∑ q : Fin 1024, f ⟨1024 + q.val, by omega⟩) + ∑ q : Fin 1024, f ⟨2048 + q.val, by omega⟩) := by
  rw [Fin.sum_univ_add (a := 1024) (b := 2048) f, sum2]
  refine congrArg _ (congrArg _ (Fin.sum_fin_congr fun q => congrArg f (Fin.ext ?_)))
  show 1024 + (1024 + q.val) = 2048 + q.val
  omega

/-- The same of four blocks. -/
theorem sum4 (f : Fin 4096 → EReal) : ∑ k : Fin 4096, f k
    = (∑ q : Fin 1024, f ⟨q.val, by omega⟩) + ((∑ q : Fin 1024, f ⟨1024 + q.val, by omega⟩) + ((∑ q : Fin 1024, f ⟨2048 + q.val, by omega⟩) + ∑ q : Fin 1024, f ⟨3072 + q.val, by omega⟩)) := by
  rw [Fin.sum_univ_add (a := 1024) (b := 3072) f, sum3]
  refine congrArg _ (congrArg₂ (· + ·) rfl (congrArg₂ (· + ·) (Fin.sum_fin_congr fun q => congrArg f (Fin.ext ?_)) (Fin.sum_fin_congr fun q => congrArg f (Fin.ext ?_))))
  · show 1024 + (1024 + q.val) = 2048 + q.val
    omega
  · show 1024 + (2048 + q.val) = 3072 + q.val
    omega

/-! The blocks the windows show at the points of each segment. -/

theorem idx0 : ∀ b : Fin 8, win0_2.index (pt 0 b) = ![b.val, 0] ∧ win0_11.index (pt 0 b) = ![0, 0] ∧ win0_0.index (pt 0 b) = ![b.val, 0] ∧ win0_1.index (pt 0 b) = ![0, 0] := by decide +kernel
theorem idx1 : ∀ b : Fin 8, win0_3.index (pt 1 b) = ![b.val, 0] ∧ win0_11.index (pt 1 b) = ![0, 1] := by decide +kernel
theorem idx2 : ∀ b : Fin 8, win0_4.index (pt 2 b) = ![b.val, 0] ∧ win0_11.index (pt 2 b) = ![0, 2] := by decide +kernel
theorem idx3 : ∀ b : Fin 8, win0_5.index (pt 3 b) = ![b.val, 0] ∧ win0_11.index (pt 3 b) = ![0, 3] := by decide +kernel
theorem idx4 : ∀ b : Fin 8, win0_6.index (pt 4 b) = ![b.val, 0] ∧ win0_12.index (pt 4 b) = ![0, 0] := by decide +kernel
theorem idx5 : ∀ b : Fin 8, win0_7.index (pt 5 b) = ![b.val, 0] ∧ win0_12.index (pt 5 b) = ![0, 1] := by decide +kernel
theorem idx6 : ∀ b : Fin 8, win0_8.index (pt 6 b) = ![b.val, 0] ∧ win0_12.index (pt 6 b) = ![0, 2] := by decide +kernel
theorem idx7 : ∀ b : Fin 8, win0_9.index (pt 7 b) = ![b.val, 0] ∧ win0_13.index (pt 7 b) = ![0, 0] := by decide +kernel
theorem idx8 : ∀ b : Fin 8, win0_10.index (pt 8 b) = ![b.val, 0] ∧ win0_13.index (pt 8 b) = ![0, 1] := by decide +kernel
theorem out : ∀ b : Fin 8, win0_14.index (pt 8 b) = ![b.val, 0] := by decide +kernel

/-- The nine products and the small one, in the reference's order. -/
theorem order (s a0 a1 a2 a3 b0 b1 b2 c0 c1 : EReal) : s + a0 + a1 + a2 + a3 + b0 + b1 + b2 + c0 + c1
    = c0 + c1 + (b0 + (b1 + b2)) + (a0 + (a1 + (a2 + a3))) + s := by
  ac_rfl

/-- What the last segment hands out of a row block is the reference's entry at the block's place. -/
theorem point (c : Dev nD) (b : Fin 8) (y : S512x1024.Idx) :
    part (F := Ideal) m c b 8 y
      = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
          (((cfg0.win 14).blk (pt 8 b)).view.emb y) := by
  show k0_pay1 (F := Ideal) (k0_pay10 (F := Ideal) (k0_pay9 (F := Ideal) (k0_pay8 (F := Ideal) (k0_pay7 (F := Ideal) (k0_pay6 (F := Ideal) (k0_pay5 (F := Ideal) (k0_pay4 (F := Ideal) (k0_pay3 (F := Ideal) (k0_pay2 (F := Ideal) (iblk m c 0 (pt 0 b)) (iblk m c 1 (pt 0 b))) (iblk m c 2 (pt 0 b)) (iblk m c 11 (pt 0 b))) (iblk m c 3 (pt 1 b)) (iblk m c 11 (pt 1 b))) (iblk m c 4 (pt 2 b)) (iblk m c 11 (pt 2 b))) (iblk m c 5 (pt 3 b)) (iblk m c 11 (pt 3 b))) (iblk m c 6 (pt 4 b)) (iblk m c 12 (pt 4 b))) (iblk m c 7 (pt 5 b)) (iblk m c 12 (pt 5 b))) (iblk m c 8 (pt 6 b)) (iblk m c 12 (pt 6 b))) (iblk m c 9 (pt 7 b)) (iblk m c 13 (pt 7 b))) (iblk m c 10 (pt 8 b)) (iblk m c 13 (pt 8 b)) y = _
  pointwise [k0_pay1, k0_pay2, k0_pay3, k0_pay4, k0_pay5, k0_pay6, k0_pay7, k0_pay8, k0_pay9, k0_pay10, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v7, val_main_v5, val_main_v3, val_main_v1]
  rw [sum3, sum4]
  refine (order _ _ _ _ _ _ _ _ _ _).trans ?_
  refine congrArg₂ (fun a b : EReal => a + b) (congrArg₂ (fun a b : EReal => a + b) (congrArg₂ (fun a b : EReal => a + b) (congrArg₂ (fun a b : EReal => a + b) ?_ ?_)
    (congrArg₂ (fun a b : EReal => a + b) ?_ (congrArg₂ (fun a b : EReal => a + b) ?_ ?_)))
    (congrArg₂ (fun a b : EReal => a + b) ?_ (congrArg₂ (fun a b : EReal => a + b) ?_ (congrArg₂ (fun a b : EReal => a + b) ?_ ?_)))) ?_
  all_goals refine Fin.sum_fin_congr fun q => ?_
  all_goals have hq := q.isLt
  · blk_point [iblk, V, idx7 b, out b]
  · blk_point [iblk, V, idx8 b, out b]
  · rw [dif_pos (by dsimp only; omega)]; blk_point [iblk, V, idx4 b, out b]
  · rw [dif_neg (by dsimp only; omega), dif_pos (by dsimp only; omega)]; blk_point [iblk, V, idx5 b, out b]
  · rw [dif_neg (by dsimp only; omega), dif_neg (by dsimp only; omega)]; blk_point [iblk, V, idx6 b, out b]
  · rw [dif_pos (by dsimp only; omega)]; blk_point [iblk, V, idx0 b, out b]
  · rw [dif_neg (by dsimp only; omega), dif_pos (by dsimp only; omega)]; blk_point [iblk, V, idx1 b, out b]
  · rw [dif_neg (by dsimp only; omega), dif_neg (by dsimp only; omega), dif_pos (by dsimp only; omega)]; blk_point [iblk, V, idx2 b, out b]
  · rw [dif_neg (by dsimp only; omega), dif_neg (by dsimp only; omega), dif_neg (by dsimp only; omega)]; blk_point [iblk, V, idx3 b, out b]
  · blk_point [iblk, V, idx0 b, out b]

/-- A point at which the result's block is written back is one of the last segment. -/
theorem flushed : ∀ t : Fin cfg0.N, (cfg0.win 14).flush t = true → ∃ b : Fin 8, t = pt 8 b :=
  (by decide +kernel : ∀ t : Fin grid0.N, win0_14.flush t = true → ∃ b : Fin 8, t = pt 8 b)

/-- The result array after the run. -/
theorem final0 (c : Dev nD) (d : Idealize.ShloMosaic.Pipeline.Dat τ (Elt Ideal) Unit ℕ (UR sig nD τ) ℕ cfg0 c) (hd : ∀ b : Fin 8, d.after 14 (pt 8 b) = part m c b 8) :
    d.arrAt 14 cfg0.N = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine d.arrAt_eq_of_covers 14 _ (by decide +kernel) fun t hf y => ?_
  obtain ⟨b, rfl⟩ := flushed t hf
  blk_simp
  rw [hd]
  exact point m c b y

/-- Every run ends with the reference's sum in the result, the arguments unchanged. -/
theorem run_blocks (ρ : Dev nD → PrngReg) :
    θ_run defs (onTc (τ := τ) (main (F := Ideal))) ⟨m, fun _ => 0, ρ⟩ (fun r => ∀ c : Dev nD,
      r.2.mem ((c.tc : Thread nD τ).loc main_v0) = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13)) :=
  (θ_run defs _ _).mono (fun r h c => ⟨by
    obtain ⟨d, hd, e⟩ := (h.1 c).1
    exact e.trans (final0 m c d hd), (h.1 c).2⟩) (Cert.DuIdeal.Gen.Seg.run_blocks m ρ)

end Cert.DuIdeal.Value

end
-- ==== Proof.Products.DuFrame.lean ====
module

public import proofs.«01_k».proof.Proof.Products.DuRun
public import proofs.«01_k».proof.Proof.Gen.Du
public import proofs.«01_k».proof.Defs

/-! The frame of the program over the machine's floats: its text is that of the ideal program, whose run holds over any
float values. -/

@[expose] public section

set_option maxRecDepth 16384

noncomputable section

namespace Cert.Du.Gen.Seg

open Idealize.ShloMosaic Idealize.SL.Sem

set_option maxHeartbeats 2000000 in
theorem defs₀_same : Cert.Du.defs₀ (F := Bits) = Cert.DuIdeal.defs₀ (F := Bits) := by
  unfold Cert.Du.defs₀ Cert.DuIdeal.defs₀
  refine congrArg (Defs.onTc (nD := Cert.DuIdeal.nD) (τ := Cert.DuIdeal.τ) (sig := Cert.DuIdeal.sig) (Val := Elt Bits) (Λ := Cert.DuIdeal.Λ₀)) ?_
  funext l a
  obtain ⟨n, h⟩ := l
  cases n with
  | zero => rfl
  | succ n => exact absurd h (Nat.not_lt.2 (Nat.le_add_left _ _))

theorem defs_same : Cert.Du.defs (F := Bits) = Cert.DuIdeal.defs (F := Bits) := by
  unfold Cert.Du.defs Cert.DuIdeal.defs
  rw [defs₀_same]
  rfl

theorem frame_run : Cert.quiescent_Du := fun m ρ _ => by
  rw [defs_same]
  exact (θ_run Cert.DuIdeal.defs _ _).mono (fun _ h => h) (Cert.DuIdeal.Gen.Seg.frame_run (F := Bits) m ρ)

end Cert.Du.Gen.Seg

end
-- ==== Proof.Products.DwOb.lean ====
module

public import proofs.«01_k».proof.Proof.Gen.DwObIdeal.Value
public import proofs.«01_k».proof.Proof.Gen.DwObRefIdeal.Read
public import Idealize.ShloMosaic.Lib.Pipeline.ValueKit

/-! The gradient of a product with respect to its right factor, `xᵀ · dy`: the result is one block, the left factor held in f32 and
rounded in the kernel.
A run of two points forms the block, each contracting half of the 4096 rows. -/

@[expose] public section

set_option maxRecDepth 16384

noncomputable section

namespace Cert.DwObIdeal.Value

open Cert.DwObIdeal Cert.DwObIdeal.Gen Idealize.ShloMosaic Idealize.ShloMosaic.TcCoe Idealize.SL.Sem
open Idealize.ShloMosaic.ValueIdx
open Cert.DwObRefIdeal.Read

variable (m : (ℓ : Loc nD τ sig) → Buf (Elt Ideal) ℓ)

/-- The blocks the windows show at each grid point. -/
theorem idx : ∀ t : Fin cfg0.N, win0_0.index t = ![t.val, 0] ∧ win0_1.index t = ![t.val, 0] ∧ win0_2.index t = ![0, 0] :=
  (by decide +kernel : ∀ t : Fin grid0.N, _)

/-- The sum over both halves of the contracted axis is the sum over the whole of it. -/
theorem halves (f : Fin 4096 → EReal) :
    (∑ k : Fin 2048, f ⟨k.val, by omega⟩) + ∑ k : Fin 2048, f ⟨2048 + k.val, by omega⟩ = ∑ k : Fin 4096, f k :=
  (Fin.sum_univ_add (a := 2048) (b := 2048) f).symm

/-- What the last point of a run stores at an entry of its block, the point before having stored the product of the
first halves, is the reference's entry at the block's place. -/
theorem point (c : Dev nD) (t s : Fin cfg0.N) (ht : t.val % 2 = 1) (hs : s.val = t.val - 1) (y : S1024x1024.Idx) :
    k0_pay4 (F := Ideal) (k0_pay3 (F := Ideal) (iblk m c 0 t) (iblk m c 1 t) (k0_pay2 (F := Ideal) (iblk m c 0 s) (iblk m c 1 s))) y
      = val_main_v5 (F := Ideal) (m ((c : Thread nD τ).loc main_arg0)) (m ((c : Thread nD τ).loc main_arg1))
          (((cfg0.win 2).blk t).view.emb y) := by
  pointwise [k0_pay1, k0_pay2, k0_pay3, k0_pay4, val_main_v5, val_main_v4, val_main_v3, val_main_v2, val_main_v1, val_main_v0, val_main_cst]
  rw [← halves]
  refine congrArg₂ (· + ·) (Fin.sum_fin_congr fun k => ?_) (Fin.sum_fin_congr fun k => ?_)
  all_goals refine Eq.trans ?_ (mul_comm _ _)
  all_goals blk_point [iblk, V, idx t, idx s]

/-- The result array after the run. -/
theorem final (c : Dev nD) : (dats m 0 c).arrAt 2 (cfgs 0).N
    = val_main_v5 (F := Ideal) (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  have hlt : t.val - 1 < cfg0.N := lt_of_le_of_lt (Nat.sub_le _ _) t.isLt
  blk_simp
  rw [after0_2, outsAt0_B m c t (by omega) ht ht]
  dsimp only
  rw [outsAt0_A m c ⟨t.val - 1, hlt⟩ (by show (t.val - 1) % 2 = 0; omega) (by show ¬(t.val - 1) % 2 = 1; omega)
    (by show ¬(t.val - 1) % 2 = 1; omega)]
  frame_out
  exact (congrArg (fun z => k0_pay4 (F := Ideal) (k0_pay3 (F := Ideal) (iblk m c 0 t) (iblk m c 1 t) z) y) ((Memref.isWhole_whole cc0_scratch0).read_unread _)).trans
    (point m c t ⟨t.val - 1, hlt⟩ ht rfl y)

end Cert.DwObIdeal.Value

end
-- ==== Proof.Products.DwSmall.lean ====
module

public import proofs.«01_k».proof.Proof.Gen.DwSmallIdeal.Value
public import proofs.«01_k».proof.Proof.Gen.DwSmallRefIdeal.Read
public import Idealize.ShloMosaic.Lib.Pipeline.ValueKit

/-! The gradient of a product with respect to its right factor, `xᵀ · dy`: the result is one narrow block, the right factor held in
f32 and rounded in the kernel.
A run of two points forms the block, each contracting half of the 4096 rows. -/

@[expose] public section

set_option maxRecDepth 16384

noncomputable section

namespace Cert.DwSmallIdeal.Value

open Cert.DwSmallIdeal Cert.DwSmallIdeal.Gen Idealize.ShloMosaic Idealize.ShloMosaic.TcCoe Idealize.SL.Sem
open Idealize.ShloMosaic.ValueIdx
open Cert.DwSmallRefIdeal.Read

variable (m : (ℓ : Loc nD τ sig) → Buf (Elt Ideal) ℓ)

/-- The blocks the windows show at each grid point. -/
theorem idx : ∀ t : Fin cfg0.N, win0_0.index t = ![t.val, 0] ∧ win0_1.index t = ![t.val, 0] ∧ win0_2.index t = ![0, 0] :=
  (by decide +kernel : ∀ t : Fin grid0.N, _)

/-- The sum over both halves of the contracted axis is the sum over the whole of it. -/
theorem halves (f : Fin 4096 → EReal) :
    (∑ k : Fin 2048, f ⟨k.val, by omega⟩) + ∑ k : Fin 2048, f ⟨2048 + k.val, by omega⟩ = ∑ k : Fin 4096, f k :=
  (Fin.sum_univ_add (a := 2048) (b := 2048) f).symm

/-- What the last point of a run stores at an entry of its block, the point before having stored the product of the
first halves, is the reference's entry at the block's place. -/
theorem point (c : Dev nD) (t s : Fin cfg0.N) (ht : t.val % 2 = 1) (hs : s.val = t.val - 1) (y : S1024x128.Idx) :
    k0_pay4 (F := Ideal) (k0_pay3 (F := Ideal) (iblk m c 0 t) (iblk m c 1 t) (k0_pay2 (F := Ideal) (iblk m c 0 s) (iblk m c 1 s))) y
      = val_main_v5 (F := Ideal) (m ((c : Thread nD τ).loc main_arg0)) (m ((c : Thread nD τ).loc main_arg1))
          (((cfg0.win 2).blk t).view.emb y) := by
  pointwise [k0_pay1, k0_pay2, k0_pay3, k0_pay4, val_main_v5, val_main_v4, val_main_v3, val_main_v2, val_main_v1, val_main_cst, val_main_v0]
  rw [← halves]
  refine congrArg₂ (· + ·) (Fin.sum_fin_congr fun k => ?_) (Fin.sum_fin_congr fun k => ?_)
  all_goals refine Eq.trans ?_ (mul_comm _ _)
  all_goals blk_point [iblk, V, idx t, idx s]

/-- The result array after the run. -/
theorem final (c : Dev nD) : (dats m 0 c).arrAt 2 (cfgs 0).N
    = val_main_v5 (F := Ideal) (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  have hlt : t.val - 1 < cfg0.N := lt_of_le_of_lt (Nat.sub_le _ _) t.isLt
  blk_simp
  rw [after0_2, outsAt0_B m c t (by omega) ht ht]
  dsimp only
  rw [outsAt0_A m c ⟨t.val - 1, hlt⟩ (by show (t.val - 1) % 2 = 0; omega) (by show ¬(t.val - 1) % 2 = 1; omega)
    (by show ¬(t.val - 1) % 2 = 1; omega)]
  frame_out
  exact (congrArg (fun z => k0_pay4 (F := Ideal) (k0_pay3 (F := Ideal) (iblk m c 0 t) (iblk m c 1 t) z) y) ((Memref.isWhole_whole cc0_scratch0).read_unread _)).trans
    (point m c t ⟨t.val - 1, hlt⟩ ht rfl y)

end Cert.DwSmallIdeal.Value

end
-- ==== Proof.Products.ProjGdn.lean ====
module

public import proofs.«01_k».proof.Proof.Gen.ProjGdnIdeal.Value
public import proofs.«01_k».proof.Proof.Gen.ProjGdnRefIdeal.Read
public import Idealize.ShloMosaic.Lib.Pipeline.ValueKit

/-! The input projection of the delta-rule branch: each grid point writes one block of the product `u · w`. -/

@[expose] public section

set_option maxRecDepth 16384

noncomputable section

namespace Cert.ProjGdnIdeal.Value

open Cert.ProjGdnIdeal Cert.ProjGdnIdeal.Gen Idealize.ShloMosaic Idealize.ShloMosaic.TcCoe Idealize.SL.Sem
open Idealize.ShloMosaic.ValueIdx
open Cert.ProjGdnRefIdeal.Read

variable (m : (ℓ : Loc nD τ sig) → Buf (Elt Ideal) ℓ)

/-- The blocks the windows show at each grid point. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- What a point stores at an entry of its block is the reference's entry at the block's place. -/
theorem point (c : Dev nD) (t : Fin cfg0.N) (y : S1024x1024.Idx) :
    k0_pay1 (F := Ideal) (iblk m c 0 t) (iblk m c 1 t) y
      = val_main_v2 (F := Ideal) (m ((c : Thread nD τ).loc main_arg0)) (m ((c : Thread nD τ).loc main_arg1))
          (((cfg0.win 2).blk t).view.emb y) := by
  pointwise [k0_pay1, val_main_v2, val_main_v1, val_main_v0]
  blk_point [iblk, V, idx t]

/-- The result array after the run. -/
theorem final (c : Dev nD) : (dats m 0 c).arrAt 2 (cfgs 0).N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjGdnIdeal.Value

end
-- ==== Proof.Products.ProjFox.lean ====
module

public import proofs.«01_k».proof.Proof.Gen.ProjFoxIdeal.Value
public import proofs.«01_k».proof.Proof.Gen.ProjFoxRefIdeal.Read
public import Idealize.ShloMosaic.Lib.Pipeline.ValueKit

/-! The input projection of the attention branch: each grid point writes one block of the product `u · w`. -/

@[expose] public section

set_option maxRecDepth 16384

noncomputable section

namespace Cert.ProjFoxIdeal.Value

open Cert.ProjFoxIdeal Cert.ProjFoxIdeal.Gen Idealize.ShloMosaic Idealize.ShloMosaic.TcCoe Idealize.SL.Sem
open Idealize.ShloMosaic.ValueIdx
open Cert.ProjFoxRefIdeal.Read

variable (m : (ℓ : Loc nD τ sig) → Buf (Elt Ideal) ℓ)

/-- The blocks the windows show at each grid point. -/
theorem idx : ∀ t : Fin cfg0.N, win0_0.index t = ![t.val / 3, 0] ∧ win0_1.index t = ![0, t.val % 3] ∧ win0_2.index t = ![t.val / 3, t.val % 3] :=
  (by decide +kernel : ∀ t : Fin grid0.N, _)

/-- What a point stores at an entry of its block is the reference's entry at the block's place. -/
theorem point (c : Dev nD) (t : Fin cfg0.N) (y : S1024x1024.Idx) :
    k0_pay1 (F := Ideal) (iblk m c 0 t) (iblk m c 1 t) y
      = val_main_v2 (F := Ideal) (m ((c : Thread nD τ).loc main_arg0)) (m ((c : Thread nD τ).loc main_arg1))
          (((cfg0.win 2).blk t).view.emb y) := by
  pointwise [k0_pay1, val_main_v2, val_main_v1, val_main_v0]
  blk_point [iblk, V, idx t]

/-- The result array after the run. -/
theorem final (c : Dev nD) : (dats m 0 c).arrAt 2 (cfgs 0).N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjFoxIdeal.Value

end
-- ==== Proof.Products.ProjGate.lean ====
module

public import proofs.«01_k».proof.Proof.Gen.ProjGateIdeal.Value
public import proofs.«01_k».proof.Proof.Gen.ProjGateRefIdeal.Read
public import Idealize.ShloMosaic.Lib.Pipeline.ValueKit

/-! The input projection of the merge gates: each grid point writes one block of the product `u · w`. -/

@[expose] public section

set_option maxRecDepth 16384

noncomputable section

namespace Cert.ProjGateIdeal.Value

open Cert.ProjGateIdeal Cert.ProjGateIdeal.Gen Idealize.ShloMosaic Idealize.ShloMosaic.TcCoe Idealize.SL.Sem
open Idealize.ShloMosaic.ValueIdx
open Cert.ProjGateRefIdeal.Read

variable (m : (ℓ : Loc nD τ sig) → Buf (Elt Ideal) ℓ)

/-- The blocks the windows show at each grid point. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- What a point stores at an entry of its block is the reference's entry at the block's place. -/
theorem point (c : Dev nD) (t : Fin cfg0.N) (y : S1024x1024.Idx) :
    k0_pay1 (F := Ideal) (iblk m c 0 t) (iblk m c 1 t) y
      = val_main_v2 (F := Ideal) (m ((c : Thread nD τ).loc main_arg0)) (m ((c : Thread nD τ).loc main_arg1))
          (((cfg0.win 2).blk t).view.emb y) := by
  pointwise [k0_pay1, val_main_v2, val_main_v1, val_main_v0]
  blk_point [iblk, V, idx t]

/-- The result array after the run. -/
theorem final (c : Dev nD) : (dats m 0 c).arrAt 2 (cfgs 0).N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjGateIdeal.Value

end
-- ==== Proof.Products.ProjSmall.lean ====
module

public import proofs.«01_k».proof.Proof.Gen.ProjSmallIdeal.Value
public import proofs.«01_k».proof.Proof.Gen.ProjSmallRefIdeal.Read
public import Idealize.ShloMosaic.Lib.Pipeline.ValueKit

/-! The input projection of the per-head gates: each grid point writes one block of the product `u · w`. -/

@[expose] public section

set_option maxRecDepth 16384

noncomputable section

namespace Cert.ProjSmallIdeal.Value

open Cert.ProjSmallIdeal Cert.ProjSmallIdeal.Gen Idealize.ShloMosaic Idealize.ShloMosaic.TcCoe Idealize.SL.Sem
open Idealize.ShloMosaic.ValueIdx
open Cert.ProjSmallRefIdeal.Read

variable (m : (ℓ : Loc nD τ sig) → Buf (Elt Ideal) ℓ)

/-- The blocks the windows show at each grid point. -/
theorem idx : ∀ t : Fin cfg0.N, win0_0.index t = ![t.val, 0] ∧ win0_1.index t = ![0, 0] ∧ win0_2.index t = ![t.val, 0] :=
  (by decide +kernel : ∀ t : Fin grid0.N, _)

/-- What a point stores at an entry of its block is the reference's entry at the block's place. -/
theorem point (c : Dev nD) (t : Fin cfg0.N) (y : S1024x128.Idx) :
    k0_pay1 (F := Ideal) (iblk m c 0 t) (iblk m c 1 t) y
      = val_main_v2 (F := Ideal) (m ((c : Thread nD τ).loc main_arg0)) (m ((c : Thread nD τ).loc main_arg1))
          (((cfg0.win 2).blk t).view.emb y) := by
  pointwise [k0_pay1, val_main_v2, val_main_v1, val_main_v0]
  blk_point [iblk, V, idx t]

/-- The result array after the run. -/
theorem final (c : Dev nD) : (dats m 0 c).arrAt 2 (cfgs 0).N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjSmallIdeal.Value

end
-- ==== Proof.Products.ProjA.lean ====
module

public import proofs.«01_k».proof.Proof.Gen.ProjAIdeal.Value
public import proofs.«01_k».proof.Proof.Gen.ProjARefIdeal.Read
public import Idealize.ShloMosaic.Lib.Pipeline.ValueKit

/-! The output projection of the delta-rule branch: each of the four grid points writes 1024 rows of the product. -/

@[expose] public section

set_option maxRecDepth 16384

noncomputable section

namespace Cert.ProjAIdeal.Value

open Cert.ProjAIdeal Cert.ProjAIdeal.Gen Idealize.ShloMosaic Idealize.ShloMosaic.TcCoe Idealize.SL.Sem
open Idealize.ShloMosaic.ValueIdx
open Cert.ProjARefIdeal.Read

variable (m : (ℓ : Loc nD τ sig) → Buf (Elt Ideal) ℓ)

/-- The blocks the windows show at each grid point. -/
theorem idx : ∀ t : Fin cfg0.N, win0_0.index t = ![t.val, 0] ∧ win0_1.index t = ![0, 0] ∧ win0_2.index t = ![t.val, 0] :=
  (by decide +kernel : ∀ t : Fin grid0.N, _)

/-- What a point stores at an entry of its block is the reference's entry at the block's place. -/
theorem point (c : Dev nD) (t : Fin cfg0.N) (y : S1024x1024.Idx) :
    k0_pay1 (F := Ideal) (iblk m c 0 t) (iblk m c 1 t) y
      = val_main_v2 (F := Ideal) (m ((c : Thread nD τ).loc main_arg0)) (m ((c : Thread nD τ).loc main_arg1))
          (((cfg0.win 2).blk t).view.emb y) := by
  pointwise [k0_pay1, val_main_v2, val_main_v1, val_main_v0]
  blk_point [iblk, V, idx t]

/-- The result array after the run. -/
theorem final (c : Dev nD) : (dats m 0 c).arrAt 2 (cfgs 0).N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjAIdeal.Value

end
-- ==== Proof.Products.ProjB.lean ====
module

public import proofs.«01_k».proof.Proof.Gen.ProjBIdeal.Value
public import proofs.«01_k».proof.Proof.Gen.ProjBRefIdeal.Read
public import Idealize.ShloMosaic.Lib.Pipeline.ValueKit

/-! The output projection of the attention branch, whose left factor is held in f32 and rounded in the kernel: each of
the four grid points writes 1024 rows of the product. -/

@[expose] public section

set_option maxRecDepth 16384

noncomputable section

namespace Cert.ProjBIdeal.Value

open Cert.ProjBIdeal Cert.ProjBIdeal.Gen Idealize.ShloMosaic Idealize.ShloMosaic.TcCoe Idealize.SL.Sem
open Idealize.ShloMosaic.ValueIdx
open Cert.ProjBRefIdeal.Read

variable (m : (ℓ : Loc nD τ sig) → Buf (Elt Ideal) ℓ)

/-- The blocks the windows show at each grid point. -/
theorem idx : ∀ t : Fin cfg0.N, win0_0.index t = ![t.val, 0] ∧ win0_1.index t = ![0, 0] ∧ win0_2.index t = ![t.val, 0] :=
  (by decide +kernel : ∀ t : Fin grid0.N, _)

/-- What a point stores at an entry of its block is the reference's entry at the block's place. -/
theorem point (c : Dev nD) (t : Fin cfg0.N) (y : S1024x1024.Idx) :
    k0_pay1 (F := Ideal) (iblk m c 0 t) (iblk m c 1 t) y
      = val_main_v1 (F := Ideal) (m ((c : Thread nD τ).loc main_arg0)) (m ((c : Thread nD τ).loc main_arg1))
          (((cfg0.win 2).blk t).view.emb y) := by
  pointwise [k0_pay1, val_main_v1, val_main_v0]
  blk_point [iblk, V, idx t]

/-- The result array after the run. -/
theorem final (c : Dev nD) : (dats m 0 c).arrAt 2 (cfgs 0).N
    = val_main_v1 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjBIdeal.Value

end
-- ==== Proof.Products.ProjOut.lean ====
module

public import proofs.«01_k».proof.Proof.Gen.ProjOutIdeal.Value
public import proofs.«01_k».proof.Proof.Gen.ProjOutRefIdeal.Read
public import Idealize.ShloMosaic.Lib.Pipeline.ValueKit

/-! The output projection with the residual: each of the four grid points writes 1024 rows of `x + merged · w_out`. -/

@[expose] public section

set_option maxRecDepth 16384

noncomputable section

namespace Cert.ProjOutIdeal.Value

open Cert.ProjOutIdeal Cert.ProjOutIdeal.Gen Idealize.ShloMosaic Idealize.ShloMosaic.TcCoe Idealize.SL.Sem
open Idealize.ShloMosaic.ValueIdx
open Cert.ProjOutRefIdeal.Read

variable (m : (ℓ : Loc nD τ sig) → Buf (Elt Ideal) ℓ)

/-- The blocks the windows show at each grid point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- What a point stores at an entry of its block is the reference's entry at the block's place. -/
theorem point (c : Dev nD) (t : Fin cfg0.N) (y : S1024x1024.Idx) :
    k0_pay1 (F := Ideal) (iblk m c 0 t) (iblk m c 1 t) (iblk m c 2 t) y
      = val_main_v3 (F := Ideal) (m ((c : Thread nD τ).loc main_arg0)) (m ((c : Thread nD τ).loc main_arg1)) (m ((c : Thread nD τ).loc main_arg2))
          (((cfg0.win 3).blk t).view.emb y) := by
  pointwise [k0_pay1, val_main_v3, val_main_v2, val_main_v1, val_main_v0]
  refine (add_comm _ _).trans ?_
  blk_point [iblk, V, idx t]

/-- The result array after the run. -/
theorem final (c : Dev nD) : (dats m 0 c).arrAt 3 (cfgs 0).N
    = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.ProjOutIdeal.Value

end
-- ==== Proof.Products.MlpUp.lean ====
module

public import proofs.«01_k».proof.Proof.Gen.MlpUpIdeal.Value
public import proofs.«01_k».proof.Proof.Gen.MlpUpRefIdeal.Read
public import Idealize.ShloMosaic.Lib.Pipeline.ValueKit

/-! The up projection of the MLP and its squared relu: each grid point writes one of the sixteen blocks of both results. -/

@[expose] public section

set_option maxRecDepth 16384

noncomputable section

namespace Cert.MlpUpIdeal.Value

open Cert.MlpUpIdeal Cert.MlpUpIdeal.Gen Idealize.ShloMosaic Idealize.ShloMosaic.TcCoe Idealize.SL.Sem
open Idealize.ShloMosaic.ValueIdx
open Cert.MlpUpRefIdeal.Read

variable (m : (ℓ : Loc nD τ sig) → Buf (Elt Ideal) ℓ)

/-- The blocks the windows show at each grid point. -/
theorem idx : ∀ t : Fin cfg0.N, win0_0.index t = ![t.val / 4, 0] ∧ win0_1.index t = ![0, t.val % 4] ∧ win0_2.index t = ![t.val / 4, t.val % 4] ∧ win0_3.index t = ![t.val / 4, t.val % 4] :=
  (by decide +kernel : ∀ t : Fin grid0.N, _)

/-- What a point stores at an entry of its block of result 0 is the reference's entry at the block's place. -/
theorem point0 (c : Dev nD) (t : Fin cfg0.N) (y : S1024x1024.Idx) :
    k0_pay3 (F := Ideal) (iblk m c 0 t) (iblk m c 1 t) y
      = val_main_v3 (F := Ideal) (m ((c : Thread nD τ).loc main_arg0)) (m ((c : Thread nD τ).loc main_arg1))
          (((cfg0.win 2).blk t).view.emb y) := by
  pointwise [k0_pay1, k0_pay2, k0_pay3, val_main_v6, val_main_v5, val_main_v4, val_main_call0_v0, val_main_call0_cst, val_main_v3, val_main_v2, val_main_v1, val_main_v0]
  blk_point [iblk, V, idx t]

/-- The array of result 0 after the run. -/
theorem final0 (c : Dev nD) : (dats m 0 c).arrAt 2 (cfgs 0).N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point0 m c t y

/-- What a point stores at an entry of its block of result 1 is the reference's entry at the block's place. -/
theorem point1 (c : Dev nD) (t : Fin cfg0.N) (y : S1024x1024.Idx) :
    k0_pay2 (F := Ideal) (iblk m c 0 t) (iblk m c 1 t) y
      = val_main_v6 (F := Ideal) (m ((c : Thread nD τ).loc main_arg0)) (m ((c : Thread nD τ).loc main_arg1))
          (((cfg0.win 3).blk t).view.emb y) := by
  pointwise [k0_pay1, k0_pay2, k0_pay3, val_main_v6, val_main_v5, val_main_v4, val_main_call0_v0, val_main_call0_cst, val_main_v3, val_main_v2, val_main_v1, val_main_v0]
  blk_point [iblk, V, idx t]

/-- The array of result 1 after the run. -/
theorem final1 (c : Dev nD) : (dats m 0 c).arrAt 3 (cfgs 0).N
    = val_main_v6 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  exact point1 m c t y

end Cert.MlpUpIdeal.Value

end
-- ==== Proof.Products.MlpDown.lean ====
module

public import proofs.«01_k».proof.Proof.Gen.MlpDownIdeal.Value
public import proofs.«01_k».proof.Proof.Gen.MlpDownRefIdeal.Read
public import Idealize.ShloMosaic.Lib.Pipeline.ValueKit

/-! The down projection of the MLP with the residual, `h + act · w_down`: the result is a column of four blocks. A run of
two points forms one block, each contracting half of the 4096 columns; the last adds the residual. -/

@[expose] public section

set_option maxRecDepth 16384

noncomputable section

namespace Cert.MlpDownIdeal.Value

open Cert.MlpDownIdeal Cert.MlpDownIdeal.Gen Idealize.ShloMosaic Idealize.ShloMosaic.TcCoe Idealize.SL.Sem
open Idealize.ShloMosaic.ValueIdx
open Cert.MlpDownRefIdeal.Read

variable (m : (ℓ : Loc nD τ sig) → Buf (Elt Ideal) ℓ)

/-- The blocks the windows show at each grid point. -/
theorem idx : ∀ t : Fin cfg0.N, win0_0.index t = ![t.val / 2, t.val % 2] ∧ win0_1.index t = ![t.val % 2, 0] ∧ win0_2.index t = ![t.val / 2, 0] ∧ win0_3.index t = ![t.val / 2, 0] :=
  (by decide +kernel : ∀ t : Fin grid0.N, _)

/-- The sum over both halves of the contracted axis is the sum over the whole of it. -/
theorem halves (f : Fin 4096 → EReal) :
    (∑ k : Fin 2048, f ⟨k.val, by omega⟩) + ∑ k : Fin 2048, f ⟨2048 + k.val, by omega⟩ = ∑ k : Fin 4096, f k :=
  (Fin.sum_univ_add (a := 2048) (b := 2048) f).symm

/-- What the last point of a run stores at an entry of its block, the point before having stored the product of the
first halves, is the reference's entry at the block's place. -/
theorem point (c : Dev nD) (t s : Fin cfg0.N) (ht : t.val % 2 = 1) (hs : s.val = t.val - 1) (y : S1024x1024.Idx) :
    k0_pay4 (F := Ideal) (k0_pay3 (F := Ideal) (iblk m c 0 t) (iblk m c 1 t) (k0_pay2 (F := Ideal) (iblk m c 0 s) (iblk m c 1 s))) (iblk m c 2 t) y
      = val_main_v3 (F := Ideal) (m ((c : Thread nD τ).loc main_arg0)) (m ((c : Thread nD τ).loc main_arg1)) (m ((c : Thread nD τ).loc main_arg2))
          (((cfg0.win 3).blk t).view.emb y) := by
  pointwise [k0_pay1, k0_pay2, k0_pay3, k0_pay4, val_main_v3, val_main_v2, val_main_v1, val_main_v0]
  rw [← halves]
  refine (add_comm _ _).trans ?_
  blk_point [iblk, V, idx t, idx s]

/-- The result array after the run. -/
theorem final (c : Dev nD) : (dats m 0 c).arrAt 3 (cfgs 0).N
    = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val % 2 = 1 := (flush0_3 t).mp hf
  have hlt : t.val - 1 < cfg0.N := lt_of_le_of_lt (Nat.sub_le _ _) t.isLt
  blk_simp
  rw [after0_3, outsAt0_B m c t (by omega) ht ht]
  dsimp only
  rw [outsAt0_A m c ⟨t.val - 1, hlt⟩ (by show (t.val - 1) % 2 = 0; omega) (by show ¬(t.val - 1) % 2 = 1; omega)
    (by show ¬(t.val - 1) % 2 = 1; omega)]
  frame_out
  exact (congrArg (fun z => k0_pay4 (F := Ideal) (k0_pay3 (F := Ideal) (iblk m c 0 t) (iblk m c 1 t) z) (iblk m c 2 t) y) ((Memref.isWhole_whole cc0_scratch0).read_unread _)).trans
    (point m c t ⟨t.val - 1, hlt⟩ ht rfl y)

end Cert.MlpDownIdeal.Value

end
-- ==== Proof.Products.RmsFwd.lean ====
module

public import proofs.«01_k».proof.Proof.Gen.RmsFwdIdeal.Value
public import proofs.«01_k».proof.Proof.Gen.RmsFwdRefIdeal.Read
public import Idealize.ShloMosaic.Lib.Pipeline.ValueKit

/-! The RMS norm of the rows: each of the eight grid points writes 512 rows. -/

@[expose] public section

set_option maxRecDepth 16384

noncomputable section

namespace Cert.RmsFwdIdeal.Value

open Cert.RmsFwdIdeal Cert.RmsFwdIdeal.Gen Idealize.ShloMosaic Idealize.ShloMosaic.TcCoe Idealize.SL.Sem
open Idealize.ShloMosaic.ValueIdx
open Cert.RmsFwdRefIdeal.Read

variable (m : (ℓ : Loc nD τ sig) → Buf (Elt Ideal) ℓ)

/-- The blocks the windows show at each grid point. -/
theorem idx : ∀ t : Fin cfg0.N, win0_0.index t = ![t.val, 0] ∧ win0_1.index t = ![0, 0] ∧ win0_2.index t = ![t.val, 0] :=
  (by decide +kernel : ∀ t : Fin grid0.N, _)

/-- What a point stores at an entry of its block is the reference's entry at the block's place. -/
theorem point (c : Dev nD) (t : Fin cfg0.N) (y : S512x1024.Idx) :
    k0_pay1 (F := Ideal) (iblk m c 0 t) (iblk m c 1 t) y
      = val_main_v14 (F := Ideal) (m ((c : Thread nD τ).loc main_arg0)) (m ((c : Thread nD τ).loc main_arg1))
          (((cfg0.win 2).blk t).view.emb y) := by
  pointwise [k0_pay1, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  blk_point [iblk, V, idx t]

/-- The result array after the run. -/
theorem final (c : Dev nD) : (dats m 0 c).arrAt 2 (cfgs 0).N
    = val_main_v14 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.RmsFwdIdeal.Value

end
-- ==== Proof.Products.RmsBwd.lean ====
module

public import proofs.«01_k».proof.Proof.Gen.RmsBwdIdeal.Value
public import proofs.«01_k».proof.Proof.Gen.RmsBwdRefIdeal.Read
public import Idealize.ShloMosaic.Lib.Pipeline.ValueKit

/-! The gradients of the RMS normalisation: with respect to the input, row by row, with the residual's gradient added, and
with respect to the gain, a sum over the rows that the points accumulate. -/

@[expose] public section

set_option maxRecDepth 16384

noncomputable section

namespace Cert.RmsBwdIdeal.Value

open Cert.RmsBwdIdeal Cert.RmsBwdIdeal.Gen Idealize.ShloMosaic Idealize.ShloMosaic.TcCoe Idealize.SL.Sem
open Idealize.ShloMosaic.ValueIdx
open Cert.RmsBwdRefIdeal.Read

variable (m : (ℓ : Loc nD τ sig) → Buf (Elt Ideal) ℓ)

/-- The blocks the windows show at each grid point. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0] :=
  (by decide +kernel : ∀ t : Fin grid0.N, _)

/-- The number of columns and its inverse, minus one half, and the constant under the root. -/
theorem c_cols : Ideal.ofBits .f32 0x44800000#32 = ((1024 : ℝ) : EReal) := by
  simp [Ideal.ofBits, Ideal.ieee, -EReal.coe_mul]; norm_num
theorem c_inv : Ideal.ofBits .f32 0x3A800000#32 = ((1 / 1024 : ℝ) : EReal) := by
  simp [Ideal.ofBits, Ideal.ieee, -EReal.coe_mul]; norm_num
theorem c_half : Ideal.ofBits .f32 0xBF000000#32 = ((-(1 / 2) : ℝ) : EReal) := by
  simp [Ideal.ofBits, Ideal.ieee, -EReal.coe_mul, -EReal.coe_neg]; norm_num
theorem c_eps : Ideal.ofBits .f32 0x358637BD#32 = ((8796093 * 2 ^ (-43 : ℤ) : ℝ) : EReal) := by
  simp [Ideal.ofBits, Ideal.ieee, -EReal.coe_mul]

/-- Dividing by the number of columns is multiplying by its inverse. -/
theorem div_cols (x : EReal) : Ideal.div x (Ideal.ofBits .f32 0x44800000#32) = x * ((1 / 1024 : ℝ) : EReal) := by
  rw [c_cols, Ideal.div, if_neg (by exact_mod_cast (by norm_num : (1024 : ℝ) ≠ 0)), ← EReal.coe_inv, one_div]

/-- A square is not negative. -/
theorem square_nonneg (x : EReal) : 0 ≤ x * x := by
  rcases le_total 0 x with h | h
  · exact mul_nonneg h h
  · have := mul_nonneg (EReal.neg_nonneg.2 h) (EReal.neg_nonneg.2 h)
    rwa [EReal.neg_mul, mul_comm, EReal.neg_mul, neg_neg] at this

/-- The squares of a row add up to a real number, and then the row is real, or to infinity. -/
theorem squares {n : ℕ} (x : Fin n → EReal) :
    ((∀ i, ∃ a : ℝ, x i = a) ∧ ∃ q : ℝ, 0 ≤ q ∧ ∑ i, x i * x i = q) ∨ ∑ i, x i * x i = ⊤ := by
  induction n with
  | zero => exact .inl ⟨fun i => i.elim0, 0, le_refl _, by simp⟩
  | succ n ih =>
    rw [Fin.sum_univ_succ]
    have h0 : ∑ i : Fin n, x i.succ * x i.succ ≠ ⊥ :=
      ne_of_gt (lt_of_lt_of_le EReal.bot_lt_zero (Finset.sum_nonneg fun i _ => square_nonneg _))
    cases hx : x 0 with
    | bot => exact .inr (by rw [EReal.bot_mul_bot]; exact EReal.top_add_of_ne_bot h0)
    | top => exact .inr (by rw [EReal.top_mul_top]; exact EReal.top_add_of_ne_bot h0)
    | coe a =>
      rcases ih fun i => x i.succ with ⟨hr, q, hq, e⟩ | e
      · refine .inl ⟨Fin.cases ⟨a, hx⟩ hr, a * a + q, add_nonneg (mul_self_nonneg a) hq, ?_⟩
        rw [e, EReal.coe_add, EReal.coe_mul]
      · refine .inr ?_
        rw [e, ← EReal.coe_mul]
        exact EReal.coe_add_top _

/-- Twice a real multiple. -/
theorem double (a : ℝ) (s : EReal) : (a : EReal) * s + (a : EReal) * s = ((2 * a : ℝ) : EReal) * s := by
  cases s with
  | coe s => norm_cast; ring
  | top =>
    rcases lt_trichotomy a 0 with h | h | h
    · rw [EReal.coe_mul_top_of_neg h, EReal.coe_mul_top_of_neg (by linarith)]; rfl
    · simp [h]
    · rw [EReal.coe_mul_top_of_pos h, EReal.coe_mul_top_of_pos (by linarith)]; rfl
  | bot =>
    rcases lt_trichotomy a 0 with h | h | h
    · rw [EReal.coe_mul_bot_of_neg h, EReal.coe_mul_bot_of_neg (by linarith)]; rfl
    · simp [h]
    · rw [EReal.coe_mul_bot_of_pos h, EReal.coe_mul_bot_of_pos (by linarith)]; rfl

/-- The mean of the squares of a row, with the constant under the root. -/
def den (X : Fin 1024 → EReal) : EReal :=
  Ideal.div (∑ k, X k * X k) (Ideal.ofBits .f32 0x44800000#32) + Ideal.ofBits .f32 0x358637BD#32

/-- An entry of the gradient with respect to the input: the kernel has the cube of the inverse root, and the reference
the inverse root over the mean, by halves from both factors of the square. -/
theorem dx_eq (X DY G : Fin 1024 → EReal) (d p xj : EReal) (j : Fin 1024) (hj : xj = X j) :
    d + Ideal.rsqrt (den X) * p
        - xj * (Ideal.rsqrt (den X) * Ideal.rsqrt (den X) * Ideal.rsqrt (den X) * Ideal.ofBits .f32 0x3A800000#32) * ∑ k, DY k * G k * X k
      = d + (p * Ideal.rsqrt (den X)
          + xj * ∑ _i : Fin 1, Ideal.div ((∑ k, X k * (DY k * G k)) * (Ideal.ofBits .f32 0xBF000000#32 * Ideal.div (Ideal.rsqrt (den X)) (den X)))
              (Ideal.ofBits .f32 0x44800000#32)
          + (∑ _i : Fin 1, Ideal.div ((∑ k, X k * (DY k * G k)) * (Ideal.ofBits .f32 0xBF000000#32 * Ideal.div (Ideal.rsqrt (den X)) (den X)))
              (Ideal.ofBits .f32 0x44800000#32)) * xj) := by
  have hs : ∑ k, X k * (DY k * G k) = ∑ k, DY k * G k * X k := Finset.sum_congr rfl fun k _ => mul_comm _ _
  rw [hs, Fin.sum_univ_one, div_cols, c_half, c_inv]
  generalize ∑ k, DY k * G k * X k = s
  rcases squares X with ⟨hr, q, hq, e⟩ | e
  · obtain ⟨x, hx⟩ := hr j
    have hd : den X = ((q * (1 / 1024) + 8796093 * 2 ^ (-43 : ℤ) : ℝ) : EReal) := by
      rw [den, div_cols, e, c_eps, ← EReal.coe_mul, ← EReal.coe_add]
    generalize hD : (q * (1 / 1024) + 8796093 * 2 ^ (-43 : ℤ) : ℝ) = D at hd
    have hD0 : 0 < D := hD ▸ by positivity
    have hR : Ideal.rsqrt (D : EReal) = (((Real.sqrt D)⁻¹ : ℝ) : EReal) := by
      show (if D < 0 then ⊥ else if D = 0 then ⊤ else (((Real.sqrt D)⁻¹ : ℝ) : EReal)) = _
      rw [if_neg (not_lt.2 hD0.le), if_neg hD0.ne']
    have hq2 : (Real.sqrt D)⁻¹ * (Real.sqrt D)⁻¹ = D⁻¹ := by rw [← mul_inv, Real.mul_self_sqrt hD0.le]
    generalize (Real.sqrt D)⁻¹ = r at hR hq2
    have hdiv : Ideal.div (r : EReal) (D : EReal) = ((r * D⁻¹ : ℝ) : EReal) := by
      rw [Ideal.div, if_neg (by exact_mod_cast hD0.ne'), ← EReal.coe_inv, EReal.coe_mul]
    rw [hj, hx, hd, hR, hdiv, ← hq2]
    have h1 : (x : EReal) * (s * (((-(1 / 2) : ℝ) : EReal) * ((r * (r * r) : ℝ) : EReal)) * ((1 / 1024 : ℝ) : EReal))
        = ((-(1 / 2) * (x * (r * r * r * (1 / 1024))) : ℝ) : EReal) * s := by
      rw [← EReal.coe_mul, mul_assoc, ← EReal.coe_mul, mul_left_comm, ← EReal.coe_mul, mul_comm]
      congr 2; ring
    rw [mul_comm (s * _ * _) (x : EReal), h1, add_assoc (p * _), double, ← add_assoc, mul_comm p, sub_eq_add_neg]
    refine congrArg _ ?_
    rw [← EReal.coe_mul, ← EReal.coe_mul, ← EReal.coe_mul, ← EReal.coe_mul, ← EReal.neg_mul, ← EReal.coe_neg]
    congr 2; ring
  · have hd : den X = ⊤ := by
      rw [den, div_cols, e, c_eps, EReal.top_mul_coe_of_pos (by norm_num), EReal.top_add_coe]
    have hR : Ideal.rsqrt ⊤ = 0 := rfl
    have hdiv : Ideal.div 0 ⊤ = 0 := by rw [Ideal.div, if_neg (by decide), zero_mul]
    rw [hd, hR, hdiv]
    simp

/-- What a point stores at an entry of its block of the gradient of the input is the reference's entry at the place `z`
of that entry. -/
theorem core (c : Dev nD) (t : Fin cfg0.N) (y : S512x1024.Idx) (z : S4096x1024.Idx)
    (h0 : (z 0 : ℕ) = t.val * 512 + y 0) (h1 : (z 1 : ℕ) = y 1) :
    k0_pay3 (F := Ideal) (iblk m c 1 t) (iblk m c 0 t) (iblk m c 2 t) (iblk m c 3 t) y
      = val_main_v38 (F := Ideal) (m ((c : Thread nD τ).loc main_arg0)) (m ((c : Thread nD τ).loc main_arg1)) (m ((c : Thread nD τ).loc main_arg2)) (m ((c : Thread nD τ).loc main_arg3)) z := by
  have hX : ∀ k : Fin 1024, iblk m c 1 t (Idealize.ShloMosaic.ix2 (y 0) k) = m ((c : Thread nD τ).loc main_arg1) (Idealize.ShloMosaic.ix2 (z 0) k) := fun k => by
    blk_ext [iblk, V, idx t]
  have hD : ∀ k : Fin 1024, iblk m c 0 t (Idealize.ShloMosaic.ix2 (y 0) k) = m ((c : Thread nD τ).loc main_arg0) (Idealize.ShloMosaic.ix2 (z 0) k) := fun k => by
    blk_ext [iblk, V, idx t]
  have hG : ∀ k : Fin 1024, iblk m c 2 t (Idealize.ShloMosaic.ix2 0 k) = m ((c : Thread nD τ).loc main_arg2) (Idealize.ShloMosaic.ix2 0 k) := fun k => by
    blk_ext [iblk, V, idx t]
  have hx : iblk m c 1 t y = m ((c : Thread nD τ).loc main_arg1) z := by blk_ext [iblk, V, idx t]
  have hd : iblk m c 0 t y = m ((c : Thread nD τ).loc main_arg0) z := by blk_ext [iblk, V, idx t]
  have hr : iblk m c 3 t y = m ((c : Thread nD τ).loc main_arg3) z := by blk_ext [iblk, V, idx t]
  have hg : iblk m c 2 t (Idealize.ShloMosaic.ix2 0 (y 1)) = m ((c : Thread nD τ).loc main_arg2) (Idealize.ShloMosaic.ix2 0 (z 1)) := by blk_ext [iblk, V, idx t]
  pointwise [k0_pay2, k0_pay3, val_main_v0, val_main_v1, val_main_v2, val_main_v3, val_main_v4, val_main_v5, val_main_v6, val_main_v7, val_main_v8, val_main_v9, val_main_v10, val_main_v11, val_main_v12, val_main_v13, val_main_v14, val_main_v20, val_main_v21, val_main_v24, val_main_v25, val_main_v26, val_main_v27, val_main_v28, val_main_v29, val_main_v30, val_main_v31, val_main_v32, val_main_v33, val_main_v34, val_main_v35, val_main_v36, val_main_v37, val_main_v38, val_main_cst, val_main_cst_0, val_main_cst_1, val_main_cst_2, val_main_cst_5, val_main_cst_6, val_main_cst_7]
  simp only [hX, hD, hG, hx, hd, hr, hg]
  exact dx_eq (fun k => m ((c : Thread nD τ).loc main_arg1) (Idealize.ShloMosaic.ix2 (z 0) k)) (fun k => m ((c : Thread nD τ).loc main_arg0) (Idealize.ShloMosaic.ix2 (z 0) k))
    (fun k => m ((c : Thread nD τ).loc main_arg2) (Idealize.ShloMosaic.ix2 0 k)) _ _ _ (z 1) (by blk_ext)

/-- So it is in the gradient of the input. -/
theorem point0 (c : Dev nD) (t : Fin cfg0.N) (y : S512x1024.Idx) :
    k0_pay3 (F := Ideal) (iblk m c 1 t) (iblk m c 0 t) (iblk m c 2 t) (iblk m c 3 t) y
      = val_main_v38 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  refine core m c t y _ ?_ ?_
  all_goals (blk_simp [idx t] <;> try omega)

/-- And in the rounded one. -/
theorem point1 (c : Dev nD) (t : Fin cfg0.N) (y : S512x1024.Idx) :
    k0_pay4 (F := Ideal) (iblk m c 1 t) (iblk m c 0 t) (iblk m c 2 t) (iblk m c 3 t) y
      = val_main_v40 (F := Ideal) (m ((c : Thread nD τ).loc main_arg0)) (m ((c : Thread nD τ).loc main_arg1)) (m ((c : Thread nD τ).loc main_arg2)) (m ((c : Thread nD τ).loc main_arg3)) (((cfg0.win 5).blk t).view.emb y) := by
  refine Eq.trans ?_ ((core m c t y (((cfg0.win 5).blk t).view.emb y) ?_ ?_).trans ?_)
  · pointwise [k0_pay4]
  · blk_simp [idx t] <;> try omega
  · blk_simp [idx t] <;> try omega
  · pointwise [val_main_v40, val_main_v39, val_main_v38]

/-- The gradient of the input after the run, and the rounded one. -/
theorem final0 (c : Dev nD) : (dats m 0 c).arrAt 4 (cfgs 0).N
    = val_main_v38 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  rcases em (t.val % 8 = 0) with h | h
  · rw [outsAt0_A m c t h]; frame_out; exact point0 m c t y
  · rw [outsAt0_B m c t h]; frame_out; exact point0 m c t y

theorem final1 (c : Dev nD) : (dats m 0 c).arrAt 5 (cfgs 0).N
    = val_main_v40 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  rcases em (t.val % 8 = 0) with h | h
  · rw [outsAt0_A m c t h]; frame_out; exact point1 m c t y
  · rw [outsAt0_B m c t h]; frame_out; exact point1 m c t y

/-- A row's share of the gradient of the gain. -/
def share {R : ℕ} (x0 x1 : Fin R → Fin 1024 → EReal) (j : Fin 1024) (r : Fin R) : EReal :=
  x1 r j * Ideal.rsqrt (den (x1 r)) * x0 r j

/-- A point adds the shares of its rows. -/
theorem hpay (x0 x1 : Vec Ideal S512x1024 .f32) (acc : Vec Ideal S1x1024 .f32) (j : S1x1024.Idx) :
    k0_pay1 (F := Ideal) x1 x0 (k0_pay2 x1) acc j
      = acc j + ∑ r : Fin 512, share (fun r k => x0 (Idealize.ShloMosaic.ix2 r k)) (fun r k => x1 (Idealize.ShloMosaic.ix2 r k)) (j 1) r := by
  pointwise [k0_pay1, k0_pay2]
  refine congrArg _ (Fin.sum_fin_congr fun r => ?_)
  exact (mul_assoc _ _ _).trans (mul_comm _ _)

/-- It begins at zero. -/
theorem hzero (j : S1x1024.Idx) : k0_pay5 (F := Ideal) j = (0 : EReal) := by
  pointwise [k0_pay5]

/-- The reference adds the shares of all rows. -/
theorem href (x0 x1 : Vec Ideal S4096x1024 .f32) (j : S1x1024.Idx) :
    val_main_v23 (F := Ideal) x0 x1 j
      = ∑ r : Fin 4096, share (fun r k => x0 (Idealize.ShloMosaic.ix2 r k)) (fun r k => x1 (Idealize.ShloMosaic.ix2 r k)) (j 1) r := by
  pointwise [val_main_v23, val_main_v22, val_main_v19, val_main_v18, val_main_v17, val_main_v12, val_main_v11, val_main_v7, val_main_v6, val_main_v5, val_main_v4, val_main_v3, val_main_v2, val_main_v1, val_main_v0, val_main_cst, val_main_cst_0, val_main_cst_1, val_main_cst_3, val_main_cst_4]
  exact Fin.sum_univ_one _

/-- The gradient of the gain after the run. -/
theorem final2 (c : Dev nD) : (dats m 0 c).arrAt 6 (cfgs 0).N
    = val_main_v23 (F := Ideal) (m ((c : Thread nD τ).loc main_arg0)) (m ((c : Thread nD τ).loc main_arg1)) := by
  refine (dats m 0 c).arrAt_eq_of_covers 6 _ (by decide +kernel) fun t hf y => ?_
  blk_simp
  rw [after0_6, Pipeline.eq_sum_fin_of_reset_step_apply_of_flush (fun n h => (outsAt0 m c n h).2.2) 8 (fun _ => 0) _
    (fun t h j => by rw [outsAt0_A m c t h]; frame_out; rw [hpay, hzero]) (fun t h j => by rw [outsAt0_B m c t h]; frame_out; rw [hpay])
    t ((flush0_6 t).mp hf) _, zero_add, href]
  refine Fin.sum_mul_add_congr fun s r hl => ?_
  have hk : ∀ k : Fin 1024, iblk m c 1 ⟨8 * (t.val / 8) + s.val, Pipeline.run_point_lt_of_flush t ((flush0_6 t).mp hf) s⟩ (Idealize.ShloMosaic.ix2 r k)
      = m ((c : Thread nD τ).loc main_arg1) (Idealize.ShloMosaic.ix2 ⟨s.val * 512 + r.val, hl⟩ k) := fun k => by
    blk_ext [iblk, V, idx t, idx ⟨_, Pipeline.run_point_lt_of_flush t ((flush0_6 t).mp hf) s⟩]
  have hd : ∀ k : Fin 1024, iblk m c 0 ⟨8 * (t.val / 8) + s.val, Pipeline.run_point_lt_of_flush t ((flush0_6 t).mp hf) s⟩ (Idealize.ShloMosaic.ix2 r k)
      = m ((c : Thread nD τ).loc main_arg0) (Idealize.ShloMosaic.ix2 ⟨s.val * 512 + r.val, hl⟩ k) := fun k => by
    blk_ext [iblk, V, idx t, idx ⟨_, Pipeline.run_point_lt_of_flush t ((flush0_6 t).mp hf) s⟩]
  have hj : ((((cfg0.win 6).blk t).view.emb y) 1 : Fin 1024) = y 1 := by
    apply Fin.ext
    blk_simp [idx t]
  have hrow : (fun k : Fin 1024 => iblk m c 1 ⟨8 * (t.val / 8) + s.val, Pipeline.run_point_lt_of_flush t ((flush0_6 t).mp hf) s⟩ (Idealize.ShloMosaic.ix2 r k))
      = fun k => m ((c : Thread nD τ).loc main_arg1) (Idealize.ShloMosaic.ix2 ⟨s.val * 512 + r.val, hl⟩ k) := funext hk
  refine Eq.trans ?_ (congrArg (fun z : Fin 1024 => share (R := 4096) (fun r k => m ((c : Thread nD τ).loc main_arg0) (Idealize.ShloMosaic.ix2 r k))
    (fun r k => m ((c : Thread nD τ).loc main_arg1) (Idealize.ShloMosaic.ix2 r k)) z ⟨s.val * 512 + r.val, hl⟩) hj.symm)
  exact congr (congrArg (fun (a b : EReal) => a * b) (congr (congrArg (fun (a b : EReal) => a * b) (hk (y 1)))
    (congrArg (fun f => Ideal.rsqrt (den f)) hrow))) (hd (y 1))

end Cert.RmsBwdIdeal.Value

end
-- ==== Proof.Products.Merge.lean ====
module

public import proofs.«01_k».proof.Proof.Gen.MergeIdeal.Value
public import proofs.«01_k».proof.Proof.Gen.MergeRefIdeal.Read
public import Idealize.ShloMosaic.Lib.Pipeline.ValueKit

/-! The gated merge of the two branches: each of the eight grid points writes 512 rows. -/

@[expose] public section

set_option maxRecDepth 16384

noncomputable section

namespace Cert.MergeIdeal.Value

open Cert.MergeIdeal Cert.MergeIdeal.Gen Idealize.ShloMosaic Idealize.ShloMosaic.TcCoe Idealize.SL.Sem
open Idealize.ShloMosaic.ValueIdx
open Cert.MergeRefIdeal.Read

variable (m : (ℓ : Loc nD τ sig) → Buf (Elt Ideal) ℓ)

/-- The blocks the windows show at each grid point. -/
theorem idx : ∀ t : Fin cfg0.N, win0_0.index t = ![t.val, 0] ∧ win0_1.index t = ![t.val, 0] ∧ win0_2.index t = ![t.val, 0] ∧ win0_3.index t = ![t.val, 1] ∧ win0_4.index t = ![t.val, 0] :=
  (by decide +kernel : ∀ t : Fin grid0.N, _)

/-- What a point stores at an entry of its block is the reference's entry at the block's place. -/
theorem point (c : Dev nD) (t : Fin cfg0.N) (y : S512x1024.Idx) :
    k0_pay1 (F := Ideal) (iblk m c 2 t) (iblk m c 0 t) (iblk m c 3 t) (iblk m c 1 t) y
      = val_main_v17 (F := Ideal) (m ((c : Thread nD τ).loc main_arg0)) (m ((c : Thread nD τ).loc main_arg1)) (m ((c : Thread nD τ).loc main_arg2))
          (((cfg0.win 4).blk t).view.emb y) := by
  pointwise [k0_pay1, val_main_v17, val_main_v16, val_main_v15, val_main_v14, val_main_v13, val_main_cst_2, val_main_v12, val_main_v11, val_main_cst_1, val_main_v10, val_main_v9, val_main_v8, val_main_v7, val_main_v6, val_main_v5, val_main_cst_0, val_main_v4, val_main_v3, val_main_cst, val_main_v2, val_main_v1, val_main_v0]
  blk_point [iblk, V, idx t]
  all_goals
    refine congrArg Ideal.exp ((sub_eq_add_neg _ _).trans ((zero_add _).trans (congrArg Neg.neg ?_)))
    blk_ext [V, idx t]

/-- The result array after the run. -/
theorem final (c : Dev nD) : (dats m 0 c).arrAt 4 (cfgs 0).N
    = val_main_v17 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point m c t y

end Cert.MergeIdeal.Value

end
-- ==== Proof.Products.Dmerge.lean ====
module

public import proofs.«01_k».proof.Proof.Gen.DmergeIdeal.Value
public import proofs.«01_k».proof.Proof.Gen.DmergeRefIdeal.Read
public import Idealize.ShloMosaic.Lib.Pipeline.ValueKit

/-! The gradient of the gated merge: each of the eight grid points writes 512 rows of the four results. -/

@[expose] public section

set_option maxRecDepth 16384

noncomputable section

namespace Cert.DmergeIdeal.Value

open Cert.DmergeIdeal Cert.DmergeIdeal.Gen Idealize.ShloMosaic Idealize.ShloMosaic.TcCoe Idealize.SL.Sem
open Idealize.ShloMosaic.ValueIdx
open Cert.DmergeRefIdeal.Read

variable (m : (ℓ : Loc nD τ sig) → Buf (Elt Ideal) ℓ)

/-- The blocks the windows show at each grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 1] ∧ win0_5.index t = ![t.val, 0] ∧ win0_6.index t = ![t.val, 0] ∧ win0_7.index t = ![t.val, 0] ∧ win0_8.index t = ![t.val, 0] :=
  (by decide +kernel : ∀ t : Fin grid0.N, _)

/-- What a point stores at an entry of its block of result 0 is the reference's entry at the block's place. -/
theorem point0 (c : Dev nD) (t : Fin cfg0.N) (y : S512x1024.Idx) :
    k0_pay4 (F := Ideal) (iblk m c 0 t) (iblk m c 3 t) y
      = val_main_v34 (F := Ideal) (m ((c : Thread nD τ).loc main_arg0)) (m ((c : Thread nD τ).loc main_arg3))
          (((cfg0.win 5).blk t).view.emb y) := by
  pointwise [k0_pay1, k0_pay2, k0_pay3, k0_pay4, k0_pay5, k0_pay6, k0_pay7, val_main_v39, val_main_v38, val_main_v37, val_main_v36, val_main_v35, val_main_v34, val_main_v33, val_main_v32, val_main_cst_6, val_main_v31, val_main_v30, val_main_v29, val_main_v28, val_main_cst_5, val_main_v27, val_main_v26, val_main_v25, val_main_v24, val_main_v23, val_main_v22, val_main_v21, val_main_v20, val_main_v19, val_main_v18, val_main_cst_4, val_main_v17, val_main_v16, val_main_cst_3, val_main_v15, val_main_v14, val_main_cst_2, val_main_v13, val_main_v12, val_main_v11, val_main_v10, val_main_v9, val_main_v8, val_main_v7, val_main_cst_1, val_main_v6, val_main_v5, val_main_cst_0, val_main_v4, val_main_v3, val_main_cst, val_main_v2, val_main_v1, val_main_v0]
  blk_point [iblk, V, idx t]
  all_goals
    refine congrArg Ideal.exp ((sub_eq_add_neg _ _).trans ((zero_add _).trans (congrArg Neg.neg ?_)))
    blk_ext [V, idx t]

/-- The array of result 0 after the run. -/
theorem final0 (c : Dev nD) : (dats m 0 c).arrAt 5 (cfgs 0).N
    = val_main_v34 (F := Ideal) (m ((c : Thread nD τ).loc main_arg0)) (m ((c : Thread nD τ).loc main_arg3)) := by
  refine (dats m 0 c).arrAt_eq_of_covers 5 _ (by decide +kernel) fun t _ y => ?_
  blk_simp
  rw [after0_5]; frame_out
  exact point0 m c t y

/-- What a point stores at an entry of its block of result 1 is the reference's entry at the block's place. -/
theorem point1 (c : Dev nD) (t : Fin cfg0.N) (y : S512x1024.Idx) :
    k0_pay5 (F := Ideal) (iblk m c 0 t) (iblk m c 4 t) y
      = val_main_v35 (F := Ideal) (m ((c : Thread nD τ).loc main_arg0)) (m ((c : Thread nD τ).loc main_arg3))
          (((cfg0.win 6).blk t).view.emb y) := by
  pointwise [k0_pay1, k0_pay2, k0_pay3, k0_pay4, k0_pay5, k0_pay6, k0_pay7, val_main_v39, val_main_v38, val_main_v37, val_main_v36, val_main_v35, val_main_v34, val_main_v33, val_main_v32, val_main_cst_6, val_main_v31, val_main_v30, val_main_v29, val_main_v28, val_main_cst_5, val_main_v27, val_main_v26, val_main_v25, val_main_v24, val_main_v23, val_main_v22, val_main_v21, val_main_v20, val_main_v19, val_main_v18, val_main_cst_4, val_main_v17, val_main_v16, val_main_cst_3, val_main_v15, val_main_v14, val_main_cst_2, val_main_v13, val_main_v12, val_main_v11, val_main_v10, val_main_v9, val_main_v8, val_main_v7, val_main_cst_1, val_main_v6, val_main_v5, val_main_cst_0, val_main_v4, val_main_v3, val_main_cst, val_main_v2, val_main_v1, val_main_v0]
  blk_point [iblk, V, idx t]
  all_goals
    refine congrArg Ideal.exp ((sub_eq_add_neg _ _).trans ((zero_add _).trans (congrArg Neg.neg ?_)))
    blk_ext [V, idx t]

/-- The array of result 1 after the run. -/
theorem final1 (c : Dev nD) : (dats m 0 c).arrAt 6 (cfgs 0).N
    = val_main_v35 (F := Ideal) (m ((c : Thread nD τ).loc main_arg0)) (m ((c : Thread nD τ).loc main_arg3)) := by
  refine (dats m 0 c).arrAt_eq_of_covers 6 _ (by decide +kernel) fun t _ y => ?_
  blk_simp
  rw [after0_6]; frame_out
  exact point1 m c t y

/-- What a point stores at an entry of its block of result 2 is the reference's entry at the block's place. -/
theorem point2 (c : Dev nD) (t : Fin cfg0.N) (y : S512x1024.Idx) :
    k0_pay6 (F := Ideal) (iblk m c 0 t) (iblk m c 3 t) (iblk m c 1 t) y
      = val_main_v37 (F := Ideal) (m ((c : Thread nD τ).loc main_arg0)) (m ((c : Thread nD τ).loc main_arg1)) (m ((c : Thread nD τ).loc main_arg2)) (m ((c : Thread nD τ).loc main_arg3))
          (((cfg0.win 7).blk t).view.emb y) := by
  pointwise [k0_pay1, k0_pay2, k0_pay3, k0_pay4, k0_pay5, k0_pay6, k0_pay7, val_main_v39, val_main_v38, val_main_v37, val_main_v36, val_main_v35, val_main_v34, val_main_v33, val_main_v32, val_main_cst_6, val_main_v31, val_main_v30, val_main_v29, val_main_v28, val_main_cst_5, val_main_v27, val_main_v26, val_main_v25, val_main_v24, val_main_v23, val_main_v22, val_main_v21, val_main_v20, val_main_v19, val_main_v18, val_main_cst_4, val_main_v17, val_main_v16, val_main_cst_3, val_main_v15, val_main_v14, val_main_cst_2, val_main_v13, val_main_v12, val_main_v11, val_main_v10, val_main_v9, val_main_v8, val_main_v7, val_main_cst_1, val_main_v6, val_main_v5, val_main_cst_0, val_main_v4, val_main_v3, val_main_cst, val_main_v2, val_main_v1, val_main_v0]
  rw [dif_neg (fun h => h.1), zero_add]
  refine (mul_assoc _ _ _).trans (congrArg₂ (· * ·) (congrArg₂ (· * ·) ?_ ?_) (congrArg
    (fun z : EReal => Ideal.div 1 (1 + Ideal.exp z) * (1 - Ideal.div 1 (1 + Ideal.exp z)))
    ((sub_eq_add_neg _ _).trans ((zero_add _).trans (congrArg Neg.neg ?_)))))
  all_goals blk_point [iblk, V, idx t]

/-- The array of result 2 after the run. -/
theorem final2 (c : Dev nD) : (dats m 0 c).arrAt 7 (cfgs 0).N
    = val_main_v37 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]; frame_out
  exact point2 m c t y

/-- What a point stores at an entry of its block of result 3 is the reference's entry at the block's place. -/
theorem point3 (c : Dev nD) (t : Fin cfg0.N) (y : S512x1024.Idx) :
    k0_pay1 (F := Ideal) (k0_pay3 (F := Ideal) (iblk m c 4 t)) (k0_pay7 (F := Ideal) (iblk m c 0 t) (iblk m c 2 t)) y
      = val_main_v39 (F := Ideal) (m ((c : Thread nD τ).loc main_arg0)) (m ((c : Thread nD τ).loc main_arg1)) (m ((c : Thread nD τ).loc main_arg2)) (m ((c : Thread nD τ).loc main_arg3))
          (((cfg0.win 8).blk t).view.emb y) := by
  pointwise [k0_pay1, k0_pay2, k0_pay3, k0_pay4, k0_pay5, k0_pay6, k0_pay7, val_main_v39, val_main_v38, val_main_v37, val_main_v36, val_main_v35, val_main_v34, val_main_v33, val_main_v32, val_main_cst_6, val_main_v31, val_main_v30, val_main_v29, val_main_v28, val_main_cst_5, val_main_v27, val_main_v26, val_main_v25, val_main_v24, val_main_v23, val_main_v22, val_main_v21, val_main_v20, val_main_v19, val_main_v18, val_main_cst_4, val_main_v17, val_main_v16, val_main_cst_3, val_main_v15, val_main_v14, val_main_cst_2, val_main_v13, val_main_v12, val_main_v11, val_main_v10, val_main_v9, val_main_v8, val_main_v7, val_main_cst_1, val_main_v6, val_main_v5, val_main_cst_0, val_main_v4, val_main_v3, val_main_cst, val_main_v2, val_main_v1, val_main_v0]
  refine (mul_assoc _ _ _).trans (congrArg₂ (· * ·) (congrArg₂ (· * ·) ?_ ?_) (congrArg
    (fun z : EReal => Ideal.div 1 (1 + Ideal.exp z) * (1 - Ideal.div 1 (1 + Ideal.exp z)))
    ((sub_eq_add_neg _ _).trans ((zero_add _).trans (congrArg Neg.neg ?_)))))
  all_goals blk_point [iblk, V, idx t]

/-- The array of result 3 after the run. -/
theorem final3 (c : Dev nD) : (dats m 0 c).arrAt 8 (cfgs 0).N
    = val_main_v39 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]; frame_out
  exact point3 m c t y

end Cert.DmergeIdeal.Value

end
-- ==== Proof.Products.Loss.lean ====
module

public import proofs.«01_k».proof.Proof.Gen.LossIdeal.Value
public import proofs.«01_k».proof.Proof.Gen.LossRefIdeal.Read
public import Idealize.ShloMosaic.Lib.Pipeline.ValueKit

/-! The loss, half the sum of the mean squared errors of the rows, and its gradient. -/

@[expose] public section

set_option maxRecDepth 16384

noncomputable section

namespace Cert.LossIdeal.Value

open Cert.LossIdeal Cert.LossIdeal.Gen Idealize.ShloMosaic Idealize.ShloMosaic.TcCoe Idealize.SL.Sem
open Idealize.ShloMosaic.ValueIdx
open Cert.LossRefIdeal.Read

variable (m : (ℓ : Loc nD τ sig) → Buf (Elt Ideal) ℓ)

/-- The blocks the windows show at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] :=
  (by decide +kernel : ∀ t : Fin grid0.N, _)

/-- One half, the number of columns, its inverse, and two. -/
theorem c_half : Ideal.ofBits .f32 0x3F000000#32 = ((1 / 2 : ℝ) : EReal) := by
  simp [Ideal.ofBits, Ideal.ieee, -EReal.coe_mul]; norm_num
theorem c_cols : Ideal.ofBits .f32 0x44800000#32 = ((1024 : ℝ) : EReal) := by
  simp [Ideal.ofBits, Ideal.ieee, -EReal.coe_mul]; norm_num
theorem c_inv : Ideal.ofBits .f32 0x3A800000#32 = ((1 / 1024 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num

/-- Dividing by the number of columns is multiplying by its inverse. -/
theorem div_cols (x : EReal) : Ideal.div x (Ideal.ofBits .f32 0x44800000#32) = x * ((1 / 1024 : ℝ) : EReal) := by
  rw [c_cols, Ideal.div, if_neg (by exact_mod_cast (by norm_num : (1024 : ℝ) ≠ 0)), ← EReal.coe_inv, one_div]

/-- The factor of the error in the gradient: the kernel has the inverse of the number of columns, and the reference one
half of it times two. -/
theorem factor (x : EReal) : x * Ideal.ofBits .f32 0x3A800000#32
    = Ideal.div (Ideal.ofBits .f32 0x3F000000#32) (Ideal.ofBits .f32 0x44800000#32) * (Ideal.ofBits .f32 0x40000000#32 * x) := by
  rw [div_cols, c_half, c_inv, c_two, ← mul_assoc, ← EReal.coe_mul, ← EReal.coe_mul, mul_comm]
  norm_num

/-- A square is not negative. -/
theorem square_nonneg (x : EReal) : 0 ≤ x * x := by
  rcases le_total 0 x with h | h
  · exact mul_nonneg h h
  · have := mul_nonneg (EReal.neg_nonneg.2 h) (EReal.neg_nonneg.2 h)
    rwa [EReal.neg_mul, mul_comm, EReal.neg_mul, neg_neg] at this

/-- A factor goes into a sum of terms that are not negative. -/
theorem mul_sum {n : ℕ} (a : EReal) (f : Fin n → EReal) (h : ∀ i, 0 ≤ f i) : a * ∑ i, f i = ∑ i, a * f i := by
  induction n with
  | zero => simp
  | succ n ih =>
    rw [Fin.sum_univ_succ, Fin.sum_univ_succ,
      EReal.left_distrib_of_nonneg (h 0) (Finset.sum_nonneg fun i _ => h _), ih _ fun i => h _]

/-- The mean of the squared errors of a row, as both programs form it. -/
def row {R : ℕ} (x0 x1 : Fin R → Fin 1024 → EReal) (r : Fin R) : EReal :=
  Ideal.div (∑ k, (x0 r k - x1 r k) * (x0 r k - x1 r k)) (Ideal.ofBits .f32 0x44800000#32)

theorem row_nonneg {R : ℕ} (x0 x1 : Fin R → Fin 1024 → EReal) (r : Fin R) : 0 ≤ row x0 x1 r := by
  unfold row
  rw [div_cols]
  exact mul_nonneg (Finset.sum_nonneg fun k _ => square_nonneg _) (by exact_mod_cast (by norm_num : (0 : ℝ) ≤ 1 / 1024))

/-- What a point stores at an entry of its block of the gradient is the reference's entry at the block's place. -/
theorem point0 (c : Dev nD) (t : Fin cfg0.N) (y : S512x1024.Idx) :
    k0_pay2 (F := Ideal) (iblk m c 0 t) (iblk m c 1 t) y
      = val_main_v14 (F := Ideal) (m ((c : Thread nD τ).loc main_arg0)) (m ((c : Thread nD τ).loc main_arg1))
          (((cfg0.win 2).blk t).view.emb y) := by
  pointwise [k0_pay1, k0_pay2, val_main_v14, val_main_v13, val_main_v12, val_main_v11, val_main_cst_6, val_main_v10, val_main_v9, val_main_cst_5, val_main_cst_4, val_main_v3, val_main_v2, val_main_cst, val_main_v0]
  refine (factor _).trans ?_
  blk_point [iblk, V, idx t]

/-- And of its block of the rounded gradient. -/
theorem point1 (c : Dev nD) (t : Fin cfg0.N) (y : S512x1024.Idx) :
    k0_pay3 (F := Ideal) (iblk m c 0 t) (iblk m c 1 t) y
      = val_main_v15 (F := Ideal) (m ((c : Thread nD τ).loc main_arg0)) (m ((c : Thread nD τ).loc main_arg1))
          (((cfg0.win 3).blk t).view.emb y) := by
  pointwise [k0_pay1, k0_pay3, val_main_v15, val_main_v14, val_main_v13, val_main_v12, val_main_v11, val_main_cst_6, val_main_v10, val_main_v9, val_main_cst_5, val_main_cst_4, val_main_v3, val_main_v2, val_main_cst, val_main_v0]
  refine (factor _).trans ?_
  blk_point [iblk, V, idx t]

/-- The gradient after the run. -/
theorem final0 (c : Dev nD) : (dats m 0 c).arrAt 2 (cfgs 0).N
    = val_main_v14 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  rcases em (t.val % 8 = 0) with h | h
  · rw [outsAt0_A m c t h]; frame_out; exact point0 m c t y
  · rw [outsAt0_B m c t h]; frame_out; exact point0 m c t y

/-- The rounded gradient after the run. -/
theorem final1 (c : Dev nD) : (dats m 0 c).arrAt 3 (cfgs 0).N
    = val_main_v15 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  rcases em (t.val % 8 = 0) with h | h
  · rw [outsAt0_A m c t h]; frame_out; exact point1 m c t y
  · rw [outsAt0_B m c t h]; frame_out; exact point1 m c t y

/-- A point adds half the sum of the means of its rows. -/
theorem hpay (x0 x1 : Vec Ideal S512x1024 .f32) (acc : Vec Ideal S8x128 .f32) (j : S8x128.Idx) :
    k0_pay5 (F := Ideal) x0 x1 acc j
      = acc j + ∑ r : Fin 512, Ideal.ofBits .f32 0x3F000000#32 * row (fun r k => x0 (Idealize.ShloMosaic.ix2 r k)) (fun r k => x1 (Idealize.ShloMosaic.ix2 r k)) r := by
  rw [← mul_sum _ _ (row_nonneg _ _)]
  pointwise [k0_pay1, k0_pay5]
  rfl

/-- It begins at zero. -/
theorem hzero (j : S8x128.Idx) : k0_pay4 (F := Ideal) j = (0 : EReal) := by
  pointwise [k0_pay4]

/-- The reference has half the sum of the means of all rows. -/
theorem href (x0 x1 : Vec Ideal S4096x1024 .f32) (j : S8x128.Idx) :
    val_main_v16 (F := Ideal) x0 x1 j
      = ∑ r : Fin 4096, Ideal.ofBits .f32 0x3F000000#32 * row (fun r k => x0 (Idealize.ShloMosaic.ix2 r k)) (fun r k => x1 (Idealize.ShloMosaic.ix2 r k)) r := by
  rw [← mul_sum _ _ (row_nonneg _ _)]
  pointwise [val_main_v16, val_main_v8, val_main_v7, val_main_v6, val_main_v5, val_main_v4, val_main_v1, val_main_v0, val_main_cst_0, val_main_cst_1, val_main_cst_2, val_main_cst_3]
  rfl

/-- The loss after the run. -/
theorem final2 (c : Dev nD) : (dats m 0 c).arrAt 4 (cfgs 0).N
    = val_main_v16 (F := Ideal) (m ((c : Thread nD τ).loc main_arg0)) (m ((c : Thread nD τ).loc main_arg1)) := by
  refine (dats m 0 c).arrAt_eq_of_covers 4 _ (by decide +kernel) fun t hf y => ?_
  blk_simp
  rw [after0_4, Pipeline.eq_sum_fin_of_reset_step_apply_of_flush (fun n h => (outsAt0 m c n h).2.2) 8 (fun _ => 0) _
    (fun t h j => by rw [outsAt0_A m c t h]; frame_out; rw [hpay, hzero]) (fun t h j => by rw [outsAt0_B m c t h]; frame_out; rw [hpay])
    t ((flush0_4 t).mp hf) _, zero_add, href]
  refine Fin.sum_mul_add_congr fun s r hl => ?_
  refine congrArg _ ?_
  unfold row
  refine congrArg (fun z => Ideal.div z _) (Fin.sum_fin_congr fun k => ?_)
  refine congrArg₂ (fun a b : EReal => (a - b) * (a - b)) ?_ ?_
  all_goals blk_ext [iblk, V, idx t, idx ⟨_, Pipeline.run_point_lt_of_flush t ((flush0_4 t).mp hf) s⟩]

end Cert.LossIdeal.Value

end
-- ==== Proof.Products.Adam.lean ====
module

public import proofs.«01_k».proof.Proof.Gen.AdamIdeal.Value
public import proofs.«01_k».proof.Proof.Gen.AdamRefIdeal.Read
public import Idealize.ShloMosaic.Lib.Pipeline.ValueKit

/-! The AdamW update of the small weights, packed in one array: one point forms the whole of the three results. -/

@[expose] public section

set_option maxRecDepth 16384

noncomputable section

namespace Cert.AdamIdeal.Value

open Cert.AdamIdeal Cert.AdamIdeal.Gen Idealize.ShloMosaic Idealize.ShloMosaic.TcCoe Idealize.SL.Sem
open Idealize.ShloMosaic.ValueIdx
open Cert.AdamRefIdeal.Read

variable (m : (ℓ : Loc nD τ sig) → Buf (Elt Ideal) ℓ)

/-- The blocks the windows show at each grid point. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

/-- What a point stores at an entry of its block of result 0 is the reference's entry at the block's place. -/
theorem point0 (c : Dev nD) (t : Fin cfg0.N) (y : S80x128.Idx) :
    k0_pay3 (F := Ideal) (iblk m c 0 t) (iblk m c 1 t) (iblk m c 2 t) (iblk m c 3 t) y
      = val_main_v23 (F := Ideal) (m ((c : Thread nD τ).loc main_arg0)) (m ((c : Thread nD τ).loc main_arg1)) (m ((c : Thread nD τ).loc main_arg2)) (m ((c : Thread nD τ).loc main_arg3))
          (((cfg0.win 4).blk t).view.emb y) := by
  pointwise [k0_pay1, k0_pay2, k0_pay3, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  blk_point [iblk, V, idx t]

/-- The array of result 0 after the run. -/
theorem final0 (c : Dev nD) : (dats m 0 c).arrAt 4 (cfgs 0).N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point0 m c t y

/-- What a point stores at an entry of its block of result 1 is the reference's entry at the block's place. -/
theorem point1 (c : Dev nD) (t : Fin cfg0.N) (y : S80x128.Idx) :
    k0_pay1 (F := Ideal) (iblk m c 0 t) (iblk m c 2 t) y
      = val_main_v4 (F := Ideal) (m ((c : Thread nD τ).loc main_arg0)) (m ((c : Thread nD τ).loc main_arg2))
          (((cfg0.win 5).blk t).view.emb y) := by
  pointwise [k0_pay1, k0_pay2, k0_pay3, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  blk_point [iblk, V, idx t]

/-- The array of result 1 after the run. -/
theorem final1 (c : Dev nD) : (dats m 0 c).arrAt 5 (cfgs 0).N
    = val_main_v4 (F := Ideal) (m ((c : Thread nD τ).loc main_arg0)) (m ((c : Thread nD τ).loc main_arg2)) := by
  refine (dats m 0 c).arrAt_eq_of_covers 5 _ (by decide +kernel) fun t _ y => ?_
  blk_simp
  rw [after0_5]; frame_out
  exact point1 m c t y

/-- What a point stores at an entry of its block of result 2 is the reference's entry at the block's place. -/
theorem point2 (c : Dev nD) (t : Fin cfg0.N) (y : S80x128.Idx) :
    k0_pay2 (F := Ideal) (iblk m c 0 t) (iblk m c 3 t) y
      = val_main_v10 (F := Ideal) (m ((c : Thread nD τ).loc main_arg0)) (m ((c : Thread nD τ).loc main_arg3))
          (((cfg0.win 6).blk t).view.emb y) := by
  pointwise [k0_pay1, k0_pay2, k0_pay3, val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  blk_point [iblk, V, idx t]

/-- The array of result 2 after the run. -/
theorem final2 (c : Dev nD) : (dats m 0 c).arrAt 6 (cfgs 0).N
    = val_main_v10 (F := Ideal) (m ((c : Thread nD τ).loc main_arg0)) (m ((c : Thread nD τ).loc main_arg3)) := by
  refine (dats m 0 c).arrAt_eq_of_covers 6 _ (by decide +kernel) fun t _ y => ?_
  blk_simp
  rw [after0_6]; frame_out
  exact point2 m c t y

end Cert.AdamIdeal.Value

end
-- ==== Proof.Products.ToBf16.lean ====
module

public import proofs.«01_k».proof.Proof.Gen.ToBf16Ideal.Value
public import proofs.«01_k».proof.Proof.Gen.ToBf16RefIdeal.Read
public import Idealize.ShloMosaic.Lib.Pipeline.ValueKit

/-! The six weights rounded to bf16: one grid point writes each array whole. -/

@[expose] public section

noncomputable section

namespace Cert.ToBf16Ideal.Value

open Cert.ToBf16Ideal Cert.ToBf16Ideal.Gen Idealize.ShloMosaic Idealize.ShloMosaic.TcCoe Idealize.SL.Sem
open Cert.ToBf16RefIdeal.Read

variable (m : (ℓ : Loc nD τ sig) → Buf (Elt Ideal) ℓ)

/-- The array of weight 0 after the run. -/
theorem weight0 (c : Dev nD) : (dats m 0 c).arrAt 6 (cfgs 0).N
    = val_main_v0 (F := Ideal) (m ((c : Thread nD τ).loc main_arg0)) :=
  final6 m c

/-- The array of weight 1 after the run. -/
theorem weight1 (c : Dev nD) : (dats m 0 c).arrAt 7 (cfgs 0).N
    = val_main_v1 (F := Ideal) (m ((c : Thread nD τ).loc main_arg1)) :=
  final7 m c

/-- The array of weight 2 after the run. -/
theorem weight2 (c : Dev nD) : (dats m 0 c).arrAt 8 (cfgs 0).N
    = val_main_v2 (F := Ideal) (m ((c : Thread nD τ).loc main_arg2)) :=
  final8 m c

/-- The array of weight 3 after the run. -/
theorem weight3 (c : Dev nD) : (dats m 0 c).arrAt 9 (cfgs 0).N
    = val_main_v3 (F := Ideal) (m ((c : Thread nD τ).loc main_arg3)) :=
  final9 m c

/-- The array of weight 4 after the run. -/
theorem weight4 (c : Dev nD) : (dats m 0 c).arrAt 10 (cfgs 0).N
    = val_main_v4 (F := Ideal) (m ((c : Thread nD τ).loc main_arg4)) :=
  final10 m c

/-- The array of weight 5 after the run. -/
theorem weight5 (c : Dev nD) : (dats m 0 c).arrAt 11 (cfgs 0).N
    = val_main_v5 (F := Ideal) (m ((c : Thread nD τ).loc main_arg5)) :=
  final11 m c

end Cert.ToBf16Ideal.Value

end
-- ==== Proof.Products.Join.lean ====
module

public import Idealize.ShloMosaic.Lib.Pipeline.ValueKit

/-! Matrices set side by side, read at an entry: the entry of the matrix whose columns hold it. -/

@[expose] public section

noncomputable section

namespace Cert.Join

open Idealize.ShloMosaic

variable {α : Type}

/-- The entry of matrices set side by side that lies in the `k`-th, `pre` columns in. -/
theorem read {n W w : Nat} (xs : List ((s : Shape) × (s.Idx → α))) (h : Shape.Concatenates (xs.map (·.1)) ⟨2, ![n, W]⟩ 1)
    (J : Shape.Idx ⟨2, ![n, W]⟩) (k : Nat) (hk : k < xs.length) (x : Shape.Idx ⟨2, ![n, w]⟩ → α)
    (hx : xs[k] = ⟨⟨2, ![n, w]⟩, x⟩) (pre : Nat)
    (hpre : (((xs.take k).map (·.1)).map fun s => if h : s.rank = 2 then s.size ((1 : Fin 2).cast h.symm) else 0).sum = pre)
    (i : Shape.Idx ⟨2, ![n, w]⟩) (h0 : (i 0).val = (J 0).val) (h1 : pre + (i 1).val = (J 1).val) :
    concatenate ⟨2, ![n, W]⟩ 1 xs h J = x i :=
  concatenate_apply_piece 1 xs h J k hk _ x hx rfl pre hpre i
    (fun b hb => match b, hb with | ⟨0, _⟩, _ => h0 | ⟨1, _⟩, hb => absurd rfl hb) h1

/-- A matrix is the rows of another from row `o` on. -/
def Rows {n N w : Nat} (o : Nat) (x : Shape.Idx ⟨2, ![n, w]⟩ → α) (y : Shape.Idx ⟨2, ![N, w]⟩ → α) : Prop :=
  ∀ i i', (i' 0).val = o + (i 0).val → (i' 1).val = (i 1).val → x i = y i'

/-- Rows of matrices set side by side agree where the `k`-th matrices do. -/
theorem same {n N W w o : Nat} {xs : List ((s : Shape) × (s.Idx → α))} {h : Shape.Concatenates (xs.map (·.1)) ⟨2, ![n, W]⟩ 1}
    {ys : List ((s : Shape) × (s.Idx → α))} {h' : Shape.Concatenates (ys.map (·.1)) ⟨2, ![N, W]⟩ 1}
    {J : Shape.Idx ⟨2, ![n, W]⟩} {J' : Shape.Idx ⟨2, ![N, W]⟩} (h0 : (J' 0).val = o + (J 0).val) (h1 : (J' 1).val = (J 1).val)
    (k : Nat) (hk : k < xs.length) (hk' : k < ys.length) {x : Shape.Idx ⟨2, ![n, w]⟩ → α} {y : Shape.Idx ⟨2, ![N, w]⟩ → α}
    (e : Rows o x y) (hx : xs[k] = ⟨⟨2, ![n, w]⟩, x⟩) (hy : ys[k] = ⟨⟨2, ![N, w]⟩, y⟩) (pre : Nat)
    (hpre : (((xs.take k).map (·.1)).map fun s => if h : s.rank = 2 then s.size ((1 : Fin 2).cast h.symm) else 0).sum = pre)
    (hpre' : (((ys.take k).map (·.1)).map fun s => if h : s.rank = 2 then s.size ((1 : Fin 2).cast h.symm) else 0).sum = pre)
    (lo : pre ≤ (J 1).val) (hi : (J 1).val < pre + w) :
    concatenate ⟨2, ![n, W]⟩ 1 xs h J = concatenate ⟨2, ![N, W]⟩ 1 ys h' J' := by
  let i : Shape.Idx ⟨2, ![n, w]⟩ := fun | ⟨0, _⟩ => (⟨(J 0).val, (J 0).isLt⟩ : Fin n) | ⟨1, _⟩ => (⟨(J 1).val - pre, by omega⟩ : Fin w)
  let i' : Shape.Idx ⟨2, ![N, w]⟩ := fun | ⟨0, _⟩ => (⟨(J' 0).val, (J' 0).isLt⟩ : Fin N) | ⟨1, _⟩ => (⟨(J' 1).val - pre, by omega⟩ : Fin w)
  rw [read xs h J k hk x hx pre hpre i rfl (by show pre + ((J 1).val - pre) = _; omega),
    read ys h' J' k hk' y hy pre hpre' i' rfl (by show pre + ((J' 1).val - pre) = _; omega)]
  exact e i i' h0 (by show (J' 1).val - pre = (J 1).val - pre; rw [h1])

/-- Columns cut from rows of a matrix are rows of the columns cut from it. -/
theorem cut {n N W w o off : Nat} {x : Shape.Idx ⟨2, ![n, W]⟩ → α} {y : Shape.Idx ⟨2, ![N, W]⟩ → α} (e : Rows o x y)
    (h : Shape.Slices ⟨2, ![n, W]⟩ ![0, off] ⟨2, ![n, w]⟩) (h' : Shape.Slices ⟨2, ![N, W]⟩ ![0, off] ⟨2, ![N, w]⟩) :
    Rows o (extractStridedSlice ⟨2, ![n, w]⟩ ![0, off] x h) (extractStridedSlice ⟨2, ![N, w]⟩ ![0, off] y h') := fun i i' h0 h1 =>
  e _ _ (by show 0 + (i' 0).val = o + (0 + (i 0).val); omega) (by show off + (i' 1).val = off + (i 1).val; omega)

end Cert.Join

end
-- ==== Proof.Products.Pieces.lean ====
module

public import proofs.«01_k».proof.Proof.Gen.PiecesIdeal.Value
public import proofs.«01_k».proof.Proof.Gen.PiecesRefIdeal.Read
public import proofs.«01_k».proof.Proof.Products.Join

/-! The input weight cut into its four pieces: each of the eight grid points sets 128 rows of the eight devices' shards
side by side and cuts the columns of each piece out of them. -/

@[expose] public section

set_option maxRecDepth 16384

noncomputable section

namespace Cert.PiecesIdeal.Value

open Cert.PiecesIdeal Cert.PiecesIdeal.Gen Idealize.ShloMosaic Idealize.ShloMosaic.TcCoe Idealize.SL.Sem
open Idealize.ShloMosaic.ValueIdx
open Cert.PiecesRefIdeal.Read Cert.Join

variable (m : (ℓ : Loc nD τ sig) → Buf (Elt Ideal) ℓ)

/-- The blocks the windows show at each grid point. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] :=
  (by decide +kernel : ∀ t : Fin grid0.N, _)

/-- The place in a shard of an entry of the shards set side by side. -/
def place (J : S128x9240.Idx) (pre : Nat) (h : (J 1).val - pre < 1155) : S128x1155.Idx :=
  fun | ⟨0, _⟩ => (⟨(J 0).val, (J 0).isLt⟩ : Fin 128) | ⟨1, _⟩ => (⟨(J 1).val - pre, h⟩ : Fin 1155)

/-- The entry of the one matrix in a stack. -/
def only (i : S128x1155.Idx) : S1x128x1155.Idx :=
  fun | ⟨0, _⟩ => (⟨0, Nat.one_pos⟩ : Fin 1) | ⟨1, _⟩ => (⟨(i 0).val, (i 0).isLt⟩ : Fin 128) | ⟨2, _⟩ => (⟨(i 1).val, (i 1).isLt⟩ : Fin 1155)

/-- A stack of one matrix, as the matrix. -/
theorem slab (v : Vec Ideal S1x128x1155 .bf16) (h) (i : S128x1155.Idx) : shapeCast S128x1155 v h i = v (only i) :=
  shapeCast_apply _ _ i _ (by rw [Shape.rowMajor_val_two, Shape.rowMajor_val_three]
                              show (0 * 128 + (i 0).val) * 1155 + (i 1).val = (i 0).val * 1155 + (i 1).val
                              omega)

variable {o : Nat} {Q : Vec Ideal S8x128x1155 .bf16} {X : S8x1024x1155.Idx → Elt Ideal .bf16}

/-- The shards are 128 rows of the whole shards. -/
def Slabs (o : Nat) (Q : Vec Ideal S8x128x1155 .bf16) (X : S8x1024x1155.Idx → Elt Ideal .bf16) : Prop :=
  ∀ i i', (i' 0).val = (i 0).val → (i' 1).val = o + (i 1).val → (i' 2).val = (i 2).val → Q i = X i'

/-- Shard `s` of the block is 128 rows of shard `s`. -/
theorem shard (hQ : Slabs o Q X) (s : Nat) (inb) (i : S128x1155.Idx) (I : S8x1024x1155.Idx)
    (e0 : (I 0).val = s) (e1 : (I 1).val = o + (i 0).val) (e2 : (I 2).val = (i 1).val) :
    shapeCast S128x1155 (View.ld Q (Rect.unit ![s, 0, 0] ![1, 128, 1155] inb)) shapeCasts_S1x128x1155_S128x1155 i = X I :=
  (slab _ _ _).trans (hQ _ _ (by rw [e0]; show s = s + 1 * 0; omega) (by rw [e1]; show o + (i 0).val = o + (0 + 1 * (i 0).val); omega)
    (by rw [e2]; show (i 1).val = 0 + 1 * (i 1).val; omega))

/-- Rows of the shards set side by side are rows of the whole weight. -/
theorem joined (hQ : Slabs o Q X) :
    Rows o (k0_pay1 (View.ld Q r0_0) (View.ld Q r0_1) (View.ld Q r0_2) (View.ld Q r0_3) (View.ld Q r0_4) (View.ld Q r0_5) (View.ld Q r0_6) (View.ld Q r0_7))
      (val_main_v1 (F := Ideal) X) := by
  intro J J' h0 h1
  have b0 : (J 0).val < 128 := (J 0).isLt
  have b1 : (J 1).val < 9240 := (J 1).isLt
  have : (J 1).val < 1155 ∨ 1155 ≤ (J 1).val ∧ (J 1).val < 2310 ∨ 2310 ≤ (J 1).val ∧ (J 1).val < 3465 ∨ 3465 ≤ (J 1).val ∧ (J 1).val < 4620 ∨ 4620 ≤ (J 1).val ∧ (J 1).val < 5775 ∨ 5775 ≤ (J 1).val ∧ (J 1).val < 6930 ∨ 6930 ≤ (J 1).val ∧ (J 1).val < 8085 ∨ 8085 ≤ (J 1).val ∧ (J 1).val < 9240 := by omega
  rw [val_main_v1_apply, val_main_v0_apply]
  unfold k0_pay1
  rcases this with c | c | c | c | c | c | c | c
  · exact (read _ _ J 0 (by simp) _ rfl 0 (by simp) (place J 0 (by omega)) rfl (by show 0 + ((J 1).val - 0) = _; omega)).trans
      (shard hQ 0 _ _ _ (by show ((J' 0).val * 9240 + (J' 1).val) / 1155 % 8 = _; omega) (by show ((J' 0).val * 9240 + (J' 1).val) / 9240 = o + (J 0).val; omega)
        (by show ((J' 0).val * 9240 + (J' 1).val) % 1155 = (J 1).val - 0; omega))
  · exact (read _ _ J 1 (by simp) _ rfl 1155 (by simp) (place J 1155 (by omega)) rfl (by show 1155 + ((J 1).val - 1155) = _; omega)).trans
      (shard hQ 1 _ _ _ (by show ((J' 0).val * 9240 + (J' 1).val) / 1155 % 8 = _; omega) (by show ((J' 0).val * 9240 + (J' 1).val) / 9240 = o + (J 0).val; omega)
        (by show ((J' 0).val * 9240 + (J' 1).val) % 1155 = (J 1).val - 1155; omega))
  · exact (read _ _ J 2 (by simp) _ rfl 2310 (by simp) (place J 2310 (by omega)) rfl (by show 2310 + ((J 1).val - 2310) = _; omega)).trans
      (shard hQ 2 _ _ _ (by show ((J' 0).val * 9240 + (J' 1).val) / 1155 % 8 = _; omega) (by show ((J' 0).val * 9240 + (J' 1).val) / 9240 = o + (J 0).val; omega)
        (by show ((J' 0).val * 9240 + (J' 1).val) % 1155 = (J 1).val - 2310; omega))
  · exact (read _ _ J 3 (by simp) _ rfl 3465 (by simp) (place J 3465 (by omega)) rfl (by show 3465 + ((J 1).val - 3465) = _; omega)).trans
      (shard hQ 3 _ _ _ (by show ((J' 0).val * 9240 + (J' 1).val) / 1155 % 8 = _; omega) (by show ((J' 0).val * 9240 + (J' 1).val) / 9240 = o + (J 0).val; omega)
        (by show ((J' 0).val * 9240 + (J' 1).val) % 1155 = (J 1).val - 3465; omega))
  · exact (read _ _ J 4 (by simp) _ rfl 4620 (by simp) (place J 4620 (by omega)) rfl (by show 4620 + ((J 1).val - 4620) = _; omega)).trans
      (shard hQ 4 _ _ _ (by show ((J' 0).val * 9240 + (J' 1).val) / 1155 % 8 = _; omega) (by show ((J' 0).val * 9240 + (J' 1).val) / 9240 = o + (J 0).val; omega)
        (by show ((J' 0).val * 9240 + (J' 1).val) % 1155 = (J 1).val - 4620; omega))
  · exact (read _ _ J 5 (by simp) _ rfl 5775 (by simp) (place J 5775 (by omega)) rfl (by show 5775 + ((J 1).val - 5775) = _; omega)).trans
      (shard hQ 5 _ _ _ (by show ((J' 0).val * 9240 + (J' 1).val) / 1155 % 8 = _; omega) (by show ((J' 0).val * 9240 + (J' 1).val) / 9240 = o + (J 0).val; omega)
        (by show ((J' 0).val * 9240 + (J' 1).val) % 1155 = (J 1).val - 5775; omega))
  · exact (read _ _ J 6 (by simp) _ rfl 6930 (by simp) (place J 6930 (by omega)) rfl (by show 6930 + ((J 1).val - 6930) = _; omega)).trans
      (shard hQ 6 _ _ _ (by show ((J' 0).val * 9240 + (J' 1).val) / 1155 % 8 = _; omega) (by show ((J' 0).val * 9240 + (J' 1).val) / 9240 = o + (J 0).val; omega)
        (by show ((J' 0).val * 9240 + (J' 1).val) % 1155 = (J 1).val - 6930; omega))
  · exact (read _ _ J 7 (by simp) _ rfl 8085 (by simp) (place J 8085 (by omega)) rfl (by show 8085 + ((J 1).val - 8085) = _; omega)).trans
      (shard hQ 7 _ _ _ (by show ((J' 0).val * 9240 + (J' 1).val) / 1155 % 8 = _; omega) (by show ((J' 0).val * 9240 + (J' 1).val) / 9240 = o + (J 0).val; omega)
        (by show ((J' 0).val * 9240 + (J' 1).val) % 1155 = (J 1).val - 8085; omega))

/-- The three wide pieces: one cut each. -/
theorem gdn (hQ : Slabs o Q X) :
    Rows o (k0_pay2 (View.ld Q r0_0) (View.ld Q r0_1) (View.ld Q r0_2) (View.ld Q r0_3) (View.ld Q r0_4) (View.ld Q r0_5) (View.ld Q r0_6) (View.ld Q r0_7)) (val_main_v6 (F := Ideal) X) :=
  cut (joined hQ) slices_S128x9240_o0_0_S128x4096 _

theorem fox (hQ : Slabs o Q X) :
    Rows o (k0_pay3 (View.ld Q r0_0) (View.ld Q r0_1) (View.ld Q r0_2) (View.ld Q r0_3) (View.ld Q r0_4) (View.ld Q r0_5) (View.ld Q r0_6) (View.ld Q r0_7)) (val_main_v7 (F := Ideal) X) :=
  cut (joined hQ) slices_S128x9240_o0_4112_S128x3072 _

theorem gates (hQ : Slabs o Q X) :
    Rows o (k0_pay4 (View.ld Q r0_0) (View.ld Q r0_1) (View.ld Q r0_2) (View.ld Q r0_3) (View.ld Q r0_4) (View.ld Q r0_5) (View.ld Q r0_6) (View.ld Q r0_7)) (val_main_v8 (F := Ideal) X) :=
  cut (joined hQ) slices_S128x9240_o0_7192_S128x2048 _

/-- The narrow piece: two cuts and columns of zeros. -/
theorem narrow (hQ : Slabs o Q X) :
    Rows o (k0_pay5 (View.ld Q r0_0) (View.ld Q r0_1) (View.ld Q r0_2) (View.ld Q r0_3) (View.ld Q r0_4) (View.ld Q r0_5) (View.ld Q r0_6) (View.ld Q r0_7))
      (val_main_v5 (F := Ideal) X) := by
  intro J J' h0 h1
  have b1 : (J 1).val < 128 := (J 1).isLt
  have : (J 1).val < 16 ∨ 16 ≤ (J 1).val ∧ (J 1).val < 24 ∨ 24 ≤ (J 1).val := by omega
  unfold k0_pay5 val_main_v5
  rcases this with c | c | c
  · exact same h0 h1 0 (by simp) (by simp) (cut (joined hQ) _ _) rfl rfl 0 (by simp) (by simp) (by omega) (by omega)
  · exact same h0 h1 1 (by simp) (by simp) (cut (joined hQ) _ _) rfl rfl 16 (by simp) (by simp) (by omega) (by omega)
  · refine same h0 h1 2 (by simp) (by simp) ?_ rfl rfl 24 (by simp) (by simp) (by omega) (by omega)
    intro i i' _ _
    rw [val_main_v4_apply]
    rfl

/-- The block of the shards at a grid point. -/
theorem shards (c : Dev nD) (t : Fin cfg0.N) : Slabs (128 * t.val) (iblk m c 0 t) (m ((c : Thread nD τ).loc main_arg0)) := by
  intro i i' h0 h1 h2
  blk_point [iblk, V, idx t, h0, h1, h2]

/-- The gdn piece after the run. -/
theorem final1 (c : Dev nD) : (dats m 0 c).arrAt 1 (cfgs 0).N
    = val_main_v6 (F := Ideal) (m ((c : Thread nD τ).loc main_arg0)) := by
  refine (dats m 0 c).arrAt_eq_of_covers 1 _ (by decide +kernel) fun t _ y => ?_
  blk_simp
  rw [after0_1]; frame_out
  exact (gdn (shards m c t)) y _ (by blk_simp [idx t]; omega) (by blk_simp [idx t])

/-- The fox piece after the run. -/
theorem final2 (c : Dev nD) : (dats m 0 c).arrAt 2 (cfgs 0).N
    = val_main_v7 (F := Ideal) (m ((c : Thread nD τ).loc main_arg0)) := by
  refine (dats m 0 c).arrAt_eq_of_covers 2 _ (by decide +kernel) fun t _ y => ?_
  blk_simp
  rw [after0_2]; frame_out
  exact (fox (shards m c t)) y _ (by blk_simp [idx t]; omega) (by blk_simp [idx t])

/-- The piece of the gates after the run. -/
theorem final3 (c : Dev nD) : (dats m 0 c).arrAt 3 (cfgs 0).N
    = val_main_v8 (F := Ideal) (m ((c : Thread nD τ).loc main_arg0)) := by
  refine (dats m 0 c).arrAt_eq_of_covers 3 _ (by decide +kernel) fun t _ y => ?_
  blk_simp
  rw [after0_3]; frame_out
  exact (gates (shards m c t)) y _ (by blk_simp [idx t]; omega) (by blk_simp [idx t])

/-- The narrow piece after the run. -/
theorem final4 (c : Dev nD) : (dats m 0 c).arrAt 4 (cfgs 0).N
    = val_main_v5 (F := Ideal) (m ((c : Thread nD τ).loc main_arg0)) := by
  refine (dats m 0 c).arrAt_eq_of_covers 4 _ (by decide +kernel) fun t _ y => ?_
  blk_simp
  rw [after0_4]; frame_out
  exact (narrow (shards m c t)) y _ (by blk_simp [idx t]; omega) (by blk_simp [idx t])

end Cert.PiecesIdeal.Value

end
-- ==== Proof.Products.Shards.lean ====
module

public import proofs.«01_k».proof.Proof.Gen.ShardsIdeal.Value
public import proofs.«01_k».proof.Proof.Gen.ShardsRefIdeal.Read
public import proofs.«01_k».proof.Proof.Products.Join

/-! The gradient of the input weight, cut into the shards of the eight devices: each of the eight grid points sets 128
rows of the ten parts side by side and writes them as eight slabs of 1155 columns. -/

@[expose] public section

set_option maxRecDepth 16384

noncomputable section

namespace Cert.ShardsIdeal.Value

open Cert.ShardsIdeal Cert.ShardsIdeal.Gen Idealize.ShloMosaic Idealize.ShloMosaic.TcCoe Idealize.SL.Sem
open Idealize.ShloMosaic.ValueIdx
open Cert.ShardsRefIdeal.Read Cert.Join

variable (m : (ℓ : Loc nD τ sig) → Buf (Elt Ideal) ℓ)

/-- The blocks the windows show at each grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0]
    ∧ win0_10.index t = ![0, t.val, 0] :=
  (by decide +kernel : ∀ t : Fin grid0.N, _)

variable {o : Nat} {P0 : Vec Ideal S128x128 .bf16} {P1 P2 P3 P4 P5 P6 P7 P8 P9 : Vec Ideal S128x1024 .bf16}
  {x0 : S1024x128.Idx → Elt Ideal .bf16} {x1 x2 x3 x4 x5 x6 x7 x8 x9 : S1024x1024.Idx → Elt Ideal .bf16}

/-- Rows of the parts set side by side are rows of the whole. -/
theorem joined (e0 : Rows o P0 x0) (e1 : Rows o P1 x1) (e2 : Rows o P2 x2) (e3 : Rows o P3 x3) (e4 : Rows o P4 x4) (e5 : Rows o P5 x5) (e6 : Rows o P6 x6) (e7 : Rows o P7 x7) (e8 : Rows o P8 x8) (e9 : Rows o P9 x9) :
    Rows o (k0_pay6 P0 P1 P2 P3 P4 P5 P6 P7 P8 P9) (val_main_v2 (F := Ideal) x0 x1 x2 x3 x4 x5 x6 x7 x8 x9) := by
  intro J J' h0 h1
  have b1 : (J 1).val < 9240 := (J 1).isLt
  have : 0 ≤ (J 1).val ∧ (J 1).val < 1024 ∨ 1024 ≤ (J 1).val ∧ (J 1).val < 2048 ∨ 2048 ≤ (J 1).val ∧ (J 1).val < 3072 ∨ 3072 ≤ (J 1).val ∧ (J 1).val < 4096 ∨ 4096 ≤ (J 1).val ∧ (J 1).val < 4112 ∨ 4112 ≤ (J 1).val ∧ (J 1).val < 5136 ∨ 5136 ≤ (J 1).val ∧ (J 1).val < 6160 ∨ 6160 ≤ (J 1).val ∧ (J 1).val < 7184 ∨ 7184 ≤ (J 1).val ∧ (J 1).val < 7192 ∨ 7192 ≤ (J 1).val ∧ (J 1).val < 8216 ∨ 8216 ≤ (J 1).val ∧ (J 1).val < 9240 := by omega
  unfold k0_pay6 val_main_v2
  rcases this with c | c | c | c | c | c | c | c | c | c | c
  · exact same h0 h1 0 (by simp) (by simp) e1 rfl rfl 0 (by simp) (by simp) (by omega) (by omega)
  · exact same h0 h1 1 (by simp) (by simp) e2 rfl rfl 1024 (by simp) (by simp) (by omega) (by omega)
  · exact same h0 h1 2 (by simp) (by simp) e3 rfl rfl 2048 (by simp) (by simp) (by omega) (by omega)
  · exact same h0 h1 3 (by simp) (by simp) e4 rfl rfl 3072 (by simp) (by simp) (by omega) (by omega)
  · exact same h0 h1 4 (by simp) (by simp) (cut e0 _ _) rfl rfl 4096 (by simp) (by simp) (by omega) (by omega)
  · exact same h0 h1 5 (by simp) (by simp) e5 rfl rfl 4112 (by simp) (by simp) (by omega) (by omega)
  · exact same h0 h1 6 (by simp) (by simp) e6 rfl rfl 5136 (by simp) (by simp) (by omega) (by omega)
  · exact same h0 h1 7 (by simp) (by simp) e7 rfl rfl 6160 (by simp) (by simp) (by omega) (by omega)
  · exact same h0 h1 8 (by simp) (by simp) (cut e0 _ _) rfl rfl 7184 (by simp) (by simp) (by omega) (by omega)
  · exact same h0 h1 9 (by simp) (by simp) e8 rfl rfl 7192 (by simp) (by simp) (by omega) (by omega)
  · exact same h0 h1 10 (by simp) (by simp) e9 rfl rfl 8216 (by simp) (by simp) (by omega) (by omega)

/-- Loading a block whole changes nothing. -/
theorem load0 (e : Rows o P0 x0) : Rows o (View.ld P0 r0_0) x0 := fun i i' h0 h1 =>
  e (r0_0.idx i) i' (by show _ = o + (0 + 1 * (i 0).val); omega) (by show _ = 0 + 1 * (i 1).val; omega)

theorem load1 (e : Rows o P1 x1) : Rows o (View.ld P1 r0_1) x1 := fun i i' h0 h1 =>
  e (r0_1.idx i) i' (by show _ = o + (0 + 1 * (i 0).val); omega) (by show _ = 0 + 1 * (i 1).val; omega)

/-- A block of 128 rows of a part. -/
theorem part0 (c : Dev nD) (t : Fin cfg0.N) : Rows (128 * t.val) (iblk m c 0 t) (m ((c : Thread nD τ).loc main_arg0)) := by
  intro i i' h0 h1
  blk_point [iblk, V, idx t, h0, h1]

theorem part1 (c : Dev nD) (t : Fin cfg0.N) : Rows (128 * t.val) (iblk m c 1 t) (m ((c : Thread nD τ).loc main_arg1)) := by
  intro i i' h0 h1
  blk_point [iblk, V, idx t, h0, h1]

theorem part2 (c : Dev nD) (t : Fin cfg0.N) : Rows (128 * t.val) (iblk m c 2 t) (m ((c : Thread nD τ).loc main_arg2)) := by
  intro i i' h0 h1
  blk_point [iblk, V, idx t, h0, h1]

theorem part3 (c : Dev nD) (t : Fin cfg0.N) : Rows (128 * t.val) (iblk m c 3 t) (m ((c : Thread nD τ).loc main_arg3)) := by
  intro i i' h0 h1
  blk_point [iblk, V, idx t, h0, h1]

theorem part4 (c : Dev nD) (t : Fin cfg0.N) : Rows (128 * t.val) (iblk m c 4 t) (m ((c : Thread nD τ).loc main_arg4)) := by
  intro i i' h0 h1
  blk_point [iblk, V, idx t, h0, h1]

theorem part5 (c : Dev nD) (t : Fin cfg0.N) : Rows (128 * t.val) (iblk m c 5 t) (m ((c : Thread nD τ).loc main_arg5)) := by
  intro i i' h0 h1
  blk_point [iblk, V, idx t, h0, h1]

theorem part6 (c : Dev nD) (t : Fin cfg0.N) : Rows (128 * t.val) (iblk m c 6 t) (m ((c : Thread nD τ).loc main_arg6)) := by
  intro i i' h0 h1
  blk_point [iblk, V, idx t, h0, h1]

theorem part7 (c : Dev nD) (t : Fin cfg0.N) : Rows (128 * t.val) (iblk m c 7 t) (m ((c : Thread nD τ).loc main_arg7)) := by
  intro i i' h0 h1
  blk_point [iblk, V, idx t, h0, h1]

theorem part8 (c : Dev nD) (t : Fin cfg0.N) : Rows (128 * t.val) (iblk m c 8 t) (m ((c : Thread nD τ).loc main_arg8)) := by
  intro i i' h0 h1
  blk_point [iblk, V, idx t, h0, h1]

theorem part9 (c : Dev nD) (t : Fin cfg0.N) : Rows (128 * t.val) (iblk m c 9 t) (m ((c : Thread nD τ).loc main_arg9)) := by
  intro i i' h0 h1
  blk_point [iblk, V, idx t, h0, h1]

/-- The result array after the run. -/
theorem final (c : Dev nD) : (dats m 0 c).arrAt 10 (cfgs 0).N
    = val_main_v4 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t _ y => ?_
  blk_simp
  rw [after0_10]
  unfold out0_10 k0_pay11
  rw [canon10_eq, val_main_v4_apply, val_main_v3_apply]
  have b0 : (y 0).val < 8 := (y 0).isLt
  have b1 : (y 1).val < 128 := (y 1).isLt
  have b2 : (y 2).val < 1155 := (y 2).isLt
  have a0 : (((win0_10.blk t).view.emb y) 0).val = (y 0).val := by blk_simp [idx t]
  have a1 : (((win0_10.blk t).view.emb y) 1).val = 128 * t.val + (y 1).val := by blk_simp [idx t]; omega
  have a2 : (((win0_10.blk t).view.emb y) 2).val = (y 2).val := by blk_simp [idx t]
  show k0_pay6 _ _ _ _ _ _ _ _ _ _ (ix10_0 y) = _
  generalize (win0_10.blk t).view.emb y = z at a0 a1 a2
  refine joined (o := 128 * t.val) (load0 (part0 m c t)) (load1 (part1 m c t)) (load1 (part2 m c t)) (load1 (part3 m c t)) (load1 (part4 m c t)) (load1 (part5 m c t)) (load1 (part6 m c t)) (load1 (part7 m c t)) (load1 (part8 m c t)) (load1 (part9 m c t)) _ _ ?_ ?_
  · show (((z 1).val * 8 + (z 0).val) * 1155 + (z 2).val) / 9240 = 128 * t.val + (y 1).val
    omega
  · show (((z 1).val * 8 + (z 0).val) * 1155 + (z 2).val) % 9240 = (y 0).val * 1155 + (y 2).val
    omega

end Cert.ShardsIdeal.Value

end
-- ==== Proof.Products.Slot.lean ====
module

public import Idealize.ShloMosaic.PureOps
public import Idealize.ShloMosaic.Lib.StableHlo.Predicate

/-! A word that is between 0 and a small number names a slot. -/

@[expose] public section

namespace Cert.Slot

open Idealize.ShloMosaic

/-- A word between 0 and `n` as a signed number is one of `n`. -/
theorem word (n : ℕ) (hn : n < 2 ^ 31) (w : BitVec 32) (h0 : (0#32).sle w = true) (h : w.slt (BitVec.ofNat 32 n) = true) :
    ∃ k : Fin n, w = BitVec.ofNat 32 k.val := by
  have e0 : 0 ≤ w.toInt := by simpa [BitVec.sle] using h0
  have e : w.toInt < (BitVec.ofNat 32 n).toInt := by simpa [BitVec.slt] using h
  have := w.isLt
  rw [BitVec.toInt_eq_toNat_cond] at e0 e
  rw [BitVec.toInt_eq_toNat_cond, BitVec.toNat_ofNat, Nat.mod_eq_of_lt (by omega)] at e
  rw [if_pos (by omega)] at e
  exact ⟨⟨w.toNat, by split at e0 <;> omega⟩, by simp⟩

/-- The conjunction of two comparisons holds only if both do. -/
theorem both : ∀ a b : Bool, IntOp.andi (BitVec.ofBool a) (BitVec.ofBool b) = 1#1 → a = true ∧ b = true := by decide

/-- A part of the gradient taken by the slot's word: the device's own part in its slot, the one received in any other. -/
theorem sel {α : Type} (n : ℕ) (hn : n < 2 ^ 31) (k s : Fin n) (a b : α) (f g : Fin n → α) (ha : a = f k) (hb : b = g s) :
    Scalar.select (Scalar.cmpi .eq (BitVec.ofNat 32 k.val) (BitVec.ofNat 32 s.val)) a b
      = Scalar.select (IntOp.cmpi .eq (BitVec.ofNat 32 s.val) (BitVec.ofNat 32 k.val)) (f s) (g s) := by
  by_cases h : k = s
  · subst h; rw [ha]; simp [Scalar.select, Scalar.cmpi, IntOp.cmpi]
  · have hk := k.isLt
    have hs := s.isLt
    have e : BitVec.ofNat 32 k.val ≠ BitVec.ofNat 32 s.val := fun e => h (Fin.ext (by
      have := congrArg BitVec.toNat e
      rwa [BitVec.toNat_ofNat, BitVec.toNat_ofNat, Nat.mod_eq_of_lt (by omega), Nat.mod_eq_of_lt (by omega)] at this))
    have e1 : (BitVec.ofNat 32 k.val == BitVec.ofNat 32 s.val) = false := by simpa using e
    have e2 : (BitVec.ofNat 32 s.val == BitVec.ofNat 32 k.val) = false := by simpa using e.symm
    rw [hb]; simp [Scalar.select, Scalar.cmpi, IntOp.cmpi, e1, e2]

end Cert.Slot
-- ==== Proof.Products.AdamIn.lean ====
module

public import proofs.«01_k».proof.Proof.Gen.AdamInIdeal.Frame
public import proofs.«01_k».proof.Proof.Gen.AdamIn.Frame
public import proofs.«01_k».proof.Proof.Gen.AdamInRefIdeal.Read
public import proofs.«01_k».proof.Proof.Gen.Pre_slot_in
public import proofs.«01_k».proof.Defs
public import proofs.«01_k».proof.Proof.Products.Slot
public import Idealize.ShloMosaic.Lib.Pipeline.ValueKit

/-! The AdamW step of a device's share of the weights `w_in`: the parts of the gradient in the 4 slots
are added, the device's own in the place of its slot, and the weights' change and the moments follow from the sum.
The slot is a word in a table, which the precondition keeps below 4. -/

@[expose] public section

set_option maxRecDepth 16384

noncomputable section

namespace Cert.AdamIn.Value

open Cert.AdamIn Cert.AdamIn.Gen Idealize.ShloMosaic Idealize.ShloMosaic.TcCoe Idealize.SL.Sem

variable (m : (ℓ : Loc nD τ sig) → Buf (Elt Bits) ℓ)

set_option backward.proofsInPublic true in
/-- The table that names slot `k`, beside the floats as the machine holds them. -/
def named (k : Fin 4) : pre0.Contents (Elt Bits) := fun | ⟨0, _⟩ => fun _ => BitVec.ofNat 32 k.val | ⟨_ + 1, h⟩ => absurd h (by simp)

/-- The precondition says that the table names a slot. -/
theorem tbl_named (h : Cert.Pre_AdamIn m) : ∃ k, tbl m = named k := by
  have e := congrFun (h 0) (fun a => ⟨0, by revert a; decide⟩)
  simp only [Cert.Pre_slot_in.fn, cmpi, andi, broadcastInDim, constantI, IntOp.cmpi] at e
  obtain ⟨e0, e1⟩ := Cert.Slot.both _ _ e
  obtain ⟨k, hk⟩ := Cert.Slot.word 4 (by decide) _ e0 e1
  refine ⟨k, ?_⟩
  funext j x
  match j with
  | ⟨0, _⟩ =>
    refine Eq.trans ?_ hk
    exact congrArg (m ((Dev.tc 0).loc main_arg0)) (funext fun a => Fin.ext (by revert a; decide +revert))

theorem ok (k : Fin 4) : ok0 (F := Bits) (named k) := by
  revert k; decide

/-- So the table's slot lies in the array. -/
theorem ok_of_pre (h : Cert.Pre_AdamIn m) : Ok m := by
  obtain ⟨k, e⟩ := tbl_named m h
  show ok0 (tbl m)
  rw [e]; exact ok k

end Cert.AdamIn.Value

namespace Cert.AdamInIdeal.Value

open Cert.AdamInIdeal Cert.AdamInIdeal.Gen Idealize.ShloMosaic Idealize.ShloMosaic.TcCoe Idealize.SL.Sem
open Idealize.ShloMosaic.ValueIdx
open Cert.AdamInRefIdeal.Read

variable (m : (ℓ : Loc nD τ sig) → Buf (Elt Ideal) ℓ)

set_option backward.proofsInPublic true in
/-- The table that names slot `k`. -/
def named (k : Fin 4) : pre0.Contents (Elt Ideal) := fun | ⟨0, _⟩ => fun _ => BitVec.ofNat 32 k.val | ⟨_ + 1, h⟩ => absurd h (by simp)

/-- The precondition says that the table names a slot. -/
theorem tbl_named (h : Cert.Pre_AdamInIdeal m) : ∃ k, tbl m = named k := by
  have e := congrFun (h 0) (fun a => ⟨0, by revert a; decide⟩)
  simp only [Cert.Pre_slot_in.fn, cmpi, andi, broadcastInDim, constantI, IntOp.cmpi] at e
  obtain ⟨e0, e1⟩ := Cert.Slot.both _ _ e
  obtain ⟨k, hk⟩ := Cert.Slot.word 4 (by decide) _ e0 e1
  refine ⟨k, ?_⟩
  funext j x
  match j with
  | ⟨0, _⟩ =>
    refine Eq.trans ?_ hk
    exact congrArg (m ((Dev.tc 0).loc main_arg0)) (funext fun a => Fin.ext (by revert a; decide +revert))

theorem ok (k : Fin 4) : ok0 (F := Ideal) (named k) := by
  revert k; decide

/-- So the table's slot lies in the array. -/
theorem ok_of_pre (h : Cert.Pre_AdamInIdeal m) : Ok m := by
  obtain ⟨k, e⟩ := tbl_named m h
  show ok0 (tbl m)
  rw [e]; exact ok k

/-- The blocks the windows show at each grid point, for each slot the table may name. -/
theorem idxs : ∀ (k : Fin 4) (t : Fin grid0.N),
    cc0_transform_0 (grid0.coords t) = ![0, t.val, 0] ∧ cc0_transform_1 (F := Ideal) inb_S1_S1_0 numel1_S1 (named k) (grid0.coords t) = ![k.val, t.val, 0] ∧ cc0_transform_2 (grid0.coords t) = ![t.val, 0] ∧ cc0_transform_3 (grid0.coords t) = ![t.val, 0] ∧ cc0_transform_4 (grid0.coords t) = ![t.val, 0]
      ∧ cc0_transform_5 (grid0.coords t) = ![t.val, 0] ∧ cc0_transform_6 (grid0.coords t) = ![t.val, 0] ∧ cc0_transform_7 (grid0.coords t) = ![t.val, 0] ∧ cc0_transform_8 (grid0.coords t) = ![t.val, 0] := by
  decide +kernel

/-- The blocks the windows show at each grid point, when the table names slot `k`. -/
theorem idx (k : Fin 4) (a : (pcfg0 (F := Ideal)).Adm) (e : a.1 = named k) (t : Fin (cfg0 a).N) :
    ((cfg0 a).win 0).index t = ![0, t.val, 0] ∧ ((cfg0 a).win 1).index t = ![k.val, t.val, 0] ∧ ((cfg0 a).win 2).index t = ![t.val, 0] ∧ ((cfg0 a).win 3).index t = ![t.val, 0] ∧ ((cfg0 a).win 4).index t = ![t.val, 0]
      ∧ ((cfg0 a).win 5).index t = ![t.val, 0] ∧ ((cfg0 a).win 6).index t = ![t.val, 0] ∧ ((cfg0 a).win 7).index t = ![t.val, 0] ∧ ((cfg0 a).win 8).index t = ![t.val, 0] := by
  obtain ⟨p, hp⟩ := a
  obtain rfl : p = named k := e
  exact idxs k t

/-- The word the kernel reads off the table. -/
abbrev read (c : Dev nD) (xt0 : TbBuf0 (F := Ideal) c tbM0_0) : BitVec 32 := View.read (Elt Ideal) (View.whole main_arg0) xt0 (Shape.Idx.first (by decide))

theorem word (k : Fin 4) (e : tbl m = named k) (c : Dev nD) : read c (tbl m 0) = BitVec.ofNat 32 k.val := by
  rw [e]; rfl

/-- The place in a result's array of an entry of its block. -/
abbrev place (hO : Ok m) (t : Fin (cfgM m hO).N) (y : S128x1155.Idx) : S1024x1155.Idx := (((cfgM m hO).win 5).blk t).view.emb y

/-- The reference reads the same word. -/
theorem word' (k : Fin 4) (e : tbl m = named k) (c : Dev nD) (i : S1.Idx) : m ((c : Thread nD τ).loc main_arg0) i = BitVec.ofNat 32 k.val := by
  obtain rfl : c = 0 := Subsingleton.elim _ _
  exact congrFun (congrFun e 0) i

/-- The gradient of a block: the four parts in turn, the device's own in the place of its slot. -/
def grad (w : BitVec 32) (x0 : Vec Ideal S4x128x1155 .bf16) (x1 : Vec Ideal S1x128x1155 .bf16) : FVec Ideal S128x1155 .f32 :=
  k0_pay4 x1 w (View.ld x0 (Rect.unit ![0, 0, 0] ![1, 128, 1155] inb_S4x128x1155_S1x128x1155_0_0_0)) w (View.ld x0 (Rect.unit ![1, 0, 0] ![1, 128, 1155] inb_S4x128x1155_S1x128x1155_1_0_0)) w (View.ld x0 (Rect.unit ![2, 0, 0] ![1, 128, 1155] inb_S4x128x1155_S1x128x1155_2_0_0)) w (View.ld x0 (Rect.unit ![3, 0, 0] ![1, 128, 1155] inb_S4x128x1155_S1x128x1155_3_0_0))

section
variable (c : Dev nD) (i : grid0.Coords) (arg2 : Memref sig .tc .vmem S4x128x1155 .bf16) (harg2 : arg2.IsWhole) (arg3 : Memref sig .tc .vmem S1x128x1155 .bf16) (harg3 : arg3.IsWhole) (arg4 : Memref sig .tc .vmem S128x1155 .f32) (harg4 : arg4.IsWhole) (arg5 : Memref sig .tc .vmem S128x1155 .f32) (harg5 : arg5.IsWhole) (arg6 : Memref sig .tc .vmem S128x1155 .f32) (harg6 : arg6.IsWhole) (arg7 : Memref sig .tc .vmem S128x1155 .f32) (harg7 : arg7.IsWhole) (arg8 : Memref sig .tc .vmem S128x1155 .f32) (harg8 : arg8.IsWhole) (arg9 : Memref sig .tc .vmem S128x1155 .f32) (harg9 : arg9.IsWhole) (arg10 : Memref sig .tc .vmem S128x1155 .f32) (harg10 : arg10.IsWhole) (x0 : Vec Ideal S4x128x1155 .bf16) (x1 : Vec Ideal S1x128x1155 .bf16) (x2 : Vec Ideal S128x1155 .f32) (x3 : Vec Ideal S128x1155 .f32) (x4 : Vec Ideal S128x1155 .f32) (xt0 : TbBuf0 (F := Ideal) c tbM0_0)

/-- What a point leaves of the gradient, the change, the first and the second moment. -/
theorem out5 : out0_A_5 (F := Ideal) c i arg2 harg2 arg3 harg3 arg4 harg4 arg5 harg5 arg6 harg6 arg7 harg7 arg8 harg8 arg9 harg9 arg10 harg10 x0 x1 x2 x3 x4 xt0 = grad (read c xt0) x0 x1 := by frame_out; rfl
theorem out6 : out0_A_6 (F := Ideal) c i arg2 harg2 arg3 harg3 arg4 harg4 arg5 harg5 arg6 harg6 arg7 harg7 arg8 harg8 arg9 harg9 arg10 harg10 x0 x1 x2 x3 x4 xt0 = k0_pay3 (grad (read c xt0) x0 x1) x2 x3 x4 := by frame_out; rfl
theorem out7 : out0_A_7 (F := Ideal) c i arg2 harg2 arg3 harg3 arg4 harg4 arg5 harg5 arg6 harg6 arg7 harg7 arg8 harg8 arg9 harg9 arg10 harg10 x0 x1 x2 x3 x4 xt0 = k0_pay1 (F := Ideal) (grad (read c xt0) x0 x1) x3 := by frame_out; rfl
theorem out8 : out0_A_8 (F := Ideal) c i arg2 harg2 arg3 harg3 arg4 harg4 arg5 harg5 arg6 harg6 arg7 harg7 arg8 harg8 arg9 harg9 arg10 harg10 x0 x1 x2 x3 x4 xt0 = k0_pay2 (grad (read c xt0) x0 x1) x4 := by frame_out; rfl
end

/-- The device's own part is the block of its slot. -/
theorem own (hO : Ok m) (k : Fin 4) (e : tbl m = named k) (c : Dev nD) (t : Fin (cfgM m hO).N) (y : S128x1155.Idx) :
    iblk m hO c 1 t (Idealize.ShloMosaic.ix3 0 (y 0) (y 1)) = m ((c : Thread nD τ).loc main_arg2) (Idealize.ShloMosaic.ix3 k (place m hO t y 0) (place m hO t y 1)) := by
  blk_point [iblk, V, place, idx k (adm m hO) e t]

/-- A part received is the block of the part's number. -/
theorem part (hO : Ok m) (k : Fin 4) (e : tbl m = named k) (c : Dev nD) (t : Fin (cfgM m hO).N) (y : S128x1155.Idx) (s : Fin 4) :
    iblk m hO c 0 t (Idealize.ShloMosaic.ix3 s (y 0) (y 1)) = m ((c : Thread nD τ).loc main_arg1) (Idealize.ShloMosaic.ix3 s (place m hO t y 0) (place m hO t y 1)) := by
  blk_point [iblk, V, place, idx k (adm m hO) e t]

/-- The gradient a point forms at an entry of its block is the reference's at the block's place. -/
theorem point5 (hO : Ok m) (k : Fin 4) (e : tbl m = named k) (c : Dev nD) (t : Fin (cfgM m hO).N) (y : S128x1155.Idx) :
    grad (BitVec.ofNat 32 k.val) (iblk m hO c 0 t) (iblk m hO c 1 t) y
      = val_main_v8 (F := Ideal) (m ((c : Thread nD τ).loc main_arg0)) (m ((c : Thread nD τ).loc main_arg1)) (m ((c : Thread nD τ).loc main_arg2))
          (place m hO t y) := by
  have key := fun s : Fin 4 => Cert.Slot.sel 4 (by decide) k s _ _ (fun s => m ((c : Thread nD τ).loc main_arg2) (Idealize.ShloMosaic.ix3 s (place m hO t y 0) (place m hO t y 1)))
    (fun s => m ((c : Thread nD τ).loc main_arg1) (Idealize.ShloMosaic.ix3 s (place m hO t y 0) (place m hO t y 1))) (own m hO k e c t y) (part m hO k e c t y s)
  pointwise [grad, k0_pay4, val_main_v8, val_main_v7, val_main_v6, val_main_v5, val_main_v4, val_main_v3, val_main_v2, val_main_v1, val_main_v0, val_main_cst, val_main_call0_v0]
  rw [Fin.sum_univ_four]
  simp only [word' m k e]
  exact congrArg₂ (fun a b : EReal => a + b) (congrArg₂ (fun a b : EReal => a + b) (congrArg₂ (fun a b : EReal => a + b) (key 0) (key 1)) (key 2)) (key 3)

/-- The first moment a point forms is the reference's. -/
theorem point7 (hO : Ok m) (k : Fin 4) (e : tbl m = named k) (c : Dev nD) (t : Fin (cfgM m hO).N) (y : S128x1155.Idx) :
    k0_pay1 (F := Ideal) (grad (BitVec.ofNat 32 k.val) (iblk m hO c 0 t) (iblk m hO c 1 t)) (iblk m hO c 3 t) y
      = val_main_v13 (F := Ideal) (m ((c : Thread nD τ).loc main_arg0)) (m ((c : Thread nD τ).loc main_arg1)) (m ((c : Thread nD τ).loc main_arg2)) (m ((c : Thread nD τ).loc main_arg4)) (place m hO t y) := by
  pointwise [k0_pay1, val_main_v13, val_main_v12, val_main_v11, val_main_v10, val_main_v9, val_main_cst_0, val_main_cst_1]
  rw [point5 m hO k e]
  blk_point [iblk, V, place, idx k (adm m hO) e t]

/-- The second moment a point forms is the reference's. -/
theorem point8 (hO : Ok m) (k : Fin 4) (e : tbl m = named k) (c : Dev nD) (t : Fin (cfgM m hO).N) (y : S128x1155.Idx) :
    k0_pay2 (F := Ideal) (grad (BitVec.ofNat 32 k.val) (iblk m hO c 0 t) (iblk m hO c 1 t)) (iblk m hO c 4 t) y
      = val_main_v19 (F := Ideal) (m ((c : Thread nD τ).loc main_arg0)) (m ((c : Thread nD τ).loc main_arg1)) (m ((c : Thread nD τ).loc main_arg2)) (m ((c : Thread nD τ).loc main_arg5)) (place m hO t y) := by
  pointwise [k0_pay2, val_main_v19, val_main_v18, val_main_v17, val_main_v16, val_main_v15, val_main_v14, val_main_cst_2, val_main_cst_3]
  rw [point5 m hO k e]
  blk_point [iblk, V, place, idx k (adm m hO) e t]

/-- The change a point forms is the reference's. -/
theorem point6 (hO : Ok m) (k : Fin 4) (e : tbl m = named k) (c : Dev nD) (t : Fin (cfgM m hO).N) (y : S128x1155.Idx) :
    k0_pay3 (F := Ideal) (grad (BitVec.ofNat 32 k.val) (iblk m hO c 0 t) (iblk m hO c 1 t)) (iblk m hO c 2 t) (iblk m hO c 3 t) (iblk m hO c 4 t) y
      = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (place m hO t y) := by
  have h7 := point7 m hO k e c t y
  have h8 := point8 m hO k e c t y
  pointwise [k0_pay3, val_main_v32, val_main_v31, val_main_v30, val_main_v29, val_main_v28, val_main_v27, val_main_v26, val_main_v25, val_main_v24, val_main_v23, val_main_v22, val_main_v21, val_main_v20, val_main_cst_4, val_main_cst_5, val_main_cst_6, val_main_cst_7, val_main_cst_8]
  rw [h7, h8]
  blk_point [iblk, V, place, idx k (adm m hO) e t]

/-- The blocks written back cover each result, whichever slot the table names. -/
theorem covers_named : ∀ k : Fin 4, ((cfg0 (F := Ideal) ⟨named k, ok k⟩).win 5).Covers ∧ ((cfg0 (F := Ideal) ⟨named k, ok k⟩).win 6).Covers ∧ ((cfg0 (F := Ideal) ⟨named k, ok k⟩).win 7).Covers ∧ ((cfg0 (F := Ideal) ⟨named k, ok k⟩).win 8).Covers := by
  decide +kernel

theorem covers (k : Fin 4) (a : (pcfg0 (F := Ideal)).Adm) (e : a.1 = named k) : ((cfg0 a).win 5).Covers ∧ ((cfg0 a).win 6).Covers ∧ ((cfg0 a).win 7).Covers ∧ ((cfg0 a).win 8).Covers := by
  obtain ⟨p, hp⟩ := a
  obtain rfl : p = named k := e
  exact covers_named k

/-- What a point leaves of the four results, over its blocks. -/
theorem left (hO : Ok m) (k : Fin 4) (e : tbl m = named k) (c : Dev nD) (t : Fin (cfgM m hO).N) : outsAt0 m hO c t
    = (grad (BitVec.ofNat 32 k.val) (iblk m hO c 0 t) (iblk m hO c 1 t),
        k0_pay3 (F := Ideal) (grad (BitVec.ofNat 32 k.val) (iblk m hO c 0 t) (iblk m hO c 1 t)) (iblk m hO c 2 t) (iblk m hO c 3 t) (iblk m hO c 4 t),
        k0_pay1 (F := Ideal) (grad (BitVec.ofNat 32 k.val) (iblk m hO c 0 t) (iblk m hO c 1 t)) (iblk m hO c 3 t),
        k0_pay2 (F := Ideal) (grad (BitVec.ofNat 32 k.val) (iblk m hO c 0 t) (iblk m hO c 1 t)) (iblk m hO c 4 t)) := by
  unfold outsAt0
  rw [← word m k e c]
  exact congrArg₂ Prod.mk (out5 ..) (congrArg₂ Prod.mk (out6 ..) (congrArg₂ Prod.mk (out7 ..) (out8 ..)))

/-- The arrays after the run: the gradient, -/
theorem final5 (hO : Ok m) (k : Fin 4) (e : tbl m = named k) (c : Dev nD) : (dats m hO 0 c).arrAt 5 (cfgM m hO).N = val_main_v8 (F := Ideal) (m ((c : Thread nD τ).loc main_arg0)) (m ((c : Thread nD τ).loc main_arg1)) (m ((c : Thread nD τ).loc main_arg2)) := by
  refine (dats m hO 0 c).arrAt_eq_of_covers 5 _ (covers k (adm m hO) e).1 fun t _ y => ?_
  blk_simp
  rw [after0_5]
  rw [left m hO k e c t]
  exact point5 m hO k e c t y

/-- the change of the weights, -/
theorem final6 (hO : Ok m) (k : Fin 4) (e : tbl m = named k) (c : Dev nD) : (dats m hO 0 c).arrAt 6 (cfgM m hO).N = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (covers k (adm m hO) e).2.1 fun t _ y => ?_
  blk_simp
  rw [after0_6]
  rw [left m hO k e c t]
  exact point6 m hO k e c t y

/-- the first moment -/
theorem final7 (hO : Ok m) (k : Fin 4) (e : tbl m = named k) (c : Dev nD) : (dats m hO 0 c).arrAt 7 (cfgM m hO).N = val_main_v13 (F := Ideal) (m ((c : Thread nD τ).loc main_arg0)) (m ((c : Thread nD τ).loc main_arg1)) (m ((c : Thread nD τ).loc main_arg2)) (m ((c : Thread nD τ).loc main_arg4)) := by
  refine (dats m hO 0 c).arrAt_eq_of_covers 7 _ (covers k (adm m hO) e).2.2.1 fun t _ y => ?_
  blk_simp
  rw [after0_7]
  rw [left m hO k e c t]
  exact point7 m hO k e c t y

/-- and the second. -/
theorem final8 (hO : Ok m) (k : Fin 4) (e : tbl m = named k) (c : Dev nD) : (dats m hO 0 c).arrAt 8 (cfgM m hO).N = val_main_v19 (F := Ideal) (m ((c : Thread nD τ).loc main_arg0)) (m ((c : Thread nD τ).loc main_arg1)) (m ((c : Thread nD τ).loc main_arg2)) (m ((c : Thread nD τ).loc main_arg5)) := by
  refine (dats m hO 0 c).arrAt_eq_of_covers 8 _ (covers k (adm m hO) e).2.2.2 fun t _ y => ?_
  blk_simp
  rw [after0_8]
  rw [left m hO k e c t]
  exact point8 m hO k e c t y

/-- Every run from a table that names a slot ends with the reference's four results, the arguments unchanged. -/
theorem run_blocks (h : Cert.Pre_AdamInIdeal m) (ρ : Dev nD → PrngReg) :
    θ_run defs (onTc (τ := τ) (main (F := Ideal))) ⟨m, fun _ => 0, ρ⟩ (fun r => ∀ c : Dev nD,
      r.2.mem ((c.tc : Thread nD τ).loc main_v0_0) = val_main_v8 (F := Ideal) (m ((c : Thread nD τ).loc main_arg0)) (m ((c : Thread nD τ).loc main_arg1)) (m ((c : Thread nD τ).loc main_arg2))
      ∧ r.2.mem ((c.tc : Thread nD τ).loc main_v0_1) = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v0_2) = val_main_v13 (F := Ideal) (m ((c : Thread nD τ).loc main_arg0)) (m ((c : Thread nD τ).loc main_arg1)) (m ((c : Thread nD τ).loc main_arg2)) (m ((c : Thread nD τ).loc main_arg4))
      ∧ r.2.mem ((c.tc : Thread nD τ).loc main_v0_3) = val_main_v19 (F := Ideal) (m ((c : Thread nD τ).loc main_arg0)) (m ((c : Thread nD τ).loc main_arg1)) (m ((c : Thread nD τ).loc main_arg2)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  obtain ⟨k, e⟩ := tbl_named m h
  have hO := ok_of_pre m h
  exact (θ_run defs _ _).mono (fun _ h c => ⟨((h.1 c).1 5).trans (final5 m hO k e c), ((h.1 c).1 6).trans (final6 m hO k e c), ((h.1 c).1 7).trans (final7 m hO k e c), ((h.1 c).1 8).trans (final8 m hO k e c), h.2 c⟩)
    (θ_run_and (run_main m ρ hO) (unchanged m ρ hO))

end Cert.AdamInIdeal.Value

end
-- ==== Proof.Products.AdamProj.lean ====
module

public import proofs.«01_k».proof.Proof.Gen.AdamProjIdeal.Frame
public import proofs.«01_k».proof.Proof.Gen.AdamProj.Frame
public import proofs.«01_k».proof.Proof.Gen.AdamProjRefIdeal.Read
public import proofs.«01_k».proof.Proof.Gen.Pre_slot_proj
public import proofs.«01_k».proof.Defs
public import proofs.«01_k».proof.Proof.Products.Slot
public import Idealize.ShloMosaic.Lib.Pipeline.ValueKit

/-! The AdamW step of a device's share of a projection out of the mixer: the parts of the gradient in the 8 slots
are added, the device's own in the place of its slot, and the weights' change and the moments follow from the sum.
The slot is a word in a table, which the precondition keeps below 8. -/

@[expose] public section

set_option maxRecDepth 16384

noncomputable section

namespace Cert.AdamProj.Value

open Cert.AdamProj Cert.AdamProj.Gen Idealize.ShloMosaic Idealize.ShloMosaic.TcCoe Idealize.SL.Sem

variable (m : (ℓ : Loc nD τ sig) → Buf (Elt Bits) ℓ)

set_option backward.proofsInPublic true in
/-- The table that names slot `k`, beside the floats as the machine holds them. -/
def named (k : Fin 8) : pre0.Contents (Elt Bits) := fun | ⟨0, _⟩ => fun _ => BitVec.ofNat 32 k.val | ⟨_ + 1, h⟩ => absurd h (by simp)

/-- The precondition says that the table names a slot. -/
theorem tbl_named (h : Cert.Pre_AdamProj m) : ∃ k, tbl m = named k := by
  have e := congrFun (h 0) (fun a => ⟨0, by revert a; decide⟩)
  simp only [Cert.Pre_slot_proj.fn, cmpi, andi, broadcastInDim, constantI, IntOp.cmpi] at e
  obtain ⟨e0, e1⟩ := Cert.Slot.both _ _ e
  obtain ⟨k, hk⟩ := Cert.Slot.word 8 (by decide) _ e0 e1
  refine ⟨k, ?_⟩
  funext j x
  match j with
  | ⟨0, _⟩ =>
    refine Eq.trans ?_ hk
    exact congrArg (m ((Dev.tc 0).loc main_arg0)) (funext fun a => Fin.ext (by revert a; decide +revert))

theorem ok (k : Fin 8) : ok0 (F := Bits) (named k) := by
  revert k; decide

/-- So the table's slot lies in the array. -/
theorem ok_of_pre (h : Cert.Pre_AdamProj m) : Ok m := by
  obtain ⟨k, e⟩ := tbl_named m h
  show ok0 (tbl m)
  rw [e]; exact ok k

end Cert.AdamProj.Value

namespace Cert.AdamProjIdeal.Value

open Cert.AdamProjIdeal Cert.AdamProjIdeal.Gen Idealize.ShloMosaic Idealize.ShloMosaic.TcCoe Idealize.SL.Sem
open Idealize.ShloMosaic.ValueIdx
open Cert.AdamProjRefIdeal.Read

variable (m : (ℓ : Loc nD τ sig) → Buf (Elt Ideal) ℓ)

set_option backward.proofsInPublic true in
/-- The table that names slot `k`. -/
def named (k : Fin 8) : pre0.Contents (Elt Ideal) := fun | ⟨0, _⟩ => fun _ => BitVec.ofNat 32 k.val | ⟨_ + 1, h⟩ => absurd h (by simp)

/-- The precondition says that the table names a slot. -/
theorem tbl_named (h : Cert.Pre_AdamProjIdeal m) : ∃ k, tbl m = named k := by
  have e := congrFun (h 0) (fun a => ⟨0, by revert a; decide⟩)
  simp only [Cert.Pre_slot_proj.fn, cmpi, andi, broadcastInDim, constantI, IntOp.cmpi] at e
  obtain ⟨e0, e1⟩ := Cert.Slot.both _ _ e
  obtain ⟨k, hk⟩ := Cert.Slot.word 8 (by decide) _ e0 e1
  refine ⟨k, ?_⟩
  funext j x
  match j with
  | ⟨0, _⟩ =>
    refine Eq.trans ?_ hk
    exact congrArg (m ((Dev.tc 0).loc main_arg0)) (funext fun a => Fin.ext (by revert a; decide +revert))

theorem ok (k : Fin 8) : ok0 (F := Ideal) (named k) := by
  revert k; decide

/-- So the table's slot lies in the array. -/
theorem ok_of_pre (h : Cert.Pre_AdamProjIdeal m) : Ok m := by
  obtain ⟨k, e⟩ := tbl_named m h
  show ok0 (tbl m)
  rw [e]; exact ok k

/-- The blocks the windows show at each grid point, for each slot the table may name. -/
theorem idxs : ∀ (k : Fin 8) (t : Fin grid0.N),
    cc0_transform_0 (grid0.coords t) = ![0, t.val, 0] ∧ cc0_transform_1 (F := Ideal) inb_S1_S1_0 numel1_S1 (named k) (grid0.coords t) = ![k.val, t.val, 0] ∧ cc0_transform_2 (grid0.coords t) = ![t.val, 0] ∧ cc0_transform_3 (grid0.coords t) = ![t.val, 0] ∧ cc0_transform_4 (grid0.coords t) = ![t.val, 0]
      ∧ cc0_transform_5 (grid0.coords t) = ![t.val, 0] ∧ cc0_transform_6 (grid0.coords t) = ![t.val, 0] ∧ cc0_transform_7 (grid0.coords t) = ![t.val, 0] ∧ cc0_transform_8 (grid0.coords t) = ![t.val, 0] := by
  decide +kernel

/-- The blocks the windows show at each grid point, when the table names slot `k`. -/
theorem idx (k : Fin 8) (a : (pcfg0 (F := Ideal)).Adm) (e : a.1 = named k) (t : Fin (cfg0 a).N) :
    ((cfg0 a).win 0).index t = ![0, t.val, 0] ∧ ((cfg0 a).win 1).index t = ![k.val, t.val, 0] ∧ ((cfg0 a).win 2).index t = ![t.val, 0] ∧ ((cfg0 a).win 3).index t = ![t.val, 0] ∧ ((cfg0 a).win 4).index t = ![t.val, 0]
      ∧ ((cfg0 a).win 5).index t = ![t.val, 0] ∧ ((cfg0 a).win 6).index t = ![t.val, 0] ∧ ((cfg0 a).win 7).index t = ![t.val, 0] ∧ ((cfg0 a).win 8).index t = ![t.val, 0] := by
  obtain ⟨p, hp⟩ := a
  obtain rfl : p = named k := e
  exact idxs k t

/-- The word the kernel reads off the table. -/
abbrev read (c : Dev nD) (xt0 : TbBuf0 (F := Ideal) c tbM0_0) : BitVec 32 := View.read (Elt Ideal) (View.whole main_arg0) xt0 (Shape.Idx.first (by decide))

theorem word (k : Fin 8) (e : tbl m = named k) (c : Dev nD) : read c (tbl m 0) = BitVec.ofNat 32 k.val := by
  rw [e]; rfl

/-- The place in a result's array of an entry of its block. -/
abbrev place (hO : Ok m) (t : Fin (cfgM m hO).N) (y : S128x1024.Idx) : S128x1024.Idx := (((cfgM m hO).win 5).blk t).view.emb y

/-- The reference reads the same word. -/
theorem word' (k : Fin 8) (e : tbl m = named k) (c : Dev nD) (i : S1.Idx) : m ((c : Thread nD τ).loc main_arg0) i = BitVec.ofNat 32 k.val := by
  obtain rfl : c = 0 := Subsingleton.elim _ _
  exact congrFun (congrFun e 0) i

/-- The gradient of a block: the eight parts in turn, the device's own in the place of its slot. -/
def grad (w : BitVec 32) (x0 : Vec Ideal S8x128x1024 .bf16) (x1 : Vec Ideal S1x128x1024 .bf16) : FVec Ideal S128x1024 .f32 :=
  k0_pay5 (k0_pay3 x1) (k0_pay4 x1 w (View.ld x0 (Rect.unit ![0, 0, 0] ![1, 128, 1024] inb_S8x128x1024_S1x128x1024_0_0_0)) w (View.ld x0 (Rect.unit ![1, 0, 0] ![1, 128, 1024] inb_S8x128x1024_S1x128x1024_1_0_0)) w (View.ld x0 (Rect.unit ![2, 0, 0] ![1, 128, 1024] inb_S8x128x1024_S1x128x1024_2_0_0)) w (View.ld x0 (Rect.unit ![3, 0, 0] ![1, 128, 1024] inb_S8x128x1024_S1x128x1024_3_0_0)))
    (Scalar.cmpi .eq w 4#32) (View.ld x0 (Rect.unit ![4, 0, 0] ![1, 128, 1024] inb_S8x128x1024_S1x128x1024_4_0_0)) w (View.ld x0 (Rect.unit ![5, 0, 0] ![1, 128, 1024] inb_S8x128x1024_S1x128x1024_5_0_0)) w (View.ld x0 (Rect.unit ![6, 0, 0] ![1, 128, 1024] inb_S8x128x1024_S1x128x1024_6_0_0)) w (View.ld x0 (Rect.unit ![7, 0, 0] ![1, 128, 1024] inb_S8x128x1024_S1x128x1024_7_0_0))

/-- The first moment after the step. -/
def moment (g x3 : FVec Ideal S128x1024 .f32) : FVec Ideal S128x1024 .f32 :=
  addf (mulf (broadcast S128x1024 (Scalar.ofBits .f32 0x3F666666#32)) x3) (mulf (broadcast S128x1024 (Scalar.ofBits .f32 0x3DCCCCCD#32)) g)

section
variable (c : Dev nD) (i : grid0.Coords) (arg2 : Memref sig .tc .vmem S8x128x1024 .bf16) (harg2 : arg2.IsWhole) (arg3 : Memref sig .tc .vmem S1x128x1024 .bf16) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole) (x0 : Vec Ideal S8x128x1024 .bf16) (x1 : Vec Ideal S1x128x1024 .bf16) (x2 : Vec Ideal S128x1024 .f32) (x3 : Vec Ideal S128x1024 .f32) (x4 : Vec Ideal S128x1024 .f32) (xt0 : TbBuf0 (F := Ideal) c tbM0_0)

/-- What a point leaves of the gradient, the change, the first and the second moment. -/
theorem out5 : out0_A_5 (F := Ideal) c i arg2 harg2 arg3 harg3 arg4 harg4 arg5 harg5 arg6 harg6 arg7 harg7 arg8 harg8 arg9 harg9 arg10 harg10 x0 x1 x2 x3 x4 xt0 = grad (read c xt0) x0 x1 := by frame_out; rfl
theorem out6 : out0_A_6 (F := Ideal) c i arg2 harg2 arg3 harg3 arg4 harg4 arg5 harg5 arg6 harg6 arg7 harg7 arg8 harg8 arg9 harg9 arg10 harg10 x0 x1 x2 x3 x4 xt0 = k0_pay2 (grad (read c xt0) x0 x1) x2 x4 (moment (grad (read c xt0) x0 x1) x3) k0_pay7 := by frame_out; rfl
theorem out7 : out0_A_7 (F := Ideal) c i arg2 harg2 arg3 harg3 arg4 harg4 arg5 harg5 arg6 harg6 arg7 harg7 arg8 harg8 arg9 harg9 arg10 harg10 x0 x1 x2 x3 x4 xt0 = moment (grad (read c xt0) x0 x1) x3 := by frame_out; rfl
theorem out8 : out0_A_8 (F := Ideal) c i arg2 harg2 arg3 harg3 arg4 harg4 arg5 harg5 arg6 harg6 arg7 harg7 arg8 harg8 arg9 harg9 arg10 harg10 x0 x1 x2 x3 x4 xt0 = k0_pay1 (grad (read c xt0) x0 x1) x4 k0_pay7 := by frame_out; rfl
end

/-- The device's own part is the block of its slot. -/
theorem own (hO : Ok m) (k : Fin 8) (e : tbl m = named k) (c : Dev nD) (t : Fin (cfgM m hO).N) (y : S128x1024.Idx) :
    iblk m hO c 1 t (Idealize.ShloMosaic.ix3 0 (y 0) (y 1)) = m ((c : Thread nD τ).loc main_arg2) (Idealize.ShloMosaic.ix3 k (place m hO t y 0) (place m hO t y 1)) := by
  blk_point [iblk, V, place, idx k (adm m hO) e t]

/-- A part received is the block of the part's number. -/
theorem part (hO : Ok m) (k : Fin 8) (e : tbl m = named k) (c : Dev nD) (t : Fin (cfgM m hO).N) (y : S128x1024.Idx) (s : Fin 8) :
    iblk m hO c 0 t (Idealize.ShloMosaic.ix3 s (y 0) (y 1)) = m ((c : Thread nD τ).loc main_arg1) (Idealize.ShloMosaic.ix3 s (place m hO t y 0) (place m hO t y 1)) := by
  blk_point [iblk, V, place, idx k (adm m hO) e t]

/-- The gradient a point forms at an entry of its block is the reference's at the block's place. -/
theorem point5 (hO : Ok m) (k : Fin 8) (e : tbl m = named k) (c : Dev nD) (t : Fin (cfgM m hO).N) (y : S128x1024.Idx) :
    grad (BitVec.ofNat 32 k.val) (iblk m hO c 0 t) (iblk m hO c 1 t) y
      = val_main_v8 (F := Ideal) (m ((c : Thread nD τ).loc main_arg0)) (m ((c : Thread nD τ).loc main_arg1)) (m ((c : Thread nD τ).loc main_arg2))
          (place m hO t y) := by
  have key := fun s : Fin 8 => Cert.Slot.sel 8 (by decide) k s _ _ (fun s => m ((c : Thread nD τ).loc main_arg2) (Idealize.ShloMosaic.ix3 s (place m hO t y 0) (place m hO t y 1)))
    (fun s => m ((c : Thread nD τ).loc main_arg1) (Idealize.ShloMosaic.ix3 s (place m hO t y 0) (place m hO t y 1))) (own m hO k e c t y) (part m hO k e c t y s)
  pointwise [grad, k0_pay3, k0_pay4, k0_pay5, val_main_v8, val_main_v7, val_main_v6, val_main_v5, val_main_v4, val_main_v3, val_main_v2, val_main_v1, val_main_v0, val_main_cst, val_main_call0_v0]
  rw [Fin.sum_univ_eight]
  simp only [word' m k e]
  exact congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (key 0) (key 1)) (key 2)) (key 3)) (key 4)) (key 5)) (key 6)) (key 7)

/-- The first moment a point forms is the reference's. -/
theorem point7 (hO : Ok m) (k : Fin 8) (e : tbl m = named k) (c : Dev nD) (t : Fin (cfgM m hO).N) (y : S128x1024.Idx) :
    moment (grad (BitVec.ofNat 32 k.val) (iblk m hO c 0 t) (iblk m hO c 1 t)) (iblk m hO c 3 t) y
      = val_main_v13 (F := Ideal) (m ((c : Thread nD τ).loc main_arg0)) (m ((c : Thread nD τ).loc main_arg1)) (m ((c : Thread nD τ).loc main_arg2)) (m ((c : Thread nD τ).loc main_arg4)) (place m hO t y) := by
  pointwise [moment, val_main_v13, val_main_v12, val_main_v11, val_main_v10, val_main_v9, val_main_cst_0, val_main_cst_1]
  rw [point5 m hO k e]
  blk_point [iblk, V, place, idx k (adm m hO) e t]

/-- The second moment a point forms is the reference's. -/
theorem point8 (hO : Ok m) (k : Fin 8) (e : tbl m = named k) (c : Dev nD) (t : Fin (cfgM m hO).N) (y : S128x1024.Idx) :
    k0_pay1 (F := Ideal) (grad (BitVec.ofNat 32 k.val) (iblk m hO c 0 t) (iblk m hO c 1 t)) (iblk m hO c 4 t) k0_pay7 y
      = val_main_v19 (F := Ideal) (m ((c : Thread nD τ).loc main_arg0)) (m ((c : Thread nD τ).loc main_arg1)) (m ((c : Thread nD τ).loc main_arg2)) (m ((c : Thread nD τ).loc main_arg5)) (place m hO t y) := by
  pointwise [k0_pay1, k0_pay7, val_main_v19, val_main_v18, val_main_v17, val_main_v16, val_main_v15, val_main_v14, val_main_cst_2, val_main_cst_3]
  rw [point5 m hO k e]
  blk_point [iblk, V, place, idx k (adm m hO) e t]

/-- The change a point forms is the reference's. -/
theorem point6 (hO : Ok m) (k : Fin 8) (e : tbl m = named k) (c : Dev nD) (t : Fin (cfgM m hO).N) (y : S128x1024.Idx) :
    k0_pay2 (F := Ideal) (grad (BitVec.ofNat 32 k.val) (iblk m hO c 0 t) (iblk m hO c 1 t)) (iblk m hO c 2 t) (iblk m hO c 4 t)
        (moment (grad (BitVec.ofNat 32 k.val) (iblk m hO c 0 t) (iblk m hO c 1 t)) (iblk m hO c 3 t)) k0_pay7 y
      = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (place m hO t y) := by
  have h7 := point7 m hO k e c t y
  have h8 := point8 m hO k e c t y
  pointwise [k0_pay2, val_main_v32, val_main_v31, val_main_v30, val_main_v29, val_main_v28, val_main_v27, val_main_v26, val_main_v25, val_main_v24, val_main_v23, val_main_v22, val_main_v21, val_main_v20, val_main_cst_4, val_main_cst_5, val_main_cst_6, val_main_cst_7, val_main_cst_8]
  rw [h7, h8]
  blk_point [iblk, V, place, idx k (adm m hO) e t]

/-- The blocks written back cover each result, whichever slot the table names. -/
theorem covers_named : ∀ k : Fin 8, ((cfg0 (F := Ideal) ⟨named k, ok k⟩).win 5).Covers ∧ ((cfg0 (F := Ideal) ⟨named k, ok k⟩).win 6).Covers ∧ ((cfg0 (F := Ideal) ⟨named k, ok k⟩).win 7).Covers ∧ ((cfg0 (F := Ideal) ⟨named k, ok k⟩).win 8).Covers := by
  decide +kernel

theorem covers (k : Fin 8) (a : (pcfg0 (F := Ideal)).Adm) (e : a.1 = named k) : ((cfg0 a).win 5).Covers ∧ ((cfg0 a).win 6).Covers ∧ ((cfg0 a).win 7).Covers ∧ ((cfg0 a).win 8).Covers := by
  obtain ⟨p, hp⟩ := a
  obtain rfl : p = named k := e
  exact covers_named k

/-- What a point leaves of the four results, over its blocks. -/
theorem left (hO : Ok m) (k : Fin 8) (e : tbl m = named k) (c : Dev nD) (t : Fin (cfgM m hO).N) : outsAt0 m hO c t
    = (grad (BitVec.ofNat 32 k.val) (iblk m hO c 0 t) (iblk m hO c 1 t),
        k0_pay2 (F := Ideal) (grad (BitVec.ofNat 32 k.val) (iblk m hO c 0 t) (iblk m hO c 1 t)) (iblk m hO c 2 t) (iblk m hO c 4 t)
          (moment (grad (BitVec.ofNat 32 k.val) (iblk m hO c 0 t) (iblk m hO c 1 t)) (iblk m hO c 3 t)) k0_pay7,
        moment (grad (BitVec.ofNat 32 k.val) (iblk m hO c 0 t) (iblk m hO c 1 t)) (iblk m hO c 3 t),
        k0_pay1 (F := Ideal) (grad (BitVec.ofNat 32 k.val) (iblk m hO c 0 t) (iblk m hO c 1 t)) (iblk m hO c 4 t) k0_pay7) := by
  unfold outsAt0
  rw [← word m k e c]
  exact congrArg₂ Prod.mk (out5 ..) (congrArg₂ Prod.mk (out6 ..) (congrArg₂ Prod.mk (out7 ..) (out8 ..)))

/-- The arrays after the run: the gradient, -/
theorem final5 (hO : Ok m) (k : Fin 8) (e : tbl m = named k) (c : Dev nD) : (dats m hO 0 c).arrAt 5 (cfgM m hO).N = val_main_v8 (F := Ideal) (m ((c : Thread nD τ).loc main_arg0)) (m ((c : Thread nD τ).loc main_arg1)) (m ((c : Thread nD τ).loc main_arg2)) := by
  refine (dats m hO 0 c).arrAt_eq_of_covers 5 _ (covers k (adm m hO) e).1 fun t _ y => ?_
  blk_simp
  rw [after0_5]
  rw [left m hO k e c t]
  exact point5 m hO k e c t y

/-- the change of the weights, -/
theorem final6 (hO : Ok m) (k : Fin 8) (e : tbl m = named k) (c : Dev nD) : (dats m hO 0 c).arrAt 6 (cfgM m hO).N = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (covers k (adm m hO) e).2.1 fun t _ y => ?_
  blk_simp
  rw [after0_6]
  rw [left m hO k e c t]
  exact point6 m hO k e c t y

/-- the first moment -/
theorem final7 (hO : Ok m) (k : Fin 8) (e : tbl m = named k) (c : Dev nD) : (dats m hO 0 c).arrAt 7 (cfgM m hO).N = val_main_v13 (F := Ideal) (m ((c : Thread nD τ).loc main_arg0)) (m ((c : Thread nD τ).loc main_arg1)) (m ((c : Thread nD τ).loc main_arg2)) (m ((c : Thread nD τ).loc main_arg4)) := by
  refine (dats m hO 0 c).arrAt_eq_of_covers 7 _ (covers k (adm m hO) e).2.2.1 fun t _ y => ?_
  blk_simp
  rw [after0_7]
  rw [left m hO k e c t]
  exact point7 m hO k e c t y

/-- and the second. -/
theorem final8 (hO : Ok m) (k : Fin 8) (e : tbl m = named k) (c : Dev nD) : (dats m hO 0 c).arrAt 8 (cfgM m hO).N = val_main_v19 (F := Ideal) (m ((c : Thread nD τ).loc main_arg0)) (m ((c : Thread nD τ).loc main_arg1)) (m ((c : Thread nD τ).loc main_arg2)) (m ((c : Thread nD τ).loc main_arg5)) := by
  refine (dats m hO 0 c).arrAt_eq_of_covers 8 _ (covers k (adm m hO) e).2.2.2 fun t _ y => ?_
  blk_simp
  rw [after0_8]
  rw [left m hO k e c t]
  exact point8 m hO k e c t y

/-- Every run from a table that names a slot ends with the reference's four results, the arguments unchanged. -/
theorem run_blocks (h : Cert.Pre_AdamProjIdeal m) (ρ : Dev nD → PrngReg) :
    θ_run defs (onTc (τ := τ) (main (F := Ideal))) ⟨m, fun _ => 0, ρ⟩ (fun r => ∀ c : Dev nD,
      r.2.mem ((c.tc : Thread nD τ).loc main_v0_0) = val_main_v8 (F := Ideal) (m ((c : Thread nD τ).loc main_arg0)) (m ((c : Thread nD τ).loc main_arg1)) (m ((c : Thread nD τ).loc main_arg2))
      ∧ r.2.mem ((c.tc : Thread nD τ).loc main_v0_1) = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v0_2) = val_main_v13 (F := Ideal) (m ((c : Thread nD τ).loc main_arg0)) (m ((c : Thread nD τ).loc main_arg1)) (m ((c : Thread nD τ).loc main_arg2)) (m ((c : Thread nD τ).loc main_arg4))
      ∧ r.2.mem ((c.tc : Thread nD τ).loc main_v0_3) = val_main_v19 (F := Ideal) (m ((c : Thread nD τ).loc main_arg0)) (m ((c : Thread nD τ).loc main_arg1)) (m ((c : Thread nD τ).loc main_arg2)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  obtain ⟨k, e⟩ := tbl_named m h
  have hO := ok_of_pre m h
  exact (θ_run defs _ _).mono (fun _ h c => ⟨((h.1 c).1 5).trans (final5 m hO k e c), ((h.1 c).1 6).trans (final6 m hO k e c), ((h.1 c).1 7).trans (final7 m hO k e c), ((h.1 c).1 8).trans (final8 m hO k e c), h.2 c⟩)
    (θ_run_and (run_main m ρ hO) (unchanged m ρ hO))

end Cert.AdamProjIdeal.Value

end
-- ==== Proof.Products.AdamUp.lean ====
module

public import proofs.«01_k».proof.Proof.Gen.AdamUpIdeal.Frame
public import proofs.«01_k».proof.Proof.Gen.AdamUp.Frame
public import proofs.«01_k».proof.Proof.Gen.AdamUpRefIdeal.Read
public import proofs.«01_k».proof.Proof.Gen.Pre_slot_up
public import proofs.«01_k».proof.Defs
public import proofs.«01_k».proof.Proof.Products.Slot
public import Idealize.ShloMosaic.Lib.Pipeline.ValueKit

/-! The AdamW step of a device's share of the weights `w_up`: the parts of the gradient in the 8 slots
are added, the device's own in the place of its slot, and the weights' change and the moments follow from the sum.
The slot is a word in a table, which the precondition keeps below 8. -/

@[expose] public section

set_option maxRecDepth 16384

noncomputable section

namespace Cert.AdamUp.Value

open Cert.AdamUp Cert.AdamUp.Gen Idealize.ShloMosaic Idealize.ShloMosaic.TcCoe Idealize.SL.Sem

variable (m : (ℓ : Loc nD τ sig) → Buf (Elt Bits) ℓ)

set_option backward.proofsInPublic true in
/-- The table that names slot `k`, beside the floats as the machine holds them. -/
def named (k : Fin 8) : pre0.Contents (Elt Bits) := fun | ⟨0, _⟩ => fun _ => BitVec.ofNat 32 k.val | ⟨_ + 1, h⟩ => absurd h (by simp)

/-- The precondition says that the table names a slot. -/
theorem tbl_named (h : Cert.Pre_AdamUp m) : ∃ k, tbl m = named k := by
  have e := congrFun (h 0) (fun a => ⟨0, by revert a; decide⟩)
  simp only [Cert.Pre_slot_up.fn, cmpi, andi, broadcastInDim, constantI, IntOp.cmpi] at e
  obtain ⟨e0, e1⟩ := Cert.Slot.both _ _ e
  obtain ⟨k, hk⟩ := Cert.Slot.word 8 (by decide) _ e0 e1
  refine ⟨k, ?_⟩
  funext j x
  match j with
  | ⟨0, _⟩ =>
    refine Eq.trans ?_ hk
    exact congrArg (m ((Dev.tc 0).loc main_arg0)) (funext fun a => Fin.ext (by revert a; decide +revert))

theorem ok (k : Fin 8) : ok0 (F := Bits) (named k) := by
  revert k; decide

/-- So the table's slot lies in the array. -/
theorem ok_of_pre (h : Cert.Pre_AdamUp m) : Ok m := by
  obtain ⟨k, e⟩ := tbl_named m h
  show ok0 (tbl m)
  rw [e]; exact ok k

end Cert.AdamUp.Value

namespace Cert.AdamUpIdeal.Value

open Cert.AdamUpIdeal Cert.AdamUpIdeal.Gen Idealize.ShloMosaic Idealize.ShloMosaic.TcCoe Idealize.SL.Sem
open Idealize.ShloMosaic.ValueIdx
open Cert.AdamUpRefIdeal.Read

variable (m : (ℓ : Loc nD τ sig) → Buf (Elt Ideal) ℓ)

set_option backward.proofsInPublic true in
/-- The table that names slot `k`. -/
def named (k : Fin 8) : pre0.Contents (Elt Ideal) := fun | ⟨0, _⟩ => fun _ => BitVec.ofNat 32 k.val | ⟨_ + 1, h⟩ => absurd h (by simp)

/-- The precondition says that the table names a slot. -/
theorem tbl_named (h : Cert.Pre_AdamUpIdeal m) : ∃ k, tbl m = named k := by
  have e := congrFun (h 0) (fun a => ⟨0, by revert a; decide⟩)
  simp only [Cert.Pre_slot_up.fn, cmpi, andi, broadcastInDim, constantI, IntOp.cmpi] at e
  obtain ⟨e0, e1⟩ := Cert.Slot.both _ _ e
  obtain ⟨k, hk⟩ := Cert.Slot.word 8 (by decide) _ e0 e1
  refine ⟨k, ?_⟩
  funext j x
  match j with
  | ⟨0, _⟩ =>
    refine Eq.trans ?_ hk
    exact congrArg (m ((Dev.tc 0).loc main_arg0)) (funext fun a => Fin.ext (by revert a; decide +revert))

theorem ok (k : Fin 8) : ok0 (F := Ideal) (named k) := by
  revert k; decide

/-- So the table's slot lies in the array. -/
theorem ok_of_pre (h : Cert.Pre_AdamUpIdeal m) : Ok m := by
  obtain ⟨k, e⟩ := tbl_named m h
  show ok0 (tbl m)
  rw [e]; exact ok k

/-- The blocks the windows show at each grid point, for each slot the table may name. -/
theorem idxs : ∀ (k : Fin 8) (t : Fin grid0.N),
    cc0_transform_0 (grid0.coords t) = ![0, t.val, 0] ∧ cc0_transform_1 (F := Ideal) inb_S1_S1_0 numel1_S1 (named k) (grid0.coords t) = ![k.val, t.val, 0] ∧ cc0_transform_2 (grid0.coords t) = ![t.val, 0] ∧ cc0_transform_3 (grid0.coords t) = ![t.val, 0] ∧ cc0_transform_4 (grid0.coords t) = ![t.val, 0]
      ∧ cc0_transform_5 (grid0.coords t) = ![t.val, 0] ∧ cc0_transform_6 (grid0.coords t) = ![t.val, 0] ∧ cc0_transform_7 (grid0.coords t) = ![t.val, 0] ∧ cc0_transform_8 (grid0.coords t) = ![t.val, 0] := by
  decide +kernel

/-- The blocks the windows show at each grid point, when the table names slot `k`. -/
theorem idx (k : Fin 8) (a : (pcfg0 (F := Ideal)).Adm) (e : a.1 = named k) (t : Fin (cfg0 a).N) :
    ((cfg0 a).win 0).index t = ![0, t.val, 0] ∧ ((cfg0 a).win 1).index t = ![k.val, t.val, 0] ∧ ((cfg0 a).win 2).index t = ![t.val, 0] ∧ ((cfg0 a).win 3).index t = ![t.val, 0] ∧ ((cfg0 a).win 4).index t = ![t.val, 0]
      ∧ ((cfg0 a).win 5).index t = ![t.val, 0] ∧ ((cfg0 a).win 6).index t = ![t.val, 0] ∧ ((cfg0 a).win 7).index t = ![t.val, 0] ∧ ((cfg0 a).win 8).index t = ![t.val, 0] := by
  obtain ⟨p, hp⟩ := a
  obtain rfl : p = named k := e
  exact idxs k t

/-- The word the kernel reads off the table. -/
abbrev read (c : Dev nD) (xt0 : TbBuf0 (F := Ideal) c tbM0_0) : BitVec 32 := View.read (Elt Ideal) (View.whole main_arg0) xt0 (Shape.Idx.first (by decide))

theorem word (k : Fin 8) (e : tbl m = named k) (c : Dev nD) : read c (tbl m 0) = BitVec.ofNat 32 k.val := by
  rw [e]; rfl

/-- The place in a result's array of an entry of its block. -/
abbrev place (hO : Ok m) (t : Fin (cfgM m hO).N) (y : S128x512.Idx) : S1024x512.Idx := (((cfgM m hO).win 5).blk t).view.emb y

/-- The reference reads the same word. -/
theorem word' (k : Fin 8) (e : tbl m = named k) (c : Dev nD) (i : S1.Idx) : m ((c : Thread nD τ).loc main_arg0) i = BitVec.ofNat 32 k.val := by
  obtain rfl : c = 0 := Subsingleton.elim _ _
  exact congrFun (congrFun e 0) i

/-- The gradient of a block: the eight parts in turn, the device's own in the place of its slot. -/
def grad (w : BitVec 32) (x0 : Vec Ideal S8x128x512 .bf16) (x1 : Vec Ideal S1x128x512 .bf16) : FVec Ideal S128x512 .f32 :=
  k0_pay5 (k0_pay3 x1) (k0_pay4 x1 w (View.ld x0 (Rect.unit ![0, 0, 0] ![1, 128, 512] inb_S8x128x512_S1x128x512_0_0_0)) w (View.ld x0 (Rect.unit ![1, 0, 0] ![1, 128, 512] inb_S8x128x512_S1x128x512_1_0_0)) w (View.ld x0 (Rect.unit ![2, 0, 0] ![1, 128, 512] inb_S8x128x512_S1x128x512_2_0_0)) w (View.ld x0 (Rect.unit ![3, 0, 0] ![1, 128, 512] inb_S8x128x512_S1x128x512_3_0_0)))
    (Scalar.cmpi .eq w 4#32) (View.ld x0 (Rect.unit ![4, 0, 0] ![1, 128, 512] inb_S8x128x512_S1x128x512_4_0_0)) w (View.ld x0 (Rect.unit ![5, 0, 0] ![1, 128, 512] inb_S8x128x512_S1x128x512_5_0_0)) w (View.ld x0 (Rect.unit ![6, 0, 0] ![1, 128, 512] inb_S8x128x512_S1x128x512_6_0_0)) w (View.ld x0 (Rect.unit ![7, 0, 0] ![1, 128, 512] inb_S8x128x512_S1x128x512_7_0_0))

/-- The first moment after the step. -/
def moment (g x3 : FVec Ideal S128x512 .f32) : FVec Ideal S128x512 .f32 :=
  addf (mulf (broadcast S128x512 (Scalar.ofBits .f32 0x3F666666#32)) x3) (mulf (broadcast S128x512 (Scalar.ofBits .f32 0x3DCCCCCD#32)) g)

section
variable (c : Dev nD) (i : grid0.Coords) (arg2 : Memref sig .tc .vmem S8x128x512 .bf16) (harg2 : arg2.IsWhole) (arg3 : Memref sig .tc .vmem S1x128x512 .bf16) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (x0 : Vec Ideal S8x128x512 .bf16) (x1 : Vec Ideal S1x128x512 .bf16) (x2 : Vec Ideal S128x512 .f32) (x3 : Vec Ideal S128x512 .f32) (x4 : Vec Ideal S128x512 .f32) (xt0 : TbBuf0 (F := Ideal) c tbM0_0)

/-- What a point leaves of the gradient, the change, the first and the second moment. -/
theorem out5 : out0_A_5 (F := Ideal) c i arg2 harg2 arg3 harg3 arg4 harg4 arg5 harg5 arg6 harg6 arg7 harg7 arg8 harg8 arg9 harg9 arg10 harg10 x0 x1 x2 x3 x4 xt0 = grad (read c xt0) x0 x1 := by frame_out; rfl
theorem out6 : out0_A_6 (F := Ideal) c i arg2 harg2 arg3 harg3 arg4 harg4 arg5 harg5 arg6 harg6 arg7 harg7 arg8 harg8 arg9 harg9 arg10 harg10 x0 x1 x2 x3 x4 xt0 = k0_pay2 (grad (read c xt0) x0 x1) x2 x4 (moment (grad (read c xt0) x0 x1) x3) k0_pay7 := by frame_out; rfl
theorem out7 : out0_A_7 (F := Ideal) c i arg2 harg2 arg3 harg3 arg4 harg4 arg5 harg5 arg6 harg6 arg7 harg7 arg8 harg8 arg9 harg9 arg10 harg10 x0 x1 x2 x3 x4 xt0 = moment (grad (read c xt0) x0 x1) x3 := by frame_out; rfl
theorem out8 : out0_A_8 (F := Ideal) c i arg2 harg2 arg3 harg3 arg4 harg4 arg5 harg5 arg6 harg6 arg7 harg7 arg8 harg8 arg9 harg9 arg10 harg10 x0 x1 x2 x3 x4 xt0 = k0_pay1 (grad (read c xt0) x0 x1) x4 k0_pay7 := by frame_out; rfl
end

/-- The device's own part is the block of its slot. -/
theorem own (hO : Ok m) (k : Fin 8) (e : tbl m = named k) (c : Dev nD) (t : Fin (cfgM m hO).N) (y : S128x512.Idx) :
    iblk m hO c 1 t (Idealize.ShloMosaic.ix3 0 (y 0) (y 1)) = m ((c : Thread nD τ).loc main_arg2) (Idealize.ShloMosaic.ix3 k (place m hO t y 0) (place m hO t y 1)) := by
  blk_point [iblk, V, place, idx k (adm m hO) e t]

/-- A part received is the block of the part's number. -/
theorem part (hO : Ok m) (k : Fin 8) (e : tbl m = named k) (c : Dev nD) (t : Fin (cfgM m hO).N) (y : S128x512.Idx) (s : Fin 8) :
    iblk m hO c 0 t (Idealize.ShloMosaic.ix3 s (y 0) (y 1)) = m ((c : Thread nD τ).loc main_arg1) (Idealize.ShloMosaic.ix3 s (place m hO t y 0) (place m hO t y 1)) := by
  blk_point [iblk, V, place, idx k (adm m hO) e t]

/-- The gradient a point forms at an entry of its block is the reference's at the block's place. -/
theorem point5 (hO : Ok m) (k : Fin 8) (e : tbl m = named k) (c : Dev nD) (t : Fin (cfgM m hO).N) (y : S128x512.Idx) :
    grad (BitVec.ofNat 32 k.val) (iblk m hO c 0 t) (iblk m hO c 1 t) y
      = val_main_v8 (F := Ideal) (m ((c : Thread nD τ).loc main_arg0)) (m ((c : Thread nD τ).loc main_arg1)) (m ((c : Thread nD τ).loc main_arg2))
          (place m hO t y) := by
  have key := fun s : Fin 8 => Cert.Slot.sel 8 (by decide) k s _ _ (fun s => m ((c : Thread nD τ).loc main_arg2) (Idealize.ShloMosaic.ix3 s (place m hO t y 0) (place m hO t y 1)))
    (fun s => m ((c : Thread nD τ).loc main_arg1) (Idealize.ShloMosaic.ix3 s (place m hO t y 0) (place m hO t y 1))) (own m hO k e c t y) (part m hO k e c t y s)
  pointwise [grad, k0_pay3, k0_pay4, k0_pay5, val_main_v8, val_main_v7, val_main_v6, val_main_v5, val_main_v4, val_main_v3, val_main_v2, val_main_v1, val_main_v0, val_main_cst, val_main_call0_v0]
  rw [Fin.sum_univ_eight]
  simp only [word' m k e]
  exact congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (key 0) (key 1)) (key 2)) (key 3)) (key 4)) (key 5)) (key 6)) (key 7)

/-- The first moment a point forms is the reference's. -/
theorem point7 (hO : Ok m) (k : Fin 8) (e : tbl m = named k) (c : Dev nD) (t : Fin (cfgM m hO).N) (y : S128x512.Idx) :
    moment (grad (BitVec.ofNat 32 k.val) (iblk m hO c 0 t) (iblk m hO c 1 t)) (iblk m hO c 3 t) y
      = val_main_v13 (F := Ideal) (m ((c : Thread nD τ).loc main_arg0)) (m ((c : Thread nD τ).loc main_arg1)) (m ((c : Thread nD τ).loc main_arg2)) (m ((c : Thread nD τ).loc main_arg4)) (place m hO t y) := by
  pointwise [moment, val_main_v13, val_main_v12, val_main_v11, val_main_v10, val_main_v9, val_main_cst_0, val_main_cst_1]
  rw [point5 m hO k e]
  blk_point [iblk, V, place, idx k (adm m hO) e t]

/-- The second moment a point forms is the reference's. -/
theorem point8 (hO : Ok m) (k : Fin 8) (e : tbl m = named k) (c : Dev nD) (t : Fin (cfgM m hO).N) (y : S128x512.Idx) :
    k0_pay1 (F := Ideal) (grad (BitVec.ofNat 32 k.val) (iblk m hO c 0 t) (iblk m hO c 1 t)) (iblk m hO c 4 t) k0_pay7 y
      = val_main_v19 (F := Ideal) (m ((c : Thread nD τ).loc main_arg0)) (m ((c : Thread nD τ).loc main_arg1)) (m ((c : Thread nD τ).loc main_arg2)) (m ((c : Thread nD τ).loc main_arg5)) (place m hO t y) := by
  pointwise [k0_pay1, k0_pay7, val_main_v19, val_main_v18, val_main_v17, val_main_v16, val_main_v15, val_main_v14, val_main_cst_2, val_main_cst_3]
  rw [point5 m hO k e]
  blk_point [iblk, V, place, idx k (adm m hO) e t]

/-- The change a point forms is the reference's. -/
theorem point6 (hO : Ok m) (k : Fin 8) (e : tbl m = named k) (c : Dev nD) (t : Fin (cfgM m hO).N) (y : S128x512.Idx) :
    k0_pay2 (F := Ideal) (grad (BitVec.ofNat 32 k.val) (iblk m hO c 0 t) (iblk m hO c 1 t)) (iblk m hO c 2 t) (iblk m hO c 4 t)
        (moment (grad (BitVec.ofNat 32 k.val) (iblk m hO c 0 t) (iblk m hO c 1 t)) (iblk m hO c 3 t)) k0_pay7 y
      = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (place m hO t y) := by
  have h7 := point7 m hO k e c t y
  have h8 := point8 m hO k e c t y
  pointwise [k0_pay2, val_main_v32, val_main_v31, val_main_v30, val_main_v29, val_main_v28, val_main_v27, val_main_v26, val_main_v25, val_main_v24, val_main_v23, val_main_v22, val_main_v21, val_main_v20, val_main_cst_4, val_main_cst_5, val_main_cst_6, val_main_cst_7, val_main_cst_8]
  rw [h7, h8]
  blk_point [iblk, V, place, idx k (adm m hO) e t]

/-- The blocks written back cover each result, whichever slot the table names. -/
theorem covers_named : ∀ k : Fin 8, ((cfg0 (F := Ideal) ⟨named k, ok k⟩).win 5).Covers ∧ ((cfg0 (F := Ideal) ⟨named k, ok k⟩).win 6).Covers ∧ ((cfg0 (F := Ideal) ⟨named k, ok k⟩).win 7).Covers ∧ ((cfg0 (F := Ideal) ⟨named k, ok k⟩).win 8).Covers := by
  decide +kernel

theorem covers (k : Fin 8) (a : (pcfg0 (F := Ideal)).Adm) (e : a.1 = named k) : ((cfg0 a).win 5).Covers ∧ ((cfg0 a).win 6).Covers ∧ ((cfg0 a).win 7).Covers ∧ ((cfg0 a).win 8).Covers := by
  obtain ⟨p, hp⟩ := a
  obtain rfl : p = named k := e
  exact covers_named k

/-- What a point leaves of the four results, over its blocks. -/
theorem left (hO : Ok m) (k : Fin 8) (e : tbl m = named k) (c : Dev nD) (t : Fin (cfgM m hO).N) : outsAt0 m hO c t
    = (grad (BitVec.ofNat 32 k.val) (iblk m hO c 0 t) (iblk m hO c 1 t),
        k0_pay2 (F := Ideal) (grad (BitVec.ofNat 32 k.val) (iblk m hO c 0 t) (iblk m hO c 1 t)) (iblk m hO c 2 t) (iblk m hO c 4 t)
          (moment (grad (BitVec.ofNat 32 k.val) (iblk m hO c 0 t) (iblk m hO c 1 t)) (iblk m hO c 3 t)) k0_pay7,
        moment (grad (BitVec.ofNat 32 k.val) (iblk m hO c 0 t) (iblk m hO c 1 t)) (iblk m hO c 3 t),
        k0_pay1 (F := Ideal) (grad (BitVec.ofNat 32 k.val) (iblk m hO c 0 t) (iblk m hO c 1 t)) (iblk m hO c 4 t) k0_pay7) := by
  unfold outsAt0
  rw [← word m k e c]
  exact congrArg₂ Prod.mk (out5 ..) (congrArg₂ Prod.mk (out6 ..) (congrArg₂ Prod.mk (out7 ..) (out8 ..)))

/-- The arrays after the run: the gradient, -/
theorem final5 (hO : Ok m) (k : Fin 8) (e : tbl m = named k) (c : Dev nD) : (dats m hO 0 c).arrAt 5 (cfgM m hO).N = val_main_v8 (F := Ideal) (m ((c : Thread nD τ).loc main_arg0)) (m ((c : Thread nD τ).loc main_arg1)) (m ((c : Thread nD τ).loc main_arg2)) := by
  refine (dats m hO 0 c).arrAt_eq_of_covers 5 _ (covers k (adm m hO) e).1 fun t _ y => ?_
  blk_simp
  rw [after0_5]
  rw [left m hO k e c t]
  exact point5 m hO k e c t y

/-- the change of the weights, -/
theorem final6 (hO : Ok m) (k : Fin 8) (e : tbl m = named k) (c : Dev nD) : (dats m hO 0 c).arrAt 6 (cfgM m hO).N = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (covers k (adm m hO) e).2.1 fun t _ y => ?_
  blk_simp
  rw [after0_6]
  rw [left m hO k e c t]
  exact point6 m hO k e c t y

/-- the first moment -/
theorem final7 (hO : Ok m) (k : Fin 8) (e : tbl m = named k) (c : Dev nD) : (dats m hO 0 c).arrAt 7 (cfgM m hO).N = val_main_v13 (F := Ideal) (m ((c : Thread nD τ).loc main_arg0)) (m ((c : Thread nD τ).loc main_arg1)) (m ((c : Thread nD τ).loc main_arg2)) (m ((c : Thread nD τ).loc main_arg4)) := by
  refine (dats m hO 0 c).arrAt_eq_of_covers 7 _ (covers k (adm m hO) e).2.2.1 fun t _ y => ?_
  blk_simp
  rw [after0_7]
  rw [left m hO k e c t]
  exact point7 m hO k e c t y

/-- and the second. -/
theorem final8 (hO : Ok m) (k : Fin 8) (e : tbl m = named k) (c : Dev nD) : (dats m hO 0 c).arrAt 8 (cfgM m hO).N = val_main_v19 (F := Ideal) (m ((c : Thread nD τ).loc main_arg0)) (m ((c : Thread nD τ).loc main_arg1)) (m ((c : Thread nD τ).loc main_arg2)) (m ((c : Thread nD τ).loc main_arg5)) := by
  refine (dats m hO 0 c).arrAt_eq_of_covers 8 _ (covers k (adm m hO) e).2.2.2 fun t _ y => ?_
  blk_simp
  rw [after0_8]
  rw [left m hO k e c t]
  exact point8 m hO k e c t y

/-- Every run from a table that names a slot ends with the reference's four results, the arguments unchanged. -/
theorem run_blocks (h : Cert.Pre_AdamUpIdeal m) (ρ : Dev nD → PrngReg) :
    θ_run defs (onTc (τ := τ) (main (F := Ideal))) ⟨m, fun _ => 0, ρ⟩ (fun r => ∀ c : Dev nD,
      r.2.mem ((c.tc : Thread nD τ).loc main_v0_0) = val_main_v8 (F := Ideal) (m ((c : Thread nD τ).loc main_arg0)) (m ((c : Thread nD τ).loc main_arg1)) (m ((c : Thread nD τ).loc main_arg2))
      ∧ r.2.mem ((c.tc : Thread nD τ).loc main_v0_1) = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v0_2) = val_main_v13 (F := Ideal) (m ((c : Thread nD τ).loc main_arg0)) (m ((c : Thread nD τ).loc main_arg1)) (m ((c : Thread nD τ).loc main_arg2)) (m ((c : Thread nD τ).loc main_arg4))
      ∧ r.2.mem ((c.tc : Thread nD τ).loc main_v0_3) = val_main_v19 (F := Ideal) (m ((c : Thread nD τ).loc main_arg0)) (m ((c : Thread nD τ).loc main_arg1)) (m ((c : Thread nD τ).loc main_arg2)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  obtain ⟨k, e⟩ := tbl_named m h
  have hO := ok_of_pre m h
  exact (θ_run defs _ _).mono (fun _ h c => ⟨((h.1 c).1 5).trans (final5 m hO k e c), ((h.1 c).1 6).trans (final6 m hO k e c), ((h.1 c).1 7).trans (final7 m hO k e c), ((h.1 c).1 8).trans (final8 m hO k e c), h.2 c⟩)
    (θ_run_and (run_main m ρ hO) (unchanged m ρ hO))

end Cert.AdamUpIdeal.Value

end
-- ==== Proof.Products.AdamDown.lean ====
module

public import proofs.«01_k».proof.Proof.Gen.AdamDownIdeal.Frame
public import proofs.«01_k».proof.Proof.Gen.AdamDown.Frame
public import proofs.«01_k».proof.Proof.Gen.AdamDownRefIdeal.Read
public import proofs.«01_k».proof.Proof.Gen.Pre_slot_down
public import proofs.«01_k».proof.Defs
public import proofs.«01_k».proof.Proof.Products.Slot
public import Idealize.ShloMosaic.Lib.Pipeline.ValueKit

/-! The AdamW step of a device's share of the weights `w_down`: the parts of the gradient in the 8 slots
are added, the device's own in the place of its slot, and the weights' change and the moments follow from the sum.
The slot is a word in a table, which the precondition keeps below 8. -/

@[expose] public section

set_option maxRecDepth 16384

noncomputable section

namespace Cert.AdamDown.Value

open Cert.AdamDown Cert.AdamDown.Gen Idealize.ShloMosaic Idealize.ShloMosaic.TcCoe Idealize.SL.Sem

variable (m : (ℓ : Loc nD τ sig) → Buf (Elt Bits) ℓ)

set_option backward.proofsInPublic true in
/-- The table that names slot `k`, beside the floats as the machine holds them. -/
def named (k : Fin 8) : pre0.Contents (Elt Bits) := fun | ⟨0, _⟩ => fun _ => BitVec.ofNat 32 k.val | ⟨_ + 1, h⟩ => absurd h (by simp)

/-- The precondition says that the table names a slot. -/
theorem tbl_named (h : Cert.Pre_AdamDown m) : ∃ k, tbl m = named k := by
  have e := congrFun (h 0) (fun a => ⟨0, by revert a; decide⟩)
  simp only [Cert.Pre_slot_down.fn, cmpi, andi, broadcastInDim, constantI, IntOp.cmpi] at e
  obtain ⟨e0, e1⟩ := Cert.Slot.both _ _ e
  obtain ⟨k, hk⟩ := Cert.Slot.word 8 (by decide) _ e0 e1
  refine ⟨k, ?_⟩
  funext j x
  match j with
  | ⟨0, _⟩ =>
    refine Eq.trans ?_ hk
    exact congrArg (m ((Dev.tc 0).loc main_arg0)) (funext fun a => Fin.ext (by revert a; decide +revert))

theorem ok (k : Fin 8) : ok0 (F := Bits) (named k) := by
  revert k; decide

/-- So the table's slot lies in the array. -/
theorem ok_of_pre (h : Cert.Pre_AdamDown m) : Ok m := by
  obtain ⟨k, e⟩ := tbl_named m h
  show ok0 (tbl m)
  rw [e]; exact ok k

end Cert.AdamDown.Value

namespace Cert.AdamDownIdeal.Value

open Cert.AdamDownIdeal Cert.AdamDownIdeal.Gen Idealize.ShloMosaic Idealize.ShloMosaic.TcCoe Idealize.SL.Sem
open Idealize.ShloMosaic.ValueIdx
open Cert.AdamDownRefIdeal.Read

variable (m : (ℓ : Loc nD τ sig) → Buf (Elt Ideal) ℓ)

set_option backward.proofsInPublic true in
/-- The table that names slot `k`. -/
def named (k : Fin 8) : pre0.Contents (Elt Ideal) := fun | ⟨0, _⟩ => fun _ => BitVec.ofNat 32 k.val | ⟨_ + 1, h⟩ => absurd h (by simp)

/-- The precondition says that the table names a slot. -/
theorem tbl_named (h : Cert.Pre_AdamDownIdeal m) : ∃ k, tbl m = named k := by
  have e := congrFun (h 0) (fun a => ⟨0, by revert a; decide⟩)
  simp only [Cert.Pre_slot_down.fn, cmpi, andi, broadcastInDim, constantI, IntOp.cmpi] at e
  obtain ⟨e0, e1⟩ := Cert.Slot.both _ _ e
  obtain ⟨k, hk⟩ := Cert.Slot.word 8 (by decide) _ e0 e1
  refine ⟨k, ?_⟩
  funext j x
  match j with
  | ⟨0, _⟩ =>
    refine Eq.trans ?_ hk
    exact congrArg (m ((Dev.tc 0).loc main_arg0)) (funext fun a => Fin.ext (by revert a; decide +revert))

theorem ok (k : Fin 8) : ok0 (F := Ideal) (named k) := by
  revert k; decide

/-- So the table's slot lies in the array. -/
theorem ok_of_pre (h : Cert.Pre_AdamDownIdeal m) : Ok m := by
  obtain ⟨k, e⟩ := tbl_named m h
  show ok0 (tbl m)
  rw [e]; exact ok k

/-- The blocks the windows show at each grid point, for each slot the table may name. -/
theorem idxs : ∀ (k : Fin 8) (t : Fin grid0.N),
    cc0_transform_0 (grid0.coords t) = ![0, t.val, 0] ∧ cc0_transform_1 (F := Ideal) inb_S1_S1_0 numel1_S1 (named k) (grid0.coords t) = ![k.val, t.val, 0] ∧ cc0_transform_2 (grid0.coords t) = ![t.val, 0] ∧ cc0_transform_3 (grid0.coords t) = ![t.val, 0] ∧ cc0_transform_4 (grid0.coords t) = ![t.val, 0]
      ∧ cc0_transform_5 (grid0.coords t) = ![t.val, 0] ∧ cc0_transform_6 (grid0.coords t) = ![t.val, 0] ∧ cc0_transform_7 (grid0.coords t) = ![t.val, 0] ∧ cc0_transform_8 (grid0.coords t) = ![t.val, 0] := by
  decide +kernel

/-- The blocks the windows show at each grid point, when the table names slot `k`. -/
theorem idx (k : Fin 8) (a : (pcfg0 (F := Ideal)).Adm) (e : a.1 = named k) (t : Fin (cfg0 a).N) :
    ((cfg0 a).win 0).index t = ![0, t.val, 0] ∧ ((cfg0 a).win 1).index t = ![k.val, t.val, 0] ∧ ((cfg0 a).win 2).index t = ![t.val, 0] ∧ ((cfg0 a).win 3).index t = ![t.val, 0] ∧ ((cfg0 a).win 4).index t = ![t.val, 0]
      ∧ ((cfg0 a).win 5).index t = ![t.val, 0] ∧ ((cfg0 a).win 6).index t = ![t.val, 0] ∧ ((cfg0 a).win 7).index t = ![t.val, 0] ∧ ((cfg0 a).win 8).index t = ![t.val, 0] := by
  obtain ⟨p, hp⟩ := a
  obtain rfl : p = named k := e
  exact idxs k t

/-- The word the kernel reads off the table. -/
abbrev read (c : Dev nD) (xt0 : TbBuf0 (F := Ideal) c tbM0_0) : BitVec 32 := View.read (Elt Ideal) (View.whole main_arg0) xt0 (Shape.Idx.first (by decide))

theorem word (k : Fin 8) (e : tbl m = named k) (c : Dev nD) : read c (tbl m 0) = BitVec.ofNat 32 k.val := by
  rw [e]; rfl

/-- The place in a result's array of an entry of its block. -/
abbrev place (hO : Ok m) (t : Fin (cfgM m hO).N) (y : S128x1024.Idx) : S512x1024.Idx := (((cfgM m hO).win 5).blk t).view.emb y

/-- The reference reads the same word. -/
theorem word' (k : Fin 8) (e : tbl m = named k) (c : Dev nD) (i : S1.Idx) : m ((c : Thread nD τ).loc main_arg0) i = BitVec.ofNat 32 k.val := by
  obtain rfl : c = 0 := Subsingleton.elim _ _
  exact congrFun (congrFun e 0) i

/-- The gradient of a block: the eight parts in turn, the device's own in the place of its slot. -/
def grad (w : BitVec 32) (x0 : Vec Ideal S8x128x1024 .bf16) (x1 : Vec Ideal S1x128x1024 .bf16) : FVec Ideal S128x1024 .f32 :=
  k0_pay5 (k0_pay3 x1) (k0_pay4 x1 w (View.ld x0 (Rect.unit ![0, 0, 0] ![1, 128, 1024] inb_S8x128x1024_S1x128x1024_0_0_0)) w (View.ld x0 (Rect.unit ![1, 0, 0] ![1, 128, 1024] inb_S8x128x1024_S1x128x1024_1_0_0)) w (View.ld x0 (Rect.unit ![2, 0, 0] ![1, 128, 1024] inb_S8x128x1024_S1x128x1024_2_0_0)) w (View.ld x0 (Rect.unit ![3, 0, 0] ![1, 128, 1024] inb_S8x128x1024_S1x128x1024_3_0_0)))
    (Scalar.cmpi .eq w 4#32) (View.ld x0 (Rect.unit ![4, 0, 0] ![1, 128, 1024] inb_S8x128x1024_S1x128x1024_4_0_0)) w (View.ld x0 (Rect.unit ![5, 0, 0] ![1, 128, 1024] inb_S8x128x1024_S1x128x1024_5_0_0)) w (View.ld x0 (Rect.unit ![6, 0, 0] ![1, 128, 1024] inb_S8x128x1024_S1x128x1024_6_0_0)) w (View.ld x0 (Rect.unit ![7, 0, 0] ![1, 128, 1024] inb_S8x128x1024_S1x128x1024_7_0_0))

/-- The first moment after the step. -/
def moment (g x3 : FVec Ideal S128x1024 .f32) : FVec Ideal S128x1024 .f32 :=
  addf (mulf (broadcast S128x1024 (Scalar.ofBits .f32 0x3F666666#32)) x3) (mulf (broadcast S128x1024 (Scalar.ofBits .f32 0x3DCCCCCD#32)) g)

section
variable (c : Dev nD) (i : grid0.Coords) (arg2 : Memref sig .tc .vmem S8x128x1024 .bf16) (harg2 : arg2.IsWhole) (arg3 : Memref sig .tc .vmem S1x128x1024 .bf16) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole) (x0 : Vec Ideal S8x128x1024 .bf16) (x1 : Vec Ideal S1x128x1024 .bf16) (x2 : Vec Ideal S128x1024 .f32) (x3 : Vec Ideal S128x1024 .f32) (x4 : Vec Ideal S128x1024 .f32) (xt0 : TbBuf0 (F := Ideal) c tbM0_0)

/-- What a point leaves of the gradient, the change, the first and the second moment. -/
theorem out5 : out0_A_5 (F := Ideal) c i arg2 harg2 arg3 harg3 arg4 harg4 arg5 harg5 arg6 harg6 arg7 harg7 arg8 harg8 arg9 harg9 arg10 harg10 x0 x1 x2 x3 x4 xt0 = grad (read c xt0) x0 x1 := by frame_out; rfl
theorem out6 : out0_A_6 (F := Ideal) c i arg2 harg2 arg3 harg3 arg4 harg4 arg5 harg5 arg6 harg6 arg7 harg7 arg8 harg8 arg9 harg9 arg10 harg10 x0 x1 x2 x3 x4 xt0 = k0_pay2 (grad (read c xt0) x0 x1) x2 x4 (moment (grad (read c xt0) x0 x1) x3) k0_pay7 := by frame_out; rfl
theorem out7 : out0_A_7 (F := Ideal) c i arg2 harg2 arg3 harg3 arg4 harg4 arg5 harg5 arg6 harg6 arg7 harg7 arg8 harg8 arg9 harg9 arg10 harg10 x0 x1 x2 x3 x4 xt0 = moment (grad (read c xt0) x0 x1) x3 := by frame_out; rfl
theorem out8 : out0_A_8 (F := Ideal) c i arg2 harg2 arg3 harg3 arg4 harg4 arg5 harg5 arg6 harg6 arg7 harg7 arg8 harg8 arg9 harg9 arg10 harg10 x0 x1 x2 x3 x4 xt0 = k0_pay1 (grad (read c xt0) x0 x1) x4 k0_pay7 := by frame_out; rfl
end

/-- The device's own part is the block of its slot. -/
theorem own (hO : Ok m) (k : Fin 8) (e : tbl m = named k) (c : Dev nD) (t : Fin (cfgM m hO).N) (y : S128x1024.Idx) :
    iblk m hO c 1 t (Idealize.ShloMosaic.ix3 0 (y 0) (y 1)) = m ((c : Thread nD τ).loc main_arg2) (Idealize.ShloMosaic.ix3 k (place m hO t y 0) (place m hO t y 1)) := by
  blk_point [iblk, V, place, idx k (adm m hO) e t]

/-- A part received is the block of the part's number. -/
theorem part (hO : Ok m) (k : Fin 8) (e : tbl m = named k) (c : Dev nD) (t : Fin (cfgM m hO).N) (y : S128x1024.Idx) (s : Fin 8) :
    iblk m hO c 0 t (Idealize.ShloMosaic.ix3 s (y 0) (y 1)) = m ((c : Thread nD τ).loc main_arg1) (Idealize.ShloMosaic.ix3 s (place m hO t y 0) (place m hO t y 1)) := by
  blk_point [iblk, V, place, idx k (adm m hO) e t]

/-- The gradient a point forms at an entry of its block is the reference's at the block's place. -/
theorem point5 (hO : Ok m) (k : Fin 8) (e : tbl m = named k) (c : Dev nD) (t : Fin (cfgM m hO).N) (y : S128x1024.Idx) :
    grad (BitVec.ofNat 32 k.val) (iblk m hO c 0 t) (iblk m hO c 1 t) y
      = val_main_v8 (F := Ideal) (m ((c : Thread nD τ).loc main_arg0)) (m ((c : Thread nD τ).loc main_arg1)) (m ((c : Thread nD τ).loc main_arg2))
          (place m hO t y) := by
  have key := fun s : Fin 8 => Cert.Slot.sel 8 (by decide) k s _ _ (fun s => m ((c : Thread nD τ).loc main_arg2) (Idealize.ShloMosaic.ix3 s (place m hO t y 0) (place m hO t y 1)))
    (fun s => m ((c : Thread nD τ).loc main_arg1) (Idealize.ShloMosaic.ix3 s (place m hO t y 0) (place m hO t y 1))) (own m hO k e c t y) (part m hO k e c t y s)
  pointwise [grad, k0_pay3, k0_pay4, k0_pay5, val_main_v8, val_main_v7, val_main_v6, val_main_v5, val_main_v4, val_main_v3, val_main_v2, val_main_v1, val_main_v0, val_main_cst, val_main_call0_v0]
  rw [Fin.sum_univ_eight]
  simp only [word' m k e]
  exact congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (key 0) (key 1)) (key 2)) (key 3)) (key 4)) (key 5)) (key 6)) (key 7)

/-- The first moment a point forms is the reference's. -/
theorem point7 (hO : Ok m) (k : Fin 8) (e : tbl m = named k) (c : Dev nD) (t : Fin (cfgM m hO).N) (y : S128x1024.Idx) :
    moment (grad (BitVec.ofNat 32 k.val) (iblk m hO c 0 t) (iblk m hO c 1 t)) (iblk m hO c 3 t) y
      = val_main_v13 (F := Ideal) (m ((c : Thread nD τ).loc main_arg0)) (m ((c : Thread nD τ).loc main_arg1)) (m ((c : Thread nD τ).loc main_arg2)) (m ((c : Thread nD τ).loc main_arg4)) (place m hO t y) := by
  pointwise [moment, val_main_v13, val_main_v12, val_main_v11, val_main_v10, val_main_v9, val_main_cst_0, val_main_cst_1]
  rw [point5 m hO k e]
  blk_point [iblk, V, place, idx k (adm m hO) e t]

/-- The second moment a point forms is the reference's. -/
theorem point8 (hO : Ok m) (k : Fin 8) (e : tbl m = named k) (c : Dev nD) (t : Fin (cfgM m hO).N) (y : S128x1024.Idx) :
    k0_pay1 (F := Ideal) (grad (BitVec.ofNat 32 k.val) (iblk m hO c 0 t) (iblk m hO c 1 t)) (iblk m hO c 4 t) k0_pay7 y
      = val_main_v19 (F := Ideal) (m ((c : Thread nD τ).loc main_arg0)) (m ((c : Thread nD τ).loc main_arg1)) (m ((c : Thread nD τ).loc main_arg2)) (m ((c : Thread nD τ).loc main_arg5)) (place m hO t y) := by
  pointwise [k0_pay1, k0_pay7, val_main_v19, val_main_v18, val_main_v17, val_main_v16, val_main_v15, val_main_v14, val_main_cst_2, val_main_cst_3]
  rw [point5 m hO k e]
  blk_point [iblk, V, place, idx k (adm m hO) e t]

/-- The change a point forms is the reference's. -/
theorem point6 (hO : Ok m) (k : Fin 8) (e : tbl m = named k) (c : Dev nD) (t : Fin (cfgM m hO).N) (y : S128x1024.Idx) :
    k0_pay2 (F := Ideal) (grad (BitVec.ofNat 32 k.val) (iblk m hO c 0 t) (iblk m hO c 1 t)) (iblk m hO c 2 t) (iblk m hO c 4 t)
        (moment (grad (BitVec.ofNat 32 k.val) (iblk m hO c 0 t) (iblk m hO c 1 t)) (iblk m hO c 3 t)) k0_pay7 y
      = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (place m hO t y) := by
  have h7 := point7 m hO k e c t y
  have h8 := point8 m hO k e c t y
  pointwise [k0_pay2, val_main_v32, val_main_v31, val_main_v30, val_main_v29, val_main_v28, val_main_v27, val_main_v26, val_main_v25, val_main_v24, val_main_v23, val_main_v22, val_main_v21, val_main_v20, val_main_cst_4, val_main_cst_5, val_main_cst_6, val_main_cst_7, val_main_cst_8]
  rw [h7, h8]
  blk_point [iblk, V, place, idx k (adm m hO) e t]

/-- The blocks written back cover each result, whichever slot the table names. -/
theorem covers_named : ∀ k : Fin 8, ((cfg0 (F := Ideal) ⟨named k, ok k⟩).win 5).Covers ∧ ((cfg0 (F := Ideal) ⟨named k, ok k⟩).win 6).Covers ∧ ((cfg0 (F := Ideal) ⟨named k, ok k⟩).win 7).Covers ∧ ((cfg0 (F := Ideal) ⟨named k, ok k⟩).win 8).Covers := by
  decide +kernel

theorem covers (k : Fin 8) (a : (pcfg0 (F := Ideal)).Adm) (e : a.1 = named k) : ((cfg0 a).win 5).Covers ∧ ((cfg0 a).win 6).Covers ∧ ((cfg0 a).win 7).Covers ∧ ((cfg0 a).win 8).Covers := by
  obtain ⟨p, hp⟩ := a
  obtain rfl : p = named k := e
  exact covers_named k

/-- What a point leaves of the four results, over its blocks. -/
theorem left (hO : Ok m) (k : Fin 8) (e : tbl m = named k) (c : Dev nD) (t : Fin (cfgM m hO).N) : outsAt0 m hO c t
    = (grad (BitVec.ofNat 32 k.val) (iblk m hO c 0 t) (iblk m hO c 1 t),
        k0_pay2 (F := Ideal) (grad (BitVec.ofNat 32 k.val) (iblk m hO c 0 t) (iblk m hO c 1 t)) (iblk m hO c 2 t) (iblk m hO c 4 t)
          (moment (grad (BitVec.ofNat 32 k.val) (iblk m hO c 0 t) (iblk m hO c 1 t)) (iblk m hO c 3 t)) k0_pay7,
        moment (grad (BitVec.ofNat 32 k.val) (iblk m hO c 0 t) (iblk m hO c 1 t)) (iblk m hO c 3 t),
        k0_pay1 (F := Ideal) (grad (BitVec.ofNat 32 k.val) (iblk m hO c 0 t) (iblk m hO c 1 t)) (iblk m hO c 4 t) k0_pay7) := by
  unfold outsAt0
  rw [← word m k e c]
  exact congrArg₂ Prod.mk (out5 ..) (congrArg₂ Prod.mk (out6 ..) (congrArg₂ Prod.mk (out7 ..) (out8 ..)))

/-- The arrays after the run: the gradient, -/
theorem final5 (hO : Ok m) (k : Fin 8) (e : tbl m = named k) (c : Dev nD) : (dats m hO 0 c).arrAt 5 (cfgM m hO).N = val_main_v8 (F := Ideal) (m ((c : Thread nD τ).loc main_arg0)) (m ((c : Thread nD τ).loc main_arg1)) (m ((c : Thread nD τ).loc main_arg2)) := by
  refine (dats m hO 0 c).arrAt_eq_of_covers 5 _ (covers k (adm m hO) e).1 fun t _ y => ?_
  blk_simp
  rw [after0_5]
  rw [left m hO k e c t]
  exact point5 m hO k e c t y

/-- the change of the weights, -/
theorem final6 (hO : Ok m) (k : Fin 8) (e : tbl m = named k) (c : Dev nD) : (dats m hO 0 c).arrAt 6 (cfgM m hO).N = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (covers k (adm m hO) e).2.1 fun t _ y => ?_
  blk_simp
  rw [after0_6]
  rw [left m hO k e c t]
  exact point6 m hO k e c t y

/-- the first moment -/
theorem final7 (hO : Ok m) (k : Fin 8) (e : tbl m = named k) (c : Dev nD) : (dats m hO 0 c).arrAt 7 (cfgM m hO).N = val_main_v13 (F := Ideal) (m ((c : Thread nD τ).loc main_arg0)) (m ((c : Thread nD τ).loc main_arg1)) (m ((c : Thread nD τ).loc main_arg2)) (m ((c : Thread nD τ).loc main_arg4)) := by
  refine (dats m hO 0 c).arrAt_eq_of_covers 7 _ (covers k (adm m hO) e).2.2.1 fun t _ y => ?_
  blk_simp
  rw [after0_7]
  rw [left m hO k e c t]
  exact point7 m hO k e c t y

/-- and the second. -/
theorem final8 (hO : Ok m) (k : Fin 8) (e : tbl m = named k) (c : Dev nD) : (dats m hO 0 c).arrAt 8 (cfgM m hO).N = val_main_v19 (F := Ideal) (m ((c : Thread nD τ).loc main_arg0)) (m ((c : Thread nD τ).loc main_arg1)) (m ((c : Thread nD τ).loc main_arg2)) (m ((c : Thread nD τ).loc main_arg5)) := by
  refine (dats m hO 0 c).arrAt_eq_of_covers 8 _ (covers k (adm m hO) e).2.2.2 fun t _ y => ?_
  blk_simp
  rw [after0_8]
  rw [left m hO k e c t]
  exact point8 m hO k e c t y

/-- Every run from a table that names a slot ends with the reference's four results, the arguments unchanged. -/
theorem run_blocks (h : Cert.Pre_AdamDownIdeal m) (ρ : Dev nD → PrngReg) :
    θ_run defs (onTc (τ := τ) (main (F := Ideal))) ⟨m, fun _ => 0, ρ⟩ (fun r => ∀ c : Dev nD,
      r.2.mem ((c.tc : Thread nD τ).loc main_v0_0) = val_main_v8 (F := Ideal) (m ((c : Thread nD τ).loc main_arg0)) (m ((c : Thread nD τ).loc main_arg1)) (m ((c : Thread nD τ).loc main_arg2))
      ∧ r.2.mem ((c.tc : Thread nD τ).loc main_v0_1) = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v0_2) = val_main_v13 (F := Ideal) (m ((c : Thread nD τ).loc main_arg0)) (m ((c : Thread nD τ).loc main_arg1)) (m ((c : Thread nD τ).loc main_arg2)) (m ((c : Thread nD τ).loc main_arg4))
      ∧ r.2.mem ((c.tc : Thread nD τ).loc main_v0_3) = val_main_v19 (F := Ideal) (m ((c : Thread nD τ).loc main_arg0)) (m ((c : Thread nD τ).loc main_arg1)) (m ((c : Thread nD τ).loc main_arg2)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  obtain ⟨k, e⟩ := tbl_named m h
  have hO := ok_of_pre m h
  exact (θ_run defs _ _).mono (fun _ h c => ⟨((h.1 c).1 5).trans (final5 m hO k e c), ((h.1 c).1 6).trans (final6 m hO k e c), ((h.1 c).1 7).trans (final7 m hO k e c), ((h.1 c).1 8).trans (final8 m hO k e c), h.2 c⟩)
    (θ_run_and (run_main m ρ hO) (unchanged m ρ hO))

end Cert.AdamDownIdeal.Value

end
-- ==== Proof.Products.Halves.lean ====
module

public import proofs.«01_k».proof.Proof.Gen.HalvesIdeal.Frame
public import proofs.«01_k».proof.Proof.Gen.Halves.Frame
public import proofs.«01_k».proof.Proof.Gen.HalvesRefIdeal.Read
public import proofs.«01_k».proof.Proof.Gen.Pre_core_half
public import proofs.«01_k».proof.Defs
public import proofs.«01_k».proof.Proof.Products.Slot
public import Idealize.ShloMosaic.Lib.Pipeline.ValueKit

/-! The sum of the two cores' terms of the gradient of `w_in`: each block of one core's parts, of the eight the parts
with the core's number, is added to the block of the four parts received from the other core. -/

@[expose] public section

set_option maxRecDepth 16384

noncomputable section

namespace Cert.Halves.Value

open Cert.Halves Cert.Halves.Gen Idealize.ShloMosaic Idealize.ShloMosaic.TcCoe Idealize.SL.Sem

variable (m : (ℓ : Loc nD τ sig) → Buf (Elt Bits) ℓ)

set_option backward.proofsInPublic true in
/-- The table that names core `k`, beside the floats as the machine holds them. -/
def named (k : Fin 2) : pre0.Contents (Elt Bits) := fun | ⟨0, _⟩ => fun _ => BitVec.ofNat 32 k.val | ⟨_ + 1, h⟩ => absurd h (by simp)

/-- The precondition says that the table names a core. -/
theorem tbl_named (h : Cert.Pre_Halves m) : ∃ k, tbl m = named k := by
  have e := congrFun (h 0) (fun a => ⟨0, by revert a; decide⟩)
  simp only [Cert.Pre_core_half.fn, cmpi, andi, broadcastInDim, constantI, IntOp.cmpi] at e
  obtain ⟨e0, e1⟩ := Cert.Slot.both _ _ e
  obtain ⟨k, hk⟩ := Cert.Slot.word 2 (by decide) _ e0 e1
  refine ⟨k, ?_⟩
  funext j x
  match j with
  | ⟨0, _⟩ =>
    refine Eq.trans ?_ hk
    exact congrArg (m ((Dev.tc 0).loc main_arg0)) (funext fun a => Fin.ext (by revert a; decide +revert))

theorem ok (k : Fin 2) : ok0 (F := Bits) (named k) := by
  revert k; decide

/-- So the blocks it places lie in the array. -/
theorem ok_of_pre (h : Cert.Pre_Halves m) : Ok m := by
  obtain ⟨k, e⟩ := tbl_named m h
  show ok0 (tbl m)
  rw [e]; exact ok k

end Cert.Halves.Value

namespace Cert.HalvesIdeal.Value

open Cert.HalvesIdeal Cert.HalvesIdeal.Gen Idealize.ShloMosaic Idealize.ShloMosaic.TcCoe Idealize.SL.Sem
open Idealize.ShloMosaic.ValueIdx
open Cert.HalvesRefIdeal.Read

variable (m : (ℓ : Loc nD τ sig) → Buf (Elt Ideal) ℓ)

set_option backward.proofsInPublic true in
/-- The table that names core `k`. -/
def named (k : Fin 2) : pre0.Contents (Elt Ideal) := fun | ⟨0, _⟩ => fun _ => BitVec.ofNat 32 k.val | ⟨_ + 1, h⟩ => absurd h (by simp)

/-- The precondition says that the table names a core. -/
theorem tbl_named (h : Cert.Pre_HalvesIdeal m) : ∃ k, tbl m = named k := by
  have e := congrFun (h 0) (fun a => ⟨0, by revert a; decide⟩)
  simp only [Cert.Pre_core_half.fn, cmpi, andi, broadcastInDim, constantI, IntOp.cmpi] at e
  obtain ⟨e0, e1⟩ := Cert.Slot.both _ _ e
  obtain ⟨k, hk⟩ := Cert.Slot.word 2 (by decide) _ e0 e1
  refine ⟨k, ?_⟩
  funext j x
  match j with
  | ⟨0, _⟩ =>
    refine Eq.trans ?_ hk
    exact congrArg (m ((Dev.tc 0).loc main_arg0)) (funext fun a => Fin.ext (by revert a; decide +revert))

theorem ok (k : Fin 2) : ok0 (F := Ideal) (named k) := by
  revert k; decide

/-- So the blocks it places lie in the array. -/
theorem ok_of_pre (h : Cert.Pre_HalvesIdeal m) : Ok m := by
  obtain ⟨k, e⟩ := tbl_named m h
  show ok0 (tbl m)
  rw [e]; exact ok k

/-- The blocks the windows show at each grid point, for each core the table may name. -/
theorem idxs : ∀ (k : Fin 2) (t : Fin grid0.N),
    cc0_transform_0 (F := Ideal) inb_S1_S1_0 numel1_S1 (named k) (grid0.coords t) = ![2 * (t.val / 4) + k.val, t.val % 4, 0]
      ∧ cc0_transform_1 (grid0.coords t) = ![t.val / 4, t.val % 4, 0] ∧ cc0_transform_2 (grid0.coords t) = ![t.val / 4, t.val % 4, 0] := by
  decide +kernel

/-- The blocks the windows show at each grid point, when the table names core `k`. -/
theorem idx (k : Fin 2) (a : (pcfg0 (F := Ideal)).Adm) (e : a.1 = named k) (t : Fin (cfg0 a).N) :
    ((cfg0 a).win 0).index t = ![2 * (t.val / 4) + k.val, t.val % 4, 0] ∧ ((cfg0 a).win 1).index t = ![t.val / 4, t.val % 4, 0]
      ∧ ((cfg0 a).win 2).index t = ![t.val / 4, t.val % 4, 0] := by
  obtain ⟨p, hp⟩ := a
  obtain rfl : p = named k := e
  exact idxs k t

/-- The place in the result of an entry of its block. -/
abbrev place (hO : Ok m) (t : Fin (cfgM m hO).N) (y : S1x256x1155.Idx) : S4x1024x1155.Idx := (((cfgM m hO).win 2).blk t).view.emb y

/-- The reference reads the same word. -/
theorem word' (k : Fin 2) (e : tbl m = named k) (c : Dev nD) (i : S1.Idx) : m ((c : Thread nD τ).loc main_arg0) i = BitVec.ofNat 32 k.val := by
  obtain rfl : c = 0 := Subsingleton.elim _ _
  exact congrFun (congrFun e 0) i

/-- The part of core `k` at one of the four places. -/
abbrev half (k : Fin 2) (s : Fin 4) : Fin 8 := ⟨2 * s.val + k.val, by omega⟩

section
variable (c : Dev nD) (i : grid0.Coords) (arg3 : Memref sig .tc .vmem S1x256x1155 .bf16) (harg3 : arg3.IsWhole) (arg4 : Memref sig .tc .vmem S1x256x1155 .bf16) (harg4 : arg4.IsWhole) (arg5 : Memref sig .tc .vmem S1x256x1155 .bf16) (harg5 : arg5.IsWhole)
    (x0 : Vec Ideal S1x256x1155 .bf16) (x1 : Vec Ideal S1x256x1155 .bf16) (xt0 : TbBuf0 (F := Ideal) c tbM0_0)

/-- What a point leaves. -/
theorem out2 : out0_A_2 (F := Ideal) c i arg3 harg3 arg4 harg4 arg5 harg5 x0 x1 xt0 = k0_pay1 x0 x1 := by frame_out
end

/-- The core's block is that of its part. -/
theorem own (hO : Ok m) (k : Fin 2) (e : tbl m = named k) (c : Dev nD) (t : Fin (cfgM m hO).N) (y : S1x256x1155.Idx) :
    iblk m hO c 0 t y = m ((c : Thread nD τ).loc main_arg1) (Idealize.ShloMosaic.ix3 (half k (place m hO t y 0)) (place m hO t y 1) (place m hO t y 2)) := by
  blk_point [iblk, V, place, half, idx k (adm m hO) e t]

/-- The received block is the one at the block's place. -/
theorem other (hO : Ok m) (k : Fin 2) (e : tbl m = named k) (c : Dev nD) (t : Fin (cfgM m hO).N) (y : S1x256x1155.Idx) :
    iblk m hO c 1 t y = m ((c : Thread nD τ).loc main_arg2) (place m hO t y) := by
  blk_point [iblk, V, place, idx k (adm m hO) e t]

/-- The reference at an index: the core's part and the received one. -/
theorem ref (k : Fin 2) (x0 : (⟨S1, .i32⟩ : BufTy).Contents (Elt Ideal)) (h : ∀ i, x0 i = BitVec.ofNat 32 k.val)
    (x1 : (⟨S8x1024x1155, .bf16⟩ : BufTy).Contents (Elt Ideal)) (i : S4x1024x1155.Idx) :
    val_main_v4 (F := Ideal) x0 x1 i = x1 (Idealize.ShloMosaic.ix3 (half k (i 0)) (i 1) (i 2)) := by
  have e : val_main_v4 (F := Ideal) x0 x1 i = Scalar.select (IntOp.cmpi .eq (BitVec.ofNat 32 k.val) 1#32) (val_main_v2 (F := Ideal) x1 i) (val_main_v3 (F := Ideal) x1 i) := by
    show Scalar.select (IntOp.cmpi .eq (x0 _) 1#32) (val_main_v2 (F := Ideal) x1 i) (val_main_v3 (F := Ideal) x1 i) = _
    rw [h]
  rw [e]
  match k with
  | 0 => exact congrArg x1 (funext fun a => Fin.ext (by match a with | 0 => simp [Host.slice] | 1 => simp [Host.slice] | 2 => simp [Host.slice]))
  | 1 => exact congrArg x1 (funext fun a => Fin.ext (by match a with | 0 => simp [Host.slice]; omega | 1 => simp [Host.slice] | 2 => simp [Host.slice]))

/-- The sum a point forms at an entry of its block is the reference's at the block's place. -/
theorem point (hO : Ok m) (k : Fin 2) (e : tbl m = named k) (c : Dev nD) (t : Fin (cfgM m hO).N) (y : S1x256x1155.Idx) :
    k0_pay1 (F := Ideal) (iblk m hO c 0 t) (iblk m hO c 1 t) y
      = val_main_v8 (F := Ideal) (m ((c : Thread nD τ).loc main_arg0)) (m ((c : Thread nD τ).loc main_arg1)) (m ((c : Thread nD τ).loc main_arg2)) (place m hO t y) := by
  exact congrArg₂ (fun a b : EReal => a + b)
    ((own m hO k e c t y).trans (ref k _ (word' m k e c) (m ((c : Thread nD τ).loc main_arg1)) (place m hO t y)).symm) (other m hO k e c t y)

/-- The blocks written back cover the result, whichever core the table names. -/
theorem covers_named : ∀ k : Fin 2, ((cfg0 (F := Ideal) ⟨named k, ok k⟩).win 2).Covers := by
  decide +kernel

theorem covers (k : Fin 2) (a : (pcfg0 (F := Ideal)).Adm) (e : a.1 = named k) : ((cfg0 a).win 2).Covers := by
  obtain ⟨p, hp⟩ := a
  obtain rfl : p = named k := e
  exact covers_named k

/-- The result after the run. -/
theorem final2 (hO : Ok m) (k : Fin 2) (e : tbl m = named k) (c : Dev nD) : (dats m hO 0 c).arrAt 2 (cfgM m hO).N = val_main_v8 (F := Ideal) (m ((c : Thread nD τ).loc main_arg0)) (m ((c : Thread nD τ).loc main_arg1)) (m ((c : Thread nD τ).loc main_arg2)) := by
  refine (dats m hO 0 c).arrAt_eq_of_covers 2 _ (covers k (adm m hO) e) fun t _ y => ?_
  blk_simp
  rw [after0_2]
  rw [show outsAt0 m hO c t = k0_pay1 (F := Ideal) (iblk m hO c 0 t) (iblk m hO c 1 t) from out2 ..]
  exact point m hO k e c t y

/-- Every run from a table that names a core ends with the reference's result, the arguments unchanged. -/
theorem run_blocks (h : Cert.Pre_HalvesIdeal m) (ρ : Dev nD → PrngReg) :
    θ_run defs (onTc (τ := τ) (main (F := Ideal))) ⟨m, fun _ => 0, ρ⟩ (fun r => ∀ c : Dev nD,
      r.2.mem ((c.tc : Thread nD τ).loc main_v0) = val_main_v8 (F := Ideal) (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  obtain ⟨k, e⟩ := tbl_named m h
  have hO := ok_of_pre m h
  exact (θ_run defs _ _).mono (fun _ h c => ⟨((h.1 c).1 2).trans (final2 m hO k e c), h.2 c⟩)
    (θ_run_and (run_main m ρ hO) (unchanged m ρ hO))

end Cert.HalvesIdeal.Value

end
-- ==== Proof.lean ====
module

public import proofs.«01_k».proof.Defs
public import proofs.«01_k».proof.Proof.Gen.ReferenceIdeal.Read
public import proofs.«01_k».proof.Proof.Fox.KernelFrame
public import proofs.«01_k».proof.Proof.Fox.KernelIdealFrame
public import proofs.«01_k».proof.Proof.Gen.Dw.Frame
public import proofs.«01_k».proof.Proof.Products.Dw
public import proofs.«01_k».proof.Proof.Gen.Dx.Frame
public import proofs.«01_k».proof.Proof.Products.Dx
public import proofs.«01_k».proof.Proof.Gen.Dup.Frame
public import proofs.«01_k».proof.Proof.Products.Dup
public import proofs.«01_k».proof.Proof.Gen.DwUp.Frame
public import proofs.«01_k».proof.Proof.Products.DwUp
public import proofs.«01_k».proof.Proof.Gen.DwDown.Frame
public import proofs.«01_k».proof.Proof.Products.DwDown
public import proofs.«01_k».proof.Proof.Gen.Dhn.Frame
public import proofs.«01_k».proof.Proof.Products.Dhn
public import proofs.«01_k».proof.Proof.Products.Du
public import proofs.«01_k».proof.Proof.Products.DuFrame
public import proofs.«01_k».proof.Proof.Gen.DwOb.Frame
public import proofs.«01_k».proof.Proof.Products.DwOb
public import proofs.«01_k».proof.Proof.Gen.DwSmall.Frame
public import proofs.«01_k».proof.Proof.Products.DwSmall
public import proofs.«01_k».proof.Proof.Gen.ProjGdn.Frame
public import proofs.«01_k».proof.Proof.Products.ProjGdn
public import proofs.«01_k».proof.Proof.Gen.ProjFox.Frame
public import proofs.«01_k».proof.Proof.Products.ProjFox
public import proofs.«01_k».proof.Proof.Gen.ProjGate.Frame
public import proofs.«01_k».proof.Proof.Products.ProjGate
public import proofs.«01_k».proof.Proof.Gen.ProjSmall.Frame
public import proofs.«01_k».proof.Proof.Products.ProjSmall
public import proofs.«01_k».proof.Proof.Gen.ProjA.Frame
public import proofs.«01_k».proof.Proof.Products.ProjA
public import proofs.«01_k».proof.Proof.Gen.ProjB.Frame
public import proofs.«01_k».proof.Proof.Products.ProjB
public import proofs.«01_k».proof.Proof.Gen.ProjOut.Frame
public import proofs.«01_k».proof.Proof.Products.ProjOut
public import proofs.«01_k».proof.Proof.Gen.MlpUp.Frame
public import proofs.«01_k».proof.Proof.Products.MlpUp
public import proofs.«01_k».proof.Proof.Gen.MlpDown.Frame
public import proofs.«01_k».proof.Proof.Products.MlpDown
public import proofs.«01_k».proof.Proof.Gen.RmsFwd.Frame
public import proofs.«01_k».proof.Proof.Products.RmsFwd
public import proofs.«01_k».proof.Proof.Gen.RmsBwd.Frame
public import proofs.«01_k».proof.Proof.Products.RmsBwd
public import proofs.«01_k».proof.Proof.Gen.Merge.Frame
public import proofs.«01_k».proof.Proof.Products.Merge
public import proofs.«01_k».proof.Proof.Gen.Dmerge.Frame
public import proofs.«01_k».proof.Proof.Products.Dmerge
public import proofs.«01_k».proof.Proof.Gen.Loss.Frame
public import proofs.«01_k».proof.Proof.Products.Loss
public import proofs.«01_k».proof.Proof.Gen.Adam.Frame
public import proofs.«01_k».proof.Proof.Products.Adam
public import proofs.«01_k».proof.Proof.Gen.ToBf16.Frame
public import proofs.«01_k».proof.Proof.Products.ToBf16
public import proofs.«01_k».proof.Proof.Gen.Pieces.Frame
public import proofs.«01_k».proof.Proof.Products.Pieces
public import proofs.«01_k».proof.Proof.Gen.Shards.Frame
public import proofs.«01_k».proof.Proof.Products.Shards
public import proofs.«01_k».proof.Proof.Products.AdamIn
public import proofs.«01_k».proof.Proof.Products.AdamProj
public import proofs.«01_k».proof.Proof.Products.AdamUp
public import proofs.«01_k».proof.Proof.Products.AdamDown
public import proofs.«01_k».proof.Proof.Products.Halves
public import Idealize.ShloMosaic.Lib.Quiescent

/-! The claims: the frames of the gradient of forgetting attention, and for each other call of the step its frames and
its value, that of the plain reference. -/

@[expose] public section

noncomputable section

namespace Cert.Proof

open Idealize.ShloMosaic Idealize.SL.Sem

/-- The gradients of the input projections, and of the three output projections, with respect to their weights. -/
theorem equal_Dw : algebraic_DwIdeal_DwRefIdeal := fun m g m' g' _ hargs =>
  ⟨fun c => DwRefIdeal.Read.val_main_v6 (F := Ideal) (m ((c.tc : Thread _ _).loc DwIdeal.main_arg0)) (m ((c.tc : Thread _ _).loc DwIdeal.main_arg1)),
    (θ_run _ _ _).mono (fun _ h c => ⟨(h c).1.trans (DwIdeal.Value.final m c), (h c).2⟩) (DwIdeal.Value.run_blocks m g),
    (θ_run _ _ _).mono (fun _ h c => ⟨(h c).1.trans (by obtain ⟨h0, h1⟩ := hargs c; rw [h0, h1]; rfl), (h c).2⟩)
      (DwRefIdeal.Value.run (F := Ideal) m' g')⟩

/-- The gradients of the three output projections with respect to their inputs. -/
theorem equal_Dx : algebraic_DxIdeal_DxRefIdeal := fun m g m' g' _ hargs =>
  ⟨fun c => DxRefIdeal.Read.val_main_v4 (F := Ideal) (m ((c.tc : Thread _ _).loc DxIdeal.main_arg0)) (m ((c.tc : Thread _ _).loc DxIdeal.main_arg1)),
    (θ_run _ _ _).mono (fun _ h c => ⟨(h c).1.trans (DxIdeal.Value.final m c), (h c).2⟩) (DxIdeal.Value.run_blocks m g),
    (θ_run _ _ _).mono (fun _ h c => ⟨(h c).1.trans (by obtain ⟨h0, h1⟩ := hargs c; rw [h0, h1]; rfl), (h c).2⟩)
      (DxRefIdeal.Value.run (F := Ideal) m' g')⟩

/-- The gradient of the MLP with respect to its pre-activation. -/
theorem equal_Dup : algebraic_DupIdeal_DupRefIdeal := fun m g m' g' _ hargs =>
  ⟨fun c => DupRefIdeal.Read.val_main_v15 (F := Ideal) (m ((c.tc : Thread _ _).loc DupIdeal.main_arg0)) (m ((c.tc : Thread _ _).loc DupIdeal.main_arg1)) (m ((c.tc : Thread _ _).loc DupIdeal.main_arg2)),
    (θ_run _ _ _).mono (fun _ h c => ⟨(h c).1.trans (DupIdeal.Value.final m c), (h c).2⟩) (DupIdeal.Value.run_blocks m g),
    (θ_run _ _ _).mono (fun _ h c => ⟨(h c).1.trans (by obtain ⟨h0, h1, h2⟩ := hargs c; rw [h0, h1, h2]; rfl), (h c).2⟩)
      (DupRefIdeal.Value.run (F := Ideal) m' g')⟩

/-- The gradient of the MLP's up projection with respect to its weight. -/
theorem equal_DwUp : algebraic_DwUpIdeal_DwUpRefIdeal := fun m g m' g' _ hargs =>
  ⟨fun c => DwUpRefIdeal.Read.val_main_v6 (F := Ideal) (m ((c.tc : Thread _ _).loc DwUpIdeal.main_arg0)) (m ((c.tc : Thread _ _).loc DwUpIdeal.main_arg1)),
    (θ_run _ _ _).mono (fun _ h c => ⟨(h c).1.trans (DwUpIdeal.Value.final m c), (h c).2⟩) (DwUpIdeal.Value.run_blocks m g),
    (θ_run _ _ _).mono (fun _ h c => ⟨(h c).1.trans (by obtain ⟨h0, h1⟩ := hargs c; rw [h0, h1]; rfl), (h c).2⟩)
      (DwUpRefIdeal.Value.run (F := Ideal) m' g')⟩

/-- The gradient of the MLP's down projection with respect to its weight. -/
theorem equal_DwDown : algebraic_DwDownIdeal_DwDownRefIdeal := fun m g m' g' _ hargs =>
  ⟨fun c => DwDownRefIdeal.Read.val_main_v6 (F := Ideal) (m ((c.tc : Thread _ _).loc DwDownIdeal.main_arg0)) (m ((c.tc : Thread _ _).loc DwDownIdeal.main_arg1)),
    (θ_run _ _ _).mono (fun _ h c => ⟨(h c).1.trans (DwDownIdeal.Value.final m c), (h c).2⟩) (DwDownIdeal.Value.run_blocks m g),
    (θ_run _ _ _).mono (fun _ h c => ⟨(h c).1.trans (by obtain ⟨h0, h1⟩ := hargs c; rw [h0, h1]; rfl), (h c).2⟩)
      (DwDownRefIdeal.Value.run (F := Ideal) m' g')⟩

/-- The gradient of the MLP's up projection with respect to its input. -/
theorem equal_Dhn : algebraic_DhnIdeal_DhnRefIdeal := fun m g m' g' _ hargs =>
  ⟨fun c => DhnRefIdeal.Read.val_main_v4 (F := Ideal) (m ((c.tc : Thread _ _).loc DhnIdeal.main_arg0)) (m ((c.tc : Thread _ _).loc DhnIdeal.main_arg1)),
    (θ_run _ _ _).mono (fun _ h c => ⟨(h c).1.trans (DhnIdeal.Value.final m c), (h c).2⟩) (DhnIdeal.Value.run_blocks m g),
    (θ_run _ _ _).mono (fun _ h c => ⟨(h c).1.trans (by obtain ⟨h0, h1⟩ := hargs c; rw [h0, h1]; rfl), (h c).2⟩)
      (DhnRefIdeal.Value.run (F := Ideal) m' g')⟩

/-- The gradient of the input projections with respect to their common input. -/
theorem equal_Du : algebraic_DuIdeal_DuRefIdeal := fun m g m' g' _ hargs =>
  ⟨fun c => DuRefIdeal.Read.val_main_v27 (F := Ideal) (m ((c.tc : Thread _ _).loc DuIdeal.main_arg0)) (m ((c.tc : Thread _ _).loc DuIdeal.main_arg1)) (m ((c.tc : Thread _ _).loc DuIdeal.main_arg2)) (m ((c.tc : Thread _ _).loc DuIdeal.main_arg3)) (m ((c.tc : Thread _ _).loc DuIdeal.main_arg4)) (m ((c.tc : Thread _ _).loc DuIdeal.main_arg5)) (m ((c.tc : Thread _ _).loc DuIdeal.main_arg6)) (m ((c.tc : Thread _ _).loc DuIdeal.main_arg7)) (m ((c.tc : Thread _ _).loc DuIdeal.main_arg8)) (m ((c.tc : Thread _ _).loc DuIdeal.main_arg9)) (m ((c.tc : Thread _ _).loc DuIdeal.main_arg10)) (m ((c.tc : Thread _ _).loc DuIdeal.main_arg11)) (m ((c.tc : Thread _ _).loc DuIdeal.main_arg12)) (m ((c.tc : Thread _ _).loc DuIdeal.main_arg13)),
    (θ_run _ _ _).mono (fun _ h c => ⟨(h c).1, (h c).2⟩) (DuIdeal.Value.run_blocks m g),
    (θ_run _ _ _).mono (fun _ h c => ⟨(h c).1.trans (by obtain ⟨h0, h1, h2, h3, h4, h5, h6, h7, h8, h9, h10, h11, h12, h13⟩ := hargs c; rw [h0, h1, h2, h3, h4, h5, h6, h7, h8, h9, h10, h11, h12, h13]; rfl), (h c).2⟩)
      (DuRefIdeal.Value.run (F := Ideal) m' g')⟩

/-- The gradient of the second output projection with respect to its weight; its input is not rounded to bf16 before. -/
theorem equal_DwOb : algebraic_DwObIdeal_DwObRefIdeal := fun m g m' g' _ hargs =>
  ⟨fun c => DwObRefIdeal.Read.val_main_v5 (F := Ideal) (m ((c.tc : Thread _ _).loc DwObIdeal.main_arg0)) (m ((c.tc : Thread _ _).loc DwObIdeal.main_arg1)),
    (θ_run _ _ _).mono (fun _ h c => ⟨(h c).1.trans (DwObIdeal.Value.final m c), (h c).2⟩) (DwObIdeal.Value.run_blocks m g),
    (θ_run _ _ _).mono (fun _ h c => ⟨(h c).1.trans (by obtain ⟨h0, h1⟩ := hargs c; rw [h0, h1]; rfl), (h c).2⟩)
      (DwObRefIdeal.Value.run (F := Ideal) m' g')⟩

/-- The gradient of the narrow input projection (the decay, step and forget columns) with respect to its weight. -/
theorem equal_DwSmall : algebraic_DwSmallIdeal_DwSmallRefIdeal := fun m g m' g' _ hargs =>
  ⟨fun c => DwSmallRefIdeal.Read.val_main_v5 (F := Ideal) (m ((c.tc : Thread _ _).loc DwSmallIdeal.main_arg0)) (m ((c.tc : Thread _ _).loc DwSmallIdeal.main_arg1)),
    (θ_run _ _ _).mono (fun _ h c => ⟨(h c).1.trans (DwSmallIdeal.Value.final m c), (h c).2⟩) (DwSmallIdeal.Value.run_blocks m g),
    (θ_run _ _ _).mono (fun _ h c => ⟨(h c).1.trans (by obtain ⟨h0, h1⟩ := hargs c; rw [h0, h1]; rfl), (h c).2⟩)
      (DwSmallRefIdeal.Value.run (F := Ideal) m' g')⟩

/-- The input projection onto the columns of the gated delta rule. -/
theorem equal_ProjGdn : algebraic_ProjGdnIdeal_ProjGdnRefIdeal := fun m g m' g' _ hargs =>
  ⟨fun c => ProjGdnRefIdeal.Read.val_main_v2 (F := Ideal) (m ((c.tc : Thread _ _).loc ProjGdnIdeal.main_arg0)) (m ((c.tc : Thread _ _).loc ProjGdnIdeal.main_arg1)),
    (θ_run _ _ _).mono (fun _ h c => ⟨(h c).1.trans (ProjGdnIdeal.Value.final m c), (h c).2⟩) (ProjGdnIdeal.Value.run_blocks m g),
    (θ_run _ _ _).mono (fun _ h c => ⟨(h c).1.trans (by obtain ⟨h0, h1⟩ := hargs c; rw [h0, h1]; rfl), (h c).2⟩)
      (ProjGdnRefIdeal.Value.run (F := Ideal) m' g')⟩

/-- The input projection onto the columns of forgetting attention. -/
theorem equal_ProjFox : algebraic_ProjFoxIdeal_ProjFoxRefIdeal := fun m g m' g' _ hargs =>
  ⟨fun c => ProjFoxRefIdeal.Read.val_main_v2 (F := Ideal) (m ((c.tc : Thread _ _).loc ProjFoxIdeal.main_arg0)) (m ((c.tc : Thread _ _).loc ProjFoxIdeal.main_arg1)),
    (θ_run _ _ _).mono (fun _ h c => ⟨(h c).1.trans (ProjFoxIdeal.Value.final m c), (h c).2⟩) (ProjFoxIdeal.Value.run_blocks m g),
    (θ_run _ _ _).mono (fun _ h c => ⟨(h c).1.trans (by obtain ⟨h0, h1⟩ := hargs c; rw [h0, h1]; rfl), (h c).2⟩)
      (ProjFoxRefIdeal.Value.run (F := Ideal) m' g')⟩

/-- The input projection onto the columns of the two gates. -/
theorem equal_ProjGate : algebraic_ProjGateIdeal_ProjGateRefIdeal := fun m g m' g' _ hargs =>
  ⟨fun c => ProjGateRefIdeal.Read.val_main_v2 (F := Ideal) (m ((c.tc : Thread _ _).loc ProjGateIdeal.main_arg0)) (m ((c.tc : Thread _ _).loc ProjGateIdeal.main_arg1)),
    (θ_run _ _ _).mono (fun _ h c => ⟨(h c).1.trans (ProjGateIdeal.Value.final m c), (h c).2⟩) (ProjGateIdeal.Value.run_blocks m g),
    (θ_run _ _ _).mono (fun _ h c => ⟨(h c).1.trans (by obtain ⟨h0, h1⟩ := hargs c; rw [h0, h1]; rfl), (h c).2⟩)
      (ProjGateRefIdeal.Value.run (F := Ideal) m' g')⟩

/-- The narrow input projection. -/
theorem equal_ProjSmall : algebraic_ProjSmallIdeal_ProjSmallRefIdeal := fun m g m' g' _ hargs =>
  ⟨fun c => ProjSmallRefIdeal.Read.val_main_v2 (F := Ideal) (m ((c.tc : Thread _ _).loc ProjSmallIdeal.main_arg0)) (m ((c.tc : Thread _ _).loc ProjSmallIdeal.main_arg1)),
    (θ_run _ _ _).mono (fun _ h c => ⟨(h c).1.trans (ProjSmallIdeal.Value.final m c), (h c).2⟩) (ProjSmallIdeal.Value.run_blocks m g),
    (θ_run _ _ _).mono (fun _ h c => ⟨(h c).1.trans (by obtain ⟨h0, h1⟩ := hargs c; rw [h0, h1]; rfl), (h c).2⟩)
      (ProjSmallRefIdeal.Value.run (F := Ideal) m' g')⟩

/-- The output projection of the gated delta rule. -/
theorem equal_ProjA : algebraic_ProjAIdeal_ProjARefIdeal := fun m g m' g' _ hargs =>
  ⟨fun c => ProjARefIdeal.Read.val_main_v2 (F := Ideal) (m ((c.tc : Thread _ _).loc ProjAIdeal.main_arg0)) (m ((c.tc : Thread _ _).loc ProjAIdeal.main_arg1)),
    (θ_run _ _ _).mono (fun _ h c => ⟨(h c).1.trans (ProjAIdeal.Value.final m c), (h c).2⟩) (ProjAIdeal.Value.run_blocks m g),
    (θ_run _ _ _).mono (fun _ h c => ⟨(h c).1.trans (by obtain ⟨h0, h1⟩ := hargs c; rw [h0, h1]; rfl), (h c).2⟩)
      (ProjARefIdeal.Value.run (F := Ideal) m' g')⟩

/-- The output projection of forgetting attention. -/
theorem equal_ProjB : algebraic_ProjBIdeal_ProjBRefIdeal := fun m g m' g' _ hargs =>
  ⟨fun c => ProjBRefIdeal.Read.val_main_v1 (F := Ideal) (m ((c.tc : Thread _ _).loc ProjBIdeal.main_arg0)) (m ((c.tc : Thread _ _).loc ProjBIdeal.main_arg1)),
    (θ_run _ _ _).mono (fun _ h c => ⟨(h c).1.trans (ProjBIdeal.Value.final m c), (h c).2⟩) (ProjBIdeal.Value.run_blocks m g),
    (θ_run _ _ _).mono (fun _ h c => ⟨(h c).1.trans (by obtain ⟨h0, h1⟩ := hargs c; rw [h0, h1]; rfl), (h c).2⟩)
      (ProjBRefIdeal.Value.run (F := Ideal) m' g')⟩

/-- The output projection of the mixer, added to the residual. -/
theorem equal_ProjOut : algebraic_ProjOutIdeal_ProjOutRefIdeal := fun m g m' g' _ hargs =>
  ⟨fun c => ProjOutRefIdeal.Read.val_main_v3 (F := Ideal) (m ((c.tc : Thread _ _).loc ProjOutIdeal.main_arg0)) (m ((c.tc : Thread _ _).loc ProjOutIdeal.main_arg1)) (m ((c.tc : Thread _ _).loc ProjOutIdeal.main_arg2)),
    (θ_run _ _ _).mono (fun _ h c => ⟨(h c).1.trans (ProjOutIdeal.Value.final m c), (h c).2⟩) (ProjOutIdeal.Value.run_blocks m g),
    (θ_run _ _ _).mono (fun _ h c => ⟨(h c).1.trans (by obtain ⟨h0, h1, h2⟩ := hargs c; rw [h0, h1, h2]; rfl), (h c).2⟩)
      (ProjOutRefIdeal.Value.run (F := Ideal) m' g')⟩

/-- The MLP's up projection, and its activation. -/
theorem equal_MlpUp : algebraic_MlpUpIdeal_MlpUpRefIdeal := fun m g m' g' _ hargs =>
  ⟨fun c => MlpUpRefIdeal.Read.val_main_v3 (F := Ideal) (m ((c.tc : Thread _ _).loc MlpUpIdeal.main_arg0)) (m ((c.tc : Thread _ _).loc MlpUpIdeal.main_arg1)),
    fun c => MlpUpRefIdeal.Read.val_main_v6 (F := Ideal) (m ((c.tc : Thread _ _).loc MlpUpIdeal.main_arg0)) (m ((c.tc : Thread _ _).loc MlpUpIdeal.main_arg1)),
    (θ_run _ _ _).mono (fun _ h c => ⟨(h c).1.trans (MlpUpIdeal.Value.final0 m c), (h c).2.1.trans (MlpUpIdeal.Value.final1 m c), (h c).2.2⟩) (MlpUpIdeal.Value.run_blocks m g),
    (θ_run _ _ _).mono (fun _ h c => ⟨(h c).1.trans (by obtain ⟨h0, h1⟩ := hargs c; rw [h0, h1]; rfl),
      (h c).2.1.trans (by obtain ⟨h0, h1⟩ := hargs c; rw [h0, h1]; rfl), (h c).2.2⟩)
      (MlpUpRefIdeal.Value.run (F := Ideal) m' g')⟩

/-- The MLP's down projection, added to the residual. -/
theorem equal_MlpDown : algebraic_MlpDownIdeal_MlpDownRefIdeal := fun m g m' g' _ hargs =>
  ⟨fun c => MlpDownRefIdeal.Read.val_main_v3 (F := Ideal) (m ((c.tc : Thread _ _).loc MlpDownIdeal.main_arg0)) (m ((c.tc : Thread _ _).loc MlpDownIdeal.main_arg1)) (m ((c.tc : Thread _ _).loc MlpDownIdeal.main_arg2)),
    (θ_run _ _ _).mono (fun _ h c => ⟨(h c).1.trans (MlpDownIdeal.Value.final m c), (h c).2⟩) (MlpDownIdeal.Value.run_blocks m g),
    (θ_run _ _ _).mono (fun _ h c => ⟨(h c).1.trans (by obtain ⟨h0, h1, h2⟩ := hargs c; rw [h0, h1, h2]; rfl), (h c).2⟩)
      (MlpDownRefIdeal.Value.run (F := Ideal) m' g')⟩

/-- The RMS normalisation. -/
theorem equal_RmsFwd : algebraic_RmsFwdIdeal_RmsFwdRefIdeal := fun m g m' g' _ hargs =>
  ⟨fun c => RmsFwdRefIdeal.Read.val_main_v14 (F := Ideal) (m ((c.tc : Thread _ _).loc RmsFwdIdeal.main_arg0)) (m ((c.tc : Thread _ _).loc RmsFwdIdeal.main_arg1)),
    (θ_run _ _ _).mono (fun _ h c => ⟨(h c).1.trans (RmsFwdIdeal.Value.final m c), (h c).2⟩) (RmsFwdIdeal.Value.run_blocks m g),
    (θ_run _ _ _).mono (fun _ h c => ⟨(h c).1.trans (by obtain ⟨h0, h1⟩ := hargs c; rw [h0, h1]; rfl), (h c).2⟩)
      (RmsFwdRefIdeal.Value.run (F := Ideal) m' g')⟩

/-- The gradients of the RMS normalisation, with respect to its input and its gain. -/
theorem equal_RmsBwd : algebraic_RmsBwdIdeal_RmsBwdRefIdeal := fun m g m' g' _ hargs =>
  ⟨fun c => RmsBwdRefIdeal.Read.val_main_v38 (F := Ideal) (m ((c.tc : Thread _ _).loc RmsBwdIdeal.main_arg0)) (m ((c.tc : Thread _ _).loc RmsBwdIdeal.main_arg1)) (m ((c.tc : Thread _ _).loc RmsBwdIdeal.main_arg2)) (m ((c.tc : Thread _ _).loc RmsBwdIdeal.main_arg3)),
    fun c => RmsBwdRefIdeal.Read.val_main_v40 (F := Ideal) (m ((c.tc : Thread _ _).loc RmsBwdIdeal.main_arg0)) (m ((c.tc : Thread _ _).loc RmsBwdIdeal.main_arg1)) (m ((c.tc : Thread _ _).loc RmsBwdIdeal.main_arg2)) (m ((c.tc : Thread _ _).loc RmsBwdIdeal.main_arg3)),
    fun c => RmsBwdRefIdeal.Read.val_main_v23 (F := Ideal) (m ((c.tc : Thread _ _).loc RmsBwdIdeal.main_arg0)) (m ((c.tc : Thread _ _).loc RmsBwdIdeal.main_arg1)),
    (θ_run _ _ _).mono (fun _ h c => ⟨(h c).1.trans (RmsBwdIdeal.Value.final0 m c), (h c).2.1.trans (RmsBwdIdeal.Value.final1 m c), (h c).2.2.1.trans (RmsBwdIdeal.Value.final2 m c), (h c).2.2.2⟩) (RmsBwdIdeal.Value.run_blocks m g),
    (θ_run _ _ _).mono (fun _ h c => ⟨(h c).1.trans (by obtain ⟨h0, h1, h2, h3⟩ := hargs c; refine (RmsBwdRefIdeal.Read.val_main_v38_eq m' c).trans ?_; rw [h0, h1, h2, h3]),
      (h c).2.1.trans (by obtain ⟨h0, h1, h2, h3⟩ := hargs c; refine (RmsBwdRefIdeal.Read.val_main_v40_eq m' c).trans ?_; rw [h0, h1, h2, h3]),
      (h c).2.2.1.trans (by obtain ⟨h0, h1, h2, h3⟩ := hargs c; rw [h0, h1]; rfl), (h c).2.2.2⟩)
      (RmsBwdRefIdeal.Value.run (F := Ideal) m' g')⟩

/-- The gated merge of the two mixers. -/
theorem equal_Merge : algebraic_MergeIdeal_MergeRefIdeal := fun m g m' g' _ hargs =>
  ⟨fun c => MergeRefIdeal.Read.val_main_v17 (F := Ideal) (m ((c.tc : Thread _ _).loc MergeIdeal.main_arg0)) (m ((c.tc : Thread _ _).loc MergeIdeal.main_arg1)) (m ((c.tc : Thread _ _).loc MergeIdeal.main_arg2)),
    (θ_run _ _ _).mono (fun _ h c => ⟨(h c).1.trans (MergeIdeal.Value.final m c), (h c).2⟩) (MergeIdeal.Value.run_blocks m g),
    (θ_run _ _ _).mono (fun _ h c => ⟨(h c).1.trans (by obtain ⟨h0, h1, h2⟩ := hargs c; rw [h0, h1, h2]; rfl), (h c).2⟩)
      (MergeRefIdeal.Value.run (F := Ideal) m' g')⟩

/-- The gradients of the gated merge, with respect to the two mixers and the two gates. -/
theorem equal_Dmerge : algebraic_DmergeIdeal_DmergeRefIdeal := fun m g m' g' _ hargs =>
  ⟨fun c => DmergeRefIdeal.Read.val_main_v34 (F := Ideal) (m ((c.tc : Thread _ _).loc DmergeIdeal.main_arg0)) (m ((c.tc : Thread _ _).loc DmergeIdeal.main_arg3)),
    fun c => DmergeRefIdeal.Read.val_main_v35 (F := Ideal) (m ((c.tc : Thread _ _).loc DmergeIdeal.main_arg0)) (m ((c.tc : Thread _ _).loc DmergeIdeal.main_arg3)),
    fun c => DmergeRefIdeal.Read.val_main_v37 (F := Ideal) (m ((c.tc : Thread _ _).loc DmergeIdeal.main_arg0)) (m ((c.tc : Thread _ _).loc DmergeIdeal.main_arg1)) (m ((c.tc : Thread _ _).loc DmergeIdeal.main_arg2)) (m ((c.tc : Thread _ _).loc DmergeIdeal.main_arg3)),
    fun c => DmergeRefIdeal.Read.val_main_v39 (F := Ideal) (m ((c.tc : Thread _ _).loc DmergeIdeal.main_arg0)) (m ((c.tc : Thread _ _).loc DmergeIdeal.main_arg1)) (m ((c.tc : Thread _ _).loc DmergeIdeal.main_arg2)) (m ((c.tc : Thread _ _).loc DmergeIdeal.main_arg3)),
    (θ_run _ _ _).mono (fun _ h c => ⟨(h c).1.trans (DmergeIdeal.Value.final0 m c), (h c).2.1.trans (DmergeIdeal.Value.final1 m c), (h c).2.2.1.trans (DmergeIdeal.Value.final2 m c), (h c).2.2.2.1.trans (DmergeIdeal.Value.final3 m c), (h c).2.2.2.2⟩) (DmergeIdeal.Value.run_blocks m g),
    (θ_run _ _ _).mono (fun _ h c => ⟨(h c).1.trans (by obtain ⟨h0, h1, h2, h3⟩ := hargs c; rw [h0, h3]; rfl),
      (h c).2.1.trans (by obtain ⟨h0, h1, h2, h3⟩ := hargs c; rw [h0, h3]; rfl),
      (h c).2.2.1.trans (by obtain ⟨h0, h1, h2, h3⟩ := hargs c; rw [h0, h1, h2, h3]; rfl),
      (h c).2.2.2.1.trans (by obtain ⟨h0, h1, h2, h3⟩ := hargs c; rw [h0, h1, h2, h3]; rfl), (h c).2.2.2.2⟩)
      (DmergeRefIdeal.Value.run (F := Ideal) m' g')⟩

/-- The loss, and its gradient. -/
theorem equal_Loss : algebraic_LossIdeal_LossRefIdeal := fun m g m' g' _ hargs =>
  ⟨fun c => LossRefIdeal.Read.val_main_v14 (F := Ideal) (m ((c.tc : Thread _ _).loc LossIdeal.main_arg0)) (m ((c.tc : Thread _ _).loc LossIdeal.main_arg1)),
    fun c => LossRefIdeal.Read.val_main_v15 (F := Ideal) (m ((c.tc : Thread _ _).loc LossIdeal.main_arg0)) (m ((c.tc : Thread _ _).loc LossIdeal.main_arg1)),
    fun c => LossRefIdeal.Read.val_main_v16 (F := Ideal) (m ((c.tc : Thread _ _).loc LossIdeal.main_arg0)) (m ((c.tc : Thread _ _).loc LossIdeal.main_arg1)),
    (θ_run _ _ _).mono (fun _ h c => ⟨(h c).1.trans (LossIdeal.Value.final0 m c), (h c).2.1.trans (LossIdeal.Value.final1 m c), (h c).2.2.1.trans (LossIdeal.Value.final2 m c), (h c).2.2.2⟩) (LossIdeal.Value.run_blocks m g),
    (θ_run _ _ _).mono (fun _ h c => ⟨(h c).1.trans (by obtain ⟨h0, h1⟩ := hargs c; rw [h0, h1]; rfl),
      (h c).2.1.trans (by obtain ⟨h0, h1⟩ := hargs c; rw [h0, h1]; rfl),
      (h c).2.2.1.trans (by obtain ⟨h0, h1⟩ := hargs c; rw [h0, h1]; rfl), (h c).2.2.2⟩)
      (LossRefIdeal.Value.run (F := Ideal) m' g')⟩

/-- The AdamW step of the small weights. -/
theorem equal_Adam : algebraic_AdamIdeal_AdamRefIdeal := fun m g m' g' _ hargs =>
  ⟨fun c => AdamRefIdeal.Read.val_main_v23 (F := Ideal) (m ((c.tc : Thread _ _).loc AdamIdeal.main_arg0)) (m ((c.tc : Thread _ _).loc AdamIdeal.main_arg1)) (m ((c.tc : Thread _ _).loc AdamIdeal.main_arg2)) (m ((c.tc : Thread _ _).loc AdamIdeal.main_arg3)),
    fun c => AdamRefIdeal.Read.val_main_v4 (F := Ideal) (m ((c.tc : Thread _ _).loc AdamIdeal.main_arg0)) (m ((c.tc : Thread _ _).loc AdamIdeal.main_arg2)),
    fun c => AdamRefIdeal.Read.val_main_v10 (F := Ideal) (m ((c.tc : Thread _ _).loc AdamIdeal.main_arg0)) (m ((c.tc : Thread _ _).loc AdamIdeal.main_arg3)),
    (θ_run _ _ _).mono (fun _ h c => ⟨(h c).1.trans (AdamIdeal.Value.final0 m c), (h c).2.1.trans (AdamIdeal.Value.final1 m c), (h c).2.2.1.trans (AdamIdeal.Value.final2 m c), (h c).2.2.2⟩) (AdamIdeal.Value.run_blocks m g),
    (θ_run _ _ _).mono (fun _ h c => ⟨(h c).1.trans (by obtain ⟨h0, h1, h2, h3⟩ := hargs c; rw [h0, h1, h2, h3]; rfl),
      (h c).2.1.trans (by obtain ⟨h0, h1, h2, h3⟩ := hargs c; rw [h0, h2]; rfl),
      (h c).2.2.1.trans (by obtain ⟨h0, h1, h2, h3⟩ := hargs c; rw [h0, h3]; rfl), (h c).2.2.2⟩)
      (AdamRefIdeal.Value.run (F := Ideal) m' g')⟩

/-- The weights rounded to bf16. -/
theorem equal_ToBf16 : algebraic_ToBf16Ideal_ToBf16RefIdeal := fun m g m' g' _ hargs =>
  ⟨fun c => ToBf16RefIdeal.Read.val_main_v0 (F := Ideal) (m ((c.tc : Thread _ _).loc ToBf16Ideal.main_arg0)),
    fun c => ToBf16RefIdeal.Read.val_main_v1 (F := Ideal) (m ((c.tc : Thread _ _).loc ToBf16Ideal.main_arg1)),
    fun c => ToBf16RefIdeal.Read.val_main_v2 (F := Ideal) (m ((c.tc : Thread _ _).loc ToBf16Ideal.main_arg2)),
    fun c => ToBf16RefIdeal.Read.val_main_v3 (F := Ideal) (m ((c.tc : Thread _ _).loc ToBf16Ideal.main_arg3)),
    fun c => ToBf16RefIdeal.Read.val_main_v4 (F := Ideal) (m ((c.tc : Thread _ _).loc ToBf16Ideal.main_arg4)),
    fun c => ToBf16RefIdeal.Read.val_main_v5 (F := Ideal) (m ((c.tc : Thread _ _).loc ToBf16Ideal.main_arg5)),
    (θ_run _ _ _).mono (fun _ h c => ⟨(h c).1.trans (ToBf16Ideal.Value.weight0 m c), (h c).2.1.trans (ToBf16Ideal.Value.weight1 m c), (h c).2.2.1.trans (ToBf16Ideal.Value.weight2 m c), (h c).2.2.2.1.trans (ToBf16Ideal.Value.weight3 m c), (h c).2.2.2.2.1.trans (ToBf16Ideal.Value.weight4 m c), (h c).2.2.2.2.2.1.trans (ToBf16Ideal.Value.weight5 m c), (h c).2.2.2.2.2.2⟩) (ToBf16Ideal.Value.run_blocks m g),
    (θ_run _ _ _).mono (fun _ h c => ⟨(h c).1.trans (by obtain ⟨h0, h1, h2, h3, h4, h5⟩ := hargs c; rw [h0]; rfl),
      (h c).2.1.trans (by obtain ⟨h0, h1, h2, h3, h4, h5⟩ := hargs c; rw [h1]; rfl),
      (h c).2.2.1.trans (by obtain ⟨h0, h1, h2, h3, h4, h5⟩ := hargs c; rw [h2]; rfl),
      (h c).2.2.2.1.trans (by obtain ⟨h0, h1, h2, h3, h4, h5⟩ := hargs c; rw [h3]; rfl),
      (h c).2.2.2.2.1.trans (by obtain ⟨h0, h1, h2, h3, h4, h5⟩ := hargs c; rw [h4]; rfl),
      (h c).2.2.2.2.2.1.trans (by obtain ⟨h0, h1, h2, h3, h4, h5⟩ := hargs c; rw [h5]; rfl), (h c).2.2.2.2.2.2⟩)
      (ToBf16RefIdeal.Value.run (F := Ideal) m' g')⟩

/-- The input weight cut into its four pieces. -/
theorem equal_Pieces : algebraic_PiecesIdeal_PiecesRefIdeal := fun m g m' g' _ hargs =>
  ⟨fun c => PiecesRefIdeal.Read.val_main_v6 (F := Ideal) (m ((c.tc : Thread _ _).loc PiecesIdeal.main_arg0)),
    fun c => PiecesRefIdeal.Read.val_main_v7 (F := Ideal) (m ((c.tc : Thread _ _).loc PiecesIdeal.main_arg0)),
    fun c => PiecesRefIdeal.Read.val_main_v8 (F := Ideal) (m ((c.tc : Thread _ _).loc PiecesIdeal.main_arg0)),
    fun c => PiecesRefIdeal.Read.val_main_v5 (F := Ideal) (m ((c.tc : Thread _ _).loc PiecesIdeal.main_arg0)),
    (θ_run _ _ _).mono (fun _ h c => ⟨(h c).1.trans (PiecesIdeal.Value.final1 m c), (h c).2.1.trans (PiecesIdeal.Value.final2 m c), (h c).2.2.1.trans (PiecesIdeal.Value.final3 m c), (h c).2.2.2.1.trans (PiecesIdeal.Value.final4 m c), (h c).2.2.2.2⟩) (PiecesIdeal.Value.run_blocks m g),
    (θ_run _ _ _).mono (fun _ h c => ⟨(h c).1.trans (by obtain h0 := hargs c; rw [h0]; rfl),
      (h c).2.1.trans (by obtain h0 := hargs c; rw [h0]; rfl),
      (h c).2.2.1.trans (by obtain h0 := hargs c; rw [h0]; rfl),
      (h c).2.2.2.1.trans (by obtain h0 := hargs c; rw [h0]; rfl), (h c).2.2.2.2⟩)
      (PiecesRefIdeal.Value.run (F := Ideal) m' g')⟩

/-- The gradient of the input weight cut into the shards of the eight devices. -/
theorem equal_Shards : algebraic_ShardsIdeal_ShardsRefIdeal := fun m g m' g' _ hargs =>
  ⟨fun c => ShardsRefIdeal.Read.val_main_v4 (F := Ideal) (m ((c.tc : Thread _ _).loc ShardsIdeal.main_arg0)) (m ((c.tc : Thread _ _).loc ShardsIdeal.main_arg1)) (m ((c.tc : Thread _ _).loc ShardsIdeal.main_arg2)) (m ((c.tc : Thread _ _).loc ShardsIdeal.main_arg3)) (m ((c.tc : Thread _ _).loc ShardsIdeal.main_arg4)) (m ((c.tc : Thread _ _).loc ShardsIdeal.main_arg5)) (m ((c.tc : Thread _ _).loc ShardsIdeal.main_arg6)) (m ((c.tc : Thread _ _).loc ShardsIdeal.main_arg7)) (m ((c.tc : Thread _ _).loc ShardsIdeal.main_arg8)) (m ((c.tc : Thread _ _).loc ShardsIdeal.main_arg9)),
    (θ_run _ _ _).mono (fun _ h c => ⟨(h c).1.trans (ShardsIdeal.Value.final m c), (h c).2⟩) (ShardsIdeal.Value.run_blocks m g),
    (θ_run _ _ _).mono (fun _ h c => ⟨(h c).1.trans (by obtain ⟨h0, h1, h2, h3, h4, h5, h6, h7, h8, h9⟩ := hargs c; rw [h0, h1, h2, h3, h4, h5, h6, h7, h8, h9]; rfl), (h c).2⟩)
      (ShardsRefIdeal.Value.run (F := Ideal) m' g')⟩

/-- The AdamW step of one device's part of the input weight. -/
theorem equal_AdamIn : algebraic_AdamInIdeal_AdamInRefIdeal := fun m g m' g' hp hargs =>
  ⟨fun c => AdamInRefIdeal.Read.val_main_v8 (F := Ideal) (m ((c.tc : Thread _ _).loc AdamInIdeal.main_arg0)) (m ((c.tc : Thread _ _).loc AdamInIdeal.main_arg1)) (m ((c.tc : Thread _ _).loc AdamInIdeal.main_arg2)),
    fun c => AdamInRefIdeal.Read.val_main_v32 (F := Ideal) (m ((c.tc : Thread _ _).loc AdamInIdeal.main_arg0)) (m ((c.tc : Thread _ _).loc AdamInIdeal.main_arg1)) (m ((c.tc : Thread _ _).loc AdamInIdeal.main_arg2)) (m ((c.tc : Thread _ _).loc AdamInIdeal.main_arg3)) (m ((c.tc : Thread _ _).loc AdamInIdeal.main_arg4)) (m ((c.tc : Thread _ _).loc AdamInIdeal.main_arg5)),
    fun c => AdamInRefIdeal.Read.val_main_v13 (F := Ideal) (m ((c.tc : Thread _ _).loc AdamInIdeal.main_arg0)) (m ((c.tc : Thread _ _).loc AdamInIdeal.main_arg1)) (m ((c.tc : Thread _ _).loc AdamInIdeal.main_arg2)) (m ((c.tc : Thread _ _).loc AdamInIdeal.main_arg4)),
    fun c => AdamInRefIdeal.Read.val_main_v19 (F := Ideal) (m ((c.tc : Thread _ _).loc AdamInIdeal.main_arg0)) (m ((c.tc : Thread _ _).loc AdamInIdeal.main_arg1)) (m ((c.tc : Thread _ _).loc AdamInIdeal.main_arg2)) (m ((c.tc : Thread _ _).loc AdamInIdeal.main_arg5)),
    (θ_run _ _ _).mono (fun _ h c => h c) (AdamInIdeal.Value.run_blocks m hp g),
    (θ_run _ _ _).mono (fun _ h c => ⟨(h c).1.trans (by obtain ⟨h0, h1, h2, h3, h4, h5⟩ := hargs c; rw [h0, h1, h2]; rfl),
      (h c).2.1.trans (by obtain ⟨h0, h1, h2, h3, h4, h5⟩ := hargs c; rw [h0, h1, h2, h3, h4, h5]; rfl),
      (h c).2.2.1.trans (by obtain ⟨h0, h1, h2, h3, h4, h5⟩ := hargs c; rw [h0, h1, h2, h4]; rfl),
      (h c).2.2.2.1.trans (by obtain ⟨h0, h1, h2, h3, h4, h5⟩ := hargs c; rw [h0, h1, h2, h5]; rfl), (h c).2.2.2.2⟩)
      (AdamInRefIdeal.Value.run (F := Ideal) m' g')⟩

/-- The AdamW step of one device's part of an output weight. -/
theorem equal_AdamProj : algebraic_AdamProjIdeal_AdamProjRefIdeal := fun m g m' g' hp hargs =>
  ⟨fun c => AdamProjRefIdeal.Read.val_main_v8 (F := Ideal) (m ((c.tc : Thread _ _).loc AdamProjIdeal.main_arg0)) (m ((c.tc : Thread _ _).loc AdamProjIdeal.main_arg1)) (m ((c.tc : Thread _ _).loc AdamProjIdeal.main_arg2)),
    fun c => AdamProjRefIdeal.Read.val_main_v32 (F := Ideal) (m ((c.tc : Thread _ _).loc AdamProjIdeal.main_arg0)) (m ((c.tc : Thread _ _).loc AdamProjIdeal.main_arg1)) (m ((c.tc : Thread _ _).loc AdamProjIdeal.main_arg2)) (m ((c.tc : Thread _ _).loc AdamProjIdeal.main_arg3)) (m ((c.tc : Thread _ _).loc AdamProjIdeal.main_arg4)) (m ((c.tc : Thread _ _).loc AdamProjIdeal.main_arg5)),
    fun c => AdamProjRefIdeal.Read.val_main_v13 (F := Ideal) (m ((c.tc : Thread _ _).loc AdamProjIdeal.main_arg0)) (m ((c.tc : Thread _ _).loc AdamProjIdeal.main_arg1)) (m ((c.tc : Thread _ _).loc AdamProjIdeal.main_arg2)) (m ((c.tc : Thread _ _).loc AdamProjIdeal.main_arg4)),
    fun c => AdamProjRefIdeal.Read.val_main_v19 (F := Ideal) (m ((c.tc : Thread _ _).loc AdamProjIdeal.main_arg0)) (m ((c.tc : Thread _ _).loc AdamProjIdeal.main_arg1)) (m ((c.tc : Thread _ _).loc AdamProjIdeal.main_arg2)) (m ((c.tc : Thread _ _).loc AdamProjIdeal.main_arg5)),
    (θ_run _ _ _).mono (fun _ h c => h c) (AdamProjIdeal.Value.run_blocks m hp g),
    (θ_run _ _ _).mono (fun _ h c => ⟨(h c).1.trans (by obtain ⟨h0, h1, h2, h3, h4, h5⟩ := hargs c; rw [h0, h1, h2]; rfl),
      (h c).2.1.trans (by obtain ⟨h0, h1, h2, h3, h4, h5⟩ := hargs c; rw [h0, h1, h2, h3, h4, h5]; rfl),
      (h c).2.2.1.trans (by obtain ⟨h0, h1, h2, h3, h4, h5⟩ := hargs c; rw [h0, h1, h2, h4]; rfl),
      (h c).2.2.2.1.trans (by obtain ⟨h0, h1, h2, h3, h4, h5⟩ := hargs c; rw [h0, h1, h2, h5]; rfl), (h c).2.2.2.2⟩)
      (AdamProjRefIdeal.Value.run (F := Ideal) m' g')⟩

/-- The AdamW step of one device's part of the MLP's up weight. -/
theorem equal_AdamUp : algebraic_AdamUpIdeal_AdamUpRefIdeal := fun m g m' g' hp hargs =>
  ⟨fun c => AdamUpRefIdeal.Read.val_main_v8 (F := Ideal) (m ((c.tc : Thread _ _).loc AdamUpIdeal.main_arg0)) (m ((c.tc : Thread _ _).loc AdamUpIdeal.main_arg1)) (m ((c.tc : Thread _ _).loc AdamUpIdeal.main_arg2)),
    fun c => AdamUpRefIdeal.Read.val_main_v32 (F := Ideal) (m ((c.tc : Thread _ _).loc AdamUpIdeal.main_arg0)) (m ((c.tc : Thread _ _).loc AdamUpIdeal.main_arg1)) (m ((c.tc : Thread _ _).loc AdamUpIdeal.main_arg2)) (m ((c.tc : Thread _ _).loc AdamUpIdeal.main_arg3)) (m ((c.tc : Thread _ _).loc AdamUpIdeal.main_arg4)) (m ((c.tc : Thread _ _).loc AdamUpIdeal.main_arg5)),
    fun c => AdamUpRefIdeal.Read.val_main_v13 (F := Ideal) (m ((c.tc : Thread _ _).loc AdamUpIdeal.main_arg0)) (m ((c.tc : Thread _ _).loc AdamUpIdeal.main_arg1)) (m ((c.tc : Thread _ _).loc AdamUpIdeal.main_arg2)) (m ((c.tc : Thread _ _).loc AdamUpIdeal.main_arg4)),
    fun c => AdamUpRefIdeal.Read.val_main_v19 (F := Ideal) (m ((c.tc : Thread _ _).loc AdamUpIdeal.main_arg0)) (m ((c.tc : Thread _ _).loc AdamUpIdeal.main_arg1)) (m ((c.tc : Thread _ _).loc AdamUpIdeal.main_arg2)) (m ((c.tc : Thread _ _).loc AdamUpIdeal.main_arg5)),
    (θ_run _ _ _).mono (fun _ h c => h c) (AdamUpIdeal.Value.run_blocks m hp g),
    (θ_run _ _ _).mono (fun _ h c => ⟨(h c).1.trans (by obtain ⟨h0, h1, h2, h3, h4, h5⟩ := hargs c; rw [h0, h1, h2]; rfl),
      (h c).2.1.trans (by obtain ⟨h0, h1, h2, h3, h4, h5⟩ := hargs c; rw [h0, h1, h2, h3, h4, h5]; rfl),
      (h c).2.2.1.trans (by obtain ⟨h0, h1, h2, h3, h4, h5⟩ := hargs c; rw [h0, h1, h2, h4]; rfl),
      (h c).2.2.2.1.trans (by obtain ⟨h0, h1, h2, h3, h4, h5⟩ := hargs c; rw [h0, h1, h2, h5]; rfl), (h c).2.2.2.2⟩)
      (AdamUpRefIdeal.Value.run (F := Ideal) m' g')⟩

/-- The AdamW step of one device's part of the MLP's down weight. -/
theorem equal_AdamDown : algebraic_AdamDownIdeal_AdamDownRefIdeal := fun m g m' g' hp hargs =>
  ⟨fun c => AdamDownRefIdeal.Read.val_main_v8 (F := Ideal) (m ((c.tc : Thread _ _).loc AdamDownIdeal.main_arg0)) (m ((c.tc : Thread _ _).loc AdamDownIdeal.main_arg1)) (m ((c.tc : Thread _ _).loc AdamDownIdeal.main_arg2)),
    fun c => AdamDownRefIdeal.Read.val_main_v32 (F := Ideal) (m ((c.tc : Thread _ _).loc AdamDownIdeal.main_arg0)) (m ((c.tc : Thread _ _).loc AdamDownIdeal.main_arg1)) (m ((c.tc : Thread _ _).loc AdamDownIdeal.main_arg2)) (m ((c.tc : Thread _ _).loc AdamDownIdeal.main_arg3)) (m ((c.tc : Thread _ _).loc AdamDownIdeal.main_arg4)) (m ((c.tc : Thread _ _).loc AdamDownIdeal.main_arg5)),
    fun c => AdamDownRefIdeal.Read.val_main_v13 (F := Ideal) (m ((c.tc : Thread _ _).loc AdamDownIdeal.main_arg0)) (m ((c.tc : Thread _ _).loc AdamDownIdeal.main_arg1)) (m ((c.tc : Thread _ _).loc AdamDownIdeal.main_arg2)) (m ((c.tc : Thread _ _).loc AdamDownIdeal.main_arg4)),
    fun c => AdamDownRefIdeal.Read.val_main_v19 (F := Ideal) (m ((c.tc : Thread _ _).loc AdamDownIdeal.main_arg0)) (m ((c.tc : Thread _ _).loc AdamDownIdeal.main_arg1)) (m ((c.tc : Thread _ _).loc AdamDownIdeal.main_arg2)) (m ((c.tc : Thread _ _).loc AdamDownIdeal.main_arg5)),
    (θ_run _ _ _).mono (fun _ h c => h c) (AdamDownIdeal.Value.run_blocks m hp g),
    (θ_run _ _ _).mono (fun _ h c => ⟨(h c).1.trans (by obtain ⟨h0, h1, h2, h3, h4, h5⟩ := hargs c; rw [h0, h1, h2]; rfl),
      (h c).2.1.trans (by obtain ⟨h0, h1, h2, h3, h4, h5⟩ := hargs c; rw [h0, h1, h2, h3, h4, h5]; rfl),
      (h c).2.2.1.trans (by obtain ⟨h0, h1, h2, h3, h4, h5⟩ := hargs c; rw [h0, h1, h2, h4]; rfl),
      (h c).2.2.2.1.trans (by obtain ⟨h0, h1, h2, h3, h4, h5⟩ := hargs c; rw [h0, h1, h2, h5]; rfl), (h c).2.2.2.2⟩)
      (AdamDownRefIdeal.Value.run (F := Ideal) m' g')⟩

/-- The sum of the two halves of the gradient of the input weight, of one core. -/
theorem equal_Halves : algebraic_HalvesIdeal_HalvesRefIdeal := fun m g m' g' hp hargs =>
  ⟨fun c => HalvesRefIdeal.Read.val_main_v8 (F := Ideal) (m ((c.tc : Thread _ _).loc HalvesIdeal.main_arg0)) (m ((c.tc : Thread _ _).loc HalvesIdeal.main_arg1)) (m ((c.tc : Thread _ _).loc HalvesIdeal.main_arg2)),
    (θ_run _ _ _).mono (fun _ h c => h c) (HalvesIdeal.Value.run_blocks m hp g),
    (θ_run _ _ _).mono (fun _ h c => ⟨(h c).1.trans (by obtain ⟨h0, h1, h2⟩ := hargs c; rw [h0, h1, h2]; rfl), (h c).2⟩)
      (HalvesRefIdeal.Value.run (F := Ideal) m' g')⟩

theorem claim : Claim := ⟨Kernel.Gen.facts, KernelIdeal.Gen.facts, ReferenceIdeal.Gen.facts, Dw.Gen.facts, DwIdeal.Gen.facts, DwRefIdeal.Gen.facts, Dx.Gen.facts, DxIdeal.Gen.facts, DxRefIdeal.Gen.facts, Dup.Gen.facts, DupIdeal.Gen.facts, DupRefIdeal.Gen.facts, DwUp.Gen.facts, DwUpIdeal.Gen.facts, DwUpRefIdeal.Gen.facts, DwDown.Gen.facts, DwDownIdeal.Gen.facts, DwDownRefIdeal.Gen.facts, Dhn.Gen.facts, DhnIdeal.Gen.facts, DhnRefIdeal.Gen.facts, Du.Gen.facts, DuIdeal.Gen.facts, DuRefIdeal.Gen.facts, DwOb.Gen.facts, DwObIdeal.Gen.facts, DwObRefIdeal.Gen.facts, DwSmall.Gen.facts, DwSmallIdeal.Gen.facts, DwSmallRefIdeal.Gen.facts, ProjGdn.Gen.facts, ProjGdnIdeal.Gen.facts, ProjGdnRefIdeal.Gen.facts, ProjFox.Gen.facts, ProjFoxIdeal.Gen.facts, ProjFoxRefIdeal.Gen.facts, ProjGate.Gen.facts, ProjGateIdeal.Gen.facts, ProjGateRefIdeal.Gen.facts, ProjSmall.Gen.facts, ProjSmallIdeal.Gen.facts, ProjSmallRefIdeal.Gen.facts, ProjA.Gen.facts, ProjAIdeal.Gen.facts, ProjARefIdeal.Gen.facts, ProjB.Gen.facts, ProjBIdeal.Gen.facts, ProjBRefIdeal.Gen.facts, ProjOut.Gen.facts, ProjOutIdeal.Gen.facts, ProjOutRefIdeal.Gen.facts, MlpUp.Gen.facts, MlpUpIdeal.Gen.facts, MlpUpRefIdeal.Gen.facts, MlpDown.Gen.facts, MlpDownIdeal.Gen.facts, MlpDownRefIdeal.Gen.facts, RmsFwd.Gen.facts, RmsFwdIdeal.Gen.facts, RmsFwdRefIdeal.Gen.facts, RmsBwd.Gen.facts, RmsBwdIdeal.Gen.facts, RmsBwdRefIdeal.Gen.facts, Merge.Gen.facts, MergeIdeal.Gen.facts, MergeRefIdeal.Gen.facts, Dmerge.Gen.facts, DmergeIdeal.Gen.facts, DmergeRefIdeal.Gen.facts, Loss.Gen.facts, LossIdeal.Gen.facts, LossRefIdeal.Gen.facts, Adam.Gen.facts, AdamIdeal.Gen.facts, AdamRefIdeal.Gen.facts, ToBf16.Gen.facts, ToBf16Ideal.Gen.facts, ToBf16RefIdeal.Gen.facts, Pieces.Gen.facts, PiecesIdeal.Gen.facts, PiecesRefIdeal.Gen.facts, Shards.Gen.facts, ShardsIdeal.Gen.facts, ShardsRefIdeal.Gen.facts, AdamIn.Gen.facts, AdamInIdeal.Gen.facts, AdamInRefIdeal.Gen.facts, AdamProj.Gen.facts, AdamProjIdeal.Gen.facts, AdamProjRefIdeal.Gen.facts, AdamUp.Gen.facts, AdamUpIdeal.Gen.facts, AdamUpRefIdeal.Gen.facts, AdamDown.Gen.facts, AdamDownIdeal.Gen.facts, AdamDownRefIdeal.Gen.facts, Halves.Gen.facts, HalvesIdeal.Gen.facts, HalvesRefIdeal.Gen.facts, Pre_slot_in.Gen.facts, Pre_slot_proj.Gen.facts, Pre_slot_up.Gen.facts, Pre_slot_down.Gen.facts, Pre_core_half.Gen.facts,
  fun m g _ => Kernel.Gen.Fox.frame_run m g,
  fun m g _ => KernelIdeal.Gen.Fox.frame_run m g,
  fun m g _ => (θ_run _ _ _).mono (fun _ h => ⟨fun c => (h c).2.2.2.2.2, sem_eq_zero_of_no_sems rfl _⟩)
    (ReferenceIdeal.Value.run (F := Ideal) m g),
  fun m g _ => Dw.Gen.frame m g,
  fun m g _ => DwIdeal.Gen.frame m g,
  fun m g _ => (θ_run _ _ _).mono (fun _ h => ⟨fun c => (h c).2, sem_eq_zero_of_no_sems rfl _⟩)
    (DwRefIdeal.Value.run (F := Ideal) m g),
  fun m g _ => Dx.Gen.frame m g,
  fun m g _ => DxIdeal.Gen.frame m g,
  fun m g _ => (θ_run _ _ _).mono (fun _ h => ⟨fun c => (h c).2, sem_eq_zero_of_no_sems rfl _⟩)
    (DxRefIdeal.Value.run (F := Ideal) m g),
  fun m g _ => Dup.Gen.frame m g,
  fun m g _ => DupIdeal.Gen.frame m g,
  fun m g _ => (θ_run _ _ _).mono (fun _ h => ⟨fun c => (h c).2, sem_eq_zero_of_no_sems rfl _⟩)
    (DupRefIdeal.Value.run (F := Ideal) m g),
  fun m g _ => DwUp.Gen.frame m g,
  fun m g _ => DwUpIdeal.Gen.frame m g,
  fun m g _ => (θ_run _ _ _).mono (fun _ h => ⟨fun c => (h c).2, sem_eq_zero_of_no_sems rfl _⟩)
    (DwUpRefIdeal.Value.run (F := Ideal) m g),
  fun m g _ => DwDown.Gen.frame m g,
  fun m g _ => DwDownIdeal.Gen.frame m g,
  fun m g _ => (θ_run _ _ _).mono (fun _ h => ⟨fun c => (h c).2, sem_eq_zero_of_no_sems rfl _⟩)
    (DwDownRefIdeal.Value.run (F := Ideal) m g),
  fun m g _ => Dhn.Gen.frame m g,
  fun m g _ => DhnIdeal.Gen.frame m g,
  fun m g _ => (θ_run _ _ _).mono (fun _ h => ⟨fun c => (h c).2, sem_eq_zero_of_no_sems rfl _⟩)
    (DhnRefIdeal.Value.run (F := Ideal) m g),
  fun m g h => Du.Gen.Seg.frame_run m g h,
  fun m g _ => DuIdeal.Gen.Seg.frame_run m g,
  fun m g _ => (θ_run _ _ _).mono (fun _ h => ⟨fun c => (h c).2, sem_eq_zero_of_no_sems rfl _⟩)
    (DuRefIdeal.Value.run (F := Ideal) m g),
  fun m g _ => DwOb.Gen.frame m g,
  fun m g _ => DwObIdeal.Gen.frame m g,
  fun m g _ => (θ_run _ _ _).mono (fun _ h => ⟨fun c => (h c).2, sem_eq_zero_of_no_sems rfl _⟩)
    (DwObRefIdeal.Value.run (F := Ideal) m g),
  fun m g _ => DwSmall.Gen.frame m g,
  fun m g _ => DwSmallIdeal.Gen.frame m g,
  fun m g _ => (θ_run _ _ _).mono (fun _ h => ⟨fun c => (h c).2, sem_eq_zero_of_no_sems rfl _⟩)
    (DwSmallRefIdeal.Value.run (F := Ideal) m g),
  fun m g _ => ProjGdn.Gen.frame m g,
  fun m g _ => ProjGdnIdeal.Gen.frame m g,
  fun m g _ => (θ_run _ _ _).mono (fun _ h => ⟨fun c => (h c).2, sem_eq_zero_of_no_sems rfl _⟩)
    (ProjGdnRefIdeal.Value.run (F := Ideal) m g),
  fun m g _ => ProjFox.Gen.frame m g,
  fun m g _ => ProjFoxIdeal.Gen.frame m g,
  fun m g _ => (θ_run _ _ _).mono (fun _ h => ⟨fun c => (h c).2, sem_eq_zero_of_no_sems rfl _⟩)
    (ProjFoxRefIdeal.Value.run (F := Ideal) m g),
  fun m g _ => ProjGate.Gen.frame m g,
  fun m g _ => ProjGateIdeal.Gen.frame m g,
  fun m g _ => (θ_run _ _ _).mono (fun _ h => ⟨fun c => (h c).2, sem_eq_zero_of_no_sems rfl _⟩)
    (ProjGateRefIdeal.Value.run (F := Ideal) m g),
  fun m g _ => ProjSmall.Gen.frame m g,
  fun m g _ => ProjSmallIdeal.Gen.frame m g,
  fun m g _ => (θ_run _ _ _).mono (fun _ h => ⟨fun c => (h c).2, sem_eq_zero_of_no_sems rfl _⟩)
    (ProjSmallRefIdeal.Value.run (F := Ideal) m g),
  fun m g _ => ProjA.Gen.frame m g,
  fun m g _ => ProjAIdeal.Gen.frame m g,
  fun m g _ => (θ_run _ _ _).mono (fun _ h => ⟨fun c => (h c).2, sem_eq_zero_of_no_sems rfl _⟩)
    (ProjARefIdeal.Value.run (F := Ideal) m g),
  fun m g _ => ProjB.Gen.frame m g,
  fun m g _ => ProjBIdeal.Gen.frame m g,
  fun m g _ => (θ_run _ _ _).mono (fun _ h => ⟨fun c => (h c).2, sem_eq_zero_of_no_sems rfl _⟩)
    (ProjBRefIdeal.Value.run (F := Ideal) m g),
  fun m g _ => ProjOut.Gen.frame m g,
  fun m g _ => ProjOutIdeal.Gen.frame m g,
  fun m g _ => (θ_run _ _ _).mono (fun _ h => ⟨fun c => (h c).2, sem_eq_zero_of_no_sems rfl _⟩)
    (ProjOutRefIdeal.Value.run (F := Ideal) m g),
  fun m g _ => MlpUp.Gen.frame m g,
  fun m g _ => MlpUpIdeal.Gen.frame m g,
  fun m g _ => (θ_run _ _ _).mono (fun _ h => ⟨fun c => (h c).2.2, sem_eq_zero_of_no_sems rfl _⟩)
    (MlpUpRefIdeal.Value.run (F := Ideal) m g),
  fun m g _ => MlpDown.Gen.frame m g,
  fun m g _ => MlpDownIdeal.Gen.frame m g,
  fun m g _ => (θ_run _ _ _).mono (fun _ h => ⟨fun c => (h c).2, sem_eq_zero_of_no_sems rfl _⟩)
    (MlpDownRefIdeal.Value.run (F := Ideal) m g),
  fun m g _ => RmsFwd.Gen.frame m g,
  fun m g _ => RmsFwdIdeal.Gen.frame m g,
  fun m g _ => (θ_run _ _ _).mono (fun _ h => ⟨fun c => (h c).2, sem_eq_zero_of_no_sems rfl _⟩)
    (RmsFwdRefIdeal.Value.run (F := Ideal) m g),
  fun m g _ => RmsBwd.Gen.frame m g,
  fun m g _ => RmsBwdIdeal.Gen.frame m g,
  fun m g _ => (θ_run _ _ _).mono (fun _ h => ⟨fun c => (h c).2.2.2, sem_eq_zero_of_no_sems rfl _⟩)
    (RmsBwdRefIdeal.Value.run (F := Ideal) m g),
  fun m g _ => Merge.Gen.frame m g,
  fun m g _ => MergeIdeal.Gen.frame m g,
  fun m g _ => (θ_run _ _ _).mono (fun _ h => ⟨fun c => (h c).2, sem_eq_zero_of_no_sems rfl _⟩)
    (MergeRefIdeal.Value.run (F := Ideal) m g),
  fun m g _ => Dmerge.Gen.frame m g,
  fun m g _ => DmergeIdeal.Gen.frame m g,
  fun m g _ => (θ_run _ _ _).mono (fun _ h => ⟨fun c => (h c).2.2.2.2, sem_eq_zero_of_no_sems rfl _⟩)
    (DmergeRefIdeal.Value.run (F := Ideal) m g),
  fun m g _ => Loss.Gen.frame m g,
  fun m g _ => LossIdeal.Gen.frame m g,
  fun m g _ => (θ_run _ _ _).mono (fun _ h => ⟨fun c => (h c).2.2.2, sem_eq_zero_of_no_sems rfl _⟩)
    (LossRefIdeal.Value.run (F := Ideal) m g),
  fun m g _ => Adam.Gen.frame m g,
  fun m g _ => AdamIdeal.Gen.frame m g,
  fun m g _ => (θ_run _ _ _).mono (fun _ h => ⟨fun c => (h c).2.2.2, sem_eq_zero_of_no_sems rfl _⟩)
    (AdamRefIdeal.Value.run (F := Ideal) m g),
  fun m g _ => ToBf16.Gen.frame m g,
  fun m g _ => ToBf16Ideal.Gen.frame m g,
  fun m g _ => (θ_run _ _ _).mono (fun _ h => ⟨fun c => (h c).2.2.2.2.2.2, sem_eq_zero_of_no_sems rfl _⟩)
    (ToBf16RefIdeal.Value.run (F := Ideal) m g),
  fun m g _ => Pieces.Gen.frame m g,
  fun m g _ => PiecesIdeal.Gen.frame m g,
  fun m g _ => (θ_run _ _ _).mono (fun _ h => ⟨fun c => (h c).2.2.2.2, sem_eq_zero_of_no_sems rfl _⟩)
    (PiecesRefIdeal.Value.run (F := Ideal) m g),
  fun m g _ => Shards.Gen.frame m g,
  fun m g _ => ShardsIdeal.Gen.frame m g,
  fun m g _ => (θ_run _ _ _).mono (fun _ h => ⟨fun c => (h c).2, sem_eq_zero_of_no_sems rfl _⟩)
    (ShardsRefIdeal.Value.run (F := Ideal) m g),
  fun m g h => AdamIn.Gen.frame m g (AdamIn.Value.ok_of_pre m h),
  fun m g h => AdamInIdeal.Gen.frame m g (AdamInIdeal.Value.ok_of_pre m h),
  fun m g _ => (θ_run _ _ _).mono (fun _ h => ⟨fun c => (h c).2.2.2.2, sem_eq_zero_of_no_sems rfl _⟩)
    (AdamInRefIdeal.Value.run (F := Ideal) m g),
  fun m g _ => (θ_run _ _ _).mono (fun _ h => ⟨fun c => (h c).2.2.2.2, sem_eq_zero_of_no_sems rfl _⟩)
    (AdamInRefIdeal.Value.run (F := Ideal) m g),
  fun m g h => AdamProj.Gen.frame m g (AdamProj.Value.ok_of_pre m h),
  fun m g h => AdamProjIdeal.Gen.frame m g (AdamProjIdeal.Value.ok_of_pre m h),
  fun m g _ => (θ_run _ _ _).mono (fun _ h => ⟨fun c => (h c).2.2.2.2, sem_eq_zero_of_no_sems rfl _⟩)
    (AdamProjRefIdeal.Value.run (F := Ideal) m g),
  fun m g _ => (θ_run _ _ _).mono (fun _ h => ⟨fun c => (h c).2.2.2.2, sem_eq_zero_of_no_sems rfl _⟩)
    (AdamProjRefIdeal.Value.run (F := Ideal) m g),
  fun m g h => AdamUp.Gen.frame m g (AdamUp.Value.ok_of_pre m h),
  fun m g h => AdamUpIdeal.Gen.frame m g (AdamUpIdeal.Value.ok_of_pre m h),
  fun m g _ => (θ_run _ _ _).mono (fun _ h => ⟨fun c => (h c).2.2.2.2, sem_eq_zero_of_no_sems rfl _⟩)
    (AdamUpRefIdeal.Value.run (F := Ideal) m g),
  fun m g _ => (θ_run _ _ _).mono (fun _ h => ⟨fun c => (h c).2.2.2.2, sem_eq_zero_of_no_sems rfl _⟩)
    (AdamUpRefIdeal.Value.run (F := Ideal) m g),
  fun m g h => AdamDown.Gen.frame m g (AdamDown.Value.ok_of_pre m h),
  fun m g h => AdamDownIdeal.Gen.frame m g (AdamDownIdeal.Value.ok_of_pre m h),
  fun m g _ => (θ_run _ _ _).mono (fun _ h => ⟨fun c => (h c).2.2.2.2, sem_eq_zero_of_no_sems rfl _⟩)
    (AdamDownRefIdeal.Value.run (F := Ideal) m g),
  fun m g _ => (θ_run _ _ _).mono (fun _ h => ⟨fun c => (h c).2.2.2.2, sem_eq_zero_of_no_sems rfl _⟩)
    (AdamDownRefIdeal.Value.run (F := Ideal) m g),
  fun m g h => Halves.Gen.frame m g (Halves.Value.ok_of_pre m h),
  fun m g h => HalvesIdeal.Gen.frame m g (HalvesIdeal.Value.ok_of_pre m h),
  fun m g _ => (θ_run _ _ _).mono (fun _ h => ⟨fun c => (h c).2, sem_eq_zero_of_no_sems rfl _⟩)
    (HalvesRefIdeal.Value.run (F := Ideal) m g),
  fun m g _ => (θ_run _ _ _).mono (fun _ h => ⟨fun c => (h c).2, sem_eq_zero_of_no_sems rfl _⟩)
    (HalvesRefIdeal.Value.run (F := Ideal) m g),
  IdealRules.named_const.statement KernelIdeal.κ "mask" .f32 0xF149F2CA#32 ⊥ rfl,
  trivial,
  equal_Dw,
  trivial,
  equal_Dx,
  trivial,
  equal_Dup,
  trivial,
  equal_DwUp,
  trivial,
  equal_DwDown,
  trivial,
  equal_Dhn,
  trivial,
  equal_Du,
  trivial,
  equal_DwOb,
  trivial,
  equal_DwSmall,
  trivial,
  equal_ProjGdn,
  trivial,
  equal_ProjFox,
  trivial,
  equal_ProjGate,
  trivial,
  equal_ProjSmall,
  trivial,
  equal_ProjA,
  trivial,
  equal_ProjB,
  trivial,
  equal_ProjOut,
  trivial,
  equal_MlpUp,
  trivial,
  equal_MlpDown,
  trivial,
  equal_RmsFwd,
  trivial,
  equal_RmsBwd,
  trivial,
  equal_Merge,
  trivial,
  equal_Dmerge,
  trivial,
  equal_Loss,
  trivial,
  equal_Adam,
  trivial,
  equal_ToBf16,
  trivial,
  equal_Pieces,
  trivial,
  equal_Shards,
  trivial,
  equal_AdamIn,
  trivial,
  equal_AdamProj,
  trivial,
  equal_AdamUp,
  trivial,
  equal_AdamDown,
  trivial,
  equal_Halves⟩

end Cert.Proof

end
